-- ==== Defs.lean ====
def Pre_NormsK (m : (ℓ : Loc Cert.NormsK.nD Cert.NormsK.τ Cert.NormsK.sig) → Buf (Elt Bits) ℓ) : Prop :=
  True

def Pre_NormsKIdeal (m : (ℓ : Loc Cert.NormsKIdeal.nD Cert.NormsKIdeal.τ Cert.NormsKIdeal.sig) → Buf (Elt Ideal) ℓ) : Prop :=
  True

def Pre_NormsRIdeal (m : (ℓ : Loc Cert.NormsRIdeal.nD Cert.NormsRIdeal.τ Cert.NormsRIdeal.sig) → Buf (Elt Ideal) ℓ) : Prop :=
  True

def Pre_DPreK (m : (ℓ : Loc Cert.DPreK.nD Cert.DPreK.τ Cert.DPreK.sig) → Buf (Elt Bits) ℓ) : Prop :=
  True

def Pre_DPreKIdeal (m : (ℓ : Loc Cert.DPreKIdeal.nD Cert.DPreKIdeal.τ Cert.DPreKIdeal.sig) → Buf (Elt Ideal) ℓ) : Prop :=
  True

def Pre_DPreRIdeal (m : (ℓ : Loc Cert.DPreRIdeal.nD Cert.DPreRIdeal.τ Cert.DPreRIdeal.sig) → Buf (Elt Ideal) ℓ) : Prop :=
  True

def Pre_DwDownK (m : (ℓ : Loc Cert.DwDownK.nD Cert.DwDownK.τ Cert.DwDownK.sig) → Buf (Elt Bits) ℓ) : Prop :=
  True

def Pre_DwDownKIdeal (m : (ℓ : Loc Cert.DwDownKIdeal.nD Cert.DwDownKIdeal.τ Cert.DwDownKIdeal.sig) → Buf (Elt Ideal) ℓ) : Prop :=
  True

def Pre_DwDownRIdeal (m : (ℓ : Loc Cert.DwDownRIdeal.nD Cert.DwDownRIdeal.τ Cert.DwDownRIdeal.sig) → Buf (Elt Ideal) ℓ) : Prop :=
  True

def Pre_DwUpK (m : (ℓ : Loc Cert.DwUpK.nD Cert.DwUpK.τ Cert.DwUpK.sig) → Buf (Elt Bits) ℓ) : Prop :=
  True

def Pre_DwUpKIdeal (m : (ℓ : Loc Cert.DwUpKIdeal.nD Cert.DwUpKIdeal.τ Cert.DwUpKIdeal.sig) → Buf (Elt Ideal) ℓ) : Prop :=
  True

def Pre_DwUpRIdeal (m : (ℓ : Loc Cert.DwUpRIdeal.nD Cert.DwUpRIdeal.τ Cert.DwUpRIdeal.sig) → Buf (Elt Ideal) ℓ) : Prop :=
  True

def Pre_OutUpK (m : (ℓ : Loc Cert.OutUpK.nD Cert.OutUpK.τ Cert.OutUpK.sig) → Buf (Elt Bits) ℓ) : Prop :=
  True

def Pre_OutUpKIdeal (m : (ℓ : Loc Cert.OutUpKIdeal.nD Cert.OutUpKIdeal.τ Cert.OutUpKIdeal.sig) → Buf (Elt Ideal) ℓ) : Prop :=
  True

def Pre_OutUpRIdeal (m : (ℓ : Loc Cert.OutUpRIdeal.nD Cert.OutUpRIdeal.τ Cert.OutUpRIdeal.sig) → Buf (Elt Ideal) ℓ) : Prop :=
  True

def Pre_DuK (m : (ℓ : Loc Cert.DuK.nD Cert.DuK.τ Cert.DuK.sig) → Buf (Elt Bits) ℓ) : Prop :=
  True

def Pre_DuKIdeal (m : (ℓ : Loc Cert.DuKIdeal.nD Cert.DuKIdeal.τ Cert.DuKIdeal.sig) → Buf (Elt Ideal) ℓ) : Prop :=
  True

def Pre_DuRIdeal (m : (ℓ : Loc Cert.DuRIdeal.nD Cert.DuRIdeal.τ Cert.DuRIdeal.sig) → Buf (Elt Ideal) ℓ) : Prop :=
  True

def Pre_DwInK (m : (ℓ : Loc Cert.DwInK.nD Cert.DwInK.τ Cert.DwInK.sig) → Buf (Elt Bits) ℓ) : Prop :=
  True

def Pre_DwInKIdeal (m : (ℓ : Loc Cert.DwInKIdeal.nD Cert.DwInKIdeal.τ Cert.DwInKIdeal.sig) → Buf (Elt Ideal) ℓ) : Prop :=
  True

def Pre_DwInRIdeal (m : (ℓ : Loc Cert.DwInRIdeal.nD Cert.DwInRIdeal.τ Cert.DwInRIdeal.sig) → Buf (Elt Ideal) ℓ) : Prop :=
  True

def Pre_DwOutK (m : (ℓ : Loc Cert.DwOutK.nD Cert.DwOutK.τ Cert.DwOutK.sig) → Buf (Elt Bits) ℓ) : Prop :=
  True

def Pre_DwOutKIdeal (m : (ℓ : Loc Cert.DwOutKIdeal.nD Cert.DwOutKIdeal.τ Cert.DwOutKIdeal.sig) → Buf (Elt Ideal) ℓ) : Prop :=
  True

def Pre_DwOutRIdeal (m : (ℓ : Loc Cert.DwOutRIdeal.nD Cert.DwOutRIdeal.τ Cert.DwOutRIdeal.sig) → Buf (Elt Ideal) ℓ) : Prop :=
  True

def Pre_DwZK (m : (ℓ : Loc Cert.DwZK.nD Cert.DwZK.τ Cert.DwZK.sig) → Buf (Elt Bits) ℓ) : Prop :=
  True

def Pre_DwZKIdeal (m : (ℓ : Loc Cert.DwZKIdeal.nD Cert.DwZKIdeal.τ Cert.DwZKIdeal.sig) → Buf (Elt Ideal) ℓ) : Prop :=
  True

def Pre_DwZRIdeal (m : (ℓ : Loc Cert.DwZRIdeal.nD Cert.DwZRIdeal.τ Cert.DwZRIdeal.sig) → Buf (Elt Ideal) ℓ) : Prop :=
  True

def Pre_DwXlK (m : (ℓ : Loc Cert.DwXlK.nD Cert.DwXlK.τ Cert.DwXlK.sig) → Buf (Elt Bits) ℓ) : Prop :=
  True

def Pre_DwXlKIdeal (m : (ℓ : Loc Cert.DwXlKIdeal.nD Cert.DwXlKIdeal.τ Cert.DwXlKIdeal.sig) → Buf (Elt Ideal) ℓ) : Prop :=
  True

def Pre_DwXlRIdeal (m : (ℓ : Loc Cert.DwXlRIdeal.nD Cert.DwXlRIdeal.τ Cert.DwXlRIdeal.sig) → Buf (Elt Ideal) ℓ) : Prop :=
  True

def Pre_DwXbcK (m : (ℓ : Loc Cert.DwXbcK.nD Cert.DwXbcK.τ Cert.DwXbcK.sig) → Buf (Elt Bits) ℓ) : Prop :=
  True

def Pre_DwXbcKIdeal (m : (ℓ : Loc Cert.DwXbcKIdeal.nD Cert.DwXbcKIdeal.τ Cert.DwXbcKIdeal.sig) → Buf (Elt Ideal) ℓ) : Prop :=
  True

def Pre_DwXbcRIdeal (m : (ℓ : Loc Cert.DwXbcRIdeal.nD Cert.DwXbcRIdeal.τ Cert.DwXbcRIdeal.sig) → Buf (Elt Ideal) ℓ) : Prop :=
  True

def Pre_DwDtK (m : (ℓ : Loc Cert.DwDtK.nD Cert.DwDtK.τ Cert.DwDtK.sig) → Buf (Elt Bits) ℓ) : Prop :=
  True

def Pre_DwDtKIdeal (m : (ℓ : Loc Cert.DwDtKIdeal.nD Cert.DwDtKIdeal.τ Cert.DwDtKIdeal.sig) → Buf (Elt Ideal) ℓ) : Prop :=
  True

def Pre_DwDtRIdeal (m : (ℓ : Loc Cert.DwDtRIdeal.nD Cert.DwDtRIdeal.τ Cert.DwDtRIdeal.sig) → Buf (Elt Ideal) ℓ) : Prop :=
  True

def Pre_PXbcK (m : (ℓ : Loc Cert.PXbcK.nD Cert.PXbcK.τ Cert.PXbcK.sig) → Buf (Elt Bits) ℓ) : Prop :=
  True

def Pre_PXbcKIdeal (m : (ℓ : Loc Cert.PXbcKIdeal.nD Cert.PXbcKIdeal.τ Cert.PXbcKIdeal.sig) → Buf (Elt Ideal) ℓ) : Prop :=
  True

def Pre_PXbcRIdeal (m : (ℓ : Loc Cert.PXbcRIdeal.nD Cert.PXbcRIdeal.τ Cert.PXbcRIdeal.sig) → Buf (Elt Ideal) ℓ) : Prop :=
  True

def Pre_PDtK (m : (ℓ : Loc Cert.PDtK.nD Cert.PDtK.τ Cert.PDtK.sig) → Buf (Elt Bits) ℓ) : Prop :=
  True

def Pre_PDtKIdeal (m : (ℓ : Loc Cert.PDtKIdeal.nD Cert.PDtKIdeal.τ Cert.PDtKIdeal.sig) → Buf (Elt Ideal) ℓ) : Prop :=
  True

def Pre_PDtRIdeal (m : (ℓ : Loc Cert.PDtRIdeal.nD Cert.PDtRIdeal.τ Cert.PDtRIdeal.sig) → Buf (Elt Ideal) ℓ) : Prop :=
  True

def Pre_PFiveK (m : (ℓ : Loc Cert.PFiveK.nD Cert.PFiveK.τ Cert.PFiveK.sig) → Buf (Elt Bits) ℓ) : Prop :=
  True

def Pre_PFiveKIdeal (m : (ℓ : Loc Cert.PFiveKIdeal.nD Cert.PFiveKIdeal.τ Cert.PFiveKIdeal.sig) → Buf (Elt Ideal) ℓ) : Prop :=
  True

def Pre_PFiveRIdeal (m : (ℓ : Loc Cert.PFiveRIdeal.nD Cert.PFiveRIdeal.τ Cert.PFiveRIdeal.sig) → Buf (Elt Ideal) ℓ) : Prop :=
  True

def Pre_NormUK (m : (ℓ : Loc Cert.NormUK.nD Cert.NormUK.τ Cert.NormUK.sig) → Buf (Elt Bits) ℓ) : Prop :=
  True

def Pre_NormUKIdeal (m : (ℓ : Loc Cert.NormUKIdeal.nD Cert.NormUKIdeal.τ Cert.NormUKIdeal.sig) → Buf (Elt Ideal) ℓ) : Prop :=
  True

def Pre_NormURIdeal (m : (ℓ : Loc Cert.NormURIdeal.nD Cert.NormURIdeal.τ Cert.NormURIdeal.sig) → Buf (Elt Ideal) ℓ) : Prop :=
  True

def Pre_AdSK (m : (ℓ : Loc Cert.AdSK.nD Cert.AdSK.τ Cert.AdSK.sig) → Buf (Elt Bits) ℓ) : Prop :=
  True

def Pre_AdSKIdeal (m : (ℓ : Loc Cert.AdSKIdeal.nD Cert.AdSKIdeal.τ Cert.AdSKIdeal.sig) → Buf (Elt Ideal) ℓ) : Prop :=
  True

def Pre_AdSRIdeal (m : (ℓ : Loc Cert.AdSRIdeal.nD Cert.AdSRIdeal.τ Cert.AdSRIdeal.sig) → Buf (Elt Ideal) ℓ) : Prop :=
  True

def Pre_AdCsK (m : (ℓ : Loc Cert.AdCsK.nD Cert.AdCsK.τ Cert.AdCsK.sig) → Buf (Elt Bits) ℓ) : Prop :=
  True

def Pre_AdCsKIdeal (m : (ℓ : Loc Cert.AdCsKIdeal.nD Cert.AdCsKIdeal.τ Cert.AdCsKIdeal.sig) → Buf (Elt Ideal) ℓ) : Prop :=
  True

def Pre_AdCsRIdeal (m : (ℓ : Loc Cert.AdCsRIdeal.nD Cert.AdCsRIdeal.τ Cert.AdCsRIdeal.sig) → Buf (Elt Ideal) ℓ) : Prop :=
  True

def Pre_AdClK (m : (ℓ : Loc Cert.AdClK.nD Cert.AdClK.τ Cert.AdClK.sig) → Buf (Elt Bits) ℓ) : Prop :=
  True

def Pre_AdClKIdeal (m : (ℓ : Loc Cert.AdClKIdeal.nD Cert.AdClKIdeal.τ Cert.AdClKIdeal.sig) → Buf (Elt Ideal) ℓ) : Prop :=
  True

def Pre_AdClRIdeal (m : (ℓ : Loc Cert.AdClRIdeal.nD Cert.AdClRIdeal.τ Cert.AdClRIdeal.sig) → Buf (Elt Ideal) ℓ) : Prop :=
  True

def Pre_LossK (m : (ℓ : Loc Cert.LossK.nD Cert.LossK.τ Cert.LossK.sig) → Buf (Elt Bits) ℓ) : Prop :=
  True

def Pre_LossKIdeal (m : (ℓ : Loc Cert.LossKIdeal.nD Cert.LossKIdeal.τ Cert.LossKIdeal.sig) → Buf (Elt Ideal) ℓ) : Prop :=
  True

def Pre_LossRIdeal (m : (ℓ : Loc Cert.LossRIdeal.nD Cert.LossRIdeal.τ Cert.LossRIdeal.sig) → Buf (Elt Ideal) ℓ) : Prop :=
  True

def Pre_DwLruK (m : (ℓ : Loc Cert.DwLruK.nD Cert.DwLruK.τ Cert.DwLruK.sig) → Buf (Elt Bits) ℓ) : Prop :=
  True

def Pre_DwLruKIdeal (m : (ℓ : Loc Cert.DwLruKIdeal.nD Cert.DwLruKIdeal.τ Cert.DwLruKIdeal.sig) → Buf (Elt Ideal) ℓ) : Prop :=
  True

def Pre_DwLruRIdeal (m : (ℓ : Loc Cert.DwLruRIdeal.nD Cert.DwLruRIdeal.τ Cert.DwLruRIdeal.sig) → Buf (Elt Ideal) ℓ) : Prop :=
  True

def Pre_ConvK (m : (ℓ : Loc Cert.ConvK.nD Cert.ConvK.τ Cert.ConvK.sig) → Buf (Elt Bits) ℓ) : Prop :=
  True

def Pre_ConvKIdeal (m : (ℓ : Loc Cert.ConvKIdeal.nD Cert.ConvKIdeal.τ Cert.ConvKIdeal.sig) → Buf (Elt Ideal) ℓ) : Prop :=
  True

def Pre_ConvRIdeal (m : (ℓ : Loc Cert.ConvRIdeal.nD Cert.ConvRIdeal.τ Cert.ConvRIdeal.sig) → Buf (Elt Ideal) ℓ) : Prop :=
  True

def quiescent_NormsK [hNormsK : Cert.NormsK.Facts] : Prop :=
  ∀ (m : (ℓ : Loc Cert.NormsK.nD Cert.NormsK.τ Cert.NormsK.sig) → Buf (Elt Bits) ℓ) (g : Dev Cert.NormsK.nD → PrngReg), Pre_NormsK m →
    θ_run (Cert.NormsK.defs (F := Bits)) (onTc (τ := Cert.NormsK.τ) (Cert.NormsK.main (F := Bits))) ⟨m, fun _ => 0, g⟩ (fun r => (∀ c : Dev Cert.NormsK.nD,
      r.2.mem ((c.tc : Thread Cert.NormsK.nD Cert.NormsK.τ).loc Cert.NormsK.main_arg0) = m ((c.tc : Thread Cert.NormsK.nD Cert.NormsK.τ).loc Cert.NormsK.main_arg0)
      ∧ r.2.mem ((c.tc : Thread Cert.NormsK.nD Cert.NormsK.τ).loc Cert.NormsK.main_arg1) = m ((c.tc : Thread Cert.NormsK.nD Cert.NormsK.τ).loc Cert.NormsK.main_arg1)
      ∧ r.2.mem ((c.tc : Thread Cert.NormsK.nD Cert.NormsK.τ).loc Cert.NormsK.main_arg2) = m ((c.tc : Thread Cert.NormsK.nD Cert.NormsK.τ).loc Cert.NormsK.main_arg2)
      ∧ r.2.mem ((c.tc : Thread Cert.NormsK.nD Cert.NormsK.τ).loc Cert.NormsK.main_arg3) = m ((c.tc : Thread Cert.NormsK.nD Cert.NormsK.τ).loc Cert.NormsK.main_arg3)
      ∧ r.2.mem ((c.tc : Thread Cert.NormsK.nD Cert.NormsK.τ).loc Cert.NormsK.main_arg4) = m ((c.tc : Thread Cert.NormsK.nD Cert.NormsK.τ).loc Cert.NormsK.main_arg4)
      ∧ r.2.mem ((c.tc : Thread Cert.NormsK.nD Cert.NormsK.τ).loc Cert.NormsK.main_arg5) = m ((c.tc : Thread Cert.NormsK.nD Cert.NormsK.τ).loc Cert.NormsK.main_arg5)
      ∧ r.2.mem ((c.tc : Thread Cert.NormsK.nD Cert.NormsK.τ).loc Cert.NormsK.main_arg6) = m ((c.tc : Thread Cert.NormsK.nD Cert.NormsK.τ).loc Cert.NormsK.main_arg6)
      ∧ r.2.mem ((c.tc : Thread Cert.NormsK.nD Cert.NormsK.τ).loc Cert.NormsK.main_arg7) = m ((c.tc : Thread Cert.NormsK.nD Cert.NormsK.τ).loc Cert.NormsK.main_arg7))
      ∧ r.2.sem = fun _ => 0)

def quiescent_NormsKIdeal [hNormsKIdeal : Cert.NormsKIdeal.Facts] : Prop :=
  ∀ (m : (ℓ : Loc Cert.NormsKIdeal.nD Cert.NormsKIdeal.τ Cert.NormsKIdeal.sig) → Buf (Elt Ideal) ℓ) (g : Dev Cert.NormsKIdeal.nD → PrngReg), Pre_NormsKIdeal m →
    θ_run (Cert.NormsKIdeal.defs (F := Ideal)) (onTc (τ := Cert.NormsKIdeal.τ) (Cert.NormsKIdeal.main (F := Ideal))) ⟨m, fun _ => 0, g⟩ (fun r => (∀ c : Dev Cert.NormsKIdeal.nD,
      r.2.mem ((c.tc : Thread Cert.NormsKIdeal.nD Cert.NormsKIdeal.τ).loc Cert.NormsKIdeal.main_arg0) = m ((c.tc : Thread Cert.NormsKIdeal.nD Cert.NormsKIdeal.τ).loc Cert.NormsKIdeal.main_arg0)
      ∧ r.2.mem ((c.tc : Thread Cert.NormsKIdeal.nD Cert.NormsKIdeal.τ).loc Cert.NormsKIdeal.main_arg1) = m ((c.tc : Thread Cert.NormsKIdeal.nD Cert.NormsKIdeal.τ).loc Cert.NormsKIdeal.main_arg1)
      ∧ r.2.mem ((c.tc : Thread Cert.NormsKIdeal.nD Cert.NormsKIdeal.τ).loc Cert.NormsKIdeal.main_arg2) = m ((c.tc : Thread Cert.NormsKIdeal.nD Cert.NormsKIdeal.τ).loc Cert.NormsKIdeal.main_arg2)
      ∧ r.2.mem ((c.tc : Thread Cert.NormsKIdeal.nD Cert.NormsKIdeal.τ).loc Cert.NormsKIdeal.main_arg3) = m ((c.tc : Thread Cert.NormsKIdeal.nD Cert.NormsKIdeal.τ).loc Cert.NormsKIdeal.main_arg3)
      ∧ r.2.mem ((c.tc : Thread Cert.NormsKIdeal.nD Cert.NormsKIdeal.τ).loc Cert.NormsKIdeal.main_arg4) = m ((c.tc : Thread Cert.NormsKIdeal.nD Cert.NormsKIdeal.τ).loc Cert.NormsKIdeal.main_arg4)
      ∧ r.2.mem ((c.tc : Thread Cert.NormsKIdeal.nD Cert.NormsKIdeal.τ).loc Cert.NormsKIdeal.main_arg5) = m ((c.tc : Thread Cert.NormsKIdeal.nD Cert.NormsKIdeal.τ).loc Cert.NormsKIdeal.main_arg5)
      ∧ r.2.mem ((c.tc : Thread Cert.NormsKIdeal.nD Cert.NormsKIdeal.τ).loc Cert.NormsKIdeal.main_arg6) = m ((c.tc : Thread Cert.NormsKIdeal.nD Cert.NormsKIdeal.τ).loc Cert.NormsKIdeal.main_arg6)
      ∧ r.2.mem ((c.tc : Thread Cert.NormsKIdeal.nD Cert.NormsKIdeal.τ).loc Cert.NormsKIdeal.main_arg7) = m ((c.tc : Thread Cert.NormsKIdeal.nD Cert.NormsKIdeal.τ).loc Cert.NormsKIdeal.main_arg7))
      ∧ r.2.sem = fun _ => 0)

def quiescent_NormsRIdeal [hNormsRIdeal : Cert.NormsRIdeal.Facts] : Prop :=
  ∀ (m : (ℓ : Loc Cert.NormsRIdeal.nD Cert.NormsRIdeal.τ Cert.NormsRIdeal.sig) → Buf (Elt Ideal) ℓ) (g : Dev Cert.NormsRIdeal.nD → PrngReg), Pre_NormsRIdeal m →
    θ_run (Cert.NormsRIdeal.defs (F := Ideal)) (onTc (τ := Cert.NormsRIdeal.τ) (Cert.NormsRIdeal.main (F := Ideal))) ⟨m, fun _ => 0, g⟩ (fun r => (∀ c : Dev Cert.NormsRIdeal.nD,
      r.2.mem ((c.tc : Thread Cert.NormsRIdeal.nD Cert.NormsRIdeal.τ).loc Cert.NormsRIdeal.main_arg0) = m ((c.tc : Thread Cert.NormsRIdeal.nD Cert.NormsRIdeal.τ).loc Cert.NormsRIdeal.main_arg0)
      ∧ r.2.mem ((c.tc : Thread Cert.NormsRIdeal.nD Cert.NormsRIdeal.τ).loc Cert.NormsRIdeal.main_arg1) = m ((c.tc : Thread Cert.NormsRIdeal.nD Cert.NormsRIdeal.τ).loc Cert.NormsRIdeal.main_arg1)
      ∧ r.2.mem ((c.tc : Thread Cert.NormsRIdeal.nD Cert.NormsRIdeal.τ).loc Cert.NormsRIdeal.main_arg2) = m ((c.tc : Thread Cert.NormsRIdeal.nD Cert.NormsRIdeal.τ).loc Cert.NormsRIdeal.main_arg2)
      ∧ r.2.mem ((c.tc : Thread Cert.NormsRIdeal.nD Cert.NormsRIdeal.τ).loc Cert.NormsRIdeal.main_arg3) = m ((c.tc : Thread Cert.NormsRIdeal.nD Cert.NormsRIdeal.τ).loc Cert.NormsRIdeal.main_arg3)
      ∧ r.2.mem ((c.tc : Thread Cert.NormsRIdeal.nD Cert.NormsRIdeal.τ).loc Cert.NormsRIdeal.main_arg4) = m ((c.tc : Thread Cert.NormsRIdeal.nD Cert.NormsRIdeal.τ).loc Cert.NormsRIdeal.main_arg4)
      ∧ r.2.mem ((c.tc : Thread Cert.NormsRIdeal.nD Cert.NormsRIdeal.τ).loc Cert.NormsRIdeal.main_arg5) = m ((c.tc : Thread Cert.NormsRIdeal.nD Cert.NormsRIdeal.τ).loc Cert.NormsRIdeal.main_arg5)
      ∧ r.2.mem ((c.tc : Thread Cert.NormsRIdeal.nD Cert.NormsRIdeal.τ).loc Cert.NormsRIdeal.main_arg6) = m ((c.tc : Thread Cert.NormsRIdeal.nD Cert.NormsRIdeal.τ).loc Cert.NormsRIdeal.main_arg6)
      ∧ r.2.mem ((c.tc : Thread Cert.NormsRIdeal.nD Cert.NormsRIdeal.τ).loc Cert.NormsRIdeal.main_arg7) = m ((c.tc : Thread Cert.NormsRIdeal.nD Cert.NormsRIdeal.τ).loc Cert.NormsRIdeal.main_arg7))
      ∧ r.2.sem = fun _ => 0)

def quiescent_DPreK [hDPreK : Cert.DPreK.Facts] : Prop :=
  ∀ (m : (ℓ : Loc Cert.DPreK.nD Cert.DPreK.τ Cert.DPreK.sig) → Buf (Elt Bits) ℓ) (g : Dev Cert.DPreK.nD → PrngReg), Pre_DPreK m →
    θ_run (Cert.DPreK.defs (F := Bits)) (onTc (τ := Cert.DPreK.τ) (Cert.DPreK.main (F := Bits))) ⟨m, fun _ => 0, g⟩ (fun r => (∀ c : Dev Cert.DPreK.nD,
      r.2.mem ((c.tc : Thread Cert.DPreK.nD Cert.DPreK.τ).loc Cert.DPreK.main_arg0) = m ((c.tc : Thread Cert.DPreK.nD Cert.DPreK.τ).loc Cert.DPreK.main_arg0)
      ∧ r.2.mem ((c.tc : Thread Cert.DPreK.nD Cert.DPreK.τ).loc Cert.DPreK.main_arg1) = m ((c.tc : Thread Cert.DPreK.nD Cert.DPreK.τ).loc Cert.DPreK.main_arg1)
      ∧ r.2.mem ((c.tc : Thread Cert.DPreK.nD Cert.DPreK.τ).loc Cert.DPreK.main_arg2) = m ((c.tc : Thread Cert.DPreK.nD Cert.DPreK.τ).loc Cert.DPreK.main_arg2))
      ∧ r.2.sem = fun _ => 0)

def quiescent_DPreKIdeal [hDPreKIdeal : Cert.DPreKIdeal.Facts] : Prop :=
  ∀ (m : (ℓ : Loc Cert.DPreKIdeal.nD Cert.DPreKIdeal.τ Cert.DPreKIdeal.sig) → Buf (Elt Ideal) ℓ) (g : Dev Cert.DPreKIdeal.nD → PrngReg), Pre_DPreKIdeal m →
    θ_run (Cert.DPreKIdeal.defs (F := Ideal)) (onTc (τ := Cert.DPreKIdeal.τ) (Cert.DPreKIdeal.main (F := Ideal))) ⟨m, fun _ => 0, g⟩ (fun r => (∀ c : Dev Cert.DPreKIdeal.nD,
      r.2.mem ((c.tc : Thread Cert.DPreKIdeal.nD Cert.DPreKIdeal.τ).loc Cert.DPreKIdeal.main_arg0) = m ((c.tc : Thread Cert.DPreKIdeal.nD Cert.DPreKIdeal.τ).loc Cert.DPreKIdeal.main_arg0)
      ∧ r.2.mem ((c.tc : Thread Cert.DPreKIdeal.nD Cert.DPreKIdeal.τ).loc Cert.DPreKIdeal.main_arg1) = m ((c.tc : Thread Cert.DPreKIdeal.nD Cert.DPreKIdeal.τ).loc Cert.DPreKIdeal.main_arg1)
      ∧ r.2.mem ((c.tc : Thread Cert.DPreKIdeal.nD Cert.DPreKIdeal.τ).loc Cert.DPreKIdeal.main_arg2) = m ((c.tc : Thread Cert.DPreKIdeal.nD Cert.DPreKIdeal.τ).loc Cert.DPreKIdeal.main_arg2))
      ∧ r.2.sem = fun _ => 0)

def quiescent_DPreRIdeal [hDPreRIdeal : Cert.DPreRIdeal.Facts] : Prop :=
  ∀ (m : (ℓ : Loc Cert.DPreRIdeal.nD Cert.DPreRIdeal.τ Cert.DPreRIdeal.sig) → Buf (Elt Ideal) ℓ) (g : Dev Cert.DPreRIdeal.nD → PrngReg), Pre_DPreRIdeal m →
    θ_run (Cert.DPreRIdeal.defs (F := Ideal)) (onTc (τ := Cert.DPreRIdeal.τ) (Cert.DPreRIdeal.main (F := Ideal))) ⟨m, fun _ => 0, g⟩ (fun r => (∀ c : Dev Cert.DPreRIdeal.nD,
      r.2.mem ((c.tc : Thread Cert.DPreRIdeal.nD Cert.DPreRIdeal.τ).loc Cert.DPreRIdeal.main_arg0) = m ((c.tc : Thread Cert.DPreRIdeal.nD Cert.DPreRIdeal.τ).loc Cert.DPreRIdeal.main_arg0)
      ∧ r.2.mem ((c.tc : Thread Cert.DPreRIdeal.nD Cert.DPreRIdeal.τ).loc Cert.DPreRIdeal.main_arg1) = m ((c.tc : Thread Cert.DPreRIdeal.nD Cert.DPreRIdeal.τ).loc Cert.DPreRIdeal.main_arg1)
      ∧ r.2.mem ((c.tc : Thread Cert.DPreRIdeal.nD Cert.DPreRIdeal.τ).loc Cert.DPreRIdeal.main_arg2) = m ((c.tc : Thread Cert.DPreRIdeal.nD Cert.DPreRIdeal.τ).loc Cert.DPreRIdeal.main_arg2))
      ∧ r.2.sem = fun _ => 0)

def quiescent_DwDownK [hDwDownK : Cert.DwDownK.Facts] : Prop :=
  ∀ (m : (ℓ : Loc Cert.DwDownK.nD Cert.DwDownK.τ Cert.DwDownK.sig) → Buf (Elt Bits) ℓ) (g : Dev Cert.DwDownK.nD → PrngReg), Pre_DwDownK m →
    θ_run (Cert.DwDownK.defs (F := Bits)) (onTc (τ := Cert.DwDownK.τ) (Cert.DwDownK.main (F := Bits))) ⟨m, fun _ => 0, g⟩ (fun r => (∀ c : Dev Cert.DwDownK.nD,
      r.2.mem ((c.tc : Thread Cert.DwDownK.nD Cert.DwDownK.τ).loc Cert.DwDownK.main_arg0) = m ((c.tc : Thread Cert.DwDownK.nD Cert.DwDownK.τ).loc Cert.DwDownK.main_arg0)
      ∧ r.2.mem ((c.tc : Thread Cert.DwDownK.nD Cert.DwDownK.τ).loc Cert.DwDownK.main_arg1) = m ((c.tc : Thread Cert.DwDownK.nD Cert.DwDownK.τ).loc Cert.DwDownK.main_arg1))
      ∧ r.2.sem = fun _ => 0)

def quiescent_DwDownKIdeal [hDwDownKIdeal : Cert.DwDownKIdeal.Facts] : Prop :=
  ∀ (m : (ℓ : Loc Cert.DwDownKIdeal.nD Cert.DwDownKIdeal.τ Cert.DwDownKIdeal.sig) → Buf (Elt Ideal) ℓ) (g : Dev Cert.DwDownKIdeal.nD → PrngReg), Pre_DwDownKIdeal m →
    θ_run (Cert.DwDownKIdeal.defs (F := Ideal)) (onTc (τ := Cert.DwDownKIdeal.τ) (Cert.DwDownKIdeal.main (F := Ideal))) ⟨m, fun _ => 0, g⟩ (fun r => (∀ c : Dev Cert.DwDownKIdeal.nD,
      r.2.mem ((c.tc : Thread Cert.DwDownKIdeal.nD Cert.DwDownKIdeal.τ).loc Cert.DwDownKIdeal.main_arg0) = m ((c.tc : Thread Cert.DwDownKIdeal.nD Cert.DwDownKIdeal.τ).loc Cert.DwDownKIdeal.main_arg0)
      ∧ r.2.mem ((c.tc : Thread Cert.DwDownKIdeal.nD Cert.DwDownKIdeal.τ).loc Cert.DwDownKIdeal.main_arg1) = m ((c.tc : Thread Cert.DwDownKIdeal.nD Cert.DwDownKIdeal.τ).loc Cert.DwDownKIdeal.main_arg1))
      ∧ r.2.sem = fun _ => 0)

def quiescent_DwDownRIdeal [hDwDownRIdeal : Cert.DwDownRIdeal.Facts] : Prop :=
  ∀ (m : (ℓ : Loc Cert.DwDownRIdeal.nD Cert.DwDownRIdeal.τ Cert.DwDownRIdeal.sig) → Buf (Elt Ideal) ℓ) (g : Dev Cert.DwDownRIdeal.nD → PrngReg), Pre_DwDownRIdeal m →
    θ_run (Cert.DwDownRIdeal.defs (F := Ideal)) (onTc (τ := Cert.DwDownRIdeal.τ) (Cert.DwDownRIdeal.main (F := Ideal))) ⟨m, fun _ => 0, g⟩ (fun r => (∀ c : Dev Cert.DwDownRIdeal.nD,
      r.2.mem ((c.tc : Thread Cert.DwDownRIdeal.nD Cert.DwDownRIdeal.τ).loc Cert.DwDownRIdeal.main_arg0) = m ((c.tc : Thread Cert.DwDownRIdeal.nD Cert.DwDownRIdeal.τ).loc Cert.DwDownRIdeal.main_arg0)
      ∧ r.2.mem ((c.tc : Thread Cert.DwDownRIdeal.nD Cert.DwDownRIdeal.τ).loc Cert.DwDownRIdeal.main_arg1) = m ((c.tc : Thread Cert.DwDownRIdeal.nD Cert.DwDownRIdeal.τ).loc Cert.DwDownRIdeal.main_arg1))
      ∧ r.2.sem = fun _ => 0)

def quiescent_DwUpK [hDwUpK : Cert.DwUpK.Facts] : Prop :=
  ∀ (m : (ℓ : Loc Cert.DwUpK.nD Cert.DwUpK.τ Cert.DwUpK.sig) → Buf (Elt Bits) ℓ) (g : Dev Cert.DwUpK.nD → PrngReg), Pre_DwUpK m →
    θ_run (Cert.DwUpK.defs (F := Bits)) (onTc (τ := Cert.DwUpK.τ) (Cert.DwUpK.main (F := Bits))) ⟨m, fun _ => 0, g⟩ (fun r => (∀ c : Dev Cert.DwUpK.nD,
      r.2.mem ((c.tc : Thread Cert.DwUpK.nD Cert.DwUpK.τ).loc Cert.DwUpK.main_arg0) = m ((c.tc : Thread Cert.DwUpK.nD Cert.DwUpK.τ).loc Cert.DwUpK.main_arg0)
      ∧ r.2.mem ((c.tc : Thread Cert.DwUpK.nD Cert.DwUpK.τ).loc Cert.DwUpK.main_arg1) = m ((c.tc : Thread Cert.DwUpK.nD Cert.DwUpK.τ).loc Cert.DwUpK.main_arg1))
      ∧ r.2.sem = fun _ => 0)

def quiescent_DwUpKIdeal [hDwUpKIdeal : Cert.DwUpKIdeal.Facts] : Prop :=
  ∀ (m : (ℓ : Loc Cert.DwUpKIdeal.nD Cert.DwUpKIdeal.τ Cert.DwUpKIdeal.sig) → Buf (Elt Ideal) ℓ) (g : Dev Cert.DwUpKIdeal.nD → PrngReg), Pre_DwUpKIdeal m →
    θ_run (Cert.DwUpKIdeal.defs (F := Ideal)) (onTc (τ := Cert.DwUpKIdeal.τ) (Cert.DwUpKIdeal.main (F := Ideal))) ⟨m, fun _ => 0, g⟩ (fun r => (∀ c : Dev Cert.DwUpKIdeal.nD,
      r.2.mem ((c.tc : Thread Cert.DwUpKIdeal.nD Cert.DwUpKIdeal.τ).loc Cert.DwUpKIdeal.main_arg0) = m ((c.tc : Thread Cert.DwUpKIdeal.nD Cert.DwUpKIdeal.τ).loc Cert.DwUpKIdeal.main_arg0)
      ∧ r.2.mem ((c.tc : Thread Cert.DwUpKIdeal.nD Cert.DwUpKIdeal.τ).loc Cert.DwUpKIdeal.main_arg1) = m ((c.tc : Thread Cert.DwUpKIdeal.nD Cert.DwUpKIdeal.τ).loc Cert.DwUpKIdeal.main_arg1))
      ∧ r.2.sem = fun _ => 0)

def quiescent_DwUpRIdeal [hDwUpRIdeal : Cert.DwUpRIdeal.Facts] : Prop :=
  ∀ (m : (ℓ : Loc Cert.DwUpRIdeal.nD Cert.DwUpRIdeal.τ Cert.DwUpRIdeal.sig) → Buf (Elt Ideal) ℓ) (g : Dev Cert.DwUpRIdeal.nD → PrngReg), Pre_DwUpRIdeal m →
    θ_run (Cert.DwUpRIdeal.defs (F := Ideal)) (onTc (τ := Cert.DwUpRIdeal.τ) (Cert.DwUpRIdeal.main (F := Ideal))) ⟨m, fun _ => 0, g⟩ (fun r => (∀ c : Dev Cert.DwUpRIdeal.nD,
      r.2.mem ((c.tc : Thread Cert.DwUpRIdeal.nD Cert.DwUpRIdeal.τ).loc Cert.DwUpRIdeal.main_arg0) = m ((c.tc : Thread Cert.DwUpRIdeal.nD Cert.DwUpRIdeal.τ).loc Cert.DwUpRIdeal.main_arg0)
      ∧ r.2.mem ((c.tc : Thread Cert.DwUpRIdeal.nD Cert.DwUpRIdeal.τ).loc Cert.DwUpRIdeal.main_arg1) = m ((c.tc : Thread Cert.DwUpRIdeal.nD Cert.DwUpRIdeal.τ).loc Cert.DwUpRIdeal.main_arg1))
      ∧ r.2.sem = fun _ => 0)

def quiescent_OutUpK [hOutUpK : Cert.OutUpK.Facts] : Prop :=
  ∀ (m : (ℓ : Loc Cert.OutUpK.nD Cert.OutUpK.τ Cert.OutUpK.sig) → Buf (Elt Bits) ℓ) (g : Dev Cert.OutUpK.nD → PrngReg), Pre_OutUpK m →
    θ_run (Cert.OutUpK.defs (F := Bits)) (onTc (τ := Cert.OutUpK.τ) (Cert.OutUpK.main (F := Bits))) ⟨m, fun _ => 0, g⟩ (fun r => (∀ c : Dev Cert.OutUpK.nD,
      r.2.mem ((c.tc : Thread Cert.OutUpK.nD Cert.OutUpK.τ).loc Cert.OutUpK.main_arg0) = m ((c.tc : Thread Cert.OutUpK.nD Cert.OutUpK.τ).loc Cert.OutUpK.main_arg0)
      ∧ r.2.mem ((c.tc : Thread Cert.OutUpK.nD Cert.OutUpK.τ).loc Cert.OutUpK.main_arg1) = m ((c.tc : Thread Cert.OutUpK.nD Cert.OutUpK.τ).loc Cert.OutUpK.main_arg1)
      ∧ r.2.mem ((c.tc : Thread Cert.OutUpK.nD Cert.OutUpK.τ).loc Cert.OutUpK.main_arg2) = m ((c.tc : Thread Cert.OutUpK.nD Cert.OutUpK.τ).loc Cert.OutUpK.main_arg2)
      ∧ r.2.mem ((c.tc : Thread Cert.OutUpK.nD Cert.OutUpK.τ).loc Cert.OutUpK.main_arg3) = m ((c.tc : Thread Cert.OutUpK.nD Cert.OutUpK.τ).loc Cert.OutUpK.main_arg3)
      ∧ r.2.mem ((c.tc : Thread Cert.OutUpK.nD Cert.OutUpK.τ).loc Cert.OutUpK.main_arg4) = m ((c.tc : Thread Cert.OutUpK.nD Cert.OutUpK.τ).loc Cert.OutUpK.main_arg4)
      ∧ r.2.mem ((c.tc : Thread Cert.OutUpK.nD Cert.OutUpK.τ).loc Cert.OutUpK.main_arg5) = m ((c.tc : Thread Cert.OutUpK.nD Cert.OutUpK.τ).loc Cert.OutUpK.main_arg5))
      ∧ r.2.sem = fun _ => 0)

def quiescent_OutUpKIdeal [hOutUpKIdeal : Cert.OutUpKIdeal.Facts] : Prop :=
  ∀ (m : (ℓ : Loc Cert.OutUpKIdeal.nD Cert.OutUpKIdeal.τ Cert.OutUpKIdeal.sig) → Buf (Elt Ideal) ℓ) (g : Dev Cert.OutUpKIdeal.nD → PrngReg), Pre_OutUpKIdeal m →
    θ_run (Cert.OutUpKIdeal.defs (F := Ideal)) (onTc (τ := Cert.OutUpKIdeal.τ) (Cert.OutUpKIdeal.main (F := Ideal))) ⟨m, fun _ => 0, g⟩ (fun r => (∀ c : Dev Cert.OutUpKIdeal.nD,
      r.2.mem ((c.tc : Thread Cert.OutUpKIdeal.nD Cert.OutUpKIdeal.τ).loc Cert.OutUpKIdeal.main_arg0) = m ((c.tc : Thread Cert.OutUpKIdeal.nD Cert.OutUpKIdeal.τ).loc Cert.OutUpKIdeal.main_arg0)
      ∧ r.2.mem ((c.tc : Thread Cert.OutUpKIdeal.nD Cert.OutUpKIdeal.τ).loc Cert.OutUpKIdeal.main_arg1) = m ((c.tc : Thread Cert.OutUpKIdeal.nD Cert.OutUpKIdeal.τ).loc Cert.OutUpKIdeal.main_arg1)
      ∧ r.2.mem ((c.tc : Thread Cert.OutUpKIdeal.nD Cert.OutUpKIdeal.τ).loc Cert.OutUpKIdeal.main_arg2) = m ((c.tc : Thread Cert.OutUpKIdeal.nD Cert.OutUpKIdeal.τ).loc Cert.OutUpKIdeal.main_arg2)
      ∧ r.2.mem ((c.tc : Thread Cert.OutUpKIdeal.nD Cert.OutUpKIdeal.τ).loc Cert.OutUpKIdeal.main_arg3) = m ((c.tc : Thread Cert.OutUpKIdeal.nD Cert.OutUpKIdeal.τ).loc Cert.OutUpKIdeal.main_arg3)
      ∧ r.2.mem ((c.tc : Thread Cert.OutUpKIdeal.nD Cert.OutUpKIdeal.τ).loc Cert.OutUpKIdeal.main_arg4) = m ((c.tc : Thread Cert.OutUpKIdeal.nD Cert.OutUpKIdeal.τ).loc Cert.OutUpKIdeal.main_arg4)
      ∧ r.2.mem ((c.tc : Thread Cert.OutUpKIdeal.nD Cert.OutUpKIdeal.τ).loc Cert.OutUpKIdeal.main_arg5) = m ((c.tc : Thread Cert.OutUpKIdeal.nD Cert.OutUpKIdeal.τ).loc Cert.OutUpKIdeal.main_arg5))
      ∧ r.2.sem = fun _ => 0)

def quiescent_OutUpRIdeal [hOutUpRIdeal : Cert.OutUpRIdeal.Facts] : Prop :=
  ∀ (m : (ℓ : Loc Cert.OutUpRIdeal.nD Cert.OutUpRIdeal.τ Cert.OutUpRIdeal.sig) → Buf (Elt Ideal) ℓ) (g : Dev Cert.OutUpRIdeal.nD → PrngReg), Pre_OutUpRIdeal m →
    θ_run (Cert.OutUpRIdeal.defs (F := Ideal)) (onTc (τ := Cert.OutUpRIdeal.τ) (Cert.OutUpRIdeal.main (F := Ideal))) ⟨m, fun _ => 0, g⟩ (fun r => (∀ c : Dev Cert.OutUpRIdeal.nD,
      r.2.mem ((c.tc : Thread Cert.OutUpRIdeal.nD Cert.OutUpRIdeal.τ).loc Cert.OutUpRIdeal.main_arg0) = m ((c.tc : Thread Cert.OutUpRIdeal.nD Cert.OutUpRIdeal.τ).loc Cert.OutUpRIdeal.main_arg0)
      ∧ r.2.mem ((c.tc : Thread Cert.OutUpRIdeal.nD Cert.OutUpRIdeal.τ).loc Cert.OutUpRIdeal.main_arg1) = m ((c.tc : Thread Cert.OutUpRIdeal.nD Cert.OutUpRIdeal.τ).loc Cert.OutUpRIdeal.main_arg1)
      ∧ r.2.mem ((c.tc : Thread Cert.OutUpRIdeal.nD Cert.OutUpRIdeal.τ).loc Cert.OutUpRIdeal.main_arg2) = m ((c.tc : Thread Cert.OutUpRIdeal.nD Cert.OutUpRIdeal.τ).loc Cert.OutUpRIdeal.main_arg2)
      ∧ r.2.mem ((c.tc : Thread Cert.OutUpRIdeal.nD Cert.OutUpRIdeal.τ).loc Cert.OutUpRIdeal.main_arg3) = m ((c.tc : Thread Cert.OutUpRIdeal.nD Cert.OutUpRIdeal.τ).loc Cert.OutUpRIdeal.main_arg3)
      ∧ r.2.mem ((c.tc : Thread Cert.OutUpRIdeal.nD Cert.OutUpRIdeal.τ).loc Cert.OutUpRIdeal.main_arg4) = m ((c.tc : Thread Cert.OutUpRIdeal.nD Cert.OutUpRIdeal.τ).loc Cert.OutUpRIdeal.main_arg4)
      ∧ r.2.mem ((c.tc : Thread Cert.OutUpRIdeal.nD Cert.OutUpRIdeal.τ).loc Cert.OutUpRIdeal.main_arg5) = m ((c.tc : Thread Cert.OutUpRIdeal.nD Cert.OutUpRIdeal.τ).loc Cert.OutUpRIdeal.main_arg5))
      ∧ r.2.sem = fun _ => 0)

def quiescent_DuK [hDuK : Cert.DuK.Facts] : Prop :=
  ∀ (m : (ℓ : Loc Cert.DuK.nD Cert.DuK.τ Cert.DuK.sig) → Buf (Elt Bits) ℓ) (g : Dev Cert.DuK.nD → PrngReg), Pre_DuK m →
    θ_run (Cert.DuK.defs (F := Bits)) (onTc (τ := Cert.DuK.τ) (Cert.DuK.main (F := Bits))) ⟨m, fun _ => 0, g⟩ (fun r => (∀ c : Dev Cert.DuK.nD,
      r.2.mem ((c.tc : Thread Cert.DuK.nD Cert.DuK.τ).loc Cert.DuK.main_arg0) = m ((c.tc : Thread Cert.DuK.nD Cert.DuK.τ).loc Cert.DuK.main_arg0)
      ∧ r.2.mem ((c.tc : Thread Cert.DuK.nD Cert.DuK.τ).loc Cert.DuK.main_arg1) = m ((c.tc : Thread Cert.DuK.nD Cert.DuK.τ).loc Cert.DuK.main_arg1)
      ∧ r.2.mem ((c.tc : Thread Cert.DuK.nD Cert.DuK.τ).loc Cert.DuK.main_arg2) = m ((c.tc : Thread Cert.DuK.nD Cert.DuK.τ).loc Cert.DuK.main_arg2)
      ∧ r.2.mem ((c.tc : Thread Cert.DuK.nD Cert.DuK.τ).loc Cert.DuK.main_arg3) = m ((c.tc : Thread Cert.DuK.nD Cert.DuK.τ).loc Cert.DuK.main_arg3)
      ∧ r.2.mem ((c.tc : Thread Cert.DuK.nD Cert.DuK.τ).loc Cert.DuK.main_arg4) = m ((c.tc : Thread Cert.DuK.nD Cert.DuK.τ).loc Cert.DuK.main_arg4)
      ∧ r.2.mem ((c.tc : Thread Cert.DuK.nD Cert.DuK.τ).loc Cert.DuK.main_arg5) = m ((c.tc : Thread Cert.DuK.nD Cert.DuK.τ).loc Cert.DuK.main_arg5)
      ∧ r.2.mem ((c.tc : Thread Cert.DuK.nD Cert.DuK.τ).loc Cert.DuK.main_arg6) = m ((c.tc : Thread Cert.DuK.nD Cert.DuK.τ).loc Cert.DuK.main_arg6)
      ∧ r.2.mem ((c.tc : Thread Cert.DuK.nD Cert.DuK.τ).loc Cert.DuK.main_arg7) = m ((c.tc : Thread Cert.DuK.nD Cert.DuK.τ).loc Cert.DuK.main_arg7)
      ∧ r.2.mem ((c.tc : Thread Cert.DuK.nD Cert.DuK.τ).loc Cert.DuK.main_arg8) = m ((c.tc : Thread Cert.DuK.nD Cert.DuK.τ).loc Cert.DuK.main_arg8))
      ∧ r.2.sem = fun _ => 0)

def quiescent_DuKIdeal [hDuKIdeal : Cert.DuKIdeal.Facts] : Prop :=
  ∀ (m : (ℓ : Loc Cert.DuKIdeal.nD Cert.DuKIdeal.τ Cert.DuKIdeal.sig) → Buf (Elt Ideal) ℓ) (g : Dev Cert.DuKIdeal.nD → PrngReg), Pre_DuKIdeal m →
    θ_run (Cert.DuKIdeal.defs (F := Ideal)) (onTc (τ := Cert.DuKIdeal.τ) (Cert.DuKIdeal.main (F := Ideal))) ⟨m, fun _ => 0, g⟩ (fun r => (∀ c : Dev Cert.DuKIdeal.nD,
      r.2.mem ((c.tc : Thread Cert.DuKIdeal.nD Cert.DuKIdeal.τ).loc Cert.DuKIdeal.main_arg0) = m ((c.tc : Thread Cert.DuKIdeal.nD Cert.DuKIdeal.τ).loc Cert.DuKIdeal.main_arg0)
      ∧ r.2.mem ((c.tc : Thread Cert.DuKIdeal.nD Cert.DuKIdeal.τ).loc Cert.DuKIdeal.main_arg1) = m ((c.tc : Thread Cert.DuKIdeal.nD Cert.DuKIdeal.τ).loc Cert.DuKIdeal.main_arg1)
      ∧ r.2.mem ((c.tc : Thread Cert.DuKIdeal.nD Cert.DuKIdeal.τ).loc Cert.DuKIdeal.main_arg2) = m ((c.tc : Thread Cert.DuKIdeal.nD Cert.DuKIdeal.τ).loc Cert.DuKIdeal.main_arg2)
      ∧ r.2.mem ((c.tc : Thread Cert.DuKIdeal.nD Cert.DuKIdeal.τ).loc Cert.DuKIdeal.main_arg3) = m ((c.tc : Thread Cert.DuKIdeal.nD Cert.DuKIdeal.τ).loc Cert.DuKIdeal.main_arg3)
      ∧ r.2.mem ((c.tc : Thread Cert.DuKIdeal.nD Cert.DuKIdeal.τ).loc Cert.DuKIdeal.main_arg4) = m ((c.tc : Thread Cert.DuKIdeal.nD Cert.DuKIdeal.τ).loc Cert.DuKIdeal.main_arg4)
      ∧ r.2.mem ((c.tc : Thread Cert.DuKIdeal.nD Cert.DuKIdeal.τ).loc Cert.DuKIdeal.main_arg5) = m ((c.tc : Thread Cert.DuKIdeal.nD Cert.DuKIdeal.τ).loc Cert.DuKIdeal.main_arg5)
      ∧ r.2.mem ((c.tc : Thread Cert.DuKIdeal.nD Cert.DuKIdeal.τ).loc Cert.DuKIdeal.main_arg6) = m ((c.tc : Thread Cert.DuKIdeal.nD Cert.DuKIdeal.τ).loc Cert.DuKIdeal.main_arg6)
      ∧ r.2.mem ((c.tc : Thread Cert.DuKIdeal.nD Cert.DuKIdeal.τ).loc Cert.DuKIdeal.main_arg7) = m ((c.tc : Thread Cert.DuKIdeal.nD Cert.DuKIdeal.τ).loc Cert.DuKIdeal.main_arg7)
      ∧ r.2.mem ((c.tc : Thread Cert.DuKIdeal.nD Cert.DuKIdeal.τ).loc Cert.DuKIdeal.main_arg8) = m ((c.tc : Thread Cert.DuKIdeal.nD Cert.DuKIdeal.τ).loc Cert.DuKIdeal.main_arg8))
      ∧ r.2.sem = fun _ => 0)

def quiescent_DuRIdeal [hDuRIdeal : Cert.DuRIdeal.Facts] : Prop :=
  ∀ (m : (ℓ : Loc Cert.DuRIdeal.nD Cert.DuRIdeal.τ Cert.DuRIdeal.sig) → Buf (Elt Ideal) ℓ) (g : Dev Cert.DuRIdeal.nD → PrngReg), Pre_DuRIdeal m →
    θ_run (Cert.DuRIdeal.defs (F := Ideal)) (onTc (τ := Cert.DuRIdeal.τ) (Cert.DuRIdeal.main (F := Ideal))) ⟨m, fun _ => 0, g⟩ (fun r => (∀ c : Dev Cert.DuRIdeal.nD,
      r.2.mem ((c.tc : Thread Cert.DuRIdeal.nD Cert.DuRIdeal.τ).loc Cert.DuRIdeal.main_arg0) = m ((c.tc : Thread Cert.DuRIdeal.nD Cert.DuRIdeal.τ).loc Cert.DuRIdeal.main_arg0)
      ∧ r.2.mem ((c.tc : Thread Cert.DuRIdeal.nD Cert.DuRIdeal.τ).loc Cert.DuRIdeal.main_arg1) = m ((c.tc : Thread Cert.DuRIdeal.nD Cert.DuRIdeal.τ).loc Cert.DuRIdeal.main_arg1)
      ∧ r.2.mem ((c.tc : Thread Cert.DuRIdeal.nD Cert.DuRIdeal.τ).loc Cert.DuRIdeal.main_arg2) = m ((c.tc : Thread Cert.DuRIdeal.nD Cert.DuRIdeal.τ).loc Cert.DuRIdeal.main_arg2)
      ∧ r.2.mem ((c.tc : Thread Cert.DuRIdeal.nD Cert.DuRIdeal.τ).loc Cert.DuRIdeal.main_arg3) = m ((c.tc : Thread Cert.DuRIdeal.nD Cert.DuRIdeal.τ).loc Cert.DuRIdeal.main_arg3)
      ∧ r.2.mem ((c.tc : Thread Cert.DuRIdeal.nD Cert.DuRIdeal.τ).loc Cert.DuRIdeal.main_arg4) = m ((c.tc : Thread Cert.DuRIdeal.nD Cert.DuRIdeal.τ).loc Cert.DuRIdeal.main_arg4)
      ∧ r.2.mem ((c.tc : Thread Cert.DuRIdeal.nD Cert.DuRIdeal.τ).loc Cert.DuRIdeal.main_arg5) = m ((c.tc : Thread Cert.DuRIdeal.nD Cert.DuRIdeal.τ).loc Cert.DuRIdeal.main_arg5)
      ∧ r.2.mem ((c.tc : Thread Cert.DuRIdeal.nD Cert.DuRIdeal.τ).loc Cert.DuRIdeal.main_arg6) = m ((c.tc : Thread Cert.DuRIdeal.nD Cert.DuRIdeal.τ).loc Cert.DuRIdeal.main_arg6)
      ∧ r.2.mem ((c.tc : Thread Cert.DuRIdeal.nD Cert.DuRIdeal.τ).loc Cert.DuRIdeal.main_arg7) = m ((c.tc : Thread Cert.DuRIdeal.nD Cert.DuRIdeal.τ).loc Cert.DuRIdeal.main_arg7)
      ∧ r.2.mem ((c.tc : Thread Cert.DuRIdeal.nD Cert.DuRIdeal.τ).loc Cert.DuRIdeal.main_arg8) = m ((c.tc : Thread Cert.DuRIdeal.nD Cert.DuRIdeal.τ).loc Cert.DuRIdeal.main_arg8))
      ∧ r.2.sem = fun _ => 0)

def quiescent_DwInK [hDwInK : Cert.DwInK.Facts] : Prop :=
  ∀ (m : (ℓ : Loc Cert.DwInK.nD Cert.DwInK.τ Cert.DwInK.sig) → Buf (Elt Bits) ℓ) (g : Dev Cert.DwInK.nD → PrngReg), Pre_DwInK m →
    θ_run (Cert.DwInK.defs (F := Bits)) (onTc (τ := Cert.DwInK.τ) (Cert.DwInK.main (F := Bits))) ⟨m, fun _ => 0, g⟩ (fun r => (∀ c : Dev Cert.DwInK.nD,
      r.2.mem ((c.tc : Thread Cert.DwInK.nD Cert.DwInK.τ).loc Cert.DwInK.main_arg0) = m ((c.tc : Thread Cert.DwInK.nD Cert.DwInK.τ).loc Cert.DwInK.main_arg0)
      ∧ r.2.mem ((c.tc : Thread Cert.DwInK.nD Cert.DwInK.τ).loc Cert.DwInK.main_arg1) = m ((c.tc : Thread Cert.DwInK.nD Cert.DwInK.τ).loc Cert.DwInK.main_arg1))
      ∧ r.2.sem = fun _ => 0)

def quiescent_DwInKIdeal [hDwInKIdeal : Cert.DwInKIdeal.Facts] : Prop :=
  ∀ (m : (ℓ : Loc Cert.DwInKIdeal.nD Cert.DwInKIdeal.τ Cert.DwInKIdeal.sig) → Buf (Elt Ideal) ℓ) (g : Dev Cert.DwInKIdeal.nD → PrngReg), Pre_DwInKIdeal m →
    θ_run (Cert.DwInKIdeal.defs (F := Ideal)) (onTc (τ := Cert.DwInKIdeal.τ) (Cert.DwInKIdeal.main (F := Ideal))) ⟨m, fun _ => 0, g⟩ (fun r => (∀ c : Dev Cert.DwInKIdeal.nD,
      r.2.mem ((c.tc : Thread Cert.DwInKIdeal.nD Cert.DwInKIdeal.τ).loc Cert.DwInKIdeal.main_arg0) = m ((c.tc : Thread Cert.DwInKIdeal.nD Cert.DwInKIdeal.τ).loc Cert.DwInKIdeal.main_arg0)
      ∧ r.2.mem ((c.tc : Thread Cert.DwInKIdeal.nD Cert.DwInKIdeal.τ).loc Cert.DwInKIdeal.main_arg1) = m ((c.tc : Thread Cert.DwInKIdeal.nD Cert.DwInKIdeal.τ).loc Cert.DwInKIdeal.main_arg1))
      ∧ r.2.sem = fun _ => 0)

def quiescent_DwInRIdeal [hDwInRIdeal : Cert.DwInRIdeal.Facts] : Prop :=
  ∀ (m : (ℓ : Loc Cert.DwInRIdeal.nD Cert.DwInRIdeal.τ Cert.DwInRIdeal.sig) → Buf (Elt Ideal) ℓ) (g : Dev Cert.DwInRIdeal.nD → PrngReg), Pre_DwInRIdeal m →
    θ_run (Cert.DwInRIdeal.defs (F := Ideal)) (onTc (τ := Cert.DwInRIdeal.τ) (Cert.DwInRIdeal.main (F := Ideal))) ⟨m, fun _ => 0, g⟩ (fun r => (∀ c : Dev Cert.DwInRIdeal.nD,
      r.2.mem ((c.tc : Thread Cert.DwInRIdeal.nD Cert.DwInRIdeal.τ).loc Cert.DwInRIdeal.main_arg0) = m ((c.tc : Thread Cert.DwInRIdeal.nD Cert.DwInRIdeal.τ).loc Cert.DwInRIdeal.main_arg0)
      ∧ r.2.mem ((c.tc : Thread Cert.DwInRIdeal.nD Cert.DwInRIdeal.τ).loc Cert.DwInRIdeal.main_arg1) = m ((c.tc : Thread Cert.DwInRIdeal.nD Cert.DwInRIdeal.τ).loc Cert.DwInRIdeal.main_arg1))
      ∧ r.2.sem = fun _ => 0)

def quiescent_DwOutK [hDwOutK : Cert.DwOutK.Facts] : Prop :=
  ∀ (m : (ℓ : Loc Cert.DwOutK.nD Cert.DwOutK.τ Cert.DwOutK.sig) → Buf (Elt Bits) ℓ) (g : Dev Cert.DwOutK.nD → PrngReg), Pre_DwOutK m →
    θ_run (Cert.DwOutK.defs (F := Bits)) (onTc (τ := Cert.DwOutK.τ) (Cert.DwOutK.main (F := Bits))) ⟨m, fun _ => 0, g⟩ (fun r => (∀ c : Dev Cert.DwOutK.nD,
      r.2.mem ((c.tc : Thread Cert.DwOutK.nD Cert.DwOutK.τ).loc Cert.DwOutK.main_arg0) = m ((c.tc : Thread Cert.DwOutK.nD Cert.DwOutK.τ).loc Cert.DwOutK.main_arg0)
      ∧ r.2.mem ((c.tc : Thread Cert.DwOutK.nD Cert.DwOutK.τ).loc Cert.DwOutK.main_arg1) = m ((c.tc : Thread Cert.DwOutK.nD Cert.DwOutK.τ).loc Cert.DwOutK.main_arg1))
      ∧ r.2.sem = fun _ => 0)

def quiescent_DwOutKIdeal [hDwOutKIdeal : Cert.DwOutKIdeal.Facts] : Prop :=
  ∀ (m : (ℓ : Loc Cert.DwOutKIdeal.nD Cert.DwOutKIdeal.τ Cert.DwOutKIdeal.sig) → Buf (Elt Ideal) ℓ) (g : Dev Cert.DwOutKIdeal.nD → PrngReg), Pre_DwOutKIdeal m →
    θ_run (Cert.DwOutKIdeal.defs (F := Ideal)) (onTc (τ := Cert.DwOutKIdeal.τ) (Cert.DwOutKIdeal.main (F := Ideal))) ⟨m, fun _ => 0, g⟩ (fun r => (∀ c : Dev Cert.DwOutKIdeal.nD,
      r.2.mem ((c.tc : Thread Cert.DwOutKIdeal.nD Cert.DwOutKIdeal.τ).loc Cert.DwOutKIdeal.main_arg0) = m ((c.tc : Thread Cert.DwOutKIdeal.nD Cert.DwOutKIdeal.τ).loc Cert.DwOutKIdeal.main_arg0)
      ∧ r.2.mem ((c.tc : Thread Cert.DwOutKIdeal.nD Cert.DwOutKIdeal.τ).loc Cert.DwOutKIdeal.main_arg1) = m ((c.tc : Thread Cert.DwOutKIdeal.nD Cert.DwOutKIdeal.τ).loc Cert.DwOutKIdeal.main_arg1))
      ∧ r.2.sem = fun _ => 0)

def quiescent_DwOutRIdeal [hDwOutRIdeal : Cert.DwOutRIdeal.Facts] : Prop :=
  ∀ (m : (ℓ : Loc Cert.DwOutRIdeal.nD Cert.DwOutRIdeal.τ Cert.DwOutRIdeal.sig) → Buf (Elt Ideal) ℓ) (g : Dev Cert.DwOutRIdeal.nD → PrngReg), Pre_DwOutRIdeal m →
    θ_run (Cert.DwOutRIdeal.defs (F := Ideal)) (onTc (τ := Cert.DwOutRIdeal.τ) (Cert.DwOutRIdeal.main (F := Ideal))) ⟨m, fun _ => 0, g⟩ (fun r => (∀ c : Dev Cert.DwOutRIdeal.nD,
      r.2.mem ((c.tc : Thread Cert.DwOutRIdeal.nD Cert.DwOutRIdeal.τ).loc Cert.DwOutRIdeal.main_arg0) = m ((c.tc : Thread Cert.DwOutRIdeal.nD Cert.DwOutRIdeal.τ).loc Cert.DwOutRIdeal.main_arg0)
      ∧ r.2.mem ((c.tc : Thread Cert.DwOutRIdeal.nD Cert.DwOutRIdeal.τ).loc Cert.DwOutRIdeal.main_arg1) = m ((c.tc : Thread Cert.DwOutRIdeal.nD Cert.DwOutRIdeal.τ).loc Cert.DwOutRIdeal.main_arg1))
      ∧ r.2.sem = fun _ => 0)

def quiescent_DwZK [hDwZK : Cert.DwZK.Facts] : Prop :=
  ∀ (m : (ℓ : Loc Cert.DwZK.nD Cert.DwZK.τ Cert.DwZK.sig) → Buf (Elt Bits) ℓ) (g : Dev Cert.DwZK.nD → PrngReg), Pre_DwZK m →
    θ_run (Cert.DwZK.defs (F := Bits)) (onTc (τ := Cert.DwZK.τ) (Cert.DwZK.main (F := Bits))) ⟨m, fun _ => 0, g⟩ (fun r => (∀ c : Dev Cert.DwZK.nD,
      r.2.mem ((c.tc : Thread Cert.DwZK.nD Cert.DwZK.τ).loc Cert.DwZK.main_arg0) = m ((c.tc : Thread Cert.DwZK.nD Cert.DwZK.τ).loc Cert.DwZK.main_arg0)
      ∧ r.2.mem ((c.tc : Thread Cert.DwZK.nD Cert.DwZK.τ).loc Cert.DwZK.main_arg1) = m ((c.tc : Thread Cert.DwZK.nD Cert.DwZK.τ).loc Cert.DwZK.main_arg1))
      ∧ r.2.sem = fun _ => 0)

def quiescent_DwZKIdeal [hDwZKIdeal : Cert.DwZKIdeal.Facts] : Prop :=
  ∀ (m : (ℓ : Loc Cert.DwZKIdeal.nD Cert.DwZKIdeal.τ Cert.DwZKIdeal.sig) → Buf (Elt Ideal) ℓ) (g : Dev Cert.DwZKIdeal.nD → PrngReg), Pre_DwZKIdeal m →
    θ_run (Cert.DwZKIdeal.defs (F := Ideal)) (onTc (τ := Cert.DwZKIdeal.τ) (Cert.DwZKIdeal.main (F := Ideal))) ⟨m, fun _ => 0, g⟩ (fun r => (∀ c : Dev Cert.DwZKIdeal.nD,
      r.2.mem ((c.tc : Thread Cert.DwZKIdeal.nD Cert.DwZKIdeal.τ).loc Cert.DwZKIdeal.main_arg0) = m ((c.tc : Thread Cert.DwZKIdeal.nD Cert.DwZKIdeal.τ).loc Cert.DwZKIdeal.main_arg0)
      ∧ r.2.mem ((c.tc : Thread Cert.DwZKIdeal.nD Cert.DwZKIdeal.τ).loc Cert.DwZKIdeal.main_arg1) = m ((c.tc : Thread Cert.DwZKIdeal.nD Cert.DwZKIdeal.τ).loc Cert.DwZKIdeal.main_arg1))
      ∧ r.2.sem = fun _ => 0)

def quiescent_DwZRIdeal [hDwZRIdeal : Cert.DwZRIdeal.Facts] : Prop :=
  ∀ (m : (ℓ : Loc Cert.DwZRIdeal.nD Cert.DwZRIdeal.τ Cert.DwZRIdeal.sig) → Buf (Elt Ideal) ℓ) (g : Dev Cert.DwZRIdeal.nD → PrngReg), Pre_DwZRIdeal m →
    θ_run (Cert.DwZRIdeal.defs (F := Ideal)) (onTc (τ := Cert.DwZRIdeal.τ) (Cert.DwZRIdeal.main (F := Ideal))) ⟨m, fun _ => 0, g⟩ (fun r => (∀ c : Dev Cert.DwZRIdeal.nD,
      r.2.mem ((c.tc : Thread Cert.DwZRIdeal.nD Cert.DwZRIdeal.τ).loc Cert.DwZRIdeal.main_arg0) = m ((c.tc : Thread Cert.DwZRIdeal.nD Cert.DwZRIdeal.τ).loc Cert.DwZRIdeal.main_arg0)
      ∧ r.2.mem ((c.tc : Thread Cert.DwZRIdeal.nD Cert.DwZRIdeal.τ).loc Cert.DwZRIdeal.main_arg1) = m ((c.tc : Thread Cert.DwZRIdeal.nD Cert.DwZRIdeal.τ).loc Cert.DwZRIdeal.main_arg1))
      ∧ r.2.sem = fun _ => 0)

def quiescent_DwXlK [hDwXlK : Cert.DwXlK.Facts] : Prop :=
  ∀ (m : (ℓ : Loc Cert.DwXlK.nD Cert.DwXlK.τ Cert.DwXlK.sig) → Buf (Elt Bits) ℓ) (g : Dev Cert.DwXlK.nD → PrngReg), Pre_DwXlK m →
    θ_run (Cert.DwXlK.defs (F := Bits)) (onTc (τ := Cert.DwXlK.τ) (Cert.DwXlK.main (F := Bits))) ⟨m, fun _ => 0, g⟩ (fun r => (∀ c : Dev Cert.DwXlK.nD,
      r.2.mem ((c.tc : Thread Cert.DwXlK.nD Cert.DwXlK.τ).loc Cert.DwXlK.main_arg0) = m ((c.tc : Thread Cert.DwXlK.nD Cert.DwXlK.τ).loc Cert.DwXlK.main_arg0)
      ∧ r.2.mem ((c.tc : Thread Cert.DwXlK.nD Cert.DwXlK.τ).loc Cert.DwXlK.main_arg1) = m ((c.tc : Thread Cert.DwXlK.nD Cert.DwXlK.τ).loc Cert.DwXlK.main_arg1))
      ∧ r.2.sem = fun _ => 0)

def quiescent_DwXlKIdeal [hDwXlKIdeal : Cert.DwXlKIdeal.Facts] : Prop :=
  ∀ (m : (ℓ : Loc Cert.DwXlKIdeal.nD Cert.DwXlKIdeal.τ Cert.DwXlKIdeal.sig) → Buf (Elt Ideal) ℓ) (g : Dev Cert.DwXlKIdeal.nD → PrngReg), Pre_DwXlKIdeal m →
    θ_run (Cert.DwXlKIdeal.defs (F := Ideal)) (onTc (τ := Cert.DwXlKIdeal.τ) (Cert.DwXlKIdeal.main (F := Ideal))) ⟨m, fun _ => 0, g⟩ (fun r => (∀ c : Dev Cert.DwXlKIdeal.nD,
      r.2.mem ((c.tc : Thread Cert.DwXlKIdeal.nD Cert.DwXlKIdeal.τ).loc Cert.DwXlKIdeal.main_arg0) = m ((c.tc : Thread Cert.DwXlKIdeal.nD Cert.DwXlKIdeal.τ).loc Cert.DwXlKIdeal.main_arg0)
      ∧ r.2.mem ((c.tc : Thread Cert.DwXlKIdeal.nD Cert.DwXlKIdeal.τ).loc Cert.DwXlKIdeal.main_arg1) = m ((c.tc : Thread Cert.DwXlKIdeal.nD Cert.DwXlKIdeal.τ).loc Cert.DwXlKIdeal.main_arg1))
      ∧ r.2.sem = fun _ => 0)

def quiescent_DwXlRIdeal [hDwXlRIdeal : Cert.DwXlRIdeal.Facts] : Prop :=
  ∀ (m : (ℓ : Loc Cert.DwXlRIdeal.nD Cert.DwXlRIdeal.τ Cert.DwXlRIdeal.sig) → Buf (Elt Ideal) ℓ) (g : Dev Cert.DwXlRIdeal.nD → PrngReg), Pre_DwXlRIdeal m →
    θ_run (Cert.DwXlRIdeal.defs (F := Ideal)) (onTc (τ := Cert.DwXlRIdeal.τ) (Cert.DwXlRIdeal.main (F := Ideal))) ⟨m, fun _ => 0, g⟩ (fun r => (∀ c : Dev Cert.DwXlRIdeal.nD,
      r.2.mem ((c.tc : Thread Cert.DwXlRIdeal.nD Cert.DwXlRIdeal.τ).loc Cert.DwXlRIdeal.main_arg0) = m ((c.tc : Thread Cert.DwXlRIdeal.nD Cert.DwXlRIdeal.τ).loc Cert.DwXlRIdeal.main_arg0)
      ∧ r.2.mem ((c.tc : Thread Cert.DwXlRIdeal.nD Cert.DwXlRIdeal.τ).loc Cert.DwXlRIdeal.main_arg1) = m ((c.tc : Thread Cert.DwXlRIdeal.nD Cert.DwXlRIdeal.τ).loc Cert.DwXlRIdeal.main_arg1))
      ∧ r.2.sem = fun _ => 0)

def quiescent_DwXbcK [hDwXbcK : Cert.DwXbcK.Facts] : Prop :=
  ∀ (m : (ℓ : Loc Cert.DwXbcK.nD Cert.DwXbcK.τ Cert.DwXbcK.sig) → Buf (Elt Bits) ℓ) (g : Dev Cert.DwXbcK.nD → PrngReg), Pre_DwXbcK m →
    θ_run (Cert.DwXbcK.defs (F := Bits)) (onTc (τ := Cert.DwXbcK.τ) (Cert.DwXbcK.main (F := Bits))) ⟨m, fun _ => 0, g⟩ (fun r => (∀ c : Dev Cert.DwXbcK.nD,
      r.2.mem ((c.tc : Thread Cert.DwXbcK.nD Cert.DwXbcK.τ).loc Cert.DwXbcK.main_arg0) = m ((c.tc : Thread Cert.DwXbcK.nD Cert.DwXbcK.τ).loc Cert.DwXbcK.main_arg0)
      ∧ r.2.mem ((c.tc : Thread Cert.DwXbcK.nD Cert.DwXbcK.τ).loc Cert.DwXbcK.main_arg1) = m ((c.tc : Thread Cert.DwXbcK.nD Cert.DwXbcK.τ).loc Cert.DwXbcK.main_arg1))
      ∧ r.2.sem = fun _ => 0)

def quiescent_DwXbcKIdeal [hDwXbcKIdeal : Cert.DwXbcKIdeal.Facts] : Prop :=
  ∀ (m : (ℓ : Loc Cert.DwXbcKIdeal.nD Cert.DwXbcKIdeal.τ Cert.DwXbcKIdeal.sig) → Buf (Elt Ideal) ℓ) (g : Dev Cert.DwXbcKIdeal.nD → PrngReg), Pre_DwXbcKIdeal m →
    θ_run (Cert.DwXbcKIdeal.defs (F := Ideal)) (onTc (τ := Cert.DwXbcKIdeal.τ) (Cert.DwXbcKIdeal.main (F := Ideal))) ⟨m, fun _ => 0, g⟩ (fun r => (∀ c : Dev Cert.DwXbcKIdeal.nD,
      r.2.mem ((c.tc : Thread Cert.DwXbcKIdeal.nD Cert.DwXbcKIdeal.τ).loc Cert.DwXbcKIdeal.main_arg0) = m ((c.tc : Thread Cert.DwXbcKIdeal.nD Cert.DwXbcKIdeal.τ).loc Cert.DwXbcKIdeal.main_arg0)
      ∧ r.2.mem ((c.tc : Thread Cert.DwXbcKIdeal.nD Cert.DwXbcKIdeal.τ).loc Cert.DwXbcKIdeal.main_arg1) = m ((c.tc : Thread Cert.DwXbcKIdeal.nD Cert.DwXbcKIdeal.τ).loc Cert.DwXbcKIdeal.main_arg1))
      ∧ r.2.sem = fun _ => 0)

def quiescent_DwXbcRIdeal [hDwXbcRIdeal : Cert.DwXbcRIdeal.Facts] : Prop :=
  ∀ (m : (ℓ : Loc Cert.DwXbcRIdeal.nD Cert.DwXbcRIdeal.τ Cert.DwXbcRIdeal.sig) → Buf (Elt Ideal) ℓ) (g : Dev Cert.DwXbcRIdeal.nD → PrngReg), Pre_DwXbcRIdeal m →
    θ_run (Cert.DwXbcRIdeal.defs (F := Ideal)) (onTc (τ := Cert.DwXbcRIdeal.τ) (Cert.DwXbcRIdeal.main (F := Ideal))) ⟨m, fun _ => 0, g⟩ (fun r => (∀ c : Dev Cert.DwXbcRIdeal.nD,
      r.2.mem ((c.tc : Thread Cert.DwXbcRIdeal.nD Cert.DwXbcRIdeal.τ).loc Cert.DwXbcRIdeal.main_arg0) = m ((c.tc : Thread Cert.DwXbcRIdeal.nD Cert.DwXbcRIdeal.τ).loc Cert.DwXbcRIdeal.main_arg0)
      ∧ r.2.mem ((c.tc : Thread Cert.DwXbcRIdeal.nD Cert.DwXbcRIdeal.τ).loc Cert.DwXbcRIdeal.main_arg1) = m ((c.tc : Thread Cert.DwXbcRIdeal.nD Cert.DwXbcRIdeal.τ).loc Cert.DwXbcRIdeal.main_arg1))
      ∧ r.2.sem = fun _ => 0)

def quiescent_DwDtK [hDwDtK : Cert.DwDtK.Facts] : Prop :=
  ∀ (m : (ℓ : Loc Cert.DwDtK.nD Cert.DwDtK.τ Cert.DwDtK.sig) → Buf (Elt Bits) ℓ) (g : Dev Cert.DwDtK.nD → PrngReg), Pre_DwDtK m →
    θ_run (Cert.DwDtK.defs (F := Bits)) (onTc (τ := Cert.DwDtK.τ) (Cert.DwDtK.main (F := Bits))) ⟨m, fun _ => 0, g⟩ (fun r => (∀ c : Dev Cert.DwDtK.nD,
      r.2.mem ((c.tc : Thread Cert.DwDtK.nD Cert.DwDtK.τ).loc Cert.DwDtK.main_arg0) = m ((c.tc : Thread Cert.DwDtK.nD Cert.DwDtK.τ).loc Cert.DwDtK.main_arg0)
      ∧ r.2.mem ((c.tc : Thread Cert.DwDtK.nD Cert.DwDtK.τ).loc Cert.DwDtK.main_arg1) = m ((c.tc : Thread Cert.DwDtK.nD Cert.DwDtK.τ).loc Cert.DwDtK.main_arg1))
      ∧ r.2.sem = fun _ => 0)

def quiescent_DwDtKIdeal [hDwDtKIdeal : Cert.DwDtKIdeal.Facts] : Prop :=
  ∀ (m : (ℓ : Loc Cert.DwDtKIdeal.nD Cert.DwDtKIdeal.τ Cert.DwDtKIdeal.sig) → Buf (Elt Ideal) ℓ) (g : Dev Cert.DwDtKIdeal.nD → PrngReg), Pre_DwDtKIdeal m →
    θ_run (Cert.DwDtKIdeal.defs (F := Ideal)) (onTc (τ := Cert.DwDtKIdeal.τ) (Cert.DwDtKIdeal.main (F := Ideal))) ⟨m, fun _ => 0, g⟩ (fun r => (∀ c : Dev Cert.DwDtKIdeal.nD,
      r.2.mem ((c.tc : Thread Cert.DwDtKIdeal.nD Cert.DwDtKIdeal.τ).loc Cert.DwDtKIdeal.main_arg0) = m ((c.tc : Thread Cert.DwDtKIdeal.nD Cert.DwDtKIdeal.τ).loc Cert.DwDtKIdeal.main_arg0)
      ∧ r.2.mem ((c.tc : Thread Cert.DwDtKIdeal.nD Cert.DwDtKIdeal.τ).loc Cert.DwDtKIdeal.main_arg1) = m ((c.tc : Thread Cert.DwDtKIdeal.nD Cert.DwDtKIdeal.τ).loc Cert.DwDtKIdeal.main_arg1))
      ∧ r.2.sem = fun _ => 0)

def quiescent_DwDtRIdeal [hDwDtRIdeal : Cert.DwDtRIdeal.Facts] : Prop :=
  ∀ (m : (ℓ : Loc Cert.DwDtRIdeal.nD Cert.DwDtRIdeal.τ Cert.DwDtRIdeal.sig) → Buf (Elt Ideal) ℓ) (g : Dev Cert.DwDtRIdeal.nD → PrngReg), Pre_DwDtRIdeal m →
    θ_run (Cert.DwDtRIdeal.defs (F := Ideal)) (onTc (τ := Cert.DwDtRIdeal.τ) (Cert.DwDtRIdeal.main (F := Ideal))) ⟨m, fun _ => 0, g⟩ (fun r => (∀ c : Dev Cert.DwDtRIdeal.nD,
      r.2.mem ((c.tc : Thread Cert.DwDtRIdeal.nD Cert.DwDtRIdeal.τ).loc Cert.DwDtRIdeal.main_arg0) = m ((c.tc : Thread Cert.DwDtRIdeal.nD Cert.DwDtRIdeal.τ).loc Cert.DwDtRIdeal.main_arg0)
      ∧ r.2.mem ((c.tc : Thread Cert.DwDtRIdeal.nD Cert.DwDtRIdeal.τ).loc Cert.DwDtRIdeal.main_arg1) = m ((c.tc : Thread Cert.DwDtRIdeal.nD Cert.DwDtRIdeal.τ).loc Cert.DwDtRIdeal.main_arg1))
      ∧ r.2.sem = fun _ => 0)

def quiescent_PXbcK [hPXbcK : Cert.PXbcK.Facts] : Prop :=
  ∀ (m : (ℓ : Loc Cert.PXbcK.nD Cert.PXbcK.τ Cert.PXbcK.sig) → Buf (Elt Bits) ℓ) (g : Dev Cert.PXbcK.nD → PrngReg), Pre_PXbcK m →
    θ_run (Cert.PXbcK.defs (F := Bits)) (onTc (τ := Cert.PXbcK.τ) (Cert.PXbcK.main (F := Bits))) ⟨m, fun _ => 0, g⟩ (fun r => (∀ c : Dev Cert.PXbcK.nD,
      r.2.mem ((c.tc : Thread Cert.PXbcK.nD Cert.PXbcK.τ).loc Cert.PXbcK.main_arg0) = m ((c.tc : Thread Cert.PXbcK.nD Cert.PXbcK.τ).loc Cert.PXbcK.main_arg0)
      ∧ r.2.mem ((c.tc : Thread Cert.PXbcK.nD Cert.PXbcK.τ).loc Cert.PXbcK.main_arg1) = m ((c.tc : Thread Cert.PXbcK.nD Cert.PXbcK.τ).loc Cert.PXbcK.main_arg1))
      ∧ r.2.sem = fun _ => 0)

def quiescent_PXbcKIdeal [hPXbcKIdeal : Cert.PXbcKIdeal.Facts] : Prop :=
  ∀ (m : (ℓ : Loc Cert.PXbcKIdeal.nD Cert.PXbcKIdeal.τ Cert.PXbcKIdeal.sig) → Buf (Elt Ideal) ℓ) (g : Dev Cert.PXbcKIdeal.nD → PrngReg), Pre_PXbcKIdeal m →
    θ_run (Cert.PXbcKIdeal.defs (F := Ideal)) (onTc (τ := Cert.PXbcKIdeal.τ) (Cert.PXbcKIdeal.main (F := Ideal))) ⟨m, fun _ => 0, g⟩ (fun r => (∀ c : Dev Cert.PXbcKIdeal.nD,
      r.2.mem ((c.tc : Thread Cert.PXbcKIdeal.nD Cert.PXbcKIdeal.τ).loc Cert.PXbcKIdeal.main_arg0) = m ((c.tc : Thread Cert.PXbcKIdeal.nD Cert.PXbcKIdeal.τ).loc Cert.PXbcKIdeal.main_arg0)
      ∧ r.2.mem ((c.tc : Thread Cert.PXbcKIdeal.nD Cert.PXbcKIdeal.τ).loc Cert.PXbcKIdeal.main_arg1) = m ((c.tc : Thread Cert.PXbcKIdeal.nD Cert.PXbcKIdeal.τ).loc Cert.PXbcKIdeal.main_arg1))
      ∧ r.2.sem = fun _ => 0)

def quiescent_PXbcRIdeal [hPXbcRIdeal : Cert.PXbcRIdeal.Facts] : Prop :=
  ∀ (m : (ℓ : Loc Cert.PXbcRIdeal.nD Cert.PXbcRIdeal.τ Cert.PXbcRIdeal.sig) → Buf (Elt Ideal) ℓ) (g : Dev Cert.PXbcRIdeal.nD → PrngReg), Pre_PXbcRIdeal m →
    θ_run (Cert.PXbcRIdeal.defs (F := Ideal)) (onTc (τ := Cert.PXbcRIdeal.τ) (Cert.PXbcRIdeal.main (F := Ideal))) ⟨m, fun _ => 0, g⟩ (fun r => (∀ c : Dev Cert.PXbcRIdeal.nD,
      r.2.mem ((c.tc : Thread Cert.PXbcRIdeal.nD Cert.PXbcRIdeal.τ).loc Cert.PXbcRIdeal.main_arg0) = m ((c.tc : Thread Cert.PXbcRIdeal.nD Cert.PXbcRIdeal.τ).loc Cert.PXbcRIdeal.main_arg0)
      ∧ r.2.mem ((c.tc : Thread Cert.PXbcRIdeal.nD Cert.PXbcRIdeal.τ).loc Cert.PXbcRIdeal.main_arg1) = m ((c.tc : Thread Cert.PXbcRIdeal.nD Cert.PXbcRIdeal.τ).loc Cert.PXbcRIdeal.main_arg1))
      ∧ r.2.sem = fun _ => 0)

def quiescent_PDtK [hPDtK : Cert.PDtK.Facts] : Prop :=
  ∀ (m : (ℓ : Loc Cert.PDtK.nD Cert.PDtK.τ Cert.PDtK.sig) → Buf (Elt Bits) ℓ) (g : Dev Cert.PDtK.nD → PrngReg), Pre_PDtK m →
    θ_run (Cert.PDtK.defs (F := Bits)) (onTc (τ := Cert.PDtK.τ) (Cert.PDtK.main (F := Bits))) ⟨m, fun _ => 0, g⟩ (fun r => (∀ c : Dev Cert.PDtK.nD,
      r.2.mem ((c.tc : Thread Cert.PDtK.nD Cert.PDtK.τ).loc Cert.PDtK.main_arg0) = m ((c.tc : Thread Cert.PDtK.nD Cert.PDtK.τ).loc Cert.PDtK.main_arg0)
      ∧ r.2.mem ((c.tc : Thread Cert.PDtK.nD Cert.PDtK.τ).loc Cert.PDtK.main_arg1) = m ((c.tc : Thread Cert.PDtK.nD Cert.PDtK.τ).loc Cert.PDtK.main_arg1))
      ∧ r.2.sem = fun _ => 0)

def quiescent_PDtKIdeal [hPDtKIdeal : Cert.PDtKIdeal.Facts] : Prop :=
  ∀ (m : (ℓ : Loc Cert.PDtKIdeal.nD Cert.PDtKIdeal.τ Cert.PDtKIdeal.sig) → Buf (Elt Ideal) ℓ) (g : Dev Cert.PDtKIdeal.nD → PrngReg), Pre_PDtKIdeal m →
    θ_run (Cert.PDtKIdeal.defs (F := Ideal)) (onTc (τ := Cert.PDtKIdeal.τ) (Cert.PDtKIdeal.main (F := Ideal))) ⟨m, fun _ => 0, g⟩ (fun r => (∀ c : Dev Cert.PDtKIdeal.nD,
      r.2.mem ((c.tc : Thread Cert.PDtKIdeal.nD Cert.PDtKIdeal.τ).loc Cert.PDtKIdeal.main_arg0) = m ((c.tc : Thread Cert.PDtKIdeal.nD Cert.PDtKIdeal.τ).loc Cert.PDtKIdeal.main_arg0)
      ∧ r.2.mem ((c.tc : Thread Cert.PDtKIdeal.nD Cert.PDtKIdeal.τ).loc Cert.PDtKIdeal.main_arg1) = m ((c.tc : Thread Cert.PDtKIdeal.nD Cert.PDtKIdeal.τ).loc Cert.PDtKIdeal.main_arg1))
      ∧ r.2.sem = fun _ => 0)

def quiescent_PDtRIdeal [hPDtRIdeal : Cert.PDtRIdeal.Facts] : Prop :=
  ∀ (m : (ℓ : Loc Cert.PDtRIdeal.nD Cert.PDtRIdeal.τ Cert.PDtRIdeal.sig) → Buf (Elt Ideal) ℓ) (g : Dev Cert.PDtRIdeal.nD → PrngReg), Pre_PDtRIdeal m →
    θ_run (Cert.PDtRIdeal.defs (F := Ideal)) (onTc (τ := Cert.PDtRIdeal.τ) (Cert.PDtRIdeal.main (F := Ideal))) ⟨m, fun _ => 0, g⟩ (fun r => (∀ c : Dev Cert.PDtRIdeal.nD,
      r.2.mem ((c.tc : Thread Cert.PDtRIdeal.nD Cert.PDtRIdeal.τ).loc Cert.PDtRIdeal.main_arg0) = m ((c.tc : Thread Cert.PDtRIdeal.nD Cert.PDtRIdeal.τ).loc Cert.PDtRIdeal.main_arg0)
      ∧ r.2.mem ((c.tc : Thread Cert.PDtRIdeal.nD Cert.PDtRIdeal.τ).loc Cert.PDtRIdeal.main_arg1) = m ((c.tc : Thread Cert.PDtRIdeal.nD Cert.PDtRIdeal.τ).loc Cert.PDtRIdeal.main_arg1))
      ∧ r.2.sem = fun _ => 0)

def quiescent_PFiveK [hPFiveK : Cert.PFiveK.Facts] : Prop :=
  ∀ (m : (ℓ : Loc Cert.PFiveK.nD Cert.PFiveK.τ Cert.PFiveK.sig) → Buf (Elt Bits) ℓ) (g : Dev Cert.PFiveK.nD → PrngReg), Pre_PFiveK m →
    θ_run (Cert.PFiveK.defs (F := Bits)) (onTc (τ := Cert.PFiveK.τ) (Cert.PFiveK.main (F := Bits))) ⟨m, fun _ => 0, g⟩ (fun r => (∀ c : Dev Cert.PFiveK.nD,
      r.2.mem ((c.tc : Thread Cert.PFiveK.nD Cert.PFiveK.τ).loc Cert.PFiveK.main_arg0) = m ((c.tc : Thread Cert.PFiveK.nD Cert.PFiveK.τ).loc Cert.PFiveK.main_arg0)
      ∧ r.2.mem ((c.tc : Thread Cert.PFiveK.nD Cert.PFiveK.τ).loc Cert.PFiveK.main_arg1) = m ((c.tc : Thread Cert.PFiveK.nD Cert.PFiveK.τ).loc Cert.PFiveK.main_arg1))
      ∧ r.2.sem = fun _ => 0)

def quiescent_PFiveKIdeal [hPFiveKIdeal : Cert.PFiveKIdeal.Facts] : Prop :=
  ∀ (m : (ℓ : Loc Cert.PFiveKIdeal.nD Cert.PFiveKIdeal.τ Cert.PFiveKIdeal.sig) → Buf (Elt Ideal) ℓ) (g : Dev Cert.PFiveKIdeal.nD → PrngReg), Pre_PFiveKIdeal m →
    θ_run (Cert.PFiveKIdeal.defs (F := Ideal)) (onTc (τ := Cert.PFiveKIdeal.τ) (Cert.PFiveKIdeal.main (F := Ideal))) ⟨m, fun _ => 0, g⟩ (fun r => (∀ c : Dev Cert.PFiveKIdeal.nD,
      r.2.mem ((c.tc : Thread Cert.PFiveKIdeal.nD Cert.PFiveKIdeal.τ).loc Cert.PFiveKIdeal.main_arg0) = m ((c.tc : Thread Cert.PFiveKIdeal.nD Cert.PFiveKIdeal.τ).loc Cert.PFiveKIdeal.main_arg0)
      ∧ r.2.mem ((c.tc : Thread Cert.PFiveKIdeal.nD Cert.PFiveKIdeal.τ).loc Cert.PFiveKIdeal.main_arg1) = m ((c.tc : Thread Cert.PFiveKIdeal.nD Cert.PFiveKIdeal.τ).loc Cert.PFiveKIdeal.main_arg1))
      ∧ r.2.sem = fun _ => 0)

def quiescent_PFiveRIdeal [hPFiveRIdeal : Cert.PFiveRIdeal.Facts] : Prop :=
  ∀ (m : (ℓ : Loc Cert.PFiveRIdeal.nD Cert.PFiveRIdeal.τ Cert.PFiveRIdeal.sig) → Buf (Elt Ideal) ℓ) (g : Dev Cert.PFiveRIdeal.nD → PrngReg), Pre_PFiveRIdeal m →
    θ_run (Cert.PFiveRIdeal.defs (F := Ideal)) (onTc (τ := Cert.PFiveRIdeal.τ) (Cert.PFiveRIdeal.main (F := Ideal))) ⟨m, fun _ => 0, g⟩ (fun r => (∀ c : Dev Cert.PFiveRIdeal.nD,
      r.2.mem ((c.tc : Thread Cert.PFiveRIdeal.nD Cert.PFiveRIdeal.τ).loc Cert.PFiveRIdeal.main_arg0) = m ((c.tc : Thread Cert.PFiveRIdeal.nD Cert.PFiveRIdeal.τ).loc Cert.PFiveRIdeal.main_arg0)
      ∧ r.2.mem ((c.tc : Thread Cert.PFiveRIdeal.nD Cert.PFiveRIdeal.τ).loc Cert.PFiveRIdeal.main_arg1) = m ((c.tc : Thread Cert.PFiveRIdeal.nD Cert.PFiveRIdeal.τ).loc Cert.PFiveRIdeal.main_arg1))
      ∧ r.2.sem = fun _ => 0)

def quiescent_NormUK [hNormUK : Cert.NormUK.Facts] : Prop :=
  ∀ (m : (ℓ : Loc Cert.NormUK.nD Cert.NormUK.τ Cert.NormUK.sig) → Buf (Elt Bits) ℓ) (g : Dev Cert.NormUK.nD → PrngReg), Pre_NormUK m →
    θ_run (Cert.NormUK.defs (F := Bits)) (onTc (τ := Cert.NormUK.τ) (Cert.NormUK.main (F := Bits))) ⟨m, fun _ => 0, g⟩ (fun r => (∀ c : Dev Cert.NormUK.nD,
      r.2.mem ((c.tc : Thread Cert.NormUK.nD Cert.NormUK.τ).loc Cert.NormUK.main_arg0) = m ((c.tc : Thread Cert.NormUK.nD Cert.NormUK.τ).loc Cert.NormUK.main_arg0)
      ∧ r.2.mem ((c.tc : Thread Cert.NormUK.nD Cert.NormUK.τ).loc Cert.NormUK.main_arg1) = m ((c.tc : Thread Cert.NormUK.nD Cert.NormUK.τ).loc Cert.NormUK.main_arg1))
      ∧ r.2.sem = fun _ => 0)

def quiescent_NormUKIdeal [hNormUKIdeal : Cert.NormUKIdeal.Facts] : Prop :=
  ∀ (m : (ℓ : Loc Cert.NormUKIdeal.nD Cert.NormUKIdeal.τ Cert.NormUKIdeal.sig) → Buf (Elt Ideal) ℓ) (g : Dev Cert.NormUKIdeal.nD → PrngReg), Pre_NormUKIdeal m →
    θ_run (Cert.NormUKIdeal.defs (F := Ideal)) (onTc (τ := Cert.NormUKIdeal.τ) (Cert.NormUKIdeal.main (F := Ideal))) ⟨m, fun _ => 0, g⟩ (fun r => (∀ c : Dev Cert.NormUKIdeal.nD,
      r.2.mem ((c.tc : Thread Cert.NormUKIdeal.nD Cert.NormUKIdeal.τ).loc Cert.NormUKIdeal.main_arg0) = m ((c.tc : Thread Cert.NormUKIdeal.nD Cert.NormUKIdeal.τ).loc Cert.NormUKIdeal.main_arg0)
      ∧ r.2.mem ((c.tc : Thread Cert.NormUKIdeal.nD Cert.NormUKIdeal.τ).loc Cert.NormUKIdeal.main_arg1) = m ((c.tc : Thread Cert.NormUKIdeal.nD Cert.NormUKIdeal.τ).loc Cert.NormUKIdeal.main_arg1))
      ∧ r.2.sem = fun _ => 0)

def quiescent_NormURIdeal [hNormURIdeal : Cert.NormURIdeal.Facts] : Prop :=
  ∀ (m : (ℓ : Loc Cert.NormURIdeal.nD Cert.NormURIdeal.τ Cert.NormURIdeal.sig) → Buf (Elt Ideal) ℓ) (g : Dev Cert.NormURIdeal.nD → PrngReg), Pre_NormURIdeal m →
    θ_run (Cert.NormURIdeal.defs (F := Ideal)) (onTc (τ := Cert.NormURIdeal.τ) (Cert.NormURIdeal.main (F := Ideal))) ⟨m, fun _ => 0, g⟩ (fun r => (∀ c : Dev Cert.NormURIdeal.nD,
      r.2.mem ((c.tc : Thread Cert.NormURIdeal.nD Cert.NormURIdeal.τ).loc Cert.NormURIdeal.main_arg0) = m ((c.tc : Thread Cert.NormURIdeal.nD Cert.NormURIdeal.τ).loc Cert.NormURIdeal.main_arg0)
      ∧ r.2.mem ((c.tc : Thread Cert.NormURIdeal.nD Cert.NormURIdeal.τ).loc Cert.NormURIdeal.main_arg1) = m ((c.tc : Thread Cert.NormURIdeal.nD Cert.NormURIdeal.τ).loc Cert.NormURIdeal.main_arg1))
      ∧ r.2.sem = fun _ => 0)

def quiescent_AdSK [hAdSK : Cert.AdSK.Facts] : Prop :=
  ∀ (m : (ℓ : Loc Cert.AdSK.nD Cert.AdSK.τ Cert.AdSK.sig) → Buf (Elt Bits) ℓ) (g : Dev Cert.AdSK.nD → PrngReg), Pre_AdSK m →
    θ_run (Cert.AdSK.defs (F := Bits)) (onTc (τ := Cert.AdSK.τ) (Cert.AdSK.main (F := Bits))) ⟨m, fun _ => 0, g⟩ (fun r => (∀ c : Dev Cert.AdSK.nD,
      r.2.mem ((c.tc : Thread Cert.AdSK.nD Cert.AdSK.τ).loc Cert.AdSK.main_arg0) = m ((c.tc : Thread Cert.AdSK.nD Cert.AdSK.τ).loc Cert.AdSK.main_arg0)
      ∧ r.2.mem ((c.tc : Thread Cert.AdSK.nD Cert.AdSK.τ).loc Cert.AdSK.main_arg1) = m ((c.tc : Thread Cert.AdSK.nD Cert.AdSK.τ).loc Cert.AdSK.main_arg1)
      ∧ r.2.mem ((c.tc : Thread Cert.AdSK.nD Cert.AdSK.τ).loc Cert.AdSK.main_arg2) = m ((c.tc : Thread Cert.AdSK.nD Cert.AdSK.τ).loc Cert.AdSK.main_arg2)
      ∧ r.2.mem ((c.tc : Thread Cert.AdSK.nD Cert.AdSK.τ).loc Cert.AdSK.main_arg3) = m ((c.tc : Thread Cert.AdSK.nD Cert.AdSK.τ).loc Cert.AdSK.main_arg3))
      ∧ r.2.sem = fun _ => 0)

def quiescent_AdSKIdeal [hAdSKIdeal : Cert.AdSKIdeal.Facts] : Prop :=
  ∀ (m : (ℓ : Loc Cert.AdSKIdeal.nD Cert.AdSKIdeal.τ Cert.AdSKIdeal.sig) → Buf (Elt Ideal) ℓ) (g : Dev Cert.AdSKIdeal.nD → PrngReg), Pre_AdSKIdeal m →
    θ_run (Cert.AdSKIdeal.defs (F := Ideal)) (onTc (τ := Cert.AdSKIdeal.τ) (Cert.AdSKIdeal.main (F := Ideal))) ⟨m, fun _ => 0, g⟩ (fun r => (∀ c : Dev Cert.AdSKIdeal.nD,
      r.2.mem ((c.tc : Thread Cert.AdSKIdeal.nD Cert.AdSKIdeal.τ).loc Cert.AdSKIdeal.main_arg0) = m ((c.tc : Thread Cert.AdSKIdeal.nD Cert.AdSKIdeal.τ).loc Cert.AdSKIdeal.main_arg0)
      ∧ r.2.mem ((c.tc : Thread Cert.AdSKIdeal.nD Cert.AdSKIdeal.τ).loc Cert.AdSKIdeal.main_arg1) = m ((c.tc : Thread Cert.AdSKIdeal.nD Cert.AdSKIdeal.τ).loc Cert.AdSKIdeal.main_arg1)
      ∧ r.2.mem ((c.tc : Thread Cert.AdSKIdeal.nD Cert.AdSKIdeal.τ).loc Cert.AdSKIdeal.main_arg2) = m ((c.tc : Thread Cert.AdSKIdeal.nD Cert.AdSKIdeal.τ).loc Cert.AdSKIdeal.main_arg2)
      ∧ r.2.mem ((c.tc : Thread Cert.AdSKIdeal.nD Cert.AdSKIdeal.τ).loc Cert.AdSKIdeal.main_arg3) = m ((c.tc : Thread Cert.AdSKIdeal.nD Cert.AdSKIdeal.τ).loc Cert.AdSKIdeal.main_arg3))
      ∧ r.2.sem = fun _ => 0)

def quiescent_AdSRIdeal [hAdSRIdeal : Cert.AdSRIdeal.Facts] : Prop :=
  ∀ (m : (ℓ : Loc Cert.AdSRIdeal.nD Cert.AdSRIdeal.τ Cert.AdSRIdeal.sig) → Buf (Elt Ideal) ℓ) (g : Dev Cert.AdSRIdeal.nD → PrngReg), Pre_AdSRIdeal m →
    θ_run (Cert.AdSRIdeal.defs (F := Ideal)) (onTc (τ := Cert.AdSRIdeal.τ) (Cert.AdSRIdeal.main (F := Ideal))) ⟨m, fun _ => 0, g⟩ (fun r => (∀ c : Dev Cert.AdSRIdeal.nD,
      r.2.mem ((c.tc : Thread Cert.AdSRIdeal.nD Cert.AdSRIdeal.τ).loc Cert.AdSRIdeal.main_arg0) = m ((c.tc : Thread Cert.AdSRIdeal.nD Cert.AdSRIdeal.τ).loc Cert.AdSRIdeal.main_arg0)
      ∧ r.2.mem ((c.tc : Thread Cert.AdSRIdeal.nD Cert.AdSRIdeal.τ).loc Cert.AdSRIdeal.main_arg1) = m ((c.tc : Thread Cert.AdSRIdeal.nD Cert.AdSRIdeal.τ).loc Cert.AdSRIdeal.main_arg1)
      ∧ r.2.mem ((c.tc : Thread Cert.AdSRIdeal.nD Cert.AdSRIdeal.τ).loc Cert.AdSRIdeal.main_arg2) = m ((c.tc : Thread Cert.AdSRIdeal.nD Cert.AdSRIdeal.τ).loc Cert.AdSRIdeal.main_arg2)
      ∧ r.2.mem ((c.tc : Thread Cert.AdSRIdeal.nD Cert.AdSRIdeal.τ).loc Cert.AdSRIdeal.main_arg3) = m ((c.tc : Thread Cert.AdSRIdeal.nD Cert.AdSRIdeal.τ).loc Cert.AdSRIdeal.main_arg3))
      ∧ r.2.sem = fun _ => 0)

def quiescent_AdCsK [hAdCsK : Cert.AdCsK.Facts] : Prop :=
  ∀ (m : (ℓ : Loc Cert.AdCsK.nD Cert.AdCsK.τ Cert.AdCsK.sig) → Buf (Elt Bits) ℓ) (g : Dev Cert.AdCsK.nD → PrngReg), Pre_AdCsK m →
    θ_run (Cert.AdCsK.defs (F := Bits)) (onTc (τ := Cert.AdCsK.τ) (Cert.AdCsK.main (F := Bits))) ⟨m, fun _ => 0, g⟩ (fun r => (∀ c : Dev Cert.AdCsK.nD,
      r.2.mem ((c.tc : Thread Cert.AdCsK.nD Cert.AdCsK.τ).loc Cert.AdCsK.main_arg0) = m ((c.tc : Thread Cert.AdCsK.nD Cert.AdCsK.τ).loc Cert.AdCsK.main_arg0)
      ∧ r.2.mem ((c.tc : Thread Cert.AdCsK.nD Cert.AdCsK.τ).loc Cert.AdCsK.main_arg1) = m ((c.tc : Thread Cert.AdCsK.nD Cert.AdCsK.τ).loc Cert.AdCsK.main_arg1)
      ∧ r.2.mem ((c.tc : Thread Cert.AdCsK.nD Cert.AdCsK.τ).loc Cert.AdCsK.main_arg2) = m ((c.tc : Thread Cert.AdCsK.nD Cert.AdCsK.τ).loc Cert.AdCsK.main_arg2)
      ∧ r.2.mem ((c.tc : Thread Cert.AdCsK.nD Cert.AdCsK.τ).loc Cert.AdCsK.main_arg3) = m ((c.tc : Thread Cert.AdCsK.nD Cert.AdCsK.τ).loc Cert.AdCsK.main_arg3))
      ∧ r.2.sem = fun _ => 0)

def quiescent_AdCsKIdeal [hAdCsKIdeal : Cert.AdCsKIdeal.Facts] : Prop :=
  ∀ (m : (ℓ : Loc Cert.AdCsKIdeal.nD Cert.AdCsKIdeal.τ Cert.AdCsKIdeal.sig) → Buf (Elt Ideal) ℓ) (g : Dev Cert.AdCsKIdeal.nD → PrngReg), Pre_AdCsKIdeal m →
    θ_run (Cert.AdCsKIdeal.defs (F := Ideal)) (onTc (τ := Cert.AdCsKIdeal.τ) (Cert.AdCsKIdeal.main (F := Ideal))) ⟨m, fun _ => 0, g⟩ (fun r => (∀ c : Dev Cert.AdCsKIdeal.nD,
      r.2.mem ((c.tc : Thread Cert.AdCsKIdeal.nD Cert.AdCsKIdeal.τ).loc Cert.AdCsKIdeal.main_arg0) = m ((c.tc : Thread Cert.AdCsKIdeal.nD Cert.AdCsKIdeal.τ).loc Cert.AdCsKIdeal.main_arg0)
      ∧ r.2.mem ((c.tc : Thread Cert.AdCsKIdeal.nD Cert.AdCsKIdeal.τ).loc Cert.AdCsKIdeal.main_arg1) = m ((c.tc : Thread Cert.AdCsKIdeal.nD Cert.AdCsKIdeal.τ).loc Cert.AdCsKIdeal.main_arg1)
      ∧ r.2.mem ((c.tc : Thread Cert.AdCsKIdeal.nD Cert.AdCsKIdeal.τ).loc Cert.AdCsKIdeal.main_arg2) = m ((c.tc : Thread Cert.AdCsKIdeal.nD Cert.AdCsKIdeal.τ).loc Cert.AdCsKIdeal.main_arg2)
      ∧ r.2.mem ((c.tc : Thread Cert.AdCsKIdeal.nD Cert.AdCsKIdeal.τ).loc Cert.AdCsKIdeal.main_arg3) = m ((c.tc : Thread Cert.AdCsKIdeal.nD Cert.AdCsKIdeal.τ).loc Cert.AdCsKIdeal.main_arg3))
      ∧ r.2.sem = fun _ => 0)

def quiescent_AdCsRIdeal [hAdCsRIdeal : Cert.AdCsRIdeal.Facts] : Prop :=
  ∀ (m : (ℓ : Loc Cert.AdCsRIdeal.nD Cert.AdCsRIdeal.τ Cert.AdCsRIdeal.sig) → Buf (Elt Ideal) ℓ) (g : Dev Cert.AdCsRIdeal.nD → PrngReg), Pre_AdCsRIdeal m →
    θ_run (Cert.AdCsRIdeal.defs (F := Ideal)) (onTc (τ := Cert.AdCsRIdeal.τ) (Cert.AdCsRIdeal.main (F := Ideal))) ⟨m, fun _ => 0, g⟩ (fun r => (∀ c : Dev Cert.AdCsRIdeal.nD,
      r.2.mem ((c.tc : Thread Cert.AdCsRIdeal.nD Cert.AdCsRIdeal.τ).loc Cert.AdCsRIdeal.main_arg0) = m ((c.tc : Thread Cert.AdCsRIdeal.nD Cert.AdCsRIdeal.τ).loc Cert.AdCsRIdeal.main_arg0)
      ∧ r.2.mem ((c.tc : Thread Cert.AdCsRIdeal.nD Cert.AdCsRIdeal.τ).loc Cert.AdCsRIdeal.main_arg1) = m ((c.tc : Thread Cert.AdCsRIdeal.nD Cert.AdCsRIdeal.τ).loc Cert.AdCsRIdeal.main_arg1)
      ∧ r.2.mem ((c.tc : Thread Cert.AdCsRIdeal.nD Cert.AdCsRIdeal.τ).loc Cert.AdCsRIdeal.main_arg2) = m ((c.tc : Thread Cert.AdCsRIdeal.nD Cert.AdCsRIdeal.τ).loc Cert.AdCsRIdeal.main_arg2)
      ∧ r.2.mem ((c.tc : Thread Cert.AdCsRIdeal.nD Cert.AdCsRIdeal.τ).loc Cert.AdCsRIdeal.main_arg3) = m ((c.tc : Thread Cert.AdCsRIdeal.nD Cert.AdCsRIdeal.τ).loc Cert.AdCsRIdeal.main_arg3))
      ∧ r.2.sem = fun _ => 0)

def quiescent_AdClK [hAdClK : Cert.AdClK.Facts] : Prop :=
  ∀ (m : (ℓ : Loc Cert.AdClK.nD Cert.AdClK.τ Cert.AdClK.sig) → Buf (Elt Bits) ℓ) (g : Dev Cert.AdClK.nD → PrngReg), Pre_AdClK m →
    θ_run (Cert.AdClK.defs (F := Bits)) (onTc (τ := Cert.AdClK.τ) (Cert.AdClK.main (F := Bits))) ⟨m, fun _ => 0, g⟩ (fun r => (∀ c : Dev Cert.AdClK.nD,
      r.2.mem ((c.tc : Thread Cert.AdClK.nD Cert.AdClK.τ).loc Cert.AdClK.main_arg0) = m ((c.tc : Thread Cert.AdClK.nD Cert.AdClK.τ).loc Cert.AdClK.main_arg0)
      ∧ r.2.mem ((c.tc : Thread Cert.AdClK.nD Cert.AdClK.τ).loc Cert.AdClK.main_arg1) = m ((c.tc : Thread Cert.AdClK.nD Cert.AdClK.τ).loc Cert.AdClK.main_arg1)
      ∧ r.2.mem ((c.tc : Thread Cert.AdClK.nD Cert.AdClK.τ).loc Cert.AdClK.main_arg2) = m ((c.tc : Thread Cert.AdClK.nD Cert.AdClK.τ).loc Cert.AdClK.main_arg2)
      ∧ r.2.mem ((c.tc : Thread Cert.AdClK.nD Cert.AdClK.τ).loc Cert.AdClK.main_arg3) = m ((c.tc : Thread Cert.AdClK.nD Cert.AdClK.τ).loc Cert.AdClK.main_arg3))
      ∧ r.2.sem = fun _ => 0)

def quiescent_AdClKIdeal [hAdClKIdeal : Cert.AdClKIdeal.Facts] : Prop :=
  ∀ (m : (ℓ : Loc Cert.AdClKIdeal.nD Cert.AdClKIdeal.τ Cert.AdClKIdeal.sig) → Buf (Elt Ideal) ℓ) (g : Dev Cert.AdClKIdeal.nD → PrngReg), Pre_AdClKIdeal m →
    θ_run (Cert.AdClKIdeal.defs (F := Ideal)) (onTc (τ := Cert.AdClKIdeal.τ) (Cert.AdClKIdeal.main (F := Ideal))) ⟨m, fun _ => 0, g⟩ (fun r => (∀ c : Dev Cert.AdClKIdeal.nD,
      r.2.mem ((c.tc : Thread Cert.AdClKIdeal.nD Cert.AdClKIdeal.τ).loc Cert.AdClKIdeal.main_arg0) = m ((c.tc : Thread Cert.AdClKIdeal.nD Cert.AdClKIdeal.τ).loc Cert.AdClKIdeal.main_arg0)
      ∧ r.2.mem ((c.tc : Thread Cert.AdClKIdeal.nD Cert.AdClKIdeal.τ).loc Cert.AdClKIdeal.main_arg1) = m ((c.tc : Thread Cert.AdClKIdeal.nD Cert.AdClKIdeal.τ).loc Cert.AdClKIdeal.main_arg1)
      ∧ r.2.mem ((c.tc : Thread Cert.AdClKIdeal.nD Cert.AdClKIdeal.τ).loc Cert.AdClKIdeal.main_arg2) = m ((c.tc : Thread Cert.AdClKIdeal.nD Cert.AdClKIdeal.τ).loc Cert.AdClKIdeal.main_arg2)
      ∧ r.2.mem ((c.tc : Thread Cert.AdClKIdeal.nD Cert.AdClKIdeal.τ).loc Cert.AdClKIdeal.main_arg3) = m ((c.tc : Thread Cert.AdClKIdeal.nD Cert.AdClKIdeal.τ).loc Cert.AdClKIdeal.main_arg3))
      ∧ r.2.sem = fun _ => 0)

def quiescent_AdClRIdeal [hAdClRIdeal : Cert.AdClRIdeal.Facts] : Prop :=
  ∀ (m : (ℓ : Loc Cert.AdClRIdeal.nD Cert.AdClRIdeal.τ Cert.AdClRIdeal.sig) → Buf (Elt Ideal) ℓ) (g : Dev Cert.AdClRIdeal.nD → PrngReg), Pre_AdClRIdeal m →
    θ_run (Cert.AdClRIdeal.defs (F := Ideal)) (onTc (τ := Cert.AdClRIdeal.τ) (Cert.AdClRIdeal.main (F := Ideal))) ⟨m, fun _ => 0, g⟩ (fun r => (∀ c : Dev Cert.AdClRIdeal.nD,
      r.2.mem ((c.tc : Thread Cert.AdClRIdeal.nD Cert.AdClRIdeal.τ).loc Cert.AdClRIdeal.main_arg0) = m ((c.tc : Thread Cert.AdClRIdeal.nD Cert.AdClRIdeal.τ).loc Cert.AdClRIdeal.main_arg0)
      ∧ r.2.mem ((c.tc : Thread Cert.AdClRIdeal.nD Cert.AdClRIdeal.τ).loc Cert.AdClRIdeal.main_arg1) = m ((c.tc : Thread Cert.AdClRIdeal.nD Cert.AdClRIdeal.τ).loc Cert.AdClRIdeal.main_arg1)
      ∧ r.2.mem ((c.tc : Thread Cert.AdClRIdeal.nD Cert.AdClRIdeal.τ).loc Cert.AdClRIdeal.main_arg2) = m ((c.tc : Thread Cert.AdClRIdeal.nD Cert.AdClRIdeal.τ).loc Cert.AdClRIdeal.main_arg2)
      ∧ r.2.mem ((c.tc : Thread Cert.AdClRIdeal.nD Cert.AdClRIdeal.τ).loc Cert.AdClRIdeal.main_arg3) = m ((c.tc : Thread Cert.AdClRIdeal.nD Cert.AdClRIdeal.τ).loc Cert.AdClRIdeal.main_arg3))
      ∧ r.2.sem = fun _ => 0)

def quiescent_LossK [hLossK : Cert.LossK.Facts] : Prop :=
  ∀ (m : (ℓ : Loc Cert.LossK.nD Cert.LossK.τ Cert.LossK.sig) → Buf (Elt Bits) ℓ) (g : Dev Cert.LossK.nD → PrngReg), Pre_LossK m →
    θ_run (Cert.LossK.defs (F := Bits)) (onTc (τ := Cert.LossK.τ) (Cert.LossK.main (F := Bits))) ⟨m, fun _ => 0, g⟩ (fun r => (∀ c : Dev Cert.LossK.nD,
      r.2.mem ((c.tc : Thread Cert.LossK.nD Cert.LossK.τ).loc Cert.LossK.main_arg0) = m ((c.tc : Thread Cert.LossK.nD Cert.LossK.τ).loc Cert.LossK.main_arg0)
      ∧ r.2.mem ((c.tc : Thread Cert.LossK.nD Cert.LossK.τ).loc Cert.LossK.main_arg1) = m ((c.tc : Thread Cert.LossK.nD Cert.LossK.τ).loc Cert.LossK.main_arg1)
      ∧ r.2.mem ((c.tc : Thread Cert.LossK.nD Cert.LossK.τ).loc Cert.LossK.main_arg2) = m ((c.tc : Thread Cert.LossK.nD Cert.LossK.τ).loc Cert.LossK.main_arg2)
      ∧ r.2.mem ((c.tc : Thread Cert.LossK.nD Cert.LossK.τ).loc Cert.LossK.main_arg3) = m ((c.tc : Thread Cert.LossK.nD Cert.LossK.τ).loc Cert.LossK.main_arg3)
      ∧ r.2.mem ((c.tc : Thread Cert.LossK.nD Cert.LossK.τ).loc Cert.LossK.main_arg4) = m ((c.tc : Thread Cert.LossK.nD Cert.LossK.τ).loc Cert.LossK.main_arg4))
      ∧ r.2.sem = fun _ => 0)

def quiescent_LossKIdeal [hLossKIdeal : Cert.LossKIdeal.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2)
      ∧ r.2.mem ((c.tc : Thread Cert.LossKIdeal.nD Cert.LossKIdeal.τ).loc Cert.LossKIdeal.main_arg3) = m ((c.tc : Thread Cert.LossKIdeal.nD Cert.LossKIdeal.τ).loc Cert.LossKIdeal.main_arg3)
      ∧ r.2.mem ((c.tc : Thread Cert.LossKIdeal.nD Cert.LossKIdeal.τ).loc Cert.LossKIdeal.main_arg4) = m ((c.tc : Thread Cert.LossKIdeal.nD Cert.LossKIdeal.τ).loc Cert.LossKIdeal.main_arg4))
      ∧ r.2.sem = fun _ => 0)

def quiescent_LossRIdeal [hLossRIdeal : Cert.LossRIdeal.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2)
      ∧ r.2.mem ((c.tc : Thread Cert.LossRIdeal.nD Cert.LossRIdeal.τ).loc Cert.LossRIdeal.main_arg3) = m ((c.tc : Thread Cert.LossRIdeal.nD Cert.LossRIdeal.τ).loc Cert.LossRIdeal.main_arg3)
      ∧ r.2.mem ((c.tc : Thread Cert.LossRIdeal.nD Cert.LossRIdeal.τ).loc Cert.LossRIdeal.main_arg4) = m ((c.tc : Thread Cert.LossRIdeal.nD Cert.LossRIdeal.τ).loc Cert.LossRIdeal.main_arg4))
      ∧ r.2.sem = fun _ => 0)

def quiescent_DwLruK [hDwLruK : Cert.DwLruK.Facts] : Prop :=
  ∀ (m : (ℓ : Loc Cert.DwLruK.nD Cert.DwLruK.τ Cert.DwLruK.sig) → Buf (Elt Bits) ℓ) (g : Dev Cert.DwLruK.nD → PrngReg), Pre_DwLruK m →
    θ_run (Cert.DwLruK.defs (F := Bits)) (onTc (τ := Cert.DwLruK.τ) (Cert.DwLruK.main (F := Bits))) ⟨m, fun _ => 0, g⟩ (fun r => (∀ c : Dev Cert.DwLruK.nD,
      r.2.mem ((c.tc : Thread Cert.DwLruK.nD Cert.DwLruK.τ).loc Cert.DwLruK.main_arg0) = m ((c.tc : Thread Cert.DwLruK.nD Cert.DwLruK.τ).loc Cert.DwLruK.main_arg0)
      ∧ r.2.mem ((c.tc : Thread Cert.DwLruK.nD Cert.DwLruK.τ).loc Cert.DwLruK.main_arg1) = m ((c.tc : Thread Cert.DwLruK.nD Cert.DwLruK.τ).loc Cert.DwLruK.main_arg1))
      ∧ r.2.sem = fun _ => 0)

def quiescent_DwLruKIdeal [hDwLruKIdeal : Cert.DwLruKIdeal.Facts] : Prop :=
  ∀ (m : (ℓ : Loc Cert.DwLruKIdeal.nD Cert.DwLruKIdeal.τ Cert.DwLruKIdeal.sig) → Buf (Elt Ideal) ℓ) (g : Dev Cert.DwLruKIdeal.nD → PrngReg), Pre_DwLruKIdeal m →
    θ_run (Cert.DwLruKIdeal.defs (F := Ideal)) (onTc (τ := Cert.DwLruKIdeal.τ) (Cert.DwLruKIdeal.main (F := Ideal))) ⟨m, fun _ => 0, g⟩ (fun r => (∀ c : Dev Cert.DwLruKIdeal.nD,
      r.2.mem ((c.tc : Thread Cert.DwLruKIdeal.nD Cert.DwLruKIdeal.τ).loc Cert.DwLruKIdeal.main_arg0) = m ((c.tc : Thread Cert.DwLruKIdeal.nD Cert.DwLruKIdeal.τ).loc Cert.DwLruKIdeal.main_arg0)
      ∧ r.2.mem ((c.tc : Thread Cert.DwLruKIdeal.nD Cert.DwLruKIdeal.τ).loc Cert.DwLruKIdeal.main_arg1) = m ((c.tc : Thread Cert.DwLruKIdeal.nD Cert.DwLruKIdeal.τ).loc Cert.DwLruKIdeal.main_arg1))
      ∧ r.2.sem = fun _ => 0)

def quiescent_DwLruRIdeal [hDwLruRIdeal : Cert.DwLruRIdeal.Facts] : Prop :=
  ∀ (m : (ℓ : Loc Cert.DwLruRIdeal.nD Cert.DwLruRIdeal.τ Cert.DwLruRIdeal.sig) → Buf (Elt Ideal) ℓ) (g : Dev Cert.DwLruRIdeal.nD → PrngReg), Pre_DwLruRIdeal m →
    θ_run (Cert.DwLruRIdeal.defs (F := Ideal)) (onTc (τ := Cert.DwLruRIdeal.τ) (Cert.DwLruRIdeal.main (F := Ideal))) ⟨m, fun _ => 0, g⟩ (fun r => (∀ c : Dev Cert.DwLruRIdeal.nD,
      r.2.mem ((c.tc : Thread Cert.DwLruRIdeal.nD Cert.DwLruRIdeal.τ).loc Cert.DwLruRIdeal.main_arg0) = m ((c.tc : Thread Cert.DwLruRIdeal.nD Cert.DwLruRIdeal.τ).loc Cert.DwLruRIdeal.main_arg0)
      ∧ r.2.mem ((c.tc : Thread Cert.DwLruRIdeal.nD Cert.DwLruRIdeal.τ).loc Cert.DwLruRIdeal.main_arg1) = m ((c.tc : Thread Cert.DwLruRIdeal.nD Cert.DwLruRIdeal.τ).loc Cert.DwLruRIdeal.main_arg1))
      ∧ r.2.sem = fun _ => 0)

def quiescent_ConvK [hConvK : Cert.ConvK.Facts] : Prop :=
  ∀ (m : (ℓ : Loc Cert.ConvK.nD Cert.ConvK.τ Cert.ConvK.sig) → Buf (Elt Bits) ℓ) (g : Dev Cert.ConvK.nD → PrngReg), Pre_ConvK m →
    θ_run (Cert.ConvK.defs (F := Bits)) (onTc (τ := Cert.ConvK.τ) (Cert.ConvK.main (F := Bits))) ⟨m, fun _ => 0, g⟩ (fun r => (∀ c : Dev Cert.ConvK.nD,
      r.2.mem ((c.tc : Thread Cert.ConvK.nD Cert.ConvK.τ).loc Cert.ConvK.main_arg0) = m ((c.tc : Thread Cert.ConvK.nD Cert.ConvK.τ).loc Cert.ConvK.main_arg0)
      ∧ r.2.mem ((c.tc : Thread Cert.ConvK.nD Cert.ConvK.τ).loc Cert.ConvK.main_arg1) = m ((c.tc : Thread Cert.ConvK.nD Cert.ConvK.τ).loc Cert.ConvK.main_arg1)
      ∧ r.2.mem ((c.tc : Thread Cert.ConvK.nD Cert.ConvK.τ).loc Cert.ConvK.main_arg2) = m ((c.tc : Thread Cert.ConvK.nD Cert.ConvK.τ).loc Cert.ConvK.main_arg2)
      ∧ r.2.mem ((c.tc : Thread Cert.ConvK.nD Cert.ConvK.τ).loc Cert.ConvK.main_arg3) = m ((c.tc : Thread Cert.ConvK.nD Cert.ConvK.τ).loc Cert.ConvK.main_arg3)
      ∧ r.2.mem ((c.tc : Thread Cert.ConvK.nD Cert.ConvK.τ).loc Cert.ConvK.main_arg4) = m ((c.tc : Thread Cert.ConvK.nD Cert.ConvK.τ).loc Cert.ConvK.main_arg4)
      ∧ r.2.mem ((c.tc : Thread Cert.ConvK.nD Cert.ConvK.τ).loc Cert.ConvK.main_arg5) = m ((c.tc : Thread Cert.ConvK.nD Cert.ConvK.τ).loc Cert.ConvK.main_arg5)
      ∧ r.2.mem ((c.tc : Thread Cert.ConvK.nD Cert.ConvK.τ).loc Cert.ConvK.main_arg6) = m ((c.tc : Thread Cert.ConvK.nD Cert.ConvK.τ).loc Cert.ConvK.main_arg6)
      ∧ r.2.mem ((c.tc : Thread Cert.ConvK.nD Cert.ConvK.τ).loc Cert.ConvK.main_arg7) = m ((c.tc : Thread Cert.ConvK.nD Cert.ConvK.τ).loc Cert.ConvK.main_arg7))
      ∧ r.2.sem = fun _ => 0)

def quiescent_ConvKIdeal [hConvKIdeal : Cert.ConvKIdeal.Facts] : Prop :=
  ∀ (m : (ℓ : Loc Cert.ConvKIdeal.nD Cert.ConvKIdeal.τ Cert.ConvKIdeal.sig) → Buf (Elt Ideal) ℓ) (g : Dev Cert.ConvKIdeal.nD → PrngReg), Pre_ConvKIdeal m →
    θ_run (Cert.ConvKIdeal.defs (F := Ideal)) (onTc (τ := Cert.ConvKIdeal.τ) (Cert.ConvKIdeal.main (F := Ideal))) ⟨m, fun _ => 0, g⟩ (fun r => (∀ c : Dev Cert.ConvKIdeal.nD,
      r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
      ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
      ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2)
      ∧ r.2.mem ((c.tc : Thread Cert.ConvKIdeal.nD Cert.ConvKIdeal.τ).loc Cert.ConvKIdeal.main_arg3) = m ((c.tc : Thread Cert.ConvKIdeal.nD Cert.ConvKIdeal.τ).loc Cert.ConvKIdeal.main_arg3)
      ∧ r.2.mem ((c.tc : Thread Cert.ConvKIdeal.nD Cert.ConvKIdeal.τ).loc Cert.ConvKIdeal.main_arg4) = m ((c.tc : Thread Cert.ConvKIdeal.nD Cert.ConvKIdeal.τ).loc Cert.ConvKIdeal.main_arg4)
      ∧ r.2.mem ((c.tc : Thread Cert.ConvKIdeal.nD Cert.ConvKIdeal.τ).loc Cert.ConvKIdeal.main_arg5) = m ((c.tc : Thread Cert.ConvKIdeal.nD Cert.ConvKIdeal.τ).loc Cert.ConvKIdeal.main_arg5)
      ∧ r.2.mem ((c.tc : Thread Cert.ConvKIdeal.nD Cert.ConvKIdeal.τ).loc Cert.ConvKIdeal.main_arg6) = m ((c.tc : Thread Cert.ConvKIdeal.nD Cert.ConvKIdeal.τ).loc Cert.ConvKIdeal.main_arg6)
      ∧ r.2.mem ((c.tc : Thread Cert.ConvKIdeal.nD Cert.ConvKIdeal.τ).loc Cert.ConvKIdeal.main_arg7) = m ((c.tc : Thread Cert.ConvKIdeal.nD Cert.ConvKIdeal.τ).loc Cert.ConvKIdeal.main_arg7))
      ∧ r.2.sem = fun _ => 0)

def quiescent_ConvRIdeal [hConvRIdeal : Cert.ConvRIdeal.Facts] : Prop :=
  ∀ (m : (ℓ : Loc Cert.ConvRIdeal.nD Cert.ConvRIdeal.τ Cert.ConvRIdeal.sig) → Buf (Elt Ideal) ℓ) (g : Dev Cert.ConvRIdeal.nD → PrngReg), Pre_ConvRIdeal m →
    θ_run (Cert.ConvRIdeal.defs (F := Ideal)) (onTc (τ := Cert.ConvRIdeal.τ) (Cert.ConvRIdeal.main (F := Ideal))) ⟨m, fun _ => 0, g⟩ (fun r => (∀ c : Dev Cert.ConvRIdeal.nD,
      r.2.mem ((c.tc : Thread Cert.ConvRIdeal.nD Cert.ConvRIdeal.τ).loc Cert.ConvRIdeal.main_arg0) = m ((c.tc : Thread Cert.ConvRIdeal.nD Cert.ConvRIdeal.τ).loc Cert.ConvRIdeal.main_arg0)
      ∧ r.2.mem ((c.tc : Thread Cert.ConvRIdeal.nD Cert.ConvRIdeal.τ).loc Cert.ConvRIdeal.main_arg1) = m ((c.tc : Thread Cert.ConvRIdeal.nD Cert.ConvRIdeal.τ).loc Cert.ConvRIdeal.main_arg1)
      ∧ r.2.mem ((c.tc : Thread Cert.ConvRIdeal.nD Cert.ConvRIdeal.τ).loc Cert.ConvRIdeal.main_arg2) = m ((c.tc : Thread Cert.ConvRIdeal.nD Cert.ConvRIdeal.τ).loc Cert.ConvRIdeal.main_arg2)
      ∧ r.2.mem ((c.tc : Thread Cert.ConvRIdeal.nD Cert.ConvRIdeal.τ).loc Cert.ConvRIdeal.main_arg3) = m ((c.tc : Thread Cert.ConvRIdeal.nD Cert.ConvRIdeal.τ).loc Cert.ConvRIdeal.main_arg3)
      ∧ r.2.mem ((c.tc : Thread Cert.ConvRIdeal.nD Cert.ConvRIdeal.τ).loc Cert.ConvRIdeal.main_arg4) = m ((c.tc : Thread Cert.ConvRIdeal.nD Cert.ConvRIdeal.τ).loc Cert.ConvRIdeal.main_arg4)
      ∧ r.2.mem ((c.tc : Thread Cert.ConvRIdeal.nD Cert.ConvRIdeal.τ).loc Cert.ConvRIdeal.main_arg5) = m ((c.tc : Thread Cert.ConvRIdeal.nD Cert.ConvRIdeal.τ).loc Cert.ConvRIdeal.main_arg5)
      ∧ r.2.mem ((c.tc : Thread Cert.ConvRIdeal.nD Cert.ConvRIdeal.τ).loc Cert.ConvRIdeal.main_arg6) = m ((c.tc : Thread Cert.ConvRIdeal.nD Cert.ConvRIdeal.τ).loc Cert.ConvRIdeal.main_arg6)
      ∧ r.2.mem ((c.tc : Thread Cert.ConvRIdeal.nD Cert.ConvRIdeal.τ).loc Cert.ConvRIdeal.main_arg7) = m ((c.tc : Thread Cert.ConvRIdeal.nD Cert.ConvRIdeal.τ).loc Cert.ConvRIdeal.main_arg7))
      ∧ r.2.sem = fun _ => 0)

def preserves_NormsK_NormsKIdeal : Prop :=
  True

def algebraic_NormsKIdeal_NormsRIdeal [hNormsKIdeal : Cert.NormsKIdeal.Facts] [hNormsRIdeal : Cert.NormsRIdeal.Facts] : Prop :=
  ∀ (m : (ℓ : Loc Cert.NormsKIdeal.nD Cert.NormsKIdeal.τ Cert.NormsKIdeal.sig) → Buf (Elt Ideal) ℓ) (g : Dev Cert.NormsKIdeal.nD → PrngReg)
    (m' : (ℓ : Loc Cert.NormsRIdeal.nD Cert.NormsRIdeal.τ Cert.NormsRIdeal.sig) → Buf (Elt Ideal) ℓ) (g' : Dev Cert.NormsRIdeal.nD → PrngReg), Pre_NormsKIdeal m →
    (∀ c : Dev Cert.NormsKIdeal.nD,
      m' ((c.tc : Thread Cert.NormsRIdeal.nD Cert.NormsRIdeal.τ).loc Cert.NormsRIdeal.main_arg0) = m ((c.tc : Thread Cert.NormsKIdeal.nD Cert.NormsKIdeal.τ).loc Cert.NormsKIdeal.main_arg0)
      ∧ m' ((c.tc : Thread Cert.NormsRIdeal.nD Cert.NormsRIdeal.τ).loc Cert.NormsRIdeal.main_arg1) = m ((c.tc : Thread Cert.NormsKIdeal.nD Cert.NormsKIdeal.τ).loc Cert.NormsKIdeal.main_arg1)
      ∧ m' ((c.tc : Thread Cert.NormsRIdeal.nD Cert.NormsRIdeal.τ).loc Cert.NormsRIdeal.main_arg2) = m ((c.tc : Thread Cert.NormsKIdeal.nD Cert.NormsKIdeal.τ).loc Cert.NormsKIdeal.main_arg2)
      ∧ m' ((c.tc : Thread Cert.NormsRIdeal.nD Cert.NormsRIdeal.τ).loc Cert.NormsRIdeal.main_arg3) = m ((c.tc : Thread Cert.NormsKIdeal.nD Cert.NormsKIdeal.τ).loc Cert.NormsKIdeal.main_arg3)
      ∧ m' ((c.tc : Thread Cert.NormsRIdeal.nD Cert.NormsRIdeal.τ).loc Cert.NormsRIdeal.main_arg4) = m ((c.tc : Thread Cert.NormsKIdeal.nD Cert.NormsKIdeal.τ).loc Cert.NormsKIdeal.main_arg4)
      ∧ m' ((c.tc : Thread Cert.NormsRIdeal.nD Cert.NormsRIdeal.τ).loc Cert.NormsRIdeal.main_arg5) = m ((c.tc : Thread Cert.NormsKIdeal.nD Cert.NormsKIdeal.τ).loc Cert.NormsKIdeal.main_arg5)
      ∧ m' ((c.tc : Thread Cert.NormsRIdeal.nD Cert.NormsRIdeal.τ).loc Cert.NormsRIdeal.main_arg6) = m ((c.tc : Thread Cert.NormsKIdeal.nD Cert.NormsKIdeal.τ).loc Cert.NormsKIdeal.main_arg6)
      ∧ m' ((c.tc : Thread Cert.NormsRIdeal.nD Cert.NormsRIdeal.τ).loc Cert.NormsRIdeal.main_arg7) = m ((c.tc : Thread Cert.NormsKIdeal.nD Cert.NormsKIdeal.τ).loc Cert.NormsKIdeal.main_arg7)) →
    ∃ (v0 : (c : Dev Cert.NormsKIdeal.nD) → Buf (Elt Ideal) ((c.tc : Thread Cert.NormsKIdeal.nD Cert.NormsKIdeal.τ).loc Cert.NormsKIdeal.main_v16_0)) (v1 : (c : Dev Cert.NormsKIdeal.nD) → Buf (Elt Ideal) ((c.tc : Thread Cert.NormsKIdeal.nD Cert.NormsKIdeal.τ).loc Cert.NormsKIdeal.main_v16_1)) (v2 : (c : Dev Cert.NormsKIdeal.nD) → Buf (Elt Ideal) ((c.tc : Thread Cert.NormsKIdeal.nD Cert.NormsKIdeal.τ).loc Cert.NormsKIdeal.main_v16_2)) (v3 : (c : Dev Cert.NormsKIdeal.nD) → Buf (Elt Ideal) ((c.tc : Thread Cert.NormsKIdeal.nD Cert.NormsKIdeal.τ).loc Cert.NormsKIdeal.main_v16_3)) (v4 : (c : Dev Cert.NormsKIdeal.nD) → Buf (Elt Ideal) ((c.tc : Thread Cert.NormsKIdeal.nD Cert.NormsKIdeal.τ).loc Cert.NormsKIdeal.main_v16_4)),
      θ_run (Cert.NormsKIdeal.defs (F := Ideal)) (onTc (τ := Cert.NormsKIdeal.τ) (Cert.NormsKIdeal.main (F := Ideal))) ⟨m, fun _ => 0, g⟩ (fun r => ∀ c : Dev Cert.NormsKIdeal.nD,
          r.2.mem ((c.tc : Thread Cert.NormsKIdeal.nD Cert.NormsKIdeal.τ).loc Cert.NormsKIdeal.main_v16_0) = v0 c
          ∧ r.2.mem ((c.tc : Thread Cert.NormsKIdeal.nD Cert.NormsKIdeal.τ).loc Cert.NormsKIdeal.main_v16_1) = v1 c
          ∧ r.2.mem ((c.tc : Thread Cert.NormsKIdeal.nD Cert.NormsKIdeal.τ).loc Cert.NormsKIdeal.main_v16_2) = v2 c
          ∧ r.2.mem ((c.tc : Thread Cert.NormsKIdeal.nD Cert.NormsKIdeal.τ).loc Cert.NormsKIdeal.main_v16_3) = v3 c
          ∧ r.2.mem ((c.tc : Thread Cert.NormsKIdeal.nD Cert.NormsKIdeal.τ).loc Cert.NormsKIdeal.main_v16_4) = v4 c
          ∧ r.2.mem ((c.tc : Thread Cert.NormsKIdeal.nD Cert.NormsKIdeal.τ).loc Cert.NormsKIdeal.main_arg0) = m ((c.tc : Thread Cert.NormsKIdeal.nD Cert.NormsKIdeal.τ).loc Cert.NormsKIdeal.main_arg0)
          ∧ r.2.mem ((c.tc : Thread Cert.NormsKIdeal.nD Cert.NormsKIdeal.τ).loc Cert.NormsKIdeal.main_arg1) = m ((c.tc : Thread Cert.NormsKIdeal.nD Cert.NormsKIdeal.τ).loc Cert.NormsKIdeal.main_arg1)
          ∧ r.2.mem ((c.tc : Thread Cert.NormsKIdeal.nD Cert.NormsKIdeal.τ).loc Cert.NormsKIdeal.main_arg2) = m ((c.tc : Thread Cert.NormsKIdeal.nD Cert.NormsKIdeal.τ).loc Cert.NormsKIdeal.main_arg2)
          ∧ r.2.mem ((c.tc : Thread Cert.NormsKIdeal.nD Cert.NormsKIdeal.τ).loc Cert.NormsKIdeal.main_arg3) = m ((c.tc : Thread Cert.NormsKIdeal.nD Cert.NormsKIdeal.τ).loc Cert.NormsKIdeal.main_arg3)
          ∧ r.2.mem ((c.tc : Thread Cert.NormsKIdeal.nD Cert.NormsKIdeal.τ).loc Cert.NormsKIdeal.main_arg4) = m ((c.tc : Thread Cert.NormsKIdeal.nD Cert.NormsKIdeal.τ).loc Cert.NormsKIdeal.main_arg4)
          ∧ r.2.mem ((c.tc : Thread Cert.NormsKIdeal.nD Cert.NormsKIdeal.τ).loc Cert.NormsKIdeal.main_arg5) = m ((c.tc : Thread Cert.NormsKIdeal.nD Cert.NormsKIdeal.τ).loc Cert.NormsKIdeal.main_arg5)
          ∧ r.2.mem ((c.tc : Thread Cert.NormsKIdeal.nD Cert.NormsKIdeal.τ).loc Cert.NormsKIdeal.main_arg6) = m ((c.tc : Thread Cert.NormsKIdeal.nD Cert.NormsKIdeal.τ).loc Cert.NormsKIdeal.main_arg6)
          ∧ r.2.mem ((c.tc : Thread Cert.NormsKIdeal.nD Cert.NormsKIdeal.τ).loc Cert.NormsKIdeal.main_arg7) = m ((c.tc : Thread Cert.NormsKIdeal.nD Cert.NormsKIdeal.τ).loc Cert.NormsKIdeal.main_arg7))
      ∧ θ_run (Cert.NormsRIdeal.defs (F := Ideal)) (onTc (τ := Cert.NormsRIdeal.τ) (Cert.NormsRIdeal.main (F := Ideal))) ⟨m', fun _ => 0, g'⟩ (fun r => ∀ c : Dev Cert.NormsRIdeal.nD,
          r.2.mem ((c.tc : Thread Cert.NormsRIdeal.nD Cert.NormsRIdeal.τ).loc Cert.NormsRIdeal.main_v59) = v0 c
          ∧ r.2.mem ((c.tc : Thread Cert.NormsRIdeal.nD Cert.NormsRIdeal.τ).loc Cert.NormsRIdeal.main_v81) = v1 c
          ∧ r.2.mem ((c.tc : Thread Cert.NormsRIdeal.nD Cert.NormsRIdeal.τ).loc Cert.NormsRIdeal.main_v80) = v2 c
          ∧ r.2.mem ((c.tc : Thread Cert.NormsRIdeal.nD Cert.NormsRIdeal.τ).loc Cert.NormsRIdeal.main_v42) = v3 c
          ∧ r.2.mem ((c.tc : Thread Cert.NormsRIdeal.nD Cert.NormsRIdeal.τ).loc Cert.NormsRIdeal.main_v63) = v4 c
          ∧ r.2.mem ((c.tc : Thread Cert.NormsRIdeal.nD Cert.NormsRIdeal.τ).loc Cert.NormsRIdeal.main_arg0) = m' ((c.tc : Thread Cert.NormsRIdeal.nD Cert.NormsRIdeal.τ).loc Cert.NormsRIdeal.main_arg0)
          ∧ r.2.mem ((c.tc : Thread Cert.NormsRIdeal.nD Cert.NormsRIdeal.τ).loc Cert.NormsRIdeal.main_arg1) = m' ((c.tc : Thread Cert.NormsRIdeal.nD Cert.NormsRIdeal.τ).loc Cert.NormsRIdeal.main_arg1)
          ∧ r.2.mem ((c.tc : Thread Cert.NormsRIdeal.nD Cert.NormsRIdeal.τ).loc Cert.NormsRIdeal.main_arg2) = m' ((c.tc : Thread Cert.NormsRIdeal.nD Cert.NormsRIdeal.τ).loc Cert.NormsRIdeal.main_arg2)
          ∧ r.2.mem ((c.tc : Thread Cert.NormsRIdeal.nD Cert.NormsRIdeal.τ).loc Cert.NormsRIdeal.main_arg3) = m' ((c.tc : Thread Cert.NormsRIdeal.nD Cert.NormsRIdeal.τ).loc Cert.NormsRIdeal.main_arg3)
          ∧ r.2.mem ((c.tc : Thread Cert.NormsRIdeal.nD Cert.NormsRIdeal.τ).loc Cert.NormsRIdeal.main_arg4) = m' ((c.tc : Thread Cert.NormsRIdeal.nD Cert.NormsRIdeal.τ).loc Cert.NormsRIdeal.main_arg4)
          ∧ r.2.mem ((c.tc : Thread Cert.NormsRIdeal.nD Cert.NormsRIdeal.τ).loc Cert.NormsRIdeal.main_arg5) = m' ((c.tc : Thread Cert.NormsRIdeal.nD Cert.NormsRIdeal.τ).loc Cert.NormsRIdeal.main_arg5)
          ∧ r.2.mem ((c.tc : Thread Cert.NormsRIdeal.nD Cert.NormsRIdeal.τ).loc Cert.NormsRIdeal.main_arg6) = m' ((c.tc : Thread Cert.NormsRIdeal.nD Cert.NormsRIdeal.τ).loc Cert.NormsRIdeal.main_arg6)
          ∧ r.2.mem ((c.tc : Thread Cert.NormsRIdeal.nD Cert.NormsRIdeal.τ).loc Cert.NormsRIdeal.main_arg7) = m' ((c.tc : Thread Cert.NormsRIdeal.nD Cert.NormsRIdeal.τ).loc Cert.NormsRIdeal.main_arg7))

def preserves_DPreK_DPreKIdeal : Prop :=
  True

def algebraic_DPreKIdeal_DPreRIdeal [hDPreKIdeal : Cert.DPreKIdeal.Facts] [hDPreRIdeal : Cert.DPreRIdeal.Facts] : Prop :=
  ∀ (m : (ℓ : Loc Cert.DPreKIdeal.nD Cert.DPreKIdeal.τ Cert.DPreKIdeal.sig) → Buf (Elt Ideal) ℓ) (g : Dev Cert.DPreKIdeal.nD → PrngReg)
    (m' : (ℓ : Loc Cert.DPreRIdeal.nD Cert.DPreRIdeal.τ Cert.DPreRIdeal.sig) → Buf (Elt Ideal) ℓ) (g' : Dev Cert.DPreRIdeal.nD → PrngReg), Pre_DPreKIdeal m →
    (∀ c : Dev Cert.DPreKIdeal.nD,
      m' ((c.tc : Thread Cert.DPreRIdeal.nD Cert.DPreRIdeal.τ).loc Cert.DPreRIdeal.main_arg0) = m ((c.tc : Thread Cert.DPreKIdeal.nD Cert.DPreKIdeal.τ).loc Cert.DPreKIdeal.main_arg0)
      ∧ m' ((c.tc : Thread Cert.DPreRIdeal.nD Cert.DPreRIdeal.τ).loc Cert.DPreRIdeal.main_arg1) = m ((c.tc : Thread Cert.DPreKIdeal.nD Cert.DPreKIdeal.τ).loc Cert.DPreKIdeal.main_arg1)
      ∧ m' ((c.tc : Thread Cert.DPreRIdeal.nD Cert.DPreRIdeal.τ).loc Cert.DPreRIdeal.main_arg2) = m ((c.tc : Thread Cert.DPreKIdeal.nD Cert.DPreKIdeal.τ).loc Cert.DPreKIdeal.main_arg2)) →
    ∃ (v0 : (c : Dev Cert.DPreKIdeal.nD) → Buf (Elt Ideal) ((c.tc : Thread Cert.DPreKIdeal.nD Cert.DPreKIdeal.τ).loc Cert.DPreKIdeal.main_v0)),
      θ_run (Cert.DPreKIdeal.defs (F := Ideal)) (onTc (τ := Cert.DPreKIdeal.τ) (Cert.DPreKIdeal.main (F := Ideal))) ⟨m, fun _ => 0, g⟩ (fun r => ∀ c : Dev Cert.DPreKIdeal.nD,
          r.2.mem ((c.tc : Thread Cert.DPreKIdeal.nD Cert.DPreKIdeal.τ).loc Cert.DPreKIdeal.main_v0) = v0 c
          ∧ r.2.mem ((c.tc : Thread Cert.DPreKIdeal.nD Cert.DPreKIdeal.τ).loc Cert.DPreKIdeal.main_arg0) = m ((c.tc : Thread Cert.DPreKIdeal.nD Cert.DPreKIdeal.τ).loc Cert.DPreKIdeal.main_arg0)
          ∧ r.2.mem ((c.tc : Thread Cert.DPreKIdeal.nD Cert.DPreKIdeal.τ).loc Cert.DPreKIdeal.main_arg1) = m ((c.tc : Thread Cert.DPreKIdeal.nD Cert.DPreKIdeal.τ).loc Cert.DPreKIdeal.main_arg1)
          ∧ r.2.mem ((c.tc : Thread Cert.DPreKIdeal.nD Cert.DPreKIdeal.τ).loc Cert.DPreKIdeal.main_arg2) = m ((c.tc : Thread Cert.DPreKIdeal.nD Cert.DPreKIdeal.τ).loc Cert.DPreKIdeal.main_arg2))
      ∧ θ_run (Cert.DPreRIdeal.defs (F := Ideal)) (onTc (τ := Cert.DPreRIdeal.τ) (Cert.DPreRIdeal.main (F := Ideal))) ⟨m', fun _ => 0, g'⟩ (fun r => ∀ c : Dev Cert.DPreRIdeal.nD,
          r.2.mem ((c.tc : Thread Cert.DPreRIdeal.nD Cert.DPreRIdeal.τ).loc Cert.DPreRIdeal.main_v15) = v0 c
          ∧ r.2.mem ((c.tc : Thread Cert.DPreRIdeal.nD Cert.DPreRIdeal.τ).loc Cert.DPreRIdeal.main_arg0) = m' ((c.tc : Thread Cert.DPreRIdeal.nD Cert.DPreRIdeal.τ).loc Cert.DPreRIdeal.main_arg0)
          ∧ r.2.mem ((c.tc : Thread Cert.DPreRIdeal.nD Cert.DPreRIdeal.τ).loc Cert.DPreRIdeal.main_arg1) = m' ((c.tc : Thread Cert.DPreRIdeal.nD Cert.DPreRIdeal.τ).loc Cert.DPreRIdeal.main_arg1)
          ∧ r.2.mem ((c.tc : Thread Cert.DPreRIdeal.nD Cert.DPreRIdeal.τ).loc Cert.DPreRIdeal.main_arg2) = m' ((c.tc : Thread Cert.DPreRIdeal.nD Cert.DPreRIdeal.τ).loc Cert.DPreRIdeal.main_arg2))

def preserves_DwDownK_DwDownKIdeal : Prop :=
  True

def algebraic_DwDownKIdeal_DwDownRIdeal [hDwDownKIdeal : Cert.DwDownKIdeal.Facts] [hDwDownRIdeal : Cert.DwDownRIdeal.Facts] : Prop :=
  ∀ (m : (ℓ : Loc Cert.DwDownKIdeal.nD Cert.DwDownKIdeal.τ Cert.DwDownKIdeal.sig) → Buf (Elt Ideal) ℓ) (g : Dev Cert.DwDownKIdeal.nD → PrngReg)
    (m' : (ℓ : Loc Cert.DwDownRIdeal.nD Cert.DwDownRIdeal.τ Cert.DwDownRIdeal.sig) → Buf (Elt Ideal) ℓ) (g' : Dev Cert.DwDownRIdeal.nD → PrngReg), Pre_DwDownKIdeal m →
    (∀ c : Dev Cert.DwDownKIdeal.nD,
      m' ((c.tc : Thread Cert.DwDownRIdeal.nD Cert.DwDownRIdeal.τ).loc Cert.DwDownRIdeal.main_arg0) = m ((c.tc : Thread Cert.DwDownKIdeal.nD Cert.DwDownKIdeal.τ).loc Cert.DwDownKIdeal.main_arg0)
      ∧ m' ((c.tc : Thread Cert.DwDownRIdeal.nD Cert.DwDownRIdeal.τ).loc Cert.DwDownRIdeal.main_arg1) = m ((c.tc : Thread Cert.DwDownKIdeal.nD Cert.DwDownKIdeal.τ).loc Cert.DwDownKIdeal.main_arg1)) →
    ∃ (v0 : (c : Dev Cert.DwDownKIdeal.nD) → Buf (Elt Ideal) ((c.tc : Thread Cert.DwDownKIdeal.nD Cert.DwDownKIdeal.τ).loc Cert.DwDownKIdeal.main_v0)),
      θ_run (Cert.DwDownKIdeal.defs (F := Ideal)) (onTc (τ := Cert.DwDownKIdeal.τ) (Cert.DwDownKIdeal.main (F := Ideal))) ⟨m, fun _ => 0, g⟩ (fun r => ∀ c : Dev Cert.DwDownKIdeal.nD,
          r.2.mem ((c.tc : Thread Cert.DwDownKIdeal.nD Cert.DwDownKIdeal.τ).loc Cert.DwDownKIdeal.main_v0) = v0 c
          ∧ r.2.mem ((c.tc : Thread Cert.DwDownKIdeal.nD Cert.DwDownKIdeal.τ).loc Cert.DwDownKIdeal.main_arg0) = m ((c.tc : Thread Cert.DwDownKIdeal.nD Cert.DwDownKIdeal.τ).loc Cert.DwDownKIdeal.main_arg0)
          ∧ r.2.mem ((c.tc : Thread Cert.DwDownKIdeal.nD Cert.DwDownKIdeal.τ).loc Cert.DwDownKIdeal.main_arg1) = m ((c.tc : Thread Cert.DwDownKIdeal.nD Cert.DwDownKIdeal.τ).loc Cert.DwDownKIdeal.main_arg1))
      ∧ θ_run (Cert.DwDownRIdeal.defs (F := Ideal)) (onTc (τ := Cert.DwDownRIdeal.τ) (Cert.DwDownRIdeal.main (F := Ideal))) ⟨m', fun _ => 0, g'⟩ (fun r => ∀ c : Dev Cert.DwDownRIdeal.nD,
          r.2.mem ((c.tc : Thread Cert.DwDownRIdeal.nD Cert.DwDownRIdeal.τ).loc Cert.DwDownRIdeal.main_v7) = v0 c
          ∧ r.2.mem ((c.tc : Thread Cert.DwDownRIdeal.nD Cert.DwDownRIdeal.τ).loc Cert.DwDownRIdeal.main_arg0) = m' ((c.tc : Thread Cert.DwDownRIdeal.nD Cert.DwDownRIdeal.τ).loc Cert.DwDownRIdeal.main_arg0)
          ∧ r.2.mem ((c.tc : Thread Cert.DwDownRIdeal.nD Cert.DwDownRIdeal.τ).loc Cert.DwDownRIdeal.main_arg1) = m' ((c.tc : Thread Cert.DwDownRIdeal.nD Cert.DwDownRIdeal.τ).loc Cert.DwDownRIdeal.main_arg1))

def preserves_DwUpK_DwUpKIdeal : Prop :=
  True

def algebraic_DwUpKIdeal_DwUpRIdeal [hDwUpKIdeal : Cert.DwUpKIdeal.Facts] [hDwUpRIdeal : Cert.DwUpRIdeal.Facts] : Prop :=
  ∀ (m : (ℓ : Loc Cert.DwUpKIdeal.nD Cert.DwUpKIdeal.τ Cert.DwUpKIdeal.sig) → Buf (Elt Ideal) ℓ) (g : Dev Cert.DwUpKIdeal.nD → PrngReg)
    (m' : (ℓ : Loc Cert.DwUpRIdeal.nD Cert.DwUpRIdeal.τ Cert.DwUpRIdeal.sig) → Buf (Elt Ideal) ℓ) (g' : Dev Cert.DwUpRIdeal.nD → PrngReg), Pre_DwUpKIdeal m →
    (∀ c : Dev Cert.DwUpKIdeal.nD,
      m' ((c.tc : Thread Cert.DwUpRIdeal.nD Cert.DwUpRIdeal.τ).loc Cert.DwUpRIdeal.main_arg0) = m ((c.tc : Thread Cert.DwUpKIdeal.nD Cert.DwUpKIdeal.τ).loc Cert.DwUpKIdeal.main_arg0)
      ∧ m' ((c.tc : Thread Cert.DwUpRIdeal.nD Cert.DwUpRIdeal.τ).loc Cert.DwUpRIdeal.main_arg1) = m ((c.tc : Thread Cert.DwUpKIdeal.nD Cert.DwUpKIdeal.τ).loc Cert.DwUpKIdeal.main_arg1)) →
    ∃ (v0 : (c : Dev Cert.DwUpKIdeal.nD) → Buf (Elt Ideal) ((c.tc : Thread Cert.DwUpKIdeal.nD Cert.DwUpKIdeal.τ).loc Cert.DwUpKIdeal.main_v0)),
      θ_run (Cert.DwUpKIdeal.defs (F := Ideal)) (onTc (τ := Cert.DwUpKIdeal.τ) (Cert.DwUpKIdeal.main (F := Ideal))) ⟨m, fun _ => 0, g⟩ (fun r => ∀ c : Dev Cert.DwUpKIdeal.nD,
          r.2.mem ((c.tc : Thread Cert.DwUpKIdeal.nD Cert.DwUpKIdeal.τ).loc Cert.DwUpKIdeal.main_v0) = v0 c
          ∧ r.2.mem ((c.tc : Thread Cert.DwUpKIdeal.nD Cert.DwUpKIdeal.τ).loc Cert.DwUpKIdeal.main_arg0) = m ((c.tc : Thread Cert.DwUpKIdeal.nD Cert.DwUpKIdeal.τ).loc Cert.DwUpKIdeal.main_arg0)
          ∧ r.2.mem ((c.tc : Thread Cert.DwUpKIdeal.nD Cert.DwUpKIdeal.τ).loc Cert.DwUpKIdeal.main_arg1) = m ((c.tc : Thread Cert.DwUpKIdeal.nD Cert.DwUpKIdeal.τ).loc Cert.DwUpKIdeal.main_arg1))
      ∧ θ_run (Cert.DwUpRIdeal.defs (F := Ideal)) (onTc (τ := Cert.DwUpRIdeal.τ) (Cert.DwUpRIdeal.main (F := Ideal))) ⟨m', fun _ => 0, g'⟩ (fun r => ∀ c : Dev Cert.DwUpRIdeal.nD,
          r.2.mem ((c.tc : Thread Cert.DwUpRIdeal.nD Cert.DwUpRIdeal.τ).loc Cert.DwUpRIdeal.main_v7) = v0 c
          ∧ r.2.mem ((c.tc : Thread Cert.DwUpRIdeal.nD Cert.DwUpRIdeal.τ).loc Cert.DwUpRIdeal.main_arg0) = m' ((c.tc : Thread Cert.DwUpRIdeal.nD Cert.DwUpRIdeal.τ).loc Cert.DwUpRIdeal.main_arg0)
          ∧ r.2.mem ((c.tc : Thread Cert.DwUpRIdeal.nD Cert.DwUpRIdeal.τ).loc Cert.DwUpRIdeal.main_arg1) = m' ((c.tc : Thread Cert.DwUpRIdeal.nD Cert.DwUpRIdeal.τ).loc Cert.DwUpRIdeal.main_arg1))

def preserves_OutUpK_OutUpKIdeal : Prop :=
  True

def algebraic_OutUpKIdeal_OutUpRIdeal [hOutUpKIdeal : Cert.OutUpKIdeal.Facts] [hOutUpRIdeal : Cert.OutUpRIdeal.Facts] : Prop :=
  ∀ (m : (ℓ : Loc Cert.OutUpKIdeal.nD Cert.OutUpKIdeal.τ Cert.OutUpKIdeal.sig) → Buf (Elt Ideal) ℓ) (g : Dev Cert.OutUpKIdeal.nD → PrngReg)
    (m' : (ℓ : Loc Cert.OutUpRIdeal.nD Cert.OutUpRIdeal.τ Cert.OutUpRIdeal.sig) → Buf (Elt Ideal) ℓ) (g' : Dev Cert.OutUpRIdeal.nD → PrngReg), Pre_OutUpKIdeal m →
    (∀ c : Dev Cert.OutUpKIdeal.nD,
      m' ((c.tc : Thread Cert.OutUpRIdeal.nD Cert.OutUpRIdeal.τ).loc Cert.OutUpRIdeal.main_arg0) = m ((c.tc : Thread Cert.OutUpKIdeal.nD Cert.OutUpKIdeal.τ).loc Cert.OutUpKIdeal.main_arg0)
      ∧ m' ((c.tc : Thread Cert.OutUpRIdeal.nD Cert.OutUpRIdeal.τ).loc Cert.OutUpRIdeal.main_arg1) = m ((c.tc : Thread Cert.OutUpKIdeal.nD Cert.OutUpKIdeal.τ).loc Cert.OutUpKIdeal.main_arg1)
      ∧ m' ((c.tc : Thread Cert.OutUpRIdeal.nD Cert.OutUpRIdeal.τ).loc Cert.OutUpRIdeal.main_arg2) = m ((c.tc : Thread Cert.OutUpKIdeal.nD Cert.OutUpKIdeal.τ).loc Cert.OutUpKIdeal.main_arg2)
      ∧ m' ((c.tc : Thread Cert.OutUpRIdeal.nD Cert.OutUpRIdeal.τ).loc Cert.OutUpRIdeal.main_arg3) = m ((c.tc : Thread Cert.OutUpKIdeal.nD Cert.OutUpKIdeal.τ).loc Cert.OutUpKIdeal.main_arg3)
      ∧ m' ((c.tc : Thread Cert.OutUpRIdeal.nD Cert.OutUpRIdeal.τ).loc Cert.OutUpRIdeal.main_arg4) = m ((c.tc : Thread Cert.OutUpKIdeal.nD Cert.OutUpKIdeal.τ).loc Cert.OutUpKIdeal.main_arg4)
      ∧ m' ((c.tc : Thread Cert.OutUpRIdeal.nD Cert.OutUpRIdeal.τ).loc Cert.OutUpRIdeal.main_arg5) = m ((c.tc : Thread Cert.OutUpKIdeal.nD Cert.OutUpKIdeal.τ).loc Cert.OutUpKIdeal.main_arg5)) →
    ∃ (v0 : (c : Dev Cert.OutUpKIdeal.nD) → Buf (Elt Ideal) ((c.tc : Thread Cert.OutUpKIdeal.nD Cert.OutUpKIdeal.τ).loc Cert.OutUpKIdeal.main_v0_0)) (v1 : (c : Dev Cert.OutUpKIdeal.nD) → Buf (Elt Ideal) ((c.tc : Thread Cert.OutUpKIdeal.nD Cert.OutUpKIdeal.τ).loc Cert.OutUpKIdeal.main_v0_1)) (v2 : (c : Dev Cert.OutUpKIdeal.nD) → Buf (Elt Ideal) ((c.tc : Thread Cert.OutUpKIdeal.nD Cert.OutUpKIdeal.τ).loc Cert.OutUpKIdeal.main_v0_2)) (v3 : (c : Dev Cert.OutUpKIdeal.nD) → Buf (Elt Ideal) ((c.tc : Thread Cert.OutUpKIdeal.nD Cert.OutUpKIdeal.τ).loc Cert.OutUpKIdeal.main_v0_3)),
      θ_run (Cert.OutUpKIdeal.defs (F := Ideal)) (onTc (τ := Cert.OutUpKIdeal.τ) (Cert.OutUpKIdeal.main (F := Ideal))) ⟨m, fun _ => 0, g⟩ (fun r => ∀ c : Dev Cert.OutUpKIdeal.nD,
          r.2.mem ((c.tc : Thread Cert.OutUpKIdeal.nD Cert.OutUpKIdeal.τ).loc Cert.OutUpKIdeal.main_v0_0) = v0 c
          ∧ r.2.mem ((c.tc : Thread Cert.OutUpKIdeal.nD Cert.OutUpKIdeal.τ).loc Cert.OutUpKIdeal.main_v0_1) = v1 c
          ∧ r.2.mem ((c.tc : Thread Cert.OutUpKIdeal.nD Cert.OutUpKIdeal.τ).loc Cert.OutUpKIdeal.main_v0_2) = v2 c
          ∧ r.2.mem ((c.tc : Thread Cert.OutUpKIdeal.nD Cert.OutUpKIdeal.τ).loc Cert.OutUpKIdeal.main_v0_3) = v3 c
          ∧ r.2.mem ((c.tc : Thread Cert.OutUpKIdeal.nD Cert.OutUpKIdeal.τ).loc Cert.OutUpKIdeal.main_arg0) = m ((c.tc : Thread Cert.OutUpKIdeal.nD Cert.OutUpKIdeal.τ).loc Cert.OutUpKIdeal.main_arg0)
          ∧ r.2.mem ((c.tc : Thread Cert.OutUpKIdeal.nD Cert.OutUpKIdeal.τ).loc Cert.OutUpKIdeal.main_arg1) = m ((c.tc : Thread Cert.OutUpKIdeal.nD Cert.OutUpKIdeal.τ).loc Cert.OutUpKIdeal.main_arg1)
          ∧ r.2.mem ((c.tc : Thread Cert.OutUpKIdeal.nD Cert.OutUpKIdeal.τ).loc Cert.OutUpKIdeal.main_arg2) = m ((c.tc : Thread Cert.OutUpKIdeal.nD Cert.OutUpKIdeal.τ).loc Cert.OutUpKIdeal.main_arg2)
          ∧ r.2.mem ((c.tc : Thread Cert.OutUpKIdeal.nD Cert.OutUpKIdeal.τ).loc Cert.OutUpKIdeal.main_arg3) = m ((c.tc : Thread Cert.OutUpKIdeal.nD Cert.OutUpKIdeal.τ).loc Cert.OutUpKIdeal.main_arg3)
          ∧ r.2.mem ((c.tc : Thread Cert.OutUpKIdeal.nD Cert.OutUpKIdeal.τ).loc Cert.OutUpKIdeal.main_arg4) = m ((c.tc : Thread Cert.OutUpKIdeal.nD Cert.OutUpKIdeal.τ).loc Cert.OutUpKIdeal.main_arg4)
          ∧ r.2.mem ((c.tc : Thread Cert.OutUpKIdeal.nD Cert.OutUpKIdeal.τ).loc Cert.OutUpKIdeal.main_arg5) = m ((c.tc : Thread Cert.OutUpKIdeal.nD Cert.OutUpKIdeal.τ).loc Cert.OutUpKIdeal.main_arg5))
      ∧ θ_run (Cert.OutUpRIdeal.defs (F := Ideal)) (onTc (τ := Cert.OutUpRIdeal.τ) (Cert.OutUpRIdeal.main (F := Ideal))) ⟨m', fun _ => 0, g'⟩ (fun r => ∀ c : Dev Cert.OutUpRIdeal.nD,
          r.2.mem ((c.tc : Thread Cert.OutUpRIdeal.nD Cert.OutUpRIdeal.τ).loc Cert.OutUpRIdeal.main_v2) = v0 c
          ∧ r.2.mem ((c.tc : Thread Cert.OutUpRIdeal.nD Cert.OutUpRIdeal.τ).loc Cert.OutUpRIdeal.main_v15) = v1 c
          ∧ r.2.mem ((c.tc : Thread Cert.OutUpRIdeal.nD Cert.OutUpRIdeal.τ).loc Cert.OutUpRIdeal.main_v28) = v2 c
          ∧ r.2.mem ((c.tc : Thread Cert.OutUpRIdeal.nD Cert.OutUpRIdeal.τ).loc Cert.OutUpRIdeal.main_v31) = v3 c
          ∧ r.2.mem ((c.tc : Thread Cert.OutUpRIdeal.nD Cert.OutUpRIdeal.τ).loc Cert.OutUpRIdeal.main_arg0) = m' ((c.tc : Thread Cert.OutUpRIdeal.nD Cert.OutUpRIdeal.τ).loc Cert.OutUpRIdeal.main_arg0)
          ∧ r.2.mem ((c.tc : Thread Cert.OutUpRIdeal.nD Cert.OutUpRIdeal.τ).loc Cert.OutUpRIdeal.main_arg1) = m' ((c.tc : Thread Cert.OutUpRIdeal.nD Cert.OutUpRIdeal.τ).loc Cert.OutUpRIdeal.main_arg1)
          ∧ r.2.mem ((c.tc : Thread Cert.OutUpRIdeal.nD Cert.OutUpRIdeal.τ).loc Cert.OutUpRIdeal.main_arg2) = m' ((c.tc : Thread Cert.OutUpRIdeal.nD Cert.OutUpRIdeal.τ).loc Cert.OutUpRIdeal.main_arg2)
          ∧ r.2.mem ((c.tc : Thread Cert.OutUpRIdeal.nD Cert.OutUpRIdeal.τ).loc Cert.OutUpRIdeal.main_arg3) = m' ((c.tc : Thread Cert.OutUpRIdeal.nD Cert.OutUpRIdeal.τ).loc Cert.OutUpRIdeal.main_arg3)
          ∧ r.2.mem ((c.tc : Thread Cert.OutUpRIdeal.nD Cert.OutUpRIdeal.τ).loc Cert.OutUpRIdeal.main_arg4) = m' ((c.tc : Thread Cert.OutUpRIdeal.nD Cert.OutUpRIdeal.τ).loc Cert.OutUpRIdeal.main_arg4)
          ∧ r.2.mem ((c.tc : Thread Cert.OutUpRIdeal.nD Cert.OutUpRIdeal.τ).loc Cert.OutUpRIdeal.main_arg5) = m' ((c.tc : Thread Cert.OutUpRIdeal.nD Cert.OutUpRIdeal.τ).loc Cert.OutUpRIdeal.main_arg5))

def preserves_DuK_DuKIdeal : Prop :=
  True

def algebraic_DuKIdeal_DuRIdeal [hDuKIdeal : Cert.DuKIdeal.Facts] [hDuRIdeal : Cert.DuRIdeal.Facts] : Prop :=
  ∀ (m : (ℓ : Loc Cert.DuKIdeal.nD Cert.DuKIdeal.τ Cert.DuKIdeal.sig) → Buf (Elt Ideal) ℓ) (g : Dev Cert.DuKIdeal.nD → PrngReg)
    (m' : (ℓ : Loc Cert.DuRIdeal.nD Cert.DuRIdeal.τ Cert.DuRIdeal.sig) → Buf (Elt Ideal) ℓ) (g' : Dev Cert.DuRIdeal.nD → PrngReg), Pre_DuKIdeal m →
    (∀ c : Dev Cert.DuKIdeal.nD,
      m' ((c.tc : Thread Cert.DuRIdeal.nD Cert.DuRIdeal.τ).loc Cert.DuRIdeal.main_arg0) = m ((c.tc : Thread Cert.DuKIdeal.nD Cert.DuKIdeal.τ).loc Cert.DuKIdeal.main_arg0)
      ∧ m' ((c.tc : Thread Cert.DuRIdeal.nD Cert.DuRIdeal.τ).loc Cert.DuRIdeal.main_arg1) = m ((c.tc : Thread Cert.DuKIdeal.nD Cert.DuKIdeal.τ).loc Cert.DuKIdeal.main_arg1)
      ∧ m' ((c.tc : Thread Cert.DuRIdeal.nD Cert.DuRIdeal.τ).loc Cert.DuRIdeal.main_arg2) = m ((c.tc : Thread Cert.DuKIdeal.nD Cert.DuKIdeal.τ).loc Cert.DuKIdeal.main_arg2)
      ∧ m' ((c.tc : Thread Cert.DuRIdeal.nD Cert.DuRIdeal.τ).loc Cert.DuRIdeal.main_arg3) = m ((c.tc : Thread Cert.DuKIdeal.nD Cert.DuKIdeal.τ).loc Cert.DuKIdeal.main_arg3)
      ∧ m' ((c.tc : Thread Cert.DuRIdeal.nD Cert.DuRIdeal.τ).loc Cert.DuRIdeal.main_arg4) = m ((c.tc : Thread Cert.DuKIdeal.nD Cert.DuKIdeal.τ).loc Cert.DuKIdeal.main_arg4)
      ∧ m' ((c.tc : Thread Cert.DuRIdeal.nD Cert.DuRIdeal.τ).loc Cert.DuRIdeal.main_arg5) = m ((c.tc : Thread Cert.DuKIdeal.nD Cert.DuKIdeal.τ).loc Cert.DuKIdeal.main_arg5)
      ∧ m' ((c.tc : Thread Cert.DuRIdeal.nD Cert.DuRIdeal.τ).loc Cert.DuRIdeal.main_arg6) = m ((c.tc : Thread Cert.DuKIdeal.nD Cert.DuKIdeal.τ).loc Cert.DuKIdeal.main_arg6)
      ∧ m' ((c.tc : Thread Cert.DuRIdeal.nD Cert.DuRIdeal.τ).loc Cert.DuRIdeal.main_arg7) = m ((c.tc : Thread Cert.DuKIdeal.nD Cert.DuKIdeal.τ).loc Cert.DuKIdeal.main_arg7)
      ∧ m' ((c.tc : Thread Cert.DuRIdeal.nD Cert.DuRIdeal.τ).loc Cert.DuRIdeal.main_arg8) = m ((c.tc : Thread Cert.DuKIdeal.nD Cert.DuKIdeal.τ).loc Cert.DuKIdeal.main_arg8)) →
    ∃ (v0 : (c : Dev Cert.DuKIdeal.nD) → Buf (Elt Ideal) ((c.tc : Thread Cert.DuKIdeal.nD Cert.DuKIdeal.τ).loc Cert.DuKIdeal.main_v10_0)) (v1 : (c : Dev Cert.DuKIdeal.nD) → Buf (Elt Ideal) ((c.tc : Thread Cert.DuKIdeal.nD Cert.DuKIdeal.τ).loc Cert.DuKIdeal.main_v10_1)),
      θ_run (Cert.DuKIdeal.defs (F := Ideal)) (onTc (τ := Cert.DuKIdeal.τ) (Cert.DuKIdeal.main (F := Ideal))) ⟨m, fun _ => 0, g⟩ (fun r => ∀ c : Dev Cert.DuKIdeal.nD,
          r.2.mem ((c.tc : Thread Cert.DuKIdeal.nD Cert.DuKIdeal.τ).loc Cert.DuKIdeal.main_v10_0) = v0 c
          ∧ r.2.mem ((c.tc : Thread Cert.DuKIdeal.nD Cert.DuKIdeal.τ).loc Cert.DuKIdeal.main_v10_1) = v1 c
          ∧ r.2.mem ((c.tc : Thread Cert.DuKIdeal.nD Cert.DuKIdeal.τ).loc Cert.DuKIdeal.main_arg0) = m ((c.tc : Thread Cert.DuKIdeal.nD Cert.DuKIdeal.τ).loc Cert.DuKIdeal.main_arg0)
          ∧ r.2.mem ((c.tc : Thread Cert.DuKIdeal.nD Cert.DuKIdeal.τ).loc Cert.DuKIdeal.main_arg1) = m ((c.tc : Thread Cert.DuKIdeal.nD Cert.DuKIdeal.τ).loc Cert.DuKIdeal.main_arg1)
          ∧ r.2.mem ((c.tc : Thread Cert.DuKIdeal.nD Cert.DuKIdeal.τ).loc Cert.DuKIdeal.main_arg2) = m ((c.tc : Thread Cert.DuKIdeal.nD Cert.DuKIdeal.τ).loc Cert.DuKIdeal.main_arg2)
          ∧ r.2.mem ((c.tc : Thread Cert.DuKIdeal.nD Cert.DuKIdeal.τ).loc Cert.DuKIdeal.main_arg3) = m ((c.tc : Thread Cert.DuKIdeal.nD Cert.DuKIdeal.τ).loc Cert.DuKIdeal.main_arg3)
          ∧ r.2.mem ((c.tc : Thread Cert.DuKIdeal.nD Cert.DuKIdeal.τ).loc Cert.DuKIdeal.main_arg4) = m ((c.tc : Thread Cert.DuKIdeal.nD Cert.DuKIdeal.τ).loc Cert.DuKIdeal.main_arg4)
          ∧ r.2.mem ((c.tc : Thread Cert.DuKIdeal.nD Cert.DuKIdeal.τ).loc Cert.DuKIdeal.main_arg5) = m ((c.tc : Thread Cert.DuKIdeal.nD Cert.DuKIdeal.τ).loc Cert.DuKIdeal.main_arg5)
          ∧ r.2.mem ((c.tc : Thread Cert.DuKIdeal.nD Cert.DuKIdeal.τ).loc Cert.DuKIdeal.main_arg6) = m ((c.tc : Thread Cert.DuKIdeal.nD Cert.DuKIdeal.τ).loc Cert.DuKIdeal.main_arg6)
          ∧ r.2.mem ((c.tc : Thread Cert.DuKIdeal.nD Cert.DuKIdeal.τ).loc Cert.DuKIdeal.main_arg7) = m ((c.tc : Thread Cert.DuKIdeal.nD Cert.DuKIdeal.τ).loc Cert.DuKIdeal.main_arg7)
          ∧ r.2.mem ((c.tc : Thread Cert.DuKIdeal.nD Cert.DuKIdeal.τ).loc Cert.DuKIdeal.main_arg8) = m ((c.tc : Thread Cert.DuKIdeal.nD Cert.DuKIdeal.τ).loc Cert.DuKIdeal.main_arg8))
      ∧ θ_run (Cert.DuRIdeal.defs (F := Ideal)) (onTc (τ := Cert.DuRIdeal.τ) (Cert.DuRIdeal.main (F := Ideal))) ⟨m', fun _ => 0, g'⟩ (fun r => ∀ c : Dev Cert.DuRIdeal.nD,
          r.2.mem ((c.tc : Thread Cert.DuRIdeal.nD Cert.DuRIdeal.τ).loc Cert.DuRIdeal.main_v54) = v0 c
          ∧ r.2.mem ((c.tc : Thread Cert.DuRIdeal.nD Cert.DuRIdeal.τ).loc Cert.DuRIdeal.main_v37) = v1 c
          ∧ r.2.mem ((c.tc : Thread Cert.DuRIdeal.nD Cert.DuRIdeal.τ).loc Cert.DuRIdeal.main_arg0) = m' ((c.tc : Thread Cert.DuRIdeal.nD Cert.DuRIdeal.τ).loc Cert.DuRIdeal.main_arg0)
          ∧ r.2.mem ((c.tc : Thread Cert.DuRIdeal.nD Cert.DuRIdeal.τ).loc Cert.DuRIdeal.main_arg1) = m' ((c.tc : Thread Cert.DuRIdeal.nD Cert.DuRIdeal.τ).loc Cert.DuRIdeal.main_arg1)
          ∧ r.2.mem ((c.tc : Thread Cert.DuRIdeal.nD Cert.DuRIdeal.τ).loc Cert.DuRIdeal.main_arg2) = m' ((c.tc : Thread Cert.DuRIdeal.nD Cert.DuRIdeal.τ).loc Cert.DuRIdeal.main_arg2)
          ∧ r.2.mem ((c.tc : Thread Cert.DuRIdeal.nD Cert.DuRIdeal.τ).loc Cert.DuRIdeal.main_arg3) = m' ((c.tc : Thread Cert.DuRIdeal.nD Cert.DuRIdeal.τ).loc Cert.DuRIdeal.main_arg3)
          ∧ r.2.mem ((c.tc : Thread Cert.DuRIdeal.nD Cert.DuRIdeal.τ).loc Cert.DuRIdeal.main_arg4) = m' ((c.tc : Thread Cert.DuRIdeal.nD Cert.DuRIdeal.τ).loc Cert.DuRIdeal.main_arg4)
          ∧ r.2.mem ((c.tc : Thread Cert.DuRIdeal.nD Cert.DuRIdeal.τ).loc Cert.DuRIdeal.main_arg5) = m' ((c.tc : Thread Cert.DuRIdeal.nD Cert.DuRIdeal.τ).loc Cert.DuRIdeal.main_arg5)
          ∧ r.2.mem ((c.tc : Thread Cert.DuRIdeal.nD Cert.DuRIdeal.τ).loc Cert.DuRIdeal.main_arg6) = m' ((c.tc : Thread Cert.DuRIdeal.nD Cert.DuRIdeal.τ).loc Cert.DuRIdeal.main_arg6)
          ∧ r.2.mem ((c.tc : Thread Cert.DuRIdeal.nD Cert.DuRIdeal.τ).loc Cert.DuRIdeal.main_arg7) = m' ((c.tc : Thread Cert.DuRIdeal.nD Cert.DuRIdeal.τ).loc Cert.DuRIdeal.main_arg7)
          ∧ r.2.mem ((c.tc : Thread Cert.DuRIdeal.nD Cert.DuRIdeal.τ).loc Cert.DuRIdeal.main_arg8) = m' ((c.tc : Thread Cert.DuRIdeal.nD Cert.DuRIdeal.τ).loc Cert.DuRIdeal.main_arg8))

def preserves_DwInK_DwInKIdeal : Prop :=
  True

def algebraic_DwInKIdeal_DwInRIdeal [hDwInKIdeal : Cert.DwInKIdeal.Facts] [hDwInRIdeal : Cert.DwInRIdeal.Facts] : Prop :=
  ∀ (m : (ℓ : Loc Cert.DwInKIdeal.nD Cert.DwInKIdeal.τ Cert.DwInKIdeal.sig) → Buf (Elt Ideal) ℓ) (g : Dev Cert.DwInKIdeal.nD → PrngReg)
    (m' : (ℓ : Loc Cert.DwInRIdeal.nD Cert.DwInRIdeal.τ Cert.DwInRIdeal.sig) → Buf (Elt Ideal) ℓ) (g' : Dev Cert.DwInRIdeal.nD → PrngReg), Pre_DwInKIdeal m →
    (∀ c : Dev Cert.DwInKIdeal.nD,
      m' ((c.tc : Thread Cert.DwInRIdeal.nD Cert.DwInRIdeal.τ).loc Cert.DwInRIdeal.main_arg0) = m ((c.tc : Thread Cert.DwInKIdeal.nD Cert.DwInKIdeal.τ).loc Cert.DwInKIdeal.main_arg0)
      ∧ m' ((c.tc : Thread Cert.DwInRIdeal.nD Cert.DwInRIdeal.τ).loc Cert.DwInRIdeal.main_arg1) = m ((c.tc : Thread Cert.DwInKIdeal.nD Cert.DwInKIdeal.τ).loc Cert.DwInKIdeal.main_arg1)) →
    ∃ (v0 : (c : Dev Cert.DwInKIdeal.nD) → Buf (Elt Ideal) ((c.tc : Thread Cert.DwInKIdeal.nD Cert.DwInKIdeal.τ).loc Cert.DwInKIdeal.main_v0)),
      θ_run (Cert.DwInKIdeal.defs (F := Ideal)) (onTc (τ := Cert.DwInKIdeal.τ) (Cert.DwInKIdeal.main (F := Ideal))) ⟨m, fun _ => 0, g⟩ (fun r => ∀ c : Dev Cert.DwInKIdeal.nD,
          r.2.mem ((c.tc : Thread Cert.DwInKIdeal.nD Cert.DwInKIdeal.τ).loc Cert.DwInKIdeal.main_v0) = v0 c
          ∧ r.2.mem ((c.tc : Thread Cert.DwInKIdeal.nD Cert.DwInKIdeal.τ).loc Cert.DwInKIdeal.main_arg0) = m ((c.tc : Thread Cert.DwInKIdeal.nD Cert.DwInKIdeal.τ).loc Cert.DwInKIdeal.main_arg0)
          ∧ r.2.mem ((c.tc : Thread Cert.DwInKIdeal.nD Cert.DwInKIdeal.τ).loc Cert.DwInKIdeal.main_arg1) = m ((c.tc : Thread Cert.DwInKIdeal.nD Cert.DwInKIdeal.τ).loc Cert.DwInKIdeal.main_arg1))
      ∧ θ_run (Cert.DwInRIdeal.defs (F := Ideal)) (onTc (τ := Cert.DwInRIdeal.τ) (Cert.DwInRIdeal.main (F := Ideal))) ⟨m', fun _ => 0, g'⟩ (fun r => ∀ c : Dev Cert.DwInRIdeal.nD,
          r.2.mem ((c.tc : Thread Cert.DwInRIdeal.nD Cert.DwInRIdeal.τ).loc Cert.DwInRIdeal.main_v6) = v0 c
          ∧ r.2.mem ((c.tc : Thread Cert.DwInRIdeal.nD Cert.DwInRIdeal.τ).loc Cert.DwInRIdeal.main_arg0) = m' ((c.tc : Thread Cert.DwInRIdeal.nD Cert.DwInRIdeal.τ).loc Cert.DwInRIdeal.main_arg0)
          ∧ r.2.mem ((c.tc : Thread Cert.DwInRIdeal.nD Cert.DwInRIdeal.τ).loc Cert.DwInRIdeal.main_arg1) = m' ((c.tc : Thread Cert.DwInRIdeal.nD Cert.DwInRIdeal.τ).loc Cert.DwInRIdeal.main_arg1))

def preserves_DwOutK_DwOutKIdeal : Prop :=
  True

def algebraic_DwOutKIdeal_DwOutRIdeal [hDwOutKIdeal : Cert.DwOutKIdeal.Facts] [hDwOutRIdeal : Cert.DwOutRIdeal.Facts] : Prop :=
  ∀ (m : (ℓ : Loc Cert.DwOutKIdeal.nD Cert.DwOutKIdeal.τ Cert.DwOutKIdeal.sig) → Buf (Elt Ideal) ℓ) (g : Dev Cert.DwOutKIdeal.nD → PrngReg)
    (m' : (ℓ : Loc Cert.DwOutRIdeal.nD Cert.DwOutRIdeal.τ Cert.DwOutRIdeal.sig) → Buf (Elt Ideal) ℓ) (g' : Dev Cert.DwOutRIdeal.nD → PrngReg), Pre_DwOutKIdeal m →
    (∀ c : Dev Cert.DwOutKIdeal.nD,
      m' ((c.tc : Thread Cert.DwOutRIdeal.nD Cert.DwOutRIdeal.τ).loc Cert.DwOutRIdeal.main_arg0) = m ((c.tc : Thread Cert.DwOutKIdeal.nD Cert.DwOutKIdeal.τ).loc Cert.DwOutKIdeal.main_arg0)
      ∧ m' ((c.tc : Thread Cert.DwOutRIdeal.nD Cert.DwOutRIdeal.τ).loc Cert.DwOutRIdeal.main_arg1) = m ((c.tc : Thread Cert.DwOutKIdeal.nD Cert.DwOutKIdeal.τ).loc Cert.DwOutKIdeal.main_arg1)) →
    ∃ (v0 : (c : Dev Cert.DwOutKIdeal.nD) → Buf (Elt Ideal) ((c.tc : Thread Cert.DwOutKIdeal.nD Cert.DwOutKIdeal.τ).loc Cert.DwOutKIdeal.main_v0)),
      θ_run (Cert.DwOutKIdeal.defs (F := Ideal)) (onTc (τ := Cert.DwOutKIdeal.τ) (Cert.DwOutKIdeal.main (F := Ideal))) ⟨m, fun _ => 0, g⟩ (fun r => ∀ c : Dev Cert.DwOutKIdeal.nD,
          r.2.mem ((c.tc : Thread Cert.DwOutKIdeal.nD Cert.DwOutKIdeal.τ).loc Cert.DwOutKIdeal.main_v0) = v0 c
          ∧ r.2.mem ((c.tc : Thread Cert.DwOutKIdeal.nD Cert.DwOutKIdeal.τ).loc Cert.DwOutKIdeal.main_arg0) = m ((c.tc : Thread Cert.DwOutKIdeal.nD Cert.DwOutKIdeal.τ).loc Cert.DwOutKIdeal.main_arg0)
          ∧ r.2.mem ((c.tc : Thread Cert.DwOutKIdeal.nD Cert.DwOutKIdeal.τ).loc Cert.DwOutKIdeal.main_arg1) = m ((c.tc : Thread Cert.DwOutKIdeal.nD Cert.DwOutKIdeal.τ).loc Cert.DwOutKIdeal.main_arg1))
      ∧ θ_run (Cert.DwOutRIdeal.defs (F := Ideal)) (onTc (τ := Cert.DwOutRIdeal.τ) (Cert.DwOutRIdeal.main (F := Ideal))) ⟨m', fun _ => 0, g'⟩ (fun r => ∀ c : Dev Cert.DwOutRIdeal.nD,
          r.2.mem ((c.tc : Thread Cert.DwOutRIdeal.nD Cert.DwOutRIdeal.τ).loc Cert.DwOutRIdeal.main_v5) = v0 c
          ∧ r.2.mem ((c.tc : Thread Cert.DwOutRIdeal.nD Cert.DwOutRIdeal.τ).loc Cert.DwOutRIdeal.main_arg0) = m' ((c.tc : Thread Cert.DwOutRIdeal.nD Cert.DwOutRIdeal.τ).loc Cert.DwOutRIdeal.main_arg0)
          ∧ r.2.mem ((c.tc : Thread Cert.DwOutRIdeal.nD Cert.DwOutRIdeal.τ).loc Cert.DwOutRIdeal.main_arg1) = m' ((c.tc : Thread Cert.DwOutRIdeal.nD Cert.DwOutRIdeal.τ).loc Cert.DwOutRIdeal.main_arg1))

def preserves_DwZK_DwZKIdeal : Prop :=
  True

def algebraic_DwZKIdeal_DwZRIdeal [hDwZKIdeal : Cert.DwZKIdeal.Facts] [hDwZRIdeal : Cert.DwZRIdeal.Facts] : Prop :=
  ∀ (m : (ℓ : Loc Cert.DwZKIdeal.nD Cert.DwZKIdeal.τ Cert.DwZKIdeal.sig) → Buf (Elt Ideal) ℓ) (g : Dev Cert.DwZKIdeal.nD → PrngReg)
    (m' : (ℓ : Loc Cert.DwZRIdeal.nD Cert.DwZRIdeal.τ Cert.DwZRIdeal.sig) → Buf (Elt Ideal) ℓ) (g' : Dev Cert.DwZRIdeal.nD → PrngReg), Pre_DwZKIdeal m →
    (∀ c : Dev Cert.DwZKIdeal.nD,
      m' ((c.tc : Thread Cert.DwZRIdeal.nD Cert.DwZRIdeal.τ).loc Cert.DwZRIdeal.main_arg0) = m ((c.tc : Thread Cert.DwZKIdeal.nD Cert.DwZKIdeal.τ).loc Cert.DwZKIdeal.main_arg0)
      ∧ m' ((c.tc : Thread Cert.DwZRIdeal.nD Cert.DwZRIdeal.τ).loc Cert.DwZRIdeal.main_arg1) = m ((c.tc : Thread Cert.DwZKIdeal.nD Cert.DwZKIdeal.τ).loc Cert.DwZKIdeal.main_arg1)) →
    ∃ (v0 : (c : Dev Cert.DwZKIdeal.nD) → Buf (Elt Ideal) ((c.tc : Thread Cert.DwZKIdeal.nD Cert.DwZKIdeal.τ).loc Cert.DwZKIdeal.main_v0)),
      θ_run (Cert.DwZKIdeal.defs (F := Ideal)) (onTc (τ := Cert.DwZKIdeal.τ) (Cert.DwZKIdeal.main (F := Ideal))) ⟨m, fun _ => 0, g⟩ (fun r => ∀ c : Dev Cert.DwZKIdeal.nD,
          r.2.mem ((c.tc : Thread Cert.DwZKIdeal.nD Cert.DwZKIdeal.τ).loc Cert.DwZKIdeal.main_v0) = v0 c
          ∧ r.2.mem ((c.tc : Thread Cert.DwZKIdeal.nD Cert.DwZKIdeal.τ).loc Cert.DwZKIdeal.main_arg0) = m ((c.tc : Thread Cert.DwZKIdeal.nD Cert.DwZKIdeal.τ).loc Cert.DwZKIdeal.main_arg0)
          ∧ r.2.mem ((c.tc : Thread Cert.DwZKIdeal.nD Cert.DwZKIdeal.τ).loc Cert.DwZKIdeal.main_arg1) = m ((c.tc : Thread Cert.DwZKIdeal.nD Cert.DwZKIdeal.τ).loc Cert.DwZKIdeal.main_arg1))
      ∧ θ_run (Cert.DwZRIdeal.defs (F := Ideal)) (onTc (τ := Cert.DwZRIdeal.τ) (Cert.DwZRIdeal.main (F := Ideal))) ⟨m', fun _ => 0, g'⟩ (fun r => ∀ c : Dev Cert.DwZRIdeal.nD,
          r.2.mem ((c.tc : Thread Cert.DwZRIdeal.nD Cert.DwZRIdeal.τ).loc Cert.DwZRIdeal.main_v6) = v0 c
          ∧ r.2.mem ((c.tc : Thread Cert.DwZRIdeal.nD Cert.DwZRIdeal.τ).loc Cert.DwZRIdeal.main_arg0) = m' ((c.tc : Thread Cert.DwZRIdeal.nD Cert.DwZRIdeal.τ).loc Cert.DwZRIdeal.main_arg0)
          ∧ r.2.mem ((c.tc : Thread Cert.DwZRIdeal.nD Cert.DwZRIdeal.τ).loc Cert.DwZRIdeal.main_arg1) = m' ((c.tc : Thread Cert.DwZRIdeal.nD Cert.DwZRIdeal.τ).loc Cert.DwZRIdeal.main_arg1))

def preserves_DwXlK_DwXlKIdeal : Prop :=
  True

def algebraic_DwXlKIdeal_DwXlRIdeal [hDwXlKIdeal : Cert.DwXlKIdeal.Facts] [hDwXlRIdeal : Cert.DwXlRIdeal.Facts] : Prop :=
  ∀ (m : (ℓ : Loc Cert.DwXlKIdeal.nD Cert.DwXlKIdeal.τ Cert.DwXlKIdeal.sig) → Buf (Elt Ideal) ℓ) (g : Dev Cert.DwXlKIdeal.nD → PrngReg)
    (m' : (ℓ : Loc Cert.DwXlRIdeal.nD Cert.DwXlRIdeal.τ Cert.DwXlRIdeal.sig) → Buf (Elt Ideal) ℓ) (g' : Dev Cert.DwXlRIdeal.nD → PrngReg), Pre_DwXlKIdeal m →
    (∀ c : Dev Cert.DwXlKIdeal.nD,
      m' ((c.tc : Thread Cert.DwXlRIdeal.nD Cert.DwXlRIdeal.τ).loc Cert.DwXlRIdeal.main_arg0) = m ((c.tc : Thread Cert.DwXlKIdeal.nD Cert.DwXlKIdeal.τ).loc Cert.DwXlKIdeal.main_arg0)
      ∧ m' ((c.tc : Thread Cert.DwXlRIdeal.nD Cert.DwXlRIdeal.τ).loc Cert.DwXlRIdeal.main_arg1) = m ((c.tc : Thread Cert.DwXlKIdeal.nD Cert.DwXlKIdeal.τ).loc Cert.DwXlKIdeal.main_arg1)) →
    ∃ (v0 : (c : Dev Cert.DwXlKIdeal.nD) → Buf (Elt Ideal) ((c.tc : Thread Cert.DwXlKIdeal.nD Cert.DwXlKIdeal.τ).loc Cert.DwXlKIdeal.main_v0)),
      θ_run (Cert.DwXlKIdeal.defs (F := Ideal)) (onTc (τ := Cert.DwXlKIdeal.τ) (Cert.DwXlKIdeal.main (F := Ideal))) ⟨m, fun _ => 0, g⟩ (fun r => ∀ c : Dev Cert.DwXlKIdeal.nD,
          r.2.mem ((c.tc : Thread Cert.DwXlKIdeal.nD Cert.DwXlKIdeal.τ).loc Cert.DwXlKIdeal.main_v0) = v0 c
          ∧ r.2.mem ((c.tc : Thread Cert.DwXlKIdeal.nD Cert.DwXlKIdeal.τ).loc Cert.DwXlKIdeal.main_arg0) = m ((c.tc : Thread Cert.DwXlKIdeal.nD Cert.DwXlKIdeal.τ).loc Cert.DwXlKIdeal.main_arg0)
          ∧ r.2.mem ((c.tc : Thread Cert.DwXlKIdeal.nD Cert.DwXlKIdeal.τ).loc Cert.DwXlKIdeal.main_arg1) = m ((c.tc : Thread Cert.DwXlKIdeal.nD Cert.DwXlKIdeal.τ).loc Cert.DwXlKIdeal.main_arg1))
      ∧ θ_run (Cert.DwXlRIdeal.defs (F := Ideal)) (onTc (τ := Cert.DwXlRIdeal.τ) (Cert.DwXlRIdeal.main (F := Ideal))) ⟨m', fun _ => 0, g'⟩ (fun r => ∀ c : Dev Cert.DwXlRIdeal.nD,
          r.2.mem ((c.tc : Thread Cert.DwXlRIdeal.nD Cert.DwXlRIdeal.τ).loc Cert.DwXlRIdeal.main_v6) = v0 c
          ∧ r.2.mem ((c.tc : Thread Cert.DwXlRIdeal.nD Cert.DwXlRIdeal.τ).loc Cert.DwXlRIdeal.main_arg0) = m' ((c.tc : Thread Cert.DwXlRIdeal.nD Cert.DwXlRIdeal.τ).loc Cert.DwXlRIdeal.main_arg0)
          ∧ r.2.mem ((c.tc : Thread Cert.DwXlRIdeal.nD Cert.DwXlRIdeal.τ).loc Cert.DwXlRIdeal.main_arg1) = m' ((c.tc : Thread Cert.DwXlRIdeal.nD Cert.DwXlRIdeal.τ).loc Cert.DwXlRIdeal.main_arg1))

def preserves_DwXbcK_DwXbcKIdeal : Prop :=
  True

def algebraic_DwXbcKIdeal_DwXbcRIdeal [hDwXbcKIdeal : Cert.DwXbcKIdeal.Facts] [hDwXbcRIdeal : Cert.DwXbcRIdeal.Facts] : Prop :=
  ∀ (m : (ℓ : Loc Cert.DwXbcKIdeal.nD Cert.DwXbcKIdeal.τ Cert.DwXbcKIdeal.sig) → Buf (Elt Ideal) ℓ) (g : Dev Cert.DwXbcKIdeal.nD → PrngReg)
    (m' : (ℓ : Loc Cert.DwXbcRIdeal.nD Cert.DwXbcRIdeal.τ Cert.DwXbcRIdeal.sig) → Buf (Elt Ideal) ℓ) (g' : Dev Cert.DwXbcRIdeal.nD → PrngReg), Pre_DwXbcKIdeal m →
    (∀ c : Dev Cert.DwXbcKIdeal.nD,
      m' ((c.tc : Thread Cert.DwXbcRIdeal.nD Cert.DwXbcRIdeal.τ).loc Cert.DwXbcRIdeal.main_arg0) = m ((c.tc : Thread Cert.DwXbcKIdeal.nD Cert.DwXbcKIdeal.τ).loc Cert.DwXbcKIdeal.main_arg0)
      ∧ m' ((c.tc : Thread Cert.DwXbcRIdeal.nD Cert.DwXbcRIdeal.τ).loc Cert.DwXbcRIdeal.main_arg1) = m ((c.tc : Thread Cert.DwXbcKIdeal.nD Cert.DwXbcKIdeal.τ).loc Cert.DwXbcKIdeal.main_arg1)) →
    ∃ (v0 : (c : Dev Cert.DwXbcKIdeal.nD) → Buf (Elt Ideal) ((c.tc : Thread Cert.DwXbcKIdeal.nD Cert.DwXbcKIdeal.τ).loc Cert.DwXbcKIdeal.main_v0)),
      θ_run (Cert.DwXbcKIdeal.defs (F := Ideal)) (onTc (τ := Cert.DwXbcKIdeal.τ) (Cert.DwXbcKIdeal.main (F := Ideal))) ⟨m, fun _ => 0, g⟩ (fun r => ∀ c : Dev Cert.DwXbcKIdeal.nD,
          r.2.mem ((c.tc : Thread Cert.DwXbcKIdeal.nD Cert.DwXbcKIdeal.τ).loc Cert.DwXbcKIdeal.main_v0) = v0 c
          ∧ r.2.mem ((c.tc : Thread Cert.DwXbcKIdeal.nD Cert.DwXbcKIdeal.τ).loc Cert.DwXbcKIdeal.main_arg0) = m ((c.tc : Thread Cert.DwXbcKIdeal.nD Cert.DwXbcKIdeal.τ).loc Cert.DwXbcKIdeal.main_arg0)
          ∧ r.2.mem ((c.tc : Thread Cert.DwXbcKIdeal.nD Cert.DwXbcKIdeal.τ).loc Cert.DwXbcKIdeal.main_arg1) = m ((c.tc : Thread Cert.DwXbcKIdeal.nD Cert.DwXbcKIdeal.τ).loc Cert.DwXbcKIdeal.main_arg1))
      ∧ θ_run (Cert.DwXbcRIdeal.defs (F := Ideal)) (onTc (τ := Cert.DwXbcRIdeal.τ) (Cert.DwXbcRIdeal.main (F := Ideal))) ⟨m', fun _ => 0, g'⟩ (fun r => ∀ c : Dev Cert.DwXbcRIdeal.nD,
          r.2.mem ((c.tc : Thread Cert.DwXbcRIdeal.nD Cert.DwXbcRIdeal.τ).loc Cert.DwXbcRIdeal.main_v6) = v0 c
          ∧ r.2.mem ((c.tc : Thread Cert.DwXbcRIdeal.nD Cert.DwXbcRIdeal.τ).loc Cert.DwXbcRIdeal.main_arg0) = m' ((c.tc : Thread Cert.DwXbcRIdeal.nD Cert.DwXbcRIdeal.τ).loc Cert.DwXbcRIdeal.main_arg0)
          ∧ r.2.mem ((c.tc : Thread Cert.DwXbcRIdeal.nD Cert.DwXbcRIdeal.τ).loc Cert.DwXbcRIdeal.main_arg1) = m' ((c.tc : Thread Cert.DwXbcRIdeal.nD Cert.DwXbcRIdeal.τ).loc Cert.DwXbcRIdeal.main_arg1))

def preserves_DwDtK_DwDtKIdeal : Prop :=
  True

def algebraic_DwDtKIdeal_DwDtRIdeal [hDwDtKIdeal : Cert.DwDtKIdeal.Facts] [hDwDtRIdeal : Cert.DwDtRIdeal.Facts] : Prop :=
  ∀ (m : (ℓ : Loc Cert.DwDtKIdeal.nD Cert.DwDtKIdeal.τ Cert.DwDtKIdeal.sig) → Buf (Elt Ideal) ℓ) (g : Dev Cert.DwDtKIdeal.nD → PrngReg)
    (m' : (ℓ : Loc Cert.DwDtRIdeal.nD Cert.DwDtRIdeal.τ Cert.DwDtRIdeal.sig) → Buf (Elt Ideal) ℓ) (g' : Dev Cert.DwDtRIdeal.nD → PrngReg), Pre_DwDtKIdeal m →
    (∀ c : Dev Cert.DwDtKIdeal.nD,
      m' ((c.tc : Thread Cert.DwDtRIdeal.nD Cert.DwDtRIdeal.τ).loc Cert.DwDtRIdeal.main_arg0) = m ((c.tc : Thread Cert.DwDtKIdeal.nD Cert.DwDtKIdeal.τ).loc Cert.DwDtKIdeal.main_arg0)
      ∧ m' ((c.tc : Thread Cert.DwDtRIdeal.nD Cert.DwDtRIdeal.τ).loc Cert.DwDtRIdeal.main_arg1) = m ((c.tc : Thread Cert.DwDtKIdeal.nD Cert.DwDtKIdeal.τ).loc Cert.DwDtKIdeal.main_arg1)) →
    ∃ (v0 : (c : Dev Cert.DwDtKIdeal.nD) → Buf (Elt Ideal) ((c.tc : Thread Cert.DwDtKIdeal.nD Cert.DwDtKIdeal.τ).loc Cert.DwDtKIdeal.main_v0)),
      θ_run (Cert.DwDtKIdeal.defs (F := Ideal)) (onTc (τ := Cert.DwDtKIdeal.τ) (Cert.DwDtKIdeal.main (F := Ideal))) ⟨m, fun _ => 0, g⟩ (fun r => ∀ c : Dev Cert.DwDtKIdeal.nD,
          r.2.mem ((c.tc : Thread Cert.DwDtKIdeal.nD Cert.DwDtKIdeal.τ).loc Cert.DwDtKIdeal.main_v0) = v0 c
          ∧ r.2.mem ((c.tc : Thread Cert.DwDtKIdeal.nD Cert.DwDtKIdeal.τ).loc Cert.DwDtKIdeal.main_arg0) = m ((c.tc : Thread Cert.DwDtKIdeal.nD Cert.DwDtKIdeal.τ).loc Cert.DwDtKIdeal.main_arg0)
          ∧ r.2.mem ((c.tc : Thread Cert.DwDtKIdeal.nD Cert.DwDtKIdeal.τ).loc Cert.DwDtKIdeal.main_arg1) = m ((c.tc : Thread Cert.DwDtKIdeal.nD Cert.DwDtKIdeal.τ).loc Cert.DwDtKIdeal.main_arg1))
      ∧ θ_run (Cert.DwDtRIdeal.defs (F := Ideal)) (onTc (τ := Cert.DwDtRIdeal.τ) (Cert.DwDtRIdeal.main (F := Ideal))) ⟨m', fun _ => 0, g'⟩ (fun r => ∀ c : Dev Cert.DwDtRIdeal.nD,
          r.2.mem ((c.tc : Thread Cert.DwDtRIdeal.nD Cert.DwDtRIdeal.τ).loc Cert.DwDtRIdeal.main_v6) = v0 c
          ∧ r.2.mem ((c.tc : Thread Cert.DwDtRIdeal.nD Cert.DwDtRIdeal.τ).loc Cert.DwDtRIdeal.main_arg0) = m' ((c.tc : Thread Cert.DwDtRIdeal.nD Cert.DwDtRIdeal.τ).loc Cert.DwDtRIdeal.main_arg0)
          ∧ r.2.mem ((c.tc : Thread Cert.DwDtRIdeal.nD Cert.DwDtRIdeal.τ).loc Cert.DwDtRIdeal.main_arg1) = m' ((c.tc : Thread Cert.DwDtRIdeal.nD Cert.DwDtRIdeal.τ).loc Cert.DwDtRIdeal.main_arg1))

def preserves_PXbcK_PXbcKIdeal : Prop :=
  True

def algebraic_PXbcKIdeal_PXbcRIdeal [hPXbcKIdeal : Cert.PXbcKIdeal.Facts] [hPXbcRIdeal : Cert.PXbcRIdeal.Facts] : Prop :=
  ∀ (m : (ℓ : Loc Cert.PXbcKIdeal.nD Cert.PXbcKIdeal.τ Cert.PXbcKIdeal.sig) → Buf (Elt Ideal) ℓ) (g : Dev Cert.PXbcKIdeal.nD → PrngReg)
    (m' : (ℓ : Loc Cert.PXbcRIdeal.nD Cert.PXbcRIdeal.τ Cert.PXbcRIdeal.sig) → Buf (Elt Ideal) ℓ) (g' : Dev Cert.PXbcRIdeal.nD → PrngReg), Pre_PXbcKIdeal m →
    (∀ c : Dev Cert.PXbcKIdeal.nD,
      m' ((c.tc : Thread Cert.PXbcRIdeal.nD Cert.PXbcRIdeal.τ).loc Cert.PXbcRIdeal.main_arg0) = m ((c.tc : Thread Cert.PXbcKIdeal.nD Cert.PXbcKIdeal.τ).loc Cert.PXbcKIdeal.main_arg0)
      ∧ m' ((c.tc : Thread Cert.PXbcRIdeal.nD Cert.PXbcRIdeal.τ).loc Cert.PXbcRIdeal.main_arg1) = m ((c.tc : Thread Cert.PXbcKIdeal.nD Cert.PXbcKIdeal.τ).loc Cert.PXbcKIdeal.main_arg1)) →
    ∃ (v0 : (c : Dev Cert.PXbcKIdeal.nD) → Buf (Elt Ideal) ((c.tc : Thread Cert.PXbcKIdeal.nD Cert.PXbcKIdeal.τ).loc Cert.PXbcKIdeal.main_v0)),
      θ_run (Cert.PXbcKIdeal.defs (F := Ideal)) (onTc (τ := Cert.PXbcKIdeal.τ) (Cert.PXbcKIdeal.main (F := Ideal))) ⟨m, fun _ => 0, g⟩ (fun r => ∀ c : Dev Cert.PXbcKIdeal.nD,
          r.2.mem ((c.tc : Thread Cert.PXbcKIdeal.nD Cert.PXbcKIdeal.τ).loc Cert.PXbcKIdeal.main_v0) = v0 c
          ∧ r.2.mem ((c.tc : Thread Cert.PXbcKIdeal.nD Cert.PXbcKIdeal.τ).loc Cert.PXbcKIdeal.main_arg0) = m ((c.tc : Thread Cert.PXbcKIdeal.nD Cert.PXbcKIdeal.τ).loc Cert.PXbcKIdeal.main_arg0)
          ∧ r.2.mem ((c.tc : Thread Cert.PXbcKIdeal.nD Cert.PXbcKIdeal.τ).loc Cert.PXbcKIdeal.main_arg1) = m ((c.tc : Thread Cert.PXbcKIdeal.nD Cert.PXbcKIdeal.τ).loc Cert.PXbcKIdeal.main_arg1))
      ∧ θ_run (Cert.PXbcRIdeal.defs (F := Ideal)) (onTc (τ := Cert.PXbcRIdeal.τ) (Cert.PXbcRIdeal.main (F := Ideal))) ⟨m', fun _ => 0, g'⟩ (fun r => ∀ c : Dev Cert.PXbcRIdeal.nD,
          r.2.mem ((c.tc : Thread Cert.PXbcRIdeal.nD Cert.PXbcRIdeal.τ).loc Cert.PXbcRIdeal.main_v3) = v0 c
          ∧ r.2.mem ((c.tc : Thread Cert.PXbcRIdeal.nD Cert.PXbcRIdeal.τ).loc Cert.PXbcRIdeal.main_arg0) = m' ((c.tc : Thread Cert.PXbcRIdeal.nD Cert.PXbcRIdeal.τ).loc Cert.PXbcRIdeal.main_arg0)
          ∧ r.2.mem ((c.tc : Thread Cert.PXbcRIdeal.nD Cert.PXbcRIdeal.τ).loc Cert.PXbcRIdeal.main_arg1) = m' ((c.tc : Thread Cert.PXbcRIdeal.nD Cert.PXbcRIdeal.τ).loc Cert.PXbcRIdeal.main_arg1))

def preserves_PDtK_PDtKIdeal : Prop :=
  True

def algebraic_PDtKIdeal_PDtRIdeal [hPDtKIdeal : Cert.PDtKIdeal.Facts] [hPDtRIdeal : Cert.PDtRIdeal.Facts] : Prop :=
  ∀ (m : (ℓ : Loc Cert.PDtKIdeal.nD Cert.PDtKIdeal.τ Cert.PDtKIdeal.sig) → Buf (Elt Ideal) ℓ) (g : Dev Cert.PDtKIdeal.nD → PrngReg)
    (m' : (ℓ : Loc Cert.PDtRIdeal.nD Cert.PDtRIdeal.τ Cert.PDtRIdeal.sig) → Buf (Elt Ideal) ℓ) (g' : Dev Cert.PDtRIdeal.nD → PrngReg), Pre_PDtKIdeal m →
    (∀ c : Dev Cert.PDtKIdeal.nD,
      m' ((c.tc : Thread Cert.PDtRIdeal.nD Cert.PDtRIdeal.τ).loc Cert.PDtRIdeal.main_arg0) = m ((c.tc : Thread Cert.PDtKIdeal.nD Cert.PDtKIdeal.τ).loc Cert.PDtKIdeal.main_arg0)
      ∧ m' ((c.tc : Thread Cert.PDtRIdeal.nD Cert.PDtRIdeal.τ).loc Cert.PDtRIdeal.main_arg1) = m ((c.tc : Thread Cert.PDtKIdeal.nD Cert.PDtKIdeal.τ).loc Cert.PDtKIdeal.main_arg1)) →
    ∃ (v0 : (c : Dev Cert.PDtKIdeal.nD) → Buf (Elt Ideal) ((c.tc : Thread Cert.PDtKIdeal.nD Cert.PDtKIdeal.τ).loc Cert.PDtKIdeal.main_v0)),
      θ_run (Cert.PDtKIdeal.defs (F := Ideal)) (onTc (τ := Cert.PDtKIdeal.τ) (Cert.PDtKIdeal.main (F := Ideal))) ⟨m, fun _ => 0, g⟩ (fun r => ∀ c : Dev Cert.PDtKIdeal.nD,
          r.2.mem ((c.tc : Thread Cert.PDtKIdeal.nD Cert.PDtKIdeal.τ).loc Cert.PDtKIdeal.main_v0) = v0 c
          ∧ r.2.mem ((c.tc : Thread Cert.PDtKIdeal.nD Cert.PDtKIdeal.τ).loc Cert.PDtKIdeal.main_arg0) = m ((c.tc : Thread Cert.PDtKIdeal.nD Cert.PDtKIdeal.τ).loc Cert.PDtKIdeal.main_arg0)
          ∧ r.2.mem ((c.tc : Thread Cert.PDtKIdeal.nD Cert.PDtKIdeal.τ).loc Cert.PDtKIdeal.main_arg1) = m ((c.tc : Thread Cert.PDtKIdeal.nD Cert.PDtKIdeal.τ).loc Cert.PDtKIdeal.main_arg1))
      ∧ θ_run (Cert.PDtRIdeal.defs (F := Ideal)) (onTc (τ := Cert.PDtRIdeal.τ) (Cert.PDtRIdeal.main (F := Ideal))) ⟨m', fun _ => 0, g'⟩ (fun r => ∀ c : Dev Cert.PDtRIdeal.nD,
          r.2.mem ((c.tc : Thread Cert.PDtRIdeal.nD Cert.PDtRIdeal.τ).loc Cert.PDtRIdeal.main_v3) = v0 c
          ∧ r.2.mem ((c.tc : Thread Cert.PDtRIdeal.nD Cert.PDtRIdeal.τ).loc Cert.PDtRIdeal.main_arg0) = m' ((c.tc : Thread Cert.PDtRIdeal.nD Cert.PDtRIdeal.τ).loc Cert.PDtRIdeal.main_arg0)
          ∧ r.2.mem ((c.tc : Thread Cert.PDtRIdeal.nD Cert.PDtRIdeal.τ).loc Cert.PDtRIdeal.main_arg1) = m' ((c.tc : Thread Cert.PDtRIdeal.nD Cert.PDtRIdeal.τ).loc Cert.PDtRIdeal.main_arg1))

def preserves_PFiveK_PFiveKIdeal : Prop :=
  True

def algebraic_PFiveKIdeal_PFiveRIdeal [hPFiveKIdeal : Cert.PFiveKIdeal.Facts] [hPFiveRIdeal : Cert.PFiveRIdeal.Facts] : Prop :=
  ∀ (m : (ℓ : Loc Cert.PFiveKIdeal.nD Cert.PFiveKIdeal.τ Cert.PFiveKIdeal.sig) → Buf (Elt Ideal) ℓ) (g : Dev Cert.PFiveKIdeal.nD → PrngReg)
    (m' : (ℓ : Loc Cert.PFiveRIdeal.nD Cert.PFiveRIdeal.τ Cert.PFiveRIdeal.sig) → Buf (Elt Ideal) ℓ) (g' : Dev Cert.PFiveRIdeal.nD → PrngReg), Pre_PFiveKIdeal m →
    (∀ c : Dev Cert.PFiveKIdeal.nD,
      m' ((c.tc : Thread Cert.PFiveRIdeal.nD Cert.PFiveRIdeal.τ).loc Cert.PFiveRIdeal.main_arg0) = m ((c.tc : Thread Cert.PFiveKIdeal.nD Cert.PFiveKIdeal.τ).loc Cert.PFiveKIdeal.main_arg0)
      ∧ m' ((c.tc : Thread Cert.PFiveRIdeal.nD Cert.PFiveRIdeal.τ).loc Cert.PFiveRIdeal.main_arg1) = m ((c.tc : Thread Cert.PFiveKIdeal.nD Cert.PFiveKIdeal.τ).loc Cert.PFiveKIdeal.main_arg1)) →
    ∃ (v0 : (c : Dev Cert.PFiveKIdeal.nD) → Buf (Elt Ideal) ((c.tc : Thread Cert.PFiveKIdeal.nD Cert.PFiveKIdeal.τ).loc Cert.PFiveKIdeal.main_v0)),
      θ_run (Cert.PFiveKIdeal.defs (F := Ideal)) (onTc (τ := Cert.PFiveKIdeal.τ) (Cert.PFiveKIdeal.main (F := Ideal))) ⟨m, fun _ => 0, g⟩ (fun r => ∀ c : Dev Cert.PFiveKIdeal.nD,
          r.2.mem ((c.tc : Thread Cert.PFiveKIdeal.nD Cert.PFiveKIdeal.τ).loc Cert.PFiveKIdeal.main_v0) = v0 c
          ∧ r.2.mem ((c.tc : Thread Cert.PFiveKIdeal.nD Cert.PFiveKIdeal.τ).loc Cert.PFiveKIdeal.main_arg0) = m ((c.tc : Thread Cert.PFiveKIdeal.nD Cert.PFiveKIdeal.τ).loc Cert.PFiveKIdeal.main_arg0)
          ∧ r.2.mem ((c.tc : Thread Cert.PFiveKIdeal.nD Cert.PFiveKIdeal.τ).loc Cert.PFiveKIdeal.main_arg1) = m ((c.tc : Thread Cert.PFiveKIdeal.nD Cert.PFiveKIdeal.τ).loc Cert.PFiveKIdeal.main_arg1))
      ∧ θ_run (Cert.PFiveRIdeal.defs (F := Ideal)) (onTc (τ := Cert.PFiveRIdeal.τ) (Cert.PFiveRIdeal.main (F := Ideal))) ⟨m', fun _ => 0, g'⟩ (fun r => ∀ c : Dev Cert.PFiveRIdeal.nD,
          r.2.mem ((c.tc : Thread Cert.PFiveRIdeal.nD Cert.PFiveRIdeal.τ).loc Cert.PFiveRIdeal.main_v4) = v0 c
          ∧ r.2.mem ((c.tc : Thread Cert.PFiveRIdeal.nD Cert.PFiveRIdeal.τ).loc Cert.PFiveRIdeal.main_arg0) = m' ((c.tc : Thread Cert.PFiveRIdeal.nD Cert.PFiveRIdeal.τ).loc Cert.PFiveRIdeal.main_arg0)
          ∧ r.2.mem ((c.tc : Thread Cert.PFiveRIdeal.nD Cert.PFiveRIdeal.τ).loc Cert.PFiveRIdeal.main_arg1) = m' ((c.tc : Thread Cert.PFiveRIdeal.nD Cert.PFiveRIdeal.τ).loc Cert.PFiveRIdeal.main_arg1))

def preserves_NormUK_NormUKIdeal : Prop :=
  True

def algebraic_NormUKIdeal_NormURIdeal [hNormUKIdeal : Cert.NormUKIdeal.Facts] [hNormURIdeal : Cert.NormURIdeal.Facts] : Prop :=
  ∀ (m : (ℓ : Loc Cert.NormUKIdeal.nD Cert.NormUKIdeal.τ Cert.NormUKIdeal.sig) → Buf (Elt Ideal) ℓ) (g : Dev Cert.NormUKIdeal.nD → PrngReg)
    (m' : (ℓ : Loc Cert.NormURIdeal.nD Cert.NormURIdeal.τ Cert.NormURIdeal.sig) → Buf (Elt Ideal) ℓ) (g' : Dev Cert.NormURIdeal.nD → PrngReg), Pre_NormUKIdeal m →
    (∀ c : Dev Cert.NormUKIdeal.nD,
      m' ((c.tc : Thread Cert.NormURIdeal.nD Cert.NormURIdeal.τ).loc Cert.NormURIdeal.main_arg0) = m ((c.tc : Thread Cert.NormUKIdeal.nD Cert.NormUKIdeal.τ).loc Cert.NormUKIdeal.main_arg0)
      ∧ m' ((c.tc : Thread Cert.NormURIdeal.nD Cert.NormURIdeal.τ).loc Cert.NormURIdeal.main_arg1) = m ((c.tc : Thread Cert.NormUKIdeal.nD Cert.NormUKIdeal.τ).loc Cert.NormUKIdeal.main_arg1)) →
    ∃ (v0 : (c : Dev Cert.NormUKIdeal.nD) → Buf (Elt Ideal) ((c.tc : Thread Cert.NormUKIdeal.nD Cert.NormUKIdeal.τ).loc Cert.NormUKIdeal.main_v0)),
      θ_run (Cert.NormUKIdeal.defs (F := Ideal)) (onTc (τ := Cert.NormUKIdeal.τ) (Cert.NormUKIdeal.main (F := Ideal))) ⟨m, fun _ => 0, g⟩ (fun r => ∀ c : Dev Cert.NormUKIdeal.nD,
          r.2.mem ((c.tc : Thread Cert.NormUKIdeal.nD Cert.NormUKIdeal.τ).loc Cert.NormUKIdeal.main_v0) = v0 c
          ∧ r.2.mem ((c.tc : Thread Cert.NormUKIdeal.nD Cert.NormUKIdeal.τ).loc Cert.NormUKIdeal.main_arg0) = m ((c.tc : Thread Cert.NormUKIdeal.nD Cert.NormUKIdeal.τ).loc Cert.NormUKIdeal.main_arg0)
          ∧ r.2.mem ((c.tc : Thread Cert.NormUKIdeal.nD Cert.NormUKIdeal.τ).loc Cert.NormUKIdeal.main_arg1) = m ((c.tc : Thread Cert.NormUKIdeal.nD Cert.NormUKIdeal.τ).loc Cert.NormUKIdeal.main_arg1))
      ∧ θ_run (Cert.NormURIdeal.defs (F := Ideal)) (onTc (τ := Cert.NormURIdeal.τ) (Cert.NormURIdeal.main (F := Ideal))) ⟨m', fun _ => 0, g'⟩ (fun r => ∀ c : Dev Cert.NormURIdeal.nD,
          r.2.mem ((c.tc : Thread Cert.NormURIdeal.nD Cert.NormURIdeal.τ).loc Cert.NormURIdeal.main_v12) = v0 c
          ∧ r.2.mem ((c.tc : Thread Cert.NormURIdeal.nD Cert.NormURIdeal.τ).loc Cert.NormURIdeal.main_arg0) = m' ((c.tc : Thread Cert.NormURIdeal.nD Cert.NormURIdeal.τ).loc Cert.NormURIdeal.main_arg0)
          ∧ r.2.mem ((c.tc : Thread Cert.NormURIdeal.nD Cert.NormURIdeal.τ).loc Cert.NormURIdeal.main_arg1) = m' ((c.tc : Thread Cert.NormURIdeal.nD Cert.NormURIdeal.τ).loc Cert.NormURIdeal.main_arg1))

def preserves_AdSK_AdSKIdeal : Prop :=
  True

def algebraic_AdSKIdeal_AdSRIdeal [hAdSKIdeal : Cert.AdSKIdeal.Facts] [hAdSRIdeal : Cert.AdSRIdeal.Facts] : Prop :=
  ∀ (m : (ℓ : Loc Cert.AdSKIdeal.nD Cert.AdSKIdeal.τ Cert.AdSKIdeal.sig) → Buf (Elt Ideal) ℓ) (g : Dev Cert.AdSKIdeal.nD → PrngReg)
    (m' : (ℓ : Loc Cert.AdSRIdeal.nD Cert.AdSRIdeal.τ Cert.AdSRIdeal.sig) → Buf (Elt Ideal) ℓ) (g' : Dev Cert.AdSRIdeal.nD → PrngReg), Pre_AdSKIdeal m →
    (∀ c : Dev Cert.AdSKIdeal.nD,
      m' ((c.tc : Thread Cert.AdSRIdeal.nD Cert.AdSRIdeal.τ).loc Cert.AdSRIdeal.main_arg0) = m ((c.tc : Thread Cert.AdSKIdeal.nD Cert.AdSKIdeal.τ).loc Cert.AdSKIdeal.main_arg0)
      ∧ m' ((c.tc : Thread Cert.AdSRIdeal.nD Cert.AdSRIdeal.τ).loc Cert.AdSRIdeal.main_arg1) = m ((c.tc : Thread Cert.AdSKIdeal.nD Cert.AdSKIdeal.τ).loc Cert.AdSKIdeal.main_arg1)
      ∧ m' ((c.tc : Thread Cert.AdSRIdeal.nD Cert.AdSRIdeal.τ).loc Cert.AdSRIdeal.main_arg2) = m ((c.tc : Thread Cert.AdSKIdeal.nD Cert.AdSKIdeal.τ).loc Cert.AdSKIdeal.main_arg2)
      ∧ m' ((c.tc : Thread Cert.AdSRIdeal.nD Cert.AdSRIdeal.τ).loc Cert.AdSRIdeal.main_arg3) = m ((c.tc : Thread Cert.AdSKIdeal.nD Cert.AdSKIdeal.τ).loc Cert.AdSKIdeal.main_arg3)) →
    ∃ (v0 : (c : Dev Cert.AdSKIdeal.nD) → Buf (Elt Ideal) ((c.tc : Thread Cert.AdSKIdeal.nD Cert.AdSKIdeal.τ).loc Cert.AdSKIdeal.main_v0_0)) (v1 : (c : Dev Cert.AdSKIdeal.nD) → Buf (Elt Ideal) ((c.tc : Thread Cert.AdSKIdeal.nD Cert.AdSKIdeal.τ).loc Cert.AdSKIdeal.main_v0_1)) (v2 : (c : Dev Cert.AdSKIdeal.nD) → Buf (Elt Ideal) ((c.tc : Thread Cert.AdSKIdeal.nD Cert.AdSKIdeal.τ).loc Cert.AdSKIdeal.main_v0_2)),
      θ_run (Cert.AdSKIdeal.defs (F := Ideal)) (onTc (τ := Cert.AdSKIdeal.τ) (Cert.AdSKIdeal.main (F := Ideal))) ⟨m, fun _ => 0, g⟩ (fun r => ∀ c : Dev Cert.AdSKIdeal.nD,
          r.2.mem ((c.tc : Thread Cert.AdSKIdeal.nD Cert.AdSKIdeal.τ).loc Cert.AdSKIdeal.main_v0_0) = v0 c
          ∧ r.2.mem ((c.tc : Thread Cert.AdSKIdeal.nD Cert.AdSKIdeal.τ).loc Cert.AdSKIdeal.main_v0_1) = v1 c
          ∧ r.2.mem ((c.tc : Thread Cert.AdSKIdeal.nD Cert.AdSKIdeal.τ).loc Cert.AdSKIdeal.main_v0_2) = v2 c
          ∧ r.2.mem ((c.tc : Thread Cert.AdSKIdeal.nD Cert.AdSKIdeal.τ).loc Cert.AdSKIdeal.main_arg0) = m ((c.tc : Thread Cert.AdSKIdeal.nD Cert.AdSKIdeal.τ).loc Cert.AdSKIdeal.main_arg0)
          ∧ r.2.mem ((c.tc : Thread Cert.AdSKIdeal.nD Cert.AdSKIdeal.τ).loc Cert.AdSKIdeal.main_arg1) = m ((c.tc : Thread Cert.AdSKIdeal.nD Cert.AdSKIdeal.τ).loc Cert.AdSKIdeal.main_arg1)
          ∧ r.2.mem ((c.tc : Thread Cert.AdSKIdeal.nD Cert.AdSKIdeal.τ).loc Cert.AdSKIdeal.main_arg2) = m ((c.tc : Thread Cert.AdSKIdeal.nD Cert.AdSKIdeal.τ).loc Cert.AdSKIdeal.main_arg2)
          ∧ r.2.mem ((c.tc : Thread Cert.AdSKIdeal.nD Cert.AdSKIdeal.τ).loc Cert.AdSKIdeal.main_arg3) = m ((c.tc : Thread Cert.AdSKIdeal.nD Cert.AdSKIdeal.τ).loc Cert.AdSKIdeal.main_arg3))
      ∧ θ_run (Cert.AdSRIdeal.defs (F := Ideal)) (onTc (τ := Cert.AdSRIdeal.τ) (Cert.AdSRIdeal.main (F := Ideal))) ⟨m', fun _ => 0, g'⟩ (fun r => ∀ c : Dev Cert.AdSRIdeal.nD,
          r.2.mem ((c.tc : Thread Cert.AdSRIdeal.nD Cert.AdSRIdeal.τ).loc Cert.AdSRIdeal.main_v23) = v0 c
          ∧ r.2.mem ((c.tc : Thread Cert.AdSRIdeal.nD Cert.AdSRIdeal.τ).loc Cert.AdSRIdeal.main_v4) = v1 c
          ∧ r.2.mem ((c.tc : Thread Cert.AdSRIdeal.nD Cert.AdSRIdeal.τ).loc Cert.AdSRIdeal.main_v10) = v2 c
          ∧ r.2.mem ((c.tc : Thread Cert.AdSRIdeal.nD Cert.AdSRIdeal.τ).loc Cert.AdSRIdeal.main_arg0) = m' ((c.tc : Thread Cert.AdSRIdeal.nD Cert.AdSRIdeal.τ).loc Cert.AdSRIdeal.main_arg0)
          ∧ r.2.mem ((c.tc : Thread Cert.AdSRIdeal.nD Cert.AdSRIdeal.τ).loc Cert.AdSRIdeal.main_arg1) = m' ((c.tc : Thread Cert.AdSRIdeal.nD Cert.AdSRIdeal.τ).loc Cert.AdSRIdeal.main_arg1)
          ∧ r.2.mem ((c.tc : Thread Cert.AdSRIdeal.nD Cert.AdSRIdeal.τ).loc Cert.AdSRIdeal.main_arg2) = m' ((c.tc : Thread Cert.AdSRIdeal.nD Cert.AdSRIdeal.τ).loc Cert.AdSRIdeal.main_arg2)
          ∧ r.2.mem ((c.tc : Thread Cert.AdSRIdeal.nD Cert.AdSRIdeal.τ).loc Cert.AdSRIdeal.main_arg3) = m' ((c.tc : Thread Cert.AdSRIdeal.nD Cert.AdSRIdeal.τ).loc Cert.AdSRIdeal.main_arg3))

def preserves_AdCsK_AdCsKIdeal : Prop :=
  True

def algebraic_AdCsKIdeal_AdCsRIdeal [hAdCsKIdeal : Cert.AdCsKIdeal.Facts] [hAdCsRIdeal : Cert.AdCsRIdeal.Facts] : Prop :=
  ∀ (m : (ℓ : Loc Cert.AdCsKIdeal.nD Cert.AdCsKIdeal.τ Cert.AdCsKIdeal.sig) → Buf (Elt Ideal) ℓ) (g : Dev Cert.AdCsKIdeal.nD → PrngReg)
    (m' : (ℓ : Loc Cert.AdCsRIdeal.nD Cert.AdCsRIdeal.τ Cert.AdCsRIdeal.sig) → Buf (Elt Ideal) ℓ) (g' : Dev Cert.AdCsRIdeal.nD → PrngReg), Pre_AdCsKIdeal m →
    (∀ c : Dev Cert.AdCsKIdeal.nD,
      m' ((c.tc : Thread Cert.AdCsRIdeal.nD Cert.AdCsRIdeal.τ).loc Cert.AdCsRIdeal.main_arg0) = m ((c.tc : Thread Cert.AdCsKIdeal.nD Cert.AdCsKIdeal.τ).loc Cert.AdCsKIdeal.main_arg0)
      ∧ m' ((c.tc : Thread Cert.AdCsRIdeal.nD Cert.AdCsRIdeal.τ).loc Cert.AdCsRIdeal.main_arg1) = m ((c.tc : Thread Cert.AdCsKIdeal.nD Cert.AdCsKIdeal.τ).loc Cert.AdCsKIdeal.main_arg1)
      ∧ m' ((c.tc : Thread Cert.AdCsRIdeal.nD Cert.AdCsRIdeal.τ).loc Cert.AdCsRIdeal.main_arg2) = m ((c.tc : Thread Cert.AdCsKIdeal.nD Cert.AdCsKIdeal.τ).loc Cert.AdCsKIdeal.main_arg2)
      ∧ m' ((c.tc : Thread Cert.AdCsRIdeal.nD Cert.AdCsRIdeal.τ).loc Cert.AdCsRIdeal.main_arg3) = m ((c.tc : Thread Cert.AdCsKIdeal.nD Cert.AdCsKIdeal.τ).loc Cert.AdCsKIdeal.main_arg3)) →
    ∃ (v0 : (c : Dev Cert.AdCsKIdeal.nD) → Buf (Elt Ideal) ((c.tc : Thread Cert.AdCsKIdeal.nD Cert.AdCsKIdeal.τ).loc Cert.AdCsKIdeal.main_v0_0)) (v1 : (c : Dev Cert.AdCsKIdeal.nD) → Buf (Elt Ideal) ((c.tc : Thread Cert.AdCsKIdeal.nD Cert.AdCsKIdeal.τ).loc Cert.AdCsKIdeal.main_v0_1)) (v2 : (c : Dev Cert.AdCsKIdeal.nD) → Buf (Elt Ideal) ((c.tc : Thread Cert.AdCsKIdeal.nD Cert.AdCsKIdeal.τ).loc Cert.AdCsKIdeal.main_v0_2)),
      θ_run (Cert.AdCsKIdeal.defs (F := Ideal)) (onTc (τ := Cert.AdCsKIdeal.τ) (Cert.AdCsKIdeal.main (F := Ideal))) ⟨m, fun _ => 0, g⟩ (fun r => ∀ c : Dev Cert.AdCsKIdeal.nD,
          r.2.mem ((c.tc : Thread Cert.AdCsKIdeal.nD Cert.AdCsKIdeal.τ).loc Cert.AdCsKIdeal.main_v0_0) = v0 c
          ∧ r.2.mem ((c.tc : Thread Cert.AdCsKIdeal.nD Cert.AdCsKIdeal.τ).loc Cert.AdCsKIdeal.main_v0_1) = v1 c
          ∧ r.2.mem ((c.tc : Thread Cert.AdCsKIdeal.nD Cert.AdCsKIdeal.τ).loc Cert.AdCsKIdeal.main_v0_2) = v2 c
          ∧ r.2.mem ((c.tc : Thread Cert.AdCsKIdeal.nD Cert.AdCsKIdeal.τ).loc Cert.AdCsKIdeal.main_arg0) = m ((c.tc : Thread Cert.AdCsKIdeal.nD Cert.AdCsKIdeal.τ).loc Cert.AdCsKIdeal.main_arg0)
          ∧ r.2.mem ((c.tc : Thread Cert.AdCsKIdeal.nD Cert.AdCsKIdeal.τ).loc Cert.AdCsKIdeal.main_arg1) = m ((c.tc : Thread Cert.AdCsKIdeal.nD Cert.AdCsKIdeal.τ).loc Cert.AdCsKIdeal.main_arg1)
          ∧ r.2.mem ((c.tc : Thread Cert.AdCsKIdeal.nD Cert.AdCsKIdeal.τ).loc Cert.AdCsKIdeal.main_arg2) = m ((c.tc : Thread Cert.AdCsKIdeal.nD Cert.AdCsKIdeal.τ).loc Cert.AdCsKIdeal.main_arg2)
          ∧ r.2.mem ((c.tc : Thread Cert.AdCsKIdeal.nD Cert.AdCsKIdeal.τ).loc Cert.AdCsKIdeal.main_arg3) = m ((c.tc : Thread Cert.AdCsKIdeal.nD Cert.AdCsKIdeal.τ).loc Cert.AdCsKIdeal.main_arg3))
      ∧ θ_run (Cert.AdCsRIdeal.defs (F := Ideal)) (onTc (τ := Cert.AdCsRIdeal.τ) (Cert.AdCsRIdeal.main (F := Ideal))) ⟨m', fun _ => 0, g'⟩ (fun r => ∀ c : Dev Cert.AdCsRIdeal.nD,
          r.2.mem ((c.tc : Thread Cert.AdCsRIdeal.nD Cert.AdCsRIdeal.τ).loc Cert.AdCsRIdeal.main_v23) = v0 c
          ∧ r.2.mem ((c.tc : Thread Cert.AdCsRIdeal.nD Cert.AdCsRIdeal.τ).loc Cert.AdCsRIdeal.main_v4) = v1 c
          ∧ r.2.mem ((c.tc : Thread Cert.AdCsRIdeal.nD Cert.AdCsRIdeal.τ).loc Cert.AdCsRIdeal.main_v10) = v2 c
          ∧ r.2.mem ((c.tc : Thread Cert.AdCsRIdeal.nD Cert.AdCsRIdeal.τ).loc Cert.AdCsRIdeal.main_arg0) = m' ((c.tc : Thread Cert.AdCsRIdeal.nD Cert.AdCsRIdeal.τ).loc Cert.AdCsRIdeal.main_arg0)
          ∧ r.2.mem ((c.tc : Thread Cert.AdCsRIdeal.nD Cert.AdCsRIdeal.τ).loc Cert.AdCsRIdeal.main_arg1) = m' ((c.tc : Thread Cert.AdCsRIdeal.nD Cert.AdCsRIdeal.τ).loc Cert.AdCsRIdeal.main_arg1)
          ∧ r.2.mem ((c.tc : Thread Cert.AdCsRIdeal.nD Cert.AdCsRIdeal.τ).loc Cert.AdCsRIdeal.main_arg2) = m' ((c.tc : Thread Cert.AdCsRIdeal.nD Cert.AdCsRIdeal.τ).loc Cert.AdCsRIdeal.main_arg2)
          ∧ r.2.mem ((c.tc : Thread Cert.AdCsRIdeal.nD Cert.AdCsRIdeal.τ).loc Cert.AdCsRIdeal.main_arg3) = m' ((c.tc : Thread Cert.AdCsRIdeal.nD Cert.AdCsRIdeal.τ).loc Cert.AdCsRIdeal.main_arg3))

def preserves_AdClK_AdClKIdeal : Prop :=
  True

def algebraic_AdClKIdeal_AdClRIdeal [hAdClKIdeal : Cert.AdClKIdeal.Facts] [hAdClRIdeal : Cert.AdClRIdeal.Facts] : Prop :=
  ∀ (m : (ℓ : Loc Cert.AdClKIdeal.nD Cert.AdClKIdeal.τ Cert.AdClKIdeal.sig) → Buf (Elt Ideal) ℓ) (g : Dev Cert.AdClKIdeal.nD → PrngReg)
    (m' : (ℓ : Loc Cert.AdClRIdeal.nD Cert.AdClRIdeal.τ Cert.AdClRIdeal.sig) → Buf (Elt Ideal) ℓ) (g' : Dev Cert.AdClRIdeal.nD → PrngReg), Pre_AdClKIdeal m →
    (∀ c : Dev Cert.AdClKIdeal.nD,
      m' ((c.tc : Thread Cert.AdClRIdeal.nD Cert.AdClRIdeal.τ).loc Cert.AdClRIdeal.main_arg0) = m ((c.tc : Thread Cert.AdClKIdeal.nD Cert.AdClKIdeal.τ).loc Cert.AdClKIdeal.main_arg0)
      ∧ m' ((c.tc : Thread Cert.AdClRIdeal.nD Cert.AdClRIdeal.τ).loc Cert.AdClRIdeal.main_arg1) = m ((c.tc : Thread Cert.AdClKIdeal.nD Cert.AdClKIdeal.τ).loc Cert.AdClKIdeal.main_arg1)
      ∧ m' ((c.tc : Thread Cert.AdClRIdeal.nD Cert.AdClRIdeal.τ).loc Cert.AdClRIdeal.main_arg2) = m ((c.tc : Thread Cert.AdClKIdeal.nD Cert.AdClKIdeal.τ).loc Cert.AdClKIdeal.main_arg2)
      ∧ m' ((c.tc : Thread Cert.AdClRIdeal.nD Cert.AdClRIdeal.τ).loc Cert.AdClRIdeal.main_arg3) = m ((c.tc : Thread Cert.AdClKIdeal.nD Cert.AdClKIdeal.τ).loc Cert.AdClKIdeal.main_arg3)) →
    ∃ (v0 : (c : Dev Cert.AdClKIdeal.nD) → Buf (Elt Ideal) ((c.tc : Thread Cert.AdClKIdeal.nD Cert.AdClKIdeal.τ).loc Cert.AdClKIdeal.main_v0_0)) (v1 : (c : Dev Cert.AdClKIdeal.nD) → Buf (Elt Ideal) ((c.tc : Thread Cert.AdClKIdeal.nD Cert.AdClKIdeal.τ).loc Cert.AdClKIdeal.main_v0_1)) (v2 : (c : Dev Cert.AdClKIdeal.nD) → Buf (Elt Ideal) ((c.tc : Thread Cert.AdClKIdeal.nD Cert.AdClKIdeal.τ).loc Cert.AdClKIdeal.main_v0_2)),
      θ_run (Cert.AdClKIdeal.defs (F := Ideal)) (onTc (τ := Cert.AdClKIdeal.τ) (Cert.AdClKIdeal.main (F := Ideal))) ⟨m, fun _ => 0, g⟩ (fun r => ∀ c : Dev Cert.AdClKIdeal.nD,
          r.2.mem ((c.tc : Thread Cert.AdClKIdeal.nD Cert.AdClKIdeal.τ).loc Cert.AdClKIdeal.main_v0_0) = v0 c
          ∧ r.2.mem ((c.tc : Thread Cert.AdClKIdeal.nD Cert.AdClKIdeal.τ).loc Cert.AdClKIdeal.main_v0_1) = v1 c
          ∧ r.2.mem ((c.tc : Thread Cert.AdClKIdeal.nD Cert.AdClKIdeal.τ).loc Cert.AdClKIdeal.main_v0_2) = v2 c
          ∧ r.2.mem ((c.tc : Thread Cert.AdClKIdeal.nD Cert.AdClKIdeal.τ).loc Cert.AdClKIdeal.main_arg0) = m ((c.tc : Thread Cert.AdClKIdeal.nD Cert.AdClKIdeal.τ).loc Cert.AdClKIdeal.main_arg0)
          ∧ r.2.mem ((c.tc : Thread Cert.AdClKIdeal.nD Cert.AdClKIdeal.τ).loc Cert.AdClKIdeal.main_arg1) = m ((c.tc : Thread Cert.AdClKIdeal.nD Cert.AdClKIdeal.τ).loc Cert.AdClKIdeal.main_arg1)
          ∧ r.2.mem ((c.tc : Thread Cert.AdClKIdeal.nD Cert.AdClKIdeal.τ).loc Cert.AdClKIdeal.main_arg2) = m ((c.tc : Thread Cert.AdClKIdeal.nD Cert.AdClKIdeal.τ).loc Cert.AdClKIdeal.main_arg2)
          ∧ r.2.mem ((c.tc : Thread Cert.AdClKIdeal.nD Cert.AdClKIdeal.τ).loc Cert.AdClKIdeal.main_arg3) = m ((c.tc : Thread Cert.AdClKIdeal.nD Cert.AdClKIdeal.τ).loc Cert.AdClKIdeal.main_arg3))
      ∧ θ_run (Cert.AdClRIdeal.defs (F := Ideal)) (onTc (τ := Cert.AdClRIdeal.τ) (Cert.AdClRIdeal.main (F := Ideal))) ⟨m', fun _ => 0, g'⟩ (fun r => ∀ c : Dev Cert.AdClRIdeal.nD,
          r.2.mem ((c.tc : Thread Cert.AdClRIdeal.nD Cert.AdClRIdeal.τ).loc Cert.AdClRIdeal.main_v23) = v0 c
          ∧ r.2.mem ((c.tc : Thread Cert.AdClRIdeal.nD Cert.AdClRIdeal.τ).loc Cert.AdClRIdeal.main_v4) = v1 c
          ∧ r.2.mem ((c.tc : Thread Cert.AdClRIdeal.nD Cert.AdClRIdeal.τ).loc Cert.AdClRIdeal.main_v10) = v2 c
          ∧ r.2.mem ((c.tc : Thread Cert.AdClRIdeal.nD Cert.AdClRIdeal.τ).loc Cert.AdClRIdeal.main_arg0) = m' ((c.tc : Thread Cert.AdClRIdeal.nD Cert.AdClRIdeal.τ).loc Cert.AdClRIdeal.main_arg0)
          ∧ r.2.mem ((c.tc : Thread Cert.AdClRIdeal.nD Cert.AdClRIdeal.τ).loc Cert.AdClRIdeal.main_arg1) = m' ((c.tc : Thread Cert.AdClRIdeal.nD Cert.AdClRIdeal.τ).loc Cert.AdClRIdeal.main_arg1)
          ∧ r.2.mem ((c.tc : Thread Cert.AdClRIdeal.nD Cert.AdClRIdeal.τ).loc Cert.AdClRIdeal.main_arg2) = m' ((c.tc : Thread Cert.AdClRIdeal.nD Cert.AdClRIdeal.τ).loc Cert.AdClRIdeal.main_arg2)
          ∧ r.2.mem ((c.tc : Thread Cert.AdClRIdeal.nD Cert.AdClRIdeal.τ).loc Cert.AdClRIdeal.main_arg3) = m' ((c.tc : Thread Cert.AdClRIdeal.nD Cert.AdClRIdeal.τ).loc Cert.AdClRIdeal.main_arg3))

def preserves_LossK_LossKIdeal : Prop :=
  True

def algebraic_LossKIdeal_LossRIdeal [hLossKIdeal : Cert.LossKIdeal.Facts] [hLossRIdeal : Cert.LossRIdeal.Facts] : Prop :=
  ∀ (m : (ℓ : Loc Cert.LossKIdeal.nD Cert.LossKIdeal.τ Cert.LossKIdeal.sig) → Buf (Elt Ideal) ℓ) (g : Dev Cert.LossKIdeal.nD → PrngReg)
    (m' : (ℓ : Loc Cert.LossRIdeal.nD Cert.LossRIdeal.τ Cert.LossRIdeal.sig) → Buf (Elt Ideal) ℓ) (g' : Dev Cert.LossRIdeal.nD → PrngReg), Pre_LossKIdeal m →
    (∀ c : Dev Cert.LossKIdeal.nD,
      m' ((c.tc : Thread Cert.LossRIdeal.nD Cert.LossRIdeal.τ).loc Cert.LossRIdeal.main_arg0) = m ((c.tc : Thread Cert.LossKIdeal.nD Cert.LossKIdeal.τ).loc Cert.LossKIdeal.main_arg0)
      ∧ m' ((c.tc : Thread Cert.LossRIdeal.nD Cert.LossRIdeal.τ).loc Cert.LossRIdeal.main_arg1) = m ((c.tc : Thread Cert.LossKIdeal.nD Cert.LossKIdeal.τ).loc Cert.LossKIdeal.main_arg1)
      ∧ m' ((c.tc : Thread Cert.LossRIdeal.nD Cert.LossRIdeal.τ).loc Cert.LossRIdeal.main_arg2) = m ((c.tc : Thread Cert.LossKIdeal.nD Cert.LossKIdeal.τ).loc Cert.LossKIdeal.main_arg2)
      ∧ m' ((c.tc : Thread Cert.LossRIdeal.nD Cert.LossRIdeal.τ).loc Cert.LossRIdeal.main_arg3) = m ((c.tc : Thread Cert.LossKIdeal.nD Cert.LossKIdeal.τ).loc Cert.LossKIdeal.main_arg3)
      ∧ m' ((c.tc : Thread Cert.LossRIdeal.nD Cert.LossRIdeal.τ).loc Cert.LossRIdeal.main_arg4) = m ((c.tc : Thread Cert.LossKIdeal.nD Cert.LossKIdeal.τ).loc Cert.LossKIdeal.main_arg4)) →
    ∃ (v0 : (c : Dev Cert.LossKIdeal.nD) → Buf (Elt Ideal) ((c.tc : Thread Cert.LossKIdeal.nD Cert.LossKIdeal.τ).loc Cert.LossKIdeal.main_v0_0)) (v1 : (c : Dev Cert.LossKIdeal.nD) → Buf (Elt Ideal) ((c.tc : Thread Cert.LossKIdeal.nD Cert.LossKIdeal.τ).loc Cert.LossKIdeal.main_v0_1)) (v2 : (c : Dev Cert.LossKIdeal.nD) → Buf (Elt Ideal) ((c.tc : Thread Cert.LossKIdeal.nD Cert.LossKIdeal.τ).loc Cert.LossKIdeal.main_v0_2)) (v3 : (c : Dev Cert.LossKIdeal.nD) → Buf (Elt Ideal) ((c.tc : Thread Cert.LossKIdeal.nD Cert.LossKIdeal.τ).loc Cert.LossKIdeal.main_v0_3)),
      θ_run (Cert.LossKIdeal.defs (F := Ideal)) (onTc (τ := Cert.LossKIdeal.τ) (Cert.LossKIdeal.main (F := Ideal))) ⟨m, fun _ => 0, g⟩ (fun r => ∀ c : Dev Cert.LossKIdeal.nD,
          r.2.mem ((c.tc : Thread Cert.LossKIdeal.nD Cert.LossKIdeal.τ).loc Cert.LossKIdeal.main_v0_0) = v0 c
          ∧ r.2.mem ((c.tc : Thread Cert.LossKIdeal.nD Cert.LossKIdeal.τ).loc Cert.LossKIdeal.main_v0_1) = v1 c
          ∧ r.2.mem ((c.tc : Thread Cert.LossKIdeal.nD Cert.LossKIdeal.τ).loc Cert.LossKIdeal.main_v0_2) = v2 c
          ∧ r.2.mem ((c.tc : Thread Cert.LossKIdeal.nD Cert.LossKIdeal.τ).loc Cert.LossKIdeal.main_v0_3) = v3 c
          ∧ r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
          ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
          ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2)
          ∧ r.2.mem ((c.tc : Thread Cert.LossKIdeal.nD Cert.LossKIdeal.τ).loc Cert.LossKIdeal.main_arg3) = m ((c.tc : Thread Cert.LossKIdeal.nD Cert.LossKIdeal.τ).loc Cert.LossKIdeal.main_arg3)
          ∧ r.2.mem ((c.tc : Thread Cert.LossKIdeal.nD Cert.LossKIdeal.τ).loc Cert.LossKIdeal.main_arg4) = m ((c.tc : Thread Cert.LossKIdeal.nD Cert.LossKIdeal.τ).loc Cert.LossKIdeal.main_arg4))
      ∧ θ_run (Cert.LossRIdeal.defs (F := Ideal)) (onTc (τ := Cert.LossRIdeal.τ) (Cert.LossRIdeal.main (F := Ideal))) ⟨m', fun _ => 0, g'⟩ (fun r => ∀ c : Dev Cert.LossRIdeal.nD,
          r.2.mem ((c.tc : Thread Cert.LossRIdeal.nD Cert.LossRIdeal.τ).loc Cert.LossRIdeal.main_v37) = v0 c
          ∧ r.2.mem ((c.tc : Thread Cert.LossRIdeal.nD Cert.LossRIdeal.τ).loc Cert.LossRIdeal.main_v57) = v1 c
          ∧ r.2.mem ((c.tc : Thread Cert.LossRIdeal.nD Cert.LossRIdeal.τ).loc Cert.LossRIdeal.main_v58) = v2 c
          ∧ r.2.mem ((c.tc : Thread Cert.LossRIdeal.nD Cert.LossRIdeal.τ).loc Cert.LossRIdeal.main_v40) = v3 c
          ∧ r.2.mem ((c.tc : Thread Cert.LossRIdeal.nD Cert.LossRIdeal.τ).loc Cert.LossRIdeal.main_arg0) = m' ((c.tc : Thread Cert.LossRIdeal.nD Cert.LossRIdeal.τ).loc Cert.LossRIdeal.main_arg0)
          ∧ r.2.mem ((c.tc : Thread Cert.LossRIdeal.nD Cert.LossRIdeal.τ).loc Cert.LossRIdeal.main_arg1) = m' ((c.tc : Thread Cert.LossRIdeal.nD Cert.LossRIdeal.τ).loc Cert.LossRIdeal.main_arg1)
          ∧ r.2.mem ((c.tc : Thread Cert.LossRIdeal.nD Cert.LossRIdeal.τ).loc Cert.LossRIdeal.main_arg2) = m' ((c.tc : Thread Cert.LossRIdeal.nD Cert.LossRIdeal.τ).loc Cert.LossRIdeal.main_arg2)
          ∧ r.2.mem ((c.tc : Thread Cert.LossRIdeal.nD Cert.LossRIdeal.τ).loc Cert.LossRIdeal.main_arg3) = m' ((c.tc : Thread Cert.LossRIdeal.nD Cert.LossRIdeal.τ).loc Cert.LossRIdeal.main_arg3)
          ∧ r.2.mem ((c.tc : Thread Cert.LossRIdeal.nD Cert.LossRIdeal.τ).loc Cert.LossRIdeal.main_arg4) = m' ((c.tc : Thread Cert.LossRIdeal.nD Cert.LossRIdeal.τ).loc Cert.LossRIdeal.main_arg4))

def preserves_DwLruK_DwLruKIdeal : Prop :=
  True

def algebraic_DwLruKIdeal_DwLruRIdeal [hDwLruKIdeal : Cert.DwLruKIdeal.Facts] [hDwLruRIdeal : Cert.DwLruRIdeal.Facts] : Prop :=
  ∀ (m : (ℓ : Loc Cert.DwLruKIdeal.nD Cert.DwLruKIdeal.τ Cert.DwLruKIdeal.sig) → Buf (Elt Ideal) ℓ) (g : Dev Cert.DwLruKIdeal.nD → PrngReg)
    (m' : (ℓ : Loc Cert.DwLruRIdeal.nD Cert.DwLruRIdeal.τ Cert.DwLruRIdeal.sig) → Buf (Elt Ideal) ℓ) (g' : Dev Cert.DwLruRIdeal.nD → PrngReg), Pre_DwLruKIdeal m →
    (∀ c : Dev Cert.DwLruKIdeal.nD,
      m' ((c.tc : Thread Cert.DwLruRIdeal.nD Cert.DwLruRIdeal.τ).loc Cert.DwLruRIdeal.main_arg0) = m ((c.tc : Thread Cert.DwLruKIdeal.nD Cert.DwLruKIdeal.τ).loc Cert.DwLruKIdeal.main_arg0)
      ∧ m' ((c.tc : Thread Cert.DwLruRIdeal.nD Cert.DwLruRIdeal.τ).loc Cert.DwLruRIdeal.main_arg1) = m ((c.tc : Thread Cert.DwLruKIdeal.nD Cert.DwLruKIdeal.τ).loc Cert.DwLruKIdeal.main_arg1)) →
    ∃ (v0 : (c : Dev Cert.DwLruKIdeal.nD) → Buf (Elt Ideal) ((c.tc : Thread Cert.DwLruKIdeal.nD Cert.DwLruKIdeal.τ).loc Cert.DwLruKIdeal.main_v0)),
      θ_run (Cert.DwLruKIdeal.defs (F := Ideal)) (onTc (τ := Cert.DwLruKIdeal.τ) (Cert.DwLruKIdeal.main (F := Ideal))) ⟨m, fun _ => 0, g⟩ (fun r => ∀ c : Dev Cert.DwLruKIdeal.nD,
          r.2.mem ((c.tc : Thread Cert.DwLruKIdeal.nD Cert.DwLruKIdeal.τ).loc Cert.DwLruKIdeal.main_v0) = v0 c
          ∧ r.2.mem ((c.tc : Thread Cert.DwLruKIdeal.nD Cert.DwLruKIdeal.τ).loc Cert.DwLruKIdeal.main_arg0) = m ((c.tc : Thread Cert.DwLruKIdeal.nD Cert.DwLruKIdeal.τ).loc Cert.DwLruKIdeal.main_arg0)
          ∧ r.2.mem ((c.tc : Thread Cert.DwLruKIdeal.nD Cert.DwLruKIdeal.τ).loc Cert.DwLruKIdeal.main_arg1) = m ((c.tc : Thread Cert.DwLruKIdeal.nD Cert.DwLruKIdeal.τ).loc Cert.DwLruKIdeal.main_arg1))
      ∧ θ_run (Cert.DwLruRIdeal.defs (F := Ideal)) (onTc (τ := Cert.DwLruRIdeal.τ) (Cert.DwLruRIdeal.main (F := Ideal))) ⟨m', fun _ => 0, g'⟩ (fun r => ∀ c : Dev Cert.DwLruRIdeal.nD,
          r.2.mem ((c.tc : Thread Cert.DwLruRIdeal.nD Cert.DwLruRIdeal.τ).loc Cert.DwLruRIdeal.main_v4) = v0 c
          ∧ r.2.mem ((c.tc : Thread Cert.DwLruRIdeal.nD Cert.DwLruRIdeal.τ).loc Cert.DwLruRIdeal.main_arg0) = m' ((c.tc : Thread Cert.DwLruRIdeal.nD Cert.DwLruRIdeal.τ).loc Cert.DwLruRIdeal.main_arg0)
          ∧ r.2.mem ((c.tc : Thread Cert.DwLruRIdeal.nD Cert.DwLruRIdeal.τ).loc Cert.DwLruRIdeal.main_arg1) = m' ((c.tc : Thread Cert.DwLruRIdeal.nD Cert.DwLruRIdeal.τ).loc Cert.DwLruRIdeal.main_arg1))

def preserves_ConvK_ConvKIdeal : Prop :=
  True

def algebraic_ConvKIdeal_ConvRIdeal [hConvKIdeal : Cert.ConvKIdeal.Facts] [hConvRIdeal : Cert.ConvRIdeal.Facts] : Prop :=
  ∀ (m : (ℓ : Loc Cert.ConvKIdeal.nD Cert.ConvKIdeal.τ Cert.ConvKIdeal.sig) → Buf (Elt Ideal) ℓ) (g : Dev Cert.ConvKIdeal.nD → PrngReg)
    (m' : (ℓ : Loc Cert.ConvRIdeal.nD Cert.ConvRIdeal.τ Cert.ConvRIdeal.sig) → Buf (Elt Ideal) ℓ) (g' : Dev Cert.ConvRIdeal.nD → PrngReg), Pre_ConvKIdeal m →
    (∀ c : Dev Cert.ConvKIdeal.nD,
      m' ((c.tc : Thread Cert.ConvRIdeal.nD Cert.ConvRIdeal.τ).loc Cert.ConvRIdeal.main_arg0) = m ((c.tc : Thread Cert.ConvKIdeal.nD Cert.ConvKIdeal.τ).loc Cert.ConvKIdeal.main_arg0)
      ∧ m' ((c.tc : Thread Cert.ConvRIdeal.nD Cert.ConvRIdeal.τ).loc Cert.ConvRIdeal.main_arg1) = m ((c.tc : Thread Cert.ConvKIdeal.nD Cert.ConvKIdeal.τ).loc Cert.ConvKIdeal.main_arg1)
      ∧ m' ((c.tc : Thread Cert.ConvRIdeal.nD Cert.ConvRIdeal.τ).loc Cert.ConvRIdeal.main_arg2) = m ((c.tc : Thread Cert.ConvKIdeal.nD Cert.ConvKIdeal.τ).loc Cert.ConvKIdeal.main_arg2)
      ∧ m' ((c.tc : Thread Cert.ConvRIdeal.nD Cert.ConvRIdeal.τ).loc Cert.ConvRIdeal.main_arg3) = m ((c.tc : Thread Cert.ConvKIdeal.nD Cert.ConvKIdeal.τ).loc Cert.ConvKIdeal.main_arg3)
      ∧ m' ((c.tc : Thread Cert.ConvRIdeal.nD Cert.ConvRIdeal.τ).loc Cert.ConvRIdeal.main_arg4) = m ((c.tc : Thread Cert.ConvKIdeal.nD Cert.ConvKIdeal.τ).loc Cert.ConvKIdeal.main_arg4)
      ∧ m' ((c.tc : Thread Cert.ConvRIdeal.nD Cert.ConvRIdeal.τ).loc Cert.ConvRIdeal.main_arg5) = m ((c.tc : Thread Cert.ConvKIdeal.nD Cert.ConvKIdeal.τ).loc Cert.ConvKIdeal.main_arg5)
      ∧ m' ((c.tc : Thread Cert.ConvRIdeal.nD Cert.ConvRIdeal.τ).loc Cert.ConvRIdeal.main_arg6) = m ((c.tc : Thread Cert.ConvKIdeal.nD Cert.ConvKIdeal.τ).loc Cert.ConvKIdeal.main_arg6)
      ∧ m' ((c.tc : Thread Cert.ConvRIdeal.nD Cert.ConvRIdeal.τ).loc Cert.ConvRIdeal.main_arg7) = m ((c.tc : Thread Cert.ConvKIdeal.nD Cert.ConvKIdeal.τ).loc Cert.ConvKIdeal.main_arg7)) →
    ∃ (v0 : (c : Dev Cert.ConvKIdeal.nD) → Buf (Elt Ideal) ((c.tc : Thread Cert.ConvKIdeal.nD Cert.ConvKIdeal.τ).loc Cert.ConvKIdeal.main_v0_0)) (v1 : (c : Dev Cert.ConvKIdeal.nD) → Buf (Elt Ideal) ((c.tc : Thread Cert.ConvKIdeal.nD Cert.ConvKIdeal.τ).loc Cert.ConvKIdeal.main_v0_2)),
      θ_run (Cert.ConvKIdeal.defs (F := Ideal)) (onTc (τ := Cert.ConvKIdeal.τ) (Cert.ConvKIdeal.main (F := Ideal))) ⟨m, fun _ => 0, g⟩ (fun r => ∀ c : Dev Cert.ConvKIdeal.nD,
          r.2.mem ((c.tc : Thread Cert.ConvKIdeal.nD Cert.ConvKIdeal.τ).loc Cert.ConvKIdeal.main_v0_0) = v0 c
          ∧ r.2.mem ((c.tc : Thread Cert.ConvKIdeal.nD Cert.ConvKIdeal.τ).loc Cert.ConvKIdeal.main_v0_2) = v1 c
          ∧ r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
          ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
          ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2)
          ∧ r.2.mem ((c.tc : Thread Cert.ConvKIdeal.nD Cert.ConvKIdeal.τ).loc Cert.ConvKIdeal.main_arg3) = m ((c.tc : Thread Cert.ConvKIdeal.nD Cert.ConvKIdeal.τ).loc Cert.ConvKIdeal.main_arg3)
          ∧ r.2.mem ((c.tc : Thread Cert.ConvKIdeal.nD Cert.ConvKIdeal.τ).loc Cert.ConvKIdeal.main_arg4) = m ((c.tc : Thread Cert.ConvKIdeal.nD Cert.ConvKIdeal.τ).loc Cert.ConvKIdeal.main_arg4)
          ∧ r.2.mem ((c.tc : Thread Cert.ConvKIdeal.nD Cert.ConvKIdeal.τ).loc Cert.ConvKIdeal.main_arg5) = m ((c.tc : Thread Cert.ConvKIdeal.nD Cert.ConvKIdeal.τ).loc Cert.ConvKIdeal.main_arg5)
          ∧ r.2.mem ((c.tc : Thread Cert.ConvKIdeal.nD Cert.ConvKIdeal.τ).loc Cert.ConvKIdeal.main_arg6) = m ((c.tc : Thread Cert.ConvKIdeal.nD Cert.ConvKIdeal.τ).loc Cert.ConvKIdeal.main_arg6)
          ∧ r.2.mem ((c.tc : Thread Cert.ConvKIdeal.nD Cert.ConvKIdeal.τ).loc Cert.ConvKIdeal.main_arg7) = m ((c.tc : Thread Cert.ConvKIdeal.nD Cert.ConvKIdeal.τ).loc Cert.ConvKIdeal.main_arg7))
      ∧ θ_run (Cert.ConvRIdeal.defs (F := Ideal)) (onTc (τ := Cert.ConvRIdeal.τ) (Cert.ConvRIdeal.main (F := Ideal))) ⟨m', fun _ => 0, g'⟩ (fun r => ∀ c : Dev Cert.ConvRIdeal.nD,
          r.2.mem ((c.tc : Thread Cert.ConvRIdeal.nD Cert.ConvRIdeal.τ).loc Cert.ConvRIdeal.main_v24) = v0 c
          ∧ r.2.mem ((c.tc : Thread Cert.ConvRIdeal.nD Cert.ConvRIdeal.τ).loc Cert.ConvRIdeal.main_v46) = v1 c
          ∧ r.2.mem ((c.tc : Thread Cert.ConvRIdeal.nD Cert.ConvRIdeal.τ).loc Cert.ConvRIdeal.main_arg0) = m' ((c.tc : Thread Cert.ConvRIdeal.nD Cert.ConvRIdeal.τ).loc Cert.ConvRIdeal.main_arg0)
          ∧ r.2.mem ((c.tc : Thread Cert.ConvRIdeal.nD Cert.ConvRIdeal.τ).loc Cert.ConvRIdeal.main_arg1) = m' ((c.tc : Thread Cert.ConvRIdeal.nD Cert.ConvRIdeal.τ).loc Cert.ConvRIdeal.main_arg1)
          ∧ r.2.mem ((c.tc : Thread Cert.ConvRIdeal.nD Cert.ConvRIdeal.τ).loc Cert.ConvRIdeal.main_arg2) = m' ((c.tc : Thread Cert.ConvRIdeal.nD Cert.ConvRIdeal.τ).loc Cert.ConvRIdeal.main_arg2)
          ∧ r.2.mem ((c.tc : Thread Cert.ConvRIdeal.nD Cert.ConvRIdeal.τ).loc Cert.ConvRIdeal.main_arg3) = m' ((c.tc : Thread Cert.ConvRIdeal.nD Cert.ConvRIdeal.τ).loc Cert.ConvRIdeal.main_arg3)
          ∧ r.2.mem ((c.tc : Thread Cert.ConvRIdeal.nD Cert.ConvRIdeal.τ).loc Cert.ConvRIdeal.main_arg4) = m' ((c.tc : Thread Cert.ConvRIdeal.nD Cert.ConvRIdeal.τ).loc Cert.ConvRIdeal.main_arg4)
          ∧ r.2.mem ((c.tc : Thread Cert.ConvRIdeal.nD Cert.ConvRIdeal.τ).loc Cert.ConvRIdeal.main_arg5) = m' ((c.tc : Thread Cert.ConvRIdeal.nD Cert.ConvRIdeal.τ).loc Cert.ConvRIdeal.main_arg5)
          ∧ r.2.mem ((c.tc : Thread Cert.ConvRIdeal.nD Cert.ConvRIdeal.τ).loc Cert.ConvRIdeal.main_arg6) = m' ((c.tc : Thread Cert.ConvRIdeal.nD Cert.ConvRIdeal.τ).loc Cert.ConvRIdeal.main_arg6)
          ∧ r.2.mem ((c.tc : Thread Cert.ConvRIdeal.nD Cert.ConvRIdeal.τ).loc Cert.ConvRIdeal.main_arg7) = m' ((c.tc : Thread Cert.ConvRIdeal.nD Cert.ConvRIdeal.τ).loc Cert.ConvRIdeal.main_arg7))

def Claim : Prop :=
  ∃ (hNormsK : Cert.NormsK.Facts) (hNormsKIdeal : Cert.NormsKIdeal.Facts) (hNormsRIdeal : Cert.NormsRIdeal.Facts) (hDPreK : Cert.DPreK.Facts) (hDPreKIdeal : Cert.DPreKIdeal.Facts) (hDPreRIdeal : Cert.DPreRIdeal.Facts) (hDwDownK : Cert.DwDownK.Facts) (hDwDownKIdeal : Cert.DwDownKIdeal.Facts) (hDwDownRIdeal : Cert.DwDownRIdeal.Facts) (hDwUpK : Cert.DwUpK.Facts) (hDwUpKIdeal : Cert.DwUpKIdeal.Facts) (hDwUpRIdeal : Cert.DwUpRIdeal.Facts) (hOutUpK : Cert.OutUpK.Facts) (hOutUpKIdeal : Cert.OutUpKIdeal.Facts) (hOutUpRIdeal : Cert.OutUpRIdeal.Facts) (hDuK : Cert.DuK.Facts) (hDuKIdeal : Cert.DuKIdeal.Facts) (hDuRIdeal : Cert.DuRIdeal.Facts) (hDwInK : Cert.DwInK.Facts) (hDwInKIdeal : Cert.DwInKIdeal.Facts) (hDwInRIdeal : Cert.DwInRIdeal.Facts) (hDwOutK : Cert.DwOutK.Facts) (hDwOutKIdeal : Cert.DwOutKIdeal.Facts) (hDwOutRIdeal : Cert.DwOutRIdeal.Facts) (hDwZK : Cert.DwZK.Facts) (hDwZKIdeal : Cert.DwZKIdeal.Facts) (hDwZRIdeal : Cert.DwZRIdeal.Facts) (hDwXlK : Cert.DwXlK.Facts) (hDwXlKIdeal : Cert.DwXlKIdeal.Facts) (hDwXlRIdeal : Cert.DwXlRIdeal.Facts) (hDwXbcK : Cert.DwXbcK.Facts) (hDwXbcKIdeal : Cert.DwXbcKIdeal.Facts) (hDwXbcRIdeal : Cert.DwXbcRIdeal.Facts) (hDwDtK : Cert.DwDtK.Facts) (hDwDtKIdeal : Cert.DwDtKIdeal.Facts) (hDwDtRIdeal : Cert.DwDtRIdeal.Facts) (hPXbcK : Cert.PXbcK.Facts) (hPXbcKIdeal : Cert.PXbcKIdeal.Facts) (hPXbcRIdeal : Cert.PXbcRIdeal.Facts) (hPDtK : Cert.PDtK.Facts) (hPDtKIdeal : Cert.PDtKIdeal.Facts) (hPDtRIdeal : Cert.PDtRIdeal.Facts) (hPFiveK : Cert.PFiveK.Facts) (hPFiveKIdeal : Cert.PFiveKIdeal.Facts) (hPFiveRIdeal : Cert.PFiveRIdeal.Facts) (hNormUK : Cert.NormUK.Facts) (hNormUKIdeal : Cert.NormUKIdeal.Facts) (hNormURIdeal : Cert.NormURIdeal.Facts) (hAdSK : Cert.AdSK.Facts) (hAdSKIdeal : Cert.AdSKIdeal.Facts) (hAdSRIdeal : Cert.AdSRIdeal.Facts) (hAdCsK : Cert.AdCsK.Facts) (hAdCsKIdeal : Cert.AdCsKIdeal.Facts) (hAdCsRIdeal : Cert.AdCsRIdeal.Facts) (hAdClK : Cert.AdClK.Facts) (hAdClKIdeal : Cert.AdClKIdeal.Facts) (hAdClRIdeal : Cert.AdClRIdeal.Facts) (hLossK : Cert.LossK.Facts) (hLossKIdeal : Cert.LossKIdeal.Facts) (hLossRIdeal : Cert.LossRIdeal.Facts) (hDwLruK : Cert.DwLruK.Facts) (hDwLruKIdeal : Cert.DwLruKIdeal.Facts) (hDwLruRIdeal : Cert.DwLruRIdeal.Facts) (hConvK : Cert.ConvK.Facts) (hConvKIdeal : Cert.ConvKIdeal.Facts) (hConvRIdeal : Cert.ConvRIdeal.Facts),
    quiescent_NormsK (hNormsK := hNormsK)
    ∧ quiescent_NormsKIdeal (hNormsKIdeal := hNormsKIdeal)
    ∧ quiescent_NormsRIdeal (hNormsRIdeal := hNormsRIdeal)
    ∧ quiescent_DPreK (hDPreK := hDPreK)
    ∧ quiescent_DPreKIdeal (hDPreKIdeal := hDPreKIdeal)
    ∧ quiescent_DPreRIdeal (hDPreRIdeal := hDPreRIdeal)
    ∧ quiescent_DwDownK (hDwDownK := hDwDownK)
    ∧ quiescent_DwDownKIdeal (hDwDownKIdeal := hDwDownKIdeal)
    ∧ quiescent_DwDownRIdeal (hDwDownRIdeal := hDwDownRIdeal)
    ∧ quiescent_DwUpK (hDwUpK := hDwUpK)
    ∧ quiescent_DwUpKIdeal (hDwUpKIdeal := hDwUpKIdeal)
    ∧ quiescent_DwUpRIdeal (hDwUpRIdeal := hDwUpRIdeal)
    ∧ quiescent_OutUpK (hOutUpK := hOutUpK)
    ∧ quiescent_OutUpKIdeal (hOutUpKIdeal := hOutUpKIdeal)
    ∧ quiescent_OutUpRIdeal (hOutUpRIdeal := hOutUpRIdeal)
    ∧ quiescent_DuK (hDuK := hDuK)
    ∧ quiescent_DuKIdeal (hDuKIdeal := hDuKIdeal)
    ∧ quiescent_DuRIdeal (hDuRIdeal := hDuRIdeal)
    ∧ quiescent_DwInK (hDwInK := hDwInK)
    ∧ quiescent_DwInKIdeal (hDwInKIdeal := hDwInKIdeal)
    ∧ quiescent_DwInRIdeal (hDwInRIdeal := hDwInRIdeal)
    ∧ quiescent_DwOutK (hDwOutK := hDwOutK)
    ∧ quiescent_DwOutKIdeal (hDwOutKIdeal := hDwOutKIdeal)
    ∧ quiescent_DwOutRIdeal (hDwOutRIdeal := hDwOutRIdeal)
    ∧ quiescent_DwZK (hDwZK := hDwZK)
    ∧ quiescent_DwZKIdeal (hDwZKIdeal := hDwZKIdeal)
    ∧ quiescent_DwZRIdeal (hDwZRIdeal := hDwZRIdeal)
    ∧ quiescent_DwXlK (hDwXlK := hDwXlK)
    ∧ quiescent_DwXlKIdeal (hDwXlKIdeal := hDwXlKIdeal)
    ∧ quiescent_DwXlRIdeal (hDwXlRIdeal := hDwXlRIdeal)
    ∧ quiescent_DwXbcK (hDwXbcK := hDwXbcK)
    ∧ quiescent_DwXbcKIdeal (hDwXbcKIdeal := hDwXbcKIdeal)
    ∧ quiescent_DwXbcRIdeal (hDwXbcRIdeal := hDwXbcRIdeal)
    ∧ quiescent_DwDtK (hDwDtK := hDwDtK)
    ∧ quiescent_DwDtKIdeal (hDwDtKIdeal := hDwDtKIdeal)
    ∧ quiescent_DwDtRIdeal (hDwDtRIdeal := hDwDtRIdeal)
    ∧ quiescent_PXbcK (hPXbcK := hPXbcK)
    ∧ quiescent_PXbcKIdeal (hPXbcKIdeal := hPXbcKIdeal)
    ∧ quiescent_PXbcRIdeal (hPXbcRIdeal := hPXbcRIdeal)
    ∧ quiescent_PDtK (hPDtK := hPDtK)
    ∧ quiescent_PDtKIdeal (hPDtKIdeal := hPDtKIdeal)
    ∧ quiescent_PDtRIdeal (hPDtRIdeal := hPDtRIdeal)
    ∧ quiescent_PFiveK (hPFiveK := hPFiveK)
    ∧ quiescent_PFiveKIdeal (hPFiveKIdeal := hPFiveKIdeal)
    ∧ quiescent_PFiveRIdeal (hPFiveRIdeal := hPFiveRIdeal)
    ∧ quiescent_NormUK (hNormUK := hNormUK)
    ∧ quiescent_NormUKIdeal (hNormUKIdeal := hNormUKIdeal)
    ∧ quiescent_NormURIdeal (hNormURIdeal := hNormURIdeal)
    ∧ quiescent_AdSK (hAdSK := hAdSK)
    ∧ quiescent_AdSKIdeal (hAdSKIdeal := hAdSKIdeal)
    ∧ quiescent_AdSRIdeal (hAdSRIdeal := hAdSRIdeal)
    ∧ quiescent_AdCsK (hAdCsK := hAdCsK)
    ∧ quiescent_AdCsKIdeal (hAdCsKIdeal := hAdCsKIdeal)
    ∧ quiescent_AdCsRIdeal (hAdCsRIdeal := hAdCsRIdeal)
    ∧ quiescent_AdClK (hAdClK := hAdClK)
    ∧ quiescent_AdClKIdeal (hAdClKIdeal := hAdClKIdeal)
    ∧ quiescent_AdClRIdeal (hAdClRIdeal := hAdClRIdeal)
    ∧ quiescent_LossK (hLossK := hLossK)
    ∧ quiescent_LossKIdeal (hLossKIdeal := hLossKIdeal)
    ∧ quiescent_LossRIdeal (hLossRIdeal := hLossRIdeal)
    ∧ quiescent_DwLruK (hDwLruK := hDwLruK)
    ∧ quiescent_DwLruKIdeal (hDwLruKIdeal := hDwLruKIdeal)
    ∧ quiescent_DwLruRIdeal (hDwLruRIdeal := hDwLruRIdeal)
    ∧ quiescent_ConvK (hConvK := hConvK)
    ∧ quiescent_ConvKIdeal (hConvKIdeal := hConvKIdeal)
    ∧ quiescent_ConvRIdeal (hConvRIdeal := hConvRIdeal)
    ∧ preserves_NormsK_NormsKIdeal
    ∧ algebraic_NormsKIdeal_NormsRIdeal (hNormsKIdeal := hNormsKIdeal) (hNormsRIdeal := hNormsRIdeal)
    ∧ preserves_DPreK_DPreKIdeal
    ∧ algebraic_DPreKIdeal_DPreRIdeal (hDPreKIdeal := hDPreKIdeal) (hDPreRIdeal := hDPreRIdeal)
    ∧ preserves_DwDownK_DwDownKIdeal
    ∧ algebraic_DwDownKIdeal_DwDownRIdeal (hDwDownKIdeal := hDwDownKIdeal) (hDwDownRIdeal := hDwDownRIdeal)
    ∧ preserves_DwUpK_DwUpKIdeal
    ∧ algebraic_DwUpKIdeal_DwUpRIdeal (hDwUpKIdeal := hDwUpKIdeal) (hDwUpRIdeal := hDwUpRIdeal)
    ∧ preserves_OutUpK_OutUpKIdeal
    ∧ algebraic_OutUpKIdeal_OutUpRIdeal (hOutUpKIdeal := hOutUpKIdeal) (hOutUpRIdeal := hOutUpRIdeal)
    ∧ preserves_DuK_DuKIdeal
    ∧ algebraic_DuKIdeal_DuRIdeal (hDuKIdeal := hDuKIdeal) (hDuRIdeal := hDuRIdeal)
    ∧ preserves_DwInK_DwInKIdeal
    ∧ algebraic_DwInKIdeal_DwInRIdeal (hDwInKIdeal := hDwInKIdeal) (hDwInRIdeal := hDwInRIdeal)
    ∧ preserves_DwOutK_DwOutKIdeal
    ∧ algebraic_DwOutKIdeal_DwOutRIdeal (hDwOutKIdeal := hDwOutKIdeal) (hDwOutRIdeal := hDwOutRIdeal)
    ∧ preserves_DwZK_DwZKIdeal
    ∧ algebraic_DwZKIdeal_DwZRIdeal (hDwZKIdeal := hDwZKIdeal) (hDwZRIdeal := hDwZRIdeal)
    ∧ preserves_DwXlK_DwXlKIdeal
    ∧ algebraic_DwXlKIdeal_DwXlRIdeal (hDwXlKIdeal := hDwXlKIdeal) (hDwXlRIdeal := hDwXlRIdeal)
    ∧ preserves_DwXbcK_DwXbcKIdeal
    ∧ algebraic_DwXbcKIdeal_DwXbcRIdeal (hDwXbcKIdeal := hDwXbcKIdeal) (hDwXbcRIdeal := hDwXbcRIdeal)
    ∧ preserves_DwDtK_DwDtKIdeal
    ∧ algebraic_DwDtKIdeal_DwDtRIdeal (hDwDtKIdeal := hDwDtKIdeal) (hDwDtRIdeal := hDwDtRIdeal)
    ∧ preserves_PXbcK_PXbcKIdeal
    ∧ algebraic_PXbcKIdeal_PXbcRIdeal (hPXbcKIdeal := hPXbcKIdeal) (hPXbcRIdeal := hPXbcRIdeal)
    ∧ preserves_PDtK_PDtKIdeal
    ∧ algebraic_PDtKIdeal_PDtRIdeal (hPDtKIdeal := hPDtKIdeal) (hPDtRIdeal := hPDtRIdeal)
    ∧ preserves_PFiveK_PFiveKIdeal
    ∧ algebraic_PFiveKIdeal_PFiveRIdeal (hPFiveKIdeal := hPFiveKIdeal) (hPFiveRIdeal := hPFiveRIdeal)
    ∧ preserves_NormUK_NormUKIdeal
    ∧ algebraic_NormUKIdeal_NormURIdeal (hNormUKIdeal := hNormUKIdeal) (hNormURIdeal := hNormURIdeal)
    ∧ preserves_AdSK_AdSKIdeal
    ∧ algebraic_AdSKIdeal_AdSRIdeal (hAdSKIdeal := hAdSKIdeal) (hAdSRIdeal := hAdSRIdeal)
    ∧ preserves_AdCsK_AdCsKIdeal
    ∧ algebraic_AdCsKIdeal_AdCsRIdeal (hAdCsKIdeal := hAdCsKIdeal) (hAdCsRIdeal := hAdCsRIdeal)
    ∧ preserves_AdClK_AdClKIdeal
    ∧ algebraic_AdClKIdeal_AdClRIdeal (hAdClKIdeal := hAdClKIdeal) (hAdClRIdeal := hAdClRIdeal)
    ∧ preserves_LossK_LossKIdeal
    ∧ algebraic_LossKIdeal_LossRIdeal (hLossKIdeal := hLossKIdeal) (hLossRIdeal := hLossRIdeal)
    ∧ preserves_DwLruK_DwLruKIdeal
    ∧ algebraic_DwLruKIdeal_DwLruRIdeal (hDwLruKIdeal := hDwLruKIdeal) (hDwLruRIdeal := hDwLruRIdeal)
    ∧ preserves_ConvK_ConvKIdeal
    ∧ algebraic_ConvKIdeal_ConvRIdeal (hConvKIdeal := hConvKIdeal) (hConvRIdeal := hConvRIdeal)
-- ==== NormsK.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 32
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S1024x4096, .bf16⟩
  | .hbm, ⟨6, _⟩ => ⟨S4096x1024, .f32⟩
  | .hbm, ⟨7, _⟩ => ⟨S4096x4096, .bf16⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S4096x1024, .f32⟩
  | .hbm, ⟨30, _⟩ => ⟨S1x1024, .f32⟩
  | .hbm, ⟨31, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v16_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== NormsRIdeal.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 107
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S1024x4096, .bf16⟩
  | .hbm, ⟨6, _⟩ => ⟨S4096x1024, .f32⟩
  | .hbm, ⟨7, _⟩ => ⟨S4096x4096, .bf16⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S1024x1024, .f32⟩
  | .hbm, ⟨12, _⟩ => ⟨S1024x4096, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x4096, .f32⟩
  | .hbm, ⟨55, _⟩ => ⟨S4096x4096, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x1024, .f32⟩
  | .hbm, ⟨93, _⟩ => ⟨S4096x1024, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_13 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_14 : Ref sig .tc := ⟨.hbm, 95, rfl⟩
abbrev main_v72 : Ref sig .tc := ⟨.hbm, 96, rfl⟩
abbrev main_v73 : Ref sig .tc := ⟨.hbm, 97, rfl⟩
abbrev main_cst_15 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]
-- ==== DPreK.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DPreRIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .hbm, ⟨3, _⟩ => ⟨S4096x4096, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== DwDownK.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_7 : BitVec 32 := 1#32
  let v14 : BitVec 1 := Scalar.cmpi .eq arg2 c1_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .f32⟩
  | .hbm, ⟨11, _⟩ => ⟨S1024x4096, .f32⟩
  | .hbm, ⟨12, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== DwUpK.lean ====
abbrev S4096x1024 : Shape := ⟨2, ![4096, 1024]⟩
abbrev S4096x4096 : Shape := ⟨2, ![4096, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutUpK.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1024x4096, .bf16⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x4096, .bf16⟩
  | .local _ .vmem, ⟨15, _⟩ => ⟨S512x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutUpRIdeal.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1024x4096, .bf16⟩
  | .hbm, ⟨6, _⟩ => ⟨S4096x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | .hbm, ⟨41, _⟩ => ⟨S1024x4096, .f32⟩
  | .hbm, ⟨42, _⟩ => ⟨S4096x4096, .f32⟩
  | .hbm, ⟨43, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== DuK.lean ====
abbrev S4096x3072 : Shape := ⟨2, ![4096, 3072]⟩
abbrev S4096x1024 : Shape := ⟨2, ![4096, 1024]⟩
abbrev S4096x1536 : Shape := ⟨2, ![4096, 1536]⟩
abbrev S4096x128 : Shape := ⟨2, ![4096, 128]⟩
abbrev S1024x6672 : Shape := ⟨2, ![1024, 6672]⟩
abbrev S1x1024 : Shape := ⟨2, ![1, 1024]⟩
abbrev S6672x1024 : Shape := ⟨2, ![6672, 1024]⟩
abbrev S1024x1024 : Shape := ⟨2, ![1024, 1024]⟩
abbrev S1536x1024 : Shape := ⟨2, ![1536, 1024]⟩
abbrev S16x1024 : Shape := ⟨2, ![16, 1024]⟩
abbrev S5120x1024 : Shape := ⟨2, ![5120, 1024]⟩
abbrev S_ : Shape := ⟨0, ![]⟩
abbrev S128x1024 : Shape := ⟨2, ![128, 1024]⟩
abbrev S512x3072 : Shape := ⟨2, ![512, 3072]⟩
abbrev S512x1024 : Shape := ⟨2, ![512, 1024]⟩
abbrev S512x1536 : Shape := ⟨2, ![512, 1536]⟩
abbrev S512x128 : Shape := ⟨2, ![512, 128]⟩
abbrev S3072x1024 : Shape := ⟨2, ![3072, 1024]⟩
abbrev S512 : Shape := ⟨1, ![512]⟩
abbrev S512x1 : Shape := ⟨2, ![512, 1]⟩
abbrev S1024 : Shape := ⟨1, ![1024]⟩

abbrev nBuf : Space → Nat
  | .hbm => 23
  | .vmem => 21
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x1024, .bf16⟩
  | .hbm, ⟨3, _⟩ => ⟨S4096x1536, .bf16⟩
  | .hbm, ⟨4, _⟩ => ⟨S4096x128, .bf16⟩
  | .hbm, ⟨5, _⟩ => ⟨S1024x6672, .bf16⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S6672x1024, .bf16⟩
  | .hbm, ⟨10, _⟩ => ⟨S1024x1024, .bf16⟩
  | .hbm, ⟨11, _⟩ => ⟨S1536x1024, .bf16⟩
  | .hbm, ⟨12, _⟩ => ⟨S16x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S5120x1024, .bf16⟩
  | .hbm, ⟨18, _⟩ => ⟨S_, .i32⟩
  | .hbm, ⟨19, _⟩ => ⟨S_, .bf16⟩
  | .hbm, ⟨20, _⟩ => ⟨S128x1024, .bf16⟩
  | .hbm, ⟨21, _⟩ => ⟨S4096x1024, .f32⟩
  | .hbm, ⟨22, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1536, .bf16⟩
  | .local _ .vmem, ⟨7, _⟩ => ⟨S512x1536, .bf16⟩
  | .local _ .vmem, ⟨8, _⟩ => ⟨S512x128, .bf16⟩
  | .local _ .vmem, ⟨9, _⟩ => ⟨S512x128, .bf16⟩
  | .local _ .vmem, ⟨10, _⟩ => ⟨S5120x1024, .bf16⟩
  | .local _ .vmem, ⟨11, _⟩ => ⟨S1536x1024, .bf16⟩
  | .local _ .vmem, ⟨12, _⟩ => ⟨S128x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5120x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== DuRIdeal.lean ====
abbrev S4096x3072 : Shape := ⟨2, ![4096, 3072]⟩
abbrev S4096x1024 : Shape := ⟨2, ![4096, 1024]⟩
abbrev S4096x1536 : Shape := ⟨2, ![4096, 1536]⟩
abbrev S4096x128 : Shape := ⟨2, ![4096, 128]⟩
abbrev S1024x6672 : Shape := ⟨2, ![1024, 6672]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x6672 : Shape := ⟨2, ![4096, 6672]⟩
abbrev S4096x16 : Shape := ⟨2, ![4096, 16]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x1024, .bf16⟩
  | .hbm, ⟨3, _⟩ => ⟨S4096x1536, .bf16⟩
  | .hbm, ⟨4, _⟩ => ⟨S4096x128, .bf16⟩
  | .hbm, ⟨5, _⟩ => ⟨S1024x6672, .bf16⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1024x6672, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x6672, .f32⟩
  | .hbm, ⟨30, _⟩ => ⟨S4096x1024, .f32⟩
  | .hbm, ⟨31, _⟩ => ⟨S4096x1536, .f32⟩
  | .hbm, ⟨32, _⟩ => ⟨S4096x16, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x3072, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1536, .f32⟩
  | .hbm, ⟨43, _⟩ => ⟨S4096x128, .f32⟩
  | .hbm, ⟨44, _⟩ => ⟨S4096x16, .f32⟩
  | .hbm, ⟨45, _⟩ => ⟨S4096x1024, .f32⟩
  | .hbm, ⟨46, _⟩ => ⟨S4096x6672, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== DwInK.lean ====
abbrev S4096x3072 : Shape := ⟨2, ![4096, 3072]⟩
abbrev S4096x1024 : Shape := ⟨2, ![4096, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRIdeal.lean ====
abbrev S4096x3072 : Shape := ⟨2, ![4096, 3072]⟩
abbrev S4096x1024 : Shape := ⟨2, ![4096, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S3072x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwOutK.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutRIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwZK.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwZRIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwXlK.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwXlRIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwXbcK.lean ====
abbrev S4096x1536 : Shape := ⟨2, ![4096, 1536]⟩
abbrev S4096x1024 : Shape := ⟨2, ![4096, 1024]⟩
abbrev S1536x1024 : Shape := ⟨2, ![1536, 1024]⟩
abbrev S2048x1536 : Shape := ⟨2, ![2048, 1536]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S1536x1024, .f32⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .f32⟩
  | .local _ .vmem, ⟨5, _⟩ => ⟨S1536x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1536x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwXbcRIdeal.lean ====
abbrev S4096x1536 : Shape := ⟨2, ![4096, 1536]⟩
abbrev S4096x1024 : Shape := ⟨2, ![4096, 1024]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S_, .f32⟩
  | .hbm, ⟨3, _⟩ => ⟨S1024x1536, .f32⟩
  | .hbm, ⟨4, _⟩ => ⟨S4096x1024, .f32⟩
  | .hbm, ⟨5, _⟩ => ⟨S4096x1536, .f32⟩
  | .hbm, ⟨6, _⟩ => ⟨S4096x1536, .f32⟩
  | .hbm, ⟨7, _⟩ => ⟨S1536x1024, .f32⟩
  | .hbm, ⟨8, _⟩ => ⟨S1024x1536, .f32⟩
  | .hbm, ⟨9, _⟩ => ⟨S1536x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwDtK.lean ====
abbrev S4096x128 : Shape := ⟨2, ![4096, 128]⟩
abbrev S4096x1024 : Shape := ⟨2, ![4096, 1024]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .bf16⟩
  | .hbm, ⟨1, _⟩ => ⟨S4096x1024, .bf16⟩
  | .hbm, ⟨2, _⟩ => ⟨S128x1024, .f32⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | .local _ .vmem, ⟨5, _⟩ => ⟨S128x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwDtRIdeal.lean ====
abbrev S4096x128 : Shape := ⟨2, ![4096, 128]⟩
abbrev S4096x1024 : Shape := ⟨2, ![4096, 1024]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x1024, .bf16⟩
  | .hbm, ⟨2, _⟩ => ⟨S_, .f32⟩
  | .hbm, ⟨3, _⟩ => ⟨S1024x128, .f32⟩
  | .hbm, ⟨4, _⟩ => ⟨S4096x1024, .f32⟩
  | .hbm, ⟨5, _⟩ => ⟨S4096x128, .f32⟩
  | .hbm, ⟨6, _⟩ => ⟨S4096x128, .f32⟩
  | .hbm, ⟨7, _⟩ => ⟨S128x1024, .f32⟩
  | .hbm, ⟨8, _⟩ => ⟨S1024x128, .f32⟩
  | .hbm, ⟨9, _⟩ => ⟨S128x1024, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PXbcK.lean ====
abbrev S4096x1024 : Shape := ⟨2, ![4096, 1024]⟩
abbrev S1536x1024 : Shape := ⟨2, ![1536, 1024]⟩
abbrev S4096x1536 : Shape := ⟨2, ![4096, 1536]⟩
abbrev S512x1024 : Shape := ⟨2, ![512, 1024]⟩
abbrev S512x1536 : Shape := ⟨2, ![512, 1536]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1536, .f32⟩
  | .local _ .vmem, ⟨0, _⟩ => ⟨S512x1024, .bf16⟩
  | .local _ .vmem, ⟨1, _⟩ => ⟨S512x1024, .bf16⟩
  | .local _ .vmem, ⟨2, _⟩ => ⟨S1536x1024, .bf16⟩
  | .local _ .vmem, ⟨3, _⟩ => ⟨S512x1536, .f32⟩
  | .local _ .vmem, ⟨4, _⟩ => ⟨S512x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PXbcRIdeal.lean ====
abbrev S4096x1024 : Shape := ⟨2, ![4096, 1024]⟩
abbrev S1536x1024 : Shape := ⟨2, ![1536, 1024]⟩
abbrev S1024x1536 : Shape := ⟨2, ![1024, 1536]⟩
abbrev S4096x1536 : Shape := ⟨2, ![4096, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1024, .f32⟩
  | .hbm, ⟨3, _⟩ => ⟨S1536x1024, .f32⟩
  | .hbm, ⟨4, _⟩ => ⟨S1024x1536, .f32⟩
  | .hbm, ⟨5, _⟩ => ⟨S4096x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PDtK.lean ====
abbrev S4096x1024 : Shape := ⟨2, ![4096, 1024]⟩
abbrev S128x1024 : Shape := ⟨2, ![128, 1024]⟩
abbrev S4096x128 : Shape := ⟨2, ![4096, 128]⟩
abbrev S512x1024 : Shape := ⟨2, ![512, 1024]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S128x1024, .bf16⟩
  | .hbm, ⟨2, _⟩ => ⟨S4096x128, .f32⟩
  | .local _ .vmem, ⟨0, _⟩ => ⟨S512x1024, .bf16⟩
  | .local _ .vmem, ⟨1, _⟩ => ⟨S512x1024, .bf16⟩
  | .local _ .vmem, ⟨2, _⟩ => ⟨S128x1024, .bf16⟩
  | .local _ .vmem, ⟨3, _⟩ => ⟨S512x128, .f32⟩
  | .local _ .vmem, ⟨4, _⟩ => ⟨S512x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PDtRIdeal.lean ====
abbrev S4096x1024 : Shape := ⟨2, ![4096, 1024]⟩
abbrev S128x1024 : Shape := ⟨2, ![128, 1024]⟩
abbrev S1024x128 : Shape := ⟨2, ![1024, 128]⟩
abbrev S4096x128 : Shape := ⟨2, ![4096, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S128x1024, .bf16⟩
  | .hbm, ⟨2, _⟩ => ⟨S4096x1024, .f32⟩
  | .hbm, ⟨3, _⟩ => ⟨S128x1024, .f32⟩
  | .hbm, ⟨4, _⟩ => ⟨S1024x128, .f32⟩
  | .hbm, ⟨5, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PFiveK.lean ====
abbrev S4096x1024 : Shape := ⟨2, ![4096, 1024]⟩
abbrev S5120x1024 : Shape := ⟨2, ![5120, 1024]⟩
abbrev S4096x5120 : Shape := ⟨2, ![4096, 5120]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S5120x1024, .bf16⟩
  | .hbm, ⟨2, _⟩ => ⟨S4096x5120, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PFiveRIdeal.lean ====
abbrev S4096x1024 : Shape := ⟨2, ![4096, 1024]⟩
abbrev S5120x1024 : Shape := ⟨2, ![5120, 1024]⟩
abbrev S1024x5120 : Shape := ⟨2, ![1024, 5120]⟩
abbrev S4096x5120 : Shape := ⟨2, ![4096, 5120]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5120x1024, .bf16⟩
  | .hbm, ⟨2, _⟩ => ⟨S4096x1024, .f32⟩
  | .hbm, ⟨3, _⟩ => ⟨S5120x1024, .f32⟩
  | .hbm, ⟨4, _⟩ => ⟨S1024x5120, .f32⟩
  | .hbm, ⟨5, _⟩ => ⟨S4096x5120, .f32⟩
  | .hbm, ⟨6, _⟩ => ⟨S4096x5120, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== NormUK.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormURIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== AdSK.lean ====
abbrev S1112x128 : Shape := ⟨2, ![1112, 128]⟩

abbrev nBuf : Space → Nat
  | .hbm => 7
  | .vmem => 7
  | .smem => 0
  | _ => 0

abbrev bufTy : (tb : Table) → Fin (tcTables nBuf tb) → BufTy
  | .hbm, ⟨0, _⟩ => ⟨S1112x128, .f32⟩
  | .hbm, ⟨1, _⟩ => ⟨S1112x128, .f32⟩
  | .hbm, ⟨2, _⟩ => ⟨S1112x128, .f32⟩
  | .hbm, ⟨3, _⟩ => ⟨S1112x128, .f32⟩
  | .hbm, ⟨4, _⟩ => ⟨S1112x128, .f32⟩
  | .hbm, ⟨5, _⟩ => ⟨S1112x128, .f32⟩
  | .hbm, ⟨6, _⟩ => ⟨S1112x128, .f32⟩
  | .local _ .vmem, ⟨0, _⟩ => ⟨S1112x128, .f32⟩
  | .local _ .vmem, ⟨1, _⟩ => ⟨S1112x128, .f32⟩
  | .local _ .vmem, ⟨2, _⟩ => ⟨S1112x128, .f32⟩
  | .local _ .vmem, ⟨3, _⟩ => ⟨S1112x128, .f32⟩
  | .local _ .vmem, ⟨4, _⟩ => ⟨S1112x128, .f32⟩
  | .local _ .vmem, ⟨5, _⟩ => ⟨S1112x128, .f32⟩
  | .local _ .vmem, ⟨6, _⟩ => ⟨S1112x128, .f32⟩
  | _, _ => ⟨S1112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1112x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1112x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1112x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1112x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1112x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1112x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1112x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdSRIdeal.lean ====
abbrev S1112x128 : Shape := ⟨2, ![1112, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1112x128, .f32⟩
  | .hbm, ⟨1, _⟩ => ⟨S1112x128, .f32⟩
  | .hbm, ⟨2, _⟩ => ⟨S1112x128, .f32⟩
  | .hbm, ⟨3, _⟩ => ⟨S1112x128, .f32⟩
  | .hbm, ⟨4, _⟩ => ⟨S_, .f32⟩
  | .hbm, ⟨5, _⟩ => ⟨S1112x128, .f32⟩
  | .hbm, ⟨6, _⟩ => ⟨S1112x128, .f32⟩
  | .hbm, ⟨7, _⟩ => ⟨S_, .f32⟩
  | .hbm, ⟨8, _⟩ => ⟨S1112x128, .f32⟩
  | .hbm, ⟨9, _⟩ => ⟨S1112x128, .f32⟩
  | .hbm, ⟨10, _⟩ => ⟨S1112x128, .f32⟩
  | .hbm, ⟨11, _⟩ => ⟨S_, .f32⟩
  | .hbm, ⟨12, _⟩ => ⟨S1112x128, .f32⟩
  | .hbm, ⟨13, _⟩ => ⟨S1112x128, .f32⟩
  | .hbm, ⟨14, _⟩ => ⟨S1112x128, .f32⟩
  | .hbm, ⟨15, _⟩ => ⟨S_, .f32⟩
  | .hbm, ⟨16, _⟩ => ⟨S1112x128, .f32⟩
  | .hbm, ⟨17, _⟩ => ⟨S1112x128, .f32⟩
  | .hbm, ⟨18, _⟩ => ⟨S1112x128, .f32⟩
  | .hbm, ⟨19, _⟩ => ⟨S_, .f32⟩
  | .hbm, ⟨20, _⟩ => ⟨S1112x128, .f32⟩
  | .hbm, ⟨21, _⟩ => ⟨S1112x128, .f32⟩
  | .hbm, ⟨22, _⟩ => ⟨S_, .f32⟩
  | .hbm, ⟨23, _⟩ => ⟨S1112x128, .f32⟩
  | .hbm, ⟨24, _⟩ => ⟨S1112x128, .f32⟩
  | .hbm, ⟨25, _⟩ => ⟨S1112x128, .f32⟩
  | .hbm, ⟨26, _⟩ => ⟨S_, .f32⟩
  | .hbm, ⟨27, _⟩ => ⟨S1112x128, .f32⟩
  | .hbm, ⟨28, _⟩ => ⟨S1112x128, .f32⟩
  | .hbm, ⟨29, _⟩ => ⟨S1112x128, .f32⟩
  | .hbm, ⟨30, _⟩ => ⟨S_, .f32⟩
  | .hbm, ⟨31, _⟩ => ⟨S1112x128, .f32⟩
  | .hbm, ⟨32, _⟩ => ⟨S1112x128, .f32⟩
  | .hbm, ⟨33, _⟩ => ⟨S1112x128, .f32⟩
  | .hbm, ⟨34, _⟩ => ⟨S_, .f32⟩
  | .hbm, ⟨35, _⟩ => ⟨S1112x128, .f32⟩
  | .hbm, ⟨36, _⟩ => ⟨S1112x128, .f32⟩
  | _, _ => ⟨S1112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdCsK.lean ====
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdCsRIdeal.lean ====
abbrev S4x384 : Shape := ⟨2, ![4, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S4x384, .f32⟩
  | .hbm, ⟨7, _⟩ => ⟨S_, .f32⟩
  | .hbm, ⟨8, _⟩ => ⟨S4x384, .f32⟩
  | .hbm, ⟨9, _⟩ => ⟨S4x384, .f32⟩
  | .hbm, ⟨10, _⟩ => ⟨S4x384, .f32⟩
  | .hbm, ⟨11, _⟩ => ⟨S_, .f32⟩
  | .hbm, ⟨12, _⟩ => ⟨S4x384, .f32⟩
  | .hbm, ⟨13, _⟩ => ⟨S4x384, .f32⟩
  | .hbm, ⟨14, _⟩ => ⟨S4x384, .f32⟩
  | .hbm, ⟨15, _⟩ => ⟨S_, .f32⟩
  | .hbm, ⟨16, _⟩ => ⟨S4x384, .f32⟩
  | .hbm, ⟨17, _⟩ => ⟨S4x384, .f32⟩
  | .hbm, ⟨18, _⟩ => ⟨S4x384, .f32⟩
  | .hbm, ⟨19, _⟩ => ⟨S_, .f32⟩
  | .hbm, ⟨20, _⟩ => ⟨S4x384, .f32⟩
  | .hbm, ⟨21, _⟩ => ⟨S4x384, .f32⟩
  | .hbm, ⟨22, _⟩ => ⟨S_, .f32⟩
  | .hbm, ⟨23, _⟩ => ⟨S4x384, .f32⟩
  | .hbm, ⟨24, _⟩ => ⟨S4x384, .f32⟩
  | .hbm, ⟨25, _⟩ => ⟨S4x384, .f32⟩
  | .hbm, ⟨26, _⟩ => ⟨S_, .f32⟩
  | .hbm, ⟨27, _⟩ => ⟨S4x384, .f32⟩
  | .hbm, ⟨28, _⟩ => ⟨S4x384, .f32⟩
  | .hbm, ⟨29, _⟩ => ⟨S4x384, .f32⟩
  | .hbm, ⟨30, _⟩ => ⟨S_, .f32⟩
  | .hbm, ⟨31, _⟩ => ⟨S4x384, .f32⟩
  | .hbm, ⟨32, _⟩ => ⟨S4x384, .f32⟩
  | .hbm, ⟨33, _⟩ => ⟨S4x384, .f32⟩
  | .hbm, ⟨34, _⟩ => ⟨S_, .f32⟩
  | .hbm, ⟨35, _⟩ => ⟨S4x384, .f32⟩
  | .hbm, ⟨36, _⟩ => ⟨S4x384, .f32⟩
  | _, _ => ⟨S4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdClK.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdClRIdeal.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== LossK.lean ====
abbrev S4096x4096 : Shape := ⟨2, ![4096, 4096]⟩
abbrev S4096x1024 : Shape := ⟨2, ![4096, 1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x128, .f32⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S_, .f32⟩
  | .hbm, ⟨6, _⟩ => ⟨S4096x1024, .f32⟩
  | .hbm, ⟨7, _⟩ => ⟨S4096x4096, .f32⟩
  | .hbm, ⟨8, _⟩ => ⟨S4096x1024, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .bf16⟩
  | .hbm, ⟨82, _⟩ => ⟨S1x128, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_cst_9 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_cst_11 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_12 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_13 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_14 : Ref sig .tc := ⟨.hbm, 71, rfl⟩
abbrev main_v49 : Ref sig .tc := ⟨.hbm, 72, rfl⟩
abbrev main_v50 : Ref sig .tc := ⟨.hbm, 73, rfl⟩
abbrev main_cst_15 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== DwLruK.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S1024x2048, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwLruRIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S4096x2048, .f32⟩
  | .hbm, ⟨6, _⟩ => ⟨S2048x1024, .f32⟩
  | .hbm, ⟨7, _⟩ => ⟨S1024x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ConvK.lean ====
abbrev S4096x1536 : Shape := ⟨2, ![4096, 1536]⟩
abbrev S4096x5120 : Shape := ⟨2, ![4096, 5120]⟩
abbrev S4096x128 : Shape := ⟨2, ![4096, 128]⟩
abbrev S4x1536 : Shape := ⟨2, ![4, 1536]⟩
abbrev S1x1536 : Shape := ⟨2, ![1, 1536]⟩
abbrev S4x1024 : Shape := ⟨2, ![4, 1024]⟩
abbrev S1x1024 : Shape := ⟨2, ![1, 1024]⟩
abbrev S1x128 : Shape := ⟨2, ![1, 128]⟩
abbrev S4096x1024 : Shape := ⟨2, ![4096, 1024]⟩
abbrev S512x1536 : Shape := ⟨2, ![512, 1536]⟩
abbrev S512x1024 : Shape := ⟨2, ![512, 1024]⟩
abbrev S512x128 : Shape := ⟨2, ![512, 128]⟩
abbrev S520x1536 : Shape := ⟨2, ![520, 1536]⟩
abbrev S520x1024 : Shape := ⟨2, ![520, 1024]⟩
abbrev S8x1536 : Shape := ⟨2, ![8, 1536]⟩
abbrev S8x1024 : Shape := ⟨2, ![8, 1024]⟩

abbrev nBuf : Space → Nat
  | .hbm => 12
  | .vmem => 21
  | .smem => 0
  | _ => 0

abbrev bufTy : (tb : Table) → Fin (tcTables nBuf tb) → BufTy
  | .hbm, ⟨0, _⟩ => ⟨S4096x1536, .f32⟩
  | .hbm, ⟨1, _⟩ => ⟨S4096x5120, .bf16⟩
  | .hbm, ⟨2, _⟩ => ⟨S4096x128, .f32⟩
  | .hbm, ⟨3, _⟩ => ⟨S4x1536, .f32⟩
  | .hbm, ⟨4, _⟩ => ⟨S1x1536, .f32⟩
  | .hbm, ⟨5, _⟩ => ⟨S4x1024, .f32⟩
  | .hbm, ⟨6, _⟩ => ⟨S1x1024, .f32⟩
  | .hbm, ⟨7, _⟩ => ⟨S1x128, .f32⟩
  | .hbm, ⟨8, _⟩ => ⟨S4096x1536, .f32⟩
  | .hbm, ⟨9, _⟩ => ⟨S4096x1536, .bf16⟩
  | .hbm, ⟨10, _⟩ => ⟨S4096x1024, .f32⟩
  | .hbm, ⟨11, _⟩ => ⟨S4096x128, .f32⟩
  | .local _ .vmem, ⟨0, _⟩ => ⟨S512x1536, .f32⟩
  | .local _ .vmem, ⟨1, _⟩ => ⟨S512x1536, .f32⟩
  | .local _ .vmem, ⟨2, _⟩ => ⟨S512x1024, .bf16⟩
  | .local _ .vmem, ⟨3, _⟩ => ⟨S512x1024, .bf16⟩
  | .local _ .vmem, ⟨4, _⟩ => ⟨S512x128, .f32⟩
  | .local _ .vmem, ⟨5, _⟩ => ⟨S512x128, .f32⟩
  | .local _ .vmem, ⟨6, _⟩ => ⟨S4x1536, .f32⟩
  | .local _ .vmem, ⟨7, _⟩ => ⟨S1x1536, .f32⟩
  | .local _ .vmem, ⟨8, _⟩ => ⟨S4x1024, .f32⟩
  | .local _ .vmem, ⟨9, _⟩ => ⟨S1x1024, .f32⟩
  | .local _ .vmem, ⟨10, _⟩ => ⟨S1x128, .f32⟩
  | .local _ .vmem, ⟨11, _⟩ => ⟨S512x1536, .f32⟩
  | .local _ .vmem, ⟨12, _⟩ => ⟨S512x1536, .f32⟩
  | .local _ .vmem, ⟨13, _⟩ => ⟨S512x1536, .bf16⟩
  | .local _ .vmem, ⟨14, _⟩ => ⟨S512x1536, .bf16⟩
  | .local _ .vmem, ⟨15, _⟩ => ⟨S512x1024, .f32⟩
  | .local _ .vmem, ⟨16, _⟩ => ⟨S512x1024, .f32⟩
  | .local _ .vmem, ⟨17, _⟩ => ⟨S512x128, .f32⟩
  | .local _ .vmem, ⟨18, _⟩ => ⟨S512x128, .f32⟩
  | .local _ .vmem, ⟨19, _⟩ => ⟨S520x1536, .f32⟩
  | .local _ .vmem, ⟨20, _⟩ => ⟨S520x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ConvRIdeal.lean ====
abbrev S4096x1536 : Shape := ⟨2, ![4096, 1536]⟩
abbrev S4096x5120 : Shape := ⟨2, ![4096, 5120]⟩
abbrev S4096x128 : Shape := ⟨2, ![4096, 128]⟩
abbrev S4x1536 : Shape := ⟨2, ![4, 1536]⟩
abbrev S1x1536 : Shape := ⟨2, ![1, 1536]⟩
abbrev S4x1024 : Shape := ⟨2, ![4, 1024]⟩
abbrev S1x1024 : Shape := ⟨2, ![1, 1024]⟩
abbrev S1x128 : Shape := ⟨2, ![1, 128]⟩
abbrev S4096x1024 : Shape := ⟨2, ![4096, 1024]⟩
abbrev S_ : Shape := ⟨0, ![]⟩
abbrev S3x1536 : Shape := ⟨2, ![3, 1536]⟩
abbrev S4099x1536 : Shape := ⟨2, ![4099, 1536]⟩
abbrev S3x1024 : Shape := ⟨2, ![3, 1024]⟩
abbrev S4099x1024 : Shape := ⟨2, ![4099, 1024]⟩

abbrev nBuf : Space → Nat
  | .hbm => 65
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x5120, .bf16⟩
  | .hbm, ⟨2, _⟩ => ⟨S4096x128, .f32⟩
  | .hbm, ⟨3, _⟩ => ⟨S4x1536, .f32⟩
  | .hbm, ⟨4, _⟩ => ⟨S1x1536, .f32⟩
  | .hbm, ⟨5, _⟩ => ⟨S4x1024, .f32⟩
  | .hbm, ⟨6, _⟩ => ⟨S1x1024, .f32⟩
  | .hbm, ⟨7, _⟩ => ⟨S1x128, .f32⟩
  | .hbm, ⟨8, _⟩ => ⟨S4096x1024, .bf16⟩
  | .hbm, ⟨9, _⟩ => ⟨S4096x1024, .f32⟩
  | .hbm, ⟨10, _⟩ => ⟨S_, .f32⟩
  | .hbm, ⟨11, _⟩ => ⟨S3x1536, .f32⟩
  | .hbm, ⟨12, _⟩ => ⟨S4099x1536, .f32⟩
  | .hbm, ⟨13, _⟩ => ⟨S1x1536, .f32⟩
  | .hbm, ⟨14, _⟩ => ⟨S4096x1536, .f32⟩
  | .hbm, ⟨15, _⟩ => ⟨S4096x1536, .f32⟩
  | .hbm, ⟨16, _⟩ => ⟨S4096x1536, .f32⟩
  | .hbm, ⟨17, _⟩ => ⟨S1x1536, .f32⟩
  | .hbm, ⟨18, _⟩ => ⟨S4096x1536, .f32⟩
  | .hbm, ⟨19, _⟩ => ⟨S4096x1536, .f32⟩
  | .hbm, ⟨20, _⟩ => ⟨S4096x1536, .f32⟩
  | .hbm, ⟨21, _⟩ => ⟨S4096x1536, .f32⟩
  | .hbm, ⟨22, _⟩ => ⟨S1x1536, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S4096x1536, .f32⟩
  | .hbm, ⟨27, _⟩ => ⟨S1x1536, .f32⟩
  | .hbm, ⟨28, _⟩ => ⟨S4096x1536, .f32⟩
  | .hbm, ⟨29, _⟩ => ⟨S4096x1536, .f32⟩
  | .hbm, ⟨30, _⟩ => ⟨S4096x1536, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S4096x1536, .f32⟩
  | .hbm, ⟨35, _⟩ => ⟨S_, .f32⟩
  | .hbm, ⟨36, _⟩ => ⟨S4096x1536, .f32⟩
  | .hbm, ⟨37, _⟩ => ⟨S4096x1536, .f32⟩
  | .hbm, ⟨38, _⟩ => ⟨S_, .f32⟩
  | .hbm, ⟨39, _⟩ => ⟨S4096x1536, .f32⟩
  | .hbm, ⟨40, _⟩ => ⟨S4096x1536, .f32⟩
  | .hbm, ⟨41, _⟩ => ⟨S4096x1536, .f32⟩
  | .hbm, ⟨42, _⟩ => ⟨S_, .f32⟩
  | .hbm, ⟨43, _⟩ => ⟨S3x1024, .f32⟩
  | .hbm, ⟨44, _⟩ => ⟨S4099x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v24 : Ref sig .tc := ⟨.hbm, 41, rfl⟩
abbrev main_cst_0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Proof.NormsBlocks.lean ====
/- The gradient of the norms, kernel: what one grid point leaves in each result block, as a function of the blocks it reads. -/
module

public import proofs.«01_k».proof.Proof.Gen.NormsKIdeal.Value
public import Idealize.ShloMosaic.Lib.Tactic

@[expose] public section

set_option maxRecDepth 8000

noncomputable section

namespace Cert.NormsKIdeal.Blocks

open Cert.NormsKIdeal Cert.NormsKIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

theorem out0_A_8_eq (c : Dev nD) (i : grid0.Coords) (arg1 : Memref sig .tc .vmem S512x4096 .bf16) (harg1 : arg1.IsWhole) (arg2 : Memref sig .tc .vmem S1024x4096 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (hc0 : cond0_0 i) (x0 : Vec F S512x4096 .bf16) (x1 : Vec F S1024x4096 .bf16) (x2 : Vec F S512x1024 .f32) (x3 : Vec F S512x1024 .f32) (x4 : Vec F S512x1024 .f32) (x5 : Vec F S1x1024 .f32) (x6 : Vec F S1x1024 .f32) (x7 : Vec F S1024x1024 .bf16) :
    out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = k0_pay9 x0 x1 x2 x5 x4 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  rw [View.canon_unit_zero hz]
  try sl_unfold_words
  simp only [View.readAt_eq_ld, Memref.IsWhole.read_unread, View.ld_unit_zero (S := S512x4096) hz, View.ld_unit_zero (S := S1024x4096) hz, View.ld_unit_zero (S := S512x1024) hz, View.ld_unit_zero (S := S1x1024) hz, View.ld_unit_zero (S := S1024x1024) hz]

theorem out0_A_9_eq (c : Dev nD) (i : grid0.Coords) (arg1 : Memref sig .tc .vmem S512x4096 .bf16) (harg1 : arg1.IsWhole) (arg2 : Memref sig .tc .vmem S1024x4096 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (hc0 : cond0_0 i) (x0 : Vec F S512x4096 .bf16) (x1 : Vec F S1024x4096 .bf16) (x2 : Vec F S512x1024 .f32) (x3 : Vec F S512x1024 .f32) (x4 : Vec F S512x1024 .f32) (x5 : Vec F S1x1024 .f32) (x6 : Vec F S1x1024 .f32) (x7 : Vec F S1024x1024 .bf16) :
    out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = k0_pay14 (k0_pay9 x0 x1 x2 x5 x4) x3 x6 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  rw [View.canon_unit_zero hz]
  try sl_unfold_words
  simp only [View.readAt_eq_ld, Memref.IsWhole.read_unread, View.ld_unit_zero (S := S512x4096) hz, View.ld_unit_zero (S := S1024x4096) hz, View.ld_unit_zero (S := S512x1024) hz, View.ld_unit_zero (S := S1x1024) hz, View.ld_unit_zero (S := S1024x1024) hz]

theorem out0_A_10_eq (c : Dev nD) (i : grid0.Coords) (arg1 : Memref sig .tc .vmem S512x4096 .bf16) (harg1 : arg1.IsWhole) (arg2 : Memref sig .tc .vmem S1024x4096 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (hc0 : cond0_0 i) (x0 : Vec F S512x4096 .bf16) (x1 : Vec F S1024x4096 .bf16) (x2 : Vec F S512x1024 .f32) (x3 : Vec F S512x1024 .f32) (x4 : Vec F S512x1024 .f32) (x5 : Vec F S1x1024 .f32) (x6 : Vec F S1x1024 .f32) (x7 : Vec F S1024x1024 .bf16) :
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = k0_pay15 (k0_pay9 x0 x1 x2 x5 x4) x3 x6 x7 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  rw [View.canon_unit_zero hz]
  try sl_unfold_words
  simp only [View.readAt_eq_ld, Memref.IsWhole.read_unread, View.ld_unit_zero (S := S512x4096) hz, View.ld_unit_zero (S := S1024x4096) hz, View.ld_unit_zero (S := S512x1024) hz, View.ld_unit_zero (S := S1x1024) hz, View.ld_unit_zero (S := S1024x1024) hz]

theorem out0_A_11_eq (c : Dev nD) (i : grid0.Coords) (arg1 : Memref sig .tc .vmem S512x4096 .bf16) (harg1 : arg1.IsWhole) (arg2 : Memref sig .tc .vmem S1024x4096 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (hc0 : cond0_0 i) (x0 : Vec F S512x4096 .bf16) (x1 : Vec F S1024x4096 .bf16) (x2 : Vec F S512x1024 .f32) (x3 : Vec F S512x1024 .f32) (x4 : Vec F S512x1024 .f32) (x5 : Vec F S1x1024 .f32) (x6 : Vec F S1x1024 .f32) (x7 : Vec F S1024x1024 .bf16) :
    out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = k0_pay16 (k0_pay8 x0 x1 x2) k0_pay2 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  rw [View.canon_cons_unit_zero (S := S1x1024) hz, View.readCov_unit_zero (S := S1x1024) _ hz]
  simp only [View.readAt_eq_ld, Memref.IsWhole.read_unread, View.ld_unit_zero (S := S512x4096) hz, View.ld_unit_zero (S := S1024x4096) hz, View.ld_unit_zero (S := S512x1024) hz, View.ld_unit_zero (S := S1x1024) hz, View.ld_unit_zero (S := S1024x1024) hz]

theorem out0_A_12_eq (c : Dev nD) (i : grid0.Coords) (arg1 : Memref sig .tc .vmem S512x4096 .bf16) (harg1 : arg1.IsWhole) (arg2 : Memref sig .tc .vmem S1024x4096 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (hc0 : cond0_0 i) (x0 : Vec F S512x4096 .bf16) (x1 : Vec F S1024x4096 .bf16) (x2 : Vec F S512x1024 .f32) (x3 : Vec F S512x1024 .f32) (x4 : Vec F S512x1024 .f32) (x5 : Vec F S1x1024 .f32) (x6 : Vec F S1x1024 .f32) (x7 : Vec F S1024x1024 .bf16) :
    out0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = k0_pay1 (k0_pay13 (k0_pay9 x0 x1 x2 x5 x4) x3) k0_pay3 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  rw [View.canon_cons_unit_zero (S := S1x1024) hz, View.readCov_unit_zero (S := S1x1024) _ hz]
  simp only [View.readAt_eq_ld, Memref.IsWhole.read_unread, View.ld_unit_zero (S := S512x4096) hz, View.ld_unit_zero (S := S1024x4096) hz, View.ld_unit_zero (S := S512x1024) hz, View.ld_unit_zero (S := S1x1024) hz, View.ld_unit_zero (S := S1024x1024) hz]

theorem out0_B_8_eq (c : Dev nD) (i : grid0.Coords) (arg1 : Memref sig .tc .vmem S512x4096 .bf16) (harg1 : arg1.IsWhole) (arg2 : Memref sig .tc .vmem S1024x4096 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (hc0 : ¬cond0_0 i) (x0 : Vec F S512x4096 .bf16) (x1 : Vec F S1024x4096 .bf16) (x2 : Vec F S512x1024 .f32) (x3 : Vec F S512x1024 .f32) (x4 : Vec F S512x1024 .f32) (x5 : Vec F S1x1024 .f32) (x6 : Vec F S1x1024 .f32) (x7 : Vec F S1024x1024 .bf16) (xo11 : Vec F S1x1024 .f32) (xo12 : Vec F S1x1024 .f32) :
    out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo11 xo12 = k0_pay9 x0 x1 x2 x5 x4 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo11 xo12)]
  unfold kernelRun0_B
  dsimp only
  rw [View.canon_unit_zero hz]
  try sl_unfold_words
  simp only [View.readAt_eq_ld, Memref.IsWhole.read_unread, View.ld_unit_zero (S := S512x4096) hz, View.ld_unit_zero (S := S1024x4096) hz, View.ld_unit_zero (S := S512x1024) hz, View.ld_unit_zero (S := S1x1024) hz, View.ld_unit_zero (S := S1024x1024) hz]

theorem out0_B_9_eq (c : Dev nD) (i : grid0.Coords) (arg1 : Memref sig .tc .vmem S512x4096 .bf16) (harg1 : arg1.IsWhole) (arg2 : Memref sig .tc .vmem S1024x4096 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (hc0 : ¬cond0_0 i) (x0 : Vec F S512x4096 .bf16) (x1 : Vec F S1024x4096 .bf16) (x2 : Vec F S512x1024 .f32) (x3 : Vec F S512x1024 .f32) (x4 : Vec F S512x1024 .f32) (x5 : Vec F S1x1024 .f32) (x6 : Vec F S1x1024 .f32) (x7 : Vec F S1024x1024 .bf16) (xo11 : Vec F S1x1024 .f32) (xo12 : Vec F S1x1024 .f32) :
    out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo11 xo12 = k0_pay14 (k0_pay9 x0 x1 x2 x5 x4) x3 x6 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo11 xo12)]
  unfold kernelRun0_B
  dsimp only
  rw [View.canon_unit_zero hz]
  try sl_unfold_words
  simp only [View.readAt_eq_ld, Memref.IsWhole.read_unread, View.ld_unit_zero (S := S512x4096) hz, View.ld_unit_zero (S := S1024x4096) hz, View.ld_unit_zero (S := S512x1024) hz, View.ld_unit_zero (S := S1x1024) hz, View.ld_unit_zero (S := S1024x1024) hz]

theorem out0_B_10_eq (c : Dev nD) (i : grid0.Coords) (arg1 : Memref sig .tc .vmem S512x4096 .bf16) (harg1 : arg1.IsWhole) (arg2 : Memref sig .tc .vmem S1024x4096 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (hc0 : ¬cond0_0 i) (x0 : Vec F S512x4096 .bf16) (x1 : Vec F S1024x4096 .bf16) (x2 : Vec F S512x1024 .f32) (x3 : Vec F S512x1024 .f32) (x4 : Vec F S512x1024 .f32) (x5 : Vec F S1x1024 .f32) (x6 : Vec F S1x1024 .f32) (x7 : Vec F S1024x1024 .bf16) (xo11 : Vec F S1x1024 .f32) (xo12 : Vec F S1x1024 .f32) :
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo11 xo12 = k0_pay15 (k0_pay9 x0 x1 x2 x5 x4) x3 x6 x7 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo11 xo12)]
  unfold kernelRun0_B
  dsimp only
  rw [View.canon_unit_zero hz]
  try sl_unfold_words
  simp only [View.readAt_eq_ld, Memref.IsWhole.read_unread, View.ld_unit_zero (S := S512x4096) hz, View.ld_unit_zero (S := S1024x4096) hz, View.ld_unit_zero (S := S512x1024) hz, View.ld_unit_zero (S := S1x1024) hz, View.ld_unit_zero (S := S1024x1024) hz]

theorem out0_B_11_eq (c : Dev nD) (i : grid0.Coords) (arg1 : Memref sig .tc .vmem S512x4096 .bf16) (harg1 : arg1.IsWhole) (arg2 : Memref sig .tc .vmem S1024x4096 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (hc0 : ¬cond0_0 i) (x0 : Vec F S512x4096 .bf16) (x1 : Vec F S1024x4096 .bf16) (x2 : Vec F S512x1024 .f32) (x3 : Vec F S512x1024 .f32) (x4 : Vec F S512x1024 .f32) (x5 : Vec F S1x1024 .f32) (x6 : Vec F S1x1024 .f32) (x7 : Vec F S1024x1024 .bf16) (xo11 : Vec F S1x1024 .f32) (xo12 : Vec F S1x1024 .f32) :
    out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo11 xo12 = k0_pay16 (k0_pay8 x0 x1 x2) xo11 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo11 xo12)]
  unfold kernelRun0_B
  dsimp only
  rw [View.canon_unit_zero hz]
  try sl_unfold_words
  simp only [View.readAt_eq_ld, Memref.IsWhole.read_unread, View.ld_unit_zero (S := S512x4096) hz, View.ld_unit_zero (S := S1024x4096) hz, View.ld_unit_zero (S := S512x1024) hz, View.ld_unit_zero (S := S1x1024) hz, View.ld_unit_zero (S := S1024x1024) hz]

theorem out0_B_12_eq (c : Dev nD) (i : grid0.Coords) (arg1 : Memref sig .tc .vmem S512x4096 .bf16) (harg1 : arg1.IsWhole) (arg2 : Memref sig .tc .vmem S1024x4096 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (hc0 : ¬cond0_0 i) (x0 : Vec F S512x4096 .bf16) (x1 : Vec F S1024x4096 .bf16) (x2 : Vec F S512x1024 .f32) (x3 : Vec F S512x1024 .f32) (x4 : Vec F S512x1024 .f32) (x5 : Vec F S1x1024 .f32) (x6 : Vec F S1x1024 .f32) (x7 : Vec F S1024x1024 .bf16) (xo11 : Vec F S1x1024 .f32) (xo12 : Vec F S1x1024 .f32) :
    out0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo11 xo12 = k0_pay1 (k0_pay13 (k0_pay9 x0 x1 x2 x5 x4) x3) xo12 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo11 xo12)]
  unfold kernelRun0_B
  dsimp only
  rw [View.canon_unit_zero hz]
  try sl_unfold_words
  simp only [View.readAt_eq_ld, Memref.IsWhole.read_unread, View.ld_unit_zero (S := S512x4096) hz, View.ld_unit_zero (S := S1024x4096) hz, View.ld_unit_zero (S := S512x1024) hz, View.ld_unit_zero (S := S1x1024) hz, View.ld_unit_zero (S := S1024x1024) hz]

end Cert.NormsKIdeal.Blocks

end
-- ==== Proof.NormRow.lean ====
/- A row's normalization by its root mean square, and its gradient, over the extended reals: the gradient written with the
   normalized row equals the gradient written with the derivative of the reciprocal square root, at every row. -/
module

public import Idealize.ShloMosaic.Lib.Pointwise

@[expose] public section

noncomputable section

namespace Cert.NormRow

open Idealize.ShloMosaic

/-- The row length as the programs write it. -/
abbrev len : EReal := Ideal.ofBits .f32 0x44800000#32
/-- The number added to the mean square. -/
abbrev eps : EReal := Ideal.ofBits .f32 0x358637BD#32
/-- Minus one half. -/
abbrev mhalf : EReal := Ideal.ofBits .f32 0xBF000000#32

theorem len_eq : len = ((1024 : ℝ) : EReal) := by
  simp [len, Ideal.ofBits, Ideal.ieee]
  norm_cast
  norm_num
theorem mhalf_eq : mhalf = ((-(1 / 2) : ℝ) : EReal) := by
  simp [mhalf, Ideal.ofBits, Ideal.ieee]
  rw [← EReal.coe_mul]
  norm_num
theorem eps_eq : ∃ e : ℝ, 0 < e ∧ eps = (e : EReal) := by
  refine ⟨8796093 * 2 ^ (-43 : ℤ), by positivity, ?_⟩
  simp [eps, Ideal.ofBits, Ideal.ieee]

/-- The mean square of a row, plus `eps`. -/
def ms (x : Fin 1024 → EReal) : EReal := Ideal.div (∑ k, x k * x k) len + eps
/-- Its reciprocal square root. -/
def rs (x : Fin 1024 → EReal) : EReal := Ideal.rsqrt (ms x)
/-- The row normalized. -/
def xn (x : Fin 1024 → EReal) (j : Fin 1024) : EReal := x j * rs x
/-- The gradient of the normalized row at the cotangent `a`, written with the normalized row. -/
def bwd (x a : Fin 1024 → EReal) (j : Fin 1024) : EReal :=
  rs x * (a j - xn x j * Ideal.div (∑ k, a k * xn x k) len)
/-- The factor of the row in the gradient, written with the derivative of the reciprocal square root. -/
def coef (x a : Fin 1024 → EReal) : EReal :=
  Ideal.div ((∑ k, x k * a k) * (mhalf * Ideal.div (rs x) (ms x))) len

theorem coe_mul_add {r : ℝ} (hr : 0 ≤ r) (y z : EReal) : (r : EReal) * (y + z) = r * y + r * z :=
  EReal.left_distrib_of_nonneg_of_ne_top (by exact_mod_cast hr) (EReal.coe_ne_top r) y z

theorem coe_mul_sum (r : ℝ) (hr : 0 ≤ r) {ι : Type} (s : Finset ι) (f : ι → EReal) : (r : EReal) * ∑ k ∈ s, f k = ∑ k ∈ s, r * f k := by
  classical
  induction s using Finset.induction with
  | empty => simp
  | insert a s ha ih => rw [Finset.sum_insert ha, Finset.sum_insert ha, coe_mul_add hr, ih]

theorem coe_sum {ι : Type} (s : Finset ι) (f : ι → ℝ) : ((∑ k ∈ s, f k : ℝ) : EReal) = ∑ k ∈ s, (f k : EReal) := by
  classical
  induction s using Finset.induction with
  | empty => simp
  | insert a s ha ih => rw [Finset.sum_insert ha, Finset.sum_insert ha, EReal.coe_add, ih]

theorem mul_self_nonneg (x : EReal) : 0 ≤ x * x := by
  induction x with
  | bot => simp
  | top => simp
  | coe r => exact_mod_cast _root_.mul_self_nonneg r

/-- Either the mean square is infinite and the factor zero, or the row is real. -/
theorem cases_row (x : Fin 1024 → EReal) :
    (ms x = ⊤ ∧ rs x = 0) ∨ ∃ (ξ : Fin 1024 → ℝ) (v ρ : ℝ), (∀ k, x k = ξ k) ∧ 0 < v ∧ 0 < ρ ∧ ms x = v ∧ rs x = ρ ∧ ρ * v⁻¹ = ρ ^ 3 := by
  obtain ⟨e, he, hE⟩ := eps_eq
  by_cases h : ∃ k, x k * x k = ⊤
  · left
    obtain ⟨k, hk⟩ := h
    have hs : ∑ k, x k * x k = ⊤ := by
      rw [← Finset.add_sum_erase _ _ (Finset.mem_univ k), hk]
      refine EReal.top_add_of_ne_bot (ne_of_gt (lt_of_lt_of_le EReal.bot_lt_zero (Finset.sum_nonneg fun i _ => mul_self_nonneg _)))
    have hm : ms x = ⊤ := by
      rw [ms, hs, len_eq, Ideal.div_coe (by norm_num), hE, EReal.top_mul_coe_of_pos (by norm_num)]
      rfl
    exact ⟨hm, by rw [rs, hm]; rfl⟩
  · right
    have hx : ∀ k, ∃ r : ℝ, x k = r := fun k => by
      generalize hxk : x k = y
      induction y with
      | bot => exact absurd ⟨k, by rw [hxk]; rfl⟩ h
      | coe r => exact ⟨r, rfl⟩
      | top => exact absurd ⟨k, by rw [hxk]; rfl⟩ h
    choose ξ hξ using hx
    have hs : ∑ k, x k * x k = ((∑ k, ξ k * ξ k : ℝ) : EReal) := by
      rw [coe_sum]
      exact Finset.sum_congr rfl fun k _ => by rw [hξ k, EReal.coe_mul]
    set v : ℝ := (∑ k, ξ k * ξ k) * (1 / 1024) + e with hv
    have h0 : 0 < v := by
      have : 0 ≤ ∑ k, ξ k * ξ k := Finset.sum_nonneg fun k _ => _root_.mul_self_nonneg _
      positivity
    have hm : ms x = v := by
      rw [ms, hs, len_eq, Ideal.div_coe (by norm_num), hE, hv]
      push_cast
      rfl
    have hsq : 0 < Real.sqrt v := Real.sqrt_pos.2 h0
    refine ⟨ξ, v, (Real.sqrt v)⁻¹, hξ, h0, inv_pos.2 hsq, hm, ?_, ?_⟩
    · rw [rs, hm, Ideal.rsqrt_coe, if_neg (not_lt.2 h0.le), if_neg h0.ne']
    · have := Real.sq_sqrt h0.le
      rw [← this, Real.sqrt_sq hsq.le]
      field_simp

theorem mul_coe_add_self (S : EReal) (a : ℝ) : S * (a : EReal) + S * (a : EReal) = S * ((a + a : ℝ) : EReal) := by
  rcases lt_trichotomy a 0 with h | h | h
  · induction S with
    | bot => rw [EReal.bot_mul_coe_of_neg h, EReal.bot_mul_coe_of_neg (by linarith)]; rfl
    | top => rw [EReal.top_mul_coe_of_neg h, EReal.top_mul_coe_of_neg (by linarith)]; rfl
    | coe r => norm_cast; ring
  · subst h; simp
  · rw [EReal.coe_add, EReal.left_distrib_of_nonneg (by exact_mod_cast h.le) (by exact_mod_cast h.le)]

/-- The two ways to write the gradient agree. -/
theorem bwd_eq (x a : Fin 1024 → EReal) (j : Fin 1024) : bwd x a j = a j * rs x + (x j * coef x a + coef x a * x j) := by
  rcases cases_row x with ⟨hm, hr⟩ | ⟨ξ, v, ρ, hξ, hv, hρ, hm, hr, h3⟩
  · have hc : coef x a = 0 := by
      rw [coef, hr, hm, len_eq, Ideal.div_coe (by norm_num), Ideal.div, if_neg EReal.top_ne_zero]
      simp
    rw [bwd, hr, hc]; simp
  · have hsum : ∑ k, a k * xn x k = (ρ : EReal) * ∑ k, x k * a k := by
      rw [coe_mul_sum ρ hρ.le]
      refine Finset.sum_congr rfl fun k _ => ?_
      rw [xn, hr, mul_comm (a k), mul_comm (x k), mul_assoc]
    set S := ∑ k, x k * a k with hS
    have hc : coef x a = S * ((-(1 / 2) * ρ ^ 3 * (1 / 1024) : ℝ) : EReal) := by
      rw [coef, ← hS, hr, hm, len_eq, mhalf_eq, Ideal.div_coe (by norm_num), Ideal.div_coe hv.ne', mul_assoc, one_div, ← h3, one_div]
      norm_cast
    have h1 : x j * coef x a = S * ((ξ j * (-(1 / 2) * ρ ^ 3 * (1 / 1024)) : ℝ) : EReal) := by
      rw [hc, hξ j, mul_left_comm]; norm_cast
    have h2 : coef x a * x j = S * ((ξ j * (-(1 / 2) * ρ ^ 3 * (1 / 1024)) : ℝ) : EReal) := by rw [mul_comm, h1]
    rw [h1, h2, mul_coe_add_self, bwd, hsum, xn, hr, len_eq, Ideal.div_coe (by norm_num), sub_eq_add_neg,
      coe_mul_add hρ.le, mul_comm (ρ : EReal) (a j)]
    congr 1
    have h4 : (ξ j : EReal) * ρ * ((ρ : EReal) * S * ((1 / 1024 : ℝ) : EReal)) = S * ((ξ j * ρ * (ρ * (1 / 1024)) : ℝ) : EReal) := by
      push_cast
      ac_rfl
    rw [hξ j, h4, ← mul_neg, mul_left_comm, ← EReal.coe_neg, ← EReal.coe_mul]
    congr 2
    ring

end Cert.NormRow

end
-- ==== Proof.NormsPay.lean ====
/- The gradient of the norms, kernel: the values a grid point computes, element by element. -/
module

public import proofs.«01_k».proof.Proof.Gen.NormsKIdeal.Skeleton
public import proofs.«01_k».proof.Proof.NormRow

@[expose] public section

set_option maxRecDepth 8000

noncomputable section

namespace Cert.NormsKIdeal.Pay

open Cert.NormsKIdeal Cert.NormsKIdeal.Gen Idealize.ShloMosaic Cert.NormRow

variable (v3 : Vec Ideal S512x4096 .bf16) (v4 : Vec Ideal S1024x4096 .bf16) (v6 v34 v37 v35 : Vec Ideal S512x1024 .f32)
  (v16 v47 : Vec Ideal S1x1024 .f32) (v67 : Vec Ideal S1024x1024 .bf16)

theorem pay4 (r : Fin 512) (j : Fin 1024) : k0_pay4 (F := Ideal) v3 v4 (ix2 r j) = ∑ a : Fin 4096, v3 (ix2 r a) * v4 (ix2 j a) := by
  pointwise [k0_pay4]

theorem pay6 (r : Fin 512) (z : Fin 1) : k0_pay6 (F := Ideal) v6 (ix2 r z) = rs fun k => v6 (ix2 r k) := by
  pointwise [k0_pay6, k0_pay5]
  rfl

theorem pay7 (r : Fin 512) (j : Fin 1024) : k0_pay7 (F := Ideal) v6 (ix2 r j) = xn (fun k => v6 (ix2 r k)) j := by
  pointwise [k0_pay7, k0_pay5]
  rw [pay6]
  rfl

theorem pay11 (r : Fin 512) (z : Fin 1) : k0_pay11 (F := Ideal) v37 (ix2 r z) = rs fun k => v37 (ix2 r k) := by
  pointwise [k0_pay11, k0_pay10]
  rfl

theorem pay12 (r : Fin 512) (j : Fin 1024) : k0_pay12 (F := Ideal) v37 (ix2 r j) = xn (fun k => v37 (ix2 r k)) j := by
  pointwise [k0_pay12, k0_pay10]
  rw [pay11]
  rfl

theorem pay8 (z : Fin 1) (j : Fin 1024) : k0_pay8 (F := Ideal) v3 v4 v6 (ix2 z j)
    = ∑ r : Fin 512, (∑ a : Fin 4096, v3 (ix2 r a) * v4 (ix2 j a)) * xn (fun k => v6 (ix2 r k)) j := by
  pointwise [k0_pay8]
  simp only [pay4, pay7]

theorem pay9 (r : Fin 512) (j : Fin 1024) : k0_pay9 (F := Ideal) v3 v4 v6 v16 v34 (ix2 r j)
    = v34 (ix2 r j) + bwd (fun k => v6 (ix2 r k)) (fun k => (∑ a : Fin 4096, v3 (ix2 r a) * v4 (ix2 k a)) * v16 (ix2 0 k)) j := by
  pointwise [k0_pay9]
  simp only [pay4, pay7, pay6]
  rfl

theorem pay13 (z : Fin 1) (j : Fin 1024) : k0_pay13 (F := Ideal) v35 v37 (ix2 z j)
    = ∑ r : Fin 512, v35 (ix2 r j) * xn (fun k => v37 (ix2 r k)) j := by
  pointwise [k0_pay13]
  simp only [pay12]

theorem pay14 (r : Fin 512) (j : Fin 1024) : k0_pay14 (F := Ideal) v35 v37 v47 (ix2 r j)
    = bwd (fun k => v37 (ix2 r k)) (fun k => v35 (ix2 r k) * v47 (ix2 0 k)) j := by
  pointwise [k0_pay14]
  simp only [pay11, pay12]
  rfl

theorem pay15 (r : Fin 512) (j : Fin 1024) : k0_pay15 (F := Ideal) v35 v37 v47 v67 (ix2 r j)
    = ∑ k : Fin 1024, bwd (fun k => v37 (ix2 r k)) (fun k => v35 (ix2 r k) * v47 (ix2 0 k)) k * v67 (ix2 j k) := by
  pointwise [k0_pay15]
  simp only [pay14]

theorem pay16 (a b : Vec Ideal S1x1024 .f32) (z : Fin 1) (j : Fin 1024) : k0_pay16 (F := Ideal) a b (ix2 z j) = b (ix2 z j) + a (ix2 z j) := by
  pointwise [k0_pay16]

theorem pay1 (a b : Vec Ideal S1x1024 .f32) (z : Fin 1) (j : Fin 1024) : k0_pay1 (F := Ideal) a b (ix2 z j) = b (ix2 z j) + a (ix2 z j) := by
  pointwise [k0_pay1]

theorem pay2 (z : Fin 1) (j : Fin 1024) : k0_pay2 (F := Ideal) (ix2 z j) = 0 := by
  pointwise [k0_pay2]

theorem pay3 (z : Fin 1) (j : Fin 1024) : k0_pay3 (F := Ideal) (ix2 z j) = 0 := by
  pointwise [k0_pay3]

end Cert.NormsKIdeal.Pay

end
-- ==== Proof.Lines.lean ====
/- Reading a line of single-assignment operations: each operation's equation among the line's final contents. -/
module

public import Idealize.ShloMosaic.Lib.StableHlo.RunRead
public import Idealize.ShloMosaic.Lib.StableHlo.RunLoop

@[expose] public section

noncomputable section

namespace Cert.Lines

open Idealize.ShloMosaic Idealize.ShloMosaic.TcCoe Idealize.ShloMosaic.StableHlo

variable {τ : Topo} {sig : RefSig} {Val : EltTy → Type}

/-- The references `W` that a line writes, in its order. -/
abbrev Writes (ops : List (HloOp τ sig Val)) (W : List (Ref sig .tc)) : Prop :=
  ops.map HloOp.writes = W.map fun w => {Proc.devRef (τ := τ) .tc w}

variable {ops rest : List (HloOp τ sig Val)} {W : List (Ref sig .tc)}

theorem Writes.drop (hW : Writes ops W) (i : ℕ) : Writes (ops.drop i) (W.drop i) := by
  unfold Writes at *
  rw [List.map_drop, hW, List.map_drop]

/-- A reference that no operation from position `i` on writes keeps what it held there. -/
theorem upto_eq (hW : Writes ops W) (i : ℕ) {r : Ref sig .tc} (hr : r ∉ W.drop i) (V : Valuation τ sig Val) :
    upto ops V i (Proc.devRef .tc r) = after ops V (Proc.devRef .tc r) := by
  have h : ∀ (l₁ l₂ : List (HloOp τ sig Val)) (V : Valuation τ sig Val), after (l₁ ++ l₂) V = after l₂ (after l₁ V) := by
    intro l₁ l₂
    induction l₁ with
    | nil => intro V; rfl
    | cons op l₁ ih => intro V; rw [List.cons_append, after_cons, after_cons, ih]
  conv_rhs => rw [← List.take_append_drop i ops, h]
  exact (after_unwritten (W.drop i) (hW.drop i) hr _).symm

theorem rest_writes (hW : Writes ops W) {i : ℕ} {op : HloOp τ sig Val} (hseg : ops.drop i = op :: rest) :
    Writes rest (W.drop (i + 1)) := by
  have h := hW.drop (i + 1)
  rwa [← List.drop_drop, hseg, List.drop_one, List.tail_cons] at h

/-- A reference the whole line does not write. -/
theorem keep (hW : Writes ops W) {r : Ref sig .tc} (hr : r ∉ W) (V : Valuation τ sig Val) :
    after ops V (Proc.devRef .tc r) = V (Proc.devRef .tc r) := after_unwritten W hW hr V

variable {x y a b e : Ref sig .tc}

theorem eq0 (hW : Writes ops W) (i : ℕ) {v : y.ty.Contents Val} {hy} (hseg : ops.drop i = nullary y v hy :: rest)
    (V : Valuation τ sig Val) (h : y ∉ W.drop (i + 1) := by decide +kernel) : after ops V (Proc.devRef .tc y) = v := by
  rw [after_last_write (W.drop (i + 1)) hseg (rest_writes hW hseg) h V]; exact nullary_result y v hy _

theorem eq1 (hW : Writes ops W) (i : ℕ) {f : x.ty.Contents Val → y.ty.Contents Val} {hx hy}
    (hseg : ops.drop i = unary x y f hx hy :: rest) (V : Valuation τ sig Val) (h : y ∉ W.drop (i + 1) := by decide +kernel) (h1 : x ∉ W.drop i := by decide +kernel) :
    after ops V (Proc.devRef .tc y) = f (after ops V (Proc.devRef .tc x)) := by
  rw [after_last_write (W.drop (i + 1)) hseg (rest_writes hW hseg) h V, ← upto_eq hW i h1]
  exact unary_result x y f hx hy _

theorem eq2 (hW : Writes ops W) (i : ℕ) {f : a.ty.Contents Val → b.ty.Contents Val → y.ty.Contents Val} {ha hb hy}
    (hseg : ops.drop i = binary a b y f ha hb hy :: rest) (V : Valuation τ sig Val) (h : y ∉ W.drop (i + 1) := by decide +kernel) (h1 : a ∉ W.drop i := by decide +kernel) (h2 : b ∉ W.drop i := by decide +kernel)
 :
    after ops V (Proc.devRef .tc y) = f (after ops V (Proc.devRef .tc a)) (after ops V (Proc.devRef .tc b)) := by
  rw [after_last_write (W.drop (i + 1)) hseg (rest_writes hW hseg) h V, ← upto_eq hW i h1, ← upto_eq hW i h2]
  exact binary_result a b y f ha hb hy _

theorem eq3 (hW : Writes ops W) (i : ℕ) {f : a.ty.Contents Val → b.ty.Contents Val → e.ty.Contents Val → y.ty.Contents Val}
    {ha hb he hy} (hseg : ops.drop i = ternary a b e y f ha hb he hy :: rest) (V : Valuation τ sig Val) (h : y ∉ W.drop (i + 1) := by decide +kernel) (h1 : a ∉ W.drop i := by decide +kernel)
    (h2 : b ∉ W.drop i := by decide +kernel) (h3 : e ∉ W.drop i := by decide +kernel) :
    after ops V (Proc.devRef .tc y)
      = f (after ops V (Proc.devRef .tc a)) (after ops V (Proc.devRef .tc b)) (after ops V (Proc.devRef .tc e)) := by
  rw [after_last_write (W.drop (i + 1)) hseg (rest_writes hW hseg) h V, ← upto_eq hW i h1, ← upto_eq hW i h2, ← upto_eq hW i h3]
  exact ternary_result a b e y f ha hb he hy _

theorem eqR (hW : Writes ops W) (i : ℕ) {he hn hx hy} (hseg : ops.drop i = reshape x y he hn hx hy :: rest)
    (V : Valuation τ sig Val) (h : y ∉ W.drop (i + 1) := by decide +kernel) (h1 : x ∉ W.drop i := by decide +kernel) :
    after ops V (Proc.devRef .tc y) = fun j => he ▸ shapeCast y.ty.shape (after ops V (Proc.devRef .tc x)) hn j := by
  rw [after_last_write (W.drop (i + 1)) hseg (rest_writes hW hseg) h V, ← upto_eq hW i h1]
  exact reshape_result x y he hn hx hy _

theorem eqN (hW : Writes ops W) (i : ℕ) {n : ℕ} {xs : Fin n → Ref sig .tc} {f : ((k : Fin n) → (xs k).ty.Contents Val) → y.ty.Contents Val}
    {hx hy} (hseg : ops.drop i = nary xs y f hx hy :: rest) (V : Valuation τ sig Val) (h : y ∉ W.drop (i + 1) := by decide +kernel) (h1 : ∀ k, xs k ∉ W.drop i := by decide +kernel)
 : after ops V (Proc.devRef .tc y) = f fun k => after ops V (Proc.devRef .tc (xs k)) := by
  rw [after_last_write (W.drop (i + 1)) hseg (rest_writes hW hseg) h V, show (fun k => after ops V (Proc.devRef .tc (xs k)))
    = fun k => upto ops V i (Proc.devRef .tc (xs k)) from funext fun k => (upto_eq hW i (h1 k) V).symm]
  exact nary_result xs y f hx hy _

/-- An array of a shape and an element type. -/
abbrev A (F : FTy → Type) [FloatOps F] (s : Shape) (t : EltTy) := (⟨s, t⟩ : BufTy).Contents (Elt F)

end Cert.Lines

end
-- ==== Proof.NormsHost.lean ====
/- The gradient of the norms, kernel: the operations on the host before the call, one equation for each. -/
module

public import proofs.«01_k».proof.Proof.Lines
public import proofs.«01_k».proof.Proof.Gen.NormsKIdeal.Launch

@[expose] public section

set_option maxRecDepth 8000

noncomputable section

namespace Cert.NormsKIdeal.Host

open Cert.NormsKIdeal Cert.NormsKIdeal.Gen
open Idealize.ShloMosaic Idealize.ShloMosaic.TcCoe Idealize.ShloMosaic.StableHlo
open Cert.Lines

variable {F : FTy → Type} [FloatOps F]

/-- The operations before the call, in order. -/
abbrev line : List (HloOp τ sig (Elt F)) := hostOps0
/-- What they write. -/
abbrev W : List (Ref sig .tc) :=
  [main_v0, main_v1, main_v2, main_v3, main_cst, main_v4, main_v5, main_cst_0, main_v6, main_v7, main_cst_1, main_v8, main_v9, main_v10, main_v11,
   main_v12, main_v13, main_v14, main_v15]
theorem writes : Writes (line (F := F)) W := rfl

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W) : at_ V r = V (Proc.devRef .tc r) := keep writes hr V

theorem e_main_v0 : at_ V main_v0 = extf .f32 (at_ V main_arg1) bitsLt_bf16_f32 := eq1 writes 0 rfl V
theorem e_main_v1 : at_ V main_v1 = extf .f32 (at_ V main_arg2) bitsLt_bf16_f32 := eq1 writes 1 rfl V
theorem e_main_v2 : at_ V main_v2 = (fun l r => Host.dotGeneral dot_S4096x1024_S1024x1024_S4096x1024_1_0_0_1_n_n none l r) (at_ V main_v0) (at_ V main_v1) := eq2 writes 2 rfl V
theorem e_main_v3 : at_ V main_v3 = (mulf) (at_ V main_v2) (at_ V main_v2) := eq2 writes 3 rfl V
theorem e_main_cst : at_ V main_cst = (constant S_ .f32 0x00000000#32) := eq0 writes 4 rfl V
theorem e_main_v4 : at_ V main_v4 = (fun x v => Host.reduceAdd x v reducesTo_S4096x1024_S4096_d1 h_S_) (at_ V main_v3) (at_ V main_cst) := eq2 writes 5 rfl V
theorem e_main_v5 : at_ V main_v5 = (broadcastInDim S4096x1 ![0] bcast_S4096_S4096x1_0) (at_ V main_v4) := eq1 writes 6 rfl V
theorem e_main_cst_0 : at_ V main_cst_0 = (constant S_ .f32 0x44800000#32) := eq0 writes 7 rfl V
theorem e_main_v6 : at_ V main_v6 = (broadcastInDim S4096x1 ![] bcast_S_S4096x1) (at_ V main_cst_0) := eq1 writes 8 rfl V
theorem e_main_v7 : at_ V main_v7 = (Host.divf) (at_ V main_v5) (at_ V main_v6) := eq2 writes 9 rfl V
theorem e_main_cst_1 : at_ V main_cst_1 = (constant S_ .f32 0x358637BD#32) := eq0 writes 10 rfl V
theorem e_main_v8 : at_ V main_v8 = (broadcastInDim S4096x1 ![] bcast_S_S4096x1) (at_ V main_cst_1) := eq1 writes 11 rfl V
theorem e_main_v9 : at_ V main_v9 = (addf) (at_ V main_v7) (at_ V main_v8) := eq2 writes 12 rfl V
theorem e_main_v10 : at_ V main_v10 = (Host.rsqrt) (at_ V main_v9) := eq1 writes 13 rfl V
theorem e_main_v11 : at_ V main_v11 = (broadcastInDim S4096x1024 ![0, 1] bcast_S4096x1_S4096x1024_0_1) (at_ V main_v10) := eq1 writes 14 rfl V
theorem e_main_v12 : at_ V main_v12 = (mulf) (at_ V main_v2) (at_ V main_v11) := eq2 writes 15 rfl V
theorem e_main_v13 : at_ V main_v13 = (broadcastInDim S4096x1024 ![0, 1] bcast_S1x1024_S4096x1024_0_1) (at_ V main_arg3) := eq1 writes 16 rfl V
theorem e_main_v14 : at_ V main_v14 = (mulf) (at_ V main_v12) (at_ V main_v13) := eq2 writes 17 rfl V
theorem e_main_v15 : at_ V main_v15 = (addf) (at_ V main_arg0) (at_ V main_v14) := eq2 writes 18 rfl V

end Cert.NormsKIdeal.Host

end
-- ==== Proof.NormsSpec.lean ====
/- The gradient of the norms: the values both programs compute, as functions of the matrices. -/
module

public import proofs.«01_k».proof.Proof.NormRow

@[expose] public section

set_option maxRecDepth 8000

noncomputable section

namespace Cert.NormsSpec

open Idealize.ShloMosaic Cert.NormRow

/-- A matrix of extended reals. -/
abbrev Mat (n m : Nat) := Fin n → Fin m → EReal

/-- The gated rows through the output matrix. -/
def mix (M : Mat 4096 1024) (WO : Mat 1024 1024) : Mat 4096 1024 := fun i j => ∑ k, M i k * WO k j
/-- The residual after the recurrent branch: the input plus the normalized, scaled rows. -/
def h1 (X mx : Mat 4096 1024) (G2 : Mat 1 1024) : Mat 4096 1024 := fun i j => X i j + xn (mx i) j * G2 0 j
/-- The cotangent of the rows that enter the up-projection. -/
def dv (DP : Mat 4096 4096) (WU : Mat 1024 4096) : Mat 4096 1024 := fun i j => ∑ a, DP i a * WU j a
/-- The cotangent of the residual. -/
def dh (DO h d : Mat 4096 1024) (G3 : Mat 1 1024) : Mat 4096 1024 := fun i j => DO i j + bwd (h i) (fun k => d i k * G3 0 k) j
/-- The cotangent of the projected rows. -/
def dmix (d mx : Mat 4096 1024) (G2 : Mat 1 1024) : Mat 4096 1024 := fun i j => bwd (mx i) (fun k => d i k * G2 0 k) j
/-- The cotangent of the gated rows. -/
def dmerged (d : Mat 4096 1024) (WO : Mat 1024 1024) : Mat 4096 1024 := fun i j => ∑ k, d i k * WO j k
/-- The gradient of a scale: the sum over the rows. -/
def dscale (d x : Mat 4096 1024) : Mat 1 1024 := fun _ j => ∑ i, d i j * xn (x i) j

end Cert.NormsSpec

end
-- ==== Proof.NormsHostVal.lean ====
/- The gradient of the norms, kernel: the values of the operations before the call. -/
module

public import proofs.«01_k».proof.Proof.NormsHost
public import proofs.«01_k».proof.Proof.NormsSpec

@[expose] public section

set_option maxRecDepth 8000

noncomputable section

namespace Cert.NormsKIdeal.Host

open Cert.NormsKIdeal Cert.NormsKIdeal.Gen Idealize.ShloMosaic Idealize.ShloMosaic.TcCoe Idealize.ShloMosaic.StableHlo Cert.NormRow Cert.NormsSpec

variable (V : Valuation τ sig (Elt Ideal))

/-- Argument 0. -/
def X : Mat 4096 1024 := fun i j => (at_ V main_arg0 : Vec Ideal S4096x1024 .f32) (ix2 i j)
theorem t_arg0 (i : Fin 4096) (j : Fin 1024) : (at_ V main_arg0 : Vec Ideal S4096x1024 .f32) (ix2 i j) = X V i j := rfl
/-- Argument 1. -/
def M : Mat 4096 1024 := fun i j => (at_ V main_arg1 : Vec Ideal S4096x1024 .bf16) (ix2 i j)
theorem t_arg1 (i : Fin 4096) (j : Fin 1024) : (at_ V main_arg1 : Vec Ideal S4096x1024 .bf16) (ix2 i j) = M V i j := rfl
/-- Argument 2. -/
def WO : Mat 1024 1024 := fun i j => (at_ V main_arg2 : Vec Ideal S1024x1024 .bf16) (ix2 i j)
theorem t_arg2 (i : Fin 1024) (j : Fin 1024) : (at_ V main_arg2 : Vec Ideal S1024x1024 .bf16) (ix2 i j) = WO V i j := rfl
/-- Argument 3. -/
def G2 : Mat 1 1024 := fun i j => (at_ V main_arg3 : Vec Ideal S1x1024 .f32) (ix2 i j)
theorem t_arg3 (i : Fin 1) (j : Fin 1024) : (at_ V main_arg3 : Vec Ideal S1x1024 .f32) (ix2 i j) = G2 V i j := rfl
/-- Argument 4. -/
def G3 : Mat 1 1024 := fun i j => (at_ V main_arg4 : Vec Ideal S1x1024 .f32) (ix2 i j)
theorem t_arg4 (i : Fin 1) (j : Fin 1024) : (at_ V main_arg4 : Vec Ideal S1x1024 .f32) (ix2 i j) = G3 V i j := rfl
/-- Argument 5. -/
def WU : Mat 1024 4096 := fun i j => (at_ V main_arg5 : Vec Ideal S1024x4096 .bf16) (ix2 i j)
theorem t_arg5 (i : Fin 1024) (j : Fin 4096) : (at_ V main_arg5 : Vec Ideal S1024x4096 .bf16) (ix2 i j) = WU V i j := rfl
/-- Argument 6. -/
def DO : Mat 4096 1024 := fun i j => (at_ V main_arg6 : Vec Ideal S4096x1024 .f32) (ix2 i j)
theorem t_arg6 (i : Fin 4096) (j : Fin 1024) : (at_ V main_arg6 : Vec Ideal S4096x1024 .f32) (ix2 i j) = DO V i j := rfl
/-- Argument 7. -/
def DP : Mat 4096 4096 := fun i j => (at_ V main_arg7 : Vec Ideal S4096x4096 .bf16) (ix2 i j)
theorem t_arg7 (i : Fin 4096) (j : Fin 4096) : (at_ V main_arg7 : Vec Ideal S4096x4096 .bf16) (ix2 i j) = DP V i j := rfl
/-- The projected rows. -/
def mx : Mat 4096 1024 := mix (M V) (WO V)
/-- The residual. -/
def hh : Mat 4096 1024 := h1 (X V) (mx V) (G2 V)
/-- The cotangent of the rows that enter the up-projection. -/
def dd : Mat 4096 1024 := dv (DP V) (WU V)
/-- The residual's cotangent. -/
def d1 : Mat 4096 1024 := dh (DO V) (hh V) (dd V) (G3 V)
/-- The projected rows' cotangent. -/
def dm : Mat 4096 1024 := dmix (d1 V) (mx V) (G2 V)

theorem t_v2 (i : Fin 4096) (j : Fin 1024) : (at_ V main_v2 : Vec Ideal S4096x1024 .f32) (ix2 i j) = mx V i j := by
  rw [e_main_v2, e_main_v0, e_main_v1]
  have h_arg1 := t_arg1 V
  generalize at_ V main_arg1 = x_arg1 at h_arg1 ⊢
  have h_arg2 := t_arg2 V
  generalize at_ V main_arg2 = x_arg2 at h_arg2 ⊢
  pointwise
  try simp only [h_arg1, h_arg2]
  try rfl

theorem t_v10 (i : Fin 4096) (j : Fin 1) : (at_ V main_v10 : Vec Ideal S4096x1 .f32) (ix2 i j) = rs (mx V i) := by
  rw [e_main_v10, e_main_v9, e_main_v7, e_main_v5, e_main_v4, e_main_v3, e_main_cst, e_main_v6, e_main_cst_0, e_main_v8, e_main_cst_1]
  have h_v2 := t_v2 V
  generalize at_ V main_v2 = x_v2 at h_v2 ⊢
  pointwise
  try simp only [h_v2]
  try rfl

theorem t_v15 (i : Fin 4096) (j : Fin 1024) : (at_ V main_v15 : Vec Ideal S4096x1024 .f32) (ix2 i j) = hh V i j := by
  rw [e_main_v15, e_main_v14, e_main_v12, e_main_v11, e_main_v13]
  have h_arg0 := t_arg0 V
  generalize at_ V main_arg0 = x_arg0 at h_arg0 ⊢
  have h_v2 := t_v2 V
  generalize at_ V main_v2 = x_v2 at h_v2 ⊢
  have h_v10 := t_v10 V
  generalize at_ V main_v10 = x_v10 at h_v10 ⊢
  have h_arg3 := t_arg3 V
  generalize at_ V main_arg3 = x_arg3 at h_arg3 ⊢
  pointwise
  try simp only [h_arg0, h_v2, h_v10, h_arg3]
  try rfl

end Cert.NormsKIdeal.Host

end
-- ==== Proof.Tiles.lean ====
/- A sum over many rows, taken some rows at a time. -/
module

public import Mathlib.Data.EReal.Operations
public import Mathlib.Algebra.BigOperators.Fin

@[expose] public section

noncomputable section

namespace Cert.Tiles

variable {N : ℕ}

/-- The entries, and zero past them. -/
def ext (f : Fin N → EReal) (n : ℕ) : EReal := if h : n < N then f ⟨n, h⟩ else 0
/-- The sum of the first `n` entries. -/
def part (f : Fin N → EReal) (n : ℕ) : EReal := ∑ x ∈ Finset.range n, ext f x

theorem ext_lt (f : Fin N → EReal) {n : ℕ} (h : n < N) : ext f n = f ⟨n, h⟩ := dif_pos h

theorem part_zero (f : Fin N → EReal) : part f 0 = 0 := rfl

theorem part_add (f : Fin N → EReal) (a b : ℕ) (h : a + b ≤ N) :
    part f (a + b) = part f a + ∑ r : Fin b, f ⟨a + r.val, by have := r.isLt; omega⟩ := by
  unfold part
  rw [Finset.sum_range_add, Finset.sum_range (fun x => ext f (a + x))]
  congr 1
  exact Finset.sum_congr rfl fun r _ => ext_lt f _

theorem part_all (f : Fin N → EReal) : part f N = ∑ i, f i := by
  unfold part
  rw [Finset.sum_range]
  exact Finset.sum_congr rfl fun r _ => ext_lt f r.isLt

end Cert.Tiles

end
-- ==== Proof.NormsVal.lean ====
/- The gradient of the norms, kernel: its results element by element. -/
module

public import proofs.«01_k».proof.Proof.NormsBlocks
public import proofs.«01_k».proof.Proof.NormsPay
public import proofs.«01_k».proof.Proof.NormsHostVal
public import proofs.«01_k».proof.Proof.Tiles

@[expose] public section

set_option maxRecDepth 8000

noncomputable section

namespace Cert.NormsKIdeal.Val

open Cert.NormsKIdeal Cert.NormsKIdeal.Gen Cert.NormsKIdeal.Blocks Cert.NormsKIdeal.Pay Cert.NormsKIdeal.Host Idealize.ShloMosaic Idealize.ShloMosaic.TcCoe Idealize.SL.Sem Cert.NormRow Cert.NormsSpec Cert.Tiles
open Cert.NormsKIdeal.Gen (V)

variable (m : (ℓ : Loc nD τ sig) → Buf (Elt Ideal) ℓ) (c : Dev nD)

/-- What the device's memory holds at launch. -/
abbrev V0 : Valuation τ sig (Elt Ideal) := fun b => m (c, b)

/-- Row `r` of the block of point `t`. -/
def row (t : Fin cfg0.N) (r : Fin 512) : Fin 4096 := ⟨512 * t.val + r.val, by have := t.isLt; have : cfg0.N = 8 := N_0; have := r.isLt; omega⟩

theorem ix_0 (t : Fin cfg0.N) : win0_0.index t 0 = t.val ∧ win0_0.index t 1 = 0 := by decide +revert

theorem blk_0 (t : Fin cfg0.N) (r : Fin 512) (k : Fin 4096) : (iblk m c 0 t : Vec Ideal S512x4096 .bf16) (ix2 r k) = DP (V0 m c) (row t r) k := by
  rw [← t_arg7 (V0 m c) (row t r) k]
  unfold iblk
  rw [View.read_apply]
  show V m c main_arg7 _ = V m c main_arg7 _
  congr 1
  funext a
  apply Fin.ext
  match a with
  | ⟨0, _⟩ => show win0_0.index t 0 * 512 + 1 * r.val = 512 * t.val + r.val; rw [(ix_0 t).1]; omega
  | ⟨1, _⟩ => show win0_0.index t 1 * 4096 + 1 * k.val = k.val; rw [(ix_0 t).2]; omega

theorem ix_1 (t : Fin cfg0.N) : win0_1.index t 0 = 0 ∧ win0_1.index t 1 = 0 := by decide +revert

theorem blk_1 (t : Fin cfg0.N) (r : Fin 1024) (k : Fin 4096) : (iblk m c 1 t : Vec Ideal S1024x4096 .bf16) (ix2 r k) = WU (V0 m c) (r) k := by
  rw [← t_arg5 (V0 m c) (r) k]
  unfold iblk
  rw [View.read_apply]
  show V m c main_arg5 _ = V m c main_arg5 _
  congr 1
  funext a
  apply Fin.ext
  match a with
  | ⟨0, _⟩ => show win0_1.index t 0 * 1024 + 1 * r.val = r.val; rw [(ix_1 t).1]; omega
  | ⟨1, _⟩ => show win0_1.index t 1 * 4096 + 1 * k.val = k.val; rw [(ix_1 t).2]; omega

theorem ix_2 (t : Fin cfg0.N) : win0_2.index t 0 = t.val ∧ win0_2.index t 1 = 0 := by decide +revert

theorem blk_2 (t : Fin cfg0.N) (r : Fin 512) (k : Fin 1024) : (iblk m c 2 t : Vec Ideal S512x1024 .f32) (ix2 r k) = hh (V0 m c) (row t r) k := by
  rw [← t_v15 (V0 m c) (row t r) k]
  unfold iblk
  rw [View.read_apply]
  show V m c main_v15 _ = V m c main_v15 _
  congr 1
  funext a
  apply Fin.ext
  match a with
  | ⟨0, _⟩ => show win0_2.index t 0 * 512 + 1 * r.val = 512 * t.val + r.val; rw [(ix_2 t).1]; omega
  | ⟨1, _⟩ => show win0_2.index t 1 * 1024 + 1 * k.val = k.val; rw [(ix_2 t).2]; omega

theorem ix_3 (t : Fin cfg0.N) : win0_3.index t 0 = t.val ∧ win0_3.index t 1 = 0 := by decide +revert

theorem blk_3 (t : Fin cfg0.N) (r : Fin 512) (k : Fin 1024) : (iblk m c 3 t : Vec Ideal S512x1024 .f32) (ix2 r k) = mx (V0 m c) (row t r) k := by
  rw [← t_v2 (V0 m c) (row t r) k]
  unfold iblk
  rw [View.read_apply]
  show V m c main_v2 _ = V m c main_v2 _
  congr 1
  funext a
  apply Fin.ext
  match a with
  | ⟨0, _⟩ => show win0_3.index t 0 * 512 + 1 * r.val = 512 * t.val + r.val; rw [(ix_3 t).1]; omega
  | ⟨1, _⟩ => show win0_3.index t 1 * 1024 + 1 * k.val = k.val; rw [(ix_3 t).2]; omega

theorem ix_4 (t : Fin cfg0.N) : win0_4.index t 0 = t.val ∧ win0_4.index t 1 = 0 := by decide +revert

theorem blk_4 (t : Fin cfg0.N) (r : Fin 512) (k : Fin 1024) : (iblk m c 4 t : Vec Ideal S512x1024 .f32) (ix2 r k) = DO (V0 m c) (row t r) k := by
  rw [← t_arg6 (V0 m c) (row t r) k]
  unfold iblk
  rw [View.read_apply]
  show V m c main_arg6 _ = V m c main_arg6 _
  congr 1
  funext a
  apply Fin.ext
  match a with
  | ⟨0, _⟩ => show win0_4.index t 0 * 512 + 1 * r.val = 512 * t.val + r.val; rw [(ix_4 t).1]; omega
  | ⟨1, _⟩ => show win0_4.index t 1 * 1024 + 1 * k.val = k.val; rw [(ix_4 t).2]; omega

theorem ix_5 (t : Fin cfg0.N) : win0_5.index t 0 = 0 ∧ win0_5.index t 1 = 0 := by decide +revert

theorem blk_5 (t : Fin cfg0.N) (r : Fin 1) (k : Fin 1024) : (iblk m c 5 t : Vec Ideal S1x1024 .f32) (ix2 r k) = G3 (V0 m c) (r) k := by
  rw [← t_arg4 (V0 m c) (r) k]
  unfold iblk
  rw [View.read_apply]
  show V m c main_arg4 _ = V m c main_arg4 _
  congr 1
  funext a
  apply Fin.ext
  match a with
  | ⟨0, _⟩ => show win0_5.index t 0 * 1 + 1 * r.val = r.val; rw [(ix_5 t).1]; omega
  | ⟨1, _⟩ => show win0_5.index t 1 * 1024 + 1 * k.val = k.val; rw [(ix_5 t).2]; omega

theorem ix_6 (t : Fin cfg0.N) : win0_6.index t 0 = 0 ∧ win0_6.index t 1 = 0 := by decide +revert

theorem blk_6 (t : Fin cfg0.N) (r : Fin 1) (k : Fin 1024) : (iblk m c 6 t : Vec Ideal S1x1024 .f32) (ix2 r k) = G2 (V0 m c) (r) k := by
  rw [← t_arg3 (V0 m c) (r) k]
  unfold iblk
  rw [View.read_apply]
  show V m c main_arg3 _ = V m c main_arg3 _
  congr 1
  funext a
  apply Fin.ext
  match a with
  | ⟨0, _⟩ => show win0_6.index t 0 * 1 + 1 * r.val = r.val; rw [(ix_6 t).1]; omega
  | ⟨1, _⟩ => show win0_6.index t 1 * 1024 + 1 * k.val = k.val; rw [(ix_6 t).2]; omega

theorem ix_7 (t : Fin cfg0.N) : win0_7.index t 0 = 0 ∧ win0_7.index t 1 = 0 := by decide +revert

theorem blk_7 (t : Fin cfg0.N) (r : Fin 1024) (k : Fin 1024) : (iblk m c 7 t : Vec Ideal S1024x1024 .bf16) (ix2 r k) = WO (V0 m c) (r) k := by
  rw [← t_arg2 (V0 m c) (r) k]
  unfold iblk
  rw [View.read_apply]
  show V m c main_arg2 _ = V m c main_arg2 _
  congr 1
  funext a
  apply Fin.ext
  match a with
  | ⟨0, _⟩ => show win0_7.index t 0 * 1024 + 1 * r.val = r.val; rw [(ix_7 t).1]; omega
  | ⟨1, _⟩ => show win0_7.index t 1 * 1024 + 1 * k.val = k.val; rw [(ix_7 t).2]; omega

theorem out_8 (t : Fin cfg0.N) (r : Fin 512) (j : Fin 1024) : (outsAt0 m c t.val t.isLt).1 (ix2 r j) = d1 (V0 m c) (row t r) j := by
  by_cases h0 : t.val % 8 = 0
  · rw [outsAt0_A m c t h0]
    dsimp only
    rw [out0_A_8_eq]
    simp only [pay9, blk_0, blk_1, blk_2, blk_3, blk_4, blk_5, blk_6, blk_7]
    rfl
  · rw [outsAt0_B m c t h0]
    dsimp only
    rw [out0_B_8_eq]
    simp only [pay9, blk_0, blk_1, blk_2, blk_3, blk_4, blk_5, blk_6, blk_7]
    rfl

theorem out_9 (t : Fin cfg0.N) (r : Fin 512) (j : Fin 1024) : (outsAt0 m c t.val t.isLt).2.1 (ix2 r j) = dm (V0 m c) (row t r) j := by
  by_cases h0 : t.val % 8 = 0
  · rw [outsAt0_A m c t h0]
    dsimp only
    rw [out0_A_9_eq]
    simp only [pay14, pay9, blk_0, blk_1, blk_2, blk_3, blk_4, blk_5, blk_6, blk_7]
    rfl
  · rw [outsAt0_B m c t h0]
    dsimp only
    rw [out0_B_9_eq]
    simp only [pay14, pay9, blk_0, blk_1, blk_2, blk_3, blk_4, blk_5, blk_6, blk_7]
    rfl

theorem out_10 (t : Fin cfg0.N) (r : Fin 512) (j : Fin 1024) : (outsAt0 m c t.val t.isLt).2.2.1 (ix2 r j) = dmerged (dm (V0 m c)) (WO (V0 m c)) (row t r) j := by
  by_cases h0 : t.val % 8 = 0
  · rw [outsAt0_A m c t h0]
    dsimp only
    rw [out0_A_10_eq]
    simp only [pay15, pay9, blk_0, blk_1, blk_2, blk_3, blk_4, blk_5, blk_6, blk_7]
    rfl
  · rw [outsAt0_B m c t h0]
    dsimp only
    rw [out0_B_10_eq]
    simp only [pay15, pay9, blk_0, blk_1, blk_2, blk_3, blk_4, blk_5, blk_6, blk_7]
    rfl

/-- What the accumulated sum holds after point `n`: the rows so far. -/
theorem out_11 (z : Fin 1) (j : Fin 1024) : ∀ (n : ℕ) (hn : n < cfg0.N),
    (outsAt0 m c n hn).2.2.2.1 (ix2 z j) = part (fun i => dd (V0 m c) i j * xn (hh (V0 m c) i) j) (512 * (n + 1))
  | 0, hn => by
    rw [show outsAt0 m c 0 hn = _ from outsAt0_A m c ⟨0, hn⟩ rfl]
    dsimp only
    rw [out0_A_11_eq, pay16, pay2, zero_add, show 512 * (0 + 1) = 0 + 512 from rfl, part_add _ 0 512 (by omega), part_zero, zero_add]
    simp only [pay8, blk_0, blk_1, blk_2, blk_3, blk_4, blk_5, blk_6, blk_7]
    rfl
  | n + 1, hn => by
    have hN : cfg0.N = 8 := N_0
    have hB : ¬(⟨n + 1, hn⟩ : Fin cfg0.N).val % 8 = 0 := by dsimp only; omega
    rw [show outsAt0 m c (n + 1) hn = _ from outsAt0_B m c ⟨n + 1, hn⟩ hB]
    dsimp only
    rw [out0_B_11_eq, pay16, show 512 * (n + 1 + 1) = 512 * (n + 1) + 512 from rfl, part_add _ (512 * (n + 1)) 512 (by omega)]
    simp only [pay8, blk_0, blk_1, blk_2, blk_3, blk_4, blk_5, blk_6, blk_7]
    rw [show (outsAt0 m c (n + 1 - 1) _).2.2.2.1 (ix2 z j) = _ from out_11 z j n (Nat.lt_of_succ_lt hn)]
    rfl

/-- What the accumulated sum holds after point `n`: the rows so far. -/
theorem out_12 (z : Fin 1) (j : Fin 1024) : ∀ (n : ℕ) (hn : n < cfg0.N),
    (outsAt0 m c n hn).2.2.2.2 (ix2 z j) = part (fun i => d1 (V0 m c) i j * xn (mx (V0 m c) i) j) (512 * (n + 1))
  | 0, hn => by
    rw [show outsAt0 m c 0 hn = _ from outsAt0_A m c ⟨0, hn⟩ rfl]
    dsimp only
    rw [out0_A_12_eq, pay1, pay3, zero_add, show 512 * (0 + 1) = 0 + 512 from rfl, part_add _ 0 512 (by omega), part_zero, zero_add]
    simp only [pay13, pay9, blk_0, blk_1, blk_2, blk_3, blk_4, blk_5, blk_6, blk_7]
    rfl
  | n + 1, hn => by
    have hN : cfg0.N = 8 := N_0
    have hB : ¬(⟨n + 1, hn⟩ : Fin cfg0.N).val % 8 = 0 := by dsimp only; omega
    rw [show outsAt0 m c (n + 1) hn = _ from outsAt0_B m c ⟨n + 1, hn⟩ hB]
    dsimp only
    rw [out0_B_12_eq, pay1, show 512 * (n + 1 + 1) = 512 * (n + 1) + 512 from rfl, part_add _ (512 * (n + 1)) 512 (by omega)]
    simp only [pay13, pay9, blk_0, blk_1, blk_2, blk_3, blk_4, blk_5, blk_6, blk_7]
    rw [show (outsAt0 m c (n + 1 - 1) _).2.2.2.2 (ix2 z j) = _ from out_12 z j n (Nat.lt_of_succ_lt hn)]
    rfl
theorem ix_8 (t : Fin cfg0.N) : win0_8.index t 0 = t.val ∧ win0_8.index t 1 = 0 := by decide +revert

/-- Result 0. -/
def res8 : Vec Ideal S4096x1024 .f32 := fun i => d1 (V0 m c) (i 0) (i 1)

theorem flush_8 (t : Fin cfg0.N) : (dats m 0 c).flushed 8 t = ((cfg0.win 8).blk t).view.read (Elt Ideal) (res8 m c) := by
  show (cfg0.win 8).cut (grid0.coords t) ((dats m 0 c).after 8 t) = _
  rw [after0_8]
  funext y
  rw [View.read_apply]
  show (outsAt0 m c t.val t.isLt).1 y = res8 m c _
  obtain ⟨r, j, rfl⟩ : ∃ (r : Fin 512) (j : Fin 1024), y = ix2 r j := ⟨y 0, y 1, eq_ix2 y⟩
  rw [out_8]
  unfold res8
  congr 1
  · apply Fin.ext
    show 512 * t.val + r.val = win0_8.index t 0 * 512 + 1 * r.val
    rw [(ix_8 t).1]; omega
  · apply Fin.ext
    show j.val = win0_8.index t 1 * 1024 + 1 * j.val
    rw [(ix_8 t).2]; omega

theorem final_8 : (dats m 0 c).arrAt 8 cfg0.N = res8 m c :=
  (dats m 0 c).arrAt_eq_of_cover 8 (res8 m c) (fun t _ => flush_8 m c t) fun i => by
    have hN : cfg0.N = 8 := N_0
    have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_8 t, ?_⟩
    show i ∈ ((View.whole main_v16_0).slice (win0_8.rect t)).set
    rw [View.set_slice_whole, Rect.mem_set_unit]
    intro a
    match a with
    | ⟨0, _⟩ =>
      show win0_8.index t 0 * 512 ≤ (i 0 : Nat) ∧ (i 0 : Nat) < win0_8.index t 0 * 512 + 512
      rw [(ix_8 t).1]; omega
    | ⟨1, _⟩ =>
      show win0_8.index t 1 * 1024 ≤ (i 1 : Nat) ∧ (i 1 : Nat) < win0_8.index t 1 * 1024 + 1024
      rw [(ix_8 t).2]; omega
theorem ix_9 (t : Fin cfg0.N) : win0_9.index t 0 = t.val ∧ win0_9.index t 1 = 0 := by decide +revert

/-- Result 1. -/
def res9 : Vec Ideal S4096x1024 .bf16 := fun i => dm (V0 m c) (i 0) (i 1)

theorem flush_9 (t : Fin cfg0.N) : (dats m 0 c).flushed 9 t = ((cfg0.win 9).blk t).view.read (Elt Ideal) (res9 m c) := by
  show (cfg0.win 9).cut (grid0.coords t) ((dats m 0 c).after 9 t) = _
  rw [after0_9]
  funext y
  rw [View.read_apply]
  show (outsAt0 m c t.val t.isLt).2.1 y = res9 m c _
  obtain ⟨r, j, rfl⟩ : ∃ (r : Fin 512) (j : Fin 1024), y = ix2 r j := ⟨y 0, y 1, eq_ix2 y⟩
  rw [out_9]
  unfold res9
  congr 1
  · apply Fin.ext
    show 512 * t.val + r.val = win0_9.index t 0 * 512 + 1 * r.val
    rw [(ix_9 t).1]; omega
  · apply Fin.ext
    show j.val = win0_9.index t 1 * 1024 + 1 * j.val
    rw [(ix_9 t).2]; omega

theorem final_9 : (dats m 0 c).arrAt 9 cfg0.N = res9 m c :=
  (dats m 0 c).arrAt_eq_of_cover 9 (res9 m c) (fun t _ => flush_9 m c t) fun i => by
    have hN : cfg0.N = 8 := N_0
    have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_9 t, ?_⟩
    show i ∈ ((View.whole main_v16_1).slice (win0_9.rect t)).set
    rw [View.set_slice_whole, Rect.mem_set_unit]
    intro a
    match a with
    | ⟨0, _⟩ =>
      show win0_9.index t 0 * 512 ≤ (i 0 : Nat) ∧ (i 0 : Nat) < win0_9.index t 0 * 512 + 512
      rw [(ix_9 t).1]; omega
    | ⟨1, _⟩ =>
      show win0_9.index t 1 * 1024 ≤ (i 1 : Nat) ∧ (i 1 : Nat) < win0_9.index t 1 * 1024 + 1024
      rw [(ix_9 t).2]; omega
theorem ix_10 (t : Fin cfg0.N) : win0_10.index t 0 = t.val ∧ win0_10.index t 1 = 0 := by decide +revert

/-- Result 2. -/
def res10 : Vec Ideal S4096x1024 .f32 := fun i => dmerged (dm (V0 m c)) (WO (V0 m c)) (i 0) (i 1)

theorem flush_10 (t : Fin cfg0.N) : (dats m 0 c).flushed 10 t = ((cfg0.win 10).blk t).view.read (Elt Ideal) (res10 m c) := by
  show (cfg0.win 10).cut (grid0.coords t) ((dats m 0 c).after 10 t) = _
  rw [after0_10]
  funext y
  rw [View.read_apply]
  show (outsAt0 m c t.val t.isLt).2.2.1 y = res10 m c _
  obtain ⟨r, j, rfl⟩ : ∃ (r : Fin 512) (j : Fin 1024), y = ix2 r j := ⟨y 0, y 1, eq_ix2 y⟩
  rw [out_10]
  unfold res10
  congr 1
  · apply Fin.ext
    show 512 * t.val + r.val = win0_10.index t 0 * 512 + 1 * r.val
    rw [(ix_10 t).1]; omega
  · apply Fin.ext
    show j.val = win0_10.index t 1 * 1024 + 1 * j.val
    rw [(ix_10 t).2]; omega

theorem final_10 : (dats m 0 c).arrAt 10 cfg0.N = res10 m c :=
  (dats m 0 c).arrAt_eq_of_cover 10 (res10 m c) (fun t _ => flush_10 m c t) fun i => by
    have hN : cfg0.N = 8 := N_0
    have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_10 t, ?_⟩
    show i ∈ ((View.whole main_v16_2).slice (win0_10.rect t)).set
    rw [View.set_slice_whole, Rect.mem_set_unit]
    intro a
    match a with
    | ⟨0, _⟩ =>
      show win0_10.index t 0 * 512 ≤ (i 0 : Nat) ∧ (i 0 : Nat) < win0_10.index t 0 * 512 + 512
      rw [(ix_10 t).1]; omega
    | ⟨1, _⟩ =>
      show win0_10.index t 1 * 1024 ≤ (i 1 : Nat) ∧ (i 1 : Nat) < win0_10.index t 1 * 1024 + 1024
      rw [(ix_10 t).2]; omega

/-- Result 3. -/
def res11 : Vec Ideal S1x1024 .f32 := fun i => dscale (dd (V0 m c)) (hh (V0 m c)) (i 0) (i 1)

theorem flush_11 (t : Fin cfg0.N) (hf : (cfg0.win 11).flush t = true) : (dats m 0 c).flushed 11 t = ((cfg0.win 11).blk t).view.read (Elt Ideal) (res11 m c) := by
  have hN : cfg0.N = 8 := N_0
  have h7 : t.val = 7 := by have := (flush0_11 t).mp hf; have := t.isLt; omega
  obtain rfl : t = t0_7 := Fin.ext h7
  show (cfg0.win 11).cut (grid0.coords t0_7) ((dats m 0 c).after 11 t0_7) = _
  rw [after0_11]
  have e : (outsAt0 m c t0_7.val t0_7.isLt).2.2.2.1 = res11 m c := by
    funext y
    obtain ⟨r, j, rfl⟩ : ∃ (r : Fin 1) (j : Fin 1024), y = ix2 r j := ⟨y 0, y 1, eq_ix2 y⟩
    rw [out_11 m c r j t0_7.val t0_7.isLt]
    exact part_all _
  rw [e]
  have hz' : (fun a => win0_11.index t0_7 a * main_v16_3.ty.shape.size a) = fun _ => 0 := funext fun a => by fin_cases a <;> decide
  exact (Memref.read_access_unit_zero (Elt Ideal) main_v16_3 hz' (fun a => by rw [congrFun hz' a]; simp) (res11 m c)).symm

theorem final_11 : (dats m 0 c).arrAt 11 cfg0.N = res11 m c :=
  (dats m 0 c).arrAt_eq_of_cover 11 (res11 m c) (flush_11 m c) fun i => by
    have h0 : (i 0 : Nat) < 1 := (i 0).isLt
    have h1 : (i 1 : Nat) < 1024 := (i 1).isLt
    refine ⟨t0_7, (flush0_11 t0_7).mpr rfl, ?_⟩
    show i ∈ ((View.whole main_v16_3).slice (win0_11.rect t0_7)).set
    rw [View.set_slice_whole, Rect.mem_set_unit]
    intro a
    match a with
    | ⟨0, _⟩ =>
      show win0_11.index t0_7 0 * 1 ≤ (i 0 : Nat) ∧ (i 0 : Nat) < win0_11.index t0_7 0 * 1 + 1
      rw [show win0_11.index t0_7 0 = 0 from by decide +kernel]; omega
    | ⟨1, _⟩ =>
      show win0_11.index t0_7 1 * 1024 ≤ (i 1 : Nat) ∧ (i 1 : Nat) < win0_11.index t0_7 1 * 1024 + 1024
      rw [show win0_11.index t0_7 1 = 0 from by decide +kernel]; omega

/-- Result 4. -/
def res12 : Vec Ideal S1x1024 .f32 := fun i => dscale (d1 (V0 m c)) (mx (V0 m c)) (i 0) (i 1)

theorem flush_12 (t : Fin cfg0.N) (hf : (cfg0.win 12).flush t = true) : (dats m 0 c).flushed 12 t = ((cfg0.win 12).blk t).view.read (Elt Ideal) (res12 m c) := by
  have hN : cfg0.N = 8 := N_0
  have h7 : t.val = 7 := by have := (flush0_12 t).mp hf; have := t.isLt; omega
  obtain rfl : t = t0_7 := Fin.ext h7
  show (cfg0.win 12).cut (grid0.coords t0_7) ((dats m 0 c).after 12 t0_7) = _
  rw [after0_12]
  have e : (outsAt0 m c t0_7.val t0_7.isLt).2.2.2.2 = res12 m c := by
    funext y
    obtain ⟨r, j, rfl⟩ : ∃ (r : Fin 1) (j : Fin 1024), y = ix2 r j := ⟨y 0, y 1, eq_ix2 y⟩
    rw [out_12 m c r j t0_7.val t0_7.isLt]
    exact part_all _
  rw [e]
  have hz' : (fun a => win0_12.index t0_7 a * main_v16_4.ty.shape.size a) = fun _ => 0 := funext fun a => by fin_cases a <;> decide
  exact (Memref.read_access_unit_zero (Elt Ideal) main_v16_4 hz' (fun a => by rw [congrFun hz' a]; simp) (res12 m c)).symm

theorem final_12 : (dats m 0 c).arrAt 12 cfg0.N = res12 m c :=
  (dats m 0 c).arrAt_eq_of_cover 12 (res12 m c) (flush_12 m c) fun i => by
    have h0 : (i 0 : Nat) < 1 := (i 0).isLt
    have h1 : (i 1 : Nat) < 1024 := (i 1).isLt
    refine ⟨t0_7, (flush0_12 t0_7).mpr rfl, ?_⟩
    show i ∈ ((View.whole main_v16_4).slice (win0_12.rect t0_7)).set
    rw [View.set_slice_whole, Rect.mem_set_unit]
    intro a
    match a with
    | ⟨0, _⟩ =>
      show win0_12.index t0_7 0 * 1 ≤ (i 0 : Nat) ∧ (i 0 : Nat) < win0_12.index t0_7 0 * 1 + 1
      rw [show win0_12.index t0_7 0 = 0 from by decide +kernel]; omega
    | ⟨1, _⟩ =>
      show win0_12.index t0_7 1 * 1024 ≤ (i 1 : Nat) ∧ (i 1 : Nat) < win0_12.index t0_7 1 * 1024 + 1024
      rw [show win0_12.index t0_7 1 = 0 from by decide +kernel]; omega

end Cert.NormsKIdeal.Val

end
-- ==== Proof.NormsRef.lean ====
/- The reference of the gradient of the norms: its operations in order, its run, and what it leaves in its arguments. -/
module

public import proofs.«01_k».proof.Proof.Lines
public import proofs.«01_k».proof.Proof.Gen.NormsRIdeal
public import Idealize.ShloMosaic.Lib.StableHlo.Run

@[expose] public section

set_option maxRecDepth 8000

noncomputable section

namespace Cert.NormsRIdeal.Line

open Cert.NormsRIdeal Cert.NormsRIdeal.Gen Idealize.SL.Sem
open Idealize.ShloMosaic Idealize.ShloMosaic.TcCoe Idealize.ShloMosaic.StableHlo
open Cert.Lines

variable {F : FTy → Type} [FloatOps F]

/-- The operations, in order. -/
abbrev line : List (HloOp τ sig (Elt F)) :=
  [ unary main_arg1 main_v0 (extf .f32 · bitsLt_bf16_f32),
    nullary main_cst (constant S_ .f32 0x00000000#32),
    unary main_cst main_v1 (broadcastInDim S4096x1024 ![] bcast_S_S4096x1024),
    unary main_arg2 main_v2 (extf .f32 · bitsLt_bf16_f32),
    unary main_arg5 main_v3 (extf .f32 · bitsLt_bf16_f32),
    binary main_v0 main_v2 main_v4 (fun l r => Host.dotGeneral dot_S4096x1024_S1024x1024_S4096x1024_1_0_0_1_n_n none l r),
    binary main_v4 main_v1 main_v5 addf,
    binary main_v5 main_v5 main_v6 mulf,
    nullary main_cst_0 (constant S_ .f32 0x00000000#32),
    binary main_v6 main_cst_0 main_v7 (fun x v => Host.reduceAdd x v reducesTo_S4096x1024_S4096_d1 h_S_),
    unary main_v7 main_v8 (broadcastInDim S4096x1 ![0] bcast_S4096_S4096x1_0),
    nullary main_cst_1 (constant S_ .f32 0x44800000#32),
    unary main_cst_1 main_v9 (broadcastInDim S4096x1 ![] bcast_S_S4096x1),
    binary main_v8 main_v9 main_v10 Host.divf,
    nullary main_cst_2 (constant S_ .f32 0x358637BD#32),
    unary main_cst_2 main_v11 (broadcastInDim S4096x1 ![] bcast_S_S4096x1),
    binary main_v10 main_v11 main_v12 addf,
    unary main_v12 main_v13 Host.rsqrt,
    binary main_v13 main_v12 main_v14 Host.divf,
    nullary main_cst_3 (constant S_ .f32 0xBF000000#32),
    unary main_cst_3 main_v15 (broadcastInDim S4096x1 ![] bcast_S_S4096x1),
    binary main_v15 main_v14 main_v16 mulf,
    unary main_v13 main_v17 (broadcastInDim S4096x1024 ![0, 1] bcast_S4096x1_S4096x1024_0_1),
    binary main_v5 main_v17 main_v18 mulf,
    unary main_arg3 main_v19 (broadcastInDim S4096x1024 ![0, 1] bcast_S1x1024_S4096x1024_0_1),
    binary main_v18 main_v19 main_v20 mulf,
    binary main_arg0 main_v20 main_v21 addf,
    binary main_v21 main_v21 main_v22 mulf,
    nullary main_cst_4 (constant S_ .f32 0x00000000#32),
    binary main_v22 main_cst_4 main_v23 (fun x v => Host.reduceAdd x v reducesTo_S4096x1024_S4096_d1 h_S_),
    unary main_v23 main_v24 (broadcastInDim S4096x1 ![0] bcast_S4096_S4096x1_0),
    nullary main_cst_5 (constant S_ .f32 0x44800000#32),
    unary main_cst_5 main_v25 (broadcastInDim S4096x1 ![] bcast_S_S4096x1),
    binary main_v24 main_v25 main_v26 Host.divf,
    nullary main_cst_6 (constant S_ .f32 0x358637BD#32),
    unary main_cst_6 main_v27 (broadcastInDim S4096x1 ![] bcast_S_S4096x1),
    binary main_v26 main_v27 main_v28 addf,
    unary main_v28 main_v29 Host.rsqrt,
    binary main_v29 main_v28 main_v30 Host.divf,
    nullary main_cst_7 (constant S_ .f32 0xBF000000#32),
    unary main_cst_7 main_v31 (broadcastInDim S4096x1 ![] bcast_S_S4096x1),
    binary main_v31 main_v30 main_v32 mulf,
    unary main_v29 main_v33 (broadcastInDim S4096x1024 ![0, 1] bcast_S4096x1_S4096x1024_0_1),
    binary main_v21 main_v33 main_v34 mulf,
    unary main_arg4 main_v35 (broadcastInDim S4096x1024 ![0, 1] bcast_S1x1024_S4096x1024_0_1),
    binary main_v34 main_v35 main_v36 mulf,
    binary main_v36 main_v3 main_v37 (fun l r => Host.dotGeneral dot_S4096x1024_S1024x4096_S4096x4096_1_0_0_1_n_n none l r),
    unary main_arg7 main_v38 (extf .f32 · bitsLt_bf16_f32),
    binary main_v38 main_v3 main_v39 (fun l r => Host.dotGeneral dot_S4096x4096_S1024x4096_S4096x1024_1_1_0_0_n_n none l r),
    binary main_v34 main_v39 main_v40 mulf,
    nullary main_cst_8 (constant S_ .f32 0x00000000#32),
    binary main_v40 main_cst_8 main_v41 (fun x v => Host.reduceAdd x v reducesTo_S4096x1024_S1024_d0 h_S_),
    reshape main_v41 main_v42 (rfl : (.f32 : EltTy) = .f32) shapeCasts_S1024_S1x1024,
    unary main_arg4 main_v43 (broadcastInDim S4096x1024 ![0, 1] bcast_S1x1024_S4096x1024_0_1),
    binary main_v39 main_v43 main_v44 mulf,
    binary main_v21 main_v44 main_v45 mulf,
    nullary main_cst_9 (constant S_ .f32 0x00000000#32),
    binary main_v45 main_cst_9 main_v46 (fun x v => Host.reduceAdd x v reducesTo_S4096x1024_S4096_d1 h_S_),
    reshape main_v46 main_v47 (rfl : (.f32 : EltTy) = .f32) shapeCasts_S4096_S4096x1,
    unary main_v29 main_v48 (broadcastInDim S4096x1024 ![0, 1] bcast_S4096x1_S4096x1024_0_1),
    binary main_v44 main_v48 main_v49 mulf,
    binary main_arg6 main_v49 main_v50 addf,
    binary main_v47 main_v32 main_v51 mulf,
    nullary main_cst_10 (constant S_ .f32 0x44800000#32),
    unary main_cst_10 main_v52 (broadcastInDim S4096x1 ![] bcast_S_S4096x1),
    binary main_v51 main_v52 main_v53 Host.divf,
    nullary main_cst_11 (constant S_ .f32 0x00000000#32),
    binary main_v53 main_cst_11 main_v54 (fun x v => Host.reduceAdd x v reducesTo_S4096x1_S4096_d1 h_S_),
    unary main_v54 main_v55 (broadcastInDim S4096x1024 ![0] bcast_S4096_S4096x1024_0),
    binary main_v21 main_v55 main_v56 mulf,
    binary main_v50 main_v56 main_v57 addf,
    binary main_v55 main_v21 main_v58 mulf,
    binary main_v57 main_v58 main_v59 addf,
    reshape main_v59 main_v60 (rfl : (.f32 : EltTy) = .f32) shapeCasts_S4096x1024_S4096x1024,
    binary main_v18 main_v60 main_v61 mulf,
    nullary main_cst_12 (constant S_ .f32 0x00000000#32),
    binary main_v61 main_cst_12 main_v62 (fun x v => Host.reduceAdd x v reducesTo_S4096x1024_S1024_d0 h_S_),
    reshape main_v62 main_v63 (rfl : (.f32 : EltTy) = .f32) shapeCasts_S1024_S1x1024,
    unary main_arg3 main_v64 (broadcastInDim S4096x1024 ![0, 1] bcast_S1x1024_S4096x1024_0_1),
    binary main_v60 main_v64 main_v65 mulf,
    binary main_v5 main_v65 main_v66 mulf,
    nullary main_cst_13 (constant S_ .f32 0x00000000#32),
    binary main_v66 main_cst_13 main_v67 (fun x v => Host.reduceAdd x v reducesTo_S4096x1024_S4096_d1 h_S_),
    reshape main_v67 main_v68 (rfl : (.f32 : EltTy) = .f32) shapeCasts_S4096_S4096x1,
    unary main_v13 main_v69 (broadcastInDim S4096x1024 ![0, 1] bcast_S4096x1_S4096x1024_0_1),
    binary main_v65 main_v69 main_v70 mulf,
    binary main_v68 main_v16 main_v71 mulf,
    nullary main_cst_14 (constant S_ .f32 0x44800000#32),
    unary main_cst_14 main_v72 (broadcastInDim S4096x1 ![] bcast_S_S4096x1),
    binary main_v71 main_v72 main_v73 Host.divf,
    nullary main_cst_15 (constant S_ .f32 0x00000000#32),
    binary main_v73 main_cst_15 main_v74 (fun x v => Host.reduceAdd x v reducesTo_S4096x1_S4096_d1 h_S_),
    unary main_v74 main_v75 (broadcastInDim S4096x1024 ![0] bcast_S4096_S4096x1024_0),
    binary main_v5 main_v75 main_v76 mulf,
    binary main_v70 main_v76 main_v77 addf,
    binary main_v75 main_v5 main_v78 mulf,
    binary main_v77 main_v78 main_v79 addf,
    binary main_v79 main_v2 main_v80 (fun l r => Host.dotGeneral dot_S4096x1024_S1024x1024_S4096x1024_1_1_0_0_n_n none l r),
    unary main_v79 main_v81 (truncf .bf16 · bitsLt_bf16_f32) ]
/-- What they write. -/
abbrev W : List (Ref sig .tc) :=
  [main_v0, main_cst, main_v1, main_v2, main_v3, main_v4, main_v5, main_v6, main_cst_0, main_v7, main_v8, main_cst_1, main_v9, main_v10, main_cst_2,
   main_v11, main_v12, main_v13, main_v14, main_cst_3, main_v15, main_v16, main_v17, main_v18, main_v19, main_v20, main_v21, main_v22, main_cst_4,
   main_v23, main_v24, main_cst_5, main_v25, main_v26, main_cst_6, main_v27, main_v28, main_v29, main_v30, main_cst_7, main_v31, main_v32, main_v33,
   main_v34, main_v35, main_v36, main_v37, main_v38, main_v39, main_v40, main_cst_8, main_v41, main_v42, main_v43, main_v44, main_v45, main_cst_9,
   main_v46, main_v47, main_v48, main_v49, main_v50, main_v51, main_cst_10, main_v52, main_v53, main_cst_11, main_v54, main_v55, main_v56, main_v57,
   main_v58, main_v59, main_v60, main_v61, main_cst_12, main_v62, main_v63, main_v64, main_v65, main_v66, main_cst_13, main_v67, main_v68, main_v69,
   main_v70, main_v71, main_cst_14, main_v72, main_v73, main_cst_15, main_v74, main_v75, main_v76, main_v77, main_v78, main_v79, main_v80, main_v81]
theorem writes : Writes (line (F := F)) W := rfl

set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W := by decide +kernel) : at_ V r = V (Proc.devRef .tc r) := keep writes hr V

theorem e_main_v0 : at_ V main_v0 = extf .f32 (at_ V main_arg1) bitsLt_bf16_f32 := eq1 writes 0 rfl V
theorem e_main_cst : at_ V main_cst = (constant S_ .f32 0x00000000#32) := eq0 writes 1 rfl V
theorem e_main_v1 : at_ V main_v1 = (broadcastInDim S4096x1024 ![] bcast_S_S4096x1024) (at_ V main_cst) := eq1 writes 2 rfl V
theorem e_main_v2 : at_ V main_v2 = extf .f32 (at_ V main_arg2) bitsLt_bf16_f32 := eq1 writes 3 rfl V
theorem e_main_v3 : at_ V main_v3 = extf .f32 (at_ V main_arg5) bitsLt_bf16_f32 := eq1 writes 4 rfl V
theorem e_main_v4 : at_ V main_v4 = (fun l r => Host.dotGeneral dot_S4096x1024_S1024x1024_S4096x1024_1_0_0_1_n_n none l r) (at_ V main_v0) (at_ V main_v2) := eq2 writes 5 rfl V
theorem e_main_v5 : at_ V main_v5 = (addf) (at_ V main_v4) (at_ V main_v1) := eq2 writes 6 rfl V
theorem e_main_v6 : at_ V main_v6 = (mulf) (at_ V main_v5) (at_ V main_v5) := eq2 writes 7 rfl V
theorem e_main_cst_0 : at_ V main_cst_0 = (constant S_ .f32 0x00000000#32) := eq0 writes 8 rfl V
theorem e_main_v7 : at_ V main_v7 = (fun x v => Host.reduceAdd x v reducesTo_S4096x1024_S4096_d1 h_S_) (at_ V main_v6) (at_ V main_cst_0) := eq2 writes 9 rfl V
theorem e_main_v8 : at_ V main_v8 = (broadcastInDim S4096x1 ![0] bcast_S4096_S4096x1_0) (at_ V main_v7) := eq1 writes 10 rfl V
theorem e_main_cst_1 : at_ V main_cst_1 = (constant S_ .f32 0x44800000#32) := eq0 writes 11 rfl V
theorem e_main_v9 : at_ V main_v9 = (broadcastInDim S4096x1 ![] bcast_S_S4096x1) (at_ V main_cst_1) := eq1 writes 12 rfl V
theorem e_main_v10 : at_ V main_v10 = (Host.divf) (at_ V main_v8) (at_ V main_v9) := eq2 writes 13 rfl V
theorem e_main_cst_2 : at_ V main_cst_2 = (constant S_ .f32 0x358637BD#32) := eq0 writes 14 rfl V
theorem e_main_v11 : at_ V main_v11 = (broadcastInDim S4096x1 ![] bcast_S_S4096x1) (at_ V main_cst_2) := eq1 writes 15 rfl V
theorem e_main_v12 : at_ V main_v12 = (addf) (at_ V main_v10) (at_ V main_v11) := eq2 writes 16 rfl V
theorem e_main_v13 : at_ V main_v13 = (Host.rsqrt) (at_ V main_v12) := eq1 writes 17 rfl V
theorem e_main_v14 : at_ V main_v14 = (Host.divf) (at_ V main_v13) (at_ V main_v12) := eq2 writes 18 rfl V
theorem e_main_cst_3 : at_ V main_cst_3 = (constant S_ .f32 0xBF000000#32) := eq0 writes 19 rfl V
theorem e_main_v15 : at_ V main_v15 = (broadcastInDim S4096x1 ![] bcast_S_S4096x1) (at_ V main_cst_3) := eq1 writes 20 rfl V
theorem e_main_v16 : at_ V main_v16 = (mulf) (at_ V main_v15) (at_ V main_v14) := eq2 writes 21 rfl V
theorem e_main_v17 : at_ V main_v17 = (broadcastInDim S4096x1024 ![0, 1] bcast_S4096x1_S4096x1024_0_1) (at_ V main_v13) := eq1 writes 22 rfl V
theorem e_main_v18 : at_ V main_v18 = (mulf) (at_ V main_v5) (at_ V main_v17) := eq2 writes 23 rfl V
theorem e_main_v19 : at_ V main_v19 = (broadcastInDim S4096x1024 ![0, 1] bcast_S1x1024_S4096x1024_0_1) (at_ V main_arg3) := eq1 writes 24 rfl V
theorem e_main_v20 : at_ V main_v20 = (mulf) (at_ V main_v18) (at_ V main_v19) := eq2 writes 25 rfl V
theorem e_main_v21 : at_ V main_v21 = (addf) (at_ V main_arg0) (at_ V main_v20) := eq2 writes 26 rfl V
theorem e_main_v22 : at_ V main_v22 = (mulf) (at_ V main_v21) (at_ V main_v21) := eq2 writes 27 rfl V
theorem e_main_cst_4 : at_ V main_cst_4 = (constant S_ .f32 0x00000000#32) := eq0 writes 28 rfl V
theorem e_main_v23 : at_ V main_v23 = (fun x v => Host.reduceAdd x v reducesTo_S4096x1024_S4096_d1 h_S_) (at_ V main_v22) (at_ V main_cst_4) := eq2 writes 29 rfl V
theorem e_main_v24 : at_ V main_v24 = (broadcastInDim S4096x1 ![0] bcast_S4096_S4096x1_0) (at_ V main_v23) := eq1 writes 30 rfl V
theorem e_main_cst_5 : at_ V main_cst_5 = (constant S_ .f32 0x44800000#32) := eq0 writes 31 rfl V
theorem e_main_v25 : at_ V main_v25 = (broadcastInDim S4096x1 ![] bcast_S_S4096x1) (at_ V main_cst_5) := eq1 writes 32 rfl V
theorem e_main_v26 : at_ V main_v26 = (Host.divf) (at_ V main_v24) (at_ V main_v25) := eq2 writes 33 rfl V
theorem e_main_cst_6 : at_ V main_cst_6 = (constant S_ .f32 0x358637BD#32) := eq0 writes 34 rfl V
theorem e_main_v27 : at_ V main_v27 = (broadcastInDim S4096x1 ![] bcast_S_S4096x1) (at_ V main_cst_6) := eq1 writes 35 rfl V
theorem e_main_v28 : at_ V main_v28 = (addf) (at_ V main_v26) (at_ V main_v27) := eq2 writes 36 rfl V
theorem e_main_v29 : at_ V main_v29 = (Host.rsqrt) (at_ V main_v28) := eq1 writes 37 rfl V
theorem e_main_v30 : at_ V main_v30 = (Host.divf) (at_ V main_v29) (at_ V main_v28) := eq2 writes 38 rfl V
theorem e_main_cst_7 : at_ V main_cst_7 = (constant S_ .f32 0xBF000000#32) := eq0 writes 39 rfl V
theorem e_main_v31 : at_ V main_v31 = (broadcastInDim S4096x1 ![] bcast_S_S4096x1) (at_ V main_cst_7) := eq1 writes 40 rfl V
theorem e_main_v32 : at_ V main_v32 = (mulf) (at_ V main_v31) (at_ V main_v30) := eq2 writes 41 rfl V
theorem e_main_v33 : at_ V main_v33 = (broadcastInDim S4096x1024 ![0, 1] bcast_S4096x1_S4096x1024_0_1) (at_ V main_v29) := eq1 writes 42 rfl V
theorem e_main_v34 : at_ V main_v34 = (mulf) (at_ V main_v21) (at_ V main_v33) := eq2 writes 43 rfl V
theorem e_main_v38 : at_ V main_v38 = extf .f32 (at_ V main_arg7) bitsLt_bf16_f32 := eq1 writes 47 rfl V
theorem e_main_v39 : at_ V main_v39 = (fun l r => Host.dotGeneral dot_S4096x4096_S1024x4096_S4096x1024_1_1_0_0_n_n none l r) (at_ V main_v38) (at_ V main_v3) := eq2 writes 48 rfl V
theorem e_main_v40 : at_ V main_v40 = (mulf) (at_ V main_v34) (at_ V main_v39) := eq2 writes 49 rfl V
theorem e_main_cst_8 : at_ V main_cst_8 = (constant S_ .f32 0x00000000#32) := eq0 writes 50 rfl V
theorem e_main_v41 : at_ V main_v41 = (fun x v => Host.reduceAdd x v reducesTo_S4096x1024_S1024_d0 h_S_) (at_ V main_v40) (at_ V main_cst_8) := eq2 writes 51 rfl V
theorem e_main_v42 : at_ V main_v42 = fun j => shapeCast (main_v42).ty.shape (at_ V main_v41) shapeCasts_S1024_S1x1024 j := eqR writes 52 rfl V
theorem e_main_v43 : at_ V main_v43 = (broadcastInDim S4096x1024 ![0, 1] bcast_S1x1024_S4096x1024_0_1) (at_ V main_arg4) := eq1 writes 53 rfl V
theorem e_main_v44 : at_ V main_v44 = (mulf) (at_ V main_v39) (at_ V main_v43) := eq2 writes 54 rfl V
theorem e_main_v45 : at_ V main_v45 = (mulf) (at_ V main_v21) (at_ V main_v44) := eq2 writes 55 rfl V
theorem e_main_cst_9 : at_ V main_cst_9 = (constant S_ .f32 0x00000000#32) := eq0 writes 56 rfl V
theorem e_main_v46 : at_ V main_v46 = (fun x v => Host.reduceAdd x v reducesTo_S4096x1024_S4096_d1 h_S_) (at_ V main_v45) (at_ V main_cst_9) := eq2 writes 57 rfl V
theorem e_main_v47 : at_ V main_v47 = fun j => shapeCast (main_v47).ty.shape (at_ V main_v46) shapeCasts_S4096_S4096x1 j := eqR writes 58 rfl V
theorem e_main_v48 : at_ V main_v48 = (broadcastInDim S4096x1024 ![0, 1] bcast_S4096x1_S4096x1024_0_1) (at_ V main_v29) := eq1 writes 59 rfl V
theorem e_main_v49 : at_ V main_v49 = (mulf) (at_ V main_v44) (at_ V main_v48) := eq2 writes 60 rfl V
theorem e_main_v50 : at_ V main_v50 = (addf) (at_ V main_arg6) (at_ V main_v49) := eq2 writes 61 rfl V
theorem e_main_v51 : at_ V main_v51 = (mulf) (at_ V main_v47) (at_ V main_v32) := eq2 writes 62 rfl V
theorem e_main_cst_10 : at_ V main_cst_10 = (constant S_ .f32 0x44800000#32) := eq0 writes 63 rfl V
theorem e_main_v52 : at_ V main_v52 = (broadcastInDim S4096x1 ![] bcast_S_S4096x1) (at_ V main_cst_10) := eq1 writes 64 rfl V
theorem e_main_v53 : at_ V main_v53 = (Host.divf) (at_ V main_v51) (at_ V main_v52) := eq2 writes 65 rfl V
theorem e_main_cst_11 : at_ V main_cst_11 = (constant S_ .f32 0x00000000#32) := eq0 writes 66 rfl V
theorem e_main_v54 : at_ V main_v54 = (fun x v => Host.reduceAdd x v reducesTo_S4096x1_S4096_d1 h_S_) (at_ V main_v53) (at_ V main_cst_11) := eq2 writes 67 rfl V
theorem e_main_v55 : at_ V main_v55 = (broadcastInDim S4096x1024 ![0] bcast_S4096_S4096x1024_0) (at_ V main_v54) := eq1 writes 68 rfl V
theorem e_main_v56 : at_ V main_v56 = (mulf) (at_ V main_v21) (at_ V main_v55) := eq2 writes 69 rfl V
theorem e_main_v57 : at_ V main_v57 = (addf) (at_ V main_v50) (at_ V main_v56) := eq2 writes 70 rfl V
theorem e_main_v58 : at_ V main_v58 = (mulf) (at_ V main_v55) (at_ V main_v21) := eq2 writes 71 rfl V
theorem e_main_v59 : at_ V main_v59 = (addf) (at_ V main_v57) (at_ V main_v58) := eq2 writes 72 rfl V
theorem e_main_v60 : at_ V main_v60 = fun j => shapeCast (main_v60).ty.shape (at_ V main_v59) shapeCasts_S4096x1024_S4096x1024 j := eqR writes 73 rfl V
theorem e_main_v61 : at_ V main_v61 = (mulf) (at_ V main_v18) (at_ V main_v60) := eq2 writes 74 rfl V
theorem e_main_cst_12 : at_ V main_cst_12 = (constant S_ .f32 0x00000000#32) := eq0 writes 75 rfl V
theorem e_main_v62 : at_ V main_v62 = (fun x v => Host.reduceAdd x v reducesTo_S4096x1024_S1024_d0 h_S_) (at_ V main_v61) (at_ V main_cst_12) := eq2 writes 76 rfl V
theorem e_main_v63 : at_ V main_v63 = fun j => shapeCast (main_v63).ty.shape (at_ V main_v62) shapeCasts_S1024_S1x1024 j := eqR writes 77 rfl V
theorem e_main_v64 : at_ V main_v64 = (broadcastInDim S4096x1024 ![0, 1] bcast_S1x1024_S4096x1024_0_1) (at_ V main_arg3) := eq1 writes 78 rfl V
theorem e_main_v65 : at_ V main_v65 = (mulf) (at_ V main_v60) (at_ V main_v64) := eq2 writes 79 rfl V
theorem e_main_v66 : at_ V main_v66 = (mulf) (at_ V main_v5) (at_ V main_v65) := eq2 writes 80 rfl V
theorem e_main_cst_13 : at_ V main_cst_13 = (constant S_ .f32 0x00000000#32) := eq0 writes 81 rfl V
theorem e_main_v67 : at_ V main_v67 = (fun x v => Host.reduceAdd x v reducesTo_S4096x1024_S4096_d1 h_S_) (at_ V main_v66) (at_ V main_cst_13) := eq2 writes 82 rfl V
theorem e_main_v68 : at_ V main_v68 = fun j => shapeCast (main_v68).ty.shape (at_ V main_v67) shapeCasts_S4096_S4096x1 j := eqR writes 83 rfl V
theorem e_main_v69 : at_ V main_v69 = (broadcastInDim S4096x1024 ![0, 1] bcast_S4096x1_S4096x1024_0_1) (at_ V main_v13) := eq1 writes 84 rfl V
theorem e_main_v70 : at_ V main_v70 = (mulf) (at_ V main_v65) (at_ V main_v69) := eq2 writes 85 rfl V
theorem e_main_v71 : at_ V main_v71 = (mulf) (at_ V main_v68) (at_ V main_v16) := eq2 writes 86 rfl V
theorem e_main_cst_14 : at_ V main_cst_14 = (constant S_ .f32 0x44800000#32) := eq0 writes 87 rfl V
theorem e_main_v72 : at_ V main_v72 = (broadcastInDim S4096x1 ![] bcast_S_S4096x1) (at_ V main_cst_14) := eq1 writes 88 rfl V
theorem e_main_v73 : at_ V main_v73 = (Host.divf) (at_ V main_v71) (at_ V main_v72) := eq2 writes 89 rfl V
theorem e_main_cst_15 : at_ V main_cst_15 = (constant S_ .f32 0x00000000#32) := eq0 writes 90 rfl V
theorem e_main_v74 : at_ V main_v74 = (fun x v => Host.reduceAdd x v reducesTo_S4096x1_S4096_d1 h_S_) (at_ V main_v73) (at_ V main_cst_15) := eq2 writes 91 rfl V
theorem e_main_v75 : at_ V main_v75 = (broadcastInDim S4096x1024 ![0] bcast_S4096_S4096x1024_0) (at_ V main_v74) := eq1 writes 92 rfl V
theorem e_main_v76 : at_ V main_v76 = (mulf) (at_ V main_v5) (at_ V main_v75) := eq2 writes 93 rfl V
theorem e_main_v77 : at_ V main_v77 = (addf) (at_ V main_v70) (at_ V main_v76) := eq2 writes 94 rfl V
theorem e_main_v78 : at_ V main_v78 = (mulf) (at_ V main_v75) (at_ V main_v5) := eq2 writes 95 rfl V
theorem e_main_v79 : at_ V main_v79 = (addf) (at_ V main_v77) (at_ V main_v78) := eq2 writes 96 rfl V
theorem e_main_v80 : at_ V main_v80 = (fun l r => Host.dotGeneral dot_S4096x1024_S1024x1024_S4096x1024_1_1_0_0_n_n none l r) (at_ V main_v79) (at_ V main_v2) := eq2 writes 97 rfl V
theorem e_main_v81 : at_ V main_v81 = truncf .bf16 (at_ V main_v79) bitsLt_bf16_f32 := eq1 writes 98 rfl V

theorem ops_sub : (line : List (HloOp τ sig (Elt F))).Forall fun op => op.bufs ⊆ tcRefs τ sig := by
  repeat' first | (with_reducible first | exact unary_bufs_sub .. | exact binary_bufs_sub .. | exact nullary_bufs_sub .. | exact reshape_bufs_sub ..) | refine ⟨?_, ?_⟩ | exact unary_bufs_sub .. | exact binary_bufs_sub .. | exact nullary_bufs_sub .. | exact reshape_bufs_sub ..

/-- Every execution ends with every buffer at its contents after the line. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = at_ (launchContents m d) b :=
  run_seq scopedRefs_eq scopedSems_eq defs main (fun _ => line) main_eq (fun _ => ops_sub) m ρ

/-- An argument keeps what it held. -/
theorem arg (m : (ℓ : Loc nD τ sig) → Buf (Elt F) ℓ) (d : Dev nD) {b : Ref sig .tc} (hb : b ∉ W := by decide +kernel) :
    at_ (launchContents m d) b = m ((d.tc : Thread nD τ).loc b) := kept _ hb

end Cert.NormsRIdeal.Line

end
-- ==== Proof.NormsRefVal.lean ====
/- The gradient of the norms, reference: its results element by element. -/
module

public import proofs.«01_k».proof.Proof.NormsRef
public import proofs.«01_k».proof.Proof.NormsSpec

@[expose] public section

set_option maxRecDepth 8000

noncomputable section

namespace Cert.NormsRIdeal.Val

open Cert.NormsRIdeal Cert.NormsRIdeal.Gen Cert.NormsRIdeal.Line Idealize.ShloMosaic Idealize.ShloMosaic.TcCoe Idealize.ShloMosaic.StableHlo Cert.NormRow Cert.NormsSpec

variable (V : Valuation τ sig (Elt Ideal))

/-- Argument 0. -/
def X : Mat 4096 1024 := fun i j => (at_ V main_arg0 : Vec Ideal S4096x1024 .f32) (ix2 i j)
theorem targ0 (i : Fin 4096) (j : Fin 1024) : (at_ V main_arg0 : Vec Ideal S4096x1024 .f32) (ix2 i j) = X V i j := rfl
/-- Argument 1. -/
def M : Mat 4096 1024 := fun i j => (at_ V main_arg1 : Vec Ideal S4096x1024 .bf16) (ix2 i j)
theorem targ1 (i : Fin 4096) (j : Fin 1024) : (at_ V main_arg1 : Vec Ideal S4096x1024 .bf16) (ix2 i j) = M V i j := rfl
/-- Argument 2. -/
def WO : Mat 1024 1024 := fun i j => (at_ V main_arg2 : Vec Ideal S1024x1024 .bf16) (ix2 i j)
theorem targ2 (i : Fin 1024) (j : Fin 1024) : (at_ V main_arg2 : Vec Ideal S1024x1024 .bf16) (ix2 i j) = WO V i j := rfl
/-- Argument 3. -/
def G2 : Mat 1 1024 := fun i j => (at_ V main_arg3 : Vec Ideal S1x1024 .f32) (ix2 i j)
theorem targ3 (i : Fin 1) (j : Fin 1024) : (at_ V main_arg3 : Vec Ideal S1x1024 .f32) (ix2 i j) = G2 V i j := rfl
/-- Argument 4. -/
def G3 : Mat 1 1024 := fun i j => (at_ V main_arg4 : Vec Ideal S1x1024 .f32) (ix2 i j)
theorem targ4 (i : Fin 1) (j : Fin 1024) : (at_ V main_arg4 : Vec Ideal S1x1024 .f32) (ix2 i j) = G3 V i j := rfl
/-- Argument 5. -/
def WU : Mat 1024 4096 := fun i j => (at_ V main_arg5 : Vec Ideal S1024x4096 .bf16) (ix2 i j)
theorem targ5 (i : Fin 1024) (j : Fin 4096) : (at_ V main_arg5 : Vec Ideal S1024x4096 .bf16) (ix2 i j) = WU V i j := rfl
/-- Argument 6. -/
def DO : Mat 4096 1024 := fun i j => (at_ V main_arg6 : Vec Ideal S4096x1024 .f32) (ix2 i j)
theorem targ6 (i : Fin 4096) (j : Fin 1024) : (at_ V main_arg6 : Vec Ideal S4096x1024 .f32) (ix2 i j) = DO V i j := rfl
/-- Argument 7. -/
def DP : Mat 4096 4096 := fun i j => (at_ V main_arg7 : Vec Ideal S4096x4096 .bf16) (ix2 i j)
theorem targ7 (i : Fin 4096) (j : Fin 4096) : (at_ V main_arg7 : Vec Ideal S4096x4096 .bf16) (ix2 i j) = DP V i j := rfl
/-- The projected rows. -/
def mx : Mat 4096 1024 := mix (M V) (WO V)
/-- The residual. -/
def hh : Mat 4096 1024 := h1 (X V) (mx V) (G2 V)
/-- The cotangent of the rows that enter the up-projection. -/
def dd : Mat 4096 1024 := dv (DP V) (WU V)
/-- The residual's cotangent. -/
def d1 : Mat 4096 1024 := dh (DO V) (hh V) (dd V) (G3 V)
/-- The projected rows' cotangent. -/
def dm : Mat 4096 1024 := dmix (d1 V) (mx V) (G2 V)

theorem t5 (i : Fin 4096) (j : Fin 1024) : (at_ V main_v5 : Vec Ideal S4096x1024 .f32) (ix2 i j) = mx V i j := by
  rw [e_main_v5, e_main_v4, e_main_v1, e_main_cst, e_main_v0, e_main_v2]
  have h_arg1 := targ1 V
  generalize at_ V main_arg1 = x_arg1 at h_arg1 ⊢
  have h_arg2 := targ2 V
  generalize at_ V main_arg2 = x_arg2 at h_arg2 ⊢
  pointwise
  try simp only [h_arg1, h_arg2]
  try rfl

theorem t12 (i : Fin 4096) (j : Fin 1) : (at_ V main_v12 : Vec Ideal S4096x1 .f32) (ix2 i j) = ms (mx V i) := by
  rw [e_main_v12, e_main_v10, e_main_v8, e_main_v7, e_main_v6, e_main_cst_0, e_main_v9, e_main_cst_1, e_main_v11, e_main_cst_2]
  have h_v5 := t5 V
  generalize at_ V main_v5 = x_v5 at h_v5 ⊢
  pointwise
  try simp only [h_v5]
  try rfl

theorem t13 (i : Fin 4096) (j : Fin 1) : (at_ V main_v13 : Vec Ideal S4096x1 .f32) (ix2 i j) = rs (mx V i) := by
  rw [e_main_v13]
  have h_v12 := t12 V
  generalize at_ V main_v12 = x_v12 at h_v12 ⊢
  pointwise
  try simp only [h_v12]
  try rfl

theorem t16 (i : Fin 4096) (j : Fin 1) : (at_ V main_v16 : Vec Ideal S4096x1 .f32) (ix2 i j) = mhalf * Ideal.div (rs (mx V i)) (ms (mx V i)) := by
  rw [e_main_v16, e_main_v15, e_main_cst_3, e_main_v14]
  have h_v13 := t13 V
  generalize at_ V main_v13 = x_v13 at h_v13 ⊢
  have h_v12 := t12 V
  generalize at_ V main_v12 = x_v12 at h_v12 ⊢
  pointwise
  try simp only [h_v13, h_v12]
  try rfl

theorem t18 (i : Fin 4096) (j : Fin 1024) : (at_ V main_v18 : Vec Ideal S4096x1024 .f32) (ix2 i j) = xn (mx V i) j := by
  rw [e_main_v18, e_main_v17]
  have h_v5 := t5 V
  generalize at_ V main_v5 = x_v5 at h_v5 ⊢
  have h_v13 := t13 V
  generalize at_ V main_v13 = x_v13 at h_v13 ⊢
  pointwise
  try simp only [h_v5, h_v13]
  try rfl

theorem t21 (i : Fin 4096) (j : Fin 1024) : (at_ V main_v21 : Vec Ideal S4096x1024 .f32) (ix2 i j) = hh V i j := by
  rw [e_main_v21, e_main_v20, e_main_v19]
  have h_arg0 := targ0 V
  generalize at_ V main_arg0 = x_arg0 at h_arg0 ⊢
  have h_v18 := t18 V
  generalize at_ V main_v18 = x_v18 at h_v18 ⊢
  have h_arg3 := targ3 V
  generalize at_ V main_arg3 = x_arg3 at h_arg3 ⊢
  pointwise
  try simp only [h_arg0, h_v18, h_arg3]
  try rfl

theorem t28 (i : Fin 4096) (j : Fin 1) : (at_ V main_v28 : Vec Ideal S4096x1 .f32) (ix2 i j) = ms (hh V i) := by
  rw [e_main_v28, e_main_v26, e_main_v24, e_main_v23, e_main_v22, e_main_cst_4, e_main_v25, e_main_cst_5, e_main_v27, e_main_cst_6]
  have h_v21 := t21 V
  generalize at_ V main_v21 = x_v21 at h_v21 ⊢
  pointwise
  try simp only [h_v21]
  try rfl

theorem t29 (i : Fin 4096) (j : Fin 1) : (at_ V main_v29 : Vec Ideal S4096x1 .f32) (ix2 i j) = rs (hh V i) := by
  rw [e_main_v29]
  have h_v28 := t28 V
  generalize at_ V main_v28 = x_v28 at h_v28 ⊢
  pointwise
  try simp only [h_v28]
  try rfl

theorem t32 (i : Fin 4096) (j : Fin 1) : (at_ V main_v32 : Vec Ideal S4096x1 .f32) (ix2 i j) = mhalf * Ideal.div (rs (hh V i)) (ms (hh V i)) := by
  rw [e_main_v32, e_main_v31, e_main_cst_7, e_main_v30]
  have h_v29 := t29 V
  generalize at_ V main_v29 = x_v29 at h_v29 ⊢
  have h_v28 := t28 V
  generalize at_ V main_v28 = x_v28 at h_v28 ⊢
  pointwise
  try simp only [h_v29, h_v28]
  try rfl

theorem t34 (i : Fin 4096) (j : Fin 1024) : (at_ V main_v34 : Vec Ideal S4096x1024 .f32) (ix2 i j) = xn (hh V i) j := by
  rw [e_main_v34, e_main_v33]
  have h_v21 := t21 V
  generalize at_ V main_v21 = x_v21 at h_v21 ⊢
  have h_v29 := t29 V
  generalize at_ V main_v29 = x_v29 at h_v29 ⊢
  pointwise
  try simp only [h_v21, h_v29]
  try rfl

theorem t39 (i : Fin 4096) (j : Fin 1024) : (at_ V main_v39 : Vec Ideal S4096x1024 .f32) (ix2 i j) = dd V i j := by
  rw [e_main_v39, e_main_v38, e_main_v3]
  have h_arg7 := targ7 V
  generalize at_ V main_arg7 = x_arg7 at h_arg7 ⊢
  have h_arg5 := targ5 V
  generalize at_ V main_arg5 = x_arg5 at h_arg5 ⊢
  pointwise
  try simp only [h_arg7, h_arg5]
  try rfl

theorem t42 (i : Fin 1) (j : Fin 1024) : (at_ V main_v42 : Vec Ideal S1x1024 .f32) (ix2 i j) = dscale (dd V) (hh V) i j := by
  rw [e_main_v42, e_main_v41, e_main_v40, e_main_cst_8]
  have h_v34 := t34 V
  generalize at_ V main_v34 = x_v34 at h_v34 ⊢
  have h_v39 := t39 V
  generalize at_ V main_v39 = x_v39 at h_v39 ⊢
  pointwise
  try simp only [h_v34, h_v39, zero_add]
  have e : ∀ k, xn (hh V k) j * dd V k j = dd V k j * xn (hh V k) j := fun k => mul_comm _ _
  simp only [e]
  rfl

theorem t44 (i : Fin 4096) (j : Fin 1024) : (at_ V main_v44 : Vec Ideal S4096x1024 .f32) (ix2 i j) = dd V i j * G3 V 0 j := by
  rw [e_main_v44, e_main_v43]
  have h_v39 := t39 V
  generalize at_ V main_v39 = x_v39 at h_v39 ⊢
  have h_arg4 := targ4 V
  generalize at_ V main_arg4 = x_arg4 at h_arg4 ⊢
  pointwise
  try simp only [h_v39, h_arg4]
  try rfl

theorem t53 (i : Fin 4096) (j : Fin 1) : (at_ V main_v53 : Vec Ideal S4096x1 .f32) (ix2 i j) = coef (hh V i) (fun k => dd V i k * G3 V 0 k) := by
  rw [e_main_v53, e_main_v51, e_main_v47, e_main_v46, e_main_v45, e_main_cst_9, e_main_v52, e_main_cst_10]
  have h_v32 := t32 V
  generalize at_ V main_v32 = x_v32 at h_v32 ⊢
  have h_v21 := t21 V
  generalize at_ V main_v21 = x_v21 at h_v21 ⊢
  have h_v44 := t44 V
  generalize at_ V main_v44 = x_v44 at h_v44 ⊢
  pointwise
  try simp only [h_v32, h_v21, h_v44]
  try rfl

theorem t55 (i : Fin 4096) (j : Fin 1024) : (at_ V main_v55 : Vec Ideal S4096x1024 .f32) (ix2 i j) = coef (hh V i) (fun k => dd V i k * G3 V 0 k) := by
  rw [e_main_v55, e_main_v54, e_main_cst_11]
  have h_v53 := t53 V
  generalize at_ V main_v53 = x_v53 at h_v53 ⊢
  pointwise
  try simp only [h_v53, Fin.sum_univ_one, zero_add]

theorem t59 (i : Fin 4096) (j : Fin 1024) : (at_ V main_v59 : Vec Ideal S4096x1024 .f32) (ix2 i j) = d1 V i j := by
  rw [e_main_v59, e_main_v57, e_main_v50, e_main_v49, e_main_v48, e_main_v56, e_main_v58]
  have h_arg6 := targ6 V
  generalize at_ V main_arg6 = x_arg6 at h_arg6 ⊢
  have h_v44 := t44 V
  generalize at_ V main_v44 = x_v44 at h_v44 ⊢
  have h_v29 := t29 V
  generalize at_ V main_v29 = x_v29 at h_v29 ⊢
  have h_v21 := t21 V
  generalize at_ V main_v21 = x_v21 at h_v21 ⊢
  have h_v55 := t55 V
  generalize at_ V main_v55 = x_v55 at h_v55 ⊢
  pointwise
  try simp only [h_arg6, h_v44, h_v29, h_v21, h_v55, add_assoc]
  unfold d1 dh
  rw [bwd_eq]

theorem t60 (i : Fin 4096) (j : Fin 1024) : (at_ V main_v60 : Vec Ideal S4096x1024 .f32) (ix2 i j) = d1 V i j := by
  rw [e_main_v60]
  have h_v59 := t59 V
  generalize at_ V main_v59 = x_v59 at h_v59 ⊢
  pointwise
  try simp only [h_v59]

theorem t63 (i : Fin 1) (j : Fin 1024) : (at_ V main_v63 : Vec Ideal S1x1024 .f32) (ix2 i j) = dscale (d1 V) (mx V) i j := by
  rw [e_main_v63, e_main_v62, e_main_v61, e_main_cst_12]
  have h_v18 := t18 V
  generalize at_ V main_v18 = x_v18 at h_v18 ⊢
  have h_v60 := t60 V
  generalize at_ V main_v60 = x_v60 at h_v60 ⊢
  pointwise
  try simp only [h_v18, h_v60, zero_add]
  have e : ∀ k, xn (mx V k) j * d1 V k j = d1 V k j * xn (mx V k) j := fun k => mul_comm _ _
  simp only [e]
  rfl

theorem t65 (i : Fin 4096) (j : Fin 1024) : (at_ V main_v65 : Vec Ideal S4096x1024 .f32) (ix2 i j) = d1 V i j * G2 V 0 j := by
  rw [e_main_v65, e_main_v64]
  have h_v60 := t60 V
  generalize at_ V main_v60 = x_v60 at h_v60 ⊢
  have h_arg3 := targ3 V
  generalize at_ V main_arg3 = x_arg3 at h_arg3 ⊢
  pointwise
  try simp only [h_v60, h_arg3]
  try rfl

theorem t73 (i : Fin 4096) (j : Fin 1) : (at_ V main_v73 : Vec Ideal S4096x1 .f32) (ix2 i j) = coef (mx V i) (fun k => d1 V i k * G2 V 0 k) := by
  rw [e_main_v73, e_main_v71, e_main_v68, e_main_v67, e_main_v66, e_main_cst_13, e_main_v72, e_main_cst_14]
  have h_v16 := t16 V
  generalize at_ V main_v16 = x_v16 at h_v16 ⊢
  have h_v5 := t5 V
  generalize at_ V main_v5 = x_v5 at h_v5 ⊢
  have h_v65 := t65 V
  generalize at_ V main_v65 = x_v65 at h_v65 ⊢
  pointwise
  try simp only [h_v16, h_v5, h_v65]
  try rfl

theorem t75 (i : Fin 4096) (j : Fin 1024) : (at_ V main_v75 : Vec Ideal S4096x1024 .f32) (ix2 i j) = coef (mx V i) (fun k => d1 V i k * G2 V 0 k) := by
  rw [e_main_v75, e_main_v74, e_main_cst_15]
  have h_v73 := t73 V
  generalize at_ V main_v73 = x_v73 at h_v73 ⊢
  pointwise
  try simp only [h_v73, Fin.sum_univ_one, zero_add]

theorem t79 (i : Fin 4096) (j : Fin 1024) : (at_ V main_v79 : Vec Ideal S4096x1024 .f32) (ix2 i j) = dm V i j := by
  rw [e_main_v79, e_main_v77, e_main_v70, e_main_v69, e_main_v76, e_main_v78]
  have h_v65 := t65 V
  generalize at_ V main_v65 = x_v65 at h_v65 ⊢
  have h_v13 := t13 V
  generalize at_ V main_v13 = x_v13 at h_v13 ⊢
  have h_v5 := t5 V
  generalize at_ V main_v5 = x_v5 at h_v5 ⊢
  have h_v75 := t75 V
  generalize at_ V main_v75 = x_v75 at h_v75 ⊢
  pointwise
  try simp only [h_v65, h_v13, h_v5, h_v75, add_assoc]
  unfold dm dmix
  rw [bwd_eq]

theorem t80 (i : Fin 4096) (j : Fin 1024) : (at_ V main_v80 : Vec Ideal S4096x1024 .f32) (ix2 i j) = dmerged (dm V) (WO V) i j := by
  rw [e_main_v80, e_main_v2]
  have h_v79 := t79 V
  generalize at_ V main_v79 = x_v79 at h_v79 ⊢
  have h_arg2 := targ2 V
  generalize at_ V main_arg2 = x_arg2 at h_arg2 ⊢
  pointwise
  try simp only [h_v79, h_arg2]
  try rfl

theorem t81 (i : Fin 4096) (j : Fin 1024) : (at_ V main_v81 : Vec Ideal S4096x1024 .bf16) (ix2 i j) = dm V i j := by
  rw [e_main_v81]
  have h_v79 := t79 V
  generalize at_ V main_v79 = x_v79 at h_v79 ⊢
  pointwise
  try simp only [h_v79]

end Cert.NormsRIdeal.Val

end
-- ==== Proof.NormsClaims.lean ====
/- The gradient of the norms: its claims. -/
module

public import proofs.«01_k».proof.Defs
public import proofs.«01_k».proof.Proof.Gen.NormsK.Frame
public import proofs.«01_k».proof.Proof.NormsVal
public import proofs.«01_k».proof.Proof.NormsRefVal
public import proofs.«01_k».proof.Proof.NormsRef
public import Idealize.ShloMosaic.Lib.Quiescent

@[expose] public section

set_option maxRecDepth 8000

noncomputable section

namespace Cert.NormsClaims

open Idealize.ShloMosaic Idealize.ShloMosaic.TcCoe Idealize.ShloMosaic.StableHlo Idealize.SL.Sem

theorem frame_p : quiescent_NormsK := fun m ρ _ => NormsK.Gen.frame m ρ

theorem frame_pi : quiescent_NormsKIdeal := fun m ρ _ => NormsKIdeal.Gen.frame m ρ

theorem frame_ri : quiescent_NormsRIdeal := fun m ρ _ =>
  (θ_run NormsRIdeal.defs _ _).mono (fun r h => ⟨fun c => ⟨(h c NormsRIdeal.main_arg0).trans (NormsRIdeal.Line.arg m c), (h c NormsRIdeal.main_arg1).trans (NormsRIdeal.Line.arg m c), (h c NormsRIdeal.main_arg2).trans (NormsRIdeal.Line.arg m c), (h c NormsRIdeal.main_arg3).trans (NormsRIdeal.Line.arg m c), (h c NormsRIdeal.main_arg4).trans (NormsRIdeal.Line.arg m c), (h c NormsRIdeal.main_arg5).trans (NormsRIdeal.Line.arg m c), (h c NormsRIdeal.main_arg6).trans (NormsRIdeal.Line.arg m c), (h c NormsRIdeal.main_arg7).trans (NormsRIdeal.Line.arg m c)⟩,
    sem_eq_zero_of_no_sems (by decide) r.2⟩) (NormsRIdeal.Line.run m ρ)

theorem algebraic : algebraic_NormsKIdeal_NormsRIdeal := by
  intro m ρ m' ρ' _ hagree
  refine ⟨fun c => NormsKIdeal.Val.res8 m c, fun c => NormsKIdeal.Val.res9 m c, fun c => NormsKIdeal.Val.res10 m c, fun c => NormsKIdeal.Val.res11 m c, fun c => NormsKIdeal.Val.res12 m c,
    (θ_run NormsKIdeal.defs _ _).mono (fun r h c => ?_) (NormsKIdeal.Value.run_blocks (F := Ideal) m ρ), ?_⟩
  · have e := h c
    simp only [NormsKIdeal.Val.final_8, NormsKIdeal.Val.final_9, NormsKIdeal.Val.final_10, NormsKIdeal.Val.final_11, NormsKIdeal.Val.final_12] at e
    exact e
  · refine (θ_run NormsRIdeal.defs _ _).mono (fun r h c => ?_) (NormsRIdeal.Line.run (F := Ideal) m' ρ')
    obtain ⟨h0, h1, h2, h3, h4, h5, h6, h7⟩ := hagree c
    have same_X : NormsRIdeal.Val.X (launchContents m' c) = NormsKIdeal.Host.X (NormsKIdeal.Val.V0 m c) := funext fun i => funext fun j => congrFun (((NormsRIdeal.Line.arg m' c (b := NormsRIdeal.main_arg0)).trans h0).trans (NormsKIdeal.Host.kept (NormsKIdeal.Val.V0 m c) (r := NormsKIdeal.main_arg0) (by decide +kernel)).symm) (ix2 i j)
    have same_M : NormsRIdeal.Val.M (launchContents m' c) = NormsKIdeal.Host.M (NormsKIdeal.Val.V0 m c) := funext fun i => funext fun j => congrFun (((NormsRIdeal.Line.arg m' c (b := NormsRIdeal.main_arg1)).trans h1).trans (NormsKIdeal.Host.kept (NormsKIdeal.Val.V0 m c) (r := NormsKIdeal.main_arg1) (by decide +kernel)).symm) (ix2 i j)
    have same_WO : NormsRIdeal.Val.WO (launchContents m' c) = NormsKIdeal.Host.WO (NormsKIdeal.Val.V0 m c) := funext fun i => funext fun j => congrFun (((NormsRIdeal.Line.arg m' c (b := NormsRIdeal.main_arg2)).trans h2).trans (NormsKIdeal.Host.kept (NormsKIdeal.Val.V0 m c) (r := NormsKIdeal.main_arg2) (by decide +kernel)).symm) (ix2 i j)
    have same_G2 : NormsRIdeal.Val.G2 (launchContents m' c) = NormsKIdeal.Host.G2 (NormsKIdeal.Val.V0 m c) := funext fun i => funext fun j => congrFun (((NormsRIdeal.Line.arg m' c (b := NormsRIdeal.main_arg3)).trans h3).trans (NormsKIdeal.Host.kept (NormsKIdeal.Val.V0 m c) (r := NormsKIdeal.main_arg3) (by decide +kernel)).symm) (ix2 i j)
    have same_G3 : NormsRIdeal.Val.G3 (launchContents m' c) = NormsKIdeal.Host.G3 (NormsKIdeal.Val.V0 m c) := funext fun i => funext fun j => congrFun (((NormsRIdeal.Line.arg m' c (b := NormsRIdeal.main_arg4)).trans h4).trans (NormsKIdeal.Host.kept (NormsKIdeal.Val.V0 m c) (r := NormsKIdeal.main_arg4) (by decide +kernel)).symm) (ix2 i j)
    have same_WU : NormsRIdeal.Val.WU (launchContents m' c) = NormsKIdeal.Host.WU (NormsKIdeal.Val.V0 m c) := funext fun i => funext fun j => congrFun (((NormsRIdeal.Line.arg m' c (b := NormsRIdeal.main_arg5)).trans h5).trans (NormsKIdeal.Host.kept (NormsKIdeal.Val.V0 m c) (r := NormsKIdeal.main_arg5) (by decide +kernel)).symm) (ix2 i j)
    have same_DO : NormsRIdeal.Val.DO (launchContents m' c) = NormsKIdeal.Host.DO (NormsKIdeal.Val.V0 m c) := funext fun i => funext fun j => congrFun (((NormsRIdeal.Line.arg m' c (b := NormsRIdeal.main_arg6)).trans h6).trans (NormsKIdeal.Host.kept (NormsKIdeal.Val.V0 m c) (r := NormsKIdeal.main_arg6) (by decide +kernel)).symm) (ix2 i j)
    have same_DP : NormsRIdeal.Val.DP (launchContents m' c) = NormsKIdeal.Host.DP (NormsKIdeal.Val.V0 m c) := funext fun i => funext fun j => congrFun (((NormsRIdeal.Line.arg m' c (b := NormsRIdeal.main_arg7)).trans h7).trans (NormsKIdeal.Host.kept (NormsKIdeal.Val.V0 m c) (r := NormsKIdeal.main_arg7) (by decide +kernel)).symm) (ix2 i j)
    refine ⟨(h c _).trans ?_, (h c _).trans ?_, (h c _).trans ?_, (h c _).trans ?_, (h c _).trans ?_, (h c NormsRIdeal.main_arg0).trans (NormsRIdeal.Line.arg m' c), (h c NormsRIdeal.main_arg1).trans (NormsRIdeal.Line.arg m' c), (h c NormsRIdeal.main_arg2).trans (NormsRIdeal.Line.arg m' c), (h c NormsRIdeal.main_arg3).trans (NormsRIdeal.Line.arg m' c), (h c NormsRIdeal.main_arg4).trans (NormsRIdeal.Line.arg m' c), (h c NormsRIdeal.main_arg5).trans (NormsRIdeal.Line.arg m' c), (h c NormsRIdeal.main_arg6).trans (NormsRIdeal.Line.arg m' c), (h c NormsRIdeal.main_arg7).trans (NormsRIdeal.Line.arg m' c)⟩
    · funext y
      obtain ⟨i, j, rfl⟩ : ∃ (i : Fin 4096) (j : Fin 1024), y = ix2 i j := ⟨y 0, y 1, eq_ix2 y⟩
      refine (NormsRIdeal.Val.t59 (launchContents m' c) i j).trans ?_
      simp only [NormsRIdeal.Val.dm, NormsRIdeal.Val.d1, NormsRIdeal.Val.dd, NormsRIdeal.Val.hh, NormsRIdeal.Val.mx, same_X, same_M, same_WO, same_G2, same_G3, same_WU, same_DO, same_DP]
      rfl
    · funext y
      obtain ⟨i, j, rfl⟩ : ∃ (i : Fin 4096) (j : Fin 1024), y = ix2 i j := ⟨y 0, y 1, eq_ix2 y⟩
      refine (NormsRIdeal.Val.t81 (launchContents m' c) i j).trans ?_
      simp only [NormsRIdeal.Val.dm, NormsRIdeal.Val.d1, NormsRIdeal.Val.dd, NormsRIdeal.Val.hh, NormsRIdeal.Val.mx, same_X, same_M, same_WO, same_G2, same_G3, same_WU, same_DO, same_DP]
      rfl
    · funext y
      obtain ⟨i, j, rfl⟩ : ∃ (i : Fin 4096) (j : Fin 1024), y = ix2 i j := ⟨y 0, y 1, eq_ix2 y⟩
      refine (NormsRIdeal.Val.t80 (launchContents m' c) i j).trans ?_
      simp only [NormsRIdeal.Val.dm, NormsRIdeal.Val.d1, NormsRIdeal.Val.dd, NormsRIdeal.Val.hh, NormsRIdeal.Val.mx, same_X, same_M, same_WO, same_G2, same_G3, same_WU, same_DO, same_DP]
      rfl
    · funext y
      obtain ⟨i, j, rfl⟩ : ∃ (i : Fin 1) (j : Fin 1024), y = ix2 i j := ⟨y 0, y 1, eq_ix2 y⟩
      refine (NormsRIdeal.Val.t42 (launchContents m' c) i j).trans ?_
      simp only [NormsRIdeal.Val.dm, NormsRIdeal.Val.d1, NormsRIdeal.Val.dd, NormsRIdeal.Val.hh, NormsRIdeal.Val.mx, same_X, same_M, same_WO, same_G2, same_G3, same_WU, same_DO, same_DP]
      rfl
    · funext y
      obtain ⟨i, j, rfl⟩ : ∃ (i : Fin 1) (j : Fin 1024), y = ix2 i j := ⟨y 0, y 1, eq_ix2 y⟩
      refine (NormsRIdeal.Val.t63 (launchContents m' c) i j).trans ?_
      simp only [NormsRIdeal.Val.dm, NormsRIdeal.Val.d1, NormsRIdeal.Val.dd, NormsRIdeal.Val.hh, NormsRIdeal.Val.mx, same_X, same_M, same_WO, same_G2, same_G3, same_WU, same_DO, same_DP]
      rfl

end Cert.NormsClaims

end
-- ==== Proof.MlpSpec.lean ====
/- The squared-ReLU feed-forward layer: the values the programs compute, as functions of the matrices. -/
module

public import proofs.«01_k».proof.Proof.NormsSpec
public import proofs.«01_k».proof.Proof.Tiles

@[expose] public section

set_option maxRecDepth 8000

noncomputable section

namespace Cert.MlpSpec

open Idealize.ShloMosaic Cert.NormRow Cert.NormsSpec Cert.Tiles

/-- The rectifier. -/
def relu (x : EReal) : EReal := max x 0
/-- Two, as the programs write it. -/
abbrev two : EReal := Ideal.ofBits .f32 0x40000000#32
/-- The cotangent of the rows before the squared rectifier. -/
def dpre (PR : Mat 4096 4096) (WD : Mat 4096 1024) (DF : Mat 4096 1024) : Mat 4096 4096 := fun i j => (∑ k, DF i k * WD j k) * (two * relu (PR i j))

/-- Where the rectifier's derivative is taken as zero the rectified value is zero, so the choice changes nothing. -/
theorem select_relu (s p : EReal) : (if 0 < p then s * (two * relu p) else 0) = s * (two * relu p) := by
  split_ifs with h
  · rfl
  · rw [relu, max_eq_right (not_lt.1 h), mul_zero, mul_zero]

/-- The square of the rectifier. -/
def relu2 (x : EReal) : EReal := relu x * relu x
/-- The gradient of the second weight. -/
def dwDown (PR : Mat 4096 4096) (DF : Mat 4096 1024) : Mat 4096 1024 := fun f c => ∑ k, relu2 (PR k f) * DF k c
/-- The product of the transposed rows and their cotangents. -/
def gram {a b : ℕ} (X : Mat 4096 a) (Y : Mat 4096 b) : Mat a b := fun p q => ∑ k, X k p * Y k q

/-- Column `j` of the columns' group `g`. -/
def col (g : Fin 4) (j : Fin 1024) : Fin 4096 := ⟨1024 * g.val + j.val, by have := g.isLt; have := j.isLt; omega⟩

/-- A sum over all rows, as the sums over the two halves. -/
theorem sum_halves (f : Fin 4096 → EReal) (a b : Fin 2048 → Fin 4096) (ha : ∀ k, (a k).val = k.val) (hb : ∀ k, (b k).val = 2048 + k.val) :
    ∑ k, f (a k) + ∑ k, f (b k) = ∑ k, f k := by
  have e : part f (0 + 2048 + 2048) = ∑ i, f i := part_all f
  rw [part_add f (0 + 2048) 2048 (by omega), part_add f 0 2048 (by omega), part_zero, zero_add] at e
  rw [← e]
  congr 1
  · exact Finset.sum_congr rfl fun k _ => congrArg f (Fin.ext (by rw [ha]; show k.val = 0 + k.val; omega))
  · exact Finset.sum_congr rfl fun k _ => congrArg f (Fin.ext (hb k))

end Cert.MlpSpec

end
-- ==== Proof.DPreVal.lean ====
/- The gradient of the squared ReLU, kernel: its result element by element. -/
module

public import proofs.«01_k».proof.Proof.Gen.DPreKIdeal.Value
public import proofs.«01_k».proof.Proof.MlpSpec
public import Idealize.ShloMosaic.Lib.Tactic

@[expose] public section

set_option maxRecDepth 8000

noncomputable section

namespace Cert.DPreKIdeal.Val

open Cert.DPreKIdeal Cert.DPreKIdeal.Gen Idealize.ShloMosaic Idealize.ShloMosaic.TcCoe Idealize.SL.Sem Cert.NormRow Cert.NormsSpec Cert.MlpSpec Cert.Tiles
open Cert.DPreKIdeal.Gen (V)

variable (m : (ℓ : Loc nD τ sig) → Buf (Elt Ideal) ℓ) (c : Dev nD)

/-- What the device's memory holds at launch. -/
abbrev V0 : Valuation τ sig (Elt Ideal) := fun b => m (c, b)

/-- An argument, as a matrix. -/
def PR (V : Valuation τ sig (Elt Ideal)) : Mat 4096 4096 := fun i j => (V (Proc.devRef .tc main_arg0) : Vec Ideal S4096x4096 .bf16) (ix2 i j)
/-- An argument, as a matrix. -/
def WD (V : Valuation τ sig (Elt Ideal)) : Mat 4096 1024 := fun i j => (V (Proc.devRef .tc main_arg1) : Vec Ideal S4096x1024 .bf16) (ix2 i j)
/-- An argument, as a matrix. -/
def DF (V : Valuation τ sig (Elt Ideal)) : Mat 4096 1024 := fun i j => (V (Proc.devRef .tc main_arg2) : Vec Ideal S4096x1024 .bf16) (ix2 i j)

theorem hz : (![0, 0] : Fin 2 → Nat) = fun _ => 0 := funext fun a => by fin_cases a <;> rfl

theorem pay1 (x0 x1 x2 : Vec Ideal S1024x1024 .bf16) (r j : Fin 1024) : k0_pay1 (F := Ideal) x0 x1 x2 (ix2 r j) = (∑ k : Fin 1024, x0 (ix2 r k) * x1 (ix2 j k)) * (two * relu (x2 (ix2 r j))) := by
  pointwise [k0_pay1]
  try rfl

theorem out3 (x0 x1 x2 : Vec Ideal S1024x1024 .bf16) : out0_3 x0 x1 x2 = k0_pay1 x0 x1 x2 := by
  unfold out0_3
  rw [View.canon_unit_zero hz]
  simp only [View.ld_unit_zero (S := S1024x1024) hz]

/-- The place in the whole of row (or column) `r` of the block of point `t`. -/
def rI (t : Fin cfg0.N) (r : Fin 1024) : Fin 4096 := ⟨1024 * (t.val / 4) + r.val, by have := t.isLt; have : cfg0.N = 16 := N_0; have := r.isLt; omega⟩

/-- The place in the whole of row (or column) `r` of the block of point `t`. -/
def rJ (t : Fin cfg0.N) (r : Fin 1024) : Fin 4096 := ⟨1024 * (t.val % 4) + r.val, by have := t.isLt; have : cfg0.N = 16 := N_0; have := r.isLt; omega⟩

theorem ix_0 (t : Fin cfg0.N) : win0_0.index t 0 = t.val / 4 ∧ win0_0.index t 1 = 0 := by decide +revert

theorem ix_1 (t : Fin cfg0.N) : win0_1.index t 0 = t.val % 4 ∧ win0_1.index t 1 = 0 := by decide +revert

theorem ix_2 (t : Fin cfg0.N) : win0_2.index t 0 = t.val / 4 ∧ win0_2.index t 1 = t.val % 4 := by decide +revert

theorem ix_3 (t : Fin cfg0.N) : win0_3.index t 0 = t.val / 4 ∧ win0_3.index t 1 = t.val % 4 := by decide +revert

theorem blk_0 (t : Fin cfg0.N) (r : Fin 1024) (k : Fin 1024) : (iblk m c 0 t : Vec Ideal S1024x1024 .bf16) (ix2 r k) = DF (V0 m c) (rI t r) (k) := by
  unfold iblk
  rw [View.read_apply]
  show V m c main_arg2 _ = V m c main_arg2 _
  congr 1
  funext a
  apply Fin.ext
  match a with
  | ⟨0, _⟩ => show win0_0.index t 0 * 1024 + 1 * r.val = 1024 * (t.val / 4) + r.val; rw [(ix_0 t).1]; omega
  | ⟨1, _⟩ => show win0_0.index t 1 * 1024 + 1 * k.val = k.val; rw [(ix_0 t).2]; omega

theorem blk_1 (t : Fin cfg0.N) (r : Fin 1024) (k : Fin 1024) : (iblk m c 1 t : Vec Ideal S1024x1024 .bf16) (ix2 r k) = WD (V0 m c) (rJ t r) (k) := by
  unfold iblk
  rw [View.read_apply]
  show V m c main_arg1 _ = V m c main_arg1 _
  congr 1
  funext a
  apply Fin.ext
  match a with
  | ⟨0, _⟩ => show win0_1.index t 0 * 1024 + 1 * r.val = 1024 * (t.val % 4) + r.val; rw [(ix_1 t).1]; omega
  | ⟨1, _⟩ => show win0_1.index t 1 * 1024 + 1 * k.val = k.val; rw [(ix_1 t).2]; omega

theorem blk_2 (t : Fin cfg0.N) (r : Fin 1024) (k : Fin 1024) : (iblk m c 2 t : Vec Ideal S1024x1024 .bf16) (ix2 r k) = PR (V0 m c) (rI t r) (rJ t k) := by
  unfold iblk
  rw [View.read_apply]
  show V m c main_arg0 _ = V m c main_arg0 _
  congr 1
  funext a
  apply Fin.ext
  match a with
  | ⟨0, _⟩ => show win0_2.index t 0 * 1024 + 1 * r.val = 1024 * (t.val / 4) + r.val; rw [(ix_2 t).1]; omega
  | ⟨1, _⟩ => show win0_2.index t 1 * 1024 + 1 * k.val = 1024 * (t.val % 4) + k.val; rw [(ix_2 t).2]; omega

/-- Result 0. -/
def res3 : Vec Ideal S4096x4096 .bf16 := fun i => dpre (PR (V0 m c)) (WD (V0 m c)) (DF (V0 m c)) (i 0) (i 1)

theorem out_3 (t : Fin cfg0.N) (r j : Fin 1024) : out0_3 (iblk m c 0 t) (iblk m c 1 t) (iblk m c 2 t) (ix2 r j) = dpre (PR (V0 m c)) (WD (V0 m c)) (DF (V0 m c)) (rI t r) (rJ t j) := by
  rw [out3, pay1]
  simp only [blk_0, blk_1, blk_2]
  rfl

theorem flush_3 (t : Fin cfg0.N) : (dats m 0 c).flushed 3 t = ((cfg0.win 3).blk t).view.read (Elt Ideal) (res3 m c) := by
  show (cfg0.win 3).cut (grid0.coords t) ((dats m 0 c).after 3 t) = _
  rw [after0_3]
  funext y
  rw [View.read_apply]
  show (out0_3 (iblk m c 0 t) (iblk m c 1 t) (iblk m c 2 t)) y = res3 m c _
  obtain ⟨r, j, rfl⟩ : ∃ (r : Fin 1024) (j : Fin 1024), y = ix2 r j := ⟨y 0, y 1, eq_ix2 y⟩
  rw [out_3]
  unfold res3
  congr 1
  · apply Fin.ext
    show 1024 * (t.val / 4) + r.val = win0_3.index t 0 * 1024 + 1 * r.val
    rw [(ix_3 t).1]; omega
  · apply Fin.ext
    show 1024 * (t.val % 4) + j.val = win0_3.index t 1 * 1024 + 1 * j.val
    rw [(ix_3 t).2]; omega

theorem final_3 : (dats m 0 c).arrAt 3 cfg0.N = res3 m c :=
  (dats m 0 c).arrAt_eq_of_cover 3 (res3 m c) (fun t _ => flush_3 m c t) fun i => by
    have hN : cfg0.N = 16 := N_0
    have h0 : (i 0 : Nat) < 4096 := (i 0).isLt
    have h1 : (i 1 : Nat) < 4096 := (i 1).isLt
    obtain ⟨t, ht⟩ : ∃ t : Fin cfg0.N, t.val = (i 0 : Nat) / 1024 * 4 + (i 1 : Nat) / 1024 := ⟨⟨(i 0 : Nat) / 1024 * 4 + (i 1 : Nat) / 1024, by omega⟩, rfl⟩
    refine ⟨t, flush0_3 t, ?_⟩
    show i ∈ ((View.whole main_v0).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [(ix_3 t).1]; omega
    | ⟨1, _⟩ =>
      show win0_3.index t 1 * 1024 ≤ (i 1 : Nat) ∧ (i 1 : Nat) < win0_3.index t 1 * 1024 + 1024
      rw [(ix_3 t).2]; omega

end Cert.DPreKIdeal.Val

end
-- ==== Proof.DPreRef.lean ====
/- The gradient of the squared ReLU, reference: its operations in order, its run, and what it leaves in its arguments. -/
module

public import proofs.«01_k».proof.Proof.Lines
public import proofs.«01_k».proof.Proof.Gen.DPreRIdeal
public import Idealize.ShloMosaic.Lib.StableHlo.Run

@[expose] public section

set_option maxRecDepth 8000

noncomputable section

namespace Cert.DPreRIdeal.Line

open Cert.DPreRIdeal Cert.DPreRIdeal.Gen Idealize.SL.Sem
open Idealize.ShloMosaic Idealize.ShloMosaic.TcCoe Idealize.ShloMosaic.StableHlo
open Cert.Lines

variable {F : FTy → Type} [FloatOps F]

/-- The operations, in order. -/
abbrev line : List (HloOp τ sig (Elt F)) :=
  [ unary main_arg0 main_v0 (extf .f32 · bitsLt_bf16_f32),
    unary main_arg1 main_v1 (extf .f32 · bitsLt_bf16_f32),
    TRef.nullary (TRef.of (T := ⟨S_, .f32⟩) main_call0_cst) (constant S_ .f32 0x00000000#32),
    TRef.unary (TRef.of (T := ⟨S_, .f32⟩) main_call0_cst) (TRef.of (T := ⟨S4096x4096, .f32⟩) main_call0_v0) (broadcastInDim S4096x4096 ![] bcast_S_S4096x4096),
    TRef.binary (TRef.of (T := ⟨S4096x4096, .f32⟩) main_v0) (TRef.of (T := ⟨S4096x4096, .f32⟩) main_call0_v0) (TRef.of (T := ⟨S4096x4096, .f32⟩) main_v2) maximumf,
    nullary main_cst (constant S_ .f32 0x00000000#32),
    unary main_cst main_v3 (broadcastInDim S4096x4096 ![] bcast_S_S4096x4096),
    binary main_v0 main_v3 main_v4 (cmpf .ogt),
    nullary main_cst_0 (constant S_ .f32 0x00000000#32),
    unary main_cst_0 main_v5 (broadcastInDim S4096x4096 ![] bcast_S_S4096x4096),
    binary main_v2 main_v2 main_v6 mulf,
    nullary main_cst_1 (constant S_ .f32 0x40000000#32),
    unary main_cst_1 main_v7 (broadcastInDim S4096x4096 ![] bcast_S_S4096x4096),
    binary main_v7 main_v2 main_v8 mulf,
    binary main_v6 main_v1 main_v9 (fun l r => Host.dotGeneral dot_S4096x4096_S4096x1024_S4096x1024_1_0_0_1_n_n none l r),
    unary main_arg2 main_v10 (extf .f32 · bitsLt_bf16_f32),
    binary main_v10 main_v1 main_v11 (fun l r => Host.dotGeneral dot_S4096x1024_S4096x1024_S4096x4096_1_1_0_0_n_n none l r),
    binary main_v11 main_v8 main_v12 mulf,
    nullary main_cst_2 (constant S_ .f32 0x00000000#32),
    unary main_cst_2 main_v13 (broadcastInDim S4096x4096 ![] bcast_S_S4096x4096),
    ternary main_v4 main_v12 main_v13 main_v14 select,
    unary main_v14 main_v15 (truncf .bf16 · bitsLt_bf16_f32) ]
/-- What they write. -/
abbrev W : List (Ref sig .tc) :=
  [main_v0, main_v1, main_call0_cst, main_call0_v0, main_v2, main_cst, main_v3, main_v4, main_cst_0, main_v5, main_v6, main_cst_1, main_v7, main_v8,
   main_v9, main_v10, main_v11, main_v12, main_cst_2, main_v13, main_v14, main_v15]
theorem writes : Writes (line (F := F)) W := rfl

set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W := by decide +kernel) : at_ V r = V (Proc.devRef .tc r) := keep writes hr V

theorem e_main_v0 : at_ V main_v0 = extf .f32 (at_ V main_arg0) bitsLt_bf16_f32 := eq1 writes 0 rfl V
theorem e_main_v1 : at_ V main_v1 = extf .f32 (at_ V main_arg1) bitsLt_bf16_f32 := eq1 writes 1 rfl V
theorem e_main_call0_cst : at_ V main_call0_cst = (constant S_ .f32 0x00000000#32) := eq0 writes 2 rfl V
theorem e_main_call0_v0 : at_ V main_call0_v0 = (broadcastInDim S4096x4096 ![] bcast_S_S4096x4096) (at_ V main_call0_cst) := eq1 writes 3 rfl V
theorem e_main_v2 : at_ V main_v2 = maximumf (at_ V main_v0) (at_ V main_call0_v0) := eq2 writes 4 rfl V
theorem e_main_cst : at_ V main_cst = (constant S_ .f32 0x00000000#32) := eq0 writes 5 rfl V
theorem e_main_v3 : at_ V main_v3 = (broadcastInDim S4096x4096 ![] bcast_S_S4096x4096) (at_ V main_cst) := eq1 writes 6 rfl V
theorem e_main_v4 : at_ V main_v4 = (cmpf .ogt) (at_ V main_v0) (at_ V main_v3) := eq2 writes 7 rfl V
theorem e_main_cst_1 : at_ V main_cst_1 = (constant S_ .f32 0x40000000#32) := eq0 writes 11 rfl V
theorem e_main_v7 : at_ V main_v7 = (broadcastInDim S4096x4096 ![] bcast_S_S4096x4096) (at_ V main_cst_1) := eq1 writes 12 rfl V
theorem e_main_v8 : at_ V main_v8 = (mulf) (at_ V main_v7) (at_ V main_v2) := eq2 writes 13 rfl V
theorem e_main_v10 : at_ V main_v10 = extf .f32 (at_ V main_arg2) bitsLt_bf16_f32 := eq1 writes 15 rfl V
theorem e_main_v11 : at_ V main_v11 = (fun l r => Host.dotGeneral dot_S4096x1024_S4096x1024_S4096x4096_1_1_0_0_n_n none l r) (at_ V main_v10) (at_ V main_v1) := eq2 writes 16 rfl V
theorem e_main_v12 : at_ V main_v12 = (mulf) (at_ V main_v11) (at_ V main_v8) := eq2 writes 17 rfl V
theorem e_main_cst_2 : at_ V main_cst_2 = (constant S_ .f32 0x00000000#32) := eq0 writes 18 rfl V
theorem e_main_v13 : at_ V main_v13 = (broadcastInDim S4096x4096 ![] bcast_S_S4096x4096) (at_ V main_cst_2) := eq1 writes 19 rfl V
theorem e_main_v14 : at_ V main_v14 = (select) (at_ V main_v4) (at_ V main_v12) (at_ V main_v13) := eq3 writes 20 rfl V
theorem e_main_v15 : at_ V main_v15 = truncf .bf16 (at_ V main_v14) bitsLt_bf16_f32 := eq1 writes 21 rfl V

theorem ops_sub : (line : List (HloOp τ sig (Elt F))).Forall fun op => op.bufs ⊆ tcRefs τ sig := by
  repeat' first | (with_reducible first | exact unary_bufs_sub .. | exact binary_bufs_sub .. | exact nullary_bufs_sub .. | exact ternary_bufs_sub ..) | refine ⟨?_, ?_⟩ | exact unary_bufs_sub .. | exact binary_bufs_sub .. | exact nullary_bufs_sub .. | exact ternary_bufs_sub ..

/-- Every execution ends with every buffer at its contents after the line. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = at_ (launchContents m d) b :=
  run_seq scopedRefs_eq scopedSems_eq defs main (fun _ => line) main_eq (fun _ => ops_sub) m ρ

/-- An argument keeps what it held. -/
theorem arg (m : (ℓ : Loc nD τ sig) → Buf (Elt F) ℓ) (d : Dev nD) {b : Ref sig .tc} (hb : b ∉ W := by decide +kernel) :
    at_ (launchContents m d) b = m ((d.tc : Thread nD τ).loc b) := kept _ hb

end Cert.DPreRIdeal.Line

end
-- ==== Proof.DPreRefVal.lean ====
/- The gradient of the squared ReLU, reference: its result element by element. -/
module

public import proofs.«01_k».proof.Proof.DPreRef
public import proofs.«01_k».proof.Proof.MlpSpec

@[expose] public section

set_option maxRecDepth 8000

noncomputable section

namespace Cert.DPreRIdeal.Val

open Cert.DPreRIdeal Cert.DPreRIdeal.Gen Cert.DPreRIdeal.Line Idealize.ShloMosaic Idealize.ShloMosaic.TcCoe Idealize.ShloMosaic.StableHlo Cert.NormRow Cert.NormsSpec Cert.MlpSpec

variable (V : Valuation τ sig (Elt Ideal))

/-- Argument 0. -/
def PR : Mat 4096 4096 := fun i j => (at_ V main_arg0 : Vec Ideal S4096x4096 .bf16) (ix2 i j)
theorem t_arg0 (i : Fin 4096) (j : Fin 4096) : (at_ V main_arg0 : Vec Ideal S4096x4096 .bf16) (ix2 i j) = PR V i j := rfl
/-- Argument 1. -/
def WD : Mat 4096 1024 := fun i j => (at_ V main_arg1 : Vec Ideal S4096x1024 .bf16) (ix2 i j)
theorem t_arg1 (i : Fin 4096) (j : Fin 1024) : (at_ V main_arg1 : Vec Ideal S4096x1024 .bf16) (ix2 i j) = WD V i j := rfl
/-- Argument 2. -/
def DF : Mat 4096 1024 := fun i j => (at_ V main_arg2 : Vec Ideal S4096x1024 .bf16) (ix2 i j)
theorem t_arg2 (i : Fin 4096) (j : Fin 1024) : (at_ V main_arg2 : Vec Ideal S4096x1024 .bf16) (ix2 i j) = DF V i j := rfl
theorem t_v8 (i : Fin 4096) (j : Fin 4096) : (at_ V main_v8 : Vec Ideal S4096x4096 .f32) (ix2 i j) = two * relu (PR V i j) := by
  rw [e_main_v8, e_main_v7, e_main_cst_1, e_main_v2, e_main_v0, e_main_call0_v0, e_main_call0_cst]
  have h_arg0 := t_arg0 V
  generalize at_ V main_arg0 = x_arg0 at h_arg0 ⊢
  pointwise
  try simp only [h_arg0]
  try rfl

theorem t_v11 (i : Fin 4096) (j : Fin 4096) : (at_ V main_v11 : Vec Ideal S4096x4096 .f32) (ix2 i j) = ∑ k, DF V i k * WD V j k := by
  rw [e_main_v11, e_main_v10, e_main_v1]
  have h_arg2 := t_arg2 V
  generalize at_ V main_arg2 = x_arg2 at h_arg2 ⊢
  have h_arg1 := t_arg1 V
  generalize at_ V main_arg1 = x_arg1 at h_arg1 ⊢
  pointwise
  try simp only [h_arg2, h_arg1]
  try rfl

theorem t_v15 (i : Fin 4096) (j : Fin 4096) : (at_ V main_v15 : Vec Ideal S4096x4096 .bf16) (ix2 i j) = dpre (PR V) (WD V) (DF V) i j := by
  rw [e_main_v15, e_main_v14, e_main_v4, e_main_v0, e_main_v3, e_main_cst, e_main_v12, e_main_v13, e_main_cst_2]
  have h_arg0 := t_arg0 V
  generalize at_ V main_arg0 = x_arg0 at h_arg0 ⊢
  have h_v11 := t_v11 V
  generalize at_ V main_v11 = x_v11 at h_v11 ⊢
  have h_v8 := t_v8 V
  generalize at_ V main_v8 = x_v8 at h_v8 ⊢
  pointwise
  try simp only [h_arg0, h_v11, h_v8]
  try exact select_relu _ _

end Cert.DPreRIdeal.Val

end
-- ==== Proof.DPreClaims.lean ====
/- The gradient of the squared ReLU: its claims. -/
module

public import proofs.«01_k».proof.Defs
public import proofs.«01_k».proof.Proof.Gen.DPreK.Frame
public import proofs.«01_k».proof.Proof.DPreVal
public import proofs.«01_k».proof.Proof.DPreRefVal
public import proofs.«01_k».proof.Proof.DPreRef
public import Idealize.ShloMosaic.Lib.Quiescent

@[expose] public section

set_option maxRecDepth 8000

noncomputable section

namespace Cert.DPreClaims

open Idealize.ShloMosaic Idealize.ShloMosaic.TcCoe Idealize.ShloMosaic.StableHlo Idealize.SL.Sem

theorem frame_p : quiescent_DPreK := fun m ρ _ => DPreK.Gen.frame m ρ

theorem frame_pi : quiescent_DPreKIdeal := fun m ρ _ => DPreKIdeal.Gen.frame m ρ

theorem frame_ri : quiescent_DPreRIdeal := fun m ρ _ =>
  (θ_run DPreRIdeal.defs _ _).mono (fun r h => ⟨fun c => ⟨(h c DPreRIdeal.main_arg0).trans (DPreRIdeal.Line.arg m c), (h c DPreRIdeal.main_arg1).trans (DPreRIdeal.Line.arg m c), (h c DPreRIdeal.main_arg2).trans (DPreRIdeal.Line.arg m c)⟩,
    sem_eq_zero_of_no_sems (by decide) r.2⟩) (DPreRIdeal.Line.run m ρ)

theorem algebraic : algebraic_DPreKIdeal_DPreRIdeal := by
  intro m ρ m' ρ' _ hagree
  refine ⟨fun c => DPreKIdeal.Val.res3 m c,
    (θ_run DPreKIdeal.defs _ _).mono (fun r h c => ?_) (DPreKIdeal.Value.run_blocks (F := Ideal) m ρ), ?_⟩
  · have e := h c
    simp only [DPreKIdeal.Val.final_3] at e
    exact e
  · refine (θ_run DPreRIdeal.defs _ _).mono (fun r h c => ?_) (DPreRIdeal.Line.run (F := Ideal) m' ρ')
    obtain ⟨h0, h1, h2⟩ := hagree c
    have same_PR : DPreRIdeal.Val.PR (launchContents m' c) = DPreKIdeal.Val.PR (DPreKIdeal.Val.V0 m c) := funext fun i => funext fun j => congrFun ((DPreRIdeal.Line.arg m' c (b := DPreRIdeal.main_arg0)).trans h0) (ix2 i j)
    have same_WD : DPreRIdeal.Val.WD (launchContents m' c) = DPreKIdeal.Val.WD (DPreKIdeal.Val.V0 m c) := funext fun i => funext fun j => congrFun ((DPreRIdeal.Line.arg m' c (b := DPreRIdeal.main_arg1)).trans h1) (ix2 i j)
    have same_DF : DPreRIdeal.Val.DF (launchContents m' c) = DPreKIdeal.Val.DF (DPreKIdeal.Val.V0 m c) := funext fun i => funext fun j => congrFun ((DPreRIdeal.Line.arg m' c (b := DPreRIdeal.main_arg2)).trans h2) (ix2 i j)
    refine ⟨(h c _).trans ?_, (h c DPreRIdeal.main_arg0).trans (DPreRIdeal.Line.arg m' c), (h c DPreRIdeal.main_arg1).trans (DPreRIdeal.Line.arg m' c), (h c DPreRIdeal.main_arg2).trans (DPreRIdeal.Line.arg m' c)⟩
    · funext y
      obtain ⟨i, j, rfl⟩ : ∃ (i : Fin 4096) (j : Fin 4096), y = ix2 i j := ⟨y 0, y 1, eq_ix2 y⟩
      refine (DPreRIdeal.Val.t_v15 (launchContents m' c) i j).trans ?_
      simp only [same_PR, same_WD, same_DF]
      rfl

end Cert.DPreClaims

end
-- ==== Proof.DwDownVal.lean ====
/- The gradient of the second feed-forward weight, kernel: its result element by element. -/
module

public import proofs.«01_k».proof.Proof.Gen.DwDownKIdeal.Value
public import proofs.«01_k».proof.Proof.MlpSpec
public import Idealize.ShloMosaic.Lib.Tactic

@[expose] public section

set_option maxRecDepth 8000

noncomputable section

namespace Cert.DwDownKIdeal.Val

open Cert.DwDownKIdeal Cert.DwDownKIdeal.Gen Idealize.ShloMosaic Idealize.ShloMosaic.TcCoe Idealize.SL.Sem Cert.NormRow Cert.NormsSpec Cert.MlpSpec Cert.Tiles
open Cert.DwDownKIdeal.Gen (V)

variable (m : (ℓ : Loc nD τ sig) → Buf (Elt Ideal) ℓ) (c : Dev nD)

/-- What the device's memory holds at launch. -/
abbrev V0 : Valuation τ sig (Elt Ideal) := fun b => m (c, b)

/-- An argument, as a matrix. -/
def PR (V : Valuation τ sig (Elt Ideal)) : Mat 4096 4096 := fun i j => (V (Proc.devRef .tc main_arg0) : Vec Ideal S4096x4096 .bf16) (ix2 i j)
/-- An argument, as a matrix. -/
def DF (V : Valuation τ sig (Elt Ideal)) : Mat 4096 1024 := fun i j => (V (Proc.devRef .tc main_arg1) : Vec Ideal S4096x1024 .bf16) (ix2 i j)

theorem hz : (![0, 0] : Fin 2 → Nat) = fun _ => 0 := funext fun a => by fin_cases a <;> rfl

theorem pay1 (x0 x1 : Vec Ideal S2048x1024 .bf16) (r j : Fin 1024) : k0_pay1 (F := Ideal) x0 x1 (ix2 r j) = ∑ k : Fin 2048, relu2 (x0 (ix2 k r)) * x1 (ix2 k j) := by
  pointwise [k0_pay1]
  rfl

theorem pay2 (x0 x1 : Vec Ideal S2048x1024 .bf16) (r j : Fin 1024) : k0_pay2 (F := Ideal) x0 x1 (ix2 r j) = ∑ k : Fin 2048, relu2 (x0 (ix2 k r)) * x1 (ix2 k j) := by
  pointwise [k0_pay2]
  exact pay1 x0 x1 r j

theorem pay4 (x0 x1 : Vec Ideal S2048x1024 .bf16) (xs : Vec Ideal S1024x1024 .f32) (r j : Fin 1024) : k0_pay4 (F := Ideal) x0 x1 xs (ix2 r j) = xs (ix2 r j) + ∑ k : Fin 2048, relu2 (x0 (ix2 k r)) * x1 (ix2 k j) := by
  pointwise [k0_pay4]
  rw [pay1]

/-- After a point of the first half of the rows, the accumulator holds that half's product. -/
theorem scratch (t : Fin cfg0.N) (h0 : t.val % 2 = 0) (h2 : ¬t.val % 2 = 1) : (outsAt0 m c t.val t.isLt).2 = k0_pay2 (iblk m c 0 t) (iblk m c 1 t) := by
  rw [outsAt0_A m c t h0 h2]
  dsimp only
  unfold sout0_A_0
  rw [View.read_writes_eq_canon _ _ _ (scover0_A_0 _ _ _ _ _ _ _ _ _ _ _ _ _ _ _)]
  unfold kernelRun0_A
  dsimp only
  rw [View.canon_unit_zero hz]
  try sl_unfold_words
  simp only [View.readAt_eq_ld, Memref.IsWhole.read_unread, View.ld_unit_zero (S := S2048x1024) hz]

/-- After a point of the second half, the block holds both halves' products. -/
theorem block (t : Fin cfg0.N) (h0 : ¬t.val % 2 = 0) (h2 : t.val % 2 = 1) : (outsAt0 m c t.val t.isLt).1 = k0_pay4 (iblk m c 0 t) (iblk m c 1 t) (outsAt0 m c (t.val - 1) (Nat.lt_of_le_of_lt (Nat.sub_le _ _) t.isLt)).2 := by
  rw [outsAt0_B m c t h0 h2]
  dsimp only
  unfold out0_B_2
  rw [View.read_writes_eq_canon _ _ _ (cover0_B_2 _ _ _ _ _ _ _ _ _ _ _ _ _ _ _ _)]
  unfold kernelRun0_B
  dsimp only
  rw [View.canon_unit_zero hz]
  try sl_unfold_words
  simp only [View.readAt_eq_ld, Memref.IsWhole.read_unread, (Memref.isWhole_whole (sig := sig) _).read_unread, View.ld_unit_zero (S := S2048x1024) hz, View.ld_unit_zero (S := S1024x1024) hz]

/-- The place in the whole of row (or column) `r` of the block of point `t`. -/
def rK (t : Fin cfg0.N) (r : Fin 2048) : Fin 4096 := ⟨2048 * (t.val % 2) + r.val, by have := t.isLt; have : cfg0.N = 8 := N_0; have := r.isLt; omega⟩

/-- The place in the whole of row (or column) `r` of the block of point `t`. -/
def rF (t : Fin cfg0.N) (r : Fin 1024) : Fin 4096 := ⟨1024 * (t.val / 2) + r.val, by have := t.isLt; have : cfg0.N = 8 := N_0; have := r.isLt; omega⟩

theorem ix_0 (t : Fin cfg0.N) : win0_0.index t 0 = t.val % 2 ∧ win0_0.index t 1 = t.val / 2 := by decide +revert

theorem ix_1 (t : Fin cfg0.N) : win0_1.index t 0 = t.val % 2 ∧ win0_1.index t 1 = 0 := by decide +revert

theorem ix_2 (t : Fin cfg0.N) : win0_2.index t 0 = t.val / 2 ∧ win0_2.index t 1 = 0 := by decide +revert

theorem blk_0 (t : Fin cfg0.N) (r : Fin 2048) (k : Fin 1024) : (iblk m c 0 t : Vec Ideal S2048x1024 .bf16) (ix2 r k) = PR (V0 m c) (rK t r) (rF t k) := by
  unfold iblk
  rw [View.read_apply]
  show V m c main_arg0 _ = V m c main_arg0 _
  congr 1
  funext a
  apply Fin.ext
  match a with
  | ⟨0, _⟩ => show win0_0.index t 0 * 2048 + 1 * r.val = 2048 * (t.val % 2) + r.val; rw [(ix_0 t).1]; omega
  | ⟨1, _⟩ => show win0_0.index t 1 * 1024 + 1 * k.val = 1024 * (t.val / 2) + k.val; rw [(ix_0 t).2]; omega

theorem blk_1 (t : Fin cfg0.N) (r : Fin 2048) (k : Fin 1024) : (iblk m c 1 t : Vec Ideal S2048x1024 .bf16) (ix2 r k) = DF (V0 m c) (rK t r) (k) := by
  unfold iblk
  rw [View.read_apply]
  show V m c main_arg1 _ = V m c main_arg1 _
  congr 1
  funext a
  apply Fin.ext
  match a with
  | ⟨0, _⟩ => show win0_1.index t 0 * 2048 + 1 * r.val = 2048 * (t.val % 2) + r.val; rw [(ix_1 t).1]; omega
  | ⟨1, _⟩ => show win0_1.index t 1 * 1024 + 1 * k.val = k.val; rw [(ix_1 t).2]; omega

/-- Result 0. -/
def res2 : Vec Ideal S4096x1024 .f32 := fun i => dwDown (PR (V0 m c)) (DF (V0 m c)) (i 0) (i 1)

theorem out_2 (t : Fin cfg0.N) (h2 : t.val % 2 = 1) (r j : Fin 1024) : (outsAt0 m c t.val t.isLt).1 (ix2 r j) = dwDown (PR (V0 m c)) (DF (V0 m c)) (rF t r) j := by
  have h0 : ¬t.val % 2 = 0 := by omega
  obtain ⟨u, hu⟩ : ∃ u : Fin cfg0.N, u.val = t.val - 1 := ⟨⟨t.val - 1, by have := t.isLt; omega⟩, rfl⟩
  have e : (outsAt0 m c (t.val - 1) (Nat.lt_of_le_of_lt (Nat.sub_le _ _) t.isLt)).2 = k0_pay2 (iblk m c 0 u) (iblk m c 1 u) := by
    rw [← scratch m c u (by omega) (by omega)]
    simp only [hu]
  rw [block m c t h0 h2, pay4, e, pay2]
  have hF : rF u r = rF t r := Fin.ext (by show 1024 * (u.val / 2) + r.val = 1024 * (t.val / 2) + r.val; omega)
  simp only [blk_0, blk_1, hF]
  exact sum_halves (fun k => relu2 (PR (V0 m c) k (rF t r)) * DF (V0 m c) k j) (rK u) (rK t)
    (fun k => by show 2048 * (u.val % 2) + k.val = k.val; omega) (fun k => by show 2048 * (t.val % 2) + k.val = 2048 + k.val; omega)

theorem flush_2 (t : Fin cfg0.N) (hf : (cfg0.win 2).flush t = true) : (dats m 0 c).flushed 2 t = ((cfg0.win 2).blk t).view.read (Elt Ideal) (res2 m c) := by
  show (cfg0.win 2).cut (grid0.coords t) ((dats m 0 c).after 2 t) = _
  rw [after0_2]
  funext y
  rw [View.read_apply]
  show ((outsAt0 m c t.val t.isLt).1) y = res2 m c _
  obtain ⟨r, j, rfl⟩ : ∃ (r : Fin 1024) (j : Fin 1024), y = ix2 r j := ⟨y 0, y 1, eq_ix2 y⟩
  rw [out_2 m c t ((flush0_2 t).mp hf)]
  unfold res2
  congr 1
  · apply Fin.ext
    show 1024 * (t.val / 2) + r.val = win0_2.index t 0 * 1024 + 1 * r.val
    rw [(ix_2 t).1]; omega
  · apply Fin.ext
    show j.val = win0_2.index t 1 * 1024 + 1 * j.val
    rw [(ix_2 t).2]; omega

theorem final_2 : (dats m 0 c).arrAt 2 cfg0.N = res2 m c :=
  (dats m 0 c).arrAt_eq_of_cover 2 (res2 m c) (flush_2 m c) fun i => by
    have hN : cfg0.N = 8 := N_0
    have h0 : (i 0 : Nat) < 4096 := (i 0).isLt
    have h1 : (i 1 : Nat) < 1024 := (i 1).isLt
    obtain ⟨t, ht⟩ : ∃ t : Fin cfg0.N, t.val = (i 0 : Nat) / 1024 * 2 + 1 := ⟨⟨(i 0 : Nat) / 1024 * 2 + 1, by omega⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [(ix_2 t).1]; omega
    | ⟨1, _⟩ =>
      show win0_2.index t 1 * 1024 ≤ (i 1 : Nat) ∧ (i 1 : Nat) < win0_2.index t 1 * 1024 + 1024
      rw [(ix_2 t).2]; omega

end Cert.DwDownKIdeal.Val

end
-- ==== Proof.DwDownRef.lean ====
/- The gradient of the down projection, reference: its operations in order, its run, and what it leaves in its arguments. -/
module

public import proofs.«01_k».proof.Proof.Lines
public import proofs.«01_k».proof.Proof.Gen.DwDownRIdeal
public import Idealize.ShloMosaic.Lib.StableHlo.Run

@[expose] public section

set_option maxRecDepth 8000

noncomputable section

namespace Cert.DwDownRIdeal.Line

open Cert.DwDownRIdeal Cert.DwDownRIdeal.Gen Idealize.SL.Sem
open Idealize.ShloMosaic Idealize.ShloMosaic.TcCoe Idealize.ShloMosaic.StableHlo
open Cert.Lines

variable {F : FTy → Type} [FloatOps F]

/-- The operations, in order. -/
abbrev line : List (HloOp τ sig (Elt F)) :=
  [ nullary main_cst (constant S_ .f32 0x00000000#32),
    unary main_cst main_v0 (broadcastInDim S4096x1024 ![] bcast_S_S4096x1024),
    unary main_arg0 main_v1 (extf .f32 · bitsLt_bf16_f32),
    TRef.nullary (TRef.of (T := ⟨S_, .f32⟩) main_call0_cst) (constant S_ .f32 0x00000000#32),
    TRef.unary (TRef.of (T := ⟨S_, .f32⟩) main_call0_cst) (TRef.of (T := ⟨S4096x4096, .f32⟩) main_call0_v0) (broadcastInDim S4096x4096 ![] bcast_S_S4096x4096),
    TRef.binary (TRef.of (T := ⟨S4096x4096, .f32⟩) main_v1) (TRef.of (T := ⟨S4096x4096, .f32⟩) main_call0_v0) (TRef.of (T := ⟨S4096x4096, .f32⟩) main_v2) maximumf,
    binary main_v2 main_v2 main_v3 mulf,
    binary main_v3 main_v0 main_v4 (fun l r => Host.dotGeneral dot_S4096x4096_S4096x1024_S4096x1024_1_0_0_1_n_n none l r),
    unary main_arg1 main_v5 (extf .f32 · bitsLt_bf16_f32),
    binary main_v5 main_v3 main_v6 (fun l r => Host.dotGeneral dot_S4096x1024_S4096x4096_S1024x4096_0_0_1_1_n_n none l r),
    unary main_v6 main_v7 (transpose S4096x1024 [1, 0] · transposes_S1024x4096_S4096x1024_1_0) ]
/-- What they write. -/
abbrev W : List (Ref sig .tc) :=
  [main_cst, main_v0, main_v1, main_call0_cst, main_call0_v0, main_v2, main_v3, main_v4, main_v5, main_v6, main_v7]
theorem writes : Writes (line (F := F)) W := rfl

set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W := by decide +kernel) : at_ V r = V (Proc.devRef .tc r) := keep writes hr V

theorem e_main_v1 : at_ V main_v1 = extf .f32 (at_ V main_arg0) bitsLt_bf16_f32 := eq1 writes 2 rfl V
theorem e_main_call0_cst : at_ V main_call0_cst = (constant S_ .f32 0x00000000#32) := eq0 writes 3 rfl V
theorem e_main_call0_v0 : at_ V main_call0_v0 = (broadcastInDim S4096x4096 ![] bcast_S_S4096x4096) (at_ V main_call0_cst) := eq1 writes 4 rfl V
theorem e_main_v2 : at_ V main_v2 = maximumf (at_ V main_v1) (at_ V main_call0_v0) := eq2 writes 5 rfl V
theorem e_main_v3 : at_ V main_v3 = (mulf) (at_ V main_v2) (at_ V main_v2) := eq2 writes 6 rfl V
theorem e_main_v5 : at_ V main_v5 = extf .f32 (at_ V main_arg1) bitsLt_bf16_f32 := eq1 writes 8 rfl V
theorem e_main_v6 : at_ V main_v6 = (fun l r => Host.dotGeneral dot_S4096x1024_S4096x4096_S1024x4096_0_0_1_1_n_n none l r) (at_ V main_v5) (at_ V main_v3) := eq2 writes 9 rfl V
theorem e_main_v7 : at_ V main_v7 = transpose S4096x1024 [1, 0] (at_ V main_v6) transposes_S1024x4096_S4096x1024_1_0 := eq1 writes 10 rfl V

theorem ops_sub : (line : List (HloOp τ sig (Elt F))).Forall fun op => op.bufs ⊆ tcRefs τ sig := by
  repeat' first | exact unary_bufs_sub .. | exact binary_bufs_sub .. | exact nullary_bufs_sub .. | refine ⟨?_, ?_⟩

/-- Every execution ends with every buffer at its contents after the line. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = at_ (launchContents m d) b :=
  run_seq scopedRefs_eq scopedSems_eq defs main (fun _ => line) main_eq (fun _ => ops_sub) m ρ

/-- An argument keeps what it held. -/
theorem arg (m : (ℓ : Loc nD τ sig) → Buf (Elt F) ℓ) (d : Dev nD) {b : Ref sig .tc} (hb : b ∉ W := by decide +kernel) :
    at_ (launchContents m d) b = m ((d.tc : Thread nD τ).loc b) := kept _ hb

end Cert.DwDownRIdeal.Line

end
-- ==== Proof.DwDownRefVal.lean ====
/- The gradient of the second feed-forward weight, reference: its result element by element. -/
module

public import proofs.«01_k».proof.Proof.DwDownRef
public import proofs.«01_k».proof.Proof.MlpSpec

@[expose] public section

set_option maxRecDepth 8000

noncomputable section

namespace Cert.DwDownRIdeal.Val

open Cert.DwDownRIdeal Cert.DwDownRIdeal.Gen Cert.DwDownRIdeal.Line Idealize.ShloMosaic Idealize.ShloMosaic.TcCoe Idealize.ShloMosaic.StableHlo Cert.NormRow Cert.NormsSpec Cert.MlpSpec

variable (V : Valuation τ sig (Elt Ideal))

/-- Argument 0. -/
def PR : Mat 4096 4096 := fun i j => (at_ V main_arg0 : Vec Ideal S4096x4096 .bf16) (ix2 i j)
theorem t_arg0 (i : Fin 4096) (j : Fin 4096) : (at_ V main_arg0 : Vec Ideal S4096x4096 .bf16) (ix2 i j) = PR V i j := rfl
/-- Argument 1. -/
def DF : Mat 4096 1024 := fun i j => (at_ V main_arg1 : Vec Ideal S4096x1024 .bf16) (ix2 i j)
theorem t_arg1 (i : Fin 4096) (j : Fin 1024) : (at_ V main_arg1 : Vec Ideal S4096x1024 .bf16) (ix2 i j) = DF V i j := rfl
theorem t_v3 (i : Fin 4096) (j : Fin 4096) : (at_ V main_v3 : Vec Ideal S4096x4096 .f32) (ix2 i j) = relu2 (PR V i j) := by
  rw [e_main_v3, e_main_v2, e_main_v1, e_main_call0_v0, e_main_call0_cst]
  have h_arg0 := t_arg0 V
  generalize at_ V main_arg0 = x_arg0 at h_arg0 ⊢
  pointwise
  try simp only [h_arg0]
  try rfl

theorem t_v7 (i : Fin 4096) (j : Fin 1024) : (at_ V main_v7 : Vec Ideal S4096x1024 .f32) (ix2 i j) = dwDown (PR V) (DF V) i j := by
  rw [e_main_v7, e_main_v6, e_main_v5]
  have h_v3 := t_v3 V
  generalize at_ V main_v3 = x_v3 at h_v3 ⊢
  have h_arg1 := t_arg1 V
  generalize at_ V main_arg1 = x_arg1 at h_arg1 ⊢
  pointwise
  try simp only [h_v3, h_arg1]
  have e : ∀ k, DF V k j * relu2 (PR V k i) = relu2 (PR V k i) * DF V k j := fun k => mul_comm _ _
  simp only [e]
  rfl

end Cert.DwDownRIdeal.Val

end
-- ==== Proof.DwDownClaims.lean ====
/- The gradient of the second feed-forward weight: its claims. -/
module

public import proofs.«01_k».proof.Defs
public import proofs.«01_k».proof.Proof.Gen.DwDownK.Frame
public import proofs.«01_k».proof.Proof.DwDownVal
public import proofs.«01_k».proof.Proof.DwDownRefVal
public import proofs.«01_k».proof.Proof.DwDownRef
public import Idealize.ShloMosaic.Lib.Quiescent

@[expose] public section

set_option maxRecDepth 8000

noncomputable section

namespace Cert.DwDownClaims

open Idealize.ShloMosaic Idealize.ShloMosaic.TcCoe Idealize.ShloMosaic.StableHlo Idealize.SL.Sem

theorem frame_p : quiescent_DwDownK := fun m ρ _ => DwDownK.Gen.frame m ρ

theorem frame_pi : quiescent_DwDownKIdeal := fun m ρ _ => DwDownKIdeal.Gen.frame m ρ

theorem frame_ri : quiescent_DwDownRIdeal := fun m ρ _ =>
  (θ_run DwDownRIdeal.defs _ _).mono (fun r h => ⟨fun c => ⟨(h c DwDownRIdeal.main_arg0).trans (DwDownRIdeal.Line.arg m c), (h c DwDownRIdeal.main_arg1).trans (DwDownRIdeal.Line.arg m c)⟩,
    sem_eq_zero_of_no_sems (by decide) r.2⟩) (DwDownRIdeal.Line.run m ρ)

theorem algebraic : algebraic_DwDownKIdeal_DwDownRIdeal := by
  intro m ρ m' ρ' _ hagree
  refine ⟨fun c => DwDownKIdeal.Val.res2 m c,
    (θ_run DwDownKIdeal.defs _ _).mono (fun r h c => ?_) (DwDownKIdeal.Value.run_blocks (F := Ideal) m ρ), ?_⟩
  · have e := h c
    simp only [DwDownKIdeal.Val.final_2] at e
    exact e
  · refine (θ_run DwDownRIdeal.defs _ _).mono (fun r h c => ?_) (DwDownRIdeal.Line.run (F := Ideal) m' ρ')
    obtain ⟨h0, h1⟩ := hagree c
    have same_PR : DwDownRIdeal.Val.PR (launchContents m' c) = DwDownKIdeal.Val.PR (DwDownKIdeal.Val.V0 m c) := funext fun i => funext fun j => congrFun ((DwDownRIdeal.Line.arg m' c (b := DwDownRIdeal.main_arg0)).trans h0) (ix2 i j)
    have same_DF : DwDownRIdeal.Val.DF (launchContents m' c) = DwDownKIdeal.Val.DF (DwDownKIdeal.Val.V0 m c) := funext fun i => funext fun j => congrFun ((DwDownRIdeal.Line.arg m' c (b := DwDownRIdeal.main_arg1)).trans h1) (ix2 i j)
    refine ⟨(h c _).trans ?_, (h c DwDownRIdeal.main_arg0).trans (DwDownRIdeal.Line.arg m' c), (h c DwDownRIdeal.main_arg1).trans (DwDownRIdeal.Line.arg m' c)⟩
    · funext y
      obtain ⟨i, j, rfl⟩ : ∃ (i : Fin 4096) (j : Fin 1024), y = ix2 i j := ⟨y 0, y 1, eq_ix2 y⟩
      refine (DwDownRIdeal.Val.t_v7 (launchContents m' c) i j).trans ?_
      simp only [same_PR, same_DF]
      rfl

end Cert.DwDownClaims

end
-- ==== Proof.DwUpVal.lean ====
/- The gradient of the first feed-forward weight, kernel: its result element by element. -/
module

public import proofs.«01_k».proof.Proof.Gen.DwUpKIdeal.Value
public import proofs.«01_k».proof.Proof.MlpSpec
public import Idealize.ShloMosaic.Lib.Tactic

@[expose] public section

set_option maxRecDepth 8000

noncomputable section

namespace Cert.DwUpKIdeal.Val

open Cert.DwUpKIdeal Cert.DwUpKIdeal.Gen Idealize.ShloMosaic Idealize.ShloMosaic.TcCoe Idealize.SL.Sem Cert.NormRow Cert.NormsSpec Cert.MlpSpec Cert.Tiles
open Cert.DwUpKIdeal.Gen (V)

variable (m : (ℓ : Loc nD τ sig) → Buf (Elt Ideal) ℓ) (c : Dev nD)

/-- What the device's memory holds at launch. -/
abbrev V0 : Valuation τ sig (Elt Ideal) := fun b => m (c, b)

/-- An argument, as a matrix. -/
def X (V : Valuation τ sig (Elt Ideal)) : Mat 4096 1024 := fun i j => (V (Proc.devRef .tc main_arg0) : Vec Ideal S4096x1024 .bf16) (ix2 i j)
/-- An argument, as a matrix. -/
def DP (V : Valuation τ sig (Elt Ideal)) : Mat 4096 4096 := fun i j => (V (Proc.devRef .tc main_arg1) : Vec Ideal S4096x4096 .bf16) (ix2 i j)

theorem hz3 : (![0, 0, 0] : Fin 3 → Nat) = fun _ => 0 := funext fun a => by fin_cases a <;> rfl

theorem hz : (![0, 0] : Fin 2 → Nat) = fun _ => 0 := funext fun a => by fin_cases a <;> rfl

theorem pay1 (x0 x1 : Vec Ideal S2048x1024 .bf16) (r j : Fin 1024) : k0_pay1 (F := Ideal) x0 x1 (ix2 r j) = ∑ k : Fin 2048, x0 (ix2 k r) * x1 (ix2 k j) := by
  pointwise [k0_pay1]

theorem pay2 (x0 x1 : Vec Ideal S2048x1024 .bf16) (r j : Fin 1024) : k0_pay2 (F := Ideal) x0 x1 (ix2 r j) = ∑ k : Fin 2048, x0 (ix2 k r) * x1 (ix2 k j) := by
  pointwise [k0_pay2]
  exact pay1 x0 x1 r j

theorem pay4 (x0 x1 : Vec Ideal S2048x1024 .bf16) (xs : Vec Ideal S1024x1024 .f32) (z : Fin 1) (r j : Fin 1024) : k0_pay4 (F := Ideal) x0 x1 xs (ix3 z r j) = xs (ix2 r j) + ∑ k : Fin 2048, x0 (ix2 k r) * x1 (ix2 k j) := by
  pointwise [k0_pay4]
  rw [pay1]

/-- After a point of the first half of the rows, the accumulator holds that half's product. -/
theorem scratch (t : Fin cfg0.N) (h0 : t.val % 2 = 0) (h2 : ¬t.val % 2 = 1) : (outsAt0 m c t.val t.isLt).2 = k0_pay2 (iblk m c 0 t) (iblk m c 1 t) := by
  rw [outsAt0_A m c t h0 h2]
  dsimp only
  unfold sout0_A_0
  rw [View.read_writes_eq_canon _ _ _ (scover0_A_0 _ _ _ _ _ _ _ _ _ _ _ _ _ _ _)]
  unfold kernelRun0_A
  dsimp only
  rw [View.canon_unit_zero hz]
  try sl_unfold_words
  simp only [View.readAt_eq_ld, Memref.IsWhole.read_unread, View.ld_unit_zero (S := S2048x1024) hz]

/-- After a point of the second half, the block holds both halves' products. -/
theorem block (t : Fin cfg0.N) (h0 : ¬t.val % 2 = 0) (h2 : t.val % 2 = 1) : (outsAt0 m c t.val t.isLt).1 = k0_pay4 (iblk m c 0 t) (iblk m c 1 t) (outsAt0 m c (t.val - 1) (Nat.lt_of_le_of_lt (Nat.sub_le _ _) t.isLt)).2 := by
  rw [outsAt0_B m c t h0 h2]
  dsimp only
  unfold out0_B_2
  rw [View.read_writes_eq_canon _ _ _ (cover0_B_2 _ _ _ _ _ _ _ _ _ _ _ _ _ _ _ _)]
  unfold kernelRun0_B
  dsimp only
  rw [View.canon_unit_zero hz3]
  try sl_unfold_words
  simp only [View.readAt_eq_ld, Memref.IsWhole.read_unread, (Memref.isWhole_whole (sig := sig) _).read_unread, View.ld_unit_zero (S := S2048x1024) hz, View.ld_unit_zero (S := S1024x1024) hz]

/-- The place in the whole of row (or column) `r` of the block of point `t`. -/
def rK (t : Fin cfg0.N) (r : Fin 2048) : Fin 4096 := ⟨2048 * (t.val % 2) + r.val, by have := t.isLt; have : cfg0.N = 8 := N_0; have := r.isLt; omega⟩

/-- The place in the whole of row (or column) `r` of the block of point `t`. -/
def rF (t : Fin cfg0.N) (r : Fin 1024) : Fin 4096 := ⟨1024 * (t.val / 2) + r.val, by have := t.isLt; have : cfg0.N = 8 := N_0; have := r.isLt; omega⟩

theorem ix_0 (t : Fin cfg0.N) : win0_0.index t 0 = t.val % 2 ∧ win0_0.index t 1 = 0 := by decide +revert

theorem ix_1 (t : Fin cfg0.N) : win0_1.index t 0 = t.val % 2 ∧ win0_1.index t 1 = t.val / 2 := by decide +revert

theorem ix_2 (t : Fin cfg0.N) : win0_2.index t 0 = t.val / 2 ∧ win0_2.index t 1 = 0 ∧ win0_2.index t 2 = 0 := by decide +revert

theorem blk_0 (t : Fin cfg0.N) (r : Fin 2048) (k : Fin 1024) : (iblk m c 0 t : Vec Ideal S2048x1024 .bf16) (ix2 r k) = X (V0 m c) (rK t r) (k) := by
  unfold iblk
  rw [View.read_apply]
  show V m c main_arg0 _ = V m c main_arg0 _
  congr 1
  funext a
  apply Fin.ext
  match a with
  | ⟨0, _⟩ => show win0_0.index t 0 * 2048 + 1 * r.val = 2048 * (t.val % 2) + r.val; rw [(ix_0 t).1]; omega
  | ⟨1, _⟩ => show win0_0.index t 1 * 1024 + 1 * k.val = k.val; rw [(ix_0 t).2]; omega

theorem blk_1 (t : Fin cfg0.N) (r : Fin 2048) (k : Fin 1024) : (iblk m c 1 t : Vec Ideal S2048x1024 .bf16) (ix2 r k) = DP (V0 m c) (rK t r) (rF t k) := by
  unfold iblk
  rw [View.read_apply]
  show V m c main_arg1 _ = V m c main_arg1 _
  congr 1
  funext a
  apply Fin.ext
  match a with
  | ⟨0, _⟩ => show win0_1.index t 0 * 2048 + 1 * r.val = 2048 * (t.val % 2) + r.val; rw [(ix_1 t).1]; omega
  | ⟨1, _⟩ => show win0_1.index t 1 * 1024 + 1 * k.val = 1024 * (t.val / 2) + k.val; rw [(ix_1 t).2]; omega

/-- The result. -/
def res2 : Vec Ideal S4x1024x1024 .f32 := fun i => gram (X (V0 m c)) (DP (V0 m c)) (i 1) (col (i 0) (i 2))

theorem out_2 (t : Fin cfg0.N) (h2 : t.val % 2 = 1) (z : Fin 1) (r j : Fin 1024) : (outsAt0 m c t.val t.isLt).1 (ix3 z r j) = gram (X (V0 m c)) (DP (V0 m c)) r (rF t j) := by
  have h0 : ¬t.val % 2 = 0 := by omega
  obtain ⟨u, hu⟩ : ∃ u : Fin cfg0.N, u.val = t.val - 1 := ⟨⟨t.val - 1, by have := t.isLt; omega⟩, rfl⟩
  have e : (outsAt0 m c (t.val - 1) (Nat.lt_of_le_of_lt (Nat.sub_le _ _) t.isLt)).2 = k0_pay2 (iblk m c 0 u) (iblk m c 1 u) := by
    rw [← scratch m c u (by omega) (by omega)]
    simp only [hu]
  rw [block m c t h0 h2, pay4, e, pay2]
  have hF : rF u j = rF t j := Fin.ext (by show 1024 * (u.val / 2) + j.val = 1024 * (t.val / 2) + j.val; omega)
  simp only [blk_0, blk_1, hF]
  exact sum_halves (fun k => X (V0 m c) k r * DP (V0 m c) k (rF t j)) (rK u) (rK t)
    (fun k => by show 2048 * (u.val % 2) + k.val = k.val; omega) (fun k => by show 2048 * (t.val % 2) + k.val = 2048 + k.val; omega)

theorem flush_2 (t : Fin cfg0.N) (hf : (cfg0.win 2).flush t = true) : (dats m 0 c).flushed 2 t = ((cfg0.win 2).blk t).view.read (Elt Ideal) (res2 m c) := by
  show (cfg0.win 2).cut (grid0.coords t) ((dats m 0 c).after 2 t) = _
  rw [after0_2]
  funext y
  rw [View.read_apply]
  show ((outsAt0 m c t.val t.isLt).1) y = res2 m c _
  obtain ⟨z, r, j, rfl⟩ : ∃ (z : Fin 1) (r j : Fin 1024), y = ix3 z r j := ⟨y 0, y 1, y 2, by funext a; match a with | ⟨0, _⟩ => rfl | ⟨1, _⟩ => rfl | ⟨2, _⟩ => rfl⟩
  rw [out_2 m c t ((flush0_2 t).mp hf)]
  unfold res2
  congr 1
  · apply Fin.ext
    show r.val = win0_2.index t 1 * 1024 + 1 * r.val
    rw [(ix_2 t).2.1]; omega
  · apply Fin.ext
    show 1024 * (t.val / 2) + j.val = 1024 * (win0_2.index t 0 * 1 + 1 * z.val) + (win0_2.index t 2 * 1024 + 1 * j.val)
    have := z.isLt
    rw [(ix_2 t).1, (ix_2 t).2.2]; omega

theorem final_2 : (dats m 0 c).arrAt 2 cfg0.N = res2 m c :=
  (dats m 0 c).arrAt_eq_of_cover 2 (res2 m c) (flush_2 m c) fun i => by
    have hN : cfg0.N = 8 := N_0
    have h0 : (i 0 : Nat) < 4 := (i 0).isLt
    have h1 : (i 1 : Nat) < 1024 := (i 1).isLt
    have h2 : (i 2 : Nat) < 1024 := (i 2).isLt
    obtain ⟨t, ht⟩ : ∃ t : Fin cfg0.N, t.val = (i 0 : Nat) * 2 + 1 := ⟨⟨(i 0 : Nat) * 2 + 1, by omega⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [(ix_2 t).1]; omega
    | ⟨1, _⟩ =>
      show win0_2.index t 1 * 1024 ≤ (i 1 : Nat) ∧ (i 1 : Nat) < win0_2.index t 1 * 1024 + 1024
      rw [(ix_2 t).2.1]; omega
    | ⟨2, _⟩ =>
      show win0_2.index t 2 * 1024 ≤ (i 2 : Nat) ∧ (i 2 : Nat) < win0_2.index t 2 * 1024 + 1024
      rw [(ix_2 t).2.2]; omega

end Cert.DwUpKIdeal.Val

end
-- ==== Proof.DwUpRef.lean ====
/- The gradient of the up projection, reference: its operations in order, its run, and what it leaves in its arguments. -/
module

public import proofs.«01_k».proof.Proof.Lines
public import proofs.«01_k».proof.Proof.Gen.DwUpRIdeal
public import Idealize.ShloMosaic.Lib.StableHlo.Run

@[expose] public section

set_option maxRecDepth 8000

noncomputable section

namespace Cert.DwUpRIdeal.Line

open Cert.DwUpRIdeal Cert.DwUpRIdeal.Gen Idealize.SL.Sem
open Idealize.ShloMosaic Idealize.ShloMosaic.TcCoe Idealize.ShloMosaic.StableHlo
open Cert.Lines

variable {F : FTy → Type} [FloatOps F]

/-- The operations, in order. -/
abbrev line : List (HloOp τ sig (Elt F)) :=
  [ nullary main_cst (constant S_ .f32 0x00000000#32),
    unary main_cst main_v0 (broadcastInDim S1024x4096 ![] bcast_S_S1024x4096),
    unary main_arg0 main_v1 (extf .f32 · bitsLt_bf16_f32),
    binary main_v1 main_v0 main_v2 (fun l r => Host.dotGeneral dot_S4096x1024_S1024x4096_S4096x4096_1_0_0_1_n_n none l r),
    unary main_arg1 main_v3 (extf .f32 · bitsLt_bf16_f32),
    binary main_v3 main_v1 main_v4 (fun l r => Host.dotGeneral dot_S4096x4096_S4096x1024_S4096x1024_0_0_1_1_n_n none l r),
    unary main_v4 main_v5 (transpose S1024x4096 [1, 0] · transposes_S4096x1024_S1024x4096_1_0),
    reshape main_v5 main_v6 (rfl : (.f32 : EltTy) = .f32) shapeCasts_S1024x4096_S1024x4x1024,
    unary main_v6 main_v7 (transpose S4x1024x1024 [1, 0, 2] · transposes_S1024x4x1024_S4x1024x1024_1_0_2) ]
/-- What they write. -/
abbrev W : List (Ref sig .tc) :=
  [main_cst, main_v0, main_v1, main_v2, main_v3, main_v4, main_v5, main_v6, main_v7]
theorem writes : Writes (line (F := F)) W := rfl

set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W := by decide +kernel) : at_ V r = V (Proc.devRef .tc r) := keep writes hr V

theorem e_main_v1 : at_ V main_v1 = extf .f32 (at_ V main_arg0) bitsLt_bf16_f32 := eq1 writes 2 rfl V
theorem e_main_v3 : at_ V main_v3 = extf .f32 (at_ V main_arg1) bitsLt_bf16_f32 := eq1 writes 4 rfl V
theorem e_main_v4 : at_ V main_v4 = (fun l r => Host.dotGeneral dot_S4096x4096_S4096x1024_S4096x1024_0_0_1_1_n_n none l r) (at_ V main_v3) (at_ V main_v1) := eq2 writes 5 rfl V
theorem e_main_v5 : at_ V main_v5 = transpose S1024x4096 [1, 0] (at_ V main_v4) transposes_S4096x1024_S1024x4096_1_0 := eq1 writes 6 rfl V
theorem e_main_v6 : at_ V main_v6 = fun j => shapeCast (main_v6).ty.shape (at_ V main_v5) shapeCasts_S1024x4096_S1024x4x1024 j := eqR writes 7 rfl V
theorem e_main_v7 : at_ V main_v7 = transpose S4x1024x1024 [1, 0, 2] (at_ V main_v6) transposes_S1024x4x1024_S4x1024x1024_1_0_2 := eq1 writes 8 rfl V

theorem ops_sub : (line : List (HloOp τ sig (Elt F))).Forall fun op => op.bufs ⊆ tcRefs τ sig := by
  repeat' first | exact unary_bufs_sub .. | exact binary_bufs_sub .. | exact nullary_bufs_sub .. | exact reshape_bufs_sub .. | refine ⟨?_, ?_⟩

/-- Every execution ends with every buffer at its contents after the line. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = at_ (launchContents m d) b :=
  run_seq scopedRefs_eq scopedSems_eq defs main (fun _ => line) main_eq (fun _ => ops_sub) m ρ

/-- An argument keeps what it held. -/
theorem arg (m : (ℓ : Loc nD τ sig) → Buf (Elt F) ℓ) (d : Dev nD) {b : Ref sig .tc} (hb : b ∉ W := by decide +kernel) :
    at_ (launchContents m d) b = m ((d.tc : Thread nD τ).loc b) := kept _ hb

end Cert.DwUpRIdeal.Line

end
-- ==== Proof.DwUpRefVal.lean ====
/- The gradient of the first feed-forward weight, reference: its result element by element. -/
module

public import proofs.«01_k».proof.Proof.DwUpRef
public import proofs.«01_k».proof.Proof.MlpSpec

@[expose] public section

set_option maxRecDepth 8000

noncomputable section

namespace Cert.DwUpRIdeal.Val

open Cert.DwUpRIdeal Cert.DwUpRIdeal.Gen Cert.DwUpRIdeal.Line Idealize.ShloMosaic Idealize.ShloMosaic.TcCoe Idealize.ShloMosaic.StableHlo Cert.NormRow Cert.NormsSpec Cert.MlpSpec

variable (V : Valuation τ sig (Elt Ideal))

/-- Argument 0. -/
def X : Mat 4096 1024 := fun i j => (at_ V main_arg0 : Vec Ideal S4096x1024 .bf16) (ix2 i j)
theorem t_arg0 (i : Fin 4096) (j : Fin 1024) : (at_ V main_arg0 : Vec Ideal S4096x1024 .bf16) (ix2 i j) = X V i j := rfl
/-- Argument 1. -/
def DP : Mat 4096 4096 := fun i j => (at_ V main_arg1 : Vec Ideal S4096x4096 .bf16) (ix2 i j)
theorem t_arg1 (i : Fin 4096) (j : Fin 4096) : (at_ V main_arg1 : Vec Ideal S4096x4096 .bf16) (ix2 i j) = DP V i j := rfl
theorem t_v5 (i : Fin 1024) (j : Fin 4096) : (at_ V main_v5 : Vec Ideal S1024x4096 .f32) (ix2 i j) = gram (X V) (DP V) i j := by
  rw [e_main_v5, e_main_v4, e_main_v3, e_main_v1]
  have h_arg1 := t_arg1 V
  generalize at_ V main_arg1 = x_arg1 at h_arg1 ⊢
  have h_arg0 := t_arg0 V
  generalize at_ V main_arg0 = x_arg0 at h_arg0 ⊢
  pointwise
  try simp only [h_arg1, h_arg0]
  have e : ∀ k, DP V k j * X V k i = X V k i * DP V k j := fun k => mul_comm _ _
  simp only [e]
  rfl

theorem t_v7 (g : Fin 4) (i j : Fin 1024) : (at_ V main_v7 : Vec Ideal S4x1024x1024 .f32) (ix3 g i j) = gram (X V) (DP V) i (col g j) := by
  rw [e_main_v7, e_main_v6]
  have h := t_v5 V
  generalize at_ V main_v5 = x at h ⊢
  pointwise
  rw [h]
  congr 1
  apply Fin.ext
  show g.val * 1024 + j.val = 1024 * g.val + j.val
  omega

end Cert.DwUpRIdeal.Val

end
-- ==== Proof.DwUpClaims.lean ====
/- The gradient of the first feed-forward weight: its claims. -/
module

public import proofs.«01_k».proof.Defs
public import proofs.«01_k».proof.Proof.Gen.DwUpK.Frame
public import proofs.«01_k».proof.Proof.DwUpVal
public import proofs.«01_k».proof.Proof.DwUpRefVal
public import proofs.«01_k».proof.Proof.DwUpRef
public import Idealize.ShloMosaic.Lib.Quiescent

@[expose] public section

set_option maxRecDepth 8000

noncomputable section

namespace Cert.DwUpClaims

open Idealize.ShloMosaic Idealize.ShloMosaic.TcCoe Idealize.ShloMosaic.StableHlo Idealize.SL.Sem

theorem frame_p : quiescent_DwUpK := fun m ρ _ => DwUpK.Gen.frame m ρ

theorem frame_pi : quiescent_DwUpKIdeal := fun m ρ _ => DwUpKIdeal.Gen.frame m ρ

theorem frame_ri : quiescent_DwUpRIdeal := fun m ρ _ =>
  (θ_run DwUpRIdeal.defs _ _).mono (fun r h => ⟨fun c => ⟨(h c DwUpRIdeal.main_arg0).trans (DwUpRIdeal.Line.arg m c), (h c DwUpRIdeal.main_arg1).trans (DwUpRIdeal.Line.arg m c)⟩,
    sem_eq_zero_of_no_sems (by decide) r.2⟩) (DwUpRIdeal.Line.run m ρ)

theorem algebraic : algebraic_DwUpKIdeal_DwUpRIdeal := by
  intro m ρ m' ρ' _ hagree
  refine ⟨fun c => DwUpKIdeal.Val.res2 m c,
    (θ_run DwUpKIdeal.defs _ _).mono (fun r h c => ?_) (DwUpKIdeal.Value.run_blocks (F := Ideal) m ρ), ?_⟩
  · have e := h c
    simp only [DwUpKIdeal.Val.final_2] at e
    exact e
  · refine (θ_run DwUpRIdeal.defs _ _).mono (fun r h c => ?_) (DwUpRIdeal.Line.run (F := Ideal) m' ρ')
    obtain ⟨h0, h1⟩ := hagree c
    have same_X : DwUpRIdeal.Val.X (launchContents m' c) = DwUpKIdeal.Val.X (DwUpKIdeal.Val.V0 m c) := funext fun i => funext fun j => congrFun ((DwUpRIdeal.Line.arg m' c (b := DwUpRIdeal.main_arg0)).trans h0) (ix2 i j)
    have same_DP : DwUpRIdeal.Val.DP (launchContents m' c) = DwUpKIdeal.Val.DP (DwUpKIdeal.Val.V0 m c) := funext fun i => funext fun j => congrFun ((DwUpRIdeal.Line.arg m' c (b := DwUpRIdeal.main_arg1)).trans h1) (ix2 i j)
    refine ⟨(h c _).trans ?_, (h c DwUpRIdeal.main_arg0).trans (DwUpRIdeal.Line.arg m' c), (h c DwUpRIdeal.main_arg1).trans (DwUpRIdeal.Line.arg m' c)⟩
    · funext y
      obtain ⟨g, i, j, rfl⟩ : ∃ (g : Fin 4) (i : Fin 1024) (j : Fin 1024), y = ix3 g i j := ⟨y 0, y 1, y 2, by funext a; match a with | ⟨0, _⟩ => rfl | ⟨1, _⟩ => rfl | ⟨2, _⟩ => rfl⟩
      refine (DwUpRIdeal.Val.t_v7 (launchContents m' c) g i j).trans ?_
      simp only [same_X, same_DP]
      rfl

end Cert.DwUpClaims

end
-- ==== Proof.OutUpSpec.lean ====
/- The output and up projections: the values the programs compute, as functions of the matrices. -/
module

public import proofs.«01_k».proof.Proof.NormsSpec

@[expose] public section

set_option maxRecDepth 8000

noncomputable section

namespace Cert.OutUpSpec

open Idealize.ShloMosaic Cert.NormRow Cert.NormsSpec

/-- The rows normalized, each column times its scale. -/
def scaled (h : Mat 4096 1024) (G : Mat 1 1024) : Mat 4096 1024 := fun i j => xn (h i) j * G 0 j
/-- The rows through the first feed-forward weight. -/
def up (v : Mat 4096 1024) (WU : Mat 1024 4096) : Mat 4096 4096 := fun i j => ∑ k, v i k * WU k j

end Cert.OutUpSpec

end
-- ==== Proof.OutUpVal.lean ====
/- The output and up projections, kernel: its results element by element. -/
module

public import proofs.«01_k».proof.Proof.Gen.OutUpKIdeal.Value
public import proofs.«01_k».proof.Proof.OutUpSpec
public import Idealize.ShloMosaic.Lib.Tactic

@[expose] public section

set_option maxRecDepth 8000

noncomputable section

namespace Cert.OutUpKIdeal.Val

open Cert.OutUpKIdeal Cert.OutUpKIdeal.Gen Idealize.ShloMosaic Idealize.ShloMosaic.TcCoe Idealize.SL.Sem Cert.NormRow Cert.NormsSpec Cert.OutUpSpec
open Cert.OutUpKIdeal.Gen (V)

variable (m : (ℓ : Loc nD τ sig) → Buf (Elt Ideal) ℓ) (c : Dev nD)

/-- What the device's memory holds at launch. -/
abbrev V0 : Valuation τ sig (Elt Ideal) := fun b => m (c, b)

/-- Argument 0, as a matrix. -/
def M (V : Valuation τ sig (Elt Ideal)) : Mat 4096 1024 := fun i j => (V (Proc.devRef .tc main_arg0) : Vec Ideal S4096x1024 .bf16) (ix2 i j)
/-- Argument 1, as a matrix. -/
def WO (V : Valuation τ sig (Elt Ideal)) : Mat 1024 1024 := fun i j => (V (Proc.devRef .tc main_arg1) : Vec Ideal S1024x1024 .bf16) (ix2 i j)
/-- Argument 2, as a matrix. -/
def X (V : Valuation τ sig (Elt Ideal)) : Mat 4096 1024 := fun i j => (V (Proc.devRef .tc main_arg2) : Vec Ideal S4096x1024 .f32) (ix2 i j)
/-- Argument 3, as a matrix. -/
def G2 (V : Valuation τ sig (Elt Ideal)) : Mat 1 1024 := fun i j => (V (Proc.devRef .tc main_arg3) : Vec Ideal S1x1024 .f32) (ix2 i j)
/-- Argument 4, as a matrix. -/
def G3 (V : Valuation τ sig (Elt Ideal)) : Mat 1 1024 := fun i j => (V (Proc.devRef .tc main_arg4) : Vec Ideal S1x1024 .f32) (ix2 i j)
/-- Argument 5, as a matrix. -/
def WU (V : Valuation τ sig (Elt Ideal)) : Mat 1024 4096 := fun i j => (V (Proc.devRef .tc main_arg5) : Vec Ideal S1024x4096 .bf16) (ix2 i j)

theorem hz : (![0, 0] : Fin 2 → Nat) = fun _ => 0 := funext fun a => by fin_cases a <;> rfl

variable (x0 : Vec Ideal S512x1024 .bf16) (x1 : Vec Ideal S1024x1024 .bf16) (x2 : Vec Ideal S512x1024 .f32)
  (x3 x4 : Vec Ideal S1x1024 .f32) (x5 : Vec Ideal S1024x4096 .bf16)

theorem pay2 (r : Fin 512) (j : Fin 1024) : k0_pay2 (F := Ideal) x0 x1 (ix2 r j) = ∑ k : Fin 1024, x0 (ix2 r k) * x1 (ix2 k j) := by
  pointwise [k0_pay2]

theorem pay3 (r : Fin 512) (j : Fin 1024) : k0_pay3 (F := Ideal) x0 x1 x2 x3 (ix2 r j)
    = x2 (ix2 r j) + xn (fun l => ∑ k : Fin 1024, x0 (ix2 r k) * x1 (ix2 k l)) j * x3 (ix2 0 j) := by
  pointwise [k0_pay3]
  simp only [pay2]
  rfl

theorem pay4 (r : Fin 512) (j : Fin 1024) : k0_pay4 (F := Ideal) x0 x1 x2 x3 x4 (ix2 r j)
    = xn (fun l => k0_pay3 (F := Ideal) x0 x1 x2 x3 (ix2 r l)) j * x4 (ix2 0 j) := by
  pointwise [k0_pay4]
  rfl

theorem pay1 (v : FVec Ideal S512x1024 .bf16) (r : Fin 512) (j : Fin 4096) : k0_pay1 (F := Ideal) v x5 (ix2 r j) = ∑ k : Fin 1024, v (ix2 r k) * x5 (ix2 k j) := by
  pointwise [k0_pay1]

theorem out6 : out0_6 x0 x1 x2 x3 x4 x5 = k0_pay2 x0 x1 := by
  unfold out0_6
  rw [View.canon_unit_zero hz]
  simp only [View.ld_unit_zero (S := S512x1024) hz, View.ld_unit_zero (S := S1024x1024) hz]

theorem out7 : out0_7 x0 x1 x2 x3 x4 x5 = k0_pay3 x0 x1 x2 x3 := by
  unfold out0_7
  rw [View.canon_unit_zero hz]
  simp only [View.ld_unit_zero (S := S512x1024) hz, View.ld_unit_zero (S := S1024x1024) hz, View.ld_unit_zero (S := S1x1024) hz]

theorem out8 : out0_8 x0 x1 x2 x3 x4 x5 = k0_pay4 x0 x1 x2 x3 x4 := by
  unfold out0_8 k0_pay5
  rw [View.canon_unit_zero hz]
  simp only [View.ld_unit_zero (S := S512x1024) hz, View.ld_unit_zero (S := S1024x1024) hz, View.ld_unit_zero (S := S1x1024) hz]

theorem out9 : out0_9 x0 x1 x2 x3 x4 x5 = k0_pay1 (k0_pay4 x0 x1 x2 x3 x4) x5 := by
  unfold out0_9 k0_pay5
  rw [View.canon_unit_zero hz]
  simp only [View.ld_unit_zero (S := S512x1024) hz, View.ld_unit_zero (S := S1024x1024) hz, View.ld_unit_zero (S := S1x1024) hz, View.ld_unit_zero (S := S1024x4096) hz]

/-- Row `r` of the block of point `t`. -/
def row (t : Fin cfg0.N) (r : Fin 512) : Fin 4096 := ⟨512 * t.val + r.val, by have := t.isLt; have : cfg0.N = 8 := N_0; have := r.isLt; omega⟩

theorem ix_0 (t : Fin cfg0.N) : win0_0.index t 0 = t.val ∧ win0_0.index t 1 = 0 := by decide +revert

theorem ix_1 (t : Fin cfg0.N) : win0_1.index t 0 = 0 ∧ win0_1.index t 1 = 0 := by decide +revert

theorem ix_2 (t : Fin cfg0.N) : win0_2.index t 0 = t.val ∧ win0_2.index t 1 = 0 := by decide +revert

theorem ix_3 (t : Fin cfg0.N) : win0_3.index t 0 = 0 ∧ win0_3.index t 1 = 0 := by decide +revert

theorem ix_4 (t : Fin cfg0.N) : win0_4.index t 0 = 0 ∧ win0_4.index t 1 = 0 := by decide +revert

theorem ix_5 (t : Fin cfg0.N) : win0_5.index t 0 = 0 ∧ win0_5.index t 1 = 0 := by decide +revert

theorem ix_6 (t : Fin cfg0.N) : win0_6.index t 0 = t.val ∧ win0_6.index t 1 = 0 := by decide +revert

theorem ix_7 (t : Fin cfg0.N) : win0_7.index t 0 = t.val ∧ win0_7.index t 1 = 0 := by decide +revert

theorem ix_8 (t : Fin cfg0.N) : win0_8.index t 0 = t.val ∧ win0_8.index t 1 = 0 := by decide +revert

theorem ix_9 (t : Fin cfg0.N) : win0_9.index t 0 = t.val ∧ win0_9.index t 1 = 0 := by decide +revert

theorem blk_0 (t : Fin cfg0.N) (r : Fin 512) (k : Fin 1024) : (iblk m c 0 t : Vec Ideal S512x1024 .bf16) (ix2 r k) = M (V0 m c) (row t r) k := by
  unfold iblk
  rw [View.read_apply]
  show V m c main_arg0 _ = V m c main_arg0 _
  congr 1
  funext a
  apply Fin.ext
  match a with
  | ⟨0, _⟩ => show win0_0.index t 0 * 512 + 1 * r.val = 512 * t.val + r.val; rw [(ix_0 t).1]; omega
  | ⟨1, _⟩ => show win0_0.index t 1 * 1024 + 1 * k.val = k.val; rw [(ix_0 t).2]; omega

theorem blk_1 (t : Fin cfg0.N) (r : Fin 1024) (k : Fin 1024) : (iblk m c 1 t : Vec Ideal S1024x1024 .bf16) (ix2 r k) = WO (V0 m c) r k := by
  unfold iblk
  rw [View.read_apply]
  show V m c main_arg1 _ = V m c main_arg1 _
  congr 1
  funext a
  apply Fin.ext
  match a with
  | ⟨0, _⟩ => show win0_1.index t 0 * 1024 + 1 * r.val = r.val; rw [(ix_1 t).1]; omega
  | ⟨1, _⟩ => show win0_1.index t 1 * 1024 + 1 * k.val = k.val; rw [(ix_1 t).2]; omega

theorem blk_2 (t : Fin cfg0.N) (r : Fin 512) (k : Fin 1024) : (iblk m c 2 t : Vec Ideal S512x1024 .f32) (ix2 r k) = X (V0 m c) (row t r) k := by
  unfold iblk
  rw [View.read_apply]
  show V m c main_arg2 _ = V m c main_arg2 _
  congr 1
  funext a
  apply Fin.ext
  match a with
  | ⟨0, _⟩ => show win0_2.index t 0 * 512 + 1 * r.val = 512 * t.val + r.val; rw [(ix_2 t).1]; omega
  | ⟨1, _⟩ => show win0_2.index t 1 * 1024 + 1 * k.val = k.val; rw [(ix_2 t).2]; omega

theorem blk_3 (t : Fin cfg0.N) (r : Fin 1) (k : Fin 1024) : (iblk m c 3 t : Vec Ideal S1x1024 .f32) (ix2 r k) = G2 (V0 m c) r k := by
  unfold iblk
  rw [View.read_apply]
  show V m c main_arg3 _ = V m c main_arg3 _
  congr 1
  funext a
  apply Fin.ext
  match a with
  | ⟨0, _⟩ => show win0_3.index t 0 * 1 + 1 * r.val = r.val; rw [(ix_3 t).1]; omega
  | ⟨1, _⟩ => show win0_3.index t 1 * 1024 + 1 * k.val = k.val; rw [(ix_3 t).2]; omega

theorem blk_4 (t : Fin cfg0.N) (r : Fin 1) (k : Fin 1024) : (iblk m c 4 t : Vec Ideal S1x1024 .f32) (ix2 r k) = G3 (V0 m c) r k := by
  unfold iblk
  rw [View.read_apply]
  show V m c main_arg4 _ = V m c main_arg4 _
  congr 1
  funext a
  apply Fin.ext
  match a with
  | ⟨0, _⟩ => show win0_4.index t 0 * 1 + 1 * r.val = r.val; rw [(ix_4 t).1]; omega
  | ⟨1, _⟩ => show win0_4.index t 1 * 1024 + 1 * k.val = k.val; rw [(ix_4 t).2]; omega

theorem blk_5 (t : Fin cfg0.N) (r : Fin 1024) (k : Fin 4096) : (iblk m c 5 t : Vec Ideal S1024x4096 .bf16) (ix2 r k) = WU (V0 m c) r k := by
  unfold iblk
  rw [View.read_apply]
  show V m c main_arg5 _ = V m c main_arg5 _
  congr 1
  funext a
  apply Fin.ext
  match a with
  | ⟨0, _⟩ => show win0_5.index t 0 * 1024 + 1 * r.val = r.val; rw [(ix_5 t).1]; omega
  | ⟨1, _⟩ => show win0_5.index t 1 * 4096 + 1 * k.val = k.val; rw [(ix_5 t).2]; omega

/-- The projected rows. -/
def mx (V : Valuation τ sig (Elt Ideal)) : Mat 4096 1024 := mix (M V) (WO V)
/-- The residual. -/
def hh (V : Valuation τ sig (Elt Ideal)) : Mat 4096 1024 := h1 (X V) (mx V) (G2 V)
/-- The rows that enter the up-projection. -/
def vv (V : Valuation τ sig (Elt Ideal)) : Mat 4096 1024 := scaled (hh V) (G3 V)
/-- Those rows through the first feed-forward weight. -/
def pp (V : Valuation τ sig (Elt Ideal)) : Mat 4096 4096 := up (vv V) (WU V)

theorem out_6 (t : Fin cfg0.N) (r : Fin 512) (j : Fin 1024) : out0_6 (iblk m c 0 t) (iblk m c 1 t) (iblk m c 2 t) (iblk m c 3 t) (iblk m c 4 t) (iblk m c 5 t) (ix2 r j) = mx (V0 m c) (row t r) j := by
  simp only [out6, pay2, blk_0, blk_1, blk_2, blk_3, blk_4, blk_5]
  rfl

/-- Result 0. -/
def res6 : Vec Ideal S4096x1024 .f32 := fun i => mx (V0 m c) (i 0) (i 1)

theorem flush_6 (t : Fin cfg0.N) : (dats m 0 c).flushed 6 t = ((cfg0.win 6).blk t).view.read (Elt Ideal) (res6 m c) := by
  show (cfg0.win 6).cut (grid0.coords t) ((dats m 0 c).after 6 t) = _
  rw [after0_6]
  funext y
  rw [View.read_apply]
  show (out0_6 (iblk m c 0 t) (iblk m c 1 t) (iblk m c 2 t) (iblk m c 3 t) (iblk m c 4 t) (iblk m c 5 t)) y = res6 m c _
  obtain ⟨r, j, rfl⟩ : ∃ (r : Fin 512) (j : Fin 1024), y = ix2 r j := ⟨y 0, y 1, eq_ix2 y⟩
  rw [out_6]
  unfold res6
  congr 1
  · apply Fin.ext
    show 512 * t.val + r.val = win0_6.index t 0 * 512 + 1 * r.val
    rw [(ix_6 t).1]; omega
  · apply Fin.ext
    show j.val = win0_6.index t 1 * 1024 + 1 * j.val
    rw [(ix_6 t).2]; omega

theorem final_6 : (dats m 0 c).arrAt 6 cfg0.N = res6 m c :=
  (dats m 0 c).arrAt_eq_of_cover 6 (res6 m c) (fun t _ => flush_6 m c t) fun i => by
    have hN : cfg0.N = 8 := N_0
    have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_6 t, ?_⟩
    show i ∈ ((View.whole main_v0_0).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [(ix_6 t).1]; omega
    | ⟨1, _⟩ =>
      show win0_6.index t 1 * 1024 ≤ (i 1 : Nat) ∧ (i 1 : Nat) < win0_6.index t 1 * 1024 + 1024
      rw [(ix_6 t).2]; omega

theorem out_7 (t : Fin cfg0.N) (r : Fin 512) (j : Fin 1024) : out0_7 (iblk m c 0 t) (iblk m c 1 t) (iblk m c 2 t) (iblk m c 3 t) (iblk m c 4 t) (iblk m c 5 t) (ix2 r j) = hh (V0 m c) (row t r) j := by
  simp only [out7, pay3, blk_0, blk_1, blk_2, blk_3, blk_4, blk_5]
  rfl

/-- Result 1. -/
def res7 : Vec Ideal S4096x1024 .f32 := fun i => hh (V0 m c) (i 0) (i 1)

theorem flush_7 (t : Fin cfg0.N) : (dats m 0 c).flushed 7 t = ((cfg0.win 7).blk t).view.read (Elt Ideal) (res7 m c) := by
  show (cfg0.win 7).cut (grid0.coords t) ((dats m 0 c).after 7 t) = _
  rw [after0_7]
  funext y
  rw [View.read_apply]
  show (out0_7 (iblk m c 0 t) (iblk m c 1 t) (iblk m c 2 t) (iblk m c 3 t) (iblk m c 4 t) (iblk m c 5 t)) y = res7 m c _
  obtain ⟨r, j, rfl⟩ : ∃ (r : Fin 512) (j : Fin 1024), y = ix2 r j := ⟨y 0, y 1, eq_ix2 y⟩
  rw [out_7]
  unfold res7
  congr 1
  · apply Fin.ext
    show 512 * t.val + r.val = win0_7.index t 0 * 512 + 1 * r.val
    rw [(ix_7 t).1]; omega
  · apply Fin.ext
    show j.val = win0_7.index t 1 * 1024 + 1 * j.val
    rw [(ix_7 t).2]; omega

theorem final_7 : (dats m 0 c).arrAt 7 cfg0.N = res7 m c :=
  (dats m 0 c).arrAt_eq_of_cover 7 (res7 m c) (fun t _ => flush_7 m c t) fun i => by
    have hN : cfg0.N = 8 := N_0
    have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_7 t, ?_⟩
    show i ∈ ((View.whole main_v0_1).slice (win0_7.rect t)).set
    rw [View.set_slice_whole, Rect.mem_set_unit]
    intro a
    match a with
    | ⟨0, _⟩ =>
      show win0_7.index t 0 * 512 ≤ (i 0 : Nat) ∧ (i 0 : Nat) < win0_7.index t 0 * 512 + 512
      rw [(ix_7 t).1]; omega
    | ⟨1, _⟩ =>
      show win0_7.index t 1 * 1024 ≤ (i 1 : Nat) ∧ (i 1 : Nat) < win0_7.index t 1 * 1024 + 1024
      rw [(ix_7 t).2]; omega

theorem out_8 (t : Fin cfg0.N) (r : Fin 512) (j : Fin 1024) : out0_8 (iblk m c 0 t) (iblk m c 1 t) (iblk m c 2 t) (iblk m c 3 t) (iblk m c 4 t) (iblk m c 5 t) (ix2 r j) = vv (V0 m c) (row t r) j := by
  simp only [out8, pay4, pay3, blk_0, blk_1, blk_2, blk_3, blk_4, blk_5]
  rfl

/-- Result 2. -/
def res8 : Vec Ideal S4096x1024 .bf16 := fun i => vv (V0 m c) (i 0) (i 1)

theorem flush_8 (t : Fin cfg0.N) : (dats m 0 c).flushed 8 t = ((cfg0.win 8).blk t).view.read (Elt Ideal) (res8 m c) := by
  show (cfg0.win 8).cut (grid0.coords t) ((dats m 0 c).after 8 t) = _
  rw [after0_8]
  funext y
  rw [View.read_apply]
  show (out0_8 (iblk m c 0 t) (iblk m c 1 t) (iblk m c 2 t) (iblk m c 3 t) (iblk m c 4 t) (iblk m c 5 t)) y = res8 m c _
  obtain ⟨r, j, rfl⟩ : ∃ (r : Fin 512) (j : Fin 1024), y = ix2 r j := ⟨y 0, y 1, eq_ix2 y⟩
  rw [out_8]
  unfold res8
  congr 1
  · apply Fin.ext
    show 512 * t.val + r.val = win0_8.index t 0 * 512 + 1 * r.val
    rw [(ix_8 t).1]; omega
  · apply Fin.ext
    show j.val = win0_8.index t 1 * 1024 + 1 * j.val
    rw [(ix_8 t).2]; omega

theorem final_8 : (dats m 0 c).arrAt 8 cfg0.N = res8 m c :=
  (dats m 0 c).arrAt_eq_of_cover 8 (res8 m c) (fun t _ => flush_8 m c t) fun i => by
    have hN : cfg0.N = 8 := N_0
    have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_8 t, ?_⟩
    show i ∈ ((View.whole main_v0_2).slice (win0_8.rect t)).set
    rw [View.set_slice_whole, Rect.mem_set_unit]
    intro a
    match a with
    | ⟨0, _⟩ =>
      show win0_8.index t 0 * 512 ≤ (i 0 : Nat) ∧ (i 0 : Nat) < win0_8.index t 0 * 512 + 512
      rw [(ix_8 t).1]; omega
    | ⟨1, _⟩ =>
      show win0_8.index t 1 * 1024 ≤ (i 1 : Nat) ∧ (i 1 : Nat) < win0_8.index t 1 * 1024 + 1024
      rw [(ix_8 t).2]; omega

theorem out_9 (t : Fin cfg0.N) (r : Fin 512) (j : Fin 4096) : out0_9 (iblk m c 0 t) (iblk m c 1 t) (iblk m c 2 t) (iblk m c 3 t) (iblk m c 4 t) (iblk m c 5 t) (ix2 r j) = pp (V0 m c) (row t r) j := by
  simp only [out9, pay1, pay4, pay3, blk_0, blk_1, blk_2, blk_3, blk_4, blk_5]
  rfl

/-- Result 3. -/
def res9 : Vec Ideal S4096x4096 .bf16 := fun i => pp (V0 m c) (i 0) (i 1)

theorem flush_9 (t : Fin cfg0.N) : (dats m 0 c).flushed 9 t = ((cfg0.win 9).blk t).view.read (Elt Ideal) (res9 m c) := by
  show (cfg0.win 9).cut (grid0.coords t) ((dats m 0 c).after 9 t) = _
  rw [after0_9]
  funext y
  rw [View.read_apply]
  show (out0_9 (iblk m c 0 t) (iblk m c 1 t) (iblk m c 2 t) (iblk m c 3 t) (iblk m c 4 t) (iblk m c 5 t)) y = res9 m c _
  obtain ⟨r, j, rfl⟩ : ∃ (r : Fin 512) (j : Fin 4096), y = ix2 r j := ⟨y 0, y 1, eq_ix2 y⟩
  rw [out_9]
  unfold res9
  congr 1
  · apply Fin.ext
    show 512 * t.val + r.val = win0_9.index t 0 * 512 + 1 * r.val
    rw [(ix_9 t).1]; omega
  · apply Fin.ext
    show j.val = win0_9.index t 1 * 4096 + 1 * j.val
    rw [(ix_9 t).2]; omega

theorem final_9 : (dats m 0 c).arrAt 9 cfg0.N = res9 m c :=
  (dats m 0 c).arrAt_eq_of_cover 9 (res9 m c) (fun t _ => flush_9 m c t) fun i => by
    have hN : cfg0.N = 8 := N_0
    have h0 : (i 0 : Nat) < 4096 := (i 0).isLt
    have h1 : (i 1 : Nat) < 4096 := (i 1).isLt
    obtain ⟨t, ht⟩ : ∃ t : Fin cfg0.N, t.val = (i 0 : Nat) / 512 := ⟨⟨(i 0 : Nat) / 512, by omega⟩, rfl⟩
    refine ⟨t, flush0_9 t, ?_⟩
    show i ∈ ((View.whole main_v0_3).slice (win0_9.rect t)).set
    rw [View.set_slice_whole, Rect.mem_set_unit]
    intro a
    match a with
    | ⟨0, _⟩ =>
      show win0_9.index t 0 * 512 ≤ (i 0 : Nat) ∧ (i 0 : Nat) < win0_9.index t 0 * 512 + 512
      rw [(ix_9 t).1]; omega
    | ⟨1, _⟩ =>
      show win0_9.index t 1 * 4096 ≤ (i 1 : Nat) ∧ (i 1 : Nat) < win0_9.index t 1 * 4096 + 4096
      rw [(ix_9 t).2]; omega

end Cert.OutUpKIdeal.Val

end
-- ==== Proof.OutUpRef.lean ====
/- The output and up projections, reference: its operations in order, its run, and what it leaves in its arguments. -/
module

public import proofs.«01_k».proof.Proof.Lines
public import proofs.«01_k».proof.Proof.Gen.OutUpRIdeal
public import Idealize.ShloMosaic.Lib.StableHlo.Run

@[expose] public section

set_option maxRecDepth 8000

noncomputable section

namespace Cert.OutUpRIdeal.Line

open Cert.OutUpRIdeal Cert.OutUpRIdeal.Gen Idealize.SL.Sem
open Idealize.ShloMosaic Idealize.ShloMosaic.TcCoe Idealize.ShloMosaic.StableHlo
open Cert.Lines

variable {F : FTy → Type} [FloatOps F]

/-- The operations, in order. -/
abbrev line : List (HloOp τ sig (Elt F)) :=
  [ unary main_arg0 main_v0 (extf .f32 · bitsLt_bf16_f32),
    unary main_arg1 main_v1 (extf .f32 · bitsLt_bf16_f32),
    binary main_v0 main_v1 main_v2 (fun l r => Host.dotGeneral dot_S4096x1024_S1024x1024_S4096x1024_1_0_0_1_n_n none l r),
    binary main_v2 main_v2 main_v3 mulf,
    nullary main_cst (constant S_ .f32 0x00000000#32),
    binary main_v3 main_cst main_v4 (fun x v => Host.reduceAdd x v reducesTo_S4096x1024_S4096_d1 h_S_),
    unary main_v4 main_v5 (broadcastInDim S4096x1 ![0] bcast_S4096_S4096x1_0),
    nullary main_cst_0 (constant S_ .f32 0x44800000#32),
    unary main_cst_0 main_v6 (broadcastInDim S4096x1 ![] bcast_S_S4096x1),
    binary main_v5 main_v6 main_v7 Host.divf,
    nullary main_cst_1 (constant S_ .f32 0x358637BD#32),
    unary main_cst_1 main_v8 (broadcastInDim S4096x1 ![] bcast_S_S4096x1),
    binary main_v7 main_v8 main_v9 addf,
    unary main_v9 main_v10 Host.rsqrt,
    unary main_v10 main_v11 (broadcastInDim S4096x1024 ![0, 1] bcast_S4096x1_S4096x1024_0_1),
    binary main_v2 main_v11 main_v12 mulf,
    unary main_arg3 main_v13 (broadcastInDim S4096x1024 ![0, 1] bcast_S1x1024_S4096x1024_0_1),
    binary main_v12 main_v13 main_v14 mulf,
    binary main_arg2 main_v14 main_v15 addf,
    binary main_v15 main_v15 main_v16 mulf,
    nullary main_cst_2 (constant S_ .f32 0x00000000#32),
    binary main_v16 main_cst_2 main_v17 (fun x v => Host.reduceAdd x v reducesTo_S4096x1024_S4096_d1 h_S_),
    unary main_v17 main_v18 (broadcastInDim S4096x1 ![0] bcast_S4096_S4096x1_0),
    nullary main_cst_3 (constant S_ .f32 0x44800000#32),
    unary main_cst_3 main_v19 (broadcastInDim S4096x1 ![] bcast_S_S4096x1),
    binary main_v18 main_v19 main_v20 Host.divf,
    nullary main_cst_4 (constant S_ .f32 0x358637BD#32),
    unary main_cst_4 main_v21 (broadcastInDim S4096x1 ![] bcast_S_S4096x1),
    binary main_v20 main_v21 main_v22 addf,
    unary main_v22 main_v23 Host.rsqrt,
    unary main_v23 main_v24 (broadcastInDim S4096x1024 ![0, 1] bcast_S4096x1_S4096x1024_0_1),
    binary main_v15 main_v24 main_v25 mulf,
    unary main_arg4 main_v26 (broadcastInDim S4096x1024 ![0, 1] bcast_S1x1024_S4096x1024_0_1),
    binary main_v25 main_v26 main_v27 mulf,
    unary main_v27 main_v28 (truncf .bf16 · bitsLt_bf16_f32),
    unary main_arg5 main_v29 (extf .f32 · bitsLt_bf16_f32),
    binary main_v27 main_v29 main_v30 (fun l r => Host.dotGeneral dot_S4096x1024_S1024x4096_S4096x4096_1_0_0_1_n_n none l r),
    unary main_v30 main_v31 (truncf .bf16 · bitsLt_bf16_f32) ]
/-- What they write. -/
abbrev W : List (Ref sig .tc) :=
  [main_v0, main_v1, main_v2, main_v3, main_cst, main_v4, main_v5, main_cst_0, main_v6, main_v7, main_cst_1, main_v8, main_v9, main_v10, main_v11,
   main_v12, main_v13, main_v14, main_v15, main_v16, main_cst_2, main_v17, main_v18, main_cst_3, main_v19, main_v20, main_cst_4, main_v21, main_v22,
   main_v23, main_v24, main_v25, main_v26, main_v27, main_v28, main_v29, main_v30, main_v31]
theorem writes : Writes (line (F := F)) W := rfl

set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W := by decide +kernel) : at_ V r = V (Proc.devRef .tc r) := keep writes hr V

theorem e_main_v0 : at_ V main_v0 = extf .f32 (at_ V main_arg0) bitsLt_bf16_f32 := eq1 writes 0 rfl V
theorem e_main_v1 : at_ V main_v1 = extf .f32 (at_ V main_arg1) bitsLt_bf16_f32 := eq1 writes 1 rfl V
theorem e_main_v2 : at_ V main_v2 = (fun l r => Host.dotGeneral dot_S4096x1024_S1024x1024_S4096x1024_1_0_0_1_n_n none l r) (at_ V main_v0) (at_ V main_v1) := eq2 writes 2 rfl V
theorem e_main_v3 : at_ V main_v3 = (mulf) (at_ V main_v2) (at_ V main_v2) := eq2 writes 3 rfl V
theorem e_main_cst : at_ V main_cst = (constant S_ .f32 0x00000000#32) := eq0 writes 4 rfl V
theorem e_main_v4 : at_ V main_v4 = (fun x v => Host.reduceAdd x v reducesTo_S4096x1024_S4096_d1 h_S_) (at_ V main_v3) (at_ V main_cst) := eq2 writes 5 rfl V
theorem e_main_v5 : at_ V main_v5 = (broadcastInDim S4096x1 ![0] bcast_S4096_S4096x1_0) (at_ V main_v4) := eq1 writes 6 rfl V
theorem e_main_cst_0 : at_ V main_cst_0 = (constant S_ .f32 0x44800000#32) := eq0 writes 7 rfl V
theorem e_main_v6 : at_ V main_v6 = (broadcastInDim S4096x1 ![] bcast_S_S4096x1) (at_ V main_cst_0) := eq1 writes 8 rfl V
theorem e_main_v7 : at_ V main_v7 = (Host.divf) (at_ V main_v5) (at_ V main_v6) := eq2 writes 9 rfl V
theorem e_main_cst_1 : at_ V main_cst_1 = (constant S_ .f32 0x358637BD#32) := eq0 writes 10 rfl V
theorem e_main_v8 : at_ V main_v8 = (broadcastInDim S4096x1 ![] bcast_S_S4096x1) (at_ V main_cst_1) := eq1 writes 11 rfl V
theorem e_main_v9 : at_ V main_v9 = (addf) (at_ V main_v7) (at_ V main_v8) := eq2 writes 12 rfl V
theorem e_main_v10 : at_ V main_v10 = (Host.rsqrt) (at_ V main_v9) := eq1 writes 13 rfl V
theorem e_main_v11 : at_ V main_v11 = (broadcastInDim S4096x1024 ![0, 1] bcast_S4096x1_S4096x1024_0_1) (at_ V main_v10) := eq1 writes 14 rfl V
theorem e_main_v12 : at_ V main_v12 = (mulf) (at_ V main_v2) (at_ V main_v11) := eq2 writes 15 rfl V
theorem e_main_v13 : at_ V main_v13 = (broadcastInDim S4096x1024 ![0, 1] bcast_S1x1024_S4096x1024_0_1) (at_ V main_arg3) := eq1 writes 16 rfl V
theorem e_main_v14 : at_ V main_v14 = (mulf) (at_ V main_v12) (at_ V main_v13) := eq2 writes 17 rfl V
theorem e_main_v15 : at_ V main_v15 = (addf) (at_ V main_arg2) (at_ V main_v14) := eq2 writes 18 rfl V
theorem e_main_v16 : at_ V main_v16 = (mulf) (at_ V main_v15) (at_ V main_v15) := eq2 writes 19 rfl V
theorem e_main_cst_2 : at_ V main_cst_2 = (constant S_ .f32 0x00000000#32) := eq0 writes 20 rfl V
theorem e_main_v17 : at_ V main_v17 = (fun x v => Host.reduceAdd x v reducesTo_S4096x1024_S4096_d1 h_S_) (at_ V main_v16) (at_ V main_cst_2) := eq2 writes 21 rfl V
theorem e_main_v18 : at_ V main_v18 = (broadcastInDim S4096x1 ![0] bcast_S4096_S4096x1_0) (at_ V main_v17) := eq1 writes 22 rfl V
theorem e_main_cst_3 : at_ V main_cst_3 = (constant S_ .f32 0x44800000#32) := eq0 writes 23 rfl V
theorem e_main_v19 : at_ V main_v19 = (broadcastInDim S4096x1 ![] bcast_S_S4096x1) (at_ V main_cst_3) := eq1 writes 24 rfl V
theorem e_main_v20 : at_ V main_v20 = (Host.divf) (at_ V main_v18) (at_ V main_v19) := eq2 writes 25 rfl V
theorem e_main_cst_4 : at_ V main_cst_4 = (constant S_ .f32 0x358637BD#32) := eq0 writes 26 rfl V
theorem e_main_v21 : at_ V main_v21 = (broadcastInDim S4096x1 ![] bcast_S_S4096x1) (at_ V main_cst_4) := eq1 writes 27 rfl V
theorem e_main_v22 : at_ V main_v22 = (addf) (at_ V main_v20) (at_ V main_v21) := eq2 writes 28 rfl V
theorem e_main_v23 : at_ V main_v23 = (Host.rsqrt) (at_ V main_v22) := eq1 writes 29 rfl V
theorem e_main_v24 : at_ V main_v24 = (broadcastInDim S4096x1024 ![0, 1] bcast_S4096x1_S4096x1024_0_1) (at_ V main_v23) := eq1 writes 30 rfl V
theorem e_main_v25 : at_ V main_v25 = (mulf) (at_ V main_v15) (at_ V main_v24) := eq2 writes 31 rfl V
theorem e_main_v26 : at_ V main_v26 = (broadcastInDim S4096x1024 ![0, 1] bcast_S1x1024_S4096x1024_0_1) (at_ V main_arg4) := eq1 writes 32 rfl V
theorem e_main_v27 : at_ V main_v27 = (mulf) (at_ V main_v25) (at_ V main_v26) := eq2 writes 33 rfl V
theorem e_main_v28 : at_ V main_v28 = truncf .bf16 (at_ V main_v27) bitsLt_bf16_f32 := eq1 writes 34 rfl V
theorem e_main_v29 : at_ V main_v29 = extf .f32 (at_ V main_arg5) bitsLt_bf16_f32 := eq1 writes 35 rfl V
theorem e_main_v30 : at_ V main_v30 = (fun l r => Host.dotGeneral dot_S4096x1024_S1024x4096_S4096x4096_1_0_0_1_n_n none l r) (at_ V main_v27) (at_ V main_v29) := eq2 writes 36 rfl V
theorem e_main_v31 : at_ V main_v31 = truncf .bf16 (at_ V main_v30) bitsLt_bf16_f32 := eq1 writes 37 rfl V

theorem ops_sub : (line : List (HloOp τ sig (Elt F))).Forall fun op => op.bufs ⊆ tcRefs τ sig := by
  repeat' first | (with_reducible first | exact unary_bufs_sub .. | exact binary_bufs_sub .. | exact nullary_bufs_sub ..) | refine ⟨?_, ?_⟩ | exact unary_bufs_sub .. | exact binary_bufs_sub .. | exact nullary_bufs_sub ..

/-- Every execution ends with every buffer at its contents after the line. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = at_ (launchContents m d) b :=
  run_seq scopedRefs_eq scopedSems_eq defs main (fun _ => line) main_eq (fun _ => ops_sub) m ρ

/-- An argument keeps what it held. -/
theorem arg (m : (ℓ : Loc nD τ sig) → Buf (Elt F) ℓ) (d : Dev nD) {b : Ref sig .tc} (hb : b ∉ W := by decide +kernel) :
    at_ (launchContents m d) b = m ((d.tc : Thread nD τ).loc b) := kept _ hb

end Cert.OutUpRIdeal.Line

end
-- ==== Proof.OutUpRefVal.lean ====
/- The output and up projections, reference: its results element by element. -/
module

public import proofs.«01_k».proof.Proof.OutUpRef
public import proofs.«01_k».proof.Proof.OutUpSpec

@[expose] public section

set_option maxRecDepth 8000

noncomputable section

namespace Cert.OutUpRIdeal.Val

open Cert.OutUpRIdeal Cert.OutUpRIdeal.Gen Cert.OutUpRIdeal.Line Idealize.ShloMosaic Idealize.ShloMosaic.TcCoe Idealize.ShloMosaic.StableHlo Cert.NormRow Cert.NormsSpec Cert.OutUpSpec

variable (V : Valuation τ sig (Elt Ideal))

/-- Argument 0. -/
def M : Mat 4096 1024 := fun i j => (at_ V main_arg0 : Vec Ideal S4096x1024 .bf16) (ix2 i j)
theorem t_arg0 (i : Fin 4096) (j : Fin 1024) : (at_ V main_arg0 : Vec Ideal S4096x1024 .bf16) (ix2 i j) = M V i j := rfl
/-- Argument 1. -/
def WO : Mat 1024 1024 := fun i j => (at_ V main_arg1 : Vec Ideal S1024x1024 .bf16) (ix2 i j)
theorem t_arg1 (i : Fin 1024) (j : Fin 1024) : (at_ V main_arg1 : Vec Ideal S1024x1024 .bf16) (ix2 i j) = WO V i j := rfl
/-- Argument 2. -/
def X : Mat 4096 1024 := fun i j => (at_ V main_arg2 : Vec Ideal S4096x1024 .f32) (ix2 i j)
theorem t_arg2 (i : Fin 4096) (j : Fin 1024) : (at_ V main_arg2 : Vec Ideal S4096x1024 .f32) (ix2 i j) = X V i j := rfl
/-- Argument 3. -/
def G2 : Mat 1 1024 := fun i j => (at_ V main_arg3 : Vec Ideal S1x1024 .f32) (ix2 i j)
theorem t_arg3 (i : Fin 1) (j : Fin 1024) : (at_ V main_arg3 : Vec Ideal S1x1024 .f32) (ix2 i j) = G2 V i j := rfl
/-- Argument 4. -/
def G3 : Mat 1 1024 := fun i j => (at_ V main_arg4 : Vec Ideal S1x1024 .f32) (ix2 i j)
theorem t_arg4 (i : Fin 1) (j : Fin 1024) : (at_ V main_arg4 : Vec Ideal S1x1024 .f32) (ix2 i j) = G3 V i j := rfl
/-- Argument 5. -/
def WU : Mat 1024 4096 := fun i j => (at_ V main_arg5 : Vec Ideal S1024x4096 .bf16) (ix2 i j)
theorem t_arg5 (i : Fin 1024) (j : Fin 4096) : (at_ V main_arg5 : Vec Ideal S1024x4096 .bf16) (ix2 i j) = WU V i j := rfl
/-- The projected rows. -/
def mx : Mat 4096 1024 := mix (M V) (WO V)
/-- The residual. -/
def hh : Mat 4096 1024 := h1 (X V) (mx V) (G2 V)
/-- The rows that enter the up-projection. -/
def vv : Mat 4096 1024 := scaled (hh V) (G3 V)
/-- Those rows through the first feed-forward weight. -/
def pp : Mat 4096 4096 := up (vv V) (WU V)

theorem t_v2 (i : Fin 4096) (j : Fin 1024) : (at_ V main_v2 : Vec Ideal S4096x1024 .f32) (ix2 i j) = mx V i j := by
  rw [e_main_v2, e_main_v0, e_main_v1]
  have h_arg0 := t_arg0 V
  generalize at_ V main_arg0 = x_arg0 at h_arg0 ⊢
  have h_arg1 := t_arg1 V
  generalize at_ V main_arg1 = x_arg1 at h_arg1 ⊢
  pointwise
  try simp only [h_arg0, h_arg1]
  try rfl

theorem t_v10 (i : Fin 4096) (j : Fin 1) : (at_ V main_v10 : Vec Ideal S4096x1 .f32) (ix2 i j) = rs (mx V i) := by
  rw [e_main_v10, e_main_v9, e_main_v7, e_main_v5, e_main_v4, e_main_v3, e_main_cst, e_main_v6, e_main_cst_0, e_main_v8, e_main_cst_1]
  have h_v2 := t_v2 V
  generalize at_ V main_v2 = x_v2 at h_v2 ⊢
  pointwise
  try simp only [h_v2]
  try rfl

theorem t_v15 (i : Fin 4096) (j : Fin 1024) : (at_ V main_v15 : Vec Ideal S4096x1024 .f32) (ix2 i j) = hh V i j := by
  rw [e_main_v15, e_main_v14, e_main_v12, e_main_v11, e_main_v13]
  have h_arg2 := t_arg2 V
  generalize at_ V main_arg2 = x_arg2 at h_arg2 ⊢
  have h_v2 := t_v2 V
  generalize at_ V main_v2 = x_v2 at h_v2 ⊢
  have h_v10 := t_v10 V
  generalize at_ V main_v10 = x_v10 at h_v10 ⊢
  have h_arg3 := t_arg3 V
  generalize at_ V main_arg3 = x_arg3 at h_arg3 ⊢
  pointwise
  try simp only [h_arg2, h_v2, h_v10, h_arg3]
  try rfl

theorem t_v23 (i : Fin 4096) (j : Fin 1) : (at_ V main_v23 : Vec Ideal S4096x1 .f32) (ix2 i j) = rs (hh V i) := by
  rw [e_main_v23, e_main_v22, e_main_v20, e_main_v18, e_main_v17, e_main_v16, e_main_cst_2, e_main_v19, e_main_cst_3, e_main_v21, e_main_cst_4]
  have h_v15 := t_v15 V
  generalize at_ V main_v15 = x_v15 at h_v15 ⊢
  pointwise
  try simp only [h_v15]
  try rfl

theorem t_v27 (i : Fin 4096) (j : Fin 1024) : (at_ V main_v27 : Vec Ideal S4096x1024 .f32) (ix2 i j) = vv V i j := by
  rw [e_main_v27, e_main_v25, e_main_v24, e_main_v26]
  have h_v15 := t_v15 V
  generalize at_ V main_v15 = x_v15 at h_v15 ⊢
  have h_v23 := t_v23 V
  generalize at_ V main_v23 = x_v23 at h_v23 ⊢
  have h_arg4 := t_arg4 V
  generalize at_ V main_arg4 = x_arg4 at h_arg4 ⊢
  pointwise
  try simp only [h_v15, h_v23, h_arg4]
  try rfl

theorem t_v28 (i : Fin 4096) (j : Fin 1024) : (at_ V main_v28 : Vec Ideal S4096x1024 .bf16) (ix2 i j) = vv V i j := by
  rw [e_main_v28]
  have h_v27 := t_v27 V
  generalize at_ V main_v27 = x_v27 at h_v27 ⊢
  pointwise
  try simp only [h_v27]
  try rfl

theorem t_v31 (i : Fin 4096) (j : Fin 4096) : (at_ V main_v31 : Vec Ideal S4096x4096 .bf16) (ix2 i j) = pp V i j := by
  rw [e_main_v31, e_main_v30, e_main_v29]
  have h_v27 := t_v27 V
  generalize at_ V main_v27 = x_v27 at h_v27 ⊢
  have h_arg5 := t_arg5 V
  generalize at_ V main_arg5 = x_arg5 at h_arg5 ⊢
  pointwise
  try simp only [h_v27, h_arg5]
  try rfl

end Cert.OutUpRIdeal.Val

end
-- ==== Proof.OutUpClaims.lean ====
/- The output and up projections: its claims. -/
module

public import proofs.«01_k».proof.Defs
public import proofs.«01_k».proof.Proof.Gen.OutUpK.Frame
public import proofs.«01_k».proof.Proof.OutUpVal
public import proofs.«01_k».proof.Proof.OutUpRefVal
public import proofs.«01_k».proof.Proof.OutUpRef
public import Idealize.ShloMosaic.Lib.Quiescent

@[expose] public section

set_option maxRecDepth 8000

noncomputable section

namespace Cert.OutUpClaims

open Idealize.ShloMosaic Idealize.ShloMosaic.TcCoe Idealize.ShloMosaic.StableHlo Idealize.SL.Sem

/-- The kernel's frame. -/
theorem frame_p : quiescent_OutUpK := fun m ρ _ => OutUpK.Gen.frame m ρ

/-- The ideal kernel's frame. -/
theorem frame_pi : quiescent_OutUpKIdeal := fun m ρ _ => OutUpKIdeal.Gen.frame m ρ

/-- The reference's frame. -/
theorem frame_ri : quiescent_OutUpRIdeal := fun m ρ _ =>
  (θ_run OutUpRIdeal.defs _ _).mono (fun r h => ⟨fun c => ⟨(h c OutUpRIdeal.main_arg0).trans (OutUpRIdeal.Line.arg m c), (h c OutUpRIdeal.main_arg1).trans (OutUpRIdeal.Line.arg m c), (h c OutUpRIdeal.main_arg2).trans (OutUpRIdeal.Line.arg m c), (h c OutUpRIdeal.main_arg3).trans (OutUpRIdeal.Line.arg m c), (h c OutUpRIdeal.main_arg4).trans (OutUpRIdeal.Line.arg m c), (h c OutUpRIdeal.main_arg5).trans (OutUpRIdeal.Line.arg m c)⟩,
    sem_eq_zero_of_no_sems (by decide) r.2⟩) (OutUpRIdeal.Line.run m ρ)

/-- Kernel and reference compute the same function over the extended reals. -/
theorem algebraic : algebraic_OutUpKIdeal_OutUpRIdeal := by
  intro m ρ m' ρ' _ hagree
  refine ⟨fun c => OutUpKIdeal.Val.res6 m c, fun c => OutUpKIdeal.Val.res7 m c, fun c => OutUpKIdeal.Val.res8 m c, fun c => OutUpKIdeal.Val.res9 m c,
    (θ_run OutUpKIdeal.defs _ _).mono (fun r h c => ?_) (OutUpKIdeal.Value.run_blocks (F := Ideal) m ρ), ?_⟩
  · have e := h c
    simp only [OutUpKIdeal.Val.final_6, OutUpKIdeal.Val.final_7, OutUpKIdeal.Val.final_8, OutUpKIdeal.Val.final_9] at e
    exact e
  · refine (θ_run OutUpRIdeal.defs _ _).mono (fun r h c => ?_) (OutUpRIdeal.Line.run (F := Ideal) m' ρ')
    obtain ⟨h0, h1, h2, h3, h4, h5⟩ := hagree c
    have same_M : OutUpRIdeal.Val.M (launchContents m' c) = OutUpKIdeal.Val.M (OutUpKIdeal.Val.V0 m c) := funext fun i => funext fun j => congrFun ((OutUpRIdeal.Line.arg m' c (b := OutUpRIdeal.main_arg0)).trans h0) (ix2 i j)
    have same_WO : OutUpRIdeal.Val.WO (launchContents m' c) = OutUpKIdeal.Val.WO (OutUpKIdeal.Val.V0 m c) := funext fun i => funext fun j => congrFun ((OutUpRIdeal.Line.arg m' c (b := OutUpRIdeal.main_arg1)).trans h1) (ix2 i j)
    have same_X : OutUpRIdeal.Val.X (launchContents m' c) = OutUpKIdeal.Val.X (OutUpKIdeal.Val.V0 m c) := funext fun i => funext fun j => congrFun ((OutUpRIdeal.Line.arg m' c (b := OutUpRIdeal.main_arg2)).trans h2) (ix2 i j)
    have same_G2 : OutUpRIdeal.Val.G2 (launchContents m' c) = OutUpKIdeal.Val.G2 (OutUpKIdeal.Val.V0 m c) := funext fun i => funext fun j => congrFun ((OutUpRIdeal.Line.arg m' c (b := OutUpRIdeal.main_arg3)).trans h3) (ix2 i j)
    have same_G3 : OutUpRIdeal.Val.G3 (launchContents m' c) = OutUpKIdeal.Val.G3 (OutUpKIdeal.Val.V0 m c) := funext fun i => funext fun j => congrFun ((OutUpRIdeal.Line.arg m' c (b := OutUpRIdeal.main_arg4)).trans h4) (ix2 i j)
    have same_WU : OutUpRIdeal.Val.WU (launchContents m' c) = OutUpKIdeal.Val.WU (OutUpKIdeal.Val.V0 m c) := funext fun i => funext fun j => congrFun ((OutUpRIdeal.Line.arg m' c (b := OutUpRIdeal.main_arg5)).trans h5) (ix2 i j)
    refine ⟨(h c _).trans ?_, (h c _).trans ?_, (h c _).trans ?_, (h c _).trans ?_, (h c OutUpRIdeal.main_arg0).trans (OutUpRIdeal.Line.arg m' c), (h c OutUpRIdeal.main_arg1).trans (OutUpRIdeal.Line.arg m' c), (h c OutUpRIdeal.main_arg2).trans (OutUpRIdeal.Line.arg m' c), (h c OutUpRIdeal.main_arg3).trans (OutUpRIdeal.Line.arg m' c), (h c OutUpRIdeal.main_arg4).trans (OutUpRIdeal.Line.arg m' c), (h c OutUpRIdeal.main_arg5).trans (OutUpRIdeal.Line.arg m' c)⟩
    · funext y
      obtain ⟨i, j, rfl⟩ : ∃ (i : Fin 4096) (j : Fin 1024), y = ix2 i j := ⟨y 0, y 1, eq_ix2 y⟩
      refine (OutUpRIdeal.Val.t_v2 (launchContents m' c) i j).trans ?_
      simp only [OutUpRIdeal.Val.pp, OutUpRIdeal.Val.vv, OutUpRIdeal.Val.hh, OutUpRIdeal.Val.mx, same_M, same_WO, same_X, same_G2, same_G3, same_WU]
      rfl
    · funext y
      obtain ⟨i, j, rfl⟩ : ∃ (i : Fin 4096) (j : Fin 1024), y = ix2 i j := ⟨y 0, y 1, eq_ix2 y⟩
      refine (OutUpRIdeal.Val.t_v15 (launchContents m' c) i j).trans ?_
      simp only [OutUpRIdeal.Val.pp, OutUpRIdeal.Val.vv, OutUpRIdeal.Val.hh, OutUpRIdeal.Val.mx, same_M, same_WO, same_X, same_G2, same_G3, same_WU]
      rfl
    · funext y
      obtain ⟨i, j, rfl⟩ : ∃ (i : Fin 4096) (j : Fin 1024), y = ix2 i j := ⟨y 0, y 1, eq_ix2 y⟩
      refine (OutUpRIdeal.Val.t_v28 (launchContents m' c) i j).trans ?_
      simp only [OutUpRIdeal.Val.pp, OutUpRIdeal.Val.vv, OutUpRIdeal.Val.hh, OutUpRIdeal.Val.mx, same_M, same_WO, same_X, same_G2, same_G3, same_WU]
      rfl
    · funext y
      obtain ⟨i, j, rfl⟩ : ∃ (i : Fin 4096) (j : Fin 4096), y = ix2 i j := ⟨y 0, y 1, eq_ix2 y⟩
      refine (OutUpRIdeal.Val.t_v31 (launchContents m' c) i j).trans ?_
      simp only [OutUpRIdeal.Val.pp, OutUpRIdeal.Val.vv, OutUpRIdeal.Val.hh, OutUpRIdeal.Val.mx, same_M, same_WO, same_X, same_G2, same_G3, same_WU]
      rfl

end Cert.OutUpClaims

end
-- ==== Proof.DuBlocks.lean ====
/- The gradient of the input projection, kernel: what one grid point leaves in each result block, as a function of the blocks it reads. -/
module

public import proofs.«01_k».proof.Proof.Gen.DuKIdeal.Value
public import Idealize.ShloMosaic.Lib.Tactic

@[expose] public section

set_option maxRecDepth 8000

noncomputable section

namespace Cert.DuKIdeal.Blocks

open Cert.DuKIdeal Cert.DuKIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

theorem out0_A_11_eq (c : Dev nD) (i : grid0.Coords) (arg1 : Memref sig .tc .vmem S512x3072 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1536 .bf16) (harg4 : arg4.IsWhole) (arg5 : Memref sig .tc .vmem S512x128 .bf16) (harg5 : arg5.IsWhole) (arg6 : Memref sig .tc .vmem S5120x1024 .bf16) (harg6 : arg6.IsWhole) (arg7 : Memref sig .tc .vmem S1536x1024 .bf16) (harg7 : arg7.IsWhole) (arg8 : Memref sig .tc .vmem S128x1024 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S1x1024 .f32) (harg13 : arg13.IsWhole) (hc0 : cond0_0 i)
    (x0 : Vec F S512x3072 .bf16) (x1 : Vec F S512x1024 .bf16) (x2 : Vec F S512x1024 .bf16) (x3 : Vec F S512x1536 .bf16) (x4 : Vec F S512x128 .bf16) (x5 : Vec F S5120x1024 .bf16) (x6 : Vec F S1536x1024 .bf16) (x7 : Vec F S128x1024 .bf16) (x8 : Vec F S512x1024 .f32) (x9 : Vec F S512x1024 .f32) (x10 : Vec F S1x1024 .f32) :
    out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 = k0_pay3 (k0_pay6 x3 x6 x4 x7 x0 (View.ld x5 (Rect.unit (s := S5120x1024) ![0, 0] S3072x1024.size inb_S5120x1024_S3072x1024_0_0)) x1 (View.ld x5 (Rect.unit (s := S5120x1024) ![3072, 0] S1024x1024.size inb_S5120x1024_S1024x1024_3072_0)) x2 (View.ld x5 (Rect.unit (s := S5120x1024) ![4096, 0] S1024x1024.size inb_S5120x1024_S1024x1024_4096_0))) x8 (k0_pay7 x8) x10 x9 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10)]
  unfold kernelRun0_A
  dsimp only
  rw [View.canon_unit_zero hz]
  try sl_unfold_words
  simp only [View.readAt_eq_ld, Memref.IsWhole.read_unread, View.ld_unit_zero (S := S512x3072) hz, View.ld_unit_zero (S := S512x1024) hz, View.ld_unit_zero (S := S512x1536) hz, View.ld_unit_zero (S := S512x128) hz, View.ld_unit_zero (S := S1536x1024) hz, View.ld_unit_zero (S := S128x1024) hz, View.ld_unit_zero (S := S1x1024) hz]

theorem out0_A_12_eq (c : Dev nD) (i : grid0.Coords) (arg1 : Memref sig .tc .vmem S512x3072 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1536 .bf16) (harg4 : arg4.IsWhole) (arg5 : Memref sig .tc .vmem S512x128 .bf16) (harg5 : arg5.IsWhole) (arg6 : Memref sig .tc .vmem S5120x1024 .bf16) (harg6 : arg6.IsWhole) (arg7 : Memref sig .tc .vmem S1536x1024 .bf16) (harg7 : arg7.IsWhole) (arg8 : Memref sig .tc .vmem S128x1024 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S1x1024 .f32) (harg13 : arg13.IsWhole) (hc0 : cond0_0 i)
    (x0 : Vec F S512x3072 .bf16) (x1 : Vec F S512x1024 .bf16) (x2 : Vec F S512x1024 .bf16) (x3 : Vec F S512x1536 .bf16) (x4 : Vec F S512x128 .bf16) (x5 : Vec F S5120x1024 .bf16) (x6 : Vec F S1536x1024 .bf16) (x7 : Vec F S128x1024 .bf16) (x8 : Vec F S512x1024 .f32) (x9 : Vec F S512x1024 .f32) (x10 : Vec F S1x1024 .f32) :
    out0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 = k0_pay4 (k0_pay6 x3 x6 x4 x7 x0 (View.ld x5 (Rect.unit (s := S5120x1024) ![0, 0] S3072x1024.size inb_S5120x1024_S3072x1024_0_0)) x1 (View.ld x5 (Rect.unit (s := S5120x1024) ![3072, 0] S1024x1024.size inb_S5120x1024_S1024x1024_3072_0)) x2 (View.ld x5 (Rect.unit (s := S5120x1024) ![4096, 0] S1024x1024.size inb_S5120x1024_S1024x1024_4096_0))) x8 (k0_pay7 x8) k0_pay5 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10)]
  unfold kernelRun0_A
  dsimp only
  sl_unfold_words
  rw [View.canon_cons_unit_zero (S := S1x1024) hz, View.readCov_unit_zero (S := S1x1024) _ hz]
  simp only [View.readAt_eq_ld, Memref.IsWhole.read_unread, View.ld_unit_zero (S := S512x3072) hz, View.ld_unit_zero (S := S512x1024) hz, View.ld_unit_zero (S := S512x1536) hz, View.ld_unit_zero (S := S512x128) hz, View.ld_unit_zero (S := S1536x1024) hz, View.ld_unit_zero (S := S128x1024) hz, View.ld_unit_zero (S := S1x1024) hz]

theorem out0_B_11_eq (c : Dev nD) (i : grid0.Coords) (arg1 : Memref sig .tc .vmem S512x3072 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1536 .bf16) (harg4 : arg4.IsWhole) (arg5 : Memref sig .tc .vmem S512x128 .bf16) (harg5 : arg5.IsWhole) (arg6 : Memref sig .tc .vmem S5120x1024 .bf16) (harg6 : arg6.IsWhole) (arg7 : Memref sig .tc .vmem S1536x1024 .bf16) (harg7 : arg7.IsWhole) (arg8 : Memref sig .tc .vmem S128x1024 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S1x1024 .f32) (harg13 : arg13.IsWhole) (hc0 : ¬cond0_0 i)
    (x0 : Vec F S512x3072 .bf16) (x1 : Vec F S512x1024 .bf16) (x2 : Vec F S512x1024 .bf16) (x3 : Vec F S512x1536 .bf16) (x4 : Vec F S512x128 .bf16) (x5 : Vec F S5120x1024 .bf16) (x6 : Vec F S1536x1024 .bf16) (x7 : Vec F S128x1024 .bf16) (x8 : Vec F S512x1024 .f32) (x9 : Vec F S512x1024 .f32) (x10 : Vec F S1x1024 .f32) (xo12 : Vec F S1x1024 .f32) :
    out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 xo12 = k0_pay3 (k0_pay6 x3 x6 x4 x7 x0 (View.ld x5 (Rect.unit (s := S5120x1024) ![0, 0] S3072x1024.size inb_S5120x1024_S3072x1024_0_0)) x1 (View.ld x5 (Rect.unit (s := S5120x1024) ![3072, 0] S1024x1024.size inb_S5120x1024_S1024x1024_3072_0)) x2 (View.ld x5 (Rect.unit (s := S5120x1024) ![4096, 0] S1024x1024.size inb_S5120x1024_S1024x1024_4096_0))) x8 (k0_pay7 x8) x10 x9 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 xo12)]
  unfold kernelRun0_B
  dsimp only
  rw [View.canon_unit_zero hz]
  try sl_unfold_words
  simp only [View.readAt_eq_ld, Memref.IsWhole.read_unread, View.ld_unit_zero (S := S512x3072) hz, View.ld_unit_zero (S := S512x1024) hz, View.ld_unit_zero (S := S512x1536) hz, View.ld_unit_zero (S := S512x128) hz, View.ld_unit_zero (S := S1536x1024) hz, View.ld_unit_zero (S := S128x1024) hz, View.ld_unit_zero (S := S1x1024) hz]

theorem out0_B_12_eq (c : Dev nD) (i : grid0.Coords) (arg1 : Memref sig .tc .vmem S512x3072 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1536 .bf16) (harg4 : arg4.IsWhole) (arg5 : Memref sig .tc .vmem S512x128 .bf16) (harg5 : arg5.IsWhole) (arg6 : Memref sig .tc .vmem S5120x1024 .bf16) (harg6 : arg6.IsWhole) (arg7 : Memref sig .tc .vmem S1536x1024 .bf16) (harg7 : arg7.IsWhole) (arg8 : Memref sig .tc .vmem S128x1024 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S1x1024 .f32) (harg13 : arg13.IsWhole) (hc0 : ¬cond0_0 i)
    (x0 : Vec F S512x3072 .bf16) (x1 : Vec F S512x1024 .bf16) (x2 : Vec F S512x1024 .bf16) (x3 : Vec F S512x1536 .bf16) (x4 : Vec F S512x128 .bf16) (x5 : Vec F S5120x1024 .bf16) (x6 : Vec F S1536x1024 .bf16) (x7 : Vec F S128x1024 .bf16) (x8 : Vec F S512x1024 .f32) (x9 : Vec F S512x1024 .f32) (x10 : Vec F S1x1024 .f32) (xo12 : Vec F S1x1024 .f32) :
    out0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 xo12 = k0_pay4 (k0_pay6 x3 x6 x4 x7 x0 (View.ld x5 (Rect.unit (s := S5120x1024) ![0, 0] S3072x1024.size inb_S5120x1024_S3072x1024_0_0)) x1 (View.ld x5 (Rect.unit (s := S5120x1024) ![3072, 0] S1024x1024.size inb_S5120x1024_S1024x1024_3072_0)) x2 (View.ld x5 (Rect.unit (s := S5120x1024) ![4096, 0] S1024x1024.size inb_S5120x1024_S1024x1024_4096_0))) x8 (k0_pay7 x8) xo12 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 xo12)]
  unfold kernelRun0_B
  dsimp only
  rw [View.canon_unit_zero hz]
  try sl_unfold_words
  simp only [View.readAt_eq_ld, Memref.IsWhole.read_unread, View.ld_unit_zero (S := S512x3072) hz, View.ld_unit_zero (S := S512x1024) hz, View.ld_unit_zero (S := S512x1536) hz, View.ld_unit_zero (S := S512x128) hz, View.ld_unit_zero (S := S1536x1024) hz, View.ld_unit_zero (S := S128x1024) hz, View.ld_unit_zero (S := S1x1024) hz]

end Cert.DuKIdeal.Blocks

end
-- ==== Proof.DuSpec.lean ====
/- The gradient of the input projection and its norm: the values both programs compute, and the cuts of their sums. -/
module

public import proofs.«01_k».proof.Proof.NormsSpec
public import proofs.«01_k».proof.Proof.Tiles

@[expose] public section

set_option maxRecDepth 8000

noncomputable section

namespace Cert.DuSpec

open Idealize.ShloMosaic Cert.NormRow Cert.NormsSpec Cert.Tiles

/-- The position `a` places further on. -/
def sh {N b : ℕ} (a : ℕ) (h : a + b ≤ N) (r : Fin b) : Fin N := ⟨a + r.val, by have := r.isLt; omega⟩

theorem cut7 (f : Fin 6672 → EReal) : ∑ k, f k = (∑ r : Fin 1024, f (sh 0 (by omega) r)) + (∑ r : Fin 1536, f (sh 1024 (by omega) r)) + (∑ r : Fin 16, f (sh 2560 (by omega) r)) + (∑ r : Fin 1024, f (sh 2576 (by omega) r)) + (∑ r : Fin 1024, f (sh 3600 (by omega) r)) + (∑ r : Fin 1024, f (sh 4624 (by omega) r)) + (∑ r : Fin 1024, f (sh 5648 (by omega) r)) := by
  have h0 : part f 1024 = part f 0 + ∑ r : Fin 1024, f (sh 0 (by omega) r) := part_add f 0 1024 (by omega)
  have h1 : part f 2560 = part f 1024 + ∑ r : Fin 1536, f (sh 1024 (by omega) r) := part_add f 1024 1536 (by omega)
  have h2 : part f 2576 = part f 2560 + ∑ r : Fin 16, f (sh 2560 (by omega) r) := part_add f 2560 16 (by omega)
  have h3 : part f 3600 = part f 2576 + ∑ r : Fin 1024, f (sh 2576 (by omega) r) := part_add f 2576 1024 (by omega)
  have h4 : part f 4624 = part f 3600 + ∑ r : Fin 1024, f (sh 3600 (by omega) r) := part_add f 3600 1024 (by omega)
  have h5 : part f 5648 = part f 4624 + ∑ r : Fin 1024, f (sh 4624 (by omega) r) := part_add f 4624 1024 (by omega)
  have h6 : part f 6672 = part f 5648 + ∑ r : Fin 1024, f (sh 5648 (by omega) r) := part_add f 5648 1024 (by omega)
  rw [← part_all f, h6, h5, h4, h3, h2, h1, h0, part_zero, zero_add]

theorem cut3 (f : Fin 3072 → EReal) : ∑ k, f k = (∑ r : Fin 1024, f (sh 0 (by omega) r)) + (∑ r : Fin 1024, f (sh 1024 (by omega) r)) + (∑ r : Fin 1024, f (sh 2048 (by omega) r)) := by
  have h0 : part f 1024 = part f 0 + ∑ r : Fin 1024, f (sh 0 (by omega) r) := part_add f 0 1024 (by omega)
  have h1 : part f 2048 = part f 1024 + ∑ r : Fin 1024, f (sh 1024 (by omega) r) := part_add f 1024 1024 (by omega)
  have h2 : part f 3072 = part f 2048 + ∑ r : Fin 1024, f (sh 2048 (by omega) r) := part_add f 2048 1024 (by omega)
  rw [← part_all f, h2, h1, h0, part_zero, zero_add]

theorem cut2 (f : Fin 128 → EReal) : ∑ k, f k = (∑ r : Fin 16, f (sh 0 (by omega) r)) + (∑ r : Fin 112, f (sh 16 (by omega) r)) := by
  have h0 : part f 16 = part f 0 + ∑ r : Fin 16, f (sh 0 (by omega) r) := part_add f 0 16 (by omega)
  have h1 : part f 128 = part f 16 + ∑ r : Fin 112, f (sh 16 (by omega) r) := part_add f 16 112 (by omega)
  rw [← part_all f, h1, h0, part_zero, zero_add]

variable (D3 : Mat 4096 3072) (DZ DL : Mat 4096 1024) (DX : Mat 4096 1536) (DT : Mat 4096 128) (WI : Mat 1024 6672)

/-- The gradient of the normalized input: each column group's cotangent through its columns of the weight. -/
def du : Mat 4096 1024 := fun i j => (∑ r : Fin 1024, DZ i r * WI j (sh 0 (by omega) r)) + (∑ r : Fin 1536, DX i r * WI j (sh 1024 (by omega) r)) + (∑ r : Fin 16, DT i (sh 0 (by omega) r) * WI j (sh 2560 (by omega) r)) + (∑ r : Fin 1024, D3 i (sh 0 (by omega) r) * WI j (sh 2576 (by omega) r)) + (∑ r : Fin 1024, DL i r * WI j (sh 3600 (by omega) r)) + (∑ r : Fin 1024, D3 i (sh 1024 (by omega) r) * WI j (sh 4624 (by omega) r)) + (∑ r : Fin 1024, D3 i (sh 2048 (by omega) r) * WI j (sh 5648 (by omega) r))

end Cert.DuSpec

end
-- ==== Proof.DuPay.lean ====
/- The gradient of the input projection, kernel: its payloads element by element. -/
module

public import proofs.«01_k».proof.Proof.Gen.DuKIdeal.Skeleton
public import proofs.«01_k».proof.Proof.DuSpec
public import Idealize.ShloMosaic.Lib.Tactic

@[expose] public section

set_option maxRecDepth 8000

noncomputable section

namespace Cert.DuKIdeal.Pay

open Cert.DuKIdeal Cert.DuKIdeal.Gen Idealize.ShloMosaic Idealize.ShloMosaic.TcCoe Idealize.SL.Sem Cert.NormRow Cert.DuSpec

variable (x v26 v54 : Vec Ideal S512x1024 .f32) (v36 v57 : Vec Ideal S1x1024 .f32)

theorem pay1 (r : Fin 512) (z : Fin 1) : k0_pay1 (F := Ideal) (k0_pay7 x) (ix2 r z) = rs fun k => x (ix2 r k) := by
  pointwise [k0_pay1, k0_pay7]
  rfl

theorem pay2 (r : Fin 512) (j : Fin 1024) : k0_pay2 (F := Ideal) x (k0_pay7 x) (ix2 r j) = xn (fun k => x (ix2 r k)) j := by
  pointwise [k0_pay2]
  rw [pay1]
  rfl

theorem pay3 (r : Fin 512) (j : Fin 1024) : k0_pay3 (F := Ideal) v26 x (k0_pay7 x) v36 v54 (ix2 r j)
    = v54 (ix2 r j) + bwd (fun k => x (ix2 r k)) (fun k => v26 (ix2 r k) * v36 (ix2 0 k)) j := by
  pointwise [k0_pay3]
  simp only [pay1, pay2]
  rfl

theorem pay4 (z : Fin 1) (j : Fin 1024) : k0_pay4 (F := Ideal) v26 x (k0_pay7 x) v57 (ix2 z j)
    = v57 (ix2 z j) + ∑ r : Fin 512, v26 (ix2 r j) * xn (fun k => x (ix2 r k)) j := by
  pointwise [k0_pay4]
  simp only [pay2]

theorem pay5 (z : Fin 1) (j : Fin 1024) : k0_pay5 (F := Ideal) (ix2 z j) = 0 := by
  pointwise [k0_pay5]

variable (v3 : Vec Ideal S512x1536 .bf16) (v4 : Vec Ideal S1536x1024 .bf16) (v7 : Vec Ideal S512x128 .bf16) (v8 : Vec Ideal S128x1024 .bf16)
  (v12 : Vec Ideal S512x3072 .bf16) (v13 : Vec Ideal S3072x1024 .bf16) (v17 v22 : Vec Ideal S512x1024 .bf16) (v18 v23 : Vec Ideal S1024x1024 .bf16)

theorem pay6 (r : Fin 512) (j : Fin 1024) : k0_pay6 (F := Ideal) v3 v4 v7 v8 v12 v13 v17 v18 v22 v23 (ix2 r j)
    = ∑ k : Fin 1536, v3 (ix2 r k) * v4 (ix2 k j) + ∑ k : Fin 128, v7 (ix2 r k) * v8 (ix2 k j) + ∑ k : Fin 3072, v12 (ix2 r k) * v13 (ix2 k j)
      + ∑ k : Fin 1024, v17 (ix2 r k) * v18 (ix2 k j) + ∑ k : Fin 1024, v22 (ix2 r k) * v23 (ix2 k j) := by
  pointwise [k0_pay6]

end Cert.DuKIdeal.Pay

end
-- ==== Proof.DuHost.lean ====
/- The gradient of the input projection, kernel: the operations on the host before the call, one equation for each. -/
module

public import proofs.«01_k».proof.Proof.Lines
public import proofs.«01_k».proof.Proof.Gen.DuKIdeal.Launch

@[expose] public section

set_option maxRecDepth 8000

noncomputable section

namespace Cert.DuKIdeal.Host

open Cert.DuKIdeal Cert.DuKIdeal.Gen
open Idealize.ShloMosaic Idealize.ShloMosaic.TcCoe Idealize.ShloMosaic.StableHlo
open Cert.Lines

variable {F : FTy → Type} [FloatOps F]

/-- The operations before the call, in order. -/
abbrev line : List (HloOp τ sig (Elt F)) := List.flatten [hostOps0, hostOps0_1]
/-- What they write. -/
abbrev W : List (Ref sig .tc) :=
  [main_v0, main_v1, main_v2, main_v3, main_v4, main_v5, main_v6, main_v7, main_v8, main_c, main_call0_v0, main_v9]
theorem writes : Writes (line (F := F)) W := rfl

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W) : at_ V r = V (Proc.devRef .tc r) := keep writes hr V

theorem e_main_v0 : at_ V main_v0 = transpose S6672x1024 [1, 0] (at_ V main_arg5) transposes_S1024x6672_S6672x1024_1_0 := eq1 writes 0 rfl V
theorem e_main_v1 : at_ V main_v1 = extractStridedSlice S1024x1024 ![0, 0] (at_ V main_v0) slices_S6672x1024_S1024x1024_0_0 := eq1 writes 1 rfl V
theorem e_main_v2 : at_ V main_v2 = extractStridedSlice S1536x1024 ![1024, 0] (at_ V main_v0) slices_S6672x1024_S1536x1024_1024_0 := eq1 writes 2 rfl V
theorem e_main_v3 : at_ V main_v3 = extractStridedSlice S16x1024 ![2560, 0] (at_ V main_v0) slices_S6672x1024_S16x1024_2560_0 := eq1 writes 3 rfl V
theorem e_main_v4 : at_ V main_v4 = extractStridedSlice S1024x1024 ![2576, 0] (at_ V main_v0) slices_S6672x1024_S1024x1024_2576_0 := eq1 writes 4 rfl V
theorem e_main_v5 : at_ V main_v5 = extractStridedSlice S1024x1024 ![3600, 0] (at_ V main_v0) slices_S6672x1024_S1024x1024_3600_0 := eq1 writes 5 rfl V
theorem e_main_v6 : at_ V main_v6 = extractStridedSlice S1024x1024 ![4624, 0] (at_ V main_v0) slices_S6672x1024_S1024x1024_4624_0 := eq1 writes 6 rfl V
theorem e_main_v7 : at_ V main_v7 = extractStridedSlice S1024x1024 ![5648, 0] (at_ V main_v0) slices_S6672x1024_S1024x1024_5648_0 := eq1 writes 7 rfl V
theorem e_main_v8 : at_ V main_v8 = (concatenate S5120x1024 0 [⟨S1024x1024, (at_ V main_v4 : (⟨S1024x1024, .bf16⟩ : BufTy).Contents (Elt F))⟩, ⟨S1024x1024, (at_ V main_v6 : (⟨S1024x1024, .bf16⟩ : BufTy).Contents (Elt F))⟩, ⟨S1024x1024, (at_ V main_v7 : (⟨S1024x1024, .bf16⟩ : BufTy).Contents (Elt F))⟩, ⟨S1024x1024, (at_ V main_v1 : (⟨S1024x1024, .bf16⟩ : BufTy).Contents (Elt F))⟩, ⟨S1024x1024, (at_ V main_v5 : (⟨S1024x1024, .bf16⟩ : BufTy).Contents (Elt F))⟩] concatenates_S1024x1024_S1024x1024_S1024x1024_S1024x1024_S1024x1024_S5120x1024_d0) := eqN writes 8 rfl V
theorem e_main_c : at_ V main_c = constantI S_ 32 0#32 := eq0 writes 9 rfl V
theorem e_main_call0_v0 : at_ V main_call0_v0 = sitofp .bf16 (at_ V main_c) := eq1 writes 10 rfl V
theorem e_main_v9 : at_ V main_v9 = pad S128x1024 ![0, 0] ![112, 0] ![0, 0] (at_ V main_v3) (at_ V main_call0_v0) pads_S16x1024_S128x1024_01120_000 h_S_ := eq2 writes 11 rfl V

end Cert.DuKIdeal.Host

end
-- ==== Proof.DuHostVal.lean ====
/- The gradient of the input projection, kernel: the values of the operations before the call. -/
module

public import proofs.«01_k».proof.Proof.DuHost
public import proofs.«01_k».proof.Proof.DuSpec
public import Idealize.ShloMosaic.Lib.Tactic

@[expose] public section

set_option maxRecDepth 8000

noncomputable section

namespace Cert.DuKIdeal.Host

open Cert.DuKIdeal Cert.DuKIdeal.Gen Idealize.ShloMosaic Idealize.ShloMosaic.TcCoe Idealize.ShloMosaic.StableHlo Cert.NormRow Cert.NormsSpec Cert.DuSpec

variable (V : Valuation τ sig (Elt Ideal))

/-- Argument 0. -/
def D3 : Mat 4096 3072 := fun i j => (at_ V main_arg0 : Vec Ideal S4096x3072 .bf16) (ix2 i j)
theorem t_arg0 (i : Fin 4096) (j : Fin 3072) : (at_ V main_arg0 : Vec Ideal S4096x3072 .bf16) (ix2 i j) = D3 V i j := rfl
/-- Argument 1. -/
def DZ : Mat 4096 1024 := fun i j => (at_ V main_arg1 : Vec Ideal S4096x1024 .bf16) (ix2 i j)
theorem t_arg1 (i : Fin 4096) (j : Fin 1024) : (at_ V main_arg1 : Vec Ideal S4096x1024 .bf16) (ix2 i j) = DZ V i j := rfl
/-- Argument 2. -/
def DL : Mat 4096 1024 := fun i j => (at_ V main_arg2 : Vec Ideal S4096x1024 .bf16) (ix2 i j)
theorem t_arg2 (i : Fin 4096) (j : Fin 1024) : (at_ V main_arg2 : Vec Ideal S4096x1024 .bf16) (ix2 i j) = DL V i j := rfl
/-- Argument 3. -/
def DX : Mat 4096 1536 := fun i j => (at_ V main_arg3 : Vec Ideal S4096x1536 .bf16) (ix2 i j)
theorem t_arg3 (i : Fin 4096) (j : Fin 1536) : (at_ V main_arg3 : Vec Ideal S4096x1536 .bf16) (ix2 i j) = DX V i j := rfl
/-- Argument 4. -/
def DT : Mat 4096 128 := fun i j => (at_ V main_arg4 : Vec Ideal S4096x128 .bf16) (ix2 i j)
theorem t_arg4 (i : Fin 4096) (j : Fin 128) : (at_ V main_arg4 : Vec Ideal S4096x128 .bf16) (ix2 i j) = DT V i j := rfl
/-- Argument 5. -/
def WI : Mat 1024 6672 := fun i j => (at_ V main_arg5 : Vec Ideal S1024x6672 .bf16) (ix2 i j)
theorem t_arg5 (i : Fin 1024) (j : Fin 6672) : (at_ V main_arg5 : Vec Ideal S1024x6672 .bf16) (ix2 i j) = WI V i j := rfl
/-- Argument 6. -/
def X : Mat 4096 1024 := fun i j => (at_ V main_arg6 : Vec Ideal S4096x1024 .f32) (ix2 i j)
theorem t_arg6 (i : Fin 4096) (j : Fin 1024) : (at_ V main_arg6 : Vec Ideal S4096x1024 .f32) (ix2 i j) = X V i j := rfl
/-- Argument 7. -/
def DH : Mat 4096 1024 := fun i j => (at_ V main_arg7 : Vec Ideal S4096x1024 .f32) (ix2 i j)
theorem t_arg7 (i : Fin 4096) (j : Fin 1024) : (at_ V main_arg7 : Vec Ideal S4096x1024 .f32) (ix2 i j) = DH V i j := rfl
/-- Argument 8. -/
def G1 : Mat 1 1024 := fun i j => (at_ V main_arg8 : Vec Ideal S1x1024 .f32) (ix2 i j)
theorem t_arg8 (i : Fin 1) (j : Fin 1024) : (at_ V main_arg8 : Vec Ideal S1x1024 .f32) (ix2 i j) = G1 V i j := rfl
/-- The gradient of the normalized input. -/
def dd : Mat 4096 1024 := du (D3 V) (DZ V) (DL V) (DX V) (DT V) (WI V)

theorem t_v0 (i : Fin 6672) (j : Fin 1024) : (at_ V main_v0 : Vec Ideal S6672x1024 .bf16) (ix2 i j) = WI V j i := by
  rw [e_main_v0]
  have h := t_arg5 V
  generalize at_ V main_arg5 = x at h ⊢
  pointwise
  try simp only [h]

theorem t_v1 (i : Fin 1024) (j : Fin 1024) : (at_ V main_v1 : Vec Ideal S1024x1024 .bf16) (ix2 i j) = WI V j (sh 0 (by omega) i) := by
  rw [e_main_v1]
  have h := t_v0 V
  generalize at_ V main_v0 = x at h ⊢
  pointwise
  try simp only [h]
  try congr 1
  try apply Fin.ext
  try simp [sh]

theorem t_v2 (i : Fin 1536) (j : Fin 1024) : (at_ V main_v2 : Vec Ideal S1536x1024 .bf16) (ix2 i j) = WI V j (sh 1024 (by omega) i) := by
  rw [e_main_v2]
  have h := t_v0 V
  generalize at_ V main_v0 = x at h ⊢
  pointwise
  try simp only [h]
  try congr 1
  try apply Fin.ext
  try simp [sh]

theorem t_v3 (i : Fin 16) (j : Fin 1024) : (at_ V main_v3 : Vec Ideal S16x1024 .bf16) (ix2 i j) = WI V j (sh 2560 (by omega) i) := by
  rw [e_main_v3]
  have h := t_v0 V
  generalize at_ V main_v0 = x at h ⊢
  pointwise
  try simp only [h]
  try congr 1
  try apply Fin.ext
  try simp [sh]

theorem t_v4 (i : Fin 1024) (j : Fin 1024) : (at_ V main_v4 : Vec Ideal S1024x1024 .bf16) (ix2 i j) = WI V j (sh 2576 (by omega) i) := by
  rw [e_main_v4]
  have h := t_v0 V
  generalize at_ V main_v0 = x at h ⊢
  pointwise
  try simp only [h]
  try congr 1
  try apply Fin.ext
  try simp [sh]

theorem t_v5 (i : Fin 1024) (j : Fin 1024) : (at_ V main_v5 : Vec Ideal S1024x1024 .bf16) (ix2 i j) = WI V j (sh 3600 (by omega) i) := by
  rw [e_main_v5]
  have h := t_v0 V
  generalize at_ V main_v0 = x at h ⊢
  pointwise
  try simp only [h]
  try congr 1
  try apply Fin.ext
  try simp [sh]

theorem t_v6 (i : Fin 1024) (j : Fin 1024) : (at_ V main_v6 : Vec Ideal S1024x1024 .bf16) (ix2 i j) = WI V j (sh 4624 (by omega) i) := by
  rw [e_main_v6]
  have h := t_v0 V
  generalize at_ V main_v0 = x at h ⊢
  pointwise
  try simp only [h]
  try congr 1
  try apply Fin.ext
  try simp [sh]

theorem t_v7 (i : Fin 1024) (j : Fin 1024) : (at_ V main_v7 : Vec Ideal S1024x1024 .bf16) (ix2 i j) = WI V j (sh 5648 (by omega) i) := by
  rw [e_main_v7]
  have h := t_v0 V
  generalize at_ V main_v0 = x at h ⊢
  pointwise
  try simp only [h]
  try congr 1
  try apply Fin.ext
  try simp [sh]

theorem t_v8_0 (q : Fin 5120) (r j : Fin 1024) (hq : q.val = 0 + r.val) : (at_ V main_v8 : Vec Ideal S5120x1024 .bf16) (ix2 q j) = WI V j (sh 2576 (by omega) r) := by
  rw [e_main_v8]
  exact (concatenate_apply_piece (t := S5120x1024) 0 _ _ (ix2 q j) 0 (by show 0 < 5; omega) S1024x1024 (at_ V main_v4) rfl rfl 0 rfl (ix2 r j)
    (fun b hb => match b with | ⟨0, _⟩ => absurd rfl hb | ⟨1, _⟩ => rfl) hq.symm).trans (t_v4 V r j)

theorem t_v8_1 (q : Fin 5120) (r j : Fin 1024) (hq : q.val = 1024 + r.val) : (at_ V main_v8 : Vec Ideal S5120x1024 .bf16) (ix2 q j) = WI V j (sh 4624 (by omega) r) := by
  rw [e_main_v8]
  exact (concatenate_apply_piece (t := S5120x1024) 0 _ _ (ix2 q j) 1 (by show 1 < 5; omega) S1024x1024 (at_ V main_v6) rfl rfl 1024 rfl (ix2 r j)
    (fun b hb => match b with | ⟨0, _⟩ => absurd rfl hb | ⟨1, _⟩ => rfl) hq.symm).trans (t_v6 V r j)

theorem t_v8_2 (q : Fin 5120) (r j : Fin 1024) (hq : q.val = 2048 + r.val) : (at_ V main_v8 : Vec Ideal S5120x1024 .bf16) (ix2 q j) = WI V j (sh 5648 (by omega) r) := by
  rw [e_main_v8]
  exact (concatenate_apply_piece (t := S5120x1024) 0 _ _ (ix2 q j) 2 (by show 2 < 5; omega) S1024x1024 (at_ V main_v7) rfl rfl 2048 rfl (ix2 r j)
    (fun b hb => match b with | ⟨0, _⟩ => absurd rfl hb | ⟨1, _⟩ => rfl) hq.symm).trans (t_v7 V r j)

theorem t_v8_3 (q : Fin 5120) (r j : Fin 1024) (hq : q.val = 3072 + r.val) : (at_ V main_v8 : Vec Ideal S5120x1024 .bf16) (ix2 q j) = WI V j (sh 0 (by omega) r) := by
  rw [e_main_v8]
  exact (concatenate_apply_piece (t := S5120x1024) 0 _ _ (ix2 q j) 3 (by show 3 < 5; omega) S1024x1024 (at_ V main_v1) rfl rfl 3072 rfl (ix2 r j)
    (fun b hb => match b with | ⟨0, _⟩ => absurd rfl hb | ⟨1, _⟩ => rfl) hq.symm).trans (t_v1 V r j)

theorem t_v8_4 (q : Fin 5120) (r j : Fin 1024) (hq : q.val = 4096 + r.val) : (at_ V main_v8 : Vec Ideal S5120x1024 .bf16) (ix2 q j) = WI V j (sh 3600 (by omega) r) := by
  rw [e_main_v8]
  exact (concatenate_apply_piece (t := S5120x1024) 0 _ _ (ix2 q j) 4 (by show 4 < 5; omega) S1024x1024 (at_ V main_v5) rfl rfl 4096 rfl (ix2 r j)
    (fun b hb => match b with | ⟨0, _⟩ => absurd rfl hb | ⟨1, _⟩ => rfl) hq.symm).trans (t_v5 V r j)

theorem t_call0_v0 (z : S_.Idx) : ((at_ V main_call0_v0 : Vec Ideal S_ .bf16) z : EReal) = (0 : EReal) := by
  rw [e_main_call0_v0, e_main_c]
  show (((0#32).toInt : ℝ) : EReal) = 0
  simp

theorem t_v9_0 (q : Fin 128) (r : Fin 16) (j : Fin 1024) (hq : q.val = 0 + r.val) : (at_ V main_v9 : Vec Ideal S128x1024 .bf16) (ix2 q j) = WI V j (sh 2560 (by omega) r) := by
  rw [e_main_v9]
  have h := t_v3 V r j
  generalize at_ V main_v3 = x at h ⊢
  rw [← h, show q = sh 0 (by omega) r from Fin.ext hq]
  have hr := r.isLt
  pointwise
  refine (dif_pos fun a => ?_).trans ?_
  · match a with
    | ⟨0, _⟩ => exact ⟨Nat.zero_le _, Nat.mod_one _, (show (0 + r.val - 0) / (0 + 1) < 16 by omega)⟩
    | ⟨1, _⟩ => exact ⟨Nat.zero_le _, Nat.mod_one _, (show (j.val - 0) / (0 + 1) < 1024 by omega)⟩
  · simp [sh]

theorem t_v9_1 (q : Fin 128) (r : Fin 112) (j : Fin 1024) (hq : q.val = 16 + r.val) : ((at_ V main_v9 : Vec Ideal S128x1024 .bf16) (ix2 q j) : EReal) = (0 : EReal) := by
  rw [e_main_v9]
  have h := t_call0_v0 V
  generalize at_ V main_call0_v0 = x at h ⊢
  have hn : ¬ q.val < 16 := by omega
  pointwise
  refine (dif_neg fun hh => ?_).trans ?_
  · have h2 : (q.val - 0) / (0 + 1) < 16 := (hh ⟨0, Nat.zero_lt_two⟩).2.2
    omega
  · first | rfl | exact h _

/-- The joined weight. -/
def B8 : Mat 5120 1024 := fun i j => (at_ V main_v8 : Vec Ideal S5120x1024 .bf16) (ix2 i j)
/-- The middle columns of the weight, transposed. -/
def B2 : Mat 1536 1024 := fun i j => (at_ V main_v2 : Vec Ideal S1536x1024 .bf16) (ix2 i j)
/-- The padded weight. -/
def B9 : Mat 128 1024 := fun i j => (at_ V main_v9 : Vec Ideal S128x1024 .bf16) (ix2 i j)

theorem sum3 (i : Fin 4096) (j : Fin 1024) : ∑ k : Fin 3072, D3 V i k * B8 V (sh 0 (by omega) k) j
    = (∑ r : Fin 1024, D3 V i (sh 0 (by omega) r) * WI V j (sh 2576 (by omega) r)) + (∑ r : Fin 1024, D3 V i (sh 1024 (by omega) r) * WI V j (sh 4624 (by omega) r)) + (∑ r : Fin 1024, D3 V i (sh 2048 (by omega) r) * WI V j (sh 5648 (by omega) r)) :=
  (cut3 _).trans (congrArg₂ (· + ·) (congrArg₂ (· + ·) (Finset.sum_congr rfl fun r _ => congrArg (D3 V i _ * ·) (t_v8_0 V _ r j (show 0 + (0 + r.val) = 0 + r.val by omega))) (Finset.sum_congr rfl fun r _ => congrArg (D3 V i _ * ·) (t_v8_1 V _ r j (show 0 + (1024 + r.val) = 1024 + r.val by omega)))) (Finset.sum_congr rfl fun r _ => congrArg (D3 V i _ * ·) (t_v8_2 V _ r j (show 0 + (2048 + r.val) = 2048 + r.val by omega))))

theorem sum2 (i : Fin 4096) (j : Fin 1024) : ∑ k : Fin 128, DT V i k * B9 V k j
    = (∑ r : Fin 16, DT V i (sh 0 (by omega) r) * WI V j (sh 2560 (by omega) r)) := by
  refine (cut2 _).trans ?_
  have h : ∀ r : Fin 112, DT V i (sh 16 (by omega) r) * B9 V (sh 16 (by omega) r) j = (0 : EReal) := fun r => by
    rw [show B9 V (sh 16 (by omega) r) j = 0 from t_v9_1 V _ r j rfl, mul_zero]
  rw [Finset.sum_congr rfl fun r _ => h r, Finset.sum_const_zero, add_zero]
  exact Finset.sum_congr rfl fun r _ => congrArg (DT V i _ * ·) (t_v9_0 V _ r j rfl)

theorem dd_eq (i : Fin 4096) (j : Fin 1024) :
    ∑ k : Fin 1536, DX V i k * B2 V k j
      + ∑ k : Fin 128, DT V i k * B9 V k j
      + ∑ k : Fin 3072, D3 V i k * B8 V (sh 0 (by omega) k) j
      + ∑ k : Fin 1024, DZ V i k * B8 V (sh 3072 (by omega) k) j
      + ∑ k : Fin 1024, DL V i k * B8 V (sh 4096 (by omega) k) j
    = dd V i j := by
  have hz : ∀ k : Fin 1024, B8 V (sh 3072 (by omega) k) j = WI V j (sh 0 (by omega) k) := fun k => t_v8_3 V _ k j rfl
  have hl : ∀ k : Fin 1024, B8 V (sh 4096 (by omega) k) j = WI V j (sh 3600 (by omega) k) := fun k => t_v8_4 V _ k j rfl
  rw [sum2, sum3]
  have h2 : ∀ k : Fin 1536, B2 V k j = WI V j (sh 1024 (by omega) k) := fun k => t_v2 V k j
  simp only [hz, hl, h2]
  unfold dd du
  have key : ∀ a b c d e f g : EReal, b + c + (d + f + g) + a + e = a + b + c + d + e + f + g := by
    intros
    ac_rfl
  exact key _ _ _ _ _ _ _

end Cert.DuKIdeal.Host

end
-- ==== Proof.DuVal.lean ====
/- The gradient of the input projection, kernel: its results element by element. -/
module

public import proofs.«01_k».proof.Proof.DuBlocks
public import proofs.«01_k».proof.Proof.DuPay
public import proofs.«01_k».proof.Proof.DuHostVal

@[expose] public section

set_option maxRecDepth 8000

noncomputable section

namespace Cert.DuKIdeal.Val

open Cert.DuKIdeal Cert.DuKIdeal.Gen Idealize.ShloMosaic Idealize.ShloMosaic.TcCoe Idealize.SL.Sem Cert.NormRow Cert.NormsSpec Cert.DuSpec Cert.Tiles
open Cert.DuKIdeal.Host Cert.DuKIdeal.Pay Cert.DuKIdeal.Blocks
open Cert.DuKIdeal.Gen (V)

variable (m : (ℓ : Loc nD τ sig) → Buf (Elt Ideal) ℓ) (c : Dev nD)

/-- What the device's memory holds at launch. -/
abbrev V0 : Valuation τ sig (Elt Ideal) := fun b => m (c, b)

/-- Row `r` of the block of point `t`. -/
def row (t : Fin cfg0.N) (r : Fin 512) : Fin 4096 := ⟨512 * t.val + r.val, by have := t.isLt; have : cfg0.N = 8 := N_0; have := r.isLt; omega⟩

theorem ix_0 (t : Fin cfg0.N) : win0_0.index t 0 = t.val ∧ win0_0.index t 1 = 0 := by decide +revert

theorem ix_1 (t : Fin cfg0.N) : win0_1.index t 0 = t.val ∧ win0_1.index t 1 = 0 := by decide +revert

theorem ix_2 (t : Fin cfg0.N) : win0_2.index t 0 = t.val ∧ win0_2.index t 1 = 0 := by decide +revert

theorem ix_3 (t : Fin cfg0.N) : win0_3.index t 0 = t.val ∧ win0_3.index t 1 = 0 := by decide +revert

theorem ix_4 (t : Fin cfg0.N) : win0_4.index t 0 = t.val ∧ win0_4.index t 1 = 0 := by decide +revert

theorem ix_5 (t : Fin cfg0.N) : win0_5.index t 0 = 0 ∧ win0_5.index t 1 = 0 := by decide +revert

theorem ix_6 (t : Fin cfg0.N) : win0_6.index t 0 = 0 ∧ win0_6.index t 1 = 0 := by decide +revert

theorem ix_7 (t : Fin cfg0.N) : win0_7.index t 0 = 0 ∧ win0_7.index t 1 = 0 := by decide +revert

theorem ix_8 (t : Fin cfg0.N) : win0_8.index t 0 = t.val ∧ win0_8.index t 1 = 0 := by decide +revert

theorem ix_9 (t : Fin cfg0.N) : win0_9.index t 0 = t.val ∧ win0_9.index t 1 = 0 := by decide +revert

theorem ix_10 (t : Fin cfg0.N) : win0_10.index t 0 = 0 ∧ win0_10.index t 1 = 0 := by decide +revert

theorem ix_11 (t : Fin cfg0.N) : win0_11.index t 0 = t.val ∧ win0_11.index t 1 = 0 := by decide +revert

theorem blk_0 (t : Fin cfg0.N) (r : Fin 512) (k : Fin 3072) : (iblk m c 0 t : Vec Ideal S512x3072 .bf16) (ix2 r k) = D3 (V0 m c) (row t r) k := by
  rw [← t_arg0 (V0 m c) (row t r) k]
  unfold iblk
  rw [View.read_apply]
  show V m c main_arg0 _ = V m c main_arg0 _
  congr 1
  funext a
  apply Fin.ext
  match a with
  | ⟨0, _⟩ => show win0_0.index t 0 * 512 + 1 * r.val = 512 * t.val + r.val; rw [(ix_0 t).1]; omega
  | ⟨1, _⟩ => show win0_0.index t 1 * 3072 + 1 * k.val = k.val; rw [(ix_0 t).2]; omega

theorem blk_1 (t : Fin cfg0.N) (r : Fin 512) (k : Fin 1024) : (iblk m c 1 t : Vec Ideal S512x1024 .bf16) (ix2 r k) = DZ (V0 m c) (row t r) k := by
  rw [← t_arg1 (V0 m c) (row t r) k]
  unfold iblk
  rw [View.read_apply]
  show V m c main_arg1 _ = V m c main_arg1 _
  congr 1
  funext a
  apply Fin.ext
  match a with
  | ⟨0, _⟩ => show win0_1.index t 0 * 512 + 1 * r.val = 512 * t.val + r.val; rw [(ix_1 t).1]; omega
  | ⟨1, _⟩ => show win0_1.index t 1 * 1024 + 1 * k.val = k.val; rw [(ix_1 t).2]; omega

theorem blk_2 (t : Fin cfg0.N) (r : Fin 512) (k : Fin 1024) : (iblk m c 2 t : Vec Ideal S512x1024 .bf16) (ix2 r k) = DL (V0 m c) (row t r) k := by
  rw [← t_arg2 (V0 m c) (row t r) k]
  unfold iblk
  rw [View.read_apply]
  show V m c main_arg2 _ = V m c main_arg2 _
  congr 1
  funext a
  apply Fin.ext
  match a with
  | ⟨0, _⟩ => show win0_2.index t 0 * 512 + 1 * r.val = 512 * t.val + r.val; rw [(ix_2 t).1]; omega
  | ⟨1, _⟩ => show win0_2.index t 1 * 1024 + 1 * k.val = k.val; rw [(ix_2 t).2]; omega

theorem blk_3 (t : Fin cfg0.N) (r : Fin 512) (k : Fin 1536) : (iblk m c 3 t : Vec Ideal S512x1536 .bf16) (ix2 r k) = DX (V0 m c) (row t r) k := by
  rw [← t_arg3 (V0 m c) (row t r) k]
  unfold iblk
  rw [View.read_apply]
  show V m c main_arg3 _ = V m c main_arg3 _
  congr 1
  funext a
  apply Fin.ext
  match a with
  | ⟨0, _⟩ => show win0_3.index t 0 * 512 + 1 * r.val = 512 * t.val + r.val; rw [(ix_3 t).1]; omega
  | ⟨1, _⟩ => show win0_3.index t 1 * 1536 + 1 * k.val = k.val; rw [(ix_3 t).2]; omega

theorem blk_4 (t : Fin cfg0.N) (r : Fin 512) (k : Fin 128) : (iblk m c 4 t : Vec Ideal S512x128 .bf16) (ix2 r k) = DT (V0 m c) (row t r) k := by
  rw [← t_arg4 (V0 m c) (row t r) k]
  unfold iblk
  rw [View.read_apply]
  show V m c main_arg4 _ = V m c main_arg4 _
  congr 1
  funext a
  apply Fin.ext
  match a with
  | ⟨0, _⟩ => show win0_4.index t 0 * 512 + 1 * r.val = 512 * t.val + r.val; rw [(ix_4 t).1]; omega
  | ⟨1, _⟩ => show win0_4.index t 1 * 128 + 1 * k.val = k.val; rw [(ix_4 t).2]; omega

theorem blk_5 (t : Fin cfg0.N) (r : Fin 5120) (k : Fin 1024) : (iblk m c 5 t : Vec Ideal S5120x1024 .bf16) (ix2 r k) = B8 (V0 m c) r k := by
  show _ = at_ (V0 m c) main_v8 (ix2 r k)
  unfold iblk
  rw [View.read_apply]
  show V m c main_v8 _ = V m c main_v8 _
  congr 1
  funext a
  apply Fin.ext
  match a with
  | ⟨0, _⟩ => show win0_5.index t 0 * 5120 + 1 * r.val = r.val; rw [(ix_5 t).1]; omega
  | ⟨1, _⟩ => show win0_5.index t 1 * 1024 + 1 * k.val = k.val; rw [(ix_5 t).2]; omega

theorem blk_6 (t : Fin cfg0.N) (r : Fin 1536) (k : Fin 1024) : (iblk m c 6 t : Vec Ideal S1536x1024 .bf16) (ix2 r k) = B2 (V0 m c) r k := by
  show _ = at_ (V0 m c) main_v2 (ix2 r k)
  unfold iblk
  rw [View.read_apply]
  show V m c main_v2 _ = V m c main_v2 _
  congr 1
  funext a
  apply Fin.ext
  match a with
  | ⟨0, _⟩ => show win0_6.index t 0 * 1536 + 1 * r.val = r.val; rw [(ix_6 t).1]; omega
  | ⟨1, _⟩ => show win0_6.index t 1 * 1024 + 1 * k.val = k.val; rw [(ix_6 t).2]; omega

theorem blk_7 (t : Fin cfg0.N) (r : Fin 128) (k : Fin 1024) : (iblk m c 7 t : Vec Ideal S128x1024 .bf16) (ix2 r k) = B9 (V0 m c) r k := by
  show _ = at_ (V0 m c) main_v9 (ix2 r k)
  unfold iblk
  rw [View.read_apply]
  show V m c main_v9 _ = V m c main_v9 _
  congr 1
  funext a
  apply Fin.ext
  match a with
  | ⟨0, _⟩ => show win0_7.index t 0 * 128 + 1 * r.val = r.val; rw [(ix_7 t).1]; omega
  | ⟨1, _⟩ => show win0_7.index t 1 * 1024 + 1 * k.val = k.val; rw [(ix_7 t).2]; omega

theorem blk_8 (t : Fin cfg0.N) (r : Fin 512) (k : Fin 1024) : (iblk m c 8 t : Vec Ideal S512x1024 .f32) (ix2 r k) = X (V0 m c) (row t r) k := by
  rw [← t_arg6 (V0 m c) (row t r) k]
  unfold iblk
  rw [View.read_apply]
  show V m c main_arg6 _ = V m c main_arg6 _
  congr 1
  funext a
  apply Fin.ext
  match a with
  | ⟨0, _⟩ => show win0_8.index t 0 * 512 + 1 * r.val = 512 * t.val + r.val; rw [(ix_8 t).1]; omega
  | ⟨1, _⟩ => show win0_8.index t 1 * 1024 + 1 * k.val = k.val; rw [(ix_8 t).2]; omega

theorem blk_9 (t : Fin cfg0.N) (r : Fin 512) (k : Fin 1024) : (iblk m c 9 t : Vec Ideal S512x1024 .f32) (ix2 r k) = DH (V0 m c) (row t r) k := by
  rw [← t_arg7 (V0 m c) (row t r) k]
  unfold iblk
  rw [View.read_apply]
  show V m c main_arg7 _ = V m c main_arg7 _
  congr 1
  funext a
  apply Fin.ext
  match a with
  | ⟨0, _⟩ => show win0_9.index t 0 * 512 + 1 * r.val = 512 * t.val + r.val; rw [(ix_9 t).1]; omega
  | ⟨1, _⟩ => show win0_9.index t 1 * 1024 + 1 * k.val = k.val; rw [(ix_9 t).2]; omega

theorem blk_10 (t : Fin cfg0.N) (r : Fin 1) (k : Fin 1024) : (iblk m c 10 t : Vec Ideal S1x1024 .f32) (ix2 r k) = G1 (V0 m c) r k := by
  rw [← t_arg8 (V0 m c) r k]
  unfold iblk
  rw [View.read_apply]
  show V m c main_arg8 _ = V m c main_arg8 _
  congr 1
  funext a
  apply Fin.ext
  match a with
  | ⟨0, _⟩ => show win0_10.index t 0 * 1 + 1 * r.val = r.val; rw [(ix_10 t).1]; omega
  | ⟨1, _⟩ => show win0_10.index t 1 * 1024 + 1 * k.val = k.val; rw [(ix_10 t).2]; omega

theorem ldA (x : Vec Ideal S5120x1024 .bf16) (r : Fin 3072) (k : Fin 1024) : (View.ld x (Rect.unit (s := S5120x1024) ![0, 0] S3072x1024.size inb_S5120x1024_S3072x1024_0_0)) (ix2 r k) = x (ix2 (sh 0 (by omega) r) k) := by
  unfold View.ld
  congr 1
  funext a
  apply Fin.ext
  match a with
  | ⟨0, _⟩ => show 0 + 1 * r.val = 0 + r.val; omega
  | ⟨1, _⟩ => show 0 + 1 * k.val = k.val; omega

theorem ldB (x : Vec Ideal S5120x1024 .bf16) (r : Fin 1024) (k : Fin 1024) : (View.ld x (Rect.unit (s := S5120x1024) ![3072, 0] S1024x1024.size inb_S5120x1024_S1024x1024_3072_0)) (ix2 r k) = x (ix2 (sh 3072 (by omega) r) k) := by
  unfold View.ld
  congr 1
  funext a
  apply Fin.ext
  match a with
  | ⟨0, _⟩ => show 3072 + 1 * r.val = 3072 + r.val; omega
  | ⟨1, _⟩ => show 0 + 1 * k.val = k.val; omega

theorem ldC (x : Vec Ideal S5120x1024 .bf16) (r : Fin 1024) (k : Fin 1024) : (View.ld x (Rect.unit (s := S5120x1024) ![4096, 0] S1024x1024.size inb_S5120x1024_S1024x1024_4096_0)) (ix2 r k) = x (ix2 (sh 4096 (by omega) r) k) := by
  unfold View.ld
  congr 1
  funext a
  apply Fin.ext
  match a with
  | ⟨0, _⟩ => show 4096 + 1 * r.val = 4096 + r.val; omega
  | ⟨1, _⟩ => show 0 + 1 * k.val = k.val; omega

theorem pay6l (x0 : Vec Ideal S512x3072 .bf16) (x1 x2 : Vec Ideal S512x1024 .bf16) (x3 : Vec Ideal S512x1536 .bf16) (x4 : Vec Ideal S512x128 .bf16)
    (x5 : Vec Ideal S5120x1024 .bf16) (x6 : Vec Ideal S1536x1024 .bf16) (x7 : Vec Ideal S128x1024 .bf16) (r : Fin 512) (j : Fin 1024) :
    k0_pay6 (F := Ideal) x3 x6 x4 x7 x0 (View.ld x5 (Rect.unit (s := S5120x1024) ![0, 0] S3072x1024.size inb_S5120x1024_S3072x1024_0_0)) x1 (View.ld x5 (Rect.unit (s := S5120x1024) ![3072, 0] S1024x1024.size inb_S5120x1024_S1024x1024_3072_0)) x2 (View.ld x5 (Rect.unit (s := S5120x1024) ![4096, 0] S1024x1024.size inb_S5120x1024_S1024x1024_4096_0)) (ix2 r j)
    = ∑ k : Fin 1536, x3 (ix2 r k) * x6 (ix2 k j) + ∑ k : Fin 128, x4 (ix2 r k) * x7 (ix2 k j) + ∑ k : Fin 3072, x0 (ix2 r k) * x5 (ix2 (sh 0 (by omega) k) j)
      + ∑ k : Fin 1024, x1 (ix2 r k) * x5 (ix2 (sh 3072 (by omega) k) j) + ∑ k : Fin 1024, x2 (ix2 r k) * x5 (ix2 (sh 4096 (by omega) k) j) := by
  refine (pay6 _ _ _ _ _ _ _ _ _ _ r j).trans ?_
  exact congrArg₂ (· + ·) (congrArg₂ (· + ·) (congrArg₂ (· + ·) rfl
    (Finset.sum_congr rfl fun k _ => congrArg (x0 (ix2 r k) * ·) (ldA x5 k j)))
    (Finset.sum_congr rfl fun k _ => congrArg (x1 (ix2 r k) * ·) (ldB x5 k j)))
    (Finset.sum_congr rfl fun k _ => congrArg (x2 (ix2 r k) * ·) (ldC x5 k j))

/-- The gradient of the normalized input at the rows of point `t`. -/
def dblk (t : Fin cfg0.N) : Vec Ideal S512x1024 .f32 := k0_pay6 (iblk m c 3 t) (iblk m c 6 t) (iblk m c 4 t) (iblk m c 7 t) (iblk m c 0 t) (View.ld (iblk m c 5 t : Vec Ideal S5120x1024 .bf16) (Rect.unit (s := S5120x1024) ![0, 0] S3072x1024.size inb_S5120x1024_S3072x1024_0_0)) (iblk m c 1 t) (View.ld (iblk m c 5 t : Vec Ideal S5120x1024 .bf16) (Rect.unit (s := S5120x1024) ![3072, 0] S1024x1024.size inb_S5120x1024_S1024x1024_3072_0)) (iblk m c 2 t) (View.ld (iblk m c 5 t : Vec Ideal S5120x1024 .bf16) (Rect.unit (s := S5120x1024) ![4096, 0] S1024x1024.size inb_S5120x1024_S1024x1024_4096_0))

theorem dd_blk (t : Fin cfg0.N) (r : Fin 512) (j : Fin 1024) : dblk m c t (ix2 r j) = dd (V0 m c) (row t r) j := by
  unfold dblk
  refine (pay6l (iblk m c 0 t) (iblk m c 1 t) (iblk m c 2 t) (iblk m c 3 t) (iblk m c 4 t) (iblk m c 5 t) (iblk m c 6 t) (iblk m c 7 t) r j).trans ?_
  refine Eq.trans ?_ (dd_eq (V0 m c) (row t r) j)
  exact congrArg₂ (· + ·) (congrArg₂ (· + ·) (congrArg₂ (· + ·) (congrArg₂ (· + ·)
    (Finset.sum_congr rfl fun k _ => congrArg₂ (· * ·) (blk_3 m c t r k) (blk_6 m c t k j))
    (Finset.sum_congr rfl fun k _ => congrArg₂ (· * ·) (blk_4 m c t r k) (blk_7 m c t k j)))
    (Finset.sum_congr rfl fun k _ => congrArg₂ (· * ·) (blk_0 m c t r k) (blk_5 m c t _ j)))
    (Finset.sum_congr rfl fun k _ => congrArg₂ (· * ·) (blk_1 m c t r k) (blk_5 m c t _ j)))
    (Finset.sum_congr rfl fun k _ => congrArg₂ (· * ·) (blk_2 m c t r k) (blk_5 m c t _ j))

theorem point_11 (t : Fin cfg0.N) (r : Fin 512) (j : Fin 1024) :
    k0_pay3 (F := Ideal) (dblk m c t) (iblk m c 8 t) (k0_pay7 (iblk m c 8 t)) (iblk m c 10 t) (iblk m c 9 t) (ix2 r j) = dh (DH (V0 m c)) (X (V0 m c)) (dd (V0 m c)) (G1 (V0 m c)) (row t r) j := by
  refine (pay3 _ _ _ _ r j).trans ?_
  have e8 : (fun k => (iblk m c 8 t : Vec Ideal S512x1024 .f32) (ix2 r k)) = X (V0 m c) (row t r) := funext fun k => blk_8 m c t r k
  have ed : (fun k => dblk m c t (ix2 r k) * (iblk m c 10 t : Vec Ideal S1x1024 .f32) (ix2 0 k)) = fun k => dd (V0 m c) (row t r) k * G1 (V0 m c) 0 k :=
    funext fun k => congrArg₂ (· * ·) (dd_blk m c t r k) (blk_10 m c t 0 k)
  unfold dh
  exact congrArg₂ (· + ·) (blk_9 m c t r j) (congrFun (congrArg₂ bwd e8 ed) j)

theorem point_12 (t : Fin cfg0.N) (z : Fin 1) (j : Fin 1024) (s : Vec Ideal S1x1024 .f32) (e : EReal) (h : s (ix2 z j) = e) :
    k0_pay4 (F := Ideal) (dblk m c t) (iblk m c 8 t) (k0_pay7 (iblk m c 8 t)) s (ix2 z j)
    = e + ∑ r : Fin 512, dd (V0 m c) (row t r) j * xn (X (V0 m c) (row t r)) j := by
  refine (pay4 _ _ _ z j).trans ?_
  exact congrArg₂ (· + ·) h (Finset.sum_congr rfl fun r _ => congrArg₂ (· * ·) (dd_blk m c t r j)
    (congrFun (congrArg xn (funext fun k => blk_8 m c t r k)) j))

theorem out_11 (t : Fin cfg0.N) (r : Fin 512) (j : Fin 1024) : (outsAt0 m c t.val t.isLt).1 (ix2 r j) = dh (DH (V0 m c)) (X (V0 m c)) (dd (V0 m c)) (G1 (V0 m c)) (row t r) j := by
  by_cases h0 : t.val % 8 = 0
  · rw [outsAt0_A m c t h0]
    dsimp only
    rw [out0_A_11_eq]
    exact point_11 m c t r j
  · rw [outsAt0_B m c t h0]
    dsimp only
    rw [out0_B_11_eq]
    exact point_11 m c t r j

/-- What the accumulated sum holds after point `n`: the rows so far. -/
theorem out_12 (z : Fin 1) (j : Fin 1024) : ∀ (n : ℕ) (hn : n < cfg0.N),
    (outsAt0 m c n hn).2 (ix2 z j) = part (fun i => dd (V0 m c) i j * xn (X (V0 m c) i) j) (512 * (n + 1))
  | 0, hn => by
    rw [show outsAt0 m c 0 hn = _ from outsAt0_A m c ⟨0, hn⟩ rfl]
    dsimp only
    rw [out0_A_12_eq]
    refine (point_12 m c ⟨0, hn⟩ z j _ 0 (pay5 z j)).trans ?_
    rw [zero_add, show 512 * (0 + 1) = 0 + 512 from rfl, part_add _ 0 512 (by omega), part_zero, zero_add]
    rfl
  | n + 1, hn => by
    have hN : cfg0.N = 8 := N_0
    have hB : ¬(⟨n + 1, hn⟩ : Fin cfg0.N).val % 8 = 0 := by dsimp only; omega
    rw [show outsAt0 m c (n + 1) hn = _ from outsAt0_B m c ⟨n + 1, hn⟩ hB]
    dsimp only
    rw [out0_B_12_eq]
    refine (point_12 m c ⟨n + 1, hn⟩ z j _ _ (out_12 z j n (Nat.lt_of_succ_lt hn))).trans ?_
    rw [show 512 * (n + 1 + 1) = 512 * (n + 1) + 512 from rfl, part_add _ (512 * (n + 1)) 512 (by omega)]
    rfl

/-- Result 0. -/
def res11 : Vec Ideal S4096x1024 .f32 := fun i => dh (DH (V0 m c)) (X (V0 m c)) (dd (V0 m c)) (G1 (V0 m c)) (i 0) (i 1)

theorem flush_11 (t : Fin cfg0.N) : (dats m 0 c).flushed 11 t = ((cfg0.win 11).blk t).view.read (Elt Ideal) (res11 m c) := by
  show (cfg0.win 11).cut (grid0.coords t) ((dats m 0 c).after 11 t) = _
  rw [after0_11]
  funext y
  rw [View.read_apply]
  show (outsAt0 m c t.val t.isLt).1 y = res11 m c _
  obtain ⟨r, j, rfl⟩ : ∃ (r : Fin 512) (j : Fin 1024), y = ix2 r j := ⟨y 0, y 1, eq_ix2 y⟩
  rw [out_11]
  unfold res11
  congr 1
  · apply Fin.ext
    show 512 * t.val + r.val = win0_11.index t 0 * 512 + 1 * r.val
    rw [(ix_11 t).1]; omega
  · apply Fin.ext
    show j.val = win0_11.index t 1 * 1024 + 1 * j.val
    rw [(ix_11 t).2]; omega

theorem final_11 : (dats m 0 c).arrAt 11 cfg0.N = res11 m c :=
  (dats m 0 c).arrAt_eq_of_cover 11 (res11 m c) (fun t _ => flush_11 m c t) fun i => by
    have hN : cfg0.N = 8 := N_0
    have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_11 t, ?_⟩
    show i ∈ ((View.whole main_v10_0).slice (win0_11.rect t)).set
    rw [View.set_slice_whole, Rect.mem_set_unit]
    intro a
    match a with
    | ⟨0, _⟩ =>
      show win0_11.index t 0 * 512 ≤ (i 0 : Nat) ∧ (i 0 : Nat) < win0_11.index t 0 * 512 + 512
      rw [(ix_11 t).1]; omega
    | ⟨1, _⟩ =>
      show win0_11.index t 1 * 1024 ≤ (i 1 : Nat) ∧ (i 1 : Nat) < win0_11.index t 1 * 1024 + 1024
      rw [(ix_11 t).2]; omega
/-- Result 1. -/
def res12 : Vec Ideal S1x1024 .f32 := fun i => dscale (dd (V0 m c)) (X (V0 m c)) (i 0) (i 1)

theorem flush_12 (t : Fin cfg0.N) (hf : (cfg0.win 12).flush t = true) : (dats m 0 c).flushed 12 t = ((cfg0.win 12).blk t).view.read (Elt Ideal) (res12 m c) := by
  have hN : cfg0.N = 8 := N_0
  have h7 : t.val = 7 := by have := (flush0_12 t).mp hf; have := t.isLt; omega
  obtain rfl : t = t0_7 := Fin.ext h7
  show (cfg0.win 12).cut (grid0.coords t0_7) ((dats m 0 c).after 12 t0_7) = _
  rw [after0_12]
  have e : (outsAt0 m c t0_7.val t0_7.isLt).2 = res12 m c := by
    funext y
    obtain ⟨r, j, rfl⟩ : ∃ (r : Fin 1) (j : Fin 1024), y = ix2 r j := ⟨y 0, y 1, eq_ix2 y⟩
    rw [out_12 m c r j t0_7.val t0_7.isLt]
    exact part_all _
  rw [e]
  have hz' : (fun a => win0_12.index t0_7 a * main_v10_1.ty.shape.size a) = fun _ => 0 := funext fun a => by fin_cases a <;> decide
  exact (Memref.read_access_unit_zero (Elt Ideal) main_v10_1 hz' (fun a => by rw [congrFun hz' a]; simp) (res12 m c)).symm

theorem final_12 : (dats m 0 c).arrAt 12 cfg0.N = res12 m c :=
  (dats m 0 c).arrAt_eq_of_cover 12 (res12 m c) (flush_12 m c) fun i => by
    have h0 : (i 0 : Nat) < 1 := (i 0).isLt
    have h1 : (i 1 : Nat) < 1024 := (i 1).isLt
    refine ⟨t0_7, (flush0_12 t0_7).mpr rfl, ?_⟩
    show i ∈ ((View.whole main_v10_1).slice (win0_12.rect t0_7)).set
    rw [View.set_slice_whole, Rect.mem_set_unit]
    intro a
    match a with
    | ⟨0, _⟩ =>
      show win0_12.index t0_7 0 * 1 ≤ (i 0 : Nat) ∧ (i 0 : Nat) < win0_12.index t0_7 0 * 1 + 1
      rw [show win0_12.index t0_7 0 = 0 from by decide +kernel]; omega
    | ⟨1, _⟩ =>
      show win0_12.index t0_7 1 * 1024 ≤ (i 1 : Nat) ∧ (i 1 : Nat) < win0_12.index t0_7 1 * 1024 + 1024
      rw [show win0_12.index t0_7 1 = 0 from by decide +kernel]; omega

end Cert.DuKIdeal.Val

end
-- ==== Proof.DuRef.lean ====
/- The gradient of the input projection and its norm, reference: its operations in order, its run, and what it leaves in its arguments. -/
module

public import proofs.«01_k».proof.Proof.Lines
public import proofs.«01_k».proof.Proof.Gen.DuRIdeal
public import Idealize.ShloMosaic.Lib.StableHlo.Run

@[expose] public section

set_option maxRecDepth 8000

noncomputable section

namespace Cert.DuRIdeal.Line

open Cert.DuRIdeal Cert.DuRIdeal.Gen Idealize.SL.Sem
open Idealize.ShloMosaic Idealize.ShloMosaic.TcCoe Idealize.ShloMosaic.StableHlo
open Cert.Lines

variable {F : FTy → Type} [FloatOps F]

/-- The operations, in order. -/
abbrev line : List (HloOp τ sig (Elt F)) :=
  [ unary main_arg5 main_v0 (extf .f32 · bitsLt_bf16_f32),
    binary main_arg6 main_arg6 main_v1 mulf,
    nullary main_cst (constant S_ .f32 0x00000000#32),
    binary main_v1 main_cst main_v2 (fun x v => Host.reduceAdd x v reducesTo_S4096x1024_S4096_d1 h_S_),
    unary main_v2 main_v3 (broadcastInDim S4096x1 ![0] bcast_S4096_S4096x1_0),
    nullary main_cst_0 (constant S_ .f32 0x44800000#32),
    unary main_cst_0 main_v4 (broadcastInDim S4096x1 ![] bcast_S_S4096x1),
    binary main_v3 main_v4 main_v5 Host.divf,
    nullary main_cst_1 (constant S_ .f32 0x358637BD#32),
    unary main_cst_1 main_v6 (broadcastInDim S4096x1 ![] bcast_S_S4096x1),
    binary main_v5 main_v6 main_v7 addf,
    unary main_v7 main_v8 Host.rsqrt,
    binary main_v8 main_v7 main_v9 Host.divf,
    nullary main_cst_2 (constant S_ .f32 0xBF000000#32),
    unary main_cst_2 main_v10 (broadcastInDim S4096x1 ![] bcast_S_S4096x1),
    binary main_v10 main_v9 main_v11 mulf,
    unary main_v8 main_v12 (broadcastInDim S4096x1024 ![0, 1] bcast_S4096x1_S4096x1024_0_1),
    binary main_arg6 main_v12 main_v13 mulf,
    unary main_arg8 main_v14 (broadcastInDim S4096x1024 ![0, 1] bcast_S1x1024_S4096x1024_0_1),
    binary main_v13 main_v14 main_v15 mulf,
    binary main_v15 main_v0 main_v16 (fun l r => Host.dotGeneral dot_S4096x1024_S1024x6672_S4096x6672_1_0_0_1_n_n none l r),
    unary main_v16 main_v17 (extractStridedSlice S4096x1024 ![0, 0] · slices_S4096x6672_S4096x1024_0_0),
    unary main_v16 main_v18 (extractStridedSlice S4096x1536 ![0, 1024] · slices_S4096x6672_S4096x1536_0_1024),
    unary main_v16 main_v19 (extractStridedSlice S4096x16 ![0, 2560] · slices_S4096x6672_S4096x16_0_2560),
    unary main_v16 main_v20 (extractStridedSlice S4096x1024 ![0, 2576] · slices_S4096x6672_S4096x1024_0_2576),
    unary main_v16 main_v21 (extractStridedSlice S4096x1024 ![0, 3600] · slices_S4096x6672_S4096x1024_0_3600),
    unary main_v16 main_v22 (extractStridedSlice S4096x1024 ![0, 4624] · slices_S4096x6672_S4096x1024_0_4624),
    unary main_v16 main_v23 (extractStridedSlice S4096x1024 ![0, 5648] · slices_S4096x6672_S4096x1024_0_5648),
    unary main_arg0 main_v24 (extf .f32 · bitsLt_bf16_f32),
    unary main_v24 main_v25 (extractStridedSlice S4096x1024 ![0, 0] · slices_S4096x3072_S4096x1024_0_0),
    unary main_v24 main_v26 (extractStridedSlice S4096x1024 ![0, 1024] · slices_S4096x3072_S4096x1024_0_1024),
    unary main_v24 main_v27 (extractStridedSlice S4096x1024 ![0, 2048] · slices_S4096x3072_S4096x1024_0_2048),
    unary main_arg1 main_v28 (extf .f32 · bitsLt_bf16_f32),
    unary main_arg3 main_v29 (extf .f32 · bitsLt_bf16_f32),
    unary main_arg4 main_v30 (extf .f32 · bitsLt_bf16_f32),
    unary main_v30 main_v31 (extractStridedSlice S4096x16 ![0, 0] · slices_S4096x128_S4096x16_0_0),
    unary main_arg2 main_v32 (extf .f32 · bitsLt_bf16_f32),
    nary ![main_v28, main_v29, main_v31, main_v25, main_v32, main_v26, main_v27] main_v33 (fun u => (concatenate S4096x6672 1 [⟨S4096x1024, (u 0 : A F S4096x1024 .f32)⟩, ⟨S4096x1536, (u 1 : A F S4096x1536 .f32)⟩, ⟨S4096x16, (u 2 : A F S4096x16 .f32)⟩, ⟨S4096x1024, (u 3 : A F S4096x1024 .f32)⟩, ⟨S4096x1024, (u 4 : A F S4096x1024 .f32)⟩, ⟨S4096x1024, (u 5 : A F S4096x1024 .f32)⟩, ⟨S4096x1024, (u 6 : A F S4096x1024 .f32)⟩] concatenates_S4096x1024_S4096x1536_S4096x16_S4096x1024_S4096x1024_S4096x1024_S4096x1024_S4096x6672_d1 : A F S4096x6672 .f32)),
    binary main_v33 main_v0 main_v34 (fun l r => Host.dotGeneral dot_S4096x6672_S1024x6672_S4096x1024_1_1_0_0_n_n none l r),
    binary main_v13 main_v34 main_v35 mulf,
    nullary main_cst_3 (constant S_ .f32 0x00000000#32),
    binary main_v35 main_cst_3 main_v36 (fun x v => Host.reduceAdd x v reducesTo_S4096x1024_S1024_d0 h_S_),
    reshape main_v36 main_v37 (rfl : (.f32 : EltTy) = .f32) shapeCasts_S1024_S1x1024,
    unary main_arg8 main_v38 (broadcastInDim S4096x1024 ![0, 1] bcast_S1x1024_S4096x1024_0_1),
    binary main_v34 main_v38 main_v39 mulf,
    binary main_arg6 main_v39 main_v40 mulf,
    nullary main_cst_4 (constant S_ .f32 0x00000000#32),
    binary main_v40 main_cst_4 main_v41 (fun x v => Host.reduceAdd x v reducesTo_S4096x1024_S4096_d1 h_S_),
    reshape main_v41 main_v42 (rfl : (.f32 : EltTy) = .f32) shapeCasts_S4096_S4096x1,
    unary main_v8 main_v43 (broadcastInDim S4096x1024 ![0, 1] bcast_S4096x1_S4096x1024_0_1),
    binary main_v39 main_v43 main_v44 mulf,
    binary main_arg7 main_v44 main_v45 addf,
    binary main_v42 main_v11 main_v46 mulf,
    nullary main_cst_5 (constant S_ .f32 0x44800000#32),
    unary main_cst_5 main_v47 (broadcastInDim S4096x1 ![] bcast_S_S4096x1),
    binary main_v46 main_v47 main_v48 Host.divf,
    nullary main_cst_6 (constant S_ .f32 0x00000000#32),
    binary main_v48 main_cst_6 main_v49 (fun x v => Host.reduceAdd x v reducesTo_S4096x1_S4096_d1 h_S_),
    unary main_v49 main_v50 (broadcastInDim S4096x1024 ![0] bcast_S4096_S4096x1024_0),
    binary main_arg6 main_v50 main_v51 mulf,
    binary main_v45 main_v51 main_v52 addf,
    binary main_v50 main_arg6 main_v53 mulf,
    binary main_v52 main_v53 main_v54 addf ]
/-- What they write. -/
abbrev W : List (Ref sig .tc) :=
  [main_v0, main_v1, main_cst, main_v2, main_v3, main_cst_0, main_v4, main_v5, main_cst_1, main_v6, main_v7, main_v8, main_v9, main_cst_2, main_v10,
   main_v11, main_v12, main_v13, main_v14, main_v15, main_v16, main_v17, main_v18, main_v19, main_v20, main_v21, main_v22, main_v23, main_v24,
   main_v25, main_v26, main_v27, main_v28, main_v29, main_v30, main_v31, main_v32, main_v33, main_v34, main_v35, main_cst_3, main_v36, main_v37,
   main_v38, main_v39, main_v40, main_cst_4, main_v41, main_v42, main_v43, main_v44, main_v45, main_v46, main_cst_5, main_v47, main_v48, main_cst_6,
   main_v49, main_v50, main_v51, main_v52, main_v53, main_v54]
theorem writes : Writes (line (F := F)) W := rfl

set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W := by decide +kernel) : at_ V r = V (Proc.devRef .tc r) := keep writes hr V

theorem e_main_v0 : at_ V main_v0 = extf .f32 (at_ V main_arg5) bitsLt_bf16_f32 := eq1 writes 0 rfl V
theorem e_main_v1 : at_ V main_v1 = (mulf) (at_ V main_arg6) (at_ V main_arg6) := eq2 writes 1 rfl V
theorem e_main_cst : at_ V main_cst = (constant S_ .f32 0x00000000#32) := eq0 writes 2 rfl V
theorem e_main_v2 : at_ V main_v2 = (fun x v => Host.reduceAdd x v reducesTo_S4096x1024_S4096_d1 h_S_) (at_ V main_v1) (at_ V main_cst) := eq2 writes 3 rfl V
theorem e_main_v3 : at_ V main_v3 = (broadcastInDim S4096x1 ![0] bcast_S4096_S4096x1_0) (at_ V main_v2) := eq1 writes 4 rfl V
theorem e_main_cst_0 : at_ V main_cst_0 = (constant S_ .f32 0x44800000#32) := eq0 writes 5 rfl V
theorem e_main_v4 : at_ V main_v4 = (broadcastInDim S4096x1 ![] bcast_S_S4096x1) (at_ V main_cst_0) := eq1 writes 6 rfl V
theorem e_main_v5 : at_ V main_v5 = (Host.divf) (at_ V main_v3) (at_ V main_v4) := eq2 writes 7 rfl V
theorem e_main_cst_1 : at_ V main_cst_1 = (constant S_ .f32 0x358637BD#32) := eq0 writes 8 rfl V
theorem e_main_v6 : at_ V main_v6 = (broadcastInDim S4096x1 ![] bcast_S_S4096x1) (at_ V main_cst_1) := eq1 writes 9 rfl V
theorem e_main_v7 : at_ V main_v7 = (addf) (at_ V main_v5) (at_ V main_v6) := eq2 writes 10 rfl V
theorem e_main_v8 : at_ V main_v8 = (Host.rsqrt) (at_ V main_v7) := eq1 writes 11 rfl V
theorem e_main_v9 : at_ V main_v9 = (Host.divf) (at_ V main_v8) (at_ V main_v7) := eq2 writes 12 rfl V
theorem e_main_cst_2 : at_ V main_cst_2 = (constant S_ .f32 0xBF000000#32) := eq0 writes 13 rfl V
theorem e_main_v10 : at_ V main_v10 = (broadcastInDim S4096x1 ![] bcast_S_S4096x1) (at_ V main_cst_2) := eq1 writes 14 rfl V
theorem e_main_v11 : at_ V main_v11 = (mulf) (at_ V main_v10) (at_ V main_v9) := eq2 writes 15 rfl V
theorem e_main_v12 : at_ V main_v12 = (broadcastInDim S4096x1024 ![0, 1] bcast_S4096x1_S4096x1024_0_1) (at_ V main_v8) := eq1 writes 16 rfl V
theorem e_main_v13 : at_ V main_v13 = (mulf) (at_ V main_arg6) (at_ V main_v12) := eq2 writes 17 rfl V
theorem e_main_v24 : at_ V main_v24 = extf .f32 (at_ V main_arg0) bitsLt_bf16_f32 := eq1 writes 28 rfl V
theorem e_main_v25 : at_ V main_v25 = extractStridedSlice S4096x1024 ![0, 0] (at_ V main_v24) slices_S4096x3072_S4096x1024_0_0 := eq1 writes 29 rfl V
theorem e_main_v26 : at_ V main_v26 = extractStridedSlice S4096x1024 ![0, 1024] (at_ V main_v24) slices_S4096x3072_S4096x1024_0_1024 := eq1 writes 30 rfl V
theorem e_main_v27 : at_ V main_v27 = extractStridedSlice S4096x1024 ![0, 2048] (at_ V main_v24) slices_S4096x3072_S4096x1024_0_2048 := eq1 writes 31 rfl V
theorem e_main_v28 : at_ V main_v28 = extf .f32 (at_ V main_arg1) bitsLt_bf16_f32 := eq1 writes 32 rfl V
theorem e_main_v29 : at_ V main_v29 = extf .f32 (at_ V main_arg3) bitsLt_bf16_f32 := eq1 writes 33 rfl V
theorem e_main_v30 : at_ V main_v30 = extf .f32 (at_ V main_arg4) bitsLt_bf16_f32 := eq1 writes 34 rfl V
theorem e_main_v31 : at_ V main_v31 = extractStridedSlice S4096x16 ![0, 0] (at_ V main_v30) slices_S4096x128_S4096x16_0_0 := eq1 writes 35 rfl V
theorem e_main_v32 : at_ V main_v32 = extf .f32 (at_ V main_arg2) bitsLt_bf16_f32 := eq1 writes 36 rfl V
theorem e_main_v33 : at_ V main_v33 = (concatenate S4096x6672 1 [⟨S4096x1024, (at_ V main_v28 : (⟨S4096x1024, .f32⟩ : BufTy).Contents (Elt F))⟩, ⟨S4096x1536, (at_ V main_v29 : (⟨S4096x1536, .f32⟩ : BufTy).Contents (Elt F))⟩, ⟨S4096x16, (at_ V main_v31 : (⟨S4096x16, .f32⟩ : BufTy).Contents (Elt F))⟩, ⟨S4096x1024, (at_ V main_v25 : (⟨S4096x1024, .f32⟩ : BufTy).Contents (Elt F))⟩, ⟨S4096x1024, (at_ V main_v32 : (⟨S4096x1024, .f32⟩ : BufTy).Contents (Elt F))⟩, ⟨S4096x1024, (at_ V main_v26 : (⟨S4096x1024, .f32⟩ : BufTy).Contents (Elt F))⟩, ⟨S4096x1024, (at_ V main_v27 : (⟨S4096x1024, .f32⟩ : BufTy).Contents (Elt F))⟩] concatenates_S4096x1024_S4096x1536_S4096x16_S4096x1024_S4096x1024_S4096x1024_S4096x1024_S4096x6672_d1) := eqN writes 37 rfl V
theorem e_main_v34 : at_ V main_v34 = (fun l r => Host.dotGeneral dot_S4096x6672_S1024x6672_S4096x1024_1_1_0_0_n_n none l r) (at_ V main_v33) (at_ V main_v0) := eq2 writes 38 rfl V
theorem e_main_v35 : at_ V main_v35 = (mulf) (at_ V main_v13) (at_ V main_v34) := eq2 writes 39 rfl V
theorem e_main_cst_3 : at_ V main_cst_3 = (constant S_ .f32 0x00000000#32) := eq0 writes 40 rfl V
theorem e_main_v36 : at_ V main_v36 = (fun x v => Host.reduceAdd x v reducesTo_S4096x1024_S1024_d0 h_S_) (at_ V main_v35) (at_ V main_cst_3) := eq2 writes 41 rfl V
theorem e_main_v37 : at_ V main_v37 = fun j => shapeCast (main_v37).ty.shape (at_ V main_v36) shapeCasts_S1024_S1x1024 j := eqR writes 42 rfl V
theorem e_main_v38 : at_ V main_v38 = (broadcastInDim S4096x1024 ![0, 1] bcast_S1x1024_S4096x1024_0_1) (at_ V main_arg8) := eq1 writes 43 rfl V
theorem e_main_v39 : at_ V main_v39 = (mulf) (at_ V main_v34) (at_ V main_v38) := eq2 writes 44 rfl V
theorem e_main_v40 : at_ V main_v40 = (mulf) (at_ V main_arg6) (at_ V main_v39) := eq2 writes 45 rfl V
theorem e_main_cst_4 : at_ V main_cst_4 = (constant S_ .f32 0x00000000#32) := eq0 writes 46 rfl V
theorem e_main_v41 : at_ V main_v41 = (fun x v => Host.reduceAdd x v reducesTo_S4096x1024_S4096_d1 h_S_) (at_ V main_v40) (at_ V main_cst_4) := eq2 writes 47 rfl V
theorem e_main_v42 : at_ V main_v42 = fun j => shapeCast (main_v42).ty.shape (at_ V main_v41) shapeCasts_S4096_S4096x1 j := eqR writes 48 rfl V
theorem e_main_v43 : at_ V main_v43 = (broadcastInDim S4096x1024 ![0, 1] bcast_S4096x1_S4096x1024_0_1) (at_ V main_v8) := eq1 writes 49 rfl V
theorem e_main_v44 : at_ V main_v44 = (mulf) (at_ V main_v39) (at_ V main_v43) := eq2 writes 50 rfl V
theorem e_main_v45 : at_ V main_v45 = (addf) (at_ V main_arg7) (at_ V main_v44) := eq2 writes 51 rfl V
theorem e_main_v46 : at_ V main_v46 = (mulf) (at_ V main_v42) (at_ V main_v11) := eq2 writes 52 rfl V
theorem e_main_cst_5 : at_ V main_cst_5 = (constant S_ .f32 0x44800000#32) := eq0 writes 53 rfl V
theorem e_main_v47 : at_ V main_v47 = (broadcastInDim S4096x1 ![] bcast_S_S4096x1) (at_ V main_cst_5) := eq1 writes 54 rfl V
theorem e_main_v48 : at_ V main_v48 = (Host.divf) (at_ V main_v46) (at_ V main_v47) := eq2 writes 55 rfl V
theorem e_main_cst_6 : at_ V main_cst_6 = (constant S_ .f32 0x00000000#32) := eq0 writes 56 rfl V
theorem e_main_v49 : at_ V main_v49 = (fun x v => Host.reduceAdd x v reducesTo_S4096x1_S4096_d1 h_S_) (at_ V main_v48) (at_ V main_cst_6) := eq2 writes 57 rfl V
theorem e_main_v50 : at_ V main_v50 = (broadcastInDim S4096x1024 ![0] bcast_S4096_S4096x1024_0) (at_ V main_v49) := eq1 writes 58 rfl V
theorem e_main_v51 : at_ V main_v51 = (mulf) (at_ V main_arg6) (at_ V main_v50) := eq2 writes 59 rfl V
theorem e_main_v52 : at_ V main_v52 = (addf) (at_ V main_v45) (at_ V main_v51) := eq2 writes 60 rfl V
theorem e_main_v53 : at_ V main_v53 = (mulf) (at_ V main_v50) (at_ V main_arg6) := eq2 writes 61 rfl V
theorem e_main_v54 : at_ V main_v54 = (addf) (at_ V main_v52) (at_ V main_v53) := eq2 writes 62 rfl V

theorem ops_sub : (line : List (HloOp τ sig (Elt F))).Forall fun op => op.bufs ⊆ tcRefs τ sig := by
  repeat' first | (with_reducible first | exact unary_bufs_sub .. | exact binary_bufs_sub .. | exact nullary_bufs_sub .. | exact reshape_bufs_sub .. | exact nary_bufs_sub ..) | refine ⟨?_, ?_⟩ | exact unary_bufs_sub .. | exact binary_bufs_sub .. | exact nullary_bufs_sub .. | exact reshape_bufs_sub .. | exact nary_bufs_sub ..

/-- Every execution ends with every buffer at its contents after the line. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = at_ (launchContents m d) b :=
  run_seq scopedRefs_eq scopedSems_eq defs main (fun _ => line) main_eq (fun _ => ops_sub) m ρ

/-- An argument keeps what it held. -/
theorem arg (m : (ℓ : Loc nD τ sig) → Buf (Elt F) ℓ) (d : Dev nD) {b : Ref sig .tc} (hb : b ∉ W := by decide +kernel) :
    at_ (launchContents m d) b = m ((d.tc : Thread nD τ).loc b) := kept _ hb

end Cert.DuRIdeal.Line

end
-- ==== Proof.DuRefVal.lean ====
/- The gradient of the input projection, reference: its results element by element. -/
module

public import proofs.«01_k».proof.Proof.DuRef
public import proofs.«01_k».proof.Proof.DuSpec

@[expose] public section

set_option maxRecDepth 8000

noncomputable section

namespace Cert.DuRIdeal.Val

open Cert.DuRIdeal Cert.DuRIdeal.Gen Cert.DuRIdeal.Line Idealize.ShloMosaic Idealize.ShloMosaic.TcCoe Idealize.ShloMosaic.StableHlo Cert.NormRow Cert.NormsSpec Cert.DuSpec

variable (V : Valuation τ sig (Elt Ideal))

/-- Argument 0. -/
def D3 : Mat 4096 3072 := fun i j => (at_ V main_arg0 : Vec Ideal S4096x3072 .bf16) (ix2 i j)
theorem t_arg0 (i : Fin 4096) (j : Fin 3072) : (at_ V main_arg0 : Vec Ideal S4096x3072 .bf16) (ix2 i j) = D3 V i j := rfl
/-- Argument 1. -/
def DZ : Mat 4096 1024 := fun i j => (at_ V main_arg1 : Vec Ideal S4096x1024 .bf16) (ix2 i j)
theorem t_arg1 (i : Fin 4096) (j : Fin 1024) : (at_ V main_arg1 : Vec Ideal S4096x1024 .bf16) (ix2 i j) = DZ V i j := rfl
/-- Argument 2. -/
def DL : Mat 4096 1024 := fun i j => (at_ V main_arg2 : Vec Ideal S4096x1024 .bf16) (ix2 i j)
theorem t_arg2 (i : Fin 4096) (j : Fin 1024) : (at_ V main_arg2 : Vec Ideal S4096x1024 .bf16) (ix2 i j) = DL V i j := rfl
/-- Argument 3. -/
def DX : Mat 4096 1536 := fun i j => (at_ V main_arg3 : Vec Ideal S4096x1536 .bf16) (ix2 i j)
theorem t_arg3 (i : Fin 4096) (j : Fin 1536) : (at_ V main_arg3 : Vec Ideal S4096x1536 .bf16) (ix2 i j) = DX V i j := rfl
/-- Argument 4. -/
def DT : Mat 4096 128 := fun i j => (at_ V main_arg4 : Vec Ideal S4096x128 .bf16) (ix2 i j)
theorem t_arg4 (i : Fin 4096) (j : Fin 128) : (at_ V main_arg4 : Vec Ideal S4096x128 .bf16) (ix2 i j) = DT V i j := rfl
/-- Argument 5. -/
def WI : Mat 1024 6672 := fun i j => (at_ V main_arg5 : Vec Ideal S1024x6672 .bf16) (ix2 i j)
theorem t_arg5 (i : Fin 1024) (j : Fin 6672) : (at_ V main_arg5 : Vec Ideal S1024x6672 .bf16) (ix2 i j) = WI V i j := rfl
/-- Argument 6. -/
def X : Mat 4096 1024 := fun i j => (at_ V main_arg6 : Vec Ideal S4096x1024 .f32) (ix2 i j)
theorem t_arg6 (i : Fin 4096) (j : Fin 1024) : (at_ V main_arg6 : Vec Ideal S4096x1024 .f32) (ix2 i j) = X V i j := rfl
/-- Argument 7. -/
def DH : Mat 4096 1024 := fun i j => (at_ V main_arg7 : Vec Ideal S4096x1024 .f32) (ix2 i j)
theorem t_arg7 (i : Fin 4096) (j : Fin 1024) : (at_ V main_arg7 : Vec Ideal S4096x1024 .f32) (ix2 i j) = DH V i j := rfl
/-- Argument 8. -/
def G1 : Mat 1 1024 := fun i j => (at_ V main_arg8 : Vec Ideal S1x1024 .f32) (ix2 i j)
theorem t_arg8 (i : Fin 1) (j : Fin 1024) : (at_ V main_arg8 : Vec Ideal S1x1024 .f32) (ix2 i j) = G1 V i j := rfl
/-- The gradient of the normalized input. -/
def dd : Mat 4096 1024 := du (D3 V) (DZ V) (DL V) (DX V) (DT V) (WI V)

theorem t_v28 (i : Fin 4096) (j : Fin 1024) : (at_ V main_v28 : Vec Ideal S4096x1024 .f32) (ix2 i j) = DZ V i j := by
  rw [e_main_v28]
  have h_arg1 := t_arg1 V
  generalize at_ V main_arg1 = x_arg1 at h_arg1 ⊢
  pointwise
  try simp only [h_arg1]
  try rfl

theorem t_v29 (i : Fin 4096) (j : Fin 1536) : (at_ V main_v29 : Vec Ideal S4096x1536 .f32) (ix2 i j) = DX V i j := by
  rw [e_main_v29]
  have h_arg3 := t_arg3 V
  generalize at_ V main_arg3 = x_arg3 at h_arg3 ⊢
  pointwise
  try simp only [h_arg3]
  try rfl

theorem t_v32 (i : Fin 4096) (j : Fin 1024) : (at_ V main_v32 : Vec Ideal S4096x1024 .f32) (ix2 i j) = DL V i j := by
  rw [e_main_v32]
  have h_arg2 := t_arg2 V
  generalize at_ V main_arg2 = x_arg2 at h_arg2 ⊢
  pointwise
  try simp only [h_arg2]
  try rfl

theorem t_v31 (i : Fin 4096) (j : Fin 16) : (at_ V main_v31 : Vec Ideal S4096x16 .f32) (ix2 i j) = DT V i (sh 0 (by omega) j) := by
  rw [e_main_v31, e_main_v30]
  have h := t_arg4 V
  generalize at_ V main_arg4 = x at h ⊢
  pointwise
  try simp only [h]
  try congr 1
  try apply Fin.ext
  try simp [sh]

theorem t_v25 (i : Fin 4096) (j : Fin 1024) : (at_ V main_v25 : Vec Ideal S4096x1024 .f32) (ix2 i j) = D3 V i (sh 0 (by omega) j) := by
  rw [e_main_v25, e_main_v24]
  have h := t_arg0 V
  generalize at_ V main_arg0 = x at h ⊢
  pointwise
  try simp only [h]
  try congr 1
  try apply Fin.ext
  try simp [sh]

theorem t_v26 (i : Fin 4096) (j : Fin 1024) : (at_ V main_v26 : Vec Ideal S4096x1024 .f32) (ix2 i j) = D3 V i (sh 1024 (by omega) j) := by
  rw [e_main_v26, e_main_v24]
  have h := t_arg0 V
  generalize at_ V main_arg0 = x at h ⊢
  pointwise
  try simp only [h]
  try congr 1
  try apply Fin.ext
  try simp [sh]

theorem t_v27 (i : Fin 4096) (j : Fin 1024) : (at_ V main_v27 : Vec Ideal S4096x1024 .f32) (ix2 i j) = D3 V i (sh 2048 (by omega) j) := by
  rw [e_main_v27, e_main_v24]
  have h := t_arg0 V
  generalize at_ V main_arg0 = x at h ⊢
  pointwise
  try simp only [h]
  try congr 1
  try apply Fin.ext
  try simp [sh]

theorem t_v33_0 (i : Fin 4096) (q : Fin 6672) (r : Fin 1024) (hq : q.val = 0 + r.val) : (at_ V main_v33 : Vec Ideal S4096x6672 .f32) (ix2 i q) = DZ V i r := by
  rw [e_main_v33]
  exact (concatenate_apply_piece (t := S4096x6672) 1 _ _ (ix2 i q) 0 (by show 0 < 7; omega) S4096x1024 (at_ V main_v28) rfl rfl 0 rfl (ix2 i r)
    (fun b hb => match b with | ⟨0, _⟩ => rfl | ⟨1, _⟩ => absurd rfl hb) hq.symm).trans (t_v28 V i r)

theorem t_v33_1 (i : Fin 4096) (q : Fin 6672) (r : Fin 1536) (hq : q.val = 1024 + r.val) : (at_ V main_v33 : Vec Ideal S4096x6672 .f32) (ix2 i q) = DX V i r := by
  rw [e_main_v33]
  exact (concatenate_apply_piece (t := S4096x6672) 1 _ _ (ix2 i q) 1 (by show 1 < 7; omega) S4096x1536 (at_ V main_v29) rfl rfl 1024 rfl (ix2 i r)
    (fun b hb => match b with | ⟨0, _⟩ => rfl | ⟨1, _⟩ => absurd rfl hb) hq.symm).trans (t_v29 V i r)

theorem t_v33_2 (i : Fin 4096) (q : Fin 6672) (r : Fin 16) (hq : q.val = 2560 + r.val) : (at_ V main_v33 : Vec Ideal S4096x6672 .f32) (ix2 i q) = DT V i (sh 0 (by omega) r) := by
  rw [e_main_v33]
  exact (concatenate_apply_piece (t := S4096x6672) 1 _ _ (ix2 i q) 2 (by show 2 < 7; omega) S4096x16 (at_ V main_v31) rfl rfl 2560 rfl (ix2 i r)
    (fun b hb => match b with | ⟨0, _⟩ => rfl | ⟨1, _⟩ => absurd rfl hb) hq.symm).trans (t_v31 V i r)

theorem t_v33_3 (i : Fin 4096) (q : Fin 6672) (r : Fin 1024) (hq : q.val = 2576 + r.val) : (at_ V main_v33 : Vec Ideal S4096x6672 .f32) (ix2 i q) = D3 V i (sh 0 (by omega) r) := by
  rw [e_main_v33]
  exact (concatenate_apply_piece (t := S4096x6672) 1 _ _ (ix2 i q) 3 (by show 3 < 7; omega) S4096x1024 (at_ V main_v25) rfl rfl 2576 rfl (ix2 i r)
    (fun b hb => match b with | ⟨0, _⟩ => rfl | ⟨1, _⟩ => absurd rfl hb) hq.symm).trans (t_v25 V i r)

theorem t_v33_4 (i : Fin 4096) (q : Fin 6672) (r : Fin 1024) (hq : q.val = 3600 + r.val) : (at_ V main_v33 : Vec Ideal S4096x6672 .f32) (ix2 i q) = DL V i r := by
  rw [e_main_v33]
  exact (concatenate_apply_piece (t := S4096x6672) 1 _ _ (ix2 i q) 4 (by show 4 < 7; omega) S4096x1024 (at_ V main_v32) rfl rfl 3600 rfl (ix2 i r)
    (fun b hb => match b with | ⟨0, _⟩ => rfl | ⟨1, _⟩ => absurd rfl hb) hq.symm).trans (t_v32 V i r)

theorem t_v33_5 (i : Fin 4096) (q : Fin 6672) (r : Fin 1024) (hq : q.val = 4624 + r.val) : (at_ V main_v33 : Vec Ideal S4096x6672 .f32) (ix2 i q) = D3 V i (sh 1024 (by omega) r) := by
  rw [e_main_v33]
  exact (concatenate_apply_piece (t := S4096x6672) 1 _ _ (ix2 i q) 5 (by show 5 < 7; omega) S4096x1024 (at_ V main_v26) rfl rfl 4624 rfl (ix2 i r)
    (fun b hb => match b with | ⟨0, _⟩ => rfl | ⟨1, _⟩ => absurd rfl hb) hq.symm).trans (t_v26 V i r)

theorem t_v33_6 (i : Fin 4096) (q : Fin 6672) (r : Fin 1024) (hq : q.val = 5648 + r.val) : (at_ V main_v33 : Vec Ideal S4096x6672 .f32) (ix2 i q) = D3 V i (sh 2048 (by omega) r) := by
  rw [e_main_v33]
  exact (concatenate_apply_piece (t := S4096x6672) 1 _ _ (ix2 i q) 6 (by show 6 < 7; omega) S4096x1024 (at_ V main_v27) rfl rfl 5648 rfl (ix2 i r)
    (fun b hb => match b with | ⟨0, _⟩ => rfl | ⟨1, _⟩ => absurd rfl hb) hq.symm).trans (t_v27 V i r)

theorem t_v34 (i : Fin 4096) (j : Fin 1024) : (at_ V main_v34 : Vec Ideal S4096x1024 .f32) (ix2 i j) = dd V i j := by
  rw [e_main_v34, e_main_v0]
  have h0 := t_v33_0 V i
  have h1 := t_v33_1 V i
  have h2 := t_v33_2 V i
  have h3 := t_v33_3 V i
  have h4 := t_v33_4 V i
  have h5 := t_v33_5 V i
  have h6 := t_v33_6 V i
  generalize at_ V main_v33 = x at h0 h1 h2 h3 h4 h5 h6 ⊢
  have hw := t_arg5 V
  generalize at_ V main_arg5 = w at hw ⊢
  pointwise
  try simp only [hw]
  refine (cut7 _).trans ?_
  exact congrArg₂ (· + ·) (congrArg₂ (· + ·) (congrArg₂ (· + ·) (congrArg₂ (· + ·) (congrArg₂ (· + ·) (congrArg₂ (· + ·) (Finset.sum_congr rfl fun r _ => congrArg (· * WI V j _) (h0 _ r rfl)) (Finset.sum_congr rfl fun r _ => congrArg (· * WI V j _) (h1 _ r rfl))) (Finset.sum_congr rfl fun r _ => congrArg (· * WI V j _) (h2 _ r rfl))) (Finset.sum_congr rfl fun r _ => congrArg (· * WI V j _) (h3 _ r rfl))) (Finset.sum_congr rfl fun r _ => congrArg (· * WI V j _) (h4 _ r rfl))) (Finset.sum_congr rfl fun r _ => congrArg (· * WI V j _) (h5 _ r rfl))) (Finset.sum_congr rfl fun r _ => congrArg (· * WI V j _) (h6 _ r rfl))

theorem t_v7 (i : Fin 4096) (j : Fin 1) : (at_ V main_v7 : Vec Ideal S4096x1 .f32) (ix2 i j) = ms (X V i) := by
  rw [e_main_v7, e_main_v5, e_main_v3, e_main_v2, e_main_v1, e_main_cst, e_main_v4, e_main_cst_0, e_main_v6, e_main_cst_1]
  have h_arg6 := t_arg6 V
  generalize at_ V main_arg6 = x_arg6 at h_arg6 ⊢
  pointwise
  try simp only [h_arg6]
  try rfl

theorem t_v8 (i : Fin 4096) (j : Fin 1) : (at_ V main_v8 : Vec Ideal S4096x1 .f32) (ix2 i j) = rs (X V i) := by
  rw [e_main_v8]
  have h_v7 := t_v7 V
  generalize at_ V main_v7 = x_v7 at h_v7 ⊢
  pointwise
  try simp only [h_v7]
  try rfl

theorem t_v11 (i : Fin 4096) (j : Fin 1) : (at_ V main_v11 : Vec Ideal S4096x1 .f32) (ix2 i j) = mhalf * Ideal.div (rs (X V i)) (ms (X V i)) := by
  rw [e_main_v11, e_main_v10, e_main_cst_2, e_main_v9]
  have h_v8 := t_v8 V
  generalize at_ V main_v8 = x_v8 at h_v8 ⊢
  have h_v7 := t_v7 V
  generalize at_ V main_v7 = x_v7 at h_v7 ⊢
  pointwise
  try simp only [h_v8, h_v7]
  try rfl

theorem t_v13 (i : Fin 4096) (j : Fin 1024) : (at_ V main_v13 : Vec Ideal S4096x1024 .f32) (ix2 i j) = xn (X V i) j := by
  rw [e_main_v13, e_main_v12]
  have h_arg6 := t_arg6 V
  generalize at_ V main_arg6 = x_arg6 at h_arg6 ⊢
  have h_v8 := t_v8 V
  generalize at_ V main_v8 = x_v8 at h_v8 ⊢
  pointwise
  try simp only [h_arg6, h_v8]
  try rfl

theorem t_v37 (i : Fin 1) (j : Fin 1024) : (at_ V main_v37 : Vec Ideal S1x1024 .f32) (ix2 i j) = dscale (dd V) (X V) i j := by
  rw [e_main_v37, e_main_v36, e_main_v35, e_main_cst_3]
  have h_v13 := t_v13 V
  generalize at_ V main_v13 = x_v13 at h_v13 ⊢
  have h_v34 := t_v34 V
  generalize at_ V main_v34 = x_v34 at h_v34 ⊢
  pointwise
  try simp only [h_v13, h_v34, zero_add]
  have e : ∀ k, xn (X V k) j * dd V k j = dd V k j * xn (X V k) j := fun k => mul_comm _ _
  simp only [e]
  rfl

theorem t_v39 (i : Fin 4096) (j : Fin 1024) : (at_ V main_v39 : Vec Ideal S4096x1024 .f32) (ix2 i j) = dd V i j * G1 V 0 j := by
  rw [e_main_v39, e_main_v38]
  have h_v34 := t_v34 V
  generalize at_ V main_v34 = x_v34 at h_v34 ⊢
  have h_arg8 := t_arg8 V
  generalize at_ V main_arg8 = x_arg8 at h_arg8 ⊢
  pointwise
  try simp only [h_v34, h_arg8]
  try rfl

theorem t_v48 (i : Fin 4096) (j : Fin 1) : (at_ V main_v48 : Vec Ideal S4096x1 .f32) (ix2 i j) = coef (X V i) (fun k => dd V i k * G1 V 0 k) := by
  rw [e_main_v48, e_main_v46, e_main_v42, e_main_v41, e_main_v40, e_main_cst_4, e_main_v47, e_main_cst_5]
  have h_arg6 := t_arg6 V
  generalize at_ V main_arg6 = x_arg6 at h_arg6 ⊢
  have h_v39 := t_v39 V
  generalize at_ V main_v39 = x_v39 at h_v39 ⊢
  have h_v11 := t_v11 V
  generalize at_ V main_v11 = x_v11 at h_v11 ⊢
  pointwise
  try simp only [h_arg6, h_v39, h_v11]
  try rfl

theorem t_v50 (i : Fin 4096) (j : Fin 1024) : (at_ V main_v50 : Vec Ideal S4096x1024 .f32) (ix2 i j) = coef (X V i) (fun k => dd V i k * G1 V 0 k) := by
  rw [e_main_v50, e_main_v49, e_main_cst_6]
  have h_v48 := t_v48 V
  generalize at_ V main_v48 = x_v48 at h_v48 ⊢
  pointwise
  try simp only [h_v48]
  simp

theorem t_v54 (i : Fin 4096) (j : Fin 1024) : (at_ V main_v54 : Vec Ideal S4096x1024 .f32) (ix2 i j) = dh (DH V) (X V) (dd V) (G1 V) i j := by
  rw [e_main_v54, e_main_v52, e_main_v45, e_main_v44, e_main_v43, e_main_v51, e_main_v53]
  have h_arg7 := t_arg7 V
  generalize at_ V main_arg7 = x_arg7 at h_arg7 ⊢
  have h_v39 := t_v39 V
  generalize at_ V main_v39 = x_v39 at h_v39 ⊢
  have h_v8 := t_v8 V
  generalize at_ V main_v8 = x_v8 at h_v8 ⊢
  have h_v50 := t_v50 V
  generalize at_ V main_v50 = x_v50 at h_v50 ⊢
  have h_arg6 := t_arg6 V
  generalize at_ V main_arg6 = x_arg6 at h_arg6 ⊢
  pointwise
  try simp only [h_arg7, h_v39, h_v8, h_v50, h_arg6, add_assoc]
  unfold dh
  rw [bwd_eq]

end Cert.DuRIdeal.Val

end
-- ==== Proof.DuClaims.lean ====
/- The gradient of the input projection: its claims. -/
module

public import proofs.«01_k».proof.Defs
public import proofs.«01_k».proof.Proof.Gen.DuK.Frame
public import proofs.«01_k».proof.Proof.DuVal
public import proofs.«01_k».proof.Proof.DuRefVal
public import proofs.«01_k».proof.Proof.DuRef
public import Idealize.ShloMosaic.Lib.Quiescent

@[expose] public section

set_option maxRecDepth 8000

noncomputable section

namespace Cert.DuClaims

open Idealize.ShloMosaic Idealize.ShloMosaic.TcCoe Idealize.ShloMosaic.StableHlo Idealize.SL.Sem

/-- The kernel's frame. -/
theorem frame_p : quiescent_DuK := fun m ρ _ => DuK.Gen.frame m ρ

/-- The ideal kernel's frame. -/
theorem frame_pi : quiescent_DuKIdeal := fun m ρ _ => DuKIdeal.Gen.frame m ρ

/-- The reference's frame. -/
theorem frame_ri : quiescent_DuRIdeal := fun m ρ _ =>
  (θ_run DuRIdeal.defs _ _).mono (fun r h => ⟨fun c => ⟨(h c DuRIdeal.main_arg0).trans (DuRIdeal.Line.arg m c), (h c DuRIdeal.main_arg1).trans (DuRIdeal.Line.arg m c), (h c DuRIdeal.main_arg2).trans (DuRIdeal.Line.arg m c), (h c DuRIdeal.main_arg3).trans (DuRIdeal.Line.arg m c), (h c DuRIdeal.main_arg4).trans (DuRIdeal.Line.arg m c), (h c DuRIdeal.main_arg5).trans (DuRIdeal.Line.arg m c), (h c DuRIdeal.main_arg6).trans (DuRIdeal.Line.arg m c), (h c DuRIdeal.main_arg7).trans (DuRIdeal.Line.arg m c), (h c DuRIdeal.main_arg8).trans (DuRIdeal.Line.arg m c)⟩,
    sem_eq_zero_of_no_sems (by decide) r.2⟩) (DuRIdeal.Line.run m ρ)

/-- Kernel and reference compute the same function over the extended reals. -/
theorem algebraic : algebraic_DuKIdeal_DuRIdeal := by
  intro m ρ m' ρ' _ hagree
  refine ⟨fun c => DuKIdeal.Val.res11 m c, fun c => DuKIdeal.Val.res12 m c,
    (θ_run DuKIdeal.defs _ _).mono (fun r h c => ?_) (DuKIdeal.Value.run_blocks (F := Ideal) m ρ), ?_⟩
  · have e := h c
    simp only [DuKIdeal.Val.final_11, DuKIdeal.Val.final_12] at e
    exact e
  · refine (θ_run DuRIdeal.defs _ _).mono (fun r h c => ?_) (DuRIdeal.Line.run (F := Ideal) m' ρ')
    obtain ⟨h0, h1, h2, h3, h4, h5, h6, h7, h8⟩ := hagree c
    have same_D3 : DuRIdeal.Val.D3 (launchContents m' c) = DuKIdeal.Host.D3 (DuKIdeal.Val.V0 m c) := funext fun i => funext fun j => congrFun (((DuRIdeal.Line.arg m' c (b := DuRIdeal.main_arg0)).trans h0).trans (DuKIdeal.Host.kept (DuKIdeal.Val.V0 m c) (r := DuKIdeal.main_arg0) (by decide +kernel)).symm) (ix2 i j)
    have same_DZ : DuRIdeal.Val.DZ (launchContents m' c) = DuKIdeal.Host.DZ (DuKIdeal.Val.V0 m c) := funext fun i => funext fun j => congrFun (((DuRIdeal.Line.arg m' c (b := DuRIdeal.main_arg1)).trans h1).trans (DuKIdeal.Host.kept (DuKIdeal.Val.V0 m c) (r := DuKIdeal.main_arg1) (by decide +kernel)).symm) (ix2 i j)
    have same_DL : DuRIdeal.Val.DL (launchContents m' c) = DuKIdeal.Host.DL (DuKIdeal.Val.V0 m c) := funext fun i => funext fun j => congrFun (((DuRIdeal.Line.arg m' c (b := DuRIdeal.main_arg2)).trans h2).trans (DuKIdeal.Host.kept (DuKIdeal.Val.V0 m c) (r := DuKIdeal.main_arg2) (by decide +kernel)).symm) (ix2 i j)
    have same_DX : DuRIdeal.Val.DX (launchContents m' c) = DuKIdeal.Host.DX (DuKIdeal.Val.V0 m c) := funext fun i => funext fun j => congrFun (((DuRIdeal.Line.arg m' c (b := DuRIdeal.main_arg3)).trans h3).trans (DuKIdeal.Host.kept (DuKIdeal.Val.V0 m c) (r := DuKIdeal.main_arg3) (by decide +kernel)).symm) (ix2 i j)
    have same_DT : DuRIdeal.Val.DT (launchContents m' c) = DuKIdeal.Host.DT (DuKIdeal.Val.V0 m c) := funext fun i => funext fun j => congrFun (((DuRIdeal.Line.arg m' c (b := DuRIdeal.main_arg4)).trans h4).trans (DuKIdeal.Host.kept (DuKIdeal.Val.V0 m c) (r := DuKIdeal.main_arg4) (by decide +kernel)).symm) (ix2 i j)
    have same_WI : DuRIdeal.Val.WI (launchContents m' c) = DuKIdeal.Host.WI (DuKIdeal.Val.V0 m c) := funext fun i => funext fun j => congrFun (((DuRIdeal.Line.arg m' c (b := DuRIdeal.main_arg5)).trans h5).trans (DuKIdeal.Host.kept (DuKIdeal.Val.V0 m c) (r := DuKIdeal.main_arg5) (by decide +kernel)).symm) (ix2 i j)
    have same_X : DuRIdeal.Val.X (launchContents m' c) = DuKIdeal.Host.X (DuKIdeal.Val.V0 m c) := funext fun i => funext fun j => congrFun (((DuRIdeal.Line.arg m' c (b := DuRIdeal.main_arg6)).trans h6).trans (DuKIdeal.Host.kept (DuKIdeal.Val.V0 m c) (r := DuKIdeal.main_arg6) (by decide +kernel)).symm) (ix2 i j)
    have same_DH : DuRIdeal.Val.DH (launchContents m' c) = DuKIdeal.Host.DH (DuKIdeal.Val.V0 m c) := funext fun i => funext fun j => congrFun (((DuRIdeal.Line.arg m' c (b := DuRIdeal.main_arg7)).trans h7).trans (DuKIdeal.Host.kept (DuKIdeal.Val.V0 m c) (r := DuKIdeal.main_arg7) (by decide +kernel)).symm) (ix2 i j)
    have same_G1 : DuRIdeal.Val.G1 (launchContents m' c) = DuKIdeal.Host.G1 (DuKIdeal.Val.V0 m c) := funext fun i => funext fun j => congrFun (((DuRIdeal.Line.arg m' c (b := DuRIdeal.main_arg8)).trans h8).trans (DuKIdeal.Host.kept (DuKIdeal.Val.V0 m c) (r := DuKIdeal.main_arg8) (by decide +kernel)).symm) (ix2 i j)
    refine ⟨(h c _).trans ?_, (h c _).trans ?_, (h c DuRIdeal.main_arg0).trans (DuRIdeal.Line.arg m' c), (h c DuRIdeal.main_arg1).trans (DuRIdeal.Line.arg m' c), (h c DuRIdeal.main_arg2).trans (DuRIdeal.Line.arg m' c), (h c DuRIdeal.main_arg3).trans (DuRIdeal.Line.arg m' c), (h c DuRIdeal.main_arg4).trans (DuRIdeal.Line.arg m' c), (h c DuRIdeal.main_arg5).trans (DuRIdeal.Line.arg m' c), (h c DuRIdeal.main_arg6).trans (DuRIdeal.Line.arg m' c), (h c DuRIdeal.main_arg7).trans (DuRIdeal.Line.arg m' c), (h c DuRIdeal.main_arg8).trans (DuRIdeal.Line.arg m' c)⟩
    · funext y
      obtain ⟨i, j, rfl⟩ : ∃ (i : Fin 4096) (j : Fin 1024), y = ix2 i j := ⟨y 0, y 1, eq_ix2 y⟩
      refine (DuRIdeal.Val.t_v54 (launchContents m' c) i j).trans ?_
      simp only [DuRIdeal.Val.dd, same_D3, same_DZ, same_DL, same_DX, same_DT, same_WI, same_X, same_DH, same_G1]
      rfl
    · funext y
      obtain ⟨i, j, rfl⟩ : ∃ (i : Fin 1) (j : Fin 1024), y = ix2 i j := ⟨y 0, y 1, eq_ix2 y⟩
      refine (DuRIdeal.Val.t_v37 (launchContents m' c) i j).trans ?_
      simp only [DuRIdeal.Val.dd, same_D3, same_DZ, same_DL, same_DX, same_DT, same_WI, same_X, same_DH, same_G1]
      rfl

end Cert.DuClaims

end
-- ==== Proof.DwInVal.lean ====
/- The gradient of the three gates' columns of the input weight, kernel: its result element by element. -/
module

public import proofs.«01_k».proof.Proof.Gen.DwInKIdeal.Value
public import proofs.«01_k».proof.Proof.MlpSpec
public import Idealize.ShloMosaic.Lib.Tactic

@[expose] public section

set_option maxRecDepth 8000

noncomputable section

namespace Cert.DwInKIdeal.Val

open Cert.DwInKIdeal Cert.DwInKIdeal.Gen Idealize.ShloMosaic Idealize.ShloMosaic.TcCoe Idealize.SL.Sem Cert.NormRow Cert.NormsSpec Cert.MlpSpec Cert.Tiles
open Cert.DwInKIdeal.Gen (V)

variable (m : (ℓ : Loc nD τ sig) → Buf (Elt Ideal) ℓ) (c : Dev nD)

/-- What the device's memory holds at launch. -/
abbrev V0 : Valuation τ sig (Elt Ideal) := fun b => m (c, b)

/-- An argument, as a matrix. -/
def LA (V : Valuation τ sig (Elt Ideal)) : Mat 4096 3072 := fun i j => (V (Proc.devRef .tc main_arg0) : Vec Ideal S4096x3072 .bf16) (ix2 i j)
/-- An argument, as a matrix. -/
def RB (V : Valuation τ sig (Elt Ideal)) : Mat 4096 1024 := fun i j => (V (Proc.devRef .tc main_arg1) : Vec Ideal S4096x1024 .bf16) (ix2 i j)

theorem hz : (![0, 0] : Fin 2 → Nat) = fun _ => 0 := funext fun a => by fin_cases a <;> rfl

theorem pay1 (x0 x1 : Vec Ideal S2048x1024 .bf16) (r j : Fin 1024) : k0_pay1 (F := Ideal) x0 x1 (ix2 r j) = ∑ k : Fin 2048, x0 (ix2 k r) * x1 (ix2 k j) := by
  pointwise [k0_pay1]

theorem pay2 (x0 x1 : Vec Ideal S2048x1024 .bf16) (r j : Fin 1024) : k0_pay2 (F := Ideal) x0 x1 (ix2 r j) = ∑ k : Fin 2048, x0 (ix2 k r) * x1 (ix2 k j) := by
  pointwise [k0_pay2]
  exact pay1 x0 x1 r j

theorem pay4 (x0 x1 : Vec Ideal S2048x1024 .bf16) (xs : Vec Ideal S1024x1024 .f32) (r j : Fin 1024) : k0_pay4 (F := Ideal) x0 x1 xs (ix2 r j) = xs (ix2 r j) + ∑ k : Fin 2048, x0 (ix2 k r) * x1 (ix2 k j) := by
  pointwise [k0_pay4]
  rw [pay1]

/-- After a point of the first half of the rows, the accumulator holds that half's product. -/
theorem scratch (t : Fin cfg0.N) (h0 : t.val % 2 = 0) (h2 : ¬t.val % 2 = 1) : (outsAt0 m c t.val t.isLt).2 = k0_pay2 (iblk m c 0 t) (iblk m c 1 t) := by
  rw [outsAt0_A m c t h0 h2]
  dsimp only
  unfold sout0_A_0
  rw [View.read_writes_eq_canon _ _ _ (scover0_A_0 _ _ _ _ _ _ _ _ _ _ _ _ _ _ _)]
  unfold kernelRun0_A
  dsimp only
  rw [View.canon_unit_zero hz]
  try sl_unfold_words
  simp only [View.readAt_eq_ld, Memref.IsWhole.read_unread, View.ld_unit_zero (S := S2048x1024) hz]

/-- After a point of the second half, the block holds both halves' products. -/
theorem block (t : Fin cfg0.N) (h0 : ¬t.val % 2 = 0) (h2 : t.val % 2 = 1) : (outsAt0 m c t.val t.isLt).1 = k0_pay4 (iblk m c 0 t) (iblk m c 1 t) (outsAt0 m c (t.val - 1) (Nat.lt_of_le_of_lt (Nat.sub_le _ _) t.isLt)).2 := by
  rw [outsAt0_B m c t h0 h2]
  dsimp only
  unfold out0_B_2
  rw [View.read_writes_eq_canon _ _ _ (cover0_B_2 _ _ _ _ _ _ _ _ _ _ _ _ _ _ _ _)]
  unfold kernelRun0_B
  dsimp only
  rw [View.canon_unit_zero hz]
  try sl_unfold_words
  simp only [View.readAt_eq_ld, Memref.IsWhole.read_unread, (Memref.isWhole_whole (sig := sig) _).read_unread, View.ld_unit_zero (S := S2048x1024) hz, View.ld_unit_zero (S := S1024x1024) hz]

/-- The place in the whole of row (or column) `r` of the block of point `t`. -/
def rK (t : Fin cfg0.N) (r : Fin 2048) : Fin 4096 := ⟨2048 * (t.val % 2) + r.val, by have := t.isLt; have : cfg0.N = 6 := N_0; have := r.isLt; omega⟩

/-- The place in the whole of row (or column) `r` of the block of point `t`. -/
def rF (t : Fin cfg0.N) (r : Fin 1024) : Fin 3072 := ⟨1024 * (t.val / 2) + r.val, by have := t.isLt; have : cfg0.N = 6 := N_0; have := r.isLt; omega⟩

theorem ix_0 (t : Fin cfg0.N) : win0_0.index t 0 = t.val % 2 ∧ win0_0.index t 1 = t.val / 2 := by decide +revert

theorem ix_1 (t : Fin cfg0.N) : win0_1.index t 0 = t.val % 2 ∧ win0_1.index t 1 = 0 := by decide +revert

theorem ix_2 (t : Fin cfg0.N) : win0_2.index t 0 = t.val / 2 ∧ win0_2.index t 1 = 0 := by decide +revert

theorem blk_0 (t : Fin cfg0.N) (r : Fin 2048) (k : Fin 1024) : (iblk m c 0 t : Vec Ideal S2048x1024 .bf16) (ix2 r k) = LA (V0 m c) (rK t r) (rF t k) := by
  unfold iblk
  rw [View.read_apply]
  show V m c main_arg0 _ = V m c main_arg0 _
  congr 1
  funext a
  apply Fin.ext
  match a with
  | ⟨0, _⟩ => show win0_0.index t 0 * 2048 + 1 * r.val = 2048 * (t.val % 2) + r.val; rw [(ix_0 t).1]; omega
  | ⟨1, _⟩ => show win0_0.index t 1 * 1024 + 1 * k.val = 1024 * (t.val / 2) + k.val; rw [(ix_0 t).2]; omega

theorem blk_1 (t : Fin cfg0.N) (r : Fin 2048) (k : Fin 1024) : (iblk m c 1 t : Vec Ideal S2048x1024 .bf16) (ix2 r k) = RB (V0 m c) (rK t r) (k) := by
  unfold iblk
  rw [View.read_apply]
  show V m c main_arg1 _ = V m c main_arg1 _
  congr 1
  funext a
  apply Fin.ext
  match a with
  | ⟨0, _⟩ => show win0_1.index t 0 * 2048 + 1 * r.val = 2048 * (t.val % 2) + r.val; rw [(ix_1 t).1]; omega
  | ⟨1, _⟩ => show win0_1.index t 1 * 1024 + 1 * k.val = k.val; rw [(ix_1 t).2]; omega

/-- Result 0. -/
def res2 : Vec Ideal S3072x1024 .f32 := fun i => gram (LA (V0 m c)) (RB (V0 m c)) (i 0) (i 1)

theorem out_2 (t : Fin cfg0.N) (h2 : t.val % 2 = 1) (r j : Fin 1024) : (outsAt0 m c t.val t.isLt).1 (ix2 r j) = gram (LA (V0 m c)) (RB (V0 m c)) (rF t r) j := by
  have h0 : ¬t.val % 2 = 0 := by omega
  obtain ⟨u, hu⟩ : ∃ u : Fin cfg0.N, u.val = t.val - 1 := ⟨⟨t.val - 1, by have := t.isLt; omega⟩, rfl⟩
  have e : (outsAt0 m c (t.val - 1) (Nat.lt_of_le_of_lt (Nat.sub_le _ _) t.isLt)).2 = k0_pay2 (iblk m c 0 u) (iblk m c 1 u) := by
    rw [← scratch m c u (by omega) (by omega)]
    simp only [hu]
  rw [block m c t h0 h2, pay4, e, pay2]
  have hF : rF u r = rF t r := Fin.ext (by show 1024 * (u.val / 2) + r.val = 1024 * (t.val / 2) + r.val; omega)
  simp only [blk_0, blk_1, hF]
  exact sum_halves (fun k => LA (V0 m c) k (rF t r) * RB (V0 m c) k j) (rK u) (rK t)
    (fun k => by show 2048 * (u.val % 2) + k.val = k.val; omega) (fun k => by show 2048 * (t.val % 2) + k.val = 2048 + k.val; omega)

theorem flush_2 (t : Fin cfg0.N) (hf : (cfg0.win 2).flush t = true) : (dats m 0 c).flushed 2 t = ((cfg0.win 2).blk t).view.read (Elt Ideal) (res2 m c) := by
  show (cfg0.win 2).cut (grid0.coords t) ((dats m 0 c).after 2 t) = _
  rw [after0_2]
  funext y
  rw [View.read_apply]
  show ((outsAt0 m c t.val t.isLt).1) y = res2 m c _
  obtain ⟨r, j, rfl⟩ : ∃ (r : Fin 1024) (j : Fin 1024), y = ix2 r j := ⟨y 0, y 1, eq_ix2 y⟩
  rw [out_2 m c t ((flush0_2 t).mp hf)]
  unfold res2
  congr 1
  · apply Fin.ext
    show 1024 * (t.val / 2) + r.val = win0_2.index t 0 * 1024 + 1 * r.val
    rw [(ix_2 t).1]; omega
  · apply Fin.ext
    show j.val = win0_2.index t 1 * 1024 + 1 * j.val
    rw [(ix_2 t).2]; omega

theorem final_2 : (dats m 0 c).arrAt 2 cfg0.N = res2 m c :=
  (dats m 0 c).arrAt_eq_of_cover 2 (res2 m c) (flush_2 m c) fun i => by
    have hN : cfg0.N = 6 := N_0
    have h0 : (i 0 : Nat) < 3072 := (i 0).isLt
    have h1 : (i 1 : Nat) < 1024 := (i 1).isLt
    obtain ⟨t, ht⟩ : ∃ t : Fin cfg0.N, t.val = (i 0 : Nat) / 1024 * 2 + 1 := ⟨⟨(i 0 : Nat) / 1024 * 2 + 1, by omega⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [(ix_2 t).1]; omega
    | ⟨1, _⟩ =>
      show win0_2.index t 1 * 1024 ≤ (i 1 : Nat) ∧ (i 1 : Nat) < win0_2.index t 1 * 1024 + 1024
      rw [(ix_2 t).2]; omega

end Cert.DwInKIdeal.Val

end
-- ==== Proof.DwInRef.lean ====
/- The gradient of the three gates' columns of the input weight, reference: its operations in order, its run, and what it leaves in its arguments. -/
module

public import proofs.«01_k».proof.Proof.Lines
public import proofs.«01_k».proof.Proof.Gen.DwInRIdeal
public import Idealize.ShloMosaic.Lib.StableHlo.Run

@[expose] public section

set_option maxRecDepth 8000

noncomputable section

namespace Cert.DwInRIdeal.Line

open Cert.DwInRIdeal Cert.DwInRIdeal.Gen Idealize.SL.Sem
open Idealize.ShloMosaic Idealize.ShloMosaic.TcCoe Idealize.ShloMosaic.StableHlo
open Cert.Lines

variable {F : FTy → Type} [FloatOps F]

/-- The operations, in order. -/
abbrev line : List (HloOp τ sig (Elt F)) :=
  [ nullary main_cst (constant S_ .f32 0x00000000#32),
    unary main_cst main_v0 (broadcastInDim S1024x3072 ![] bcast_S_S1024x3072),
    unary main_arg1 main_v1 (extf .f32 · bitsLt_bf16_f32),
    binary main_v1 main_v0 main_v2 (fun l r => Host.dotGeneral dot_S4096x1024_S1024x3072_S4096x3072_1_0_0_1_n_n none l r),
    unary main_arg0 main_v3 (extf .f32 · bitsLt_bf16_f32),
    binary main_v3 main_v1 main_v4 (fun l r => Host.dotGeneral dot_S4096x3072_S4096x1024_S3072x1024_0_0_1_1_n_n none l r),
    unary main_v4 main_v5 (transpose S1024x3072 [1, 0] · transposes_S3072x1024_S1024x3072_1_0),
    unary main_v5 main_v6 (transpose S3072x1024 [1, 0] · transposes_S1024x3072_S3072x1024_1_0) ]
/-- What they write. -/
abbrev W : List (Ref sig .tc) :=
  [main_cst, main_v0, main_v1, main_v2, main_v3, main_v4, main_v5, main_v6]
theorem writes : Writes (line (F := F)) W := rfl

set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W := by decide +kernel) : at_ V r = V (Proc.devRef .tc r) := keep writes hr V

theorem e_main_v1 : at_ V main_v1 = extf .f32 (at_ V main_arg1) bitsLt_bf16_f32 := eq1 writes 2 rfl V
theorem e_main_v3 : at_ V main_v3 = extf .f32 (at_ V main_arg0) bitsLt_bf16_f32 := eq1 writes 4 rfl V
theorem e_main_v4 : at_ V main_v4 = (fun l r => Host.dotGeneral dot_S4096x3072_S4096x1024_S3072x1024_0_0_1_1_n_n none l r) (at_ V main_v3) (at_ V main_v1) := eq2 writes 5 rfl V
theorem e_main_v5 : at_ V main_v5 = transpose S1024x3072 [1, 0] (at_ V main_v4) transposes_S3072x1024_S1024x3072_1_0 := eq1 writes 6 rfl V
theorem e_main_v6 : at_ V main_v6 = transpose S3072x1024 [1, 0] (at_ V main_v5) transposes_S1024x3072_S3072x1024_1_0 := eq1 writes 7 rfl V

theorem ops_sub : (line : List (HloOp τ sig (Elt F))).Forall fun op => op.bufs ⊆ tcRefs τ sig := by
  repeat' first | exact unary_bufs_sub .. | exact binary_bufs_sub .. | exact nullary_bufs_sub .. | refine ⟨?_, ?_⟩

/-- Every execution ends with every buffer at its contents after the line. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = at_ (launchContents m d) b :=
  run_seq scopedRefs_eq scopedSems_eq defs main (fun _ => line) main_eq (fun _ => ops_sub) m ρ

/-- An argument keeps what it held. -/
theorem arg (m : (ℓ : Loc nD τ sig) → Buf (Elt F) ℓ) (d : Dev nD) {b : Ref sig .tc} (hb : b ∉ W := by decide +kernel) :
    at_ (launchContents m d) b = m ((d.tc : Thread nD τ).loc b) := kept _ hb

end Cert.DwInRIdeal.Line

end
-- ==== Proof.DwInRefVal.lean ====
/- The gradient of the three gates' columns of the input weight, reference: its result element by element. -/
module

public import proofs.«01_k».proof.Proof.DwInRef
public import proofs.«01_k».proof.Proof.MlpSpec

@[expose] public section

set_option maxRecDepth 8000

noncomputable section

namespace Cert.DwInRIdeal.Val

open Cert.DwInRIdeal Cert.DwInRIdeal.Gen Cert.DwInRIdeal.Line Idealize.ShloMosaic Idealize.ShloMosaic.TcCoe Idealize.ShloMosaic.StableHlo Cert.NormRow Cert.NormsSpec Cert.MlpSpec

variable (V : Valuation τ sig (Elt Ideal))

/-- Argument 0. -/
def LA : Mat 4096 3072 := fun i j => (at_ V main_arg0 : Vec Ideal S4096x3072 .bf16) (ix2 i j)
theorem t_arg0 (i : Fin 4096) (j : Fin 3072) : (at_ V main_arg0 : Vec Ideal S4096x3072 .bf16) (ix2 i j) = LA V i j := rfl
/-- Argument 1. -/
def RB : Mat 4096 1024 := fun i j => (at_ V main_arg1 : Vec Ideal S4096x1024 .bf16) (ix2 i j)
theorem t_arg1 (i : Fin 4096) (j : Fin 1024) : (at_ V main_arg1 : Vec Ideal S4096x1024 .bf16) (ix2 i j) = RB V i j := rfl
theorem t_v6 (i : Fin 3072) (j : Fin 1024) : (at_ V main_v6 : Vec Ideal S3072x1024 .f32) (ix2 i j) = gram (LA V) (RB V) i j := by
  rw [e_main_v6, e_main_v5, e_main_v4, e_main_v3, e_main_v1]
  have h_arg1 := t_arg1 V
  generalize at_ V main_arg1 = x_arg1 at h_arg1 ⊢
  have h_arg0 := t_arg0 V
  generalize at_ V main_arg0 = x_arg0 at h_arg0 ⊢
  pointwise
  try simp only [h_arg1, h_arg0]
  rfl

end Cert.DwInRIdeal.Val

end
-- ==== Proof.DwInClaims.lean ====
/- The gradient of the three gates' columns of the input weight: its claims. -/
module

public import proofs.«01_k».proof.Defs
public import proofs.«01_k».proof.Proof.Gen.DwInK.Frame
public import proofs.«01_k».proof.Proof.DwInVal
public import proofs.«01_k».proof.Proof.DwInRefVal
public import proofs.«01_k».proof.Proof.DwInRef
public import Idealize.ShloMosaic.Lib.Quiescent

@[expose] public section

set_option maxRecDepth 8000

noncomputable section

namespace Cert.DwInClaims

open Idealize.ShloMosaic Idealize.ShloMosaic.TcCoe Idealize.ShloMosaic.StableHlo Idealize.SL.Sem

theorem frame_p : quiescent_DwInK := fun m ρ _ => DwInK.Gen.frame m ρ

theorem frame_pi : quiescent_DwInKIdeal := fun m ρ _ => DwInKIdeal.Gen.frame m ρ

theorem frame_ri : quiescent_DwInRIdeal := fun m ρ _ =>
  (θ_run DwInRIdeal.defs _ _).mono (fun r h => ⟨fun c => ⟨(h c DwInRIdeal.main_arg0).trans (DwInRIdeal.Line.arg m c), (h c DwInRIdeal.main_arg1).trans (DwInRIdeal.Line.arg m c)⟩,
    sem_eq_zero_of_no_sems (by decide) r.2⟩) (DwInRIdeal.Line.run m ρ)

theorem algebraic : algebraic_DwInKIdeal_DwInRIdeal := by
  intro m ρ m' ρ' _ hagree
  refine ⟨fun c => DwInKIdeal.Val.res2 m c,
    (θ_run DwInKIdeal.defs _ _).mono (fun r h c => ?_) (DwInKIdeal.Value.run_blocks (F := Ideal) m ρ), ?_⟩
  · have e := h c
    simp only [DwInKIdeal.Val.final_2] at e
    exact e
  · refine (θ_run DwInRIdeal.defs _ _).mono (fun r h c => ?_) (DwInRIdeal.Line.run (F := Ideal) m' ρ')
    obtain ⟨h0, h1⟩ := hagree c
    have same_LA : DwInRIdeal.Val.LA (launchContents m' c) = DwInKIdeal.Val.LA (DwInKIdeal.Val.V0 m c) := funext fun i => funext fun j => congrFun ((DwInRIdeal.Line.arg m' c (b := DwInRIdeal.main_arg0)).trans h0) (ix2 i j)
    have same_RB : DwInRIdeal.Val.RB (launchContents m' c) = DwInKIdeal.Val.RB (DwInKIdeal.Val.V0 m c) := funext fun i => funext fun j => congrFun ((DwInRIdeal.Line.arg m' c (b := DwInRIdeal.main_arg1)).trans h1) (ix2 i j)
    refine ⟨(h c _).trans ?_, (h c DwInRIdeal.main_arg0).trans (DwInRIdeal.Line.arg m' c), (h c DwInRIdeal.main_arg1).trans (DwInRIdeal.Line.arg m' c)⟩
    · funext y
      obtain ⟨i, j, rfl⟩ : ∃ (i : Fin 3072) (j : Fin 1024), y = ix2 i j := ⟨y 0, y 1, eq_ix2 y⟩
      refine (DwInRIdeal.Val.t_v6 (launchContents m' c) i j).trans ?_
      simp only [same_LA, same_RB]
      rfl

end Cert.DwInClaims

end
-- ==== Proof.DwOutVal.lean ====
/- The gradient of the output weight, kernel: its result element by element. -/
module

public import proofs.«01_k».proof.Proof.Gen.DwOutKIdeal.Value
public import proofs.«01_k».proof.Proof.MlpSpec
public import Idealize.ShloMosaic.Lib.Tactic

@[expose] public section

set_option maxRecDepth 8000

noncomputable section

namespace Cert.DwOutKIdeal.Val

open Cert.DwOutKIdeal Cert.DwOutKIdeal.Gen Idealize.ShloMosaic Idealize.ShloMosaic.TcCoe Idealize.SL.Sem Cert.NormRow Cert.NormsSpec Cert.MlpSpec Cert.Tiles
open Cert.DwOutKIdeal.Gen (V)

variable (m : (ℓ : Loc nD τ sig) → Buf (Elt Ideal) ℓ) (c : Dev nD)

/-- What the device's memory holds at launch. -/
abbrev V0 : Valuation τ sig (Elt Ideal) := fun b => m (c, b)

/-- An argument, as a matrix. -/
def LA (V : Valuation τ sig (Elt Ideal)) : Mat 4096 1024 := fun i j => (V (Proc.devRef .tc main_arg0) : Vec Ideal S4096x1024 .bf16) (ix2 i j)
/-- An argument, as a matrix. -/
def RB (V : Valuation τ sig (Elt Ideal)) : Mat 4096 1024 := fun i j => (V (Proc.devRef .tc main_arg1) : Vec Ideal S4096x1024 .bf16) (ix2 i j)

theorem hz : (![0, 0] : Fin 2 → Nat) = fun _ => 0 := funext fun a => by fin_cases a <;> rfl

theorem pay1 (x0 x1 : Vec Ideal S2048x1024 .bf16) (r j : Fin 1024) : k0_pay1 (F := Ideal) x0 x1 (ix2 r j) = ∑ k : Fin 2048, x0 (ix2 k r) * x1 (ix2 k j) := by
  pointwise [k0_pay1]

theorem pay2 (x0 x1 : Vec Ideal S2048x1024 .bf16) (r j : Fin 1024) : k0_pay2 (F := Ideal) x0 x1 (ix2 r j) = ∑ k : Fin 2048, x0 (ix2 k r) * x1 (ix2 k j) := by
  pointwise [k0_pay2]
  exact pay1 x0 x1 r j

theorem pay4 (x0 x1 : Vec Ideal S2048x1024 .bf16) (xs : Vec Ideal S1024x1024 .f32) (r j : Fin 1024) : k0_pay4 (F := Ideal) x0 x1 xs (ix2 r j) = xs (ix2 r j) + ∑ k : Fin 2048, x0 (ix2 k r) * x1 (ix2 k j) := by
  pointwise [k0_pay4]
  rw [pay1]

/-- After a point of the first half of the rows, the accumulator holds that half's product. -/
theorem scratch (t : Fin cfg0.N) (h0 : t.val % 2 = 0) (h2 : ¬t.val % 2 = 1) : (outsAt0 m c t.val t.isLt).2 = k0_pay2 (iblk m c 0 t) (iblk m c 1 t) := by
  rw [outsAt0_A m c t h0 h2]
  dsimp only
  unfold sout0_A_0
  rw [View.read_writes_eq_canon _ _ _ (scover0_A_0 _ _ _ _ _ _ _ _ _ _ _ _ _ _ _)]
  unfold kernelRun0_A
  dsimp only
  rw [View.canon_unit_zero hz]
  try sl_unfold_words
  simp only [View.readAt_eq_ld, Memref.IsWhole.read_unread, View.ld_unit_zero (S := S2048x1024) hz]

/-- After a point of the second half, the block holds both halves' products. -/
theorem block (t : Fin cfg0.N) (h0 : ¬t.val % 2 = 0) (h2 : t.val % 2 = 1) : (outsAt0 m c t.val t.isLt).1 = k0_pay4 (iblk m c 0 t) (iblk m c 1 t) (outsAt0 m c (t.val - 1) (Nat.lt_of_le_of_lt (Nat.sub_le _ _) t.isLt)).2 := by
  rw [outsAt0_B m c t h0 h2]
  dsimp only
  unfold out0_B_2
  rw [View.read_writes_eq_canon _ _ _ (cover0_B_2 _ _ _ _ _ _ _ _ _ _ _ _ _ _ _ _)]
  unfold kernelRun0_B
  dsimp only
  rw [View.canon_unit_zero hz]
  try sl_unfold_words
  simp only [View.readAt_eq_ld, Memref.IsWhole.read_unread, (Memref.isWhole_whole (sig := sig) _).read_unread, View.ld_unit_zero (S := S2048x1024) hz, View.ld_unit_zero (S := S1024x1024) hz]

/-- The place in the whole of row (or column) `r` of the block of point `t`. -/
def rK (t : Fin cfg0.N) (r : Fin 2048) : Fin 4096 := ⟨2048 * (t.val % 2) + r.val, by have := t.isLt; have : cfg0.N = 2 := N_0; have := r.isLt; omega⟩

/-- The place in the whole of row (or column) `r` of the block of point `t`. -/
def rF (t : Fin cfg0.N) (r : Fin 1024) : Fin 1024 := ⟨1024 * (t.val / 2) + r.val, by have := t.isLt; have : cfg0.N = 2 := N_0; have := r.isLt; omega⟩

theorem ix_0 (t : Fin cfg0.N) : win0_0.index t 0 = t.val % 2 ∧ win0_0.index t 1 = t.val / 2 := by decide +revert

theorem ix_1 (t : Fin cfg0.N) : win0_1.index t 0 = t.val % 2 ∧ win0_1.index t 1 = 0 := by decide +revert

theorem ix_2 (t : Fin cfg0.N) : win0_2.index t 0 = t.val / 2 ∧ win0_2.index t 1 = 0 := by decide +revert

theorem blk_0 (t : Fin cfg0.N) (r : Fin 2048) (k : Fin 1024) : (iblk m c 0 t : Vec Ideal S2048x1024 .bf16) (ix2 r k) = LA (V0 m c) (rK t r) (rF t k) := by
  unfold iblk
  rw [View.read_apply]
  show V m c main_arg0 _ = V m c main_arg0 _
  congr 1
  funext a
  apply Fin.ext
  match a with
  | ⟨0, _⟩ => show win0_0.index t 0 * 2048 + 1 * r.val = 2048 * (t.val % 2) + r.val; rw [(ix_0 t).1]; omega
  | ⟨1, _⟩ => show win0_0.index t 1 * 1024 + 1 * k.val = 1024 * (t.val / 2) + k.val; rw [(ix_0 t).2]; omega

theorem blk_1 (t : Fin cfg0.N) (r : Fin 2048) (k : Fin 1024) : (iblk m c 1 t : Vec Ideal S2048x1024 .bf16) (ix2 r k) = RB (V0 m c) (rK t r) (k) := by
  unfold iblk
  rw [View.read_apply]
  show V m c main_arg1 _ = V m c main_arg1 _
  congr 1
  funext a
  apply Fin.ext
  match a with
  | ⟨0, _⟩ => show win0_1.index t 0 * 2048 + 1 * r.val = 2048 * (t.val % 2) + r.val; rw [(ix_1 t).1]; omega
  | ⟨1, _⟩ => show win0_1.index t 1 * 1024 + 1 * k.val = k.val; rw [(ix_1 t).2]; omega

/-- Result 0. -/
def res2 : Vec Ideal S1024x1024 .f32 := fun i => gram (LA (V0 m c)) (RB (V0 m c)) (i 0) (i 1)

theorem out_2 (t : Fin cfg0.N) (h2 : t.val % 2 = 1) (r j : Fin 1024) : (outsAt0 m c t.val t.isLt).1 (ix2 r j) = gram (LA (V0 m c)) (RB (V0 m c)) (rF t r) j := by
  have h0 : ¬t.val % 2 = 0 := by omega
  obtain ⟨u, hu⟩ : ∃ u : Fin cfg0.N, u.val = t.val - 1 := ⟨⟨t.val - 1, by have := t.isLt; omega⟩, rfl⟩
  have e : (outsAt0 m c (t.val - 1) (Nat.lt_of_le_of_lt (Nat.sub_le _ _) t.isLt)).2 = k0_pay2 (iblk m c 0 u) (iblk m c 1 u) := by
    rw [← scratch m c u (by omega) (by omega)]
    simp only [hu]
  rw [block m c t h0 h2, pay4, e, pay2]
  have hF : rF u r = rF t r := Fin.ext (by show 1024 * (u.val / 2) + r.val = 1024 * (t.val / 2) + r.val; omega)
  simp only [blk_0, blk_1, hF]
  exact sum_halves (fun k => LA (V0 m c) k (rF t r) * RB (V0 m c) k j) (rK u) (rK t)
    (fun k => by show 2048 * (u.val % 2) + k.val = k.val; omega) (fun k => by show 2048 * (t.val % 2) + k.val = 2048 + k.val; omega)

theorem flush_2 (t : Fin cfg0.N) (hf : (cfg0.win 2).flush t = true) : (dats m 0 c).flushed 2 t = ((cfg0.win 2).blk t).view.read (Elt Ideal) (res2 m c) := by
  show (cfg0.win 2).cut (grid0.coords t) ((dats m 0 c).after 2 t) = _
  rw [after0_2]
  funext y
  rw [View.read_apply]
  show ((outsAt0 m c t.val t.isLt).1) y = res2 m c _
  obtain ⟨r, j, rfl⟩ : ∃ (r : Fin 1024) (j : Fin 1024), y = ix2 r j := ⟨y 0, y 1, eq_ix2 y⟩
  rw [out_2 m c t ((flush0_2 t).mp hf)]
  unfold res2
  congr 1
  · apply Fin.ext
    show 1024 * (t.val / 2) + r.val = win0_2.index t 0 * 1024 + 1 * r.val
    rw [(ix_2 t).1]; omega
  · apply Fin.ext
    show j.val = win0_2.index t 1 * 1024 + 1 * j.val
    rw [(ix_2 t).2]; omega

theorem final_2 : (dats m 0 c).arrAt 2 cfg0.N = res2 m c :=
  (dats m 0 c).arrAt_eq_of_cover 2 (res2 m c) (flush_2 m c) fun i => by
    have hN : cfg0.N = 2 := N_0
    have h0 : (i 0 : Nat) < 1024 := (i 0).isLt
    have h1 : (i 1 : Nat) < 1024 := (i 1).isLt
    obtain ⟨t, ht⟩ : ∃ t : Fin cfg0.N, t.val = (i 0 : Nat) / 1024 * 2 + 1 := ⟨⟨(i 0 : Nat) / 1024 * 2 + 1, by omega⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [(ix_2 t).1]; omega
    | ⟨1, _⟩ =>
      show win0_2.index t 1 * 1024 ≤ (i 1 : Nat) ∧ (i 1 : Nat) < win0_2.index t 1 * 1024 + 1024
      rw [(ix_2 t).2]; omega

end Cert.DwOutKIdeal.Val

end
-- ==== Proof.DwOutRef.lean ====
/- The gradient of the output weight, reference: its operations in order, its run, and what it leaves in its arguments. -/
module

public import proofs.«01_k».proof.Proof.Lines
public import proofs.«01_k».proof.Proof.Gen.DwOutRIdeal
public import Idealize.ShloMosaic.Lib.StableHlo.Run

@[expose] public section

set_option maxRecDepth 8000

noncomputable section

namespace Cert.DwOutRIdeal.Line

open Cert.DwOutRIdeal Cert.DwOutRIdeal.Gen Idealize.SL.Sem
open Idealize.ShloMosaic Idealize.ShloMosaic.TcCoe Idealize.ShloMosaic.StableHlo
open Cert.Lines

variable {F : FTy → Type} [FloatOps F]

/-- The operations, in order. -/
abbrev line : List (HloOp τ sig (Elt F)) :=
  [ nullary main_cst (constant S_ .f32 0x00000000#32),
    unary main_cst main_v0 (broadcastInDim S1024x1024 ![] bcast_S_S1024x1024),
    unary main_arg0 main_v1 (extf .f32 · bitsLt_bf16_f32),
    binary main_v1 main_v0 main_v2 (fun l r => Host.dotGeneral dot_S4096x1024_S1024x1024_S4096x1024_1_0_0_1_n_n none l r),
    unary main_arg1 main_v3 (extf .f32 · bitsLt_bf16_f32),
    binary main_v3 main_v1 main_v4 (fun l r => Host.dotGeneral dot_S4096x1024_S4096x1024_S1024x1024_0_0_1_1_n_n none l r),
    unary main_v4 main_v5 (transpose S1024x1024 [1, 0] · transposes_S1024x1024_S1024x1024_1_0) ]
/-- What they write. -/
abbrev W : List (Ref sig .tc) :=
  [main_cst, main_v0, main_v1, main_v2, main_v3, main_v4, main_v5]
theorem writes : Writes (line (F := F)) W := rfl

set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W := by decide +kernel) : at_ V r = V (Proc.devRef .tc r) := keep writes hr V

theorem e_main_v1 : at_ V main_v1 = extf .f32 (at_ V main_arg0) bitsLt_bf16_f32 := eq1 writes 2 rfl V
theorem e_main_v3 : at_ V main_v3 = extf .f32 (at_ V main_arg1) bitsLt_bf16_f32 := eq1 writes 4 rfl V
theorem e_main_v4 : at_ V main_v4 = (fun l r => Host.dotGeneral dot_S4096x1024_S4096x1024_S1024x1024_0_0_1_1_n_n none l r) (at_ V main_v3) (at_ V main_v1) := eq2 writes 5 rfl V
theorem e_main_v5 : at_ V main_v5 = transpose S1024x1024 [1, 0] (at_ V main_v4) transposes_S1024x1024_S1024x1024_1_0 := eq1 writes 6 rfl V

theorem ops_sub : (line : List (HloOp τ sig (Elt F))).Forall fun op => op.bufs ⊆ tcRefs τ sig := by
  repeat' first | exact unary_bufs_sub .. | exact binary_bufs_sub .. | exact nullary_bufs_sub .. | refine ⟨?_, ?_⟩

/-- Every execution ends with every buffer at its contents after the line. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = at_ (launchContents m d) b :=
  run_seq scopedRefs_eq scopedSems_eq defs main (fun _ => line) main_eq (fun _ => ops_sub) m ρ

/-- An argument keeps what it held. -/
theorem arg (m : (ℓ : Loc nD τ sig) → Buf (Elt F) ℓ) (d : Dev nD) {b : Ref sig .tc} (hb : b ∉ W := by decide +kernel) :
    at_ (launchContents m d) b = m ((d.tc : Thread nD τ).loc b) := kept _ hb

end Cert.DwOutRIdeal.Line

end
-- ==== Proof.DwOutRefVal.lean ====
/- The gradient of the output weight, reference: its result element by element. -/
module

public import proofs.«01_k».proof.Proof.DwOutRef
public import proofs.«01_k».proof.Proof.MlpSpec

@[expose] public section

set_option maxRecDepth 8000

noncomputable section

namespace Cert.DwOutRIdeal.Val

open Cert.DwOutRIdeal Cert.DwOutRIdeal.Gen Cert.DwOutRIdeal.Line Idealize.ShloMosaic Idealize.ShloMosaic.TcCoe Idealize.ShloMosaic.StableHlo Cert.NormRow Cert.NormsSpec Cert.MlpSpec

variable (V : Valuation τ sig (Elt Ideal))

/-- Argument 0. -/
def LA : Mat 4096 1024 := fun i j => (at_ V main_arg0 : Vec Ideal S4096x1024 .bf16) (ix2 i j)
theorem t_arg0 (i : Fin 4096) (j : Fin 1024) : (at_ V main_arg0 : Vec Ideal S4096x1024 .bf16) (ix2 i j) = LA V i j := rfl
/-- Argument 1. -/
def RB : Mat 4096 1024 := fun i j => (at_ V main_arg1 : Vec Ideal S4096x1024 .bf16) (ix2 i j)
theorem t_arg1 (i : Fin 4096) (j : Fin 1024) : (at_ V main_arg1 : Vec Ideal S4096x1024 .bf16) (ix2 i j) = RB V i j := rfl
theorem t_v5 (i : Fin 1024) (j : Fin 1024) : (at_ V main_v5 : Vec Ideal S1024x1024 .f32) (ix2 i j) = gram (LA V) (RB V) i j := by
  rw [e_main_v5, e_main_v4, e_main_v3, e_main_v1]
  have h_arg1 := t_arg1 V
  generalize at_ V main_arg1 = x_arg1 at h_arg1 ⊢
  have h_arg0 := t_arg0 V
  generalize at_ V main_arg0 = x_arg0 at h_arg0 ⊢
  pointwise
  try simp only [h_arg1, h_arg0]
  have e : ∀ k, RB V k j * LA V k i = LA V k i * RB V k j := fun k => mul_comm _ _
  simp only [e]
  rfl

end Cert.DwOutRIdeal.Val

end
-- ==== Proof.DwOutClaims.lean ====
/- The gradient of the output weight: its claims. -/
module

public import proofs.«01_k».proof.Defs
public import proofs.«01_k».proof.Proof.Gen.DwOutK.Frame
public import proofs.«01_k».proof.Proof.DwOutVal
public import proofs.«01_k».proof.Proof.DwOutRefVal
public import proofs.«01_k».proof.Proof.DwOutRef
public import Idealize.ShloMosaic.Lib.Quiescent

@[expose] public section

set_option maxRecDepth 8000

noncomputable section

namespace Cert.DwOutClaims

open Idealize.ShloMosaic Idealize.ShloMosaic.TcCoe Idealize.ShloMosaic.StableHlo Idealize.SL.Sem

theorem frame_p : quiescent_DwOutK := fun m ρ _ => DwOutK.Gen.frame m ρ

theorem frame_pi : quiescent_DwOutKIdeal := fun m ρ _ => DwOutKIdeal.Gen.frame m ρ

theorem frame_ri : quiescent_DwOutRIdeal := fun m ρ _ =>
  (θ_run DwOutRIdeal.defs _ _).mono (fun r h => ⟨fun c => ⟨(h c DwOutRIdeal.main_arg0).trans (DwOutRIdeal.Line.arg m c), (h c DwOutRIdeal.main_arg1).trans (DwOutRIdeal.Line.arg m c)⟩,
    sem_eq_zero_of_no_sems (by decide) r.2⟩) (DwOutRIdeal.Line.run m ρ)

theorem algebraic : algebraic_DwOutKIdeal_DwOutRIdeal := by
  intro m ρ m' ρ' _ hagree
  refine ⟨fun c => DwOutKIdeal.Val.res2 m c,
    (θ_run DwOutKIdeal.defs _ _).mono (fun r h c => ?_) (DwOutKIdeal.Value.run_blocks (F := Ideal) m ρ), ?_⟩
  · have e := h c
    simp only [DwOutKIdeal.Val.final_2] at e
    exact e
  · refine (θ_run DwOutRIdeal.defs _ _).mono (fun r h c => ?_) (DwOutRIdeal.Line.run (F := Ideal) m' ρ')
    obtain ⟨h0, h1⟩ := hagree c
    have same_LA : DwOutRIdeal.Val.LA (launchContents m' c) = DwOutKIdeal.Val.LA (DwOutKIdeal.Val.V0 m c) := funext fun i => funext fun j => congrFun ((DwOutRIdeal.Line.arg m' c (b := DwOutRIdeal.main_arg0)).trans h0) (ix2 i j)
    have same_RB : DwOutRIdeal.Val.RB (launchContents m' c) = DwOutKIdeal.Val.RB (DwOutKIdeal.Val.V0 m c) := funext fun i => funext fun j => congrFun ((DwOutRIdeal.Line.arg m' c (b := DwOutRIdeal.main_arg1)).trans h1) (ix2 i j)
    refine ⟨(h c _).trans ?_, (h c DwOutRIdeal.main_arg0).trans (DwOutRIdeal.Line.arg m' c), (h c DwOutRIdeal.main_arg1).trans (DwOutRIdeal.Line.arg m' c)⟩
    · funext y
      obtain ⟨i, j, rfl⟩ : ∃ (i : Fin 1024) (j : Fin 1024), y = ix2 i j := ⟨y 0, y 1, eq_ix2 y⟩
      refine (DwOutRIdeal.Val.t_v5 (launchContents m' c) i j).trans ?_
      simp only [same_LA, same_RB]
      rfl

end Cert.DwOutClaims

end
-- ==== Proof.DwZVal.lean ====
/- The gradient of the input weight at the columns of z, kernel: its result element by element. -/
module

public import proofs.«01_k».proof.Proof.Gen.DwZKIdeal.Value
public import proofs.«01_k».proof.Proof.MlpSpec
public import Idealize.ShloMosaic.Lib.Tactic

@[expose] public section

set_option maxRecDepth 8000

noncomputable section

namespace Cert.DwZKIdeal.Val

open Cert.DwZKIdeal Cert.DwZKIdeal.Gen Idealize.ShloMosaic Idealize.ShloMosaic.TcCoe Idealize.SL.Sem Cert.NormRow Cert.NormsSpec Cert.MlpSpec Cert.Tiles
open Cert.DwZKIdeal.Gen (V)

variable (m : (ℓ : Loc nD τ sig) → Buf (Elt Ideal) ℓ) (c : Dev nD)

/-- What the device's memory holds at launch. -/
abbrev V0 : Valuation τ sig (Elt Ideal) := fun b => m (c, b)

/-- An argument, as a matrix. -/
def LA (V : Valuation τ sig (Elt Ideal)) : Mat 4096 1024 := fun i j => (V (Proc.devRef .tc main_arg0) : Vec Ideal S4096x1024 .bf16) (ix2 i j)
/-- An argument, as a matrix. -/
def RB (V : Valuation τ sig (Elt Ideal)) : Mat 4096 1024 := fun i j => (V (Proc.devRef .tc main_arg1) : Vec Ideal S4096x1024 .bf16) (ix2 i j)

theorem hz : (![0, 0] : Fin 2 → Nat) = fun _ => 0 := funext fun a => by fin_cases a <;> rfl

theorem pay1 (x0 x1 : Vec Ideal S2048x1024 .bf16) (r j : Fin 1024) : k0_pay1 (F := Ideal) x0 x1 (ix2 r j) = ∑ k : Fin 2048, x0 (ix2 k r) * x1 (ix2 k j) := by
  pointwise [k0_pay1]

theorem pay2 (x0 x1 : Vec Ideal S2048x1024 .bf16) (r j : Fin 1024) : k0_pay2 (F := Ideal) x0 x1 (ix2 r j) = ∑ k : Fin 2048, x0 (ix2 k r) * x1 (ix2 k j) := by
  pointwise [k0_pay2]
  exact pay1 x0 x1 r j

theorem pay4 (x0 x1 : Vec Ideal S2048x1024 .bf16) (xs : Vec Ideal S1024x1024 .f32) (r j : Fin 1024) : k0_pay4 (F := Ideal) x0 x1 xs (ix2 r j) = xs (ix2 r j) + ∑ k : Fin 2048, x0 (ix2 k r) * x1 (ix2 k j) := by
  pointwise [k0_pay4]
  rw [pay1]

/-- After a point of the first half of the rows, the accumulator holds that half's product. -/
theorem scratch (t : Fin cfg0.N) (h0 : t.val % 2 = 0) (h2 : ¬t.val % 2 = 1) : (outsAt0 m c t.val t.isLt).2 = k0_pay2 (iblk m c 0 t) (iblk m c 1 t) := by
  rw [outsAt0_A m c t h0 h2]
  dsimp only
  unfold sout0_A_0
  rw [View.read_writes_eq_canon _ _ _ (scover0_A_0 _ _ _ _ _ _ _ _ _ _ _ _ _ _ _)]
  unfold kernelRun0_A
  dsimp only
  rw [View.canon_unit_zero hz]
  try sl_unfold_words
  simp only [View.readAt_eq_ld, Memref.IsWhole.read_unread, View.ld_unit_zero (S := S2048x1024) hz]

/-- After a point of the second half, the block holds both halves' products. -/
theorem block (t : Fin cfg0.N) (h0 : ¬t.val % 2 = 0) (h2 : t.val % 2 = 1) : (outsAt0 m c t.val t.isLt).1 = k0_pay4 (iblk m c 0 t) (iblk m c 1 t) (outsAt0 m c (t.val - 1) (Nat.lt_of_le_of_lt (Nat.sub_le _ _) t.isLt)).2 := by
  rw [outsAt0_B m c t h0 h2]
  dsimp only
  unfold out0_B_2
  rw [View.read_writes_eq_canon _ _ _ (cover0_B_2 _ _ _ _ _ _ _ _ _ _ _ _ _ _ _ _)]
  unfold kernelRun0_B
  dsimp only
  rw [View.canon_unit_zero hz]
  try sl_unfold_words
  simp only [View.readAt_eq_ld, Memref.IsWhole.read_unread, (Memref.isWhole_whole (sig := sig) _).read_unread, View.ld_unit_zero (S := S2048x1024) hz, View.ld_unit_zero (S := S1024x1024) hz]

/-- The place in the whole of row (or column) `r` of the block of point `t`. -/
def rK (t : Fin cfg0.N) (r : Fin 2048) : Fin 4096 := ⟨2048 * (t.val % 2) + r.val, by have := t.isLt; have : cfg0.N = 2 := N_0; have := r.isLt; omega⟩

/-- The place in the whole of row (or column) `r` of the block of point `t`. -/
def rF (t : Fin cfg0.N) (r : Fin 1024) : Fin 1024 := ⟨1024 * (t.val / 2) + r.val, by have := t.isLt; have : cfg0.N = 2 := N_0; have := r.isLt; omega⟩

theorem ix_0 (t : Fin cfg0.N) : win0_0.index t 0 = t.val % 2 ∧ win0_0.index t 1 = t.val / 2 := by decide +revert

theorem ix_1 (t : Fin cfg0.N) : win0_1.index t 0 = t.val % 2 ∧ win0_1.index t 1 = 0 := by decide +revert

theorem ix_2 (t : Fin cfg0.N) : win0_2.index t 0 = t.val / 2 ∧ win0_2.index t 1 = 0 := by decide +revert

theorem blk_0 (t : Fin cfg0.N) (r : Fin 2048) (k : Fin 1024) : (iblk m c 0 t : Vec Ideal S2048x1024 .bf16) (ix2 r k) = LA (V0 m c) (rK t r) (rF t k) := by
  unfold iblk
  rw [View.read_apply]
  show V m c main_arg0 _ = V m c main_arg0 _
  congr 1
  funext a
  apply Fin.ext
  match a with
  | ⟨0, _⟩ => show win0_0.index t 0 * 2048 + 1 * r.val = 2048 * (t.val % 2) + r.val; rw [(ix_0 t).1]; omega
  | ⟨1, _⟩ => show win0_0.index t 1 * 1024 + 1 * k.val = 1024 * (t.val / 2) + k.val; rw [(ix_0 t).2]; omega

theorem blk_1 (t : Fin cfg0.N) (r : Fin 2048) (k : Fin 1024) : (iblk m c 1 t : Vec Ideal S2048x1024 .bf16) (ix2 r k) = RB (V0 m c) (rK t r) (k) := by
  unfold iblk
  rw [View.read_apply]
  show V m c main_arg1 _ = V m c main_arg1 _
  congr 1
  funext a
  apply Fin.ext
  match a with
  | ⟨0, _⟩ => show win0_1.index t 0 * 2048 + 1 * r.val = 2048 * (t.val % 2) + r.val; rw [(ix_1 t).1]; omega
  | ⟨1, _⟩ => show win0_1.index t 1 * 1024 + 1 * k.val = k.val; rw [(ix_1 t).2]; omega

/-- Result 0. -/
def res2 : Vec Ideal S1024x1024 .f32 := fun i => gram (LA (V0 m c)) (RB (V0 m c)) (i 0) (i 1)

theorem out_2 (t : Fin cfg0.N) (h2 : t.val % 2 = 1) (r j : Fin 1024) : (outsAt0 m c t.val t.isLt).1 (ix2 r j) = gram (LA (V0 m c)) (RB (V0 m c)) (rF t r) j := by
  have h0 : ¬t.val % 2 = 0 := by omega
  obtain ⟨u, hu⟩ : ∃ u : Fin cfg0.N, u.val = t.val - 1 := ⟨⟨t.val - 1, by have := t.isLt; omega⟩, rfl⟩
  have e : (outsAt0 m c (t.val - 1) (Nat.lt_of_le_of_lt (Nat.sub_le _ _) t.isLt)).2 = k0_pay2 (iblk m c 0 u) (iblk m c 1 u) := by
    rw [← scratch m c u (by omega) (by omega)]
    simp only [hu]
  rw [block m c t h0 h2, pay4, e, pay2]
  have hF : rF u r = rF t r := Fin.ext (by show 1024 * (u.val / 2) + r.val = 1024 * (t.val / 2) + r.val; omega)
  simp only [blk_0, blk_1, hF]
  exact sum_halves (fun k => LA (V0 m c) k (rF t r) * RB (V0 m c) k j) (rK u) (rK t)
    (fun k => by show 2048 * (u.val % 2) + k.val = k.val; omega) (fun k => by show 2048 * (t.val % 2) + k.val = 2048 + k.val; omega)

theorem flush_2 (t : Fin cfg0.N) (hf : (cfg0.win 2).flush t = true) : (dats m 0 c).flushed 2 t = ((cfg0.win 2).blk t).view.read (Elt Ideal) (res2 m c) := by
  show (cfg0.win 2).cut (grid0.coords t) ((dats m 0 c).after 2 t) = _
  rw [after0_2]
  funext y
  rw [View.read_apply]
  show ((outsAt0 m c t.val t.isLt).1) y = res2 m c _
  obtain ⟨r, j, rfl⟩ : ∃ (r : Fin 1024) (j : Fin 1024), y = ix2 r j := ⟨y 0, y 1, eq_ix2 y⟩
  rw [out_2 m c t ((flush0_2 t).mp hf)]
  unfold res2
  congr 1
  · apply Fin.ext
    show 1024 * (t.val / 2) + r.val = win0_2.index t 0 * 1024 + 1 * r.val
    rw [(ix_2 t).1]; omega
  · apply Fin.ext
    show j.val = win0_2.index t 1 * 1024 + 1 * j.val
    rw [(ix_2 t).2]; omega

theorem final_2 : (dats m 0 c).arrAt 2 cfg0.N = res2 m c :=
  (dats m 0 c).arrAt_eq_of_cover 2 (res2 m c) (flush_2 m c) fun i => by
    have hN : cfg0.N = 2 := N_0
    have h0 : (i 0 : Nat) < 1024 := (i 0).isLt
    have h1 : (i 1 : Nat) < 1024 := (i 1).isLt
    obtain ⟨t, ht⟩ : ∃ t : Fin cfg0.N, t.val = (i 0 : Nat) / 1024 * 2 + 1 := ⟨⟨(i 0 : Nat) / 1024 * 2 + 1, by omega⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [(ix_2 t).1]; omega
    | ⟨1, _⟩ =>
      show win0_2.index t 1 * 1024 ≤ (i 1 : Nat) ∧ (i 1 : Nat) < win0_2.index t 1 * 1024 + 1024
      rw [(ix_2 t).2]; omega

end Cert.DwZKIdeal.Val

end
-- ==== Proof.DwZRef.lean ====
/- The gradient of the input weight at the columns of z, reference: its operations in order, its run, and what it leaves in its arguments. -/
module

public import proofs.«01_k».proof.Proof.Lines
public import proofs.«01_k».proof.Proof.Gen.DwZRIdeal
public import Idealize.ShloMosaic.Lib.StableHlo.Run

@[expose] public section

set_option maxRecDepth 8000

noncomputable section

namespace Cert.DwZRIdeal.Line

open Cert.DwZRIdeal Cert.DwZRIdeal.Gen Idealize.SL.Sem
open Idealize.ShloMosaic Idealize.ShloMosaic.TcCoe Idealize.ShloMosaic.StableHlo
open Cert.Lines

variable {F : FTy → Type} [FloatOps F]

/-- The operations, in order. -/
abbrev line : List (HloOp τ sig (Elt F)) :=
  [ nullary main_cst (constant S_ .f32 0x00000000#32),
    unary main_cst main_v0 (broadcastInDim S1024x1024 ![] bcast_S_S1024x1024),
    unary main_arg1 main_v1 (extf .f32 · bitsLt_bf16_f32),
    binary main_v1 main_v0 main_v2 (fun l r => Host.dotGeneral dot_S4096x1024_S1024x1024_S4096x1024_1_0_0_1_n_n none l r),
    unary main_arg0 main_v3 (extf .f32 · bitsLt_bf16_f32),
    binary main_v3 main_v1 main_v4 (fun l r => Host.dotGeneral dot_S4096x1024_S4096x1024_S1024x1024_0_0_1_1_n_n none l r),
    unary main_v4 main_v5 (transpose S1024x1024 [1, 0] · transposes_S1024x1024_S1024x1024_1_0),
    unary main_v5 main_v6 (transpose S1024x1024 [1, 0] · transposes_S1024x1024_S1024x1024_1_0) ]
/-- What they write. -/
abbrev W : List (Ref sig .tc) :=
  [main_cst, main_v0, main_v1, main_v2, main_v3, main_v4, main_v5, main_v6]
theorem writes : Writes (line (F := F)) W := rfl

set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W := by decide +kernel) : at_ V r = V (Proc.devRef .tc r) := keep writes hr V

theorem e_main_v1 : at_ V main_v1 = extf .f32 (at_ V main_arg1) bitsLt_bf16_f32 := eq1 writes 2 rfl V
theorem e_main_v3 : at_ V main_v3 = extf .f32 (at_ V main_arg0) bitsLt_bf16_f32 := eq1 writes 4 rfl V
theorem e_main_v4 : at_ V main_v4 = (fun l r => Host.dotGeneral dot_S4096x1024_S4096x1024_S1024x1024_0_0_1_1_n_n none l r) (at_ V main_v3) (at_ V main_v1) := eq2 writes 5 rfl V
theorem e_main_v5 : at_ V main_v5 = transpose S1024x1024 [1, 0] (at_ V main_v4) transposes_S1024x1024_S1024x1024_1_0 := eq1 writes 6 rfl V
theorem e_main_v6 : at_ V main_v6 = transpose S1024x1024 [1, 0] (at_ V main_v5) transposes_S1024x1024_S1024x1024_1_0 := eq1 writes 7 rfl V

theorem ops_sub : (line : List (HloOp τ sig (Elt F))).Forall fun op => op.bufs ⊆ tcRefs τ sig := by
  repeat' first | exact unary_bufs_sub .. | exact binary_bufs_sub .. | exact nullary_bufs_sub .. | refine ⟨?_, ?_⟩

/-- Every execution ends with every buffer at its contents after the line. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = at_ (launchContents m d) b :=
  run_seq scopedRefs_eq scopedSems_eq defs main (fun _ => line) main_eq (fun _ => ops_sub) m ρ

/-- An argument keeps what it held. -/
theorem arg (m : (ℓ : Loc nD τ sig) → Buf (Elt F) ℓ) (d : Dev nD) {b : Ref sig .tc} (hb : b ∉ W := by decide +kernel) :
    at_ (launchContents m d) b = m ((d.tc : Thread nD τ).loc b) := kept _ hb

end Cert.DwZRIdeal.Line

end
-- ==== Proof.DwZRefVal.lean ====
/- The gradient of the input weight at the columns of z, reference: its result element by element. -/
module

public import proofs.«01_k».proof.Proof.DwZRef
public import proofs.«01_k».proof.Proof.MlpSpec

@[expose] public section

set_option maxRecDepth 8000

noncomputable section

namespace Cert.DwZRIdeal.Val

open Cert.DwZRIdeal Cert.DwZRIdeal.Gen Cert.DwZRIdeal.Line Idealize.ShloMosaic Idealize.ShloMosaic.TcCoe Idealize.ShloMosaic.StableHlo Cert.NormRow Cert.NormsSpec Cert.MlpSpec

variable (V : Valuation τ sig (Elt Ideal))

/-- Argument 0. -/
def LA : Mat 4096 1024 := fun i j => (at_ V main_arg0 : Vec Ideal S4096x1024 .bf16) (ix2 i j)
theorem t_arg0 (i : Fin 4096) (j : Fin 1024) : (at_ V main_arg0 : Vec Ideal S4096x1024 .bf16) (ix2 i j) = LA V i j := rfl
/-- Argument 1. -/
def RB : Mat 4096 1024 := fun i j => (at_ V main_arg1 : Vec Ideal S4096x1024 .bf16) (ix2 i j)
theorem t_arg1 (i : Fin 4096) (j : Fin 1024) : (at_ V main_arg1 : Vec Ideal S4096x1024 .bf16) (ix2 i j) = RB V i j := rfl
theorem t_v6 (i : Fin 1024) (j : Fin 1024) : (at_ V main_v6 : Vec Ideal S1024x1024 .f32) (ix2 i j) = gram (LA V) (RB V) i j := by
  rw [e_main_v6, e_main_v5, e_main_v4, e_main_v3, e_main_v1]
  have h_arg1 := t_arg1 V
  generalize at_ V main_arg1 = x_arg1 at h_arg1 ⊢
  have h_arg0 := t_arg0 V
  generalize at_ V main_arg0 = x_arg0 at h_arg0 ⊢
  pointwise
  try simp only [h_arg1, h_arg0]
  rfl

end Cert.DwZRIdeal.Val

end
-- ==== Proof.DwZClaims.lean ====
/- The gradient of the input weight at the columns of z: its claims. -/
module

public import proofs.«01_k».proof.Defs
public import proofs.«01_k».proof.Proof.Gen.DwZK.Frame
public import proofs.«01_k».proof.Proof.DwZVal
public import proofs.«01_k».proof.Proof.DwZRefVal
public import proofs.«01_k».proof.Proof.DwZRef
public import Idealize.ShloMosaic.Lib.Quiescent

@[expose] public section

set_option maxRecDepth 8000

noncomputable section

namespace Cert.DwZClaims

open Idealize.ShloMosaic Idealize.ShloMosaic.TcCoe Idealize.ShloMosaic.StableHlo Idealize.SL.Sem

theorem frame_p : quiescent_DwZK := fun m ρ _ => DwZK.Gen.frame m ρ

theorem frame_pi : quiescent_DwZKIdeal := fun m ρ _ => DwZKIdeal.Gen.frame m ρ

theorem frame_ri : quiescent_DwZRIdeal := fun m ρ _ =>
  (θ_run DwZRIdeal.defs _ _).mono (fun r h => ⟨fun c => ⟨(h c DwZRIdeal.main_arg0).trans (DwZRIdeal.Line.arg m c), (h c DwZRIdeal.main_arg1).trans (DwZRIdeal.Line.arg m c)⟩,
    sem_eq_zero_of_no_sems (by decide) r.2⟩) (DwZRIdeal.Line.run m ρ)

theorem algebraic : algebraic_DwZKIdeal_DwZRIdeal := by
  intro m ρ m' ρ' _ hagree
  refine ⟨fun c => DwZKIdeal.Val.res2 m c,
    (θ_run DwZKIdeal.defs _ _).mono (fun r h c => ?_) (DwZKIdeal.Value.run_blocks (F := Ideal) m ρ), ?_⟩
  · have e := h c
    simp only [DwZKIdeal.Val.final_2] at e
    exact e
  · refine (θ_run DwZRIdeal.defs _ _).mono (fun r h c => ?_) (DwZRIdeal.Line.run (F := Ideal) m' ρ')
    obtain ⟨h0, h1⟩ := hagree c
    have same_LA : DwZRIdeal.Val.LA (launchContents m' c) = DwZKIdeal.Val.LA (DwZKIdeal.Val.V0 m c) := funext fun i => funext fun j => congrFun ((DwZRIdeal.Line.arg m' c (b := DwZRIdeal.main_arg0)).trans h0) (ix2 i j)
    have same_RB : DwZRIdeal.Val.RB (launchContents m' c) = DwZKIdeal.Val.RB (DwZKIdeal.Val.V0 m c) := funext fun i => funext fun j => congrFun ((DwZRIdeal.Line.arg m' c (b := DwZRIdeal.main_arg1)).trans h1) (ix2 i j)
    refine ⟨(h c _).trans ?_, (h c DwZRIdeal.main_arg0).trans (DwZRIdeal.Line.arg m' c), (h c DwZRIdeal.main_arg1).trans (DwZRIdeal.Line.arg m' c)⟩
    · funext y
      obtain ⟨i, j, rfl⟩ : ∃ (i : Fin 1024) (j : Fin 1024), y = ix2 i j := ⟨y 0, y 1, eq_ix2 y⟩
      refine (DwZRIdeal.Val.t_v6 (launchContents m' c) i j).trans ?_
      simp only [same_LA, same_RB]
      rfl

end Cert.DwZClaims

end
-- ==== Proof.DwXlVal.lean ====
/- The gradient of the input weight at the recurrence's columns, kernel: its result element by element. -/
module

public import proofs.«01_k».proof.Proof.Gen.DwXlKIdeal.Value
public import proofs.«01_k».proof.Proof.MlpSpec
public import Idealize.ShloMosaic.Lib.Tactic

@[expose] public section

set_option maxRecDepth 8000

noncomputable section

namespace Cert.DwXlKIdeal.Val

open Cert.DwXlKIdeal Cert.DwXlKIdeal.Gen Idealize.ShloMosaic Idealize.ShloMosaic.TcCoe Idealize.SL.Sem Cert.NormRow Cert.NormsSpec Cert.MlpSpec Cert.Tiles
open Cert.DwXlKIdeal.Gen (V)

variable (m : (ℓ : Loc nD τ sig) → Buf (Elt Ideal) ℓ) (c : Dev nD)

/-- What the device's memory holds at launch. -/
abbrev V0 : Valuation τ sig (Elt Ideal) := fun b => m (c, b)

/-- An argument, as a matrix. -/
def LA (V : Valuation τ sig (Elt Ideal)) : Mat 4096 1024 := fun i j => (V (Proc.devRef .tc main_arg0) : Vec Ideal S4096x1024 .bf16) (ix2 i j)
/-- An argument, as a matrix. -/
def RB (V : Valuation τ sig (Elt Ideal)) : Mat 4096 1024 := fun i j => (V (Proc.devRef .tc main_arg1) : Vec Ideal S4096x1024 .bf16) (ix2 i j)

theorem hz : (![0, 0] : Fin 2 → Nat) = fun _ => 0 := funext fun a => by fin_cases a <;> rfl

theorem pay1 (x0 x1 : Vec Ideal S2048x1024 .bf16) (r j : Fin 1024) : k0_pay1 (F := Ideal) x0 x1 (ix2 r j) = ∑ k : Fin 2048, x0 (ix2 k r) * x1 (ix2 k j) := by
  pointwise [k0_pay1]

theorem pay2 (x0 x1 : Vec Ideal S2048x1024 .bf16) (r j : Fin 1024) : k0_pay2 (F := Ideal) x0 x1 (ix2 r j) = ∑ k : Fin 2048, x0 (ix2 k r) * x1 (ix2 k j) := by
  pointwise [k0_pay2]
  exact pay1 x0 x1 r j

theorem pay4 (x0 x1 : Vec Ideal S2048x1024 .bf16) (xs : Vec Ideal S1024x1024 .f32) (r j : Fin 1024) : k0_pay4 (F := Ideal) x0 x1 xs (ix2 r j) = xs (ix2 r j) + ∑ k : Fin 2048, x0 (ix2 k r) * x1 (ix2 k j) := by
  pointwise [k0_pay4]
  rw [pay1]

/-- After a point of the first half of the rows, the accumulator holds that half's product. -/
theorem scratch (t : Fin cfg0.N) (h0 : t.val % 2 = 0) (h2 : ¬t.val % 2 = 1) : (outsAt0 m c t.val t.isLt).2 = k0_pay2 (iblk m c 0 t) (iblk m c 1 t) := by
  rw [outsAt0_A m c t h0 h2]
  dsimp only
  unfold sout0_A_0
  rw [View.read_writes_eq_canon _ _ _ (scover0_A_0 _ _ _ _ _ _ _ _ _ _ _ _ _ _ _)]
  unfold kernelRun0_A
  dsimp only
  rw [View.canon_unit_zero hz]
  try sl_unfold_words
  simp only [View.readAt_eq_ld, Memref.IsWhole.read_unread, View.ld_unit_zero (S := S2048x1024) hz]

/-- After a point of the second half, the block holds both halves' products. -/
theorem block (t : Fin cfg0.N) (h0 : ¬t.val % 2 = 0) (h2 : t.val % 2 = 1) : (outsAt0 m c t.val t.isLt).1 = k0_pay4 (iblk m c 0 t) (iblk m c 1 t) (outsAt0 m c (t.val - 1) (Nat.lt_of_le_of_lt (Nat.sub_le _ _) t.isLt)).2 := by
  rw [outsAt0_B m c t h0 h2]
  dsimp only
  unfold out0_B_2
  rw [View.read_writes_eq_canon _ _ _ (cover0_B_2 _ _ _ _ _ _ _ _ _ _ _ _ _ _ _ _)]
  unfold kernelRun0_B
  dsimp only
  rw [View.canon_unit_zero hz]
  try sl_unfold_words
  simp only [View.readAt_eq_ld, Memref.IsWhole.read_unread, (Memref.isWhole_whole (sig := sig) _).read_unread, View.ld_unit_zero (S := S2048x1024) hz, View.ld_unit_zero (S := S1024x1024) hz]

/-- The place in the whole of row (or column) `r` of the block of point `t`. -/
def rK (t : Fin cfg0.N) (r : Fin 2048) : Fin 4096 := ⟨2048 * (t.val % 2) + r.val, by have := t.isLt; have : cfg0.N = 2 := N_0; have := r.isLt; omega⟩

/-- The place in the whole of row (or column) `r` of the block of point `t`. -/
def rF (t : Fin cfg0.N) (r : Fin 1024) : Fin 1024 := ⟨1024 * (t.val / 2) + r.val, by have := t.isLt; have : cfg0.N = 2 := N_0; have := r.isLt; omega⟩

theorem ix_0 (t : Fin cfg0.N) : win0_0.index t 0 = t.val % 2 ∧ win0_0.index t 1 = t.val / 2 := by decide +revert

theorem ix_1 (t : Fin cfg0.N) : win0_1.index t 0 = t.val % 2 ∧ win0_1.index t 1 = 0 := by decide +revert

theorem ix_2 (t : Fin cfg0.N) : win0_2.index t 0 = t.val / 2 ∧ win0_2.index t 1 = 0 := by decide +revert

theorem blk_0 (t : Fin cfg0.N) (r : Fin 2048) (k : Fin 1024) : (iblk m c 0 t : Vec Ideal S2048x1024 .bf16) (ix2 r k) = LA (V0 m c) (rK t r) (rF t k) := by
  unfold iblk
  rw [View.read_apply]
  show V m c main_arg0 _ = V m c main_arg0 _
  congr 1
  funext a
  apply Fin.ext
  match a with
  | ⟨0, _⟩ => show win0_0.index t 0 * 2048 + 1 * r.val = 2048 * (t.val % 2) + r.val; rw [(ix_0 t).1]; omega
  | ⟨1, _⟩ => show win0_0.index t 1 * 1024 + 1 * k.val = 1024 * (t.val / 2) + k.val; rw [(ix_0 t).2]; omega

theorem blk_1 (t : Fin cfg0.N) (r : Fin 2048) (k : Fin 1024) : (iblk m c 1 t : Vec Ideal S2048x1024 .bf16) (ix2 r k) = RB (V0 m c) (rK t r) (k) := by
  unfold iblk
  rw [View.read_apply]
  show V m c main_arg1 _ = V m c main_arg1 _
  congr 1
  funext a
  apply Fin.ext
  match a with
  | ⟨0, _⟩ => show win0_1.index t 0 * 2048 + 1 * r.val = 2048 * (t.val % 2) + r.val; rw [(ix_1 t).1]; omega
  | ⟨1, _⟩ => show win0_1.index t 1 * 1024 + 1 * k.val = k.val; rw [(ix_1 t).2]; omega

/-- Result 0. -/
def res2 : Vec Ideal S1024x1024 .f32 := fun i => gram (LA (V0 m c)) (RB (V0 m c)) (i 0) (i 1)

theorem out_2 (t : Fin cfg0.N) (h2 : t.val % 2 = 1) (r j : Fin 1024) : (outsAt0 m c t.val t.isLt).1 (ix2 r j) = gram (LA (V0 m c)) (RB (V0 m c)) (rF t r) j := by
  have h0 : ¬t.val % 2 = 0 := by omega
  obtain ⟨u, hu⟩ : ∃ u : Fin cfg0.N, u.val = t.val - 1 := ⟨⟨t.val - 1, by have := t.isLt; omega⟩, rfl⟩
  have e : (outsAt0 m c (t.val - 1) (Nat.lt_of_le_of_lt (Nat.sub_le _ _) t.isLt)).2 = k0_pay2 (iblk m c 0 u) (iblk m c 1 u) := by
    rw [← scratch m c u (by omega) (by omega)]
    simp only [hu]
  rw [block m c t h0 h2, pay4, e, pay2]
  have hF : rF u r = rF t r := Fin.ext (by show 1024 * (u.val / 2) + r.val = 1024 * (t.val / 2) + r.val; omega)
  simp only [blk_0, blk_1, hF]
  exact sum_halves (fun k => LA (V0 m c) k (rF t r) * RB (V0 m c) k j) (rK u) (rK t)
    (fun k => by show 2048 * (u.val % 2) + k.val = k.val; omega) (fun k => by show 2048 * (t.val % 2) + k.val = 2048 + k.val; omega)

theorem flush_2 (t : Fin cfg0.N) (hf : (cfg0.win 2).flush t = true) : (dats m 0 c).flushed 2 t = ((cfg0.win 2).blk t).view.read (Elt Ideal) (res2 m c) := by
  show (cfg0.win 2).cut (grid0.coords t) ((dats m 0 c).after 2 t) = _
  rw [after0_2]
  funext y
  rw [View.read_apply]
  show ((outsAt0 m c t.val t.isLt).1) y = res2 m c _
  obtain ⟨r, j, rfl⟩ : ∃ (r : Fin 1024) (j : Fin 1024), y = ix2 r j := ⟨y 0, y 1, eq_ix2 y⟩
  rw [out_2 m c t ((flush0_2 t).mp hf)]
  unfold res2
  congr 1
  · apply Fin.ext
    show 1024 * (t.val / 2) + r.val = win0_2.index t 0 * 1024 + 1 * r.val
    rw [(ix_2 t).1]; omega
  · apply Fin.ext
    show j.val = win0_2.index t 1 * 1024 + 1 * j.val
    rw [(ix_2 t).2]; omega

theorem final_2 : (dats m 0 c).arrAt 2 cfg0.N = res2 m c :=
  (dats m 0 c).arrAt_eq_of_cover 2 (res2 m c) (flush_2 m c) fun i => by
    have hN : cfg0.N = 2 := N_0
    have h0 : (i 0 : Nat) < 1024 := (i 0).isLt
    have h1 : (i 1 : Nat) < 1024 := (i 1).isLt
    obtain ⟨t, ht⟩ : ∃ t : Fin cfg0.N, t.val = (i 0 : Nat) / 1024 * 2 + 1 := ⟨⟨(i 0 : Nat) / 1024 * 2 + 1, by omega⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [(ix_2 t).1]; omega
    | ⟨1, _⟩ =>
      show win0_2.index t 1 * 1024 ≤ (i 1 : Nat) ∧ (i 1 : Nat) < win0_2.index t 1 * 1024 + 1024
      rw [(ix_2 t).2]; omega

end Cert.DwXlKIdeal.Val

end
-- ==== Proof.DwXlRef.lean ====
/- The gradient of the input weight at the recurrence's columns, reference: its operations in order, its run, and what it leaves in its arguments. -/
module

public import proofs.«01_k».proof.Proof.Lines
public import proofs.«01_k».proof.Proof.Gen.DwXlRIdeal
public import Idealize.ShloMosaic.Lib.StableHlo.Run

@[expose] public section

set_option maxRecDepth 8000

noncomputable section

namespace Cert.DwXlRIdeal.Line

open Cert.DwXlRIdeal Cert.DwXlRIdeal.Gen Idealize.SL.Sem
open Idealize.ShloMosaic Idealize.ShloMosaic.TcCoe Idealize.ShloMosaic.StableHlo
open Cert.Lines

variable {F : FTy → Type} [FloatOps F]

/-- The operations, in order. -/
abbrev line : List (HloOp τ sig (Elt F)) :=
  [ nullary main_cst (constant S_ .f32 0x00000000#32),
    unary main_cst main_v0 (broadcastInDim S1024x1024 ![] bcast_S_S1024x1024),
    unary main_arg1 main_v1 (extf .f32 · bitsLt_bf16_f32),
    binary main_v1 main_v0 main_v2 (fun l r => Host.dotGeneral dot_S4096x1024_S1024x1024_S4096x1024_1_0_0_1_n_n none l r),
    unary main_arg0 main_v3 (extf .f32 · bitsLt_bf16_f32),
    binary main_v3 main_v1 main_v4 (fun l r => Host.dotGeneral dot_S4096x1024_S4096x1024_S1024x1024_0_0_1_1_n_n none l r),
    unary main_v4 main_v5 (transpose S1024x1024 [1, 0] · transposes_S1024x1024_S1024x1024_1_0),
    unary main_v5 main_v6 (transpose S1024x1024 [1, 0] · transposes_S1024x1024_S1024x1024_1_0) ]
/-- What they write. -/
abbrev W : List (Ref sig .tc) :=
  [main_cst, main_v0, main_v1, main_v2, main_v3, main_v4, main_v5, main_v6]
theorem writes : Writes (line (F := F)) W := rfl

set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W := by decide +kernel) : at_ V r = V (Proc.devRef .tc r) := keep writes hr V

theorem e_main_v1 : at_ V main_v1 = extf .f32 (at_ V main_arg1) bitsLt_bf16_f32 := eq1 writes 2 rfl V
theorem e_main_v3 : at_ V main_v3 = extf .f32 (at_ V main_arg0) bitsLt_bf16_f32 := eq1 writes 4 rfl V
theorem e_main_v4 : at_ V main_v4 = (fun l r => Host.dotGeneral dot_S4096x1024_S4096x1024_S1024x1024_0_0_1_1_n_n none l r) (at_ V main_v3) (at_ V main_v1) := eq2 writes 5 rfl V
theorem e_main_v5 : at_ V main_v5 = transpose S1024x1024 [1, 0] (at_ V main_v4) transposes_S1024x1024_S1024x1024_1_0 := eq1 writes 6 rfl V
theorem e_main_v6 : at_ V main_v6 = transpose S1024x1024 [1, 0] (at_ V main_v5) transposes_S1024x1024_S1024x1024_1_0 := eq1 writes 7 rfl V

theorem ops_sub : (line : List (HloOp τ sig (Elt F))).Forall fun op => op.bufs ⊆ tcRefs τ sig := by
  repeat' first | exact unary_bufs_sub .. | exact binary_bufs_sub .. | exact nullary_bufs_sub .. | refine ⟨?_, ?_⟩

/-- Every execution ends with every buffer at its contents after the line. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = at_ (launchContents m d) b :=
  run_seq scopedRefs_eq scopedSems_eq defs main (fun _ => line) main_eq (fun _ => ops_sub) m ρ

/-- An argument keeps what it held. -/
theorem arg (m : (ℓ : Loc nD τ sig) → Buf (Elt F) ℓ) (d : Dev nD) {b : Ref sig .tc} (hb : b ∉ W := by decide +kernel) :
    at_ (launchContents m d) b = m ((d.tc : Thread nD τ).loc b) := kept _ hb

end Cert.DwXlRIdeal.Line

end
-- ==== Proof.DwXlRefVal.lean ====
/- The gradient of the input weight at the recurrence's columns, reference: its result element by element. -/
module

public import proofs.«01_k».proof.Proof.DwXlRef
public import proofs.«01_k».proof.Proof.MlpSpec

@[expose] public section

set_option maxRecDepth 8000

noncomputable section

namespace Cert.DwXlRIdeal.Val

open Cert.DwXlRIdeal Cert.DwXlRIdeal.Gen Cert.DwXlRIdeal.Line Idealize.ShloMosaic Idealize.ShloMosaic.TcCoe Idealize.ShloMosaic.StableHlo Cert.NormRow Cert.NormsSpec Cert.MlpSpec

variable (V : Valuation τ sig (Elt Ideal))

/-- Argument 0. -/
def LA : Mat 4096 1024 := fun i j => (at_ V main_arg0 : Vec Ideal S4096x1024 .bf16) (ix2 i j)
theorem t_arg0 (i : Fin 4096) (j : Fin 1024) : (at_ V main_arg0 : Vec Ideal S4096x1024 .bf16) (ix2 i j) = LA V i j := rfl
/-- Argument 1. -/
def RB : Mat 4096 1024 := fun i j => (at_ V main_arg1 : Vec Ideal S4096x1024 .bf16) (ix2 i j)
theorem t_arg1 (i : Fin 4096) (j : Fin 1024) : (at_ V main_arg1 : Vec Ideal S4096x1024 .bf16) (ix2 i j) = RB V i j := rfl
theorem t_v6 (i : Fin 1024) (j : Fin 1024) : (at_ V main_v6 : Vec Ideal S1024x1024 .f32) (ix2 i j) = gram (LA V) (RB V) i j := by
  rw [e_main_v6, e_main_v5, e_main_v4, e_main_v3, e_main_v1]
  have h_arg1 := t_arg1 V
  generalize at_ V main_arg1 = x_arg1 at h_arg1 ⊢
  have h_arg0 := t_arg0 V
  generalize at_ V main_arg0 = x_arg0 at h_arg0 ⊢
  pointwise
  try simp only [h_arg1, h_arg0]
  rfl

end Cert.DwXlRIdeal.Val

end
-- ==== Proof.DwXlClaims.lean ====
/- The gradient of the input weight at the recurrence's columns: its claims. -/
module

public import proofs.«01_k».proof.Defs
public import proofs.«01_k».proof.Proof.Gen.DwXlK.Frame
public import proofs.«01_k».proof.Proof.DwXlVal
public import proofs.«01_k».proof.Proof.DwXlRefVal
public import proofs.«01_k».proof.Proof.DwXlRef
public import Idealize.ShloMosaic.Lib.Quiescent

@[expose] public section

set_option maxRecDepth 8000

noncomputable section

namespace Cert.DwXlClaims

open Idealize.ShloMosaic Idealize.ShloMosaic.TcCoe Idealize.ShloMosaic.StableHlo Idealize.SL.Sem

theorem frame_p : quiescent_DwXlK := fun m ρ _ => DwXlK.Gen.frame m ρ

theorem frame_pi : quiescent_DwXlKIdeal := fun m ρ _ => DwXlKIdeal.Gen.frame m ρ

theorem frame_ri : quiescent_DwXlRIdeal := fun m ρ _ =>
  (θ_run DwXlRIdeal.defs _ _).mono (fun r h => ⟨fun c => ⟨(h c DwXlRIdeal.main_arg0).trans (DwXlRIdeal.Line.arg m c), (h c DwXlRIdeal.main_arg1).trans (DwXlRIdeal.Line.arg m c)⟩,
    sem_eq_zero_of_no_sems (by decide) r.2⟩) (DwXlRIdeal.Line.run m ρ)

theorem algebraic : algebraic_DwXlKIdeal_DwXlRIdeal := by
  intro m ρ m' ρ' _ hagree
  refine ⟨fun c => DwXlKIdeal.Val.res2 m c,
    (θ_run DwXlKIdeal.defs _ _).mono (fun r h c => ?_) (DwXlKIdeal.Value.run_blocks (F := Ideal) m ρ), ?_⟩
  · have e := h c
    simp only [DwXlKIdeal.Val.final_2] at e
    exact e
  · refine (θ_run DwXlRIdeal.defs _ _).mono (fun r h c => ?_) (DwXlRIdeal.Line.run (F := Ideal) m' ρ')
    obtain ⟨h0, h1⟩ := hagree c
    have same_LA : DwXlRIdeal.Val.LA (launchContents m' c) = DwXlKIdeal.Val.LA (DwXlKIdeal.Val.V0 m c) := funext fun i => funext fun j => congrFun ((DwXlRIdeal.Line.arg m' c (b := DwXlRIdeal.main_arg0)).trans h0) (ix2 i j)
    have same_RB : DwXlRIdeal.Val.RB (launchContents m' c) = DwXlKIdeal.Val.RB (DwXlKIdeal.Val.V0 m c) := funext fun i => funext fun j => congrFun ((DwXlRIdeal.Line.arg m' c (b := DwXlRIdeal.main_arg1)).trans h1) (ix2 i j)
    refine ⟨(h c _).trans ?_, (h c DwXlRIdeal.main_arg0).trans (DwXlRIdeal.Line.arg m' c), (h c DwXlRIdeal.main_arg1).trans (DwXlRIdeal.Line.arg m' c)⟩
    · funext y
      obtain ⟨i, j, rfl⟩ : ∃ (i : Fin 1024) (j : Fin 1024), y = ix2 i j := ⟨y 0, y 1, eq_ix2 y⟩
      refine (DwXlRIdeal.Val.t_v6 (launchContents m' c) i j).trans ?_
      simp only [same_LA, same_RB]
      rfl

end Cert.DwXlClaims

end
-- ==== Proof.DwXbcVal.lean ====
/- The gradient of the input weight at the convolution's columns, kernel: its result element by element. -/
module

public import proofs.«01_k».proof.Proof.Gen.DwXbcKIdeal.Value
public import proofs.«01_k».proof.Proof.MlpSpec
public import Idealize.ShloMosaic.Lib.Tactic

@[expose] public section

set_option maxRecDepth 8000

noncomputable section

namespace Cert.DwXbcKIdeal.Val

open Cert.DwXbcKIdeal Cert.DwXbcKIdeal.Gen Idealize.ShloMosaic Idealize.ShloMosaic.TcCoe Idealize.SL.Sem Cert.NormRow Cert.NormsSpec Cert.MlpSpec Cert.Tiles
open Cert.DwXbcKIdeal.Gen (V)

variable (m : (ℓ : Loc nD τ sig) → Buf (Elt Ideal) ℓ) (c : Dev nD)

/-- What the device's memory holds at launch. -/
abbrev V0 : Valuation τ sig (Elt Ideal) := fun b => m (c, b)

/-- An argument, as a matrix. -/
def LA (V : Valuation τ sig (Elt Ideal)) : Mat 4096 1536 := fun i j => (V (Proc.devRef .tc main_arg0) : Vec Ideal S4096x1536 .bf16) (ix2 i j)
/-- An argument, as a matrix. -/
def RB (V : Valuation τ sig (Elt Ideal)) : Mat 4096 1024 := fun i j => (V (Proc.devRef .tc main_arg1) : Vec Ideal S4096x1024 .bf16) (ix2 i j)

theorem hz : (![0, 0] : Fin 2 → Nat) = fun _ => 0 := funext fun a => by fin_cases a <;> rfl

theorem pay1 (x0 : Vec Ideal S2048x1536 .bf16) (x1 : Vec Ideal S2048x1024 .bf16) (r : Fin 1536) (j : Fin 1024) : k0_pay1 (F := Ideal) x0 x1 (ix2 r j) = ∑ k : Fin 2048, x0 (ix2 k r) * x1 (ix2 k j) := by
  pointwise [k0_pay1]

theorem pay2 (x0 : Vec Ideal S2048x1536 .bf16) (x1 : Vec Ideal S2048x1024 .bf16) (r : Fin 1536) (j : Fin 1024) : k0_pay2 (F := Ideal) x0 x1 (ix2 r j) = ∑ k : Fin 2048, x0 (ix2 k r) * x1 (ix2 k j) := by
  pointwise [k0_pay2]
  exact pay1 x0 x1 r j

theorem pay4 (x0 : Vec Ideal S2048x1536 .bf16) (x1 : Vec Ideal S2048x1024 .bf16) (xs : Vec Ideal S1536x1024 .f32) (r : Fin 1536) (j : Fin 1024) : k0_pay4 (F := Ideal) x0 x1 xs (ix2 r j) = xs (ix2 r j) + ∑ k : Fin 2048, x0 (ix2 k r) * x1 (ix2 k j) := by
  pointwise [k0_pay4]
  rw [pay1]

/-- After a point of the first half of the rows, the accumulator holds that half's product. -/
theorem scratch (t : Fin cfg0.N) (h0 : t.val % 2 = 0) (h2 : ¬t.val % 2 = 1) : (outsAt0 m c t.val t.isLt).2 = k0_pay2 (iblk m c 0 t) (iblk m c 1 t) := by
  rw [outsAt0_A m c t h0 h2]
  dsimp only
  unfold sout0_A_0
  rw [View.read_writes_eq_canon _ _ _ (scover0_A_0 _ _ _ _ _ _ _ _ _ _ _ _ _ _ _)]
  unfold kernelRun0_A
  dsimp only
  rw [View.canon_unit_zero hz]
  try sl_unfold_words
  simp only [View.readAt_eq_ld, Memref.IsWhole.read_unread, View.ld_unit_zero (S := S2048x1536) hz, View.ld_unit_zero (S := S2048x1024) hz]

/-- After a point of the second half, the block holds both halves' products. -/
theorem block (t : Fin cfg0.N) (h0 : ¬t.val % 2 = 0) (h2 : t.val % 2 = 1) : (outsAt0 m c t.val t.isLt).1 = k0_pay4 (iblk m c 0 t) (iblk m c 1 t) (outsAt0 m c (t.val - 1) (Nat.lt_of_le_of_lt (Nat.sub_le _ _) t.isLt)).2 := by
  rw [outsAt0_B m c t h0 h2]
  dsimp only
  unfold out0_B_2
  rw [View.read_writes_eq_canon _ _ _ (cover0_B_2 _ _ _ _ _ _ _ _ _ _ _ _ _ _ _ _)]
  unfold kernelRun0_B
  dsimp only
  rw [View.canon_unit_zero hz]
  try sl_unfold_words
  simp only [View.readAt_eq_ld, Memref.IsWhole.read_unread, (Memref.isWhole_whole (sig := sig) _).read_unread, View.ld_unit_zero (S := S2048x1536) hz, View.ld_unit_zero (S := S2048x1024) hz, View.ld_unit_zero (S := S1536x1024) hz]

/-- The place in the whole of row (or column) `r` of the block of point `t`. -/
def rK (t : Fin cfg0.N) (r : Fin 2048) : Fin 4096 := ⟨2048 * (t.val % 2) + r.val, by have := t.isLt; have : cfg0.N = 2 := N_0; have := r.isLt; omega⟩

/-- The place in the whole of row (or column) `r` of the block of point `t`. -/
def rF (t : Fin cfg0.N) (r : Fin 1536) : Fin 1536 := ⟨1536 * (t.val / 2) + r.val, by have := t.isLt; have : cfg0.N = 2 := N_0; have := r.isLt; omega⟩

theorem ix_0 (t : Fin cfg0.N) : win0_0.index t 0 = t.val % 2 ∧ win0_0.index t 1 = t.val / 2 := by decide +revert

theorem ix_1 (t : Fin cfg0.N) : win0_1.index t 0 = t.val % 2 ∧ win0_1.index t 1 = 0 := by decide +revert

theorem ix_2 (t : Fin cfg0.N) : win0_2.index t 0 = t.val / 2 ∧ win0_2.index t 1 = 0 := by decide +revert

theorem blk_0 (t : Fin cfg0.N) (r : Fin 2048) (k : Fin 1536) : (iblk m c 0 t : Vec Ideal S2048x1536 .bf16) (ix2 r k) = LA (V0 m c) (rK t r) (rF t k) := by
  unfold iblk
  rw [View.read_apply]
  show V m c main_arg0 _ = V m c main_arg0 _
  congr 1
  funext a
  apply Fin.ext
  match a with
  | ⟨0, _⟩ => show win0_0.index t 0 * 2048 + 1 * r.val = 2048 * (t.val % 2) + r.val; rw [(ix_0 t).1]; omega
  | ⟨1, _⟩ => show win0_0.index t 1 * 1536 + 1 * k.val = 1536 * (t.val / 2) + k.val; rw [(ix_0 t).2]; omega

theorem blk_1 (t : Fin cfg0.N) (r : Fin 2048) (k : Fin 1024) : (iblk m c 1 t : Vec Ideal S2048x1024 .bf16) (ix2 r k) = RB (V0 m c) (rK t r) (k) := by
  unfold iblk
  rw [View.read_apply]
  show V m c main_arg1 _ = V m c main_arg1 _
  congr 1
  funext a
  apply Fin.ext
  match a with
  | ⟨0, _⟩ => show win0_1.index t 0 * 2048 + 1 * r.val = 2048 * (t.val % 2) + r.val; rw [(ix_1 t).1]; omega
  | ⟨1, _⟩ => show win0_1.index t 1 * 1024 + 1 * k.val = k.val; rw [(ix_1 t).2]; omega

/-- Result 0. -/
def res2 : Vec Ideal S1536x1024 .f32 := fun i => gram (LA (V0 m c)) (RB (V0 m c)) (i 0) (i 1)

theorem out_2 (t : Fin cfg0.N) (h2 : t.val % 2 = 1) (r : Fin 1536) (j : Fin 1024) : (outsAt0 m c t.val t.isLt).1 (ix2 r j) = gram (LA (V0 m c)) (RB (V0 m c)) (rF t r) j := by
  have h0 : ¬t.val % 2 = 0 := by omega
  obtain ⟨u, hu⟩ : ∃ u : Fin cfg0.N, u.val = t.val - 1 := ⟨⟨t.val - 1, by have := t.isLt; omega⟩, rfl⟩
  have e : (outsAt0 m c (t.val - 1) (Nat.lt_of_le_of_lt (Nat.sub_le _ _) t.isLt)).2 = k0_pay2 (iblk m c 0 u) (iblk m c 1 u) := by
    rw [← scratch m c u (by omega) (by omega)]
    simp only [hu]
  rw [block m c t h0 h2, pay4, e, pay2]
  have hF : rF u r = rF t r := Fin.ext (by show 1536 * (u.val / 2) + r.val = 1536 * (t.val / 2) + r.val; omega)
  simp only [blk_0, blk_1, hF]
  exact sum_halves (fun k => LA (V0 m c) k (rF t r) * RB (V0 m c) k j) (rK u) (rK t)
    (fun k => by show 2048 * (u.val % 2) + k.val = k.val; omega) (fun k => by show 2048 * (t.val % 2) + k.val = 2048 + k.val; omega)

theorem flush_2 (t : Fin cfg0.N) (hf : (cfg0.win 2).flush t = true) : (dats m 0 c).flushed 2 t = ((cfg0.win 2).blk t).view.read (Elt Ideal) (res2 m c) := by
  show (cfg0.win 2).cut (grid0.coords t) ((dats m 0 c).after 2 t) = _
  rw [after0_2]
  funext y
  rw [View.read_apply]
  show ((outsAt0 m c t.val t.isLt).1) y = res2 m c _
  obtain ⟨r, j, rfl⟩ : ∃ (r : Fin 1536) (j : Fin 1024), y = ix2 r j := ⟨y 0, y 1, eq_ix2 y⟩
  rw [out_2 m c t ((flush0_2 t).mp hf)]
  unfold res2
  congr 1
  · apply Fin.ext
    show 1536 * (t.val / 2) + r.val = win0_2.index t 0 * 1536 + 1 * r.val
    rw [(ix_2 t).1]; omega
  · apply Fin.ext
    show j.val = win0_2.index t 1 * 1024 + 1 * j.val
    rw [(ix_2 t).2]; omega

theorem final_2 : (dats m 0 c).arrAt 2 cfg0.N = res2 m c :=
  (dats m 0 c).arrAt_eq_of_cover 2 (res2 m c) (flush_2 m c) fun i => by
    have hN : cfg0.N = 2 := N_0
    have h0 : (i 0 : Nat) < 1536 := (i 0).isLt
    have h1 : (i 1 : Nat) < 1024 := (i 1).isLt
    obtain ⟨t, ht⟩ : ∃ t : Fin cfg0.N, t.val = (i 0 : Nat) / 1536 * 2 + 1 := ⟨⟨(i 0 : Nat) / 1536 * 2 + 1, by omega⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 1536 ≤ (i 0 : Nat) ∧ (i 0 : Nat) < win0_2.index t 0 * 1536 + 1536
      rw [(ix_2 t).1]; omega
    | ⟨1, _⟩ =>
      show win0_2.index t 1 * 1024 ≤ (i 1 : Nat) ∧ (i 1 : Nat) < win0_2.index t 1 * 1024 + 1024
      rw [(ix_2 t).2]; omega

end Cert.DwXbcKIdeal.Val

end
-- ==== Proof.DwXbcRef.lean ====
/- The gradient of the input weight at the convolution's columns, reference: its operations in order, its run, and what it leaves in its arguments. -/
module

public import proofs.«01_k».proof.Proof.Lines
public import proofs.«01_k».proof.Proof.Gen.DwXbcRIdeal
public import Idealize.ShloMosaic.Lib.StableHlo.Run

@[expose] public section

set_option maxRecDepth 8000

noncomputable section

namespace Cert.DwXbcRIdeal.Line

open Cert.DwXbcRIdeal Cert.DwXbcRIdeal.Gen Idealize.SL.Sem
open Idealize.ShloMosaic Idealize.ShloMosaic.TcCoe Idealize.ShloMosaic.StableHlo
open Cert.Lines

variable {F : FTy → Type} [FloatOps F]

/-- The operations, in order. -/
abbrev line : List (HloOp τ sig (Elt F)) :=
  [ nullary main_cst (constant S_ .f32 0x00000000#32),
    unary main_cst main_v0 (broadcastInDim S1024x1536 ![] bcast_S_S1024x1536),
    unary main_arg1 main_v1 (extf .f32 · bitsLt_bf16_f32),
    binary main_v1 main_v0 main_v2 (fun l r => Host.dotGeneral dot_S4096x1024_S1024x1536_S4096x1536_1_0_0_1_n_n none l r),
    unary main_arg0 main_v3 (extf .f32 · bitsLt_bf16_f32),
    binary main_v3 main_v1 main_v4 (fun l r => Host.dotGeneral dot_S4096x1536_S4096x1024_S1536x1024_0_0_1_1_n_n none l r),
    unary main_v4 main_v5 (transpose S1024x1536 [1, 0] · transposes_S1536x1024_S1024x1536_1_0),
    unary main_v5 main_v6 (transpose S1536x1024 [1, 0] · transposes_S1024x1536_S1536x1024_1_0) ]
/-- What they write. -/
abbrev W : List (Ref sig .tc) :=
  [main_cst, main_v0, main_v1, main_v2, main_v3, main_v4, main_v5, main_v6]
theorem writes : Writes (line (F := F)) W := rfl

set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W := by decide +kernel) : at_ V r = V (Proc.devRef .tc r) := keep writes hr V

theorem e_main_v1 : at_ V main_v1 = extf .f32 (at_ V main_arg1) bitsLt_bf16_f32 := eq1 writes 2 rfl V
theorem e_main_v3 : at_ V main_v3 = extf .f32 (at_ V main_arg0) bitsLt_bf16_f32 := eq1 writes 4 rfl V
theorem e_main_v4 : at_ V main_v4 = (fun l r => Host.dotGeneral dot_S4096x1536_S4096x1024_S1536x1024_0_0_1_1_n_n none l r) (at_ V main_v3) (at_ V main_v1) := eq2 writes 5 rfl V
theorem e_main_v5 : at_ V main_v5 = transpose S1024x1536 [1, 0] (at_ V main_v4) transposes_S1536x1024_S1024x1536_1_0 := eq1 writes 6 rfl V
theorem e_main_v6 : at_ V main_v6 = transpose S1536x1024 [1, 0] (at_ V main_v5) transposes_S1024x1536_S1536x1024_1_0 := eq1 writes 7 rfl V

theorem ops_sub : (line : List (HloOp τ sig (Elt F))).Forall fun op => op.bufs ⊆ tcRefs τ sig := by
  repeat' first | exact unary_bufs_sub .. | exact binary_bufs_sub .. | exact nullary_bufs_sub .. | refine ⟨?_, ?_⟩

/-- Every execution ends with every buffer at its contents after the line. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = at_ (launchContents m d) b :=
  run_seq scopedRefs_eq scopedSems_eq defs main (fun _ => line) main_eq (fun _ => ops_sub) m ρ

/-- An argument keeps what it held. -/
theorem arg (m : (ℓ : Loc nD τ sig) → Buf (Elt F) ℓ) (d : Dev nD) {b : Ref sig .tc} (hb : b ∉ W := by decide +kernel) :
    at_ (launchContents m d) b = m ((d.tc : Thread nD τ).loc b) := kept _ hb

end Cert.DwXbcRIdeal.Line

end
-- ==== Proof.DwXbcRefVal.lean ====
/- The gradient of the input weight at the convolution's columns, reference: its result element by element. -/
module

public import proofs.«01_k».proof.Proof.DwXbcRef
public import proofs.«01_k».proof.Proof.MlpSpec

@[expose] public section

set_option maxRecDepth 8000

noncomputable section

namespace Cert.DwXbcRIdeal.Val

open Cert.DwXbcRIdeal Cert.DwXbcRIdeal.Gen Cert.DwXbcRIdeal.Line Idealize.ShloMosaic Idealize.ShloMosaic.TcCoe Idealize.ShloMosaic.StableHlo Cert.NormRow Cert.NormsSpec Cert.MlpSpec

variable (V : Valuation τ sig (Elt Ideal))

/-- Argument 0. -/
def LA : Mat 4096 1536 := fun i j => (at_ V main_arg0 : Vec Ideal S4096x1536 .bf16) (ix2 i j)
theorem t_arg0 (i : Fin 4096) (j : Fin 1536) : (at_ V main_arg0 : Vec Ideal S4096x1536 .bf16) (ix2 i j) = LA V i j := rfl
/-- Argument 1. -/
def RB : Mat 4096 1024 := fun i j => (at_ V main_arg1 : Vec Ideal S4096x1024 .bf16) (ix2 i j)
theorem t_arg1 (i : Fin 4096) (j : Fin 1024) : (at_ V main_arg1 : Vec Ideal S4096x1024 .bf16) (ix2 i j) = RB V i j := rfl
theorem t_v6 (i : Fin 1536) (j : Fin 1024) : (at_ V main_v6 : Vec Ideal S1536x1024 .f32) (ix2 i j) = gram (LA V) (RB V) i j := by
  rw [e_main_v6, e_main_v5, e_main_v4, e_main_v3, e_main_v1]
  have h_arg1 := t_arg1 V
  generalize at_ V main_arg1 = x_arg1 at h_arg1 ⊢
  have h_arg0 := t_arg0 V
  generalize at_ V main_arg0 = x_arg0 at h_arg0 ⊢
  pointwise
  try simp only [h_arg1, h_arg0]
  rfl

end Cert.DwXbcRIdeal.Val

end
-- ==== Proof.DwXbcClaims.lean ====
/- The gradient of the input weight at the convolution's columns: its claims. -/
module

public import proofs.«01_k».proof.Defs
public import proofs.«01_k».proof.Proof.Gen.DwXbcK.Frame
public import proofs.«01_k».proof.Proof.DwXbcVal
public import proofs.«01_k».proof.Proof.DwXbcRefVal
public import proofs.«01_k».proof.Proof.DwXbcRef
public import Idealize.ShloMosaic.Lib.Quiescent

@[expose] public section

set_option maxRecDepth 8000

noncomputable section

namespace Cert.DwXbcClaims

open Idealize.ShloMosaic Idealize.ShloMosaic.TcCoe Idealize.ShloMosaic.StableHlo Idealize.SL.Sem

theorem frame_p : quiescent_DwXbcK := fun m ρ _ => DwXbcK.Gen.frame m ρ

theorem frame_pi : quiescent_DwXbcKIdeal := fun m ρ _ => DwXbcKIdeal.Gen.frame m ρ

theorem frame_ri : quiescent_DwXbcRIdeal := fun m ρ _ =>
  (θ_run DwXbcRIdeal.defs _ _).mono (fun r h => ⟨fun c => ⟨(h c DwXbcRIdeal.main_arg0).trans (DwXbcRIdeal.Line.arg m c), (h c DwXbcRIdeal.main_arg1).trans (DwXbcRIdeal.Line.arg m c)⟩,
    sem_eq_zero_of_no_sems (by decide) r.2⟩) (DwXbcRIdeal.Line.run m ρ)

theorem algebraic : algebraic_DwXbcKIdeal_DwXbcRIdeal := by
  intro m ρ m' ρ' _ hagree
  refine ⟨fun c => DwXbcKIdeal.Val.res2 m c,
    (θ_run DwXbcKIdeal.defs _ _).mono (fun r h c => ?_) (DwXbcKIdeal.Value.run_blocks (F := Ideal) m ρ), ?_⟩
  · have e := h c
    simp only [DwXbcKIdeal.Val.final_2] at e
    exact e
  · refine (θ_run DwXbcRIdeal.defs _ _).mono (fun r h c => ?_) (DwXbcRIdeal.Line.run (F := Ideal) m' ρ')
    obtain ⟨h0, h1⟩ := hagree c
    have same_LA : DwXbcRIdeal.Val.LA (launchContents m' c) = DwXbcKIdeal.Val.LA (DwXbcKIdeal.Val.V0 m c) := funext fun i => funext fun j => congrFun ((DwXbcRIdeal.Line.arg m' c (b := DwXbcRIdeal.main_arg0)).trans h0) (ix2 i j)
    have same_RB : DwXbcRIdeal.Val.RB (launchContents m' c) = DwXbcKIdeal.Val.RB (DwXbcKIdeal.Val.V0 m c) := funext fun i => funext fun j => congrFun ((DwXbcRIdeal.Line.arg m' c (b := DwXbcRIdeal.main_arg1)).trans h1) (ix2 i j)
    refine ⟨(h c _).trans ?_, (h c DwXbcRIdeal.main_arg0).trans (DwXbcRIdeal.Line.arg m' c), (h c DwXbcRIdeal.main_arg1).trans (DwXbcRIdeal.Line.arg m' c)⟩
    · funext y
      obtain ⟨i, j, rfl⟩ : ∃ (i : Fin 1536) (j : Fin 1024), y = ix2 i j := ⟨y 0, y 1, eq_ix2 y⟩
      refine (DwXbcRIdeal.Val.t_v6 (launchContents m' c) i j).trans ?_
      simp only [same_LA, same_RB]
      rfl

end Cert.DwXbcClaims

end
-- ==== Proof.DwDtVal.lean ====
/- The gradient of the input weight at the step sizes' columns, kernel: its result element by element. -/
module

public import proofs.«01_k».proof.Proof.Gen.DwDtKIdeal.Value
public import proofs.«01_k».proof.Proof.MlpSpec
public import Idealize.ShloMosaic.Lib.Tactic

@[expose] public section

set_option maxRecDepth 8000

noncomputable section

namespace Cert.DwDtKIdeal.Val

open Cert.DwDtKIdeal Cert.DwDtKIdeal.Gen Idealize.ShloMosaic Idealize.ShloMosaic.TcCoe Idealize.SL.Sem Cert.NormRow Cert.NormsSpec Cert.MlpSpec Cert.Tiles
open Cert.DwDtKIdeal.Gen (V)

variable (m : (ℓ : Loc nD τ sig) → Buf (Elt Ideal) ℓ) (c : Dev nD)

/-- What the device's memory holds at launch. -/
abbrev V0 : Valuation τ sig (Elt Ideal) := fun b => m (c, b)

/-- An argument, as a matrix. -/
def LA (V : Valuation τ sig (Elt Ideal)) : Mat 4096 128 := fun i j => (V (Proc.devRef .tc main_arg0) : Vec Ideal S4096x128 .bf16) (ix2 i j)
/-- An argument, as a matrix. -/
def RB (V : Valuation τ sig (Elt Ideal)) : Mat 4096 1024 := fun i j => (V (Proc.devRef .tc main_arg1) : Vec Ideal S4096x1024 .bf16) (ix2 i j)

theorem hz : (![0, 0] : Fin 2 → Nat) = fun _ => 0 := funext fun a => by fin_cases a <;> rfl

theorem pay1 (x0 : Vec Ideal S2048x128 .bf16) (x1 : Vec Ideal S2048x1024 .bf16) (r : Fin 128) (j : Fin 1024) : k0_pay1 (F := Ideal) x0 x1 (ix2 r j) = ∑ k : Fin 2048, x0 (ix2 k r) * x1 (ix2 k j) := by
  pointwise [k0_pay1]

theorem pay2 (x0 : Vec Ideal S2048x128 .bf16) (x1 : Vec Ideal S2048x1024 .bf16) (r : Fin 128) (j : Fin 1024) : k0_pay2 (F := Ideal) x0 x1 (ix2 r j) = ∑ k : Fin 2048, x0 (ix2 k r) * x1 (ix2 k j) := by
  pointwise [k0_pay2]
  exact pay1 x0 x1 r j

theorem pay4 (x0 : Vec Ideal S2048x128 .bf16) (x1 : Vec Ideal S2048x1024 .bf16) (xs : Vec Ideal S128x1024 .f32) (r : Fin 128) (j : Fin 1024) : k0_pay4 (F := Ideal) x0 x1 xs (ix2 r j) = xs (ix2 r j) + ∑ k : Fin 2048, x0 (ix2 k r) * x1 (ix2 k j) := by
  pointwise [k0_pay4]
  rw [pay1]

/-- After a point of the first half of the rows, the accumulator holds that half's product. -/
theorem scratch (t : Fin cfg0.N) (h0 : t.val % 2 = 0) (h2 : ¬t.val % 2 = 1) : (outsAt0 m c t.val t.isLt).2 = k0_pay2 (iblk m c 0 t) (iblk m c 1 t) := by
  rw [outsAt0_A m c t h0 h2]
  dsimp only
  unfold sout0_A_0
  rw [View.read_writes_eq_canon _ _ _ (scover0_A_0 _ _ _ _ _ _ _ _ _ _ _ _ _ _ _)]
  unfold kernelRun0_A
  dsimp only
  rw [View.canon_unit_zero hz]
  try sl_unfold_words
  simp only [View.readAt_eq_ld, Memref.IsWhole.read_unread, View.ld_unit_zero (S := S2048x128) hz, View.ld_unit_zero (S := S2048x1024) hz]

/-- After a point of the second half, the block holds both halves' products. -/
theorem block (t : Fin cfg0.N) (h0 : ¬t.val % 2 = 0) (h2 : t.val % 2 = 1) : (outsAt0 m c t.val t.isLt).1 = k0_pay4 (iblk m c 0 t) (iblk m c 1 t) (outsAt0 m c (t.val - 1) (Nat.lt_of_le_of_lt (Nat.sub_le _ _) t.isLt)).2 := by
  rw [outsAt0_B m c t h0 h2]
  dsimp only
  unfold out0_B_2
  rw [View.read_writes_eq_canon _ _ _ (cover0_B_2 _ _ _ _ _ _ _ _ _ _ _ _ _ _ _ _)]
  unfold kernelRun0_B
  dsimp only
  rw [View.canon_unit_zero hz]
  try sl_unfold_words
  simp only [View.readAt_eq_ld, Memref.IsWhole.read_unread, (Memref.isWhole_whole (sig := sig) _).read_unread, View.ld_unit_zero (S := S2048x128) hz, View.ld_unit_zero (S := S2048x1024) hz, View.ld_unit_zero (S := S128x1024) hz]

/-- The place in the whole of row (or column) `r` of the block of point `t`. -/
def rK (t : Fin cfg0.N) (r : Fin 2048) : Fin 4096 := ⟨2048 * (t.val % 2) + r.val, by have := t.isLt; have : cfg0.N = 2 := N_0; have := r.isLt; omega⟩

/-- The place in the whole of row (or column) `r` of the block of point `t`. -/
def rF (t : Fin cfg0.N) (r : Fin 128) : Fin 128 := ⟨128 * (t.val / 2) + r.val, by have := t.isLt; have : cfg0.N = 2 := N_0; have := r.isLt; omega⟩

theorem ix_0 (t : Fin cfg0.N) : win0_0.index t 0 = t.val % 2 ∧ win0_0.index t 1 = t.val / 2 := by decide +revert

theorem ix_1 (t : Fin cfg0.N) : win0_1.index t 0 = t.val % 2 ∧ win0_1.index t 1 = 0 := by decide +revert

theorem ix_2 (t : Fin cfg0.N) : win0_2.index t 0 = t.val / 2 ∧ win0_2.index t 1 = 0 := by decide +revert

theorem blk_0 (t : Fin cfg0.N) (r : Fin 2048) (k : Fin 128) : (iblk m c 0 t : Vec Ideal S2048x128 .bf16) (ix2 r k) = LA (V0 m c) (rK t r) (rF t k) := by
  unfold iblk
  rw [View.read_apply]
  show V m c main_arg0 _ = V m c main_arg0 _
  congr 1
  funext a
  apply Fin.ext
  match a with
  | ⟨0, _⟩ => show win0_0.index t 0 * 2048 + 1 * r.val = 2048 * (t.val % 2) + r.val; rw [(ix_0 t).1]; omega
  | ⟨1, _⟩ => show win0_0.index t 1 * 128 + 1 * k.val = 128 * (t.val / 2) + k.val; rw [(ix_0 t).2]; omega

theorem blk_1 (t : Fin cfg0.N) (r : Fin 2048) (k : Fin 1024) : (iblk m c 1 t : Vec Ideal S2048x1024 .bf16) (ix2 r k) = RB (V0 m c) (rK t r) (k) := by
  unfold iblk
  rw [View.read_apply]
  show V m c main_arg1 _ = V m c main_arg1 _
  congr 1
  funext a
  apply Fin.ext
  match a with
  | ⟨0, _⟩ => show win0_1.index t 0 * 2048 + 1 * r.val = 2048 * (t.val % 2) + r.val; rw [(ix_1 t).1]; omega
  | ⟨1, _⟩ => show win0_1.index t 1 * 1024 + 1 * k.val = k.val; rw [(ix_1 t).2]; omega

/-- Result 0. -/
def res2 : Vec Ideal S128x1024 .f32 := fun i => gram (LA (V0 m c)) (RB (V0 m c)) (i 0) (i 1)

theorem out_2 (t : Fin cfg0.N) (h2 : t.val % 2 = 1) (r : Fin 128) (j : Fin 1024) : (outsAt0 m c t.val t.isLt).1 (ix2 r j) = gram (LA (V0 m c)) (RB (V0 m c)) (rF t r) j := by
  have h0 : ¬t.val % 2 = 0 := by omega
  obtain ⟨u, hu⟩ : ∃ u : Fin cfg0.N, u.val = t.val - 1 := ⟨⟨t.val - 1, by have := t.isLt; omega⟩, rfl⟩
  have e : (outsAt0 m c (t.val - 1) (Nat.lt_of_le_of_lt (Nat.sub_le _ _) t.isLt)).2 = k0_pay2 (iblk m c 0 u) (iblk m c 1 u) := by
    rw [← scratch m c u (by omega) (by omega)]
    simp only [hu]
  rw [block m c t h0 h2, pay4, e, pay2]
  have hF : rF u r = rF t r := Fin.ext (by show 128 * (u.val / 2) + r.val = 128 * (t.val / 2) + r.val; omega)
  simp only [blk_0, blk_1, hF]
  exact sum_halves (fun k => LA (V0 m c) k (rF t r) * RB (V0 m c) k j) (rK u) (rK t)
    (fun k => by show 2048 * (u.val % 2) + k.val = k.val; omega) (fun k => by show 2048 * (t.val % 2) + k.val = 2048 + k.val; omega)

theorem flush_2 (t : Fin cfg0.N) (hf : (cfg0.win 2).flush t = true) : (dats m 0 c).flushed 2 t = ((cfg0.win 2).blk t).view.read (Elt Ideal) (res2 m c) := by
  show (cfg0.win 2).cut (grid0.coords t) ((dats m 0 c).after 2 t) = _
  rw [after0_2]
  funext y
  rw [View.read_apply]
  show ((outsAt0 m c t.val t.isLt).1) y = res2 m c _
  obtain ⟨r, j, rfl⟩ : ∃ (r : Fin 128) (j : Fin 1024), y = ix2 r j := ⟨y 0, y 1, eq_ix2 y⟩
  rw [out_2 m c t ((flush0_2 t).mp hf)]
  unfold res2
  congr 1
  · apply Fin.ext
    show 128 * (t.val / 2) + r.val = win0_2.index t 0 * 128 + 1 * r.val
    rw [(ix_2 t).1]; omega
  · apply Fin.ext
    show j.val = win0_2.index t 1 * 1024 + 1 * j.val
    rw [(ix_2 t).2]; omega

theorem final_2 : (dats m 0 c).arrAt 2 cfg0.N = res2 m c :=
  (dats m 0 c).arrAt_eq_of_cover 2 (res2 m c) (flush_2 m c) fun i => by
    have hN : cfg0.N = 2 := N_0
    have h0 : (i 0 : Nat) < 128 := (i 0).isLt
    have h1 : (i 1 : Nat) < 1024 := (i 1).isLt
    obtain ⟨t, ht⟩ : ∃ t : Fin cfg0.N, t.val = (i 0 : Nat) / 128 * 2 + 1 := ⟨⟨(i 0 : Nat) / 128 * 2 + 1, by omega⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 128 ≤ (i 0 : Nat) ∧ (i 0 : Nat) < win0_2.index t 0 * 128 + 128
      rw [(ix_2 t).1]; omega
    | ⟨1, _⟩ =>
      show win0_2.index t 1 * 1024 ≤ (i 1 : Nat) ∧ (i 1 : Nat) < win0_2.index t 1 * 1024 + 1024
      rw [(ix_2 t).2]; omega

end Cert.DwDtKIdeal.Val

end
-- ==== Proof.DwDtRef.lean ====
/- The gradient of the input weight at the step sizes' columns, reference: its operations in order, its run, and what it leaves in its arguments. -/
module

public import proofs.«01_k».proof.Proof.Lines
public import proofs.«01_k».proof.Proof.Gen.DwDtRIdeal
public import Idealize.ShloMosaic.Lib.StableHlo.Run

@[expose] public section

set_option maxRecDepth 8000

noncomputable section

namespace Cert.DwDtRIdeal.Line

open Cert.DwDtRIdeal Cert.DwDtRIdeal.Gen Idealize.SL.Sem
open Idealize.ShloMosaic Idealize.ShloMosaic.TcCoe Idealize.ShloMosaic.StableHlo
open Cert.Lines

variable {F : FTy → Type} [FloatOps F]

/-- The operations, in order. -/
abbrev line : List (HloOp τ sig (Elt F)) :=
  [ nullary main_cst (constant S_ .f32 0x00000000#32),
    unary main_cst main_v0 (broadcastInDim S1024x128 ![] bcast_S_S1024x128),
    unary main_arg1 main_v1 (extf .f32 · bitsLt_bf16_f32),
    binary main_v1 main_v0 main_v2 (fun l r => Host.dotGeneral dot_S4096x1024_S1024x128_S4096x128_1_0_0_1_n_n none l r),
    unary main_arg0 main_v3 (extf .f32 · bitsLt_bf16_f32),
    binary main_v3 main_v1 main_v4 (fun l r => Host.dotGeneral dot_S4096x128_S4096x1024_S128x1024_0_0_1_1_n_n none l r),
    unary main_v4 main_v5 (transpose S1024x128 [1, 0] · transposes_S128x1024_S1024x128_1_0),
    unary main_v5 main_v6 (transpose S128x1024 [1, 0] · transposes_S1024x128_S128x1024_1_0) ]
/-- What they write. -/
abbrev W : List (Ref sig .tc) :=
  [main_cst, main_v0, main_v1, main_v2, main_v3, main_v4, main_v5, main_v6]
theorem writes : Writes (line (F := F)) W := rfl

set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W := by decide +kernel) : at_ V r = V (Proc.devRef .tc r) := keep writes hr V

theorem e_main_v1 : at_ V main_v1 = extf .f32 (at_ V main_arg1) bitsLt_bf16_f32 := eq1 writes 2 rfl V
theorem e_main_v3 : at_ V main_v3 = extf .f32 (at_ V main_arg0) bitsLt_bf16_f32 := eq1 writes 4 rfl V
theorem e_main_v4 : at_ V main_v4 = (fun l r => Host.dotGeneral dot_S4096x128_S4096x1024_S128x1024_0_0_1_1_n_n none l r) (at_ V main_v3) (at_ V main_v1) := eq2 writes 5 rfl V
theorem e_main_v5 : at_ V main_v5 = transpose S1024x128 [1, 0] (at_ V main_v4) transposes_S128x1024_S1024x128_1_0 := eq1 writes 6 rfl V
theorem e_main_v6 : at_ V main_v6 = transpose S128x1024 [1, 0] (at_ V main_v5) transposes_S1024x128_S128x1024_1_0 := eq1 writes 7 rfl V

theorem ops_sub : (line : List (HloOp τ sig (Elt F))).Forall fun op => op.bufs ⊆ tcRefs τ sig := by
  repeat' first | exact unary_bufs_sub .. | exact binary_bufs_sub .. | exact nullary_bufs_sub .. | refine ⟨?_, ?_⟩

/-- Every execution ends with every buffer at its contents after the line. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = at_ (launchContents m d) b :=
  run_seq scopedRefs_eq scopedSems_eq defs main (fun _ => line) main_eq (fun _ => ops_sub) m ρ

/-- An argument keeps what it held. -/
theorem arg (m : (ℓ : Loc nD τ sig) → Buf (Elt F) ℓ) (d : Dev nD) {b : Ref sig .tc} (hb : b ∉ W := by decide +kernel) :
    at_ (launchContents m d) b = m ((d.tc : Thread nD τ).loc b) := kept _ hb

end Cert.DwDtRIdeal.Line

end
-- ==== Proof.DwDtRefVal.lean ====
/- The gradient of the input weight at the step sizes' columns, reference: its result element by element. -/
module

public import proofs.«01_k».proof.Proof.DwDtRef
public import proofs.«01_k».proof.Proof.MlpSpec

@[expose] public section

set_option maxRecDepth 8000

noncomputable section

namespace Cert.DwDtRIdeal.Val

open Cert.DwDtRIdeal Cert.DwDtRIdeal.Gen Cert.DwDtRIdeal.Line Idealize.ShloMosaic Idealize.ShloMosaic.TcCoe Idealize.ShloMosaic.StableHlo Cert.NormRow Cert.NormsSpec Cert.MlpSpec

variable (V : Valuation τ sig (Elt Ideal))

/-- Argument 0. -/
def LA : Mat 4096 128 := fun i j => (at_ V main_arg0 : Vec Ideal S4096x128 .bf16) (ix2 i j)
theorem t_arg0 (i : Fin 4096) (j : Fin 128) : (at_ V main_arg0 : Vec Ideal S4096x128 .bf16) (ix2 i j) = LA V i j := rfl
/-- Argument 1. -/
def RB : Mat 4096 1024 := fun i j => (at_ V main_arg1 : Vec Ideal S4096x1024 .bf16) (ix2 i j)
theorem t_arg1 (i : Fin 4096) (j : Fin 1024) : (at_ V main_arg1 : Vec Ideal S4096x1024 .bf16) (ix2 i j) = RB V i j := rfl
theorem t_v6 (i : Fin 128) (j : Fin 1024) : (at_ V main_v6 : Vec Ideal S128x1024 .f32) (ix2 i j) = gram (LA V) (RB V) i j := by
  rw [e_main_v6, e_main_v5, e_main_v4, e_main_v3, e_main_v1]
  have h_arg1 := t_arg1 V
  generalize at_ V main_arg1 = x_arg1 at h_arg1 ⊢
  have h_arg0 := t_arg0 V
  generalize at_ V main_arg0 = x_arg0 at h_arg0 ⊢
  pointwise
  try simp only [h_arg1, h_arg0]
  rfl

end Cert.DwDtRIdeal.Val

end
-- ==== Proof.DwDtClaims.lean ====
/- The gradient of the input weight at the step sizes' columns: its claims. -/
module

public import proofs.«01_k».proof.Defs
public import proofs.«01_k».proof.Proof.Gen.DwDtK.Frame
public import proofs.«01_k».proof.Proof.DwDtVal
public import proofs.«01_k».proof.Proof.DwDtRefVal
public import proofs.«01_k».proof.Proof.DwDtRef
public import Idealize.ShloMosaic.Lib.Quiescent

@[expose] public section

set_option maxRecDepth 8000

noncomputable section

namespace Cert.DwDtClaims

open Idealize.ShloMosaic Idealize.ShloMosaic.TcCoe Idealize.ShloMosaic.StableHlo Idealize.SL.Sem

theorem frame_p : quiescent_DwDtK := fun m ρ _ => DwDtK.Gen.frame m ρ

theorem frame_pi : quiescent_DwDtKIdeal := fun m ρ _ => DwDtKIdeal.Gen.frame m ρ

theorem frame_ri : quiescent_DwDtRIdeal := fun m ρ _ =>
  (θ_run DwDtRIdeal.defs _ _).mono (fun r h => ⟨fun c => ⟨(h c DwDtRIdeal.main_arg0).trans (DwDtRIdeal.Line.arg m c), (h c DwDtRIdeal.main_arg1).trans (DwDtRIdeal.Line.arg m c)⟩,
    sem_eq_zero_of_no_sems (by decide) r.2⟩) (DwDtRIdeal.Line.run m ρ)

theorem algebraic : algebraic_DwDtKIdeal_DwDtRIdeal := by
  intro m ρ m' ρ' _ hagree
  refine ⟨fun c => DwDtKIdeal.Val.res2 m c,
    (θ_run DwDtKIdeal.defs _ _).mono (fun r h c => ?_) (DwDtKIdeal.Value.run_blocks (F := Ideal) m ρ), ?_⟩
  · have e := h c
    simp only [DwDtKIdeal.Val.final_2] at e
    exact e
  · refine (θ_run DwDtRIdeal.defs _ _).mono (fun r h c => ?_) (DwDtRIdeal.Line.run (F := Ideal) m' ρ')
    obtain ⟨h0, h1⟩ := hagree c
    have same_LA : DwDtRIdeal.Val.LA (launchContents m' c) = DwDtKIdeal.Val.LA (DwDtKIdeal.Val.V0 m c) := funext fun i => funext fun j => congrFun ((DwDtRIdeal.Line.arg m' c (b := DwDtRIdeal.main_arg0)).trans h0) (ix2 i j)
    have same_RB : DwDtRIdeal.Val.RB (launchContents m' c) = DwDtKIdeal.Val.RB (DwDtKIdeal.Val.V0 m c) := funext fun i => funext fun j => congrFun ((DwDtRIdeal.Line.arg m' c (b := DwDtRIdeal.main_arg1)).trans h1) (ix2 i j)
    refine ⟨(h c _).trans ?_, (h c DwDtRIdeal.main_arg0).trans (DwDtRIdeal.Line.arg m' c), (h c DwDtRIdeal.main_arg1).trans (DwDtRIdeal.Line.arg m' c)⟩
    · funext y
      obtain ⟨i, j, rfl⟩ : ∃ (i : Fin 128) (j : Fin 1024), y = ix2 i j := ⟨y 0, y 1, eq_ix2 y⟩
      refine (DwDtRIdeal.Val.t_v6 (launchContents m' c) i j).trans ?_
      simp only [same_LA, same_RB]
      rfl

end Cert.DwDtClaims

end
-- ==== Proof.ProjSpec.lean ====
/- The input projection: the values the programs compute, as functions of the matrices. -/
module

public import proofs.«01_k».proof.Proof.NormsSpec

@[expose] public section

noncomputable section

namespace Cert.ProjSpec

open Idealize.ShloMosaic Cert.NormsSpec

/-- The rows times the transposed weight. -/
def timesT {a : ℕ} (U : Mat 4096 1024) (W : Mat a 1024) : Mat 4096 a := fun i j => ∑ k, U i k * W j k

end Cert.ProjSpec

end
-- ==== Proof.PXbcVal.lean ====
/- The projection to the input of the state space mixer, kernel: its result element by element. -/
module

public import proofs.«01_k».proof.Proof.Gen.PXbcKIdeal.Value
public import proofs.«01_k».proof.Proof.ProjSpec
public import Idealize.ShloMosaic.Lib.Tactic

@[expose] public section

set_option maxRecDepth 8000

noncomputable section

namespace Cert.PXbcKIdeal.Val

open Cert.PXbcKIdeal Cert.PXbcKIdeal.Gen Idealize.ShloMosaic Idealize.ShloMosaic.TcCoe Idealize.SL.Sem Cert.NormRow Cert.NormsSpec Cert.ProjSpec
open Cert.PXbcKIdeal.Gen (V)

variable (m : (ℓ : Loc nD τ sig) → Buf (Elt Ideal) ℓ) (c : Dev nD)

/-- What the device's memory holds at launch. -/
abbrev V0 : Valuation τ sig (Elt Ideal) := fun b => m (c, b)

/-- An argument, as a matrix. -/
def U (V : Valuation τ sig (Elt Ideal)) : Mat 4096 1024 := fun i j => (V (Proc.devRef .tc main_arg0) : Vec Ideal S4096x1024 .bf16) (ix2 i j)
/-- An argument, as a matrix. -/
def W (V : Valuation τ sig (Elt Ideal)) : Mat 1536 1024 := fun i j => (V (Proc.devRef .tc main_arg1) : Vec Ideal S1536x1024 .bf16) (ix2 i j)

theorem hz : (![0, 0] : Fin 2 → Nat) = fun _ => 0 := funext fun a => by fin_cases a <;> rfl

theorem pay1 (x0 : Vec Ideal S512x1024 .bf16) (x1 : Vec Ideal S1536x1024 .bf16) (r : Fin 512) (j : Fin 1536) : k0_pay1 (F := Ideal) x0 x1 (ix2 r j) = ∑ k : Fin 1024, x0 (ix2 r k) * x1 (ix2 j k) := by
  pointwise [k0_pay1]
  try rfl

theorem out2 (x0 : Vec Ideal S512x1024 .bf16) (x1 : Vec Ideal S1536x1024 .bf16) : out0_2 x0 x1 = k0_pay1 x0 x1 := by
  unfold out0_2
  rw [View.canon_unit_zero hz]
  simp only [View.ld_unit_zero (S := S512x1024) hz, View.ld_unit_zero (S := S1536x1024) hz]

/-- The place in the whole of row `r` of the block of point `t`. -/
def rI (t : Fin cfg0.N) (r : Fin 512) : Fin 4096 := ⟨512 * t.val + r.val, by have := t.isLt; have : cfg0.N = 8 := N_0; have := r.isLt; omega⟩

theorem ix_0 (t : Fin cfg0.N) : win0_0.index t 0 = t.val ∧ win0_0.index t 1 = 0 := by decide +revert

theorem ix_1 (t : Fin cfg0.N) : win0_1.index t 0 = 0 ∧ win0_1.index t 1 = 0 := by decide +revert

theorem ix_2 (t : Fin cfg0.N) : win0_2.index t 0 = t.val ∧ win0_2.index t 1 = 0 := by decide +revert

theorem blk_0 (t : Fin cfg0.N) (r : Fin 512) (k : Fin 1024) : (iblk m c 0 t : Vec Ideal S512x1024 .bf16) (ix2 r k) = U (V0 m c) (rI t r) k := by
  unfold iblk
  rw [View.read_apply]
  show V m c main_arg0 _ = V m c main_arg0 _
  congr 1
  funext a
  apply Fin.ext
  match a with
  | ⟨0, _⟩ => show win0_0.index t 0 * 512 + 1 * r.val = 512 * t.val + r.val; rw [(ix_0 t).1]; omega
  | ⟨1, _⟩ => show win0_0.index t 1 * 1024 + 1 * k.val = k.val; rw [(ix_0 t).2]; omega

theorem blk_1 (t : Fin cfg0.N) (r : Fin 1536) (k : Fin 1024) : (iblk m c 1 t : Vec Ideal S1536x1024 .bf16) (ix2 r k) = W (V0 m c) r k := by
  unfold iblk
  rw [View.read_apply]
  show V m c main_arg1 _ = V m c main_arg1 _
  congr 1
  funext a
  apply Fin.ext
  match a with
  | ⟨0, _⟩ => show win0_1.index t 0 * 1536 + 1 * r.val = r.val; rw [(ix_1 t).1]; omega
  | ⟨1, _⟩ => show win0_1.index t 1 * 1024 + 1 * k.val = k.val; rw [(ix_1 t).2]; omega

/-- Result 0. -/
def res2 : Vec Ideal S4096x1536 .f32 := fun i => timesT (U (V0 m c)) (W (V0 m c)) (i 0) (i 1)

theorem out_2 (t : Fin cfg0.N) (r : Fin 512) (j : Fin 1536) : out0_2 (iblk m c 0 t) (iblk m c 1 t) (ix2 r j) = timesT (U (V0 m c)) (W (V0 m c)) (rI t r) j := by
  rw [out2, pay1]
  simp only [blk_0, blk_1]
  rfl

theorem flush_2 (t : Fin cfg0.N) : (dats m 0 c).flushed 2 t = ((cfg0.win 2).blk t).view.read (Elt Ideal) (res2 m c) := by
  show (cfg0.win 2).cut (grid0.coords t) ((dats m 0 c).after 2 t) = _
  rw [after0_2]
  funext y
  rw [View.read_apply]
  show (out0_2 (iblk m c 0 t) (iblk m c 1 t)) y = res2 m c _
  obtain ⟨r, j, rfl⟩ : ∃ (r : Fin 512) (j : Fin 1536), y = ix2 r j := ⟨y 0, y 1, eq_ix2 y⟩
  rw [out_2]
  unfold res2
  congr 1
  · apply Fin.ext
    show 512 * t.val + r.val = win0_2.index t 0 * 512 + 1 * r.val
    rw [(ix_2 t).1]; omega
  · apply Fin.ext
    show j.val = win0_2.index t 1 * 1536 + 1 * j.val
    rw [(ix_2 t).2]; omega

theorem final_2 : (dats m 0 c).arrAt 2 cfg0.N = res2 m c :=
  (dats m 0 c).arrAt_eq_of_cover 2 (res2 m c) (fun t _ => flush_2 m c t) fun i => by
    have hN : cfg0.N = 8 := N_0
    have h0 : (i 0 : Nat) < 4096 := (i 0).isLt
    have h1 : (i 1 : Nat) < 1536 := (i 1).isLt
    obtain ⟨t, ht⟩ : ∃ t : Fin cfg0.N, t.val = (i 0 : Nat) / 512 := ⟨⟨(i 0 : Nat) / 512, by omega⟩, rfl⟩
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 512 ≤ (i 0 : Nat) ∧ (i 0 : Nat) < win0_2.index t 0 * 512 + 512
      rw [(ix_2 t).1]; omega
    | ⟨1, _⟩ =>
      show win0_2.index t 1 * 1536 ≤ (i 1 : Nat) ∧ (i 1 : Nat) < win0_2.index t 1 * 1536 + 1536
      rw [(ix_2 t).2]; omega

end Cert.PXbcKIdeal.Val

end
-- ==== Proof.PXbcRef.lean ====
/- The projection to the input of the state space mixer, reference: its operations in order, its run, and what it leaves in its arguments. -/
module

public import proofs.«01_k».proof.Proof.Lines
public import proofs.«01_k».proof.Proof.Gen.PXbcRIdeal
public import Idealize.ShloMosaic.Lib.StableHlo.Run

@[expose] public section

set_option maxRecDepth 8000

noncomputable section

namespace Cert.PXbcRIdeal.Line

open Cert.PXbcRIdeal Cert.PXbcRIdeal.Gen Idealize.SL.Sem
open Idealize.ShloMosaic Idealize.ShloMosaic.TcCoe Idealize.ShloMosaic.StableHlo
open Cert.Lines

variable {F : FTy → Type} [FloatOps F]

/-- The operations, in order. -/
abbrev line : List (HloOp τ sig (Elt F)) :=
  [ unary main_arg0 main_v0 (extf .f32 · bitsLt_bf16_f32),
    unary main_arg1 main_v1 (extf .f32 · bitsLt_bf16_f32),
    unary main_v1 main_v2 (transpose S1024x1536 [1, 0] · transposes_S1536x1024_S1024x1536_1_0),
    binary main_v0 main_v2 main_v3 (fun l r => Host.dotGeneral dot_S4096x1024_S1024x1536_S4096x1536_1_0_0_1_n_n none l r) ]
/-- What they write. -/
abbrev W : List (Ref sig .tc) :=
  [main_v0, main_v1, main_v2, main_v3]
theorem writes : Writes (line (F := F)) W := rfl

set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W := by decide +kernel) : at_ V r = V (Proc.devRef .tc r) := keep writes hr V

theorem e_main_v0 : at_ V main_v0 = extf .f32 (at_ V main_arg0) bitsLt_bf16_f32 := eq1 writes 0 rfl V
theorem e_main_v1 : at_ V main_v1 = extf .f32 (at_ V main_arg1) bitsLt_bf16_f32 := eq1 writes 1 rfl V
theorem e_main_v2 : at_ V main_v2 = transpose S1024x1536 [1, 0] (at_ V main_v1) transposes_S1536x1024_S1024x1536_1_0 := eq1 writes 2 rfl V
theorem e_main_v3 : at_ V main_v3 = (fun l r => Host.dotGeneral dot_S4096x1024_S1024x1536_S4096x1536_1_0_0_1_n_n none l r) (at_ V main_v0) (at_ V main_v2) := eq2 writes 3 rfl V

theorem ops_sub : (line : List (HloOp τ sig (Elt F))).Forall fun op => op.bufs ⊆ tcRefs τ sig := by
  repeat' first | exact unary_bufs_sub .. | exact binary_bufs_sub .. | refine ⟨?_, ?_⟩

/-- Every execution ends with every buffer at its contents after the line. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = at_ (launchContents m d) b :=
  run_seq scopedRefs_eq scopedSems_eq defs main (fun _ => line) main_eq (fun _ => ops_sub) m ρ

/-- An argument keeps what it held. -/
theorem arg (m : (ℓ : Loc nD τ sig) → Buf (Elt F) ℓ) (d : Dev nD) {b : Ref sig .tc} (hb : b ∉ W := by decide +kernel) :
    at_ (launchContents m d) b = m ((d.tc : Thread nD τ).loc b) := kept _ hb

end Cert.PXbcRIdeal.Line

end
-- ==== Proof.PXbcRefVal.lean ====
/- The projection to the input of the state space mixer, reference: its result element by element. -/
module

public import proofs.«01_k».proof.Proof.PXbcRef
public import proofs.«01_k».proof.Proof.ProjSpec

@[expose] public section

set_option maxRecDepth 8000

noncomputable section

namespace Cert.PXbcRIdeal.Val

open Cert.PXbcRIdeal Cert.PXbcRIdeal.Gen Cert.PXbcRIdeal.Line Idealize.ShloMosaic Idealize.ShloMosaic.TcCoe Idealize.ShloMosaic.StableHlo Cert.NormRow Cert.NormsSpec Cert.ProjSpec

variable (V : Valuation τ sig (Elt Ideal))

/-- Argument 0. -/
def U : Mat 4096 1024 := fun i j => (at_ V main_arg0 : Vec Ideal S4096x1024 .bf16) (ix2 i j)
theorem t_arg0 (i : Fin 4096) (j : Fin 1024) : (at_ V main_arg0 : Vec Ideal S4096x1024 .bf16) (ix2 i j) = U V i j := rfl
/-- Argument 1. -/
def W : Mat 1536 1024 := fun i j => (at_ V main_arg1 : Vec Ideal S1536x1024 .bf16) (ix2 i j)
theorem t_arg1 (i : Fin 1536) (j : Fin 1024) : (at_ V main_arg1 : Vec Ideal S1536x1024 .bf16) (ix2 i j) = W V i j := rfl
theorem t_v3 (i : Fin 4096) (j : Fin 1536) : (at_ V main_v3 : Vec Ideal S4096x1536 .f32) (ix2 i j) = timesT (U V) (W V) i j := by
  rw [e_main_v3, e_main_v2, e_main_v1, e_main_v0]
  have h_arg1 := t_arg1 V
  generalize at_ V main_arg1 = x_arg1 at h_arg1 ⊢
  have h_arg0 := t_arg0 V
  generalize at_ V main_arg0 = x_arg0 at h_arg0 ⊢
  pointwise
  simp only [h_arg1, h_arg0]
  try rfl

end Cert.PXbcRIdeal.Val

end
-- ==== Proof.PXbcClaims.lean ====
/- The projection to the input of the state space mixer: its claims. -/
module

public import proofs.«01_k».proof.Defs
public import proofs.«01_k».proof.Proof.Gen.PXbcK.Frame
public import proofs.«01_k».proof.Proof.PXbcVal
public import proofs.«01_k».proof.Proof.PXbcRefVal
public import proofs.«01_k».proof.Proof.PXbcRef
public import Idealize.ShloMosaic.Lib.Quiescent

@[expose] public section

set_option maxRecDepth 8000

noncomputable section

namespace Cert.PXbcClaims

open Idealize.ShloMosaic Idealize.ShloMosaic.TcCoe Idealize.ShloMosaic.StableHlo Idealize.SL.Sem

theorem frame_p : quiescent_PXbcK := fun m ρ _ => PXbcK.Gen.frame m ρ

theorem frame_pi : quiescent_PXbcKIdeal := fun m ρ _ => PXbcKIdeal.Gen.frame m ρ

theorem frame_ri : quiescent_PXbcRIdeal := fun m ρ _ =>
  (θ_run PXbcRIdeal.defs _ _).mono (fun r h => ⟨fun c => ⟨(h c PXbcRIdeal.main_arg0).trans (PXbcRIdeal.Line.arg m c), (h c PXbcRIdeal.main_arg1).trans (PXbcRIdeal.Line.arg m c)⟩,
    sem_eq_zero_of_no_sems (by decide) r.2⟩) (PXbcRIdeal.Line.run m ρ)

theorem algebraic : algebraic_PXbcKIdeal_PXbcRIdeal := by
  intro m ρ m' ρ' _ hagree
  refine ⟨fun c => PXbcKIdeal.Val.res2 m c,
    (θ_run PXbcKIdeal.defs _ _).mono (fun r h c => ?_) (PXbcKIdeal.Value.run_blocks (F := Ideal) m ρ), ?_⟩
  · have e := h c
    simp only [PXbcKIdeal.Val.final_2] at e
    exact e
  · refine (θ_run PXbcRIdeal.defs _ _).mono (fun r h c => ?_) (PXbcRIdeal.Line.run (F := Ideal) m' ρ')
    obtain ⟨h0, h1⟩ := hagree c
    have same_U : PXbcRIdeal.Val.U (launchContents m' c) = PXbcKIdeal.Val.U (PXbcKIdeal.Val.V0 m c) := funext fun i => funext fun j => congrFun ((PXbcRIdeal.Line.arg m' c (b := PXbcRIdeal.main_arg0)).trans h0) (ix2 i j)
    have same_W : PXbcRIdeal.Val.W (launchContents m' c) = PXbcKIdeal.Val.W (PXbcKIdeal.Val.V0 m c) := funext fun i => funext fun j => congrFun ((PXbcRIdeal.Line.arg m' c (b := PXbcRIdeal.main_arg1)).trans h1) (ix2 i j)
    refine ⟨(h c _).trans ?_, (h c PXbcRIdeal.main_arg0).trans (PXbcRIdeal.Line.arg m' c), (h c PXbcRIdeal.main_arg1).trans (PXbcRIdeal.Line.arg m' c)⟩
    · funext y
      obtain ⟨i, j, rfl⟩ : ∃ (i : Fin 4096) (j : Fin 1536), y = ix2 i j := ⟨y 0, y 1, eq_ix2 y⟩
      refine (PXbcRIdeal.Val.t_v3 (launchContents m' c) i j).trans ?_
      simp only [same_U, same_W]
      rfl

end Cert.PXbcClaims

end
-- ==== Proof.PDtVal.lean ====
/- The projection to the step sizes, kernel: its result element by element. -/
module

public import proofs.«01_k».proof.Proof.Gen.PDtKIdeal.Value
public import proofs.«01_k».proof.Proof.ProjSpec
public import Idealize.ShloMosaic.Lib.Tactic

@[expose] public section

set_option maxRecDepth 8000

noncomputable section

namespace Cert.PDtKIdeal.Val

open Cert.PDtKIdeal Cert.PDtKIdeal.Gen Idealize.ShloMosaic Idealize.ShloMosaic.TcCoe Idealize.SL.Sem Cert.NormRow Cert.NormsSpec Cert.ProjSpec
open Cert.PDtKIdeal.Gen (V)

variable (m : (ℓ : Loc nD τ sig) → Buf (Elt Ideal) ℓ) (c : Dev nD)

/-- What the device's memory holds at launch. -/
abbrev V0 : Valuation τ sig (Elt Ideal) := fun b => m (c, b)

/-- An argument, as a matrix. -/
def U (V : Valuation τ sig (Elt Ideal)) : Mat 4096 1024 := fun i j => (V (Proc.devRef .tc main_arg0) : Vec Ideal S4096x1024 .bf16) (ix2 i j)
/-- An argument, as a matrix. -/
def W (V : Valuation τ sig (Elt Ideal)) : Mat 128 1024 := fun i j => (V (Proc.devRef .tc main_arg1) : Vec Ideal S128x1024 .bf16) (ix2 i j)

theorem hz : (![0, 0] : Fin 2 → Nat) = fun _ => 0 := funext fun a => by fin_cases a <;> rfl

theorem pay1 (x0 : Vec Ideal S512x1024 .bf16) (x1 : Vec Ideal S128x1024 .bf16) (r : Fin 512) (j : Fin 128) : k0_pay1 (F := Ideal) x0 x1 (ix2 r j) = ∑ k : Fin 1024, x0 (ix2 r k) * x1 (ix2 j k) := by
  pointwise [k0_pay1]
  try rfl

theorem out2 (x0 : Vec Ideal S512x1024 .bf16) (x1 : Vec Ideal S128x1024 .bf16) : out0_2 x0 x1 = k0_pay1 x0 x1 := by
  unfold out0_2
  rw [View.canon_unit_zero hz]
  simp only [View.ld_unit_zero (S := S512x1024) hz, View.ld_unit_zero (S := S128x1024) hz]

/-- The place in the whole of row `r` of the block of point `t`. -/
def rI (t : Fin cfg0.N) (r : Fin 512) : Fin 4096 := ⟨512 * t.val + r.val, by have := t.isLt; have : cfg0.N = 8 := N_0; have := r.isLt; omega⟩

theorem ix_0 (t : Fin cfg0.N) : win0_0.index t 0 = t.val ∧ win0_0.index t 1 = 0 := by decide +revert

theorem ix_1 (t : Fin cfg0.N) : win0_1.index t 0 = 0 ∧ win0_1.index t 1 = 0 := by decide +revert

theorem ix_2 (t : Fin cfg0.N) : win0_2.index t 0 = t.val ∧ win0_2.index t 1 = 0 := by decide +revert

theorem blk_0 (t : Fin cfg0.N) (r : Fin 512) (k : Fin 1024) : (iblk m c 0 t : Vec Ideal S512x1024 .bf16) (ix2 r k) = U (V0 m c) (rI t r) k := by
  unfold iblk
  rw [View.read_apply]
  show V m c main_arg0 _ = V m c main_arg0 _
  congr 1
  funext a
  apply Fin.ext
  match a with
  | ⟨0, _⟩ => show win0_0.index t 0 * 512 + 1 * r.val = 512 * t.val + r.val; rw [(ix_0 t).1]; omega
  | ⟨1, _⟩ => show win0_0.index t 1 * 1024 + 1 * k.val = k.val; rw [(ix_0 t).2]; omega

theorem blk_1 (t : Fin cfg0.N) (r : Fin 128) (k : Fin 1024) : (iblk m c 1 t : Vec Ideal S128x1024 .bf16) (ix2 r k) = W (V0 m c) r k := by
  unfold iblk
  rw [View.read_apply]
  show V m c main_arg1 _ = V m c main_arg1 _
  congr 1
  funext a
  apply Fin.ext
  match a with
  | ⟨0, _⟩ => show win0_1.index t 0 * 128 + 1 * r.val = r.val; rw [(ix_1 t).1]; omega
  | ⟨1, _⟩ => show win0_1.index t 1 * 1024 + 1 * k.val = k.val; rw [(ix_1 t).2]; omega

/-- Result 0. -/
def res2 : Vec Ideal S4096x128 .f32 := fun i => timesT (U (V0 m c)) (W (V0 m c)) (i 0) (i 1)

theorem out_2 (t : Fin cfg0.N) (r : Fin 512) (j : Fin 128) : out0_2 (iblk m c 0 t) (iblk m c 1 t) (ix2 r j) = timesT (U (V0 m c)) (W (V0 m c)) (rI t r) j := by
  rw [out2, pay1]
  simp only [blk_0, blk_1]
  rfl

theorem flush_2 (t : Fin cfg0.N) : (dats m 0 c).flushed 2 t = ((cfg0.win 2).blk t).view.read (Elt Ideal) (res2 m c) := by
  show (cfg0.win 2).cut (grid0.coords t) ((dats m 0 c).after 2 t) = _
  rw [after0_2]
  funext y
  rw [View.read_apply]
  show (out0_2 (iblk m c 0 t) (iblk m c 1 t)) y = res2 m c _
  obtain ⟨r, j, rfl⟩ : ∃ (r : Fin 512) (j : Fin 128), y = ix2 r j := ⟨y 0, y 1, eq_ix2 y⟩
  rw [out_2]
  unfold res2
  congr 1
  · apply Fin.ext
    show 512 * t.val + r.val = win0_2.index t 0 * 512 + 1 * r.val
    rw [(ix_2 t).1]; omega
  · apply Fin.ext
    show j.val = win0_2.index t 1 * 128 + 1 * j.val
    rw [(ix_2 t).2]; omega

theorem final_2 : (dats m 0 c).arrAt 2 cfg0.N = res2 m c :=
  (dats m 0 c).arrAt_eq_of_cover 2 (res2 m c) (fun t _ => flush_2 m c t) fun i => by
    have hN : cfg0.N = 8 := N_0
    have h0 : (i 0 : Nat) < 4096 := (i 0).isLt
    have h1 : (i 1 : Nat) < 128 := (i 1).isLt
    obtain ⟨t, ht⟩ : ∃ t : Fin cfg0.N, t.val = (i 0 : Nat) / 512 := ⟨⟨(i 0 : Nat) / 512, by omega⟩, rfl⟩
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 512 ≤ (i 0 : Nat) ∧ (i 0 : Nat) < win0_2.index t 0 * 512 + 512
      rw [(ix_2 t).1]; omega
    | ⟨1, _⟩ =>
      show win0_2.index t 1 * 128 ≤ (i 1 : Nat) ∧ (i 1 : Nat) < win0_2.index t 1 * 128 + 128
      rw [(ix_2 t).2]; omega

end Cert.PDtKIdeal.Val

end
-- ==== Proof.PDtRef.lean ====
/- The projection to the step sizes, reference: its operations in order, its run, and what it leaves in its arguments. -/
module

public import proofs.«01_k».proof.Proof.Lines
public import proofs.«01_k».proof.Proof.Gen.PDtRIdeal
public import Idealize.ShloMosaic.Lib.StableHlo.Run

@[expose] public section

set_option maxRecDepth 8000

noncomputable section

namespace Cert.PDtRIdeal.Line

open Cert.PDtRIdeal Cert.PDtRIdeal.Gen Idealize.SL.Sem
open Idealize.ShloMosaic Idealize.ShloMosaic.TcCoe Idealize.ShloMosaic.StableHlo
open Cert.Lines

variable {F : FTy → Type} [FloatOps F]

/-- The operations, in order. -/
abbrev line : List (HloOp τ sig (Elt F)) :=
  [ unary main_arg0 main_v0 (extf .f32 · bitsLt_bf16_f32),
    unary main_arg1 main_v1 (extf .f32 · bitsLt_bf16_f32),
    unary main_v1 main_v2 (transpose S1024x128 [1, 0] · transposes_S128x1024_S1024x128_1_0),
    binary main_v0 main_v2 main_v3 (fun l r => Host.dotGeneral dot_S4096x1024_S1024x128_S4096x128_1_0_0_1_n_n none l r) ]
/-- What they write. -/
abbrev W : List (Ref sig .tc) :=
  [main_v0, main_v1, main_v2, main_v3]
theorem writes : Writes (line (F := F)) W := rfl

set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W := by decide +kernel) : at_ V r = V (Proc.devRef .tc r) := keep writes hr V

theorem e_main_v0 : at_ V main_v0 = extf .f32 (at_ V main_arg0) bitsLt_bf16_f32 := eq1 writes 0 rfl V
theorem e_main_v1 : at_ V main_v1 = extf .f32 (at_ V main_arg1) bitsLt_bf16_f32 := eq1 writes 1 rfl V
theorem e_main_v2 : at_ V main_v2 = transpose S1024x128 [1, 0] (at_ V main_v1) transposes_S128x1024_S1024x128_1_0 := eq1 writes 2 rfl V
theorem e_main_v3 : at_ V main_v3 = (fun l r => Host.dotGeneral dot_S4096x1024_S1024x128_S4096x128_1_0_0_1_n_n none l r) (at_ V main_v0) (at_ V main_v2) := eq2 writes 3 rfl V

theorem ops_sub : (line : List (HloOp τ sig (Elt F))).Forall fun op => op.bufs ⊆ tcRefs τ sig := by
  repeat' first | exact unary_bufs_sub .. | exact binary_bufs_sub .. | refine ⟨?_, ?_⟩

/-- Every execution ends with every buffer at its contents after the line. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = at_ (launchContents m d) b :=
  run_seq scopedRefs_eq scopedSems_eq defs main (fun _ => line) main_eq (fun _ => ops_sub) m ρ

/-- An argument keeps what it held. -/
theorem arg (m : (ℓ : Loc nD τ sig) → Buf (Elt F) ℓ) (d : Dev nD) {b : Ref sig .tc} (hb : b ∉ W := by decide +kernel) :
    at_ (launchContents m d) b = m ((d.tc : Thread nD τ).loc b) := kept _ hb

end Cert.PDtRIdeal.Line

end
-- ==== Proof.PDtRefVal.lean ====
/- The projection to the step sizes, reference: its result element by element. -/
module

public import proofs.«01_k».proof.Proof.PDtRef
public import proofs.«01_k».proof.Proof.ProjSpec

@[expose] public section

set_option maxRecDepth 8000

noncomputable section

namespace Cert.PDtRIdeal.Val

open Cert.PDtRIdeal Cert.PDtRIdeal.Gen Cert.PDtRIdeal.Line Idealize.ShloMosaic Idealize.ShloMosaic.TcCoe Idealize.ShloMosaic.StableHlo Cert.NormRow Cert.NormsSpec Cert.ProjSpec

variable (V : Valuation τ sig (Elt Ideal))

/-- Argument 0. -/
def U : Mat 4096 1024 := fun i j => (at_ V main_arg0 : Vec Ideal S4096x1024 .bf16) (ix2 i j)
theorem t_arg0 (i : Fin 4096) (j : Fin 1024) : (at_ V main_arg0 : Vec Ideal S4096x1024 .bf16) (ix2 i j) = U V i j := rfl
/-- Argument 1. -/
def W : Mat 128 1024 := fun i j => (at_ V main_arg1 : Vec Ideal S128x1024 .bf16) (ix2 i j)
theorem t_arg1 (i : Fin 128) (j : Fin 1024) : (at_ V main_arg1 : Vec Ideal S128x1024 .bf16) (ix2 i j) = W V i j := rfl
theorem t_v3 (i : Fin 4096) (j : Fin 128) : (at_ V main_v3 : Vec Ideal S4096x128 .f32) (ix2 i j) = timesT (U V) (W V) i j := by
  rw [e_main_v3, e_main_v2, e_main_v1, e_main_v0]
  have h_arg1 := t_arg1 V
  generalize at_ V main_arg1 = x_arg1 at h_arg1 ⊢
  have h_arg0 := t_arg0 V
  generalize at_ V main_arg0 = x_arg0 at h_arg0 ⊢
  pointwise
  simp only [h_arg1, h_arg0]
  try rfl

end Cert.PDtRIdeal.Val

end
-- ==== Proof.PDtClaims.lean ====
/- The projection to the step sizes: its claims. -/
module

public import proofs.«01_k».proof.Defs
public import proofs.«01_k».proof.Proof.Gen.PDtK.Frame
public import proofs.«01_k».proof.Proof.PDtVal
public import proofs.«01_k».proof.Proof.PDtRefVal
public import proofs.«01_k».proof.Proof.PDtRef
public import Idealize.ShloMosaic.Lib.Quiescent

@[expose] public section

set_option maxRecDepth 8000

noncomputable section

namespace Cert.PDtClaims

open Idealize.ShloMosaic Idealize.ShloMosaic.TcCoe Idealize.ShloMosaic.StableHlo Idealize.SL.Sem

theorem frame_p : quiescent_PDtK := fun m ρ _ => PDtK.Gen.frame m ρ

theorem frame_pi : quiescent_PDtKIdeal := fun m ρ _ => PDtKIdeal.Gen.frame m ρ

theorem frame_ri : quiescent_PDtRIdeal := fun m ρ _ =>
  (θ_run PDtRIdeal.defs _ _).mono (fun r h => ⟨fun c => ⟨(h c PDtRIdeal.main_arg0).trans (PDtRIdeal.Line.arg m c), (h c PDtRIdeal.main_arg1).trans (PDtRIdeal.Line.arg m c)⟩,
    sem_eq_zero_of_no_sems (by decide) r.2⟩) (PDtRIdeal.Line.run m ρ)

theorem algebraic : algebraic_PDtKIdeal_PDtRIdeal := by
  intro m ρ m' ρ' _ hagree
  refine ⟨fun c => PDtKIdeal.Val.res2 m c,
    (θ_run PDtKIdeal.defs _ _).mono (fun r h c => ?_) (PDtKIdeal.Value.run_blocks (F := Ideal) m ρ), ?_⟩
  · have e := h c
    simp only [PDtKIdeal.Val.final_2] at e
    exact e
  · refine (θ_run PDtRIdeal.defs _ _).mono (fun r h c => ?_) (PDtRIdeal.Line.run (F := Ideal) m' ρ')
    obtain ⟨h0, h1⟩ := hagree c
    have same_U : PDtRIdeal.Val.U (launchContents m' c) = PDtKIdeal.Val.U (PDtKIdeal.Val.V0 m c) := funext fun i => funext fun j => congrFun ((PDtRIdeal.Line.arg m' c (b := PDtRIdeal.main_arg0)).trans h0) (ix2 i j)
    have same_W : PDtRIdeal.Val.W (launchContents m' c) = PDtKIdeal.Val.W (PDtKIdeal.Val.V0 m c) := funext fun i => funext fun j => congrFun ((PDtRIdeal.Line.arg m' c (b := PDtRIdeal.main_arg1)).trans h1) (ix2 i j)
    refine ⟨(h c _).trans ?_, (h c PDtRIdeal.main_arg0).trans (PDtRIdeal.Line.arg m' c), (h c PDtRIdeal.main_arg1).trans (PDtRIdeal.Line.arg m' c)⟩
    · funext y
      obtain ⟨i, j, rfl⟩ : ∃ (i : Fin 4096) (j : Fin 128), y = ix2 i j := ⟨y 0, y 1, eq_ix2 y⟩
      refine (PDtRIdeal.Val.t_v3 (launchContents m' c) i j).trans ?_
      simp only [same_U, same_W]
      rfl

end Cert.PDtClaims

end
-- ==== Proof.PFiveVal.lean ====
/- The projection to the gates and the branch inputs, kernel: its result element by element. -/
module

public import proofs.«01_k».proof.Proof.Gen.PFiveKIdeal.Value
public import proofs.«01_k».proof.Proof.ProjSpec
public import Idealize.ShloMosaic.Lib.Tactic

@[expose] public section

set_option maxRecDepth 8000

noncomputable section

namespace Cert.PFiveKIdeal.Val

open Cert.PFiveKIdeal Cert.PFiveKIdeal.Gen Idealize.ShloMosaic Idealize.ShloMosaic.TcCoe Idealize.SL.Sem Cert.NormRow Cert.NormsSpec Cert.ProjSpec
open Cert.PFiveKIdeal.Gen (V)

variable (m : (ℓ : Loc nD τ sig) → Buf (Elt Ideal) ℓ) (c : Dev nD)

/-- What the device's memory holds at launch. -/
abbrev V0 : Valuation τ sig (Elt Ideal) := fun b => m (c, b)

/-- An argument, as a matrix. -/
def U (V : Valuation τ sig (Elt Ideal)) : Mat 4096 1024 := fun i j => (V (Proc.devRef .tc main_arg0) : Vec Ideal S4096x1024 .bf16) (ix2 i j)
/-- An argument, as a matrix. -/
def W (V : Valuation τ sig (Elt Ideal)) : Mat 5120 1024 := fun i j => (V (Proc.devRef .tc main_arg1) : Vec Ideal S5120x1024 .bf16) (ix2 i j)

theorem hz : (![0, 0] : Fin 2 → Nat) = fun _ => 0 := funext fun a => by fin_cases a <;> rfl

theorem pay1 (x0 : Vec Ideal S1024x1024 .bf16) (x1 : Vec Ideal S1024x1024 .bf16) (r : Fin 1024) (j : Fin 1024) : k0_pay1 (F := Ideal) x0 x1 (ix2 r j) = ∑ k : Fin 1024, x0 (ix2 r k) * x1 (ix2 j k) := by
  pointwise [k0_pay1]
  try rfl

theorem out2 (x0 : Vec Ideal S1024x1024 .bf16) (x1 : Vec Ideal S1024x1024 .bf16) : out0_2 x0 x1 = k0_pay1 x0 x1 := by
  unfold out0_2
  rw [View.canon_unit_zero hz]
  simp only [View.ld_unit_zero (S := S1024x1024) hz]

/-- The place in the whole of row `r` of the block of point `t`. -/
def rI (t : Fin cfg0.N) (r : Fin 1024) : Fin 4096 := ⟨1024 * (t.val / 5) + r.val, by have := t.isLt; have : cfg0.N = 20 := N_0; have := r.isLt; omega⟩

/-- The place in the whole of column `r` of the block of point `t`. -/
def rJ (t : Fin cfg0.N) (r : Fin 1024) : Fin 5120 := ⟨1024 * (t.val % 5) + r.val, by have := t.isLt; have : cfg0.N = 20 := N_0; have := r.isLt; omega⟩

theorem ix_0 : ∀ t : Fin cfg0.N, win0_0.index t 0 = t.val / 5 ∧ win0_0.index t 1 = 0 :=
  (by decide +kernel : ∀ t : Fin grid0.N, _)

theorem ix_1 : ∀ t : Fin cfg0.N, win0_1.index t 0 = t.val % 5 ∧ win0_1.index t 1 = 0 :=
  (by decide +kernel : ∀ t : Fin grid0.N, _)

theorem ix_2 : ∀ t : Fin cfg0.N, win0_2.index t 0 = t.val / 5 ∧ win0_2.index t 1 = t.val % 5 :=
  (by decide +kernel : ∀ t : Fin grid0.N, _)

theorem blk_0 (t : Fin cfg0.N) (r : Fin 1024) (k : Fin 1024) : (iblk m c 0 t : Vec Ideal S1024x1024 .bf16) (ix2 r k) = U (V0 m c) (rI t r) k := by
  unfold iblk
  rw [View.read_apply]
  show V m c main_arg0 _ = V m c main_arg0 _
  congr 1
  funext a
  apply Fin.ext
  match a with
  | ⟨0, _⟩ => show win0_0.index t 0 * 1024 + 1 * r.val = 1024 * (t.val / 5) + r.val; rw [(ix_0 t).1]; omega
  | ⟨1, _⟩ => show win0_0.index t 1 * 1024 + 1 * k.val = k.val; rw [(ix_0 t).2]; omega

theorem blk_1 (t : Fin cfg0.N) (r : Fin 1024) (k : Fin 1024) : (iblk m c 1 t : Vec Ideal S1024x1024 .bf16) (ix2 r k) = W (V0 m c) (rJ t r) k := by
  unfold iblk
  rw [View.read_apply]
  show V m c main_arg1 _ = V m c main_arg1 _
  congr 1
  funext a
  apply Fin.ext
  match a with
  | ⟨0, _⟩ => show win0_1.index t 0 * 1024 + 1 * r.val = 1024 * (t.val % 5) + r.val; rw [(ix_1 t).1]; omega
  | ⟨1, _⟩ => show win0_1.index t 1 * 1024 + 1 * k.val = k.val; rw [(ix_1 t).2]; omega

/-- Result 0. -/
def res2 : Vec Ideal S4096x5120 .bf16 := fun i => timesT (U (V0 m c)) (W (V0 m c)) (i 0) (i 1)

theorem out_2 (t : Fin cfg0.N) (r : Fin 1024) (j : Fin 1024) : out0_2 (iblk m c 0 t) (iblk m c 1 t) (ix2 r j) = timesT (U (V0 m c)) (W (V0 m c)) (rI t r) (rJ t j) := by
  rw [out2, pay1]
  simp only [blk_0, blk_1]
  rfl

theorem flush_2 (t : Fin cfg0.N) : (dats m 0 c).flushed 2 t = ((cfg0.win 2).blk t).view.read (Elt Ideal) (res2 m c) := by
  show (cfg0.win 2).cut (grid0.coords t) ((dats m 0 c).after 2 t) = _
  rw [after0_2]
  funext y
  rw [View.read_apply]
  show (out0_2 (iblk m c 0 t) (iblk m c 1 t)) y = res2 m c _
  obtain ⟨r, j, rfl⟩ : ∃ (r : Fin 1024) (j : Fin 1024), y = ix2 r j := ⟨y 0, y 1, eq_ix2 y⟩
  rw [out_2]
  unfold res2
  congr 1
  · apply Fin.ext
    show 1024 * (t.val / 5) + r.val = win0_2.index t 0 * 1024 + 1 * r.val
    rw [(ix_2 t).1]; omega
  · apply Fin.ext
    show 1024 * (t.val % 5) + j.val = win0_2.index t 1 * 1024 + 1 * j.val
    rw [(ix_2 t).2]; omega

theorem final_2 : (dats m 0 c).arrAt 2 cfg0.N = res2 m c :=
  (dats m 0 c).arrAt_eq_of_cover 2 (res2 m c) (fun t _ => flush_2 m c t) fun i => by
    have hN : cfg0.N = 20 := N_0
    have h0 : (i 0 : Nat) < 4096 := (i 0).isLt
    have h1 : (i 1 : Nat) < 5120 := (i 1).isLt
    obtain ⟨t, ht⟩ : ∃ t : Fin cfg0.N, t.val = (i 0 : Nat) / 1024 * 5 + (i 1 : Nat) / 1024 := ⟨⟨(i 0 : Nat) / 1024 * 5 + (i 1 : Nat) / 1024, by omega⟩, rfl⟩
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [(ix_2 t).1]; omega
    | ⟨1, _⟩ =>
      show win0_2.index t 1 * 1024 ≤ (i 1 : Nat) ∧ (i 1 : Nat) < win0_2.index t 1 * 1024 + 1024
      rw [(ix_2 t).2]; omega

end Cert.PFiveKIdeal.Val

end
-- ==== Proof.PFiveRef.lean ====
/- The projection to the gates and the branch inputs, reference: its operations in order, its run, and what it leaves in its arguments. -/
module

public import proofs.«01_k».proof.Proof.Lines
public import proofs.«01_k».proof.Proof.Gen.PFiveRIdeal
public import Idealize.ShloMosaic.Lib.StableHlo.Run

@[expose] public section

set_option maxRecDepth 8000

noncomputable section

namespace Cert.PFiveRIdeal.Line

open Cert.PFiveRIdeal Cert.PFiveRIdeal.Gen Idealize.SL.Sem
open Idealize.ShloMosaic Idealize.ShloMosaic.TcCoe Idealize.ShloMosaic.StableHlo
open Cert.Lines

variable {F : FTy → Type} [FloatOps F]

/-- The operations, in order. -/
abbrev line : List (HloOp τ sig (Elt F)) :=
  [ unary main_arg0 main_v0 (extf .f32 · bitsLt_bf16_f32),
    unary main_arg1 main_v1 (extf .f32 · bitsLt_bf16_f32),
    unary main_v1 main_v2 (transpose S1024x5120 [1, 0] · transposes_S5120x1024_S1024x5120_1_0),
    binary main_v0 main_v2 main_v3 (fun l r => Host.dotGeneral dot_S4096x1024_S1024x5120_S4096x5120_1_0_0_1_n_n none l r),
    unary main_v3 main_v4 (truncf .bf16 · bitsLt_bf16_f32) ]
/-- What they write. -/
abbrev W : List (Ref sig .tc) :=
  [main_v0, main_v1, main_v2, main_v3, main_v4]
theorem writes : Writes (line (F := F)) W := rfl

set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W := by decide +kernel) : at_ V r = V (Proc.devRef .tc r) := keep writes hr V

theorem e_main_v0 : at_ V main_v0 = extf .f32 (at_ V main_arg0) bitsLt_bf16_f32 := eq1 writes 0 rfl V
theorem e_main_v1 : at_ V main_v1 = extf .f32 (at_ V main_arg1) bitsLt_bf16_f32 := eq1 writes 1 rfl V
theorem e_main_v2 : at_ V main_v2 = transpose S1024x5120 [1, 0] (at_ V main_v1) transposes_S5120x1024_S1024x5120_1_0 := eq1 writes 2 rfl V
theorem e_main_v3 : at_ V main_v3 = (fun l r => Host.dotGeneral dot_S4096x1024_S1024x5120_S4096x5120_1_0_0_1_n_n none l r) (at_ V main_v0) (at_ V main_v2) := eq2 writes 3 rfl V
theorem e_main_v4 : at_ V main_v4 = truncf .bf16 (at_ V main_v3) bitsLt_bf16_f32 := eq1 writes 4 rfl V

theorem ops_sub : (line : List (HloOp τ sig (Elt F))).Forall fun op => op.bufs ⊆ tcRefs τ sig := by
  repeat' first | exact unary_bufs_sub .. | exact binary_bufs_sub .. | refine ⟨?_, ?_⟩

/-- Every execution ends with every buffer at its contents after the line. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = at_ (launchContents m d) b :=
  run_seq scopedRefs_eq scopedSems_eq defs main (fun _ => line) main_eq (fun _ => ops_sub) m ρ

/-- An argument keeps what it held. -/
theorem arg (m : (ℓ : Loc nD τ sig) → Buf (Elt F) ℓ) (d : Dev nD) {b : Ref sig .tc} (hb : b ∉ W := by decide +kernel) :
    at_ (launchContents m d) b = m ((d.tc : Thread nD τ).loc b) := kept _ hb

end Cert.PFiveRIdeal.Line

end
-- ==== Proof.PFiveRefVal.lean ====
/- The projection to the gates and the branch inputs, reference: its result element by element. -/
module

public import proofs.«01_k».proof.Proof.PFiveRef
public import proofs.«01_k».proof.Proof.ProjSpec

@[expose] public section

set_option maxRecDepth 8000

noncomputable section

namespace Cert.PFiveRIdeal.Val

open Cert.PFiveRIdeal Cert.PFiveRIdeal.Gen Cert.PFiveRIdeal.Line Idealize.ShloMosaic Idealize.ShloMosaic.TcCoe Idealize.ShloMosaic.StableHlo Cert.NormRow Cert.NormsSpec Cert.ProjSpec

variable (V : Valuation τ sig (Elt Ideal))

/-- Argument 0. -/
def U : Mat 4096 1024 := fun i j => (at_ V main_arg0 : Vec Ideal S4096x1024 .bf16) (ix2 i j)
theorem t_arg0 (i : Fin 4096) (j : Fin 1024) : (at_ V main_arg0 : Vec Ideal S4096x1024 .bf16) (ix2 i j) = U V i j := rfl
/-- Argument 1. -/
def W : Mat 5120 1024 := fun i j => (at_ V main_arg1 : Vec Ideal S5120x1024 .bf16) (ix2 i j)
theorem t_arg1 (i : Fin 5120) (j : Fin 1024) : (at_ V main_arg1 : Vec Ideal S5120x1024 .bf16) (ix2 i j) = W V i j := rfl
theorem t_v4 (i : Fin 4096) (j : Fin 5120) : (at_ V main_v4 : Vec Ideal S4096x5120 .bf16) (ix2 i j) = timesT (U V) (W V) i j := by
  rw [e_main_v4, e_main_v3, e_main_v2, e_main_v1, e_main_v0]
  have h_arg1 := t_arg1 V
  generalize at_ V main_arg1 = x_arg1 at h_arg1 ⊢
  have h_arg0 := t_arg0 V
  generalize at_ V main_arg0 = x_arg0 at h_arg0 ⊢
  pointwise
  simp only [h_arg1, h_arg0]
  try rfl

end Cert.PFiveRIdeal.Val

end
-- ==== Proof.PFiveClaims.lean ====
/- The projection to the gates and the branch inputs: its claims. -/
module

public import proofs.«01_k».proof.Defs
public import proofs.«01_k».proof.Proof.Gen.PFiveK.Frame
public import proofs.«01_k».proof.Proof.PFiveVal
public import proofs.«01_k».proof.Proof.PFiveRefVal
public import proofs.«01_k».proof.Proof.PFiveRef
public import Idealize.ShloMosaic.Lib.Quiescent

@[expose] public section

set_option maxRecDepth 8000

noncomputable section

namespace Cert.PFiveClaims

open Idealize.ShloMosaic Idealize.ShloMosaic.TcCoe Idealize.ShloMosaic.StableHlo Idealize.SL.Sem

theorem frame_p : quiescent_PFiveK := fun m ρ _ => PFiveK.Gen.frame m ρ

theorem frame_pi : quiescent_PFiveKIdeal := fun m ρ _ => PFiveKIdeal.Gen.frame m ρ

theorem frame_ri : quiescent_PFiveRIdeal := fun m ρ _ =>
  (θ_run PFiveRIdeal.defs _ _).mono (fun r h => ⟨fun c => ⟨(h c PFiveRIdeal.main_arg0).trans (PFiveRIdeal.Line.arg m c), (h c PFiveRIdeal.main_arg1).trans (PFiveRIdeal.Line.arg m c)⟩,
    sem_eq_zero_of_no_sems (by decide) r.2⟩) (PFiveRIdeal.Line.run m ρ)

theorem algebraic : algebraic_PFiveKIdeal_PFiveRIdeal := by
  intro m ρ m' ρ' _ hagree
  refine ⟨fun c => PFiveKIdeal.Val.res2 m c,
    (θ_run PFiveKIdeal.defs _ _).mono (fun r h c => ?_) (PFiveKIdeal.Value.run_blocks (F := Ideal) m ρ), ?_⟩
  · have e := h c
    simp only [PFiveKIdeal.Val.final_2] at e
    exact e
  · refine (θ_run PFiveRIdeal.defs _ _).mono (fun r h c => ?_) (PFiveRIdeal.Line.run (F := Ideal) m' ρ')
    obtain ⟨h0, h1⟩ := hagree c
    have same_U : PFiveRIdeal.Val.U (launchContents m' c) = PFiveKIdeal.Val.U (PFiveKIdeal.Val.V0 m c) := funext fun i => funext fun j => congrFun ((PFiveRIdeal.Line.arg m' c (b := PFiveRIdeal.main_arg0)).trans h0) (ix2 i j)
    have same_W : PFiveRIdeal.Val.W (launchContents m' c) = PFiveKIdeal.Val.W (PFiveKIdeal.Val.V0 m c) := funext fun i => funext fun j => congrFun ((PFiveRIdeal.Line.arg m' c (b := PFiveRIdeal.main_arg1)).trans h1) (ix2 i j)
    refine ⟨(h c _).trans ?_, (h c PFiveRIdeal.main_arg0).trans (PFiveRIdeal.Line.arg m' c), (h c PFiveRIdeal.main_arg1).trans (PFiveRIdeal.Line.arg m' c)⟩
    · funext y
      obtain ⟨i, j, rfl⟩ : ∃ (i : Fin 4096) (j : Fin 5120), y = ix2 i j := ⟨y 0, y 1, eq_ix2 y⟩
      refine (PFiveRIdeal.Val.t_v4 (launchContents m' c) i j).trans ?_
      simp only [same_U, same_W]
      rfl

end Cert.PFiveClaims

end
-- ==== Proof.NormUVal.lean ====
/- The first normalization, kernel: its results element by element. -/
module

public import proofs.«01_k».proof.Proof.Gen.NormUKIdeal.Value
public import proofs.«01_k».proof.Proof.OutUpSpec
public import Idealize.ShloMosaic.Lib.Tactic

@[expose] public section

set_option maxRecDepth 8000

noncomputable section

namespace Cert.NormUKIdeal.Val

open Cert.NormUKIdeal Cert.NormUKIdeal.Gen Idealize.ShloMosaic Idealize.ShloMosaic.TcCoe Idealize.SL.Sem Cert.NormRow Cert.NormsSpec Cert.OutUpSpec
open Cert.NormUKIdeal.Gen (V)

variable (m : (ℓ : Loc nD τ sig) → Buf (Elt Ideal) ℓ) (c : Dev nD)

/-- What the device's memory holds at launch. -/
abbrev V0 : Valuation τ sig (Elt Ideal) := fun b => m (c, b)

/-- Argument 0, as a matrix. -/
def X (V : Valuation τ sig (Elt Ideal)) : Mat 4096 1024 := fun i j => (V (Proc.devRef .tc main_arg0) : Vec Ideal S4096x1024 .f32) (ix2 i j)
/-- Argument 1, as a matrix. -/
def G1 (V : Valuation τ sig (Elt Ideal)) : Mat 1 1024 := fun i j => (V (Proc.devRef .tc main_arg1) : Vec Ideal S1x1024 .f32) (ix2 i j)

theorem hz : (![0, 0] : Fin 2 → Nat) = fun _ => 0 := funext fun a => by fin_cases a <;> rfl

variable (x0 : Vec Ideal S512x1024 .f32) (x1 : Vec Ideal S1x1024 .f32)

theorem pay1 (r : Fin 512) (j : Fin 1024) : k0_pay1 (F := Ideal) x0 x1 (ix2 r j) = xn (fun l => x0 (ix2 r l)) j * x1 (ix2 0 j) := by
  pointwise [k0_pay1]
  rfl

theorem out2 : out0_2 x0 x1 = k0_pay1 x0 x1 := by
  unfold out0_2
  rw [View.canon_unit_zero hz]
  simp only [View.ld_unit_zero (S := S512x1024) hz, View.ld_unit_zero (S := S1x1024) hz]

/-- Row `r` of the block of point `t`. -/
def row (t : Fin cfg0.N) (r : Fin 512) : Fin 4096 := ⟨512 * t.val + r.val, by have := t.isLt; have : cfg0.N = 8 := N_0; have := r.isLt; omega⟩

theorem ix_0 (t : Fin cfg0.N) : win0_0.index t 0 = t.val ∧ win0_0.index t 1 = 0 := by decide +revert

theorem ix_1 (t : Fin cfg0.N) : win0_1.index t 0 = 0 ∧ win0_1.index t 1 = 0 := by decide +revert

theorem ix_2 (t : Fin cfg0.N) : win0_2.index t 0 = t.val ∧ win0_2.index t 1 = 0 := by decide +revert

theorem blk_0 (t : Fin cfg0.N) (r : Fin 512) (k : Fin 1024) : (iblk m c 0 t : Vec Ideal S512x1024 .f32) (ix2 r k) = X (V0 m c) (row t r) k := by
  unfold iblk
  rw [View.read_apply]
  show V m c main_arg0 _ = V m c main_arg0 _
  congr 1
  funext a
  apply Fin.ext
  match a with
  | ⟨0, _⟩ => show win0_0.index t 0 * 512 + 1 * r.val = 512 * t.val + r.val; rw [(ix_0 t).1]; omega
  | ⟨1, _⟩ => show win0_0.index t 1 * 1024 + 1 * k.val = k.val; rw [(ix_0 t).2]; omega

theorem blk_1 (t : Fin cfg0.N) (r : Fin 1) (k : Fin 1024) : (iblk m c 1 t : Vec Ideal S1x1024 .f32) (ix2 r k) = G1 (V0 m c) r k := by
  unfold iblk
  rw [View.read_apply]
  show V m c main_arg1 _ = V m c main_arg1 _
  congr 1
  funext a
  apply Fin.ext
  match a with
  | ⟨0, _⟩ => show win0_1.index t 0 * 1 + 1 * r.val = r.val; rw [(ix_1 t).1]; omega
  | ⟨1, _⟩ => show win0_1.index t 1 * 1024 + 1 * k.val = k.val; rw [(ix_1 t).2]; omega

theorem out_2 (t : Fin cfg0.N) (r : Fin 512) (j : Fin 1024) : out0_2 (iblk m c 0 t) (iblk m c 1 t) (ix2 r j) = scaled (X (V0 m c)) (G1 (V0 m c)) (row t r) j := by
  rw [out2, pay1]
  simp only [blk_0, blk_1]
  rfl

/-- The result. -/
def res2 : Vec Ideal S4096x1024 .bf16 := fun i => scaled (X (V0 m c)) (G1 (V0 m c)) (i 0) (i 1)

theorem flush_2 (t : Fin cfg0.N) : (dats m 0 c).flushed 2 t = ((cfg0.win 2).blk t).view.read (Elt Ideal) (res2 m c) := by
  show (cfg0.win 2).cut (grid0.coords t) ((dats m 0 c).after 2 t) = _
  rw [after0_2]
  funext y
  rw [View.read_apply]
  show (out0_2 (iblk m c 0 t) (iblk m c 1 t)) y = res2 m c _
  obtain ⟨r, j, rfl⟩ : ∃ (r : Fin 512) (j : Fin 1024), y = ix2 r j := ⟨y 0, y 1, eq_ix2 y⟩
  rw [out_2]
  unfold res2
  congr 1
  · apply Fin.ext
    show 512 * t.val + r.val = win0_2.index t 0 * 512 + 1 * r.val
    rw [(ix_2 t).1]; omega
  · apply Fin.ext
    show j.val = win0_2.index t 1 * 1024 + 1 * j.val
    rw [(ix_2 t).2]; omega

theorem final_2 : (dats m 0 c).arrAt 2 cfg0.N = res2 m c :=
  (dats m 0 c).arrAt_eq_of_cover 2 (res2 m c) (fun t _ => flush_2 m c t) fun i => by
    have hN : cfg0.N = 8 := N_0
    have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 512 ≤ (i 0 : Nat) ∧ (i 0 : Nat) < win0_2.index t 0 * 512 + 512
      rw [(ix_2 t).1]; omega
    | ⟨1, _⟩ =>
      show win0_2.index t 1 * 1024 ≤ (i 1 : Nat) ∧ (i 1 : Nat) < win0_2.index t 1 * 1024 + 1024
      rw [(ix_2 t).2]; omega

end Cert.NormUKIdeal.Val

end
-- ==== Proof.NormURef.lean ====
/- The first normalization, reference: its operations in order, its run, and what it leaves in its arguments. -/
module

public import proofs.«01_k».proof.Proof.Lines
public import proofs.«01_k».proof.Proof.Gen.NormURIdeal
public import Idealize.ShloMosaic.Lib.StableHlo.Run

@[expose] public section

set_option maxRecDepth 8000

noncomputable section

namespace Cert.NormURIdeal.Line

open Cert.NormURIdeal Cert.NormURIdeal.Gen Idealize.SL.Sem
open Idealize.ShloMosaic Idealize.ShloMosaic.TcCoe Idealize.ShloMosaic.StableHlo
open Cert.Lines

variable {F : FTy → Type} [FloatOps F]

/-- The operations, in order. -/
abbrev line : List (HloOp τ sig (Elt F)) :=
  [ binary main_arg0 main_arg0 main_v0 mulf,
    nullary main_cst (constant S_ .f32 0x00000000#32),
    binary main_v0 main_cst main_v1 (fun x v => Host.reduceAdd x v reducesTo_S4096x1024_S4096_d1 h_S_),
    unary main_v1 main_v2 (broadcastInDim S4096x1 ![0] bcast_S4096_S4096x1_0),
    nullary main_cst_0 (constant S_ .f32 0x44800000#32),
    unary main_cst_0 main_v3 (broadcastInDim S4096x1 ![] bcast_S_S4096x1),
    binary main_v2 main_v3 main_v4 Host.divf,
    nullary main_cst_1 (constant S_ .f32 0x358637BD#32),
    unary main_cst_1 main_v5 (broadcastInDim S4096x1 ![] bcast_S_S4096x1),
    binary main_v4 main_v5 main_v6 addf,
    unary main_v6 main_v7 Host.rsqrt,
    unary main_v7 main_v8 (broadcastInDim S4096x1024 ![0, 1] bcast_S4096x1_S4096x1024_0_1),
    binary main_arg0 main_v8 main_v9 mulf,
    unary main_arg1 main_v10 (broadcastInDim S4096x1024 ![0, 1] bcast_S1x1024_S4096x1024_0_1),
    binary main_v9 main_v10 main_v11 mulf,
    unary main_v11 main_v12 (truncf .bf16 · bitsLt_bf16_f32) ]
/-- What they write. -/
abbrev W : List (Ref sig .tc) :=
  [main_v0, main_cst, main_v1, main_v2, main_cst_0, main_v3, main_v4, main_cst_1, main_v5, main_v6, main_v7, main_v8, main_v9, main_v10, main_v11, main_v12]
theorem writes : Writes (line (F := F)) W := rfl

set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W := by decide +kernel) : at_ V r = V (Proc.devRef .tc r) := keep writes hr V

theorem e_main_v0 : at_ V main_v0 = mulf (at_ V main_arg0) (at_ V main_arg0) := eq2 writes 0 rfl V
theorem e_main_cst : at_ V main_cst = (constant S_ .f32 0x00000000#32) := eq0 writes 1 rfl V
theorem e_main_v1 : at_ V main_v1 = (fun x v => Host.reduceAdd x v reducesTo_S4096x1024_S4096_d1 h_S_) (at_ V main_v0) (at_ V main_cst) := eq2 writes 2 rfl V
theorem e_main_v2 : at_ V main_v2 = (broadcastInDim S4096x1 ![0] bcast_S4096_S4096x1_0) (at_ V main_v1) := eq1 writes 3 rfl V
theorem e_main_cst_0 : at_ V main_cst_0 = (constant S_ .f32 0x44800000#32) := eq0 writes 4 rfl V
theorem e_main_v3 : at_ V main_v3 = (broadcastInDim S4096x1 ![] bcast_S_S4096x1) (at_ V main_cst_0) := eq1 writes 5 rfl V
theorem e_main_v4 : at_ V main_v4 = Host.divf (at_ V main_v2) (at_ V main_v3) := eq2 writes 6 rfl V
theorem e_main_cst_1 : at_ V main_cst_1 = (constant S_ .f32 0x358637BD#32) := eq0 writes 7 rfl V
theorem e_main_v5 : at_ V main_v5 = (broadcastInDim S4096x1 ![] bcast_S_S4096x1) (at_ V main_cst_1) := eq1 writes 8 rfl V
theorem e_main_v6 : at_ V main_v6 = addf (at_ V main_v4) (at_ V main_v5) := eq2 writes 9 rfl V
theorem e_main_v7 : at_ V main_v7 = (Host.rsqrt) (at_ V main_v6) := eq1 writes 10 rfl V
theorem e_main_v8 : at_ V main_v8 = (broadcastInDim S4096x1024 ![0, 1] bcast_S4096x1_S4096x1024_0_1) (at_ V main_v7) := eq1 writes 11 rfl V
theorem e_main_v9 : at_ V main_v9 = mulf (at_ V main_arg0) (at_ V main_v8) := eq2 writes 12 rfl V
theorem e_main_v10 : at_ V main_v10 = (broadcastInDim S4096x1024 ![0, 1] bcast_S1x1024_S4096x1024_0_1) (at_ V main_arg1) := eq1 writes 13 rfl V
theorem e_main_v11 : at_ V main_v11 = mulf (at_ V main_v9) (at_ V main_v10) := eq2 writes 14 rfl V
theorem e_main_v12 : at_ V main_v12 = truncf .bf16 (at_ V main_v11) bitsLt_bf16_f32 := eq1 writes 15 rfl V

theorem ops_sub : (line : List (HloOp τ sig (Elt F))).Forall fun op => op.bufs ⊆ tcRefs τ sig := by
  repeat' first | exact unary_bufs_sub .. | exact binary_bufs_sub .. | exact nullary_bufs_sub .. | refine ⟨?_, ?_⟩

/-- Every execution ends with every buffer at its contents after the line. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = at_ (launchContents m d) b :=
  run_seq scopedRefs_eq scopedSems_eq defs main (fun _ => line) main_eq (fun _ => ops_sub) m ρ

/-- An argument keeps what it held. -/
theorem arg (m : (ℓ : Loc nD τ sig) → Buf (Elt F) ℓ) (d : Dev nD) {b : Ref sig .tc} (hb : b ∉ W := by decide +kernel) :
    at_ (launchContents m d) b = m ((d.tc : Thread nD τ).loc b) := kept _ hb

end Cert.NormURIdeal.Line

end
-- ==== Proof.NormURefVal.lean ====
/- The first normalization, reference: its results element by element. -/
module

public import proofs.«01_k».proof.Proof.NormURef
public import proofs.«01_k».proof.Proof.OutUpSpec

@[expose] public section

set_option maxRecDepth 8000

noncomputable section

namespace Cert.NormURIdeal.Val

open Cert.NormURIdeal Cert.NormURIdeal.Gen Cert.NormURIdeal.Line Idealize.ShloMosaic Idealize.ShloMosaic.TcCoe Idealize.ShloMosaic.StableHlo Cert.NormRow Cert.NormsSpec Cert.OutUpSpec

variable (V : Valuation τ sig (Elt Ideal))

/-- Argument 0. -/
def X : Mat 4096 1024 := fun i j => (at_ V main_arg0 : Vec Ideal S4096x1024 .f32) (ix2 i j)
theorem t_arg0 (i : Fin 4096) (j : Fin 1024) : (at_ V main_arg0 : Vec Ideal S4096x1024 .f32) (ix2 i j) = X V i j := rfl
/-- Argument 1. -/
def G1 : Mat 1 1024 := fun i j => (at_ V main_arg1 : Vec Ideal S1x1024 .f32) (ix2 i j)
theorem t_arg1 (i : Fin 1) (j : Fin 1024) : (at_ V main_arg1 : Vec Ideal S1x1024 .f32) (ix2 i j) = G1 V i j := rfl

theorem t_v7 (i : Fin 4096) (j : Fin 1) : (at_ V main_v7 : Vec Ideal S4096x1 .f32) (ix2 i j) = rs (X V i) := by
  rw [e_main_v7, e_main_v6, e_main_v4, e_main_v2, e_main_v1, e_main_v0, e_main_cst, e_main_v3, e_main_cst_0, e_main_v5, e_main_cst_1]
  have h_arg0 := t_arg0 V
  generalize at_ V main_arg0 = x_arg0 at h_arg0 ⊢
  pointwise
  try simp only [h_arg0]
  try rfl

theorem t_v12 (i : Fin 4096) (j : Fin 1024) : (at_ V main_v12 : Vec Ideal S4096x1024 .bf16) (ix2 i j) = scaled (X V) (G1 V) i j := by
  rw [e_main_v12, e_main_v11, e_main_v9, e_main_v8, e_main_v10]
  have h_arg0 := t_arg0 V
  generalize at_ V main_arg0 = x_arg0 at h_arg0 ⊢
  have h_v7 := t_v7 V
  generalize at_ V main_v7 = x_v7 at h_v7 ⊢
  have h_arg1 := t_arg1 V
  generalize at_ V main_arg1 = x_arg1 at h_arg1 ⊢
  pointwise
  try simp only [h_arg0, h_v7, h_arg1]
  try rfl

end Cert.NormURIdeal.Val

end
-- ==== Proof.NormUClaims.lean ====
/- The first normalization: its claims. -/
module

public import proofs.«01_k».proof.Defs
public import proofs.«01_k».proof.Proof.Gen.NormUK.Frame
public import proofs.«01_k».proof.Proof.NormUVal
public import proofs.«01_k».proof.Proof.NormURefVal
public import proofs.«01_k».proof.Proof.NormURef
public import Idealize.ShloMosaic.Lib.Quiescent

@[expose] public section

set_option maxRecDepth 8000

noncomputable section

namespace Cert.NormUClaims

open Idealize.ShloMosaic Idealize.ShloMosaic.TcCoe Idealize.ShloMosaic.StableHlo Idealize.SL.Sem

theorem frame_p : quiescent_NormUK := fun m ρ _ => NormUK.Gen.frame m ρ

theorem frame_pi : quiescent_NormUKIdeal := fun m ρ _ => NormUKIdeal.Gen.frame m ρ

theorem frame_ri : quiescent_NormURIdeal := fun m ρ _ =>
  (θ_run NormURIdeal.defs _ _).mono (fun r h => ⟨fun c => ⟨(h c NormURIdeal.main_arg0).trans (NormURIdeal.Line.arg m c), (h c NormURIdeal.main_arg1).trans (NormURIdeal.Line.arg m c)⟩,
    sem_eq_zero_of_no_sems (by decide) r.2⟩) (NormURIdeal.Line.run m ρ)

theorem algebraic : algebraic_NormUKIdeal_NormURIdeal := by
  intro m ρ m' ρ' _ hagree
  refine ⟨fun c => NormUKIdeal.Val.res2 m c,
    (θ_run NormUKIdeal.defs _ _).mono (fun r h c => ?_) (NormUKIdeal.Value.run_blocks (F := Ideal) m ρ), ?_⟩
  · have e := h c
    simp only [NormUKIdeal.Val.final_2] at e
    exact e
  · refine (θ_run NormURIdeal.defs _ _).mono (fun r h c => ?_) (NormURIdeal.Line.run (F := Ideal) m' ρ')
    obtain ⟨h0, h1⟩ := hagree c
    have same_X : NormURIdeal.Val.X (launchContents m' c) = NormUKIdeal.Val.X (NormUKIdeal.Val.V0 m c) := funext fun i => funext fun j => congrFun ((NormURIdeal.Line.arg m' c (b := NormURIdeal.main_arg0)).trans h0) (ix2 i j)
    have same_G1 : NormURIdeal.Val.G1 (launchContents m' c) = NormUKIdeal.Val.G1 (NormUKIdeal.Val.V0 m c) := funext fun i => funext fun j => congrFun ((NormURIdeal.Line.arg m' c (b := NormURIdeal.main_arg1)).trans h1) (ix2 i j)
    refine ⟨(h c _).trans ?_, (h c NormURIdeal.main_arg0).trans (NormURIdeal.Line.arg m' c), (h c NormURIdeal.main_arg1).trans (NormURIdeal.Line.arg m' c)⟩
    · funext y
      obtain ⟨i, j, rfl⟩ : ∃ (i : Fin 4096) (j : Fin 1024), y = ix2 i j := ⟨y 0, y 1, eq_ix2 y⟩
      refine (NormURIdeal.Val.t_v12 (launchContents m' c) i j).trans ?_
      simp only [same_X, same_G1]
      rfl

end Cert.NormUClaims

end
-- ==== Proof.AdSRef.lean ====
/- The optimizer step of the small parameters, reference: its operations in order, its run, and what it leaves in its arguments. -/
module

public import proofs.«01_k».proof.Proof.Lines
public import proofs.«01_k».proof.Proof.Gen.AdSRIdeal
public import Idealize.ShloMosaic.Lib.StableHlo.Run

@[expose] public section

set_option maxRecDepth 8000

noncomputable section

namespace Cert.AdSRIdeal.Line

open Cert.AdSRIdeal Cert.AdSRIdeal.Gen Idealize.SL.Sem
open Idealize.ShloMosaic Idealize.ShloMosaic.TcCoe Idealize.ShloMosaic.StableHlo
open Cert.Lines

variable {F : FTy → Type} [FloatOps F]

/-- The operations, in order. -/
abbrev line : List (HloOp τ sig (Elt F)) :=
  [ nullary main_cst (constant S_ .f32 0x3F666666#32),
    unary main_cst main_v0 (broadcastInDim S1112x128 ![] bcast_S_S1112x128),
    binary main_v0 main_arg2 main_v1 mulf,
    nullary main_cst_0 (constant S_ .f32 0x3DCCCCCD#32),
    unary main_cst_0 main_v2 (broadcastInDim S1112x128 ![] bcast_S_S1112x128),
    binary main_v2 main_arg1 main_v3 mulf,
    binary main_v1 main_v3 main_v4 addf,
    nullary main_cst_1 (constant S_ .f32 0x3F7FBE77#32),
    unary main_cst_1 main_v5 (broadcastInDim S1112x128 ![] bcast_S_S1112x128),
    binary main_v5 main_arg3 main_v6 mulf,
    binary main_arg1 main_arg1 main_v7 mulf,
    nullary main_cst_2 (constant S_ .f32 0x3A83126F#32),
    unary main_cst_2 main_v8 (broadcastInDim S1112x128 ![] bcast_S_S1112x128),
    binary main_v8 main_v7 main_v9 mulf,
    binary main_v6 main_v9 main_v10 addf,
    nullary main_cst_3 (constant S_ .f32 0x3F26BD02#32),
    unary main_cst_3 main_v11 (broadcastInDim S1112x128 ![] bcast_S_S1112x128),
    binary main_v4 main_v11 main_v12 Host.divf,
    nullary main_cst_4 (constant S_ .f32 0x3C231ACC#32),
    unary main_cst_4 main_v13 (broadcastInDim S1112x128 ![] bcast_S_S1112x128),
    binary main_v10 main_v13 main_v14 Host.divf,
    unary main_v14 main_v15 Host.sqrt,
    nullary main_cst_5 (constant S_ .f32 0x322BCC77#32),
    unary main_cst_5 main_v16 (broadcastInDim S1112x128 ![] bcast_S_S1112x128),
    binary main_v15 main_v16 main_v17 addf,
    binary main_v12 main_v17 main_v18 Host.divf,
    nullary main_cst_6 (constant S_ .f32 0x3C23D70A#32),
    unary main_cst_6 main_v19 (broadcastInDim S1112x128 ![] bcast_S_S1112x128),
    binary main_v19 main_arg0 main_v20 mulf,
    binary main_v18 main_v20 main_v21 addf,
    nullary main_cst_7 (constant S_ .f32 0xBA83126F#32),
    unary main_cst_7 main_v22 (broadcastInDim S1112x128 ![] bcast_S_S1112x128),
    binary main_v22 main_v21 main_v23 mulf ]
/-- What they write. -/
abbrev W : List (Ref sig .tc) :=
  [main_cst, main_v0, main_v1, main_cst_0, main_v2, main_v3, main_v4, main_cst_1, main_v5, main_v6, main_v7, main_cst_2, main_v8, main_v9, main_v10, main_cst_3, main_v11, main_v12, main_cst_4, main_v13, main_v14, main_v15, main_cst_5, main_v16, main_v17, main_v18, main_cst_6, main_v19, main_v20, main_v21, main_cst_7, main_v22, main_v23]
theorem writes : Writes (line (F := F)) W := rfl

set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W := by decide +kernel) : at_ V r = V (Proc.devRef .tc r) := keep writes hr V

theorem e_main_cst : at_ V main_cst = (constant S_ .f32 0x3F666666#32) := eq0 writes 0 rfl V
theorem e_main_v0 : at_ V main_v0 = (broadcastInDim S1112x128 ![] bcast_S_S1112x128) (at_ V main_cst) := eq1 writes 1 rfl V
theorem e_main_v1 : at_ V main_v1 = mulf (at_ V main_v0) (at_ V main_arg2) := eq2 writes 2 rfl V
theorem e_main_cst_0 : at_ V main_cst_0 = (constant S_ .f32 0x3DCCCCCD#32) := eq0 writes 3 rfl V
theorem e_main_v2 : at_ V main_v2 = (broadcastInDim S1112x128 ![] bcast_S_S1112x128) (at_ V main_cst_0) := eq1 writes 4 rfl V
theorem e_main_v3 : at_ V main_v3 = mulf (at_ V main_v2) (at_ V main_arg1) := eq2 writes 5 rfl V
theorem e_main_v4 : at_ V main_v4 = addf (at_ V main_v1) (at_ V main_v3) := eq2 writes 6 rfl V
theorem e_main_cst_1 : at_ V main_cst_1 = (constant S_ .f32 0x3F7FBE77#32) := eq0 writes 7 rfl V
theorem e_main_v5 : at_ V main_v5 = (broadcastInDim S1112x128 ![] bcast_S_S1112x128) (at_ V main_cst_1) := eq1 writes 8 rfl V
theorem e_main_v6 : at_ V main_v6 = mulf (at_ V main_v5) (at_ V main_arg3) := eq2 writes 9 rfl V
theorem e_main_v7 : at_ V main_v7 = mulf (at_ V main_arg1) (at_ V main_arg1) := eq2 writes 10 rfl V
theorem e_main_cst_2 : at_ V main_cst_2 = (constant S_ .f32 0x3A83126F#32) := eq0 writes 11 rfl V
theorem e_main_v8 : at_ V main_v8 = (broadcastInDim S1112x128 ![] bcast_S_S1112x128) (at_ V main_cst_2) := eq1 writes 12 rfl V
theorem e_main_v9 : at_ V main_v9 = mulf (at_ V main_v8) (at_ V main_v7) := eq2 writes 13 rfl V
theorem e_main_v10 : at_ V main_v10 = addf (at_ V main_v6) (at_ V main_v9) := eq2 writes 14 rfl V
theorem e_main_cst_3 : at_ V main_cst_3 = (constant S_ .f32 0x3F26BD02#32) := eq0 writes 15 rfl V
theorem e_main_v11 : at_ V main_v11 = (broadcastInDim S1112x128 ![] bcast_S_S1112x128) (at_ V main_cst_3) := eq1 writes 16 rfl V
theorem e_main_v12 : at_ V main_v12 = Host.divf (at_ V main_v4) (at_ V main_v11) := eq2 writes 17 rfl V
theorem e_main_cst_4 : at_ V main_cst_4 = (constant S_ .f32 0x3C231ACC#32) := eq0 writes 18 rfl V
theorem e_main_v13 : at_ V main_v13 = (broadcastInDim S1112x128 ![] bcast_S_S1112x128) (at_ V main_cst_4) := eq1 writes 19 rfl V
theorem e_main_v14 : at_ V main_v14 = Host.divf (at_ V main_v10) (at_ V main_v13) := eq2 writes 20 rfl V
theorem e_main_v15 : at_ V main_v15 = (Host.sqrt) (at_ V main_v14) := eq1 writes 21 rfl V
theorem e_main_cst_5 : at_ V main_cst_5 = (constant S_ .f32 0x322BCC77#32) := eq0 writes 22 rfl V
theorem e_main_v16 : at_ V main_v16 = (broadcastInDim S1112x128 ![] bcast_S_S1112x128) (at_ V main_cst_5) := eq1 writes 23 rfl V
theorem e_main_v17 : at_ V main_v17 = addf (at_ V main_v15) (at_ V main_v16) := eq2 writes 24 rfl V
theorem e_main_v18 : at_ V main_v18 = Host.divf (at_ V main_v12) (at_ V main_v17) := eq2 writes 25 rfl V
theorem e_main_cst_6 : at_ V main_cst_6 = (constant S_ .f32 0x3C23D70A#32) := eq0 writes 26 rfl V
theorem e_main_v19 : at_ V main_v19 = (broadcastInDim S1112x128 ![] bcast_S_S1112x128) (at_ V main_cst_6) := eq1 writes 27 rfl V
theorem e_main_v20 : at_ V main_v20 = mulf (at_ V main_v19) (at_ V main_arg0) := eq2 writes 28 rfl V
theorem e_main_v21 : at_ V main_v21 = addf (at_ V main_v18) (at_ V main_v20) := eq2 writes 29 rfl V
theorem e_main_cst_7 : at_ V main_cst_7 = (constant S_ .f32 0xBA83126F#32) := eq0 writes 30 rfl V
theorem e_main_v22 : at_ V main_v22 = (broadcastInDim S1112x128 ![] bcast_S_S1112x128) (at_ V main_cst_7) := eq1 writes 31 rfl V
theorem e_main_v23 : at_ V main_v23 = mulf (at_ V main_v22) (at_ V main_v21) := eq2 writes 32 rfl V

theorem ops_sub : (line : List (HloOp τ sig (Elt F))).Forall fun op => op.bufs ⊆ tcRefs τ sig := by
  repeat' first | (with_reducible first | exact unary_bufs_sub .. | exact binary_bufs_sub .. | exact nullary_bufs_sub ..) | refine ⟨?_, ?_⟩ | exact unary_bufs_sub .. | exact binary_bufs_sub .. | exact nullary_bufs_sub ..

/-- Every execution ends with every buffer at its contents after the line. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = at_ (launchContents m d) b :=
  run_seq scopedRefs_eq scopedSems_eq defs main (fun _ => line) main_eq (fun _ => ops_sub) m ρ

/-- An argument keeps what it held. -/
theorem arg (m : (ℓ : Loc nD τ sig) → Buf (Elt F) ℓ) (d : Dev nD) {b : Ref sig .tc} (hb : b ∉ W := by decide +kernel) :
    at_ (launchContents m d) b = m ((d.tc : Thread nD τ).loc b) := kept _ hb

end Cert.AdSRIdeal.Line

end
-- ==== Proof.AdSClaims.lean ====
/- The optimizer step of the small parameters: its claims. -/
module

public import proofs.«01_k».proof.Defs
public import proofs.«01_k».proof.Proof.Gen.AdSK.Frame
public import proofs.«01_k».proof.Proof.Gen.AdSKIdeal.Value
public import proofs.«01_k».proof.Proof.AdSRef
public import Idealize.ShloMosaic.Lib.Quiescent
public import Idealize.ShloMosaic.Lib.Pointwise

@[expose] public section

set_option maxRecDepth 8000

noncomputable section

namespace Cert.AdSClaims

open Idealize.ShloMosaic Idealize.ShloMosaic.TcCoe Idealize.ShloMosaic.StableHlo Idealize.SL.Sem

theorem frame_p : quiescent_AdSK := fun m ρ _ => AdSK.Gen.frame m ρ

theorem frame_pi : quiescent_AdSKIdeal := fun m ρ _ => AdSKIdeal.Gen.frame m ρ

theorem frame_ri : quiescent_AdSRIdeal := fun m ρ _ =>
  (θ_run AdSRIdeal.defs _ _).mono (fun r h => ⟨fun c => ⟨(h c AdSRIdeal.main_arg0).trans (AdSRIdeal.Line.arg m c), (h c AdSRIdeal.main_arg1).trans (AdSRIdeal.Line.arg m c), (h c AdSRIdeal.main_arg2).trans (AdSRIdeal.Line.arg m c), (h c AdSRIdeal.main_arg3).trans (AdSRIdeal.Line.arg m c)⟩,
    sem_eq_zero_of_no_sems (by decide) r.2⟩) (AdSRIdeal.Line.run m ρ)

section

open AdSRIdeal AdSRIdeal.Gen AdSRIdeal.Line

variable (V : Valuation τ sig (Elt Ideal))

/-- The reference's new first moment is the kernel's function of the gradient and the old moment. -/
theorem moment1 : at_ V main_v4 = AdSKIdeal.Value.G5 (F := Ideal) (V (Proc.devRef .tc main_arg1)) (V (Proc.devRef .tc main_arg2)) := by
  rw [e_main_v4, e_main_v1, e_main_v0, e_main_cst, e_main_v3, e_main_v2, e_main_cst_0, kept V (r := main_arg1), kept V (r := main_arg2)]
  generalize V (Proc.devRef .tc main_arg1) = g
  generalize V (Proc.devRef .tc main_arg2) = u
  funext y
  obtain ⟨i, j, rfl⟩ : ∃ (i : Fin 1112) (j : Fin 128), y = ix2 i j := ⟨y 0, y 1, eq_ix2 y⟩
  pointwise

/-- The reference's new second moment is the kernel's function of the gradient and the old moment. -/
theorem moment2 : at_ V main_v10 = AdSKIdeal.Value.G6 (F := Ideal) (V (Proc.devRef .tc main_arg1)) (V (Proc.devRef .tc main_arg3)) := by
  rw [e_main_v10, e_main_v6, e_main_v5, e_main_cst_1, e_main_v9, e_main_v8, e_main_cst_2, e_main_v7, kept V (r := main_arg1), kept V (r := main_arg3)]
  generalize V (Proc.devRef .tc main_arg1) = g
  generalize V (Proc.devRef .tc main_arg3) = u
  funext y
  obtain ⟨i, j, rfl⟩ : ∃ (i : Fin 1112) (j : Fin 128), y = ix2 i j := ⟨y 0, y 1, eq_ix2 y⟩
  pointwise

/-- The reference's step is the kernel's function of the gradient, the old moments and the weight. -/
theorem step : at_ V main_v23 = AdSKIdeal.Value.G4 (F := Ideal) (V (Proc.devRef .tc main_arg1)) (V (Proc.devRef .tc main_arg2)) (V (Proc.devRef .tc main_arg3)) (V (Proc.devRef .tc main_arg0)) := by
  rw [e_main_v23, e_main_v22, e_main_cst_7, e_main_v21, e_main_v20, e_main_v19, e_main_cst_6, e_main_v18, e_main_v17, e_main_v16, e_main_cst_5, e_main_v15, e_main_v14, e_main_v13, e_main_cst_4, e_main_v12, e_main_v11, e_main_cst_3, moment1, moment2, kept V (r := main_arg0)]
  generalize V (Proc.devRef .tc main_arg0) = w
  generalize V (Proc.devRef .tc main_arg1) = g
  generalize V (Proc.devRef .tc main_arg2) = u
  generalize V (Proc.devRef .tc main_arg3) = v
  funext y
  obtain ⟨i, j, rfl⟩ : ∃ (i : Fin 1112) (j : Fin 128), y = ix2 i j := ⟨y 0, y 1, eq_ix2 y⟩
  pointwise

end

theorem algebraic : algebraic_AdSKIdeal_AdSRIdeal := by
  intro m ρ m' ρ' _ hagree
  refine ⟨_, _, _, AdSKIdeal.Value.run (F := Ideal) m ρ, ?_⟩
  refine (θ_run AdSRIdeal.defs _ _).mono (fun r h c => ?_) (AdSRIdeal.Line.run (F := Ideal) m' ρ')
  obtain ⟨h0, h1, h2, h3⟩ := hagree c
  refine ⟨(h c _).trans ((step (launchContents m' c)).trans ?_), (h c _).trans ((moment1 (launchContents m' c)).trans ?_), (h c _).trans ((moment2 (launchContents m' c)).trans ?_), (h c AdSRIdeal.main_arg0).trans (AdSRIdeal.Line.arg m' c), (h c AdSRIdeal.main_arg1).trans (AdSRIdeal.Line.arg m' c), (h c AdSRIdeal.main_arg2).trans (AdSRIdeal.Line.arg m' c), (h c AdSRIdeal.main_arg3).trans (AdSRIdeal.Line.arg m' c)⟩
  · show AdSKIdeal.Value.G4 (F := Ideal) (m' ((c.tc : Thread AdSRIdeal.nD AdSRIdeal.τ).loc AdSRIdeal.main_arg1)) (m' ((c.tc : Thread AdSRIdeal.nD AdSRIdeal.τ).loc AdSRIdeal.main_arg2)) (m' ((c.tc : Thread AdSRIdeal.nD AdSRIdeal.τ).loc AdSRIdeal.main_arg3)) (m' ((c.tc : Thread AdSRIdeal.nD AdSRIdeal.τ).loc AdSRIdeal.main_arg0)) = _
    rw [h0, h1, h2, h3]
  · show AdSKIdeal.Value.G5 (F := Ideal) (m' ((c.tc : Thread AdSRIdeal.nD AdSRIdeal.τ).loc AdSRIdeal.main_arg1)) (m' ((c.tc : Thread AdSRIdeal.nD AdSRIdeal.τ).loc AdSRIdeal.main_arg2)) = _
    rw [h1, h2]
  · show AdSKIdeal.Value.G6 (F := Ideal) (m' ((c.tc : Thread AdSRIdeal.nD AdSRIdeal.τ).loc AdSRIdeal.main_arg1)) (m' ((c.tc : Thread AdSRIdeal.nD AdSRIdeal.τ).loc AdSRIdeal.main_arg3)) = _
    rw [h1, h3]

end Cert.AdSClaims

end
-- ==== Proof.AdCsRef.lean ====
/- The optimizer step of the state space convolution, reference: its operations in order, its run, and what it leaves in its arguments. -/
module

public import proofs.«01_k».proof.Proof.Lines
public import proofs.«01_k».proof.Proof.Gen.AdCsRIdeal
public import Idealize.ShloMosaic.Lib.StableHlo.Run

@[expose] public section

set_option maxRecDepth 8000

noncomputable section

namespace Cert.AdCsRIdeal.Line

open Cert.AdCsRIdeal Cert.AdCsRIdeal.Gen Idealize.SL.Sem
open Idealize.ShloMosaic Idealize.ShloMosaic.TcCoe Idealize.ShloMosaic.StableHlo
open Cert.Lines

variable {F : FTy → Type} [FloatOps F]

/-- The operations, in order. -/
abbrev line : List (HloOp τ sig (Elt F)) :=
  [ nullary main_cst (constant S_ .f32 0x3F666666#32),
    unary main_cst main_v0 (broadcastInDim S4x384 ![] bcast_S_S4x384),
    binary main_v0 main_arg2 main_v1 mulf,
    nullary main_cst_0 (constant S_ .f32 0x3DCCCCCD#32),
    unary main_cst_0 main_v2 (broadcastInDim S4x384 ![] bcast_S_S4x384),
    binary main_v2 main_arg1 main_v3 mulf,
    binary main_v1 main_v3 main_v4 addf,
    nullary main_cst_1 (constant S_ .f32 0x3F7FBE77#32),
    unary main_cst_1 main_v5 (broadcastInDim S4x384 ![] bcast_S_S4x384),
    binary main_v5 main_arg3 main_v6 mulf,
    binary main_arg1 main_arg1 main_v7 mulf,
    nullary main_cst_2 (constant S_ .f32 0x3A83126F#32),
    unary main_cst_2 main_v8 (broadcastInDim S4x384 ![] bcast_S_S4x384),
    binary main_v8 main_v7 main_v9 mulf,
    binary main_v6 main_v9 main_v10 addf,
    nullary main_cst_3 (constant S_ .f32 0x3F26BD02#32),
    unary main_cst_3 main_v11 (broadcastInDim S4x384 ![] bcast_S_S4x384),
    binary main_v4 main_v11 main_v12 Host.divf,
    nullary main_cst_4 (constant S_ .f32 0x3C231ACC#32),
    unary main_cst_4 main_v13 (broadcastInDim S4x384 ![] bcast_S_S4x384),
    binary main_v10 main_v13 main_v14 Host.divf,
    unary main_v14 main_v15 Host.sqrt,
    nullary main_cst_5 (constant S_ .f32 0x322BCC77#32),
    unary main_cst_5 main_v16 (broadcastInDim S4x384 ![] bcast_S_S4x384),
    binary main_v15 main_v16 main_v17 addf,
    binary main_v12 main_v17 main_v18 Host.divf,
    nullary main_cst_6 (constant S_ .f32 0x3C23D70A#32),
    unary main_cst_6 main_v19 (broadcastInDim S4x384 ![] bcast_S_S4x384),
    binary main_v19 main_arg0 main_v20 mulf,
    binary main_v18 main_v20 main_v21 addf,
    nullary main_cst_7 (constant S_ .f32 0xBA83126F#32),
    unary main_cst_7 main_v22 (broadcastInDim S4x384 ![] bcast_S_S4x384),
    binary main_v22 main_v21 main_v23 mulf ]
/-- What they write. -/
abbrev W : List (Ref sig .tc) :=
  [main_cst, main_v0, main_v1, main_cst_0, main_v2, main_v3, main_v4, main_cst_1, main_v5, main_v6, main_v7, main_cst_2, main_v8, main_v9, main_v10, main_cst_3, main_v11, main_v12, main_cst_4, main_v13, main_v14, main_v15, main_cst_5, main_v16, main_v17, main_v18, main_cst_6, main_v19, main_v20, main_v21, main_cst_7, main_v22, main_v23]
theorem writes : Writes (line (F := F)) W := rfl

set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W := by decide +kernel) : at_ V r = V (Proc.devRef .tc r) := keep writes hr V

theorem e_main_cst : at_ V main_cst = (constant S_ .f32 0x3F666666#32) := eq0 writes 0 rfl V
theorem e_main_v0 : at_ V main_v0 = (broadcastInDim S4x384 ![] bcast_S_S4x384) (at_ V main_cst) := eq1 writes 1 rfl V
theorem e_main_v1 : at_ V main_v1 = mulf (at_ V main_v0) (at_ V main_arg2) := eq2 writes 2 rfl V
theorem e_main_cst_0 : at_ V main_cst_0 = (constant S_ .f32 0x3DCCCCCD#32) := eq0 writes 3 rfl V
theorem e_main_v2 : at_ V main_v2 = (broadcastInDim S4x384 ![] bcast_S_S4x384) (at_ V main_cst_0) := eq1 writes 4 rfl V
theorem e_main_v3 : at_ V main_v3 = mulf (at_ V main_v2) (at_ V main_arg1) := eq2 writes 5 rfl V
theorem e_main_v4 : at_ V main_v4 = addf (at_ V main_v1) (at_ V main_v3) := eq2 writes 6 rfl V
theorem e_main_cst_1 : at_ V main_cst_1 = (constant S_ .f32 0x3F7FBE77#32) := eq0 writes 7 rfl V
theorem e_main_v5 : at_ V main_v5 = (broadcastInDim S4x384 ![] bcast_S_S4x384) (at_ V main_cst_1) := eq1 writes 8 rfl V
theorem e_main_v6 : at_ V main_v6 = mulf (at_ V main_v5) (at_ V main_arg3) := eq2 writes 9 rfl V
theorem e_main_v7 : at_ V main_v7 = mulf (at_ V main_arg1) (at_ V main_arg1) := eq2 writes 10 rfl V
theorem e_main_cst_2 : at_ V main_cst_2 = (constant S_ .f32 0x3A83126F#32) := eq0 writes 11 rfl V
theorem e_main_v8 : at_ V main_v8 = (broadcastInDim S4x384 ![] bcast_S_S4x384) (at_ V main_cst_2) := eq1 writes 12 rfl V
theorem e_main_v9 : at_ V main_v9 = mulf (at_ V main_v8) (at_ V main_v7) := eq2 writes 13 rfl V
theorem e_main_v10 : at_ V main_v10 = addf (at_ V main_v6) (at_ V main_v9) := eq2 writes 14 rfl V
theorem e_main_cst_3 : at_ V main_cst_3 = (constant S_ .f32 0x3F26BD02#32) := eq0 writes 15 rfl V
theorem e_main_v11 : at_ V main_v11 = (broadcastInDim S4x384 ![] bcast_S_S4x384) (at_ V main_cst_3) := eq1 writes 16 rfl V
theorem e_main_v12 : at_ V main_v12 = Host.divf (at_ V main_v4) (at_ V main_v11) := eq2 writes 17 rfl V
theorem e_main_cst_4 : at_ V main_cst_4 = (constant S_ .f32 0x3C231ACC#32) := eq0 writes 18 rfl V
theorem e_main_v13 : at_ V main_v13 = (broadcastInDim S4x384 ![] bcast_S_S4x384) (at_ V main_cst_4) := eq1 writes 19 rfl V
theorem e_main_v14 : at_ V main_v14 = Host.divf (at_ V main_v10) (at_ V main_v13) := eq2 writes 20 rfl V
theorem e_main_v15 : at_ V main_v15 = (Host.sqrt) (at_ V main_v14) := eq1 writes 21 rfl V
theorem e_main_cst_5 : at_ V main_cst_5 = (constant S_ .f32 0x322BCC77#32) := eq0 writes 22 rfl V
theorem e_main_v16 : at_ V main_v16 = (broadcastInDim S4x384 ![] bcast_S_S4x384) (at_ V main_cst_5) := eq1 writes 23 rfl V
theorem e_main_v17 : at_ V main_v17 = addf (at_ V main_v15) (at_ V main_v16) := eq2 writes 24 rfl V
theorem e_main_v18 : at_ V main_v18 = Host.divf (at_ V main_v12) (at_ V main_v17) := eq2 writes 25 rfl V
theorem e_main_cst_6 : at_ V main_cst_6 = (constant S_ .f32 0x3C23D70A#32) := eq0 writes 26 rfl V
theorem e_main_v19 : at_ V main_v19 = (broadcastInDim S4x384 ![] bcast_S_S4x384) (at_ V main_cst_6) := eq1 writes 27 rfl V
theorem e_main_v20 : at_ V main_v20 = mulf (at_ V main_v19) (at_ V main_arg0) := eq2 writes 28 rfl V
theorem e_main_v21 : at_ V main_v21 = addf (at_ V main_v18) (at_ V main_v20) := eq2 writes 29 rfl V
theorem e_main_cst_7 : at_ V main_cst_7 = (constant S_ .f32 0xBA83126F#32) := eq0 writes 30 rfl V
theorem e_main_v22 : at_ V main_v22 = (broadcastInDim S4x384 ![] bcast_S_S4x384) (at_ V main_cst_7) := eq1 writes 31 rfl V
theorem e_main_v23 : at_ V main_v23 = mulf (at_ V main_v22) (at_ V main_v21) := eq2 writes 32 rfl V

theorem ops_sub : (line : List (HloOp τ sig (Elt F))).Forall fun op => op.bufs ⊆ tcRefs τ sig := by
  repeat' first | (with_reducible first | exact unary_bufs_sub .. | exact binary_bufs_sub .. | exact nullary_bufs_sub ..) | refine ⟨?_, ?_⟩ | exact unary_bufs_sub .. | exact binary_bufs_sub .. | exact nullary_bufs_sub ..

/-- Every execution ends with every buffer at its contents after the line. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = at_ (launchContents m d) b :=
  run_seq scopedRefs_eq scopedSems_eq defs main (fun _ => line) main_eq (fun _ => ops_sub) m ρ

/-- An argument keeps what it held. -/
theorem arg (m : (ℓ : Loc nD τ sig) → Buf (Elt F) ℓ) (d : Dev nD) {b : Ref sig .tc} (hb : b ∉ W := by decide +kernel) :
    at_ (launchContents m d) b = m ((d.tc : Thread nD τ).loc b) := kept _ hb

end Cert.AdCsRIdeal.Line

end
-- ==== Proof.AdCsClaims.lean ====
/- The optimizer step of the state space convolution: its claims. -/
module

public import proofs.«01_k».proof.Defs
public import proofs.«01_k».proof.Proof.Gen.AdCsK.Frame
public import proofs.«01_k».proof.Proof.Gen.AdCsKIdeal.Value
public import proofs.«01_k».proof.Proof.AdCsRef
public import Idealize.ShloMosaic.Lib.Quiescent
public import Idealize.ShloMosaic.Lib.Pointwise

@[expose] public section

set_option maxRecDepth 8000

noncomputable section

namespace Cert.AdCsClaims

open Idealize.ShloMosaic Idealize.ShloMosaic.TcCoe Idealize.ShloMosaic.StableHlo Idealize.SL.Sem

theorem frame_p : quiescent_AdCsK := fun m ρ _ => AdCsK.Gen.frame m ρ

theorem frame_pi : quiescent_AdCsKIdeal := fun m ρ _ => AdCsKIdeal.Gen.frame m ρ

theorem frame_ri : quiescent_AdCsRIdeal := fun m ρ _ =>
  (θ_run AdCsRIdeal.defs _ _).mono (fun r h => ⟨fun c => ⟨(h c AdCsRIdeal.main_arg0).trans (AdCsRIdeal.Line.arg m c), (h c AdCsRIdeal.main_arg1).trans (AdCsRIdeal.Line.arg m c), (h c AdCsRIdeal.main_arg2).trans (AdCsRIdeal.Line.arg m c), (h c AdCsRIdeal.main_arg3).trans (AdCsRIdeal.Line.arg m c)⟩,
    sem_eq_zero_of_no_sems (by decide) r.2⟩) (AdCsRIdeal.Line.run m ρ)

section

open AdCsRIdeal AdCsRIdeal.Gen AdCsRIdeal.Line

variable (V : Valuation τ sig (Elt Ideal))

/-- The reference's new first moment is the kernel's function of the gradient and the old moment. -/
theorem moment1 : at_ V main_v4 = AdCsKIdeal.Value.G5 (F := Ideal) (V (Proc.devRef .tc main_arg1)) (V (Proc.devRef .tc main_arg2)) := by
  rw [e_main_v4, e_main_v1, e_main_v0, e_main_cst, e_main_v3, e_main_v2, e_main_cst_0, kept V (r := main_arg1), kept V (r := main_arg2)]
  generalize V (Proc.devRef .tc main_arg1) = g
  generalize V (Proc.devRef .tc main_arg2) = u
  funext y
  obtain ⟨i, j, rfl⟩ : ∃ (i : Fin 4) (j : Fin 384), y = ix2 i j := ⟨y 0, y 1, eq_ix2 y⟩
  pointwise

/-- The reference's new second moment is the kernel's function of the gradient and the old moment. -/
theorem moment2 : at_ V main_v10 = AdCsKIdeal.Value.G6 (F := Ideal) (V (Proc.devRef .tc main_arg1)) (V (Proc.devRef .tc main_arg3)) := by
  rw [e_main_v10, e_main_v6, e_main_v5, e_main_cst_1, e_main_v9, e_main_v8, e_main_cst_2, e_main_v7, kept V (r := main_arg1), kept V (r := main_arg3)]
  generalize V (Proc.devRef .tc main_arg1) = g
  generalize V (Proc.devRef .tc main_arg3) = u
  funext y
  obtain ⟨i, j, rfl⟩ : ∃ (i : Fin 4) (j : Fin 384), y = ix2 i j := ⟨y 0, y 1, eq_ix2 y⟩
  pointwise

/-- The reference's step is the kernel's function of the gradient, the old moments and the weight. -/
theorem step : at_ V main_v23 = AdCsKIdeal.Value.G4 (F := Ideal) (V (Proc.devRef .tc main_arg1)) (V (Proc.devRef .tc main_arg2)) (V (Proc.devRef .tc main_arg3)) (V (Proc.devRef .tc main_arg0)) := by
  rw [e_main_v23, e_main_v22, e_main_cst_7, e_main_v21, e_main_v20, e_main_v19, e_main_cst_6, e_main_v18, e_main_v17, e_main_v16, e_main_cst_5, e_main_v15, e_main_v14, e_main_v13, e_main_cst_4, e_main_v12, e_main_v11, e_main_cst_3, moment1, moment2, kept V (r := main_arg0)]
  generalize V (Proc.devRef .tc main_arg0) = w
  generalize V (Proc.devRef .tc main_arg1) = g
  generalize V (Proc.devRef .tc main_arg2) = u
  generalize V (Proc.devRef .tc main_arg3) = v
  funext y
  obtain ⟨i, j, rfl⟩ : ∃ (i : Fin 4) (j : Fin 384), y = ix2 i j := ⟨y 0, y 1, eq_ix2 y⟩
  pointwise

end

theorem algebraic : algebraic_AdCsKIdeal_AdCsRIdeal := by
  intro m ρ m' ρ' _ hagree
  refine ⟨_, _, _, AdCsKIdeal.Value.run (F := Ideal) m ρ, ?_⟩
  refine (θ_run AdCsRIdeal.defs _ _).mono (fun r h c => ?_) (AdCsRIdeal.Line.run (F := Ideal) m' ρ')
  obtain ⟨h0, h1, h2, h3⟩ := hagree c
  refine ⟨(h c _).trans ((step (launchContents m' c)).trans ?_), (h c _).trans ((moment1 (launchContents m' c)).trans ?_), (h c _).trans ((moment2 (launchContents m' c)).trans ?_), (h c AdCsRIdeal.main_arg0).trans (AdCsRIdeal.Line.arg m' c), (h c AdCsRIdeal.main_arg1).trans (AdCsRIdeal.Line.arg m' c), (h c AdCsRIdeal.main_arg2).trans (AdCsRIdeal.Line.arg m' c), (h c AdCsRIdeal.main_arg3).trans (AdCsRIdeal.Line.arg m' c)⟩
  · show AdCsKIdeal.Value.G4 (F := Ideal) (m' ((c.tc : Thread AdCsRIdeal.nD AdCsRIdeal.τ).loc AdCsRIdeal.main_arg1)) (m' ((c.tc : Thread AdCsRIdeal.nD AdCsRIdeal.τ).loc AdCsRIdeal.main_arg2)) (m' ((c.tc : Thread AdCsRIdeal.nD AdCsRIdeal.τ).loc AdCsRIdeal.main_arg3)) (m' ((c.tc : Thread AdCsRIdeal.nD AdCsRIdeal.τ).loc AdCsRIdeal.main_arg0)) = _
    rw [h0, h1, h2, h3]
  · show AdCsKIdeal.Value.G5 (F := Ideal) (m' ((c.tc : Thread AdCsRIdeal.nD AdCsRIdeal.τ).loc AdCsRIdeal.main_arg1)) (m' ((c.tc : Thread AdCsRIdeal.nD AdCsRIdeal.τ).loc AdCsRIdeal.main_arg2)) = _
    rw [h1, h2]
  · show AdCsKIdeal.Value.G6 (F := Ideal) (m' ((c.tc : Thread AdCsRIdeal.nD AdCsRIdeal.τ).loc AdCsRIdeal.main_arg1)) (m' ((c.tc : Thread AdCsRIdeal.nD AdCsRIdeal.τ).loc AdCsRIdeal.main_arg3)) = _
    rw [h1, h3]

end Cert.AdCsClaims

end
-- ==== Proof.AdClRef.lean ====
/- The optimizer step of the recurrence convolution, reference: its operations in order, its run, and what it leaves in its arguments. -/
module

public import proofs.«01_k».proof.Proof.Lines
public import proofs.«01_k».proof.Proof.Gen.AdClRIdeal
public import Idealize.ShloMosaic.Lib.StableHlo.Run

@[expose] public section

set_option maxRecDepth 8000

noncomputable section

namespace Cert.AdClRIdeal.Line

open Cert.AdClRIdeal Cert.AdClRIdeal.Gen Idealize.SL.Sem
open Idealize.ShloMosaic Idealize.ShloMosaic.TcCoe Idealize.ShloMosaic.StableHlo
open Cert.Lines

variable {F : FTy → Type} [FloatOps F]

/-- The operations, in order. -/
abbrev line : List (HloOp τ sig (Elt F)) :=
  [ nullary main_cst (constant S_ .f32 0x3F666666#32),
    unary main_cst main_v0 (broadcastInDim S4x256 ![] bcast_S_S4x256),
    binary main_v0 main_arg2 main_v1 mulf,
    nullary main_cst_0 (constant S_ .f32 0x3DCCCCCD#32),
    unary main_cst_0 main_v2 (broadcastInDim S4x256 ![] bcast_S_S4x256),
    binary main_v2 main_arg1 main_v3 mulf,
    binary main_v1 main_v3 main_v4 addf,
    nullary main_cst_1 (constant S_ .f32 0x3F7FBE77#32),
    unary main_cst_1 main_v5 (broadcastInDim S4x256 ![] bcast_S_S4x256),
    binary main_v5 main_arg3 main_v6 mulf,
    binary main_arg1 main_arg1 main_v7 mulf,
    nullary main_cst_2 (constant S_ .f32 0x3A83126F#32),
    unary main_cst_2 main_v8 (broadcastInDim S4x256 ![] bcast_S_S4x256),
    binary main_v8 main_v7 main_v9 mulf,
    binary main_v6 main_v9 main_v10 addf,
    nullary main_cst_3 (constant S_ .f32 0x3F26BD02#32),
    unary main_cst_3 main_v11 (broadcastInDim S4x256 ![] bcast_S_S4x256),
    binary main_v4 main_v11 main_v12 Host.divf,
    nullary main_cst_4 (constant S_ .f32 0x3C231ACC#32),
    unary main_cst_4 main_v13 (broadcastInDim S4x256 ![] bcast_S_S4x256),
    binary main_v10 main_v13 main_v14 Host.divf,
    unary main_v14 main_v15 Host.sqrt,
    nullary main_cst_5 (constant S_ .f32 0x322BCC77#32),
    unary main_cst_5 main_v16 (broadcastInDim S4x256 ![] bcast_S_S4x256),
    binary main_v15 main_v16 main_v17 addf,
    binary main_v12 main_v17 main_v18 Host.divf,
    nullary main_cst_6 (constant S_ .f32 0x3C23D70A#32),
    unary main_cst_6 main_v19 (broadcastInDim S4x256 ![] bcast_S_S4x256),
    binary main_v19 main_arg0 main_v20 mulf,
    binary main_v18 main_v20 main_v21 addf,
    nullary main_cst_7 (constant S_ .f32 0xBA83126F#32),
    unary main_cst_7 main_v22 (broadcastInDim S4x256 ![] bcast_S_S4x256),
    binary main_v22 main_v21 main_v23 mulf ]
/-- What they write. -/
abbrev W : List (Ref sig .tc) :=
  [main_cst, main_v0, main_v1, main_cst_0, main_v2, main_v3, main_v4, main_cst_1, main_v5, main_v6, main_v7, main_cst_2, main_v8, main_v9, main_v10, main_cst_3, main_v11, main_v12, main_cst_4, main_v13, main_v14, main_v15, main_cst_5, main_v16, main_v17, main_v18, main_cst_6, main_v19, main_v20, main_v21, main_cst_7, main_v22, main_v23]
theorem writes : Writes (line (F := F)) W := rfl

set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W := by decide +kernel) : at_ V r = V (Proc.devRef .tc r) := keep writes hr V

theorem e_main_cst : at_ V main_cst = (constant S_ .f32 0x3F666666#32) := eq0 writes 0 rfl V
theorem e_main_v0 : at_ V main_v0 = (broadcastInDim S4x256 ![] bcast_S_S4x256) (at_ V main_cst) := eq1 writes 1 rfl V
theorem e_main_v1 : at_ V main_v1 = mulf (at_ V main_v0) (at_ V main_arg2) := eq2 writes 2 rfl V
theorem e_main_cst_0 : at_ V main_cst_0 = (constant S_ .f32 0x3DCCCCCD#32) := eq0 writes 3 rfl V
theorem e_main_v2 : at_ V main_v2 = (broadcastInDim S4x256 ![] bcast_S_S4x256) (at_ V main_cst_0) := eq1 writes 4 rfl V
theorem e_main_v3 : at_ V main_v3 = mulf (at_ V main_v2) (at_ V main_arg1) := eq2 writes 5 rfl V
theorem e_main_v4 : at_ V main_v4 = addf (at_ V main_v1) (at_ V main_v3) := eq2 writes 6 rfl V
theorem e_main_cst_1 : at_ V main_cst_1 = (constant S_ .f32 0x3F7FBE77#32) := eq0 writes 7 rfl V
theorem e_main_v5 : at_ V main_v5 = (broadcastInDim S4x256 ![] bcast_S_S4x256) (at_ V main_cst_1) := eq1 writes 8 rfl V
theorem e_main_v6 : at_ V main_v6 = mulf (at_ V main_v5) (at_ V main_arg3) := eq2 writes 9 rfl V
theorem e_main_v7 : at_ V main_v7 = mulf (at_ V main_arg1) (at_ V main_arg1) := eq2 writes 10 rfl V
theorem e_main_cst_2 : at_ V main_cst_2 = (constant S_ .f32 0x3A83126F#32) := eq0 writes 11 rfl V
theorem e_main_v8 : at_ V main_v8 = (broadcastInDim S4x256 ![] bcast_S_S4x256) (at_ V main_cst_2) := eq1 writes 12 rfl V
theorem e_main_v9 : at_ V main_v9 = mulf (at_ V main_v8) (at_ V main_v7) := eq2 writes 13 rfl V
theorem e_main_v10 : at_ V main_v10 = addf (at_ V main_v6) (at_ V main_v9) := eq2 writes 14 rfl V
theorem e_main_cst_3 : at_ V main_cst_3 = (constant S_ .f32 0x3F26BD02#32) := eq0 writes 15 rfl V
theorem e_main_v11 : at_ V main_v11 = (broadcastInDim S4x256 ![] bcast_S_S4x256) (at_ V main_cst_3) := eq1 writes 16 rfl V
theorem e_main_v12 : at_ V main_v12 = Host.divf (at_ V main_v4) (at_ V main_v11) := eq2 writes 17 rfl V
theorem e_main_cst_4 : at_ V main_cst_4 = (constant S_ .f32 0x3C231ACC#32) := eq0 writes 18 rfl V
theorem e_main_v13 : at_ V main_v13 = (broadcastInDim S4x256 ![] bcast_S_S4x256) (at_ V main_cst_4) := eq1 writes 19 rfl V
theorem e_main_v14 : at_ V main_v14 = Host.divf (at_ V main_v10) (at_ V main_v13) := eq2 writes 20 rfl V
theorem e_main_v15 : at_ V main_v15 = (Host.sqrt) (at_ V main_v14) := eq1 writes 21 rfl V
theorem e_main_cst_5 : at_ V main_cst_5 = (constant S_ .f32 0x322BCC77#32) := eq0 writes 22 rfl V
theorem e_main_v16 : at_ V main_v16 = (broadcastInDim S4x256 ![] bcast_S_S4x256) (at_ V main_cst_5) := eq1 writes 23 rfl V
theorem e_main_v17 : at_ V main_v17 = addf (at_ V main_v15) (at_ V main_v16) := eq2 writes 24 rfl V
theorem e_main_v18 : at_ V main_v18 = Host.divf (at_ V main_v12) (at_ V main_v17) := eq2 writes 25 rfl V
theorem e_main_cst_6 : at_ V main_cst_6 = (constant S_ .f32 0x3C23D70A#32) := eq0 writes 26 rfl V
theorem e_main_v19 : at_ V main_v19 = (broadcastInDim S4x256 ![] bcast_S_S4x256) (at_ V main_cst_6) := eq1 writes 27 rfl V
theorem e_main_v20 : at_ V main_v20 = mulf (at_ V main_v19) (at_ V main_arg0) := eq2 writes 28 rfl V
theorem e_main_v21 : at_ V main_v21 = addf (at_ V main_v18) (at_ V main_v20) := eq2 writes 29 rfl V
theorem e_main_cst_7 : at_ V main_cst_7 = (constant S_ .f32 0xBA83126F#32) := eq0 writes 30 rfl V
theorem e_main_v22 : at_ V main_v22 = (broadcastInDim S4x256 ![] bcast_S_S4x256) (at_ V main_cst_7) := eq1 writes 31 rfl V
theorem e_main_v23 : at_ V main_v23 = mulf (at_ V main_v22) (at_ V main_v21) := eq2 writes 32 rfl V

theorem ops_sub : (line : List (HloOp τ sig (Elt F))).Forall fun op => op.bufs ⊆ tcRefs τ sig := by
  repeat' first | (with_reducible first | exact unary_bufs_sub .. | exact binary_bufs_sub .. | exact nullary_bufs_sub ..) | refine ⟨?_, ?_⟩ | exact unary_bufs_sub .. | exact binary_bufs_sub .. | exact nullary_bufs_sub ..

/-- Every execution ends with every buffer at its contents after the line. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = at_ (launchContents m d) b :=
  run_seq scopedRefs_eq scopedSems_eq defs main (fun _ => line) main_eq (fun _ => ops_sub) m ρ

/-- An argument keeps what it held. -/
theorem arg (m : (ℓ : Loc nD τ sig) → Buf (Elt F) ℓ) (d : Dev nD) {b : Ref sig .tc} (hb : b ∉ W := by decide +kernel) :
    at_ (launchContents m d) b = m ((d.tc : Thread nD τ).loc b) := kept _ hb

end Cert.AdClRIdeal.Line

end
-- ==== Proof.AdClClaims.lean ====
/- The optimizer step of the recurrence convolution: its claims. -/
module

public import proofs.«01_k».proof.Defs
public import proofs.«01_k».proof.Proof.Gen.AdClK.Frame
public import proofs.«01_k».proof.Proof.Gen.AdClKIdeal.Value
public import proofs.«01_k».proof.Proof.AdClRef
public import Idealize.ShloMosaic.Lib.Quiescent
public import Idealize.ShloMosaic.Lib.Pointwise

@[expose] public section

set_option maxRecDepth 8000

noncomputable section

namespace Cert.AdClClaims

open Idealize.ShloMosaic Idealize.ShloMosaic.TcCoe Idealize.ShloMosaic.StableHlo Idealize.SL.Sem

theorem frame_p : quiescent_AdClK := fun m ρ _ => AdClK.Gen.frame m ρ

theorem frame_pi : quiescent_AdClKIdeal := fun m ρ _ => AdClKIdeal.Gen.frame m ρ

theorem frame_ri : quiescent_AdClRIdeal := fun m ρ _ =>
  (θ_run AdClRIdeal.defs _ _).mono (fun r h => ⟨fun c => ⟨(h c AdClRIdeal.main_arg0).trans (AdClRIdeal.Line.arg m c), (h c AdClRIdeal.main_arg1).trans (AdClRIdeal.Line.arg m c), (h c AdClRIdeal.main_arg2).trans (AdClRIdeal.Line.arg m c), (h c AdClRIdeal.main_arg3).trans (AdClRIdeal.Line.arg m c)⟩,
    sem_eq_zero_of_no_sems (by decide) r.2⟩) (AdClRIdeal.Line.run m ρ)

section

open AdClRIdeal AdClRIdeal.Gen AdClRIdeal.Line

variable (V : Valuation τ sig (Elt Ideal))

/-- The reference's new first moment is the kernel's function of the gradient and the old moment. -/
theorem moment1 : at_ V main_v4 = AdClKIdeal.Value.G5 (F := Ideal) (V (Proc.devRef .tc main_arg1)) (V (Proc.devRef .tc main_arg2)) := by
  rw [e_main_v4, e_main_v1, e_main_v0, e_main_cst, e_main_v3, e_main_v2, e_main_cst_0, kept V (r := main_arg1), kept V (r := main_arg2)]
  generalize V (Proc.devRef .tc main_arg1) = g
  generalize V (Proc.devRef .tc main_arg2) = u
  funext y
  obtain ⟨i, j, rfl⟩ : ∃ (i : Fin 4) (j : Fin 256), y = ix2 i j := ⟨y 0, y 1, eq_ix2 y⟩
  pointwise

/-- The reference's new second moment is the kernel's function of the gradient and the old moment. -/
theorem moment2 : at_ V main_v10 = AdClKIdeal.Value.G6 (F := Ideal) (V (Proc.devRef .tc main_arg1)) (V (Proc.devRef .tc main_arg3)) := by
  rw [e_main_v10, e_main_v6, e_main_v5, e_main_cst_1, e_main_v9, e_main_v8, e_main_cst_2, e_main_v7, kept V (r := main_arg1), kept V (r := main_arg3)]
  generalize V (Proc.devRef .tc main_arg1) = g
  generalize V (Proc.devRef .tc main_arg3) = u
  funext y
  obtain ⟨i, j, rfl⟩ : ∃ (i : Fin 4) (j : Fin 256), y = ix2 i j := ⟨y 0, y 1, eq_ix2 y⟩
  pointwise

/-- The reference's step is the kernel's function of the gradient, the old moments and the weight. -/
theorem step : at_ V main_v23 = AdClKIdeal.Value.G4 (F := Ideal) (V (Proc.devRef .tc main_arg1)) (V (Proc.devRef .tc main_arg2)) (V (Proc.devRef .tc main_arg3)) (V (Proc.devRef .tc main_arg0)) := by
  rw [e_main_v23, e_main_v22, e_main_cst_7, e_main_v21, e_main_v20, e_main_v19, e_main_cst_6, e_main_v18, e_main_v17, e_main_v16, e_main_cst_5, e_main_v15, e_main_v14, e_main_v13, e_main_cst_4, e_main_v12, e_main_v11, e_main_cst_3, moment1, moment2, kept V (r := main_arg0)]
  generalize V (Proc.devRef .tc main_arg0) = w
  generalize V (Proc.devRef .tc main_arg1) = g
  generalize V (Proc.devRef .tc main_arg2) = u
  generalize V (Proc.devRef .tc main_arg3) = v
  funext y
  obtain ⟨i, j, rfl⟩ : ∃ (i : Fin 4) (j : Fin 256), y = ix2 i j := ⟨y 0, y 1, eq_ix2 y⟩
  pointwise

end

theorem algebraic : algebraic_AdClKIdeal_AdClRIdeal := by
  intro m ρ m' ρ' _ hagree
  refine ⟨_, _, _, AdClKIdeal.Value.run (F := Ideal) m ρ, ?_⟩
  refine (θ_run AdClRIdeal.defs _ _).mono (fun r h c => ?_) (AdClRIdeal.Line.run (F := Ideal) m' ρ')
  obtain ⟨h0, h1, h2, h3⟩ := hagree c
  refine ⟨(h c _).trans ((step (launchContents m' c)).trans ?_), (h c _).trans ((moment1 (launchContents m' c)).trans ?_), (h c _).trans ((moment2 (launchContents m' c)).trans ?_), (h c AdClRIdeal.main_arg0).trans (AdClRIdeal.Line.arg m' c), (h c AdClRIdeal.main_arg1).trans (AdClRIdeal.Line.arg m' c), (h c AdClRIdeal.main_arg2).trans (AdClRIdeal.Line.arg m' c), (h c AdClRIdeal.main_arg3).trans (AdClRIdeal.Line.arg m' c)⟩
  · show AdClKIdeal.Value.G4 (F := Ideal) (m' ((c.tc : Thread AdClRIdeal.nD AdClRIdeal.τ).loc AdClRIdeal.main_arg1)) (m' ((c.tc : Thread AdClRIdeal.nD AdClRIdeal.τ).loc AdClRIdeal.main_arg2)) (m' ((c.tc : Thread AdClRIdeal.nD AdClRIdeal.τ).loc AdClRIdeal.main_arg3)) (m' ((c.tc : Thread AdClRIdeal.nD AdClRIdeal.τ).loc AdClRIdeal.main_arg0)) = _
    rw [h0, h1, h2, h3]
  · show AdClKIdeal.Value.G5 (F := Ideal) (m' ((c.tc : Thread AdClRIdeal.nD AdClRIdeal.τ).loc AdClRIdeal.main_arg1)) (m' ((c.tc : Thread AdClRIdeal.nD AdClRIdeal.τ).loc AdClRIdeal.main_arg2)) = _
    rw [h1, h2]
  · show AdClKIdeal.Value.G6 (F := Ideal) (m' ((c.tc : Thread AdClRIdeal.nD AdClRIdeal.τ).loc AdClRIdeal.main_arg1)) (m' ((c.tc : Thread AdClRIdeal.nD AdClRIdeal.τ).loc AdClRIdeal.main_arg3)) = _
    rw [h1, h3]

end Cert.AdClClaims

end
-- ==== Proof.LossSpec.lean ====
/- The down projection and the loss: the values the programs compute, row by row. -/
module

public import proofs.«01_k».proof.Proof.MlpSpec

@[expose] public section

set_option maxRecDepth 8000

noncomputable section

namespace Cert.LossSpec

open Idealize.ShloMosaic Cert.NormRow Cert.NormsSpec Cert.MlpSpec Cert.Tiles

/-- One half, as the programs write it. -/
abbrev half : EReal := Ideal.ofBits .f32 0x3F000000#32
/-- One over the row length, as the kernel writes it. -/
abbrev inv : EReal := Ideal.ofBits .f32 0x3A800000#32
/-- Half of that. -/
abbrev hinv : EReal := Ideal.ofBits .f32 0x3A000000#32

theorem half_eq : half = ((1 / 2 : ℝ) : EReal) := by
  simp [half, Ideal.ofBits, Ideal.ieee]
  rw [← EReal.coe_mul]
  norm_num
theorem two_eq : two = ((2 : ℝ) : EReal) := by
  simp [two, Ideal.ofBits, Ideal.ieee]
  norm_cast
  norm_num
theorem inv_eq : inv = ((1 / 1024 : ℝ) : EReal) := by
  simp [inv, Ideal.ofBits, Ideal.ieee]
  rw [← EReal.coe_mul]
  norm_num
theorem hinv_eq : hinv = ((1 / 2048 : ℝ) : EReal) := by
  simp [hinv, Ideal.ofBits, Ideal.ieee]
  rw [← EReal.coe_mul]
  norm_num

/-- A row through the squared rectifier and the second feed-forward weight. -/
def ff (p : Fin 4096 → EReal) (W : Mat 4096 1024) (j : Fin 1024) : EReal := ∑ k, relu2 (p k) * W k j
/-- The row's prediction minus its target. -/
def diff (p : Fin 4096 → EReal) (W : Mat 4096 1024) (g h t : Fin 1024 → EReal) (j : Fin 1024) : EReal :=
  h j + xn (ff p W) j * g j - t j
/-- The loss's gradient at the prediction. -/
def dout (d : Fin 1024 → EReal) (j : Fin 1024) : EReal := d j * inv
/-- The loss's gradient at the row before its normalization. -/
def dff (f d g : Fin 1024 → EReal) : Fin 1024 → EReal := bwd f fun k => dout d k * g k
/-- A row's share of the loss. -/
def share (d : Fin 1024 → EReal) : EReal := hinv * ∑ j, d j * d j

/-- The scale as the reference writes it. -/
theorem dout_eq (d : Fin 1024 → EReal) (j : Fin 1024) : Ideal.div half len * (two * d j) = dout d j := by
  rw [dout, half_eq, two_eq, inv_eq, len_eq, Ideal.div_coe (by norm_num), ← mul_assoc, mul_comm (d j)]
  congr 1
  norm_cast
  norm_num

/-- The loss as the reference writes it. -/
theorem loss_eq {n : Nat} (D : Fin n → Fin 1024 → EReal) : half * ∑ i, Ideal.div (∑ j, D i j * D i j) len = ∑ i, share (D i) := by
  rw [half_eq, coe_mul_sum _ (by norm_num)]
  refine Finset.sum_congr rfl fun i _ => ?_
  rw [share, hinv_eq, len_eq, Ideal.div_coe (by norm_num), mul_left_comm, mul_comm]
  congr 1
  norm_cast
  norm_num

/-- The scale applied to a sum of rows. -/
theorem share_sum {n : Nat} (D : Fin n → Fin 1024 → EReal) : hinv * ∑ r, ∑ j, D r j * D r j = ∑ r, share (D r) := by
  rw [hinv_eq, coe_mul_sum _ (by norm_num)]
  exact Finset.sum_congr rfl fun r _ => by rw [share, hinv_eq]

end Cert.LossSpec

end
-- ==== Proof.LossPay.lean ====
/- The down projection and the loss, kernel: the values of one block of rows. -/
module

public import proofs.«01_k».proof.Proof.Gen.LossKIdeal.Skeleton
public import proofs.«01_k».proof.Proof.LossSpec

@[expose] public section

set_option maxRecDepth 8000

noncomputable section

namespace Cert.LossKIdeal.Val

open Cert.LossKIdeal Cert.LossKIdeal.Gen Idealize.ShloMosaic Idealize.ShloMosaic.TcCoe Cert.NormRow Cert.NormsSpec Cert.MlpSpec Cert.LossSpec

variable (v3 : Vec Ideal S512x4096 .bf16) (v7 : Vec Ideal S4096x1024 .bf16) (v17 : Vec Ideal S1x1024 .f32) (v18 v24 : Vec Ideal S512x1024 .f32)

theorem pay8 (r : Fin 512) (j : Fin 1024) : k0_pay8 (F := Ideal) v3 v7 (ix2 r j) = ff (fun k => v3 (ix2 r k)) (fun k j => v7 (ix2 k j)) j := by
  pointwise [k0_pay8]
  rfl

theorem pay9 (r : Fin 512) (z : Fin 1) : k0_pay9 (F := Ideal) v3 v7 (ix2 r z) = rs (ff (fun k => v3 (ix2 r k)) (fun k j => v7 (ix2 k j))) := by
  pointwise [k0_pay9]
  simp only [pay8]
  rfl

theorem pay10 (r : Fin 512) (j : Fin 1024) : k0_pay10 (F := Ideal) v3 v7 v17 v18 v24 (ix2 r j) = (fun r => diff (fun k => v3 (ix2 r k)) (fun k j => v7 (ix2 k j)) (fun j => v17 (ix2 0 j)) (fun j => v18 (ix2 r j)) (fun j => v24 (ix2 r j))) r j := by
  pointwise [k0_pay10]
  simp only [pay8, pay9]
  rfl

theorem pay12 (z : Fin 1) (j : Fin 128) : k0_pay12 (F := Ideal) v3 v7 v17 v18 v24 (ix2 z j) = ∑ r : Fin 512, share ((fun r => diff (fun k => v3 (ix2 r k)) (fun k j => v7 (ix2 k j)) (fun j => v17 (ix2 0 j)) (fun j => v18 (ix2 r j)) (fun j => v24 (ix2 r j))) r) := by
  rw [← share_sum]
  pointwise [k0_pay12]
  simp only [pay10]

theorem pay1 (a b : Vec Ideal S1x128 .f32) (z : Fin 1) (j : Fin 128) : k0_pay1 (F := Ideal) a b (ix2 z j) = a (ix2 z j) + b (ix2 z j) := by
  pointwise [k0_pay1]

theorem pay11 (a : Vec Ideal S1x128 .f32) (z : Fin 1) (j : Fin 128) : k0_pay11 (F := Ideal) a (ix2 z j) = a (ix2 z j) := by
  pointwise [k0_pay11]

theorem pay6 (z : Fin 1) (j : Fin 128) : k0_pay6 (F := Ideal) (ix2 z j) = (0 : EReal) := by
  pointwise [k0_pay6]

theorem pay7 (z : Fin 1) (j : Fin 1024) : k0_pay7 (F := Ideal) (ix2 z j) = (0 : EReal) := by
  pointwise [k0_pay7]

theorem pay2 (r : Fin 512) (j : Fin 1024) : k0_pay2 (F := Ideal) v18 (ix2 r j) = dout (fun k => v18 (ix2 r k)) j := by
  pointwise [k0_pay2]
  rfl

theorem pay3 (f : Vec Ideal S512x1024 .f32) (q : Vec Ideal S512x1 .f32) (r : Fin 512) (j : Fin 1024) : k0_pay3 (F := Ideal) f q (ix2 r j) = f (ix2 r j) * q (ix2 r 0) := by
  pointwise [k0_pay3]

theorem pay4 (d : Vec Ideal S512x1024 .f32) (r : Fin 512) (j : Fin 1024) : k0_pay4 (F := Ideal) (k0_pay8 v3 v7) (k0_pay9 v3 v7) v17 d (ix2 r j)
    = dff (ff (fun k => v3 (ix2 r k)) (fun k j => v7 (ix2 k j))) (fun k => d (ix2 r k)) (fun k => v17 (ix2 0 k)) j := by
  pointwise [k0_pay4]
  simp only [pay2, pay3, pay8, pay9]
  rfl

theorem pay5 (d : Vec Ideal S512x1024 .f32) (u : Vec Ideal S1x1024 .f32) (z : Fin 1) (j : Fin 1024) : k0_pay5 (F := Ideal) (k0_pay8 v3 v7) (k0_pay9 v3 v7) d u (ix2 z j)
    = u (ix2 z j) + ∑ r : Fin 512, dout (fun k => d (ix2 r k)) j * xn (ff (fun k => v3 (ix2 r k)) (fun k j => v7 (ix2 k j))) j := by
  pointwise [k0_pay5]
  simp only [pay2, pay3, pay8, pay9]
  rfl

end Cert.LossKIdeal.Val

end
-- ==== Proof.LossVal.lean ====
/- The down projection and the loss, kernel: its results element by element. -/
module

public import proofs.«01_k».proof.Proof.Gen.LossKIdeal.Value
public import proofs.«01_k».proof.Proof.LossPay
public import Idealize.ShloMosaic.Lib.Tactic

@[expose] public section

set_option maxRecDepth 8000

noncomputable section

namespace Cert.LossKIdeal.Val

open Cert.LossKIdeal Cert.LossKIdeal.Gen Idealize.ShloMosaic Idealize.ShloMosaic.TcCoe Idealize.SL.Sem Cert.NormRow Cert.NormsSpec Cert.MlpSpec Cert.LossSpec Cert.Tiles
open Cert.LossKIdeal.Gen (V)

variable (m : (ℓ : Loc nD τ sig) → Buf (Elt Ideal) ℓ) (c : Dev nD)

/-- What the device's memory holds at launch. -/
abbrev V0 : Valuation τ sig (Elt Ideal) := fun b => m (c, b)

/-- An argument, as a matrix. -/
def PR (V : Valuation τ sig (Elt Ideal)) : Mat 4096 4096 := fun i j => (V (Proc.devRef .tc main_arg0) : Vec Ideal S4096x4096 .bf16) (ix2 i j)
/-- An argument, as a matrix. -/
def WD (V : Valuation τ sig (Elt Ideal)) : Mat 4096 1024 := fun i j => (V (Proc.devRef .tc main_arg1) : Vec Ideal S4096x1024 .bf16) (ix2 i j)
/-- An argument, as a matrix. -/
def H (V : Valuation τ sig (Elt Ideal)) : Mat 4096 1024 := fun i j => (V (Proc.devRef .tc main_arg2) : Vec Ideal S4096x1024 .f32) (ix2 i j)
/-- An argument, as a matrix. -/
def T (V : Valuation τ sig (Elt Ideal)) : Mat 4096 1024 := fun i j => (V (Proc.devRef .tc main_arg3) : Vec Ideal S4096x1024 .f32) (ix2 i j)
/-- An argument, as a matrix. -/
def G (V : Valuation τ sig (Elt Ideal)) : Mat 1 1024 := fun i j => (V (Proc.devRef .tc main_arg4) : Vec Ideal S1x1024 .f32) (ix2 i j)
/-- The rows after the second feed-forward weight. -/
def fm (V : Valuation τ sig (Elt Ideal)) : Mat 4096 1024 := fun i => ff (PR V i) (WD V)
/-- The predictions minus the targets. -/
def dm (V : Valuation τ sig (Elt Ideal)) : Mat 4096 1024 := fun i => diff (PR V i) (WD V) (G V 0) (H V i) (T V i)

theorem hz : (![0, 0] : Fin 2 → Nat) = fun _ => 0 := funext fun a => by fin_cases a <;> rfl

theorem b5A (t : Fin cfg0.N) (h0 : t.val % 8 = 0) : (outsAt0 m c t.val t.isLt).1 = k0_pay2 (k0_pay10 (iblk m c 0 t) (iblk m c 1 t) (iblk m c 4 t) (iblk m c 2 t) (iblk m c 3 t)) := by
  rw [outsAt0_A m c t h0]
  dsimp only
  unfold out0_A_5
  rw [View.read_writes_eq_canon _ _ _ (cover0_A_5 _ _ _ _ _ _ _ _ _ _ _ _ _ _ _ _ _ _ _ _ _ _ _ _ _ _)]
  unfold kernelRun0_A
  dsimp only
  rw [View.canon_unit_zero hz]
  try sl_unfold_words
  simp only [View.readAt_eq_ld, Memref.IsWhole.read_unread, View.ld_unit_zero (S := S512x4096) hz, View.ld_unit_zero (S := S4096x1024) hz, View.ld_unit_zero (S := S512x1024) hz, View.ld_unit_zero (S := S1x1024) hz, View.ld_unit_zero (S := S1x128) hz]

theorem b5B (t : Fin cfg0.N) (h0 : ¬t.val % 8 = 0) : (outsAt0 m c t.val t.isLt).1 = k0_pay2 (k0_pay10 (iblk m c 0 t) (iblk m c 1 t) (iblk m c 4 t) (iblk m c 2 t) (iblk m c 3 t)) := by
  rw [outsAt0_B m c t h0]
  dsimp only
  unfold out0_B_5
  rw [View.read_writes_eq_canon _ _ _ (cover0_B_5 _ _ _ _ _ _ _ _ _ _ _ _ _ _ _ _ _ _ _ _ _ _ _ _ _ _ _ _)]
  unfold kernelRun0_B
  dsimp only
  rw [View.canon_unit_zero hz]
  try sl_unfold_words
  simp only [View.readAt_eq_ld, Memref.IsWhole.read_unread, View.ld_unit_zero (S := S512x4096) hz, View.ld_unit_zero (S := S4096x1024) hz, View.ld_unit_zero (S := S512x1024) hz, View.ld_unit_zero (S := S1x1024) hz, View.ld_unit_zero (S := S1x128) hz]

theorem b5 (t : Fin cfg0.N) : (outsAt0 m c t.val t.isLt).1 = k0_pay2 (k0_pay10 (iblk m c 0 t) (iblk m c 1 t) (iblk m c 4 t) (iblk m c 2 t) (iblk m c 3 t)) := by
  by_cases h0 : t.val % 8 = 0
  · exact b5A m c t h0
  · exact b5B m c t h0

theorem b6A (t : Fin cfg0.N) (h0 : t.val % 8 = 0) : (outsAt0 m c t.val t.isLt).2.1 = k0_pay4 (k0_pay8 (iblk m c 0 t) (iblk m c 1 t)) (k0_pay9 (iblk m c 0 t) (iblk m c 1 t)) (iblk m c 4 t) (k0_pay10 (iblk m c 0 t) (iblk m c 1 t) (iblk m c 4 t) (iblk m c 2 t) (iblk m c 3 t)) := by
  rw [outsAt0_A m c t h0]
  dsimp only
  unfold out0_A_6
  rw [View.read_writes_eq_canon _ _ _ (cover0_A_6 _ _ _ _ _ _ _ _ _ _ _ _ _ _ _ _ _ _ _ _ _ _ _ _ _ _)]
  unfold kernelRun0_A
  dsimp only
  rw [View.canon_unit_zero hz]
  try sl_unfold_words
  simp only [View.readAt_eq_ld, Memref.IsWhole.read_unread, View.ld_unit_zero (S := S512x4096) hz, View.ld_unit_zero (S := S4096x1024) hz, View.ld_unit_zero (S := S512x1024) hz, View.ld_unit_zero (S := S1x1024) hz, View.ld_unit_zero (S := S1x128) hz]

theorem b6B (t : Fin cfg0.N) (h0 : ¬t.val % 8 = 0) : (outsAt0 m c t.val t.isLt).2.1 = k0_pay4 (k0_pay8 (iblk m c 0 t) (iblk m c 1 t)) (k0_pay9 (iblk m c 0 t) (iblk m c 1 t)) (iblk m c 4 t) (k0_pay10 (iblk m c 0 t) (iblk m c 1 t) (iblk m c 4 t) (iblk m c 2 t) (iblk m c 3 t)) := by
  rw [outsAt0_B m c t h0]
  dsimp only
  unfold out0_B_6
  rw [View.read_writes_eq_canon _ _ _ (cover0_B_6 _ _ _ _ _ _ _ _ _ _ _ _ _ _ _ _ _ _ _ _ _ _ _ _ _ _ _ _)]
  unfold kernelRun0_B
  dsimp only
  rw [View.canon_unit_zero hz]
  try sl_unfold_words
  simp only [View.readAt_eq_ld, Memref.IsWhole.read_unread, View.ld_unit_zero (S := S512x4096) hz, View.ld_unit_zero (S := S4096x1024) hz, View.ld_unit_zero (S := S512x1024) hz, View.ld_unit_zero (S := S1x1024) hz, View.ld_unit_zero (S := S1x128) hz]

theorem b6 (t : Fin cfg0.N) : (outsAt0 m c t.val t.isLt).2.1 = k0_pay4 (k0_pay8 (iblk m c 0 t) (iblk m c 1 t)) (k0_pay9 (iblk m c 0 t) (iblk m c 1 t)) (iblk m c 4 t) (k0_pay10 (iblk m c 0 t) (iblk m c 1 t) (iblk m c 4 t) (iblk m c 2 t) (iblk m c 3 t)) := by
  by_cases h0 : t.val % 8 = 0
  · exact b6A m c t h0
  · exact b6B m c t h0

theorem b7A (t : Fin cfg0.N) (h0 : t.val % 8 = 0) : (outsAt0 m c t.val t.isLt).2.2.1 = k0_pay1 (k0_pay11 (k0_pay6 (F := Ideal))) (k0_pay12 (iblk m c 0 t) (iblk m c 1 t) (iblk m c 4 t) (iblk m c 2 t) (iblk m c 3 t)) := by
  rw [outsAt0_A m c t h0]
  dsimp only
  unfold out0_A_7
  rw [View.read_writes_eq_canon _ _ _ (cover0_A_7 _ _ _ _ _ _ _ _ _ _ _ _ _ _ _ _ _ _ _ _ _ _ _ _ _ _)]
  unfold kernelRun0_A
  dsimp only
  sl_unfold_words
  rw [View.canon_cons_unit_zero (S := S1x128) hz, View.readCov_unit_zero (S := S1x128) _ hz]
  simp only [View.readAt_eq_ld, Memref.IsWhole.read_unread, View.ld_unit_zero (S := S512x4096) hz, View.ld_unit_zero (S := S4096x1024) hz, View.ld_unit_zero (S := S512x1024) hz, View.ld_unit_zero (S := S1x1024) hz, View.ld_unit_zero (S := S1x128) hz]

theorem b7B (t : Fin cfg0.N) (h0 : ¬t.val % 8 = 0) : (outsAt0 m c t.val t.isLt).2.2.1 = k0_pay1 (k0_pay11 (outsAt0 m c (t.val - 1) (Nat.lt_of_le_of_lt (Nat.sub_le _ _) t.isLt)).2.2.1) (k0_pay12 (iblk m c 0 t) (iblk m c 1 t) (iblk m c 4 t) (iblk m c 2 t) (iblk m c 3 t)) := by
  rw [outsAt0_B m c t h0]
  dsimp only
  unfold out0_B_7
  rw [View.read_writes_eq_canon _ _ _ (cover0_B_7 _ _ _ _ _ _ _ _ _ _ _ _ _ _ _ _ _ _ _ _ _ _ _ _ _ _ _ _)]
  unfold kernelRun0_B
  dsimp only
  rw [View.canon_unit_zero hz]
  try sl_unfold_words
  simp only [View.readAt_eq_ld, Memref.IsWhole.read_unread, View.ld_unit_zero (S := S512x4096) hz, View.ld_unit_zero (S := S4096x1024) hz, View.ld_unit_zero (S := S512x1024) hz, View.ld_unit_zero (S := S1x1024) hz, View.ld_unit_zero (S := S1x128) hz]

theorem b8A (t : Fin cfg0.N) (h0 : t.val % 8 = 0) : (outsAt0 m c t.val t.isLt).2.2.2 = k0_pay5 (k0_pay8 (iblk m c 0 t) (iblk m c 1 t)) (k0_pay9 (iblk m c 0 t) (iblk m c 1 t)) (k0_pay10 (iblk m c 0 t) (iblk m c 1 t) (iblk m c 4 t) (iblk m c 2 t) (iblk m c 3 t)) (k0_pay7 (F := Ideal)) := by
  rw [outsAt0_A m c t h0]
  dsimp only
  unfold out0_A_8
  rw [View.read_writes_eq_canon _ _ _ (cover0_A_8 _ _ _ _ _ _ _ _ _ _ _ _ _ _ _ _ _ _ _ _ _ _ _ _ _ _)]
  unfold kernelRun0_A
  dsimp only
  sl_unfold_words
  rw [View.canon_cons_unit_zero (S := S1x1024) hz, View.readCov_unit_zero (S := S1x1024) _ hz]
  simp only [View.readAt_eq_ld, Memref.IsWhole.read_unread, View.ld_unit_zero (S := S512x4096) hz, View.ld_unit_zero (S := S4096x1024) hz, View.ld_unit_zero (S := S512x1024) hz, View.ld_unit_zero (S := S1x1024) hz, View.ld_unit_zero (S := S1x128) hz]

theorem b8B (t : Fin cfg0.N) (h0 : ¬t.val % 8 = 0) : (outsAt0 m c t.val t.isLt).2.2.2 = k0_pay5 (k0_pay8 (iblk m c 0 t) (iblk m c 1 t)) (k0_pay9 (iblk m c 0 t) (iblk m c 1 t)) (k0_pay10 (iblk m c 0 t) (iblk m c 1 t) (iblk m c 4 t) (iblk m c 2 t) (iblk m c 3 t)) (outsAt0 m c (t.val - 1) (Nat.lt_of_le_of_lt (Nat.sub_le _ _) t.isLt)).2.2.2 := by
  rw [outsAt0_B m c t h0]
  dsimp only
  unfold out0_B_8
  rw [View.read_writes_eq_canon _ _ _ (cover0_B_8 _ _ _ _ _ _ _ _ _ _ _ _ _ _ _ _ _ _ _ _ _ _ _ _ _ _ _ _)]
  unfold kernelRun0_B
  dsimp only
  rw [View.canon_unit_zero hz]
  try sl_unfold_words
  simp only [View.readAt_eq_ld, Memref.IsWhole.read_unread, View.ld_unit_zero (S := S512x4096) hz, View.ld_unit_zero (S := S4096x1024) hz, View.ld_unit_zero (S := S512x1024) hz, View.ld_unit_zero (S := S1x1024) hz, View.ld_unit_zero (S := S1x128) hz]

/-- The place in the whole of row `r` of the block of point `t`. -/
def rF (t : Fin cfg0.N) (r : Fin 512) : Fin 4096 := ⟨512 * t.val + r.val, by have := t.isLt; have : cfg0.N = 8 := N_0; have := r.isLt; omega⟩

theorem ix_0 (t : Fin cfg0.N) : win0_0.index t 0 = t.val ∧ win0_0.index t 1 = 0 := by decide +revert

theorem ix_1 (t : Fin cfg0.N) : win0_1.index t 0 = 0 ∧ win0_1.index t 1 = 0 := by decide +revert

theorem ix_2 (t : Fin cfg0.N) : win0_2.index t 0 = t.val ∧ win0_2.index t 1 = 0 := by decide +revert

theorem ix_3 (t : Fin cfg0.N) : win0_3.index t 0 = t.val ∧ win0_3.index t 1 = 0 := by decide +revert

theorem ix_4 (t : Fin cfg0.N) : win0_4.index t 0 = 0 ∧ win0_4.index t 1 = 0 := by decide +revert

theorem ix_5 (t : Fin cfg0.N) : win0_5.index t 0 = t.val ∧ win0_5.index t 1 = 0 := by decide +revert

theorem ix_6 (t : Fin cfg0.N) : win0_6.index t 0 = t.val ∧ win0_6.index t 1 = 0 := by decide +revert

theorem blk_0 (t : Fin cfg0.N) (r : Fin 512) (k : Fin 4096) : (iblk m c 0 t : Vec Ideal S512x4096 .bf16) (ix2 r k) = PR (V0 m c) (rF t r) k := by
  unfold iblk
  rw [View.read_apply]
  show V m c main_arg0 _ = V m c main_arg0 _
  congr 1
  funext a
  apply Fin.ext
  match a with
  | ⟨0, _⟩ => show win0_0.index t 0 * 512 + 1 * r.val = 512 * t.val + r.val; rw [(ix_0 t).1]; omega
  | ⟨1, _⟩ => show win0_0.index t 1 * 4096 + 1 * k.val = k.val; rw [(ix_0 t).2]; omega

theorem blk_1 (t : Fin cfg0.N) (r : Fin 4096) (k : Fin 1024) : (iblk m c 1 t : Vec Ideal S4096x1024 .bf16) (ix2 r k) = WD (V0 m c) r k := by
  unfold iblk
  rw [View.read_apply]
  show V m c main_arg1 _ = V m c main_arg1 _
  congr 1
  funext a
  apply Fin.ext
  match a with
  | ⟨0, _⟩ => show win0_1.index t 0 * 4096 + 1 * r.val = r.val; rw [(ix_1 t).1]; omega
  | ⟨1, _⟩ => show win0_1.index t 1 * 1024 + 1 * k.val = k.val; rw [(ix_1 t).2]; omega

theorem blk_2 (t : Fin cfg0.N) (r : Fin 512) (k : Fin 1024) : (iblk m c 2 t : Vec Ideal S512x1024 .f32) (ix2 r k) = H (V0 m c) (rF t r) k := by
  unfold iblk
  rw [View.read_apply]
  show V m c main_arg2 _ = V m c main_arg2 _
  congr 1
  funext a
  apply Fin.ext
  match a with
  | ⟨0, _⟩ => show win0_2.index t 0 * 512 + 1 * r.val = 512 * t.val + r.val; rw [(ix_2 t).1]; omega
  | ⟨1, _⟩ => show win0_2.index t 1 * 1024 + 1 * k.val = k.val; rw [(ix_2 t).2]; omega

theorem blk_3 (t : Fin cfg0.N) (r : Fin 512) (k : Fin 1024) : (iblk m c 3 t : Vec Ideal S512x1024 .f32) (ix2 r k) = T (V0 m c) (rF t r) k := by
  unfold iblk
  rw [View.read_apply]
  show V m c main_arg3 _ = V m c main_arg3 _
  congr 1
  funext a
  apply Fin.ext
  match a with
  | ⟨0, _⟩ => show win0_3.index t 0 * 512 + 1 * r.val = 512 * t.val + r.val; rw [(ix_3 t).1]; omega
  | ⟨1, _⟩ => show win0_3.index t 1 * 1024 + 1 * k.val = k.val; rw [(ix_3 t).2]; omega

theorem blk_4 (t : Fin cfg0.N) (r : Fin 1) (k : Fin 1024) : (iblk m c 4 t : Vec Ideal S1x1024 .f32) (ix2 r k) = G (V0 m c) r k := by
  unfold iblk
  rw [View.read_apply]
  show V m c main_arg4 _ = V m c main_arg4 _
  congr 1
  funext a
  apply Fin.ext
  match a with
  | ⟨0, _⟩ => show win0_4.index t 0 * 1 + 1 * r.val = r.val; rw [(ix_4 t).1]; omega
  | ⟨1, _⟩ => show win0_4.index t 1 * 1024 + 1 * k.val = k.val; rw [(ix_4 t).2]; omega

/-- The differences of a block's rows. -/
theorem dblk (t : Fin cfg0.N) (r : Fin 512) : (fun j => k0_pay10 (iblk m c 0 t) (iblk m c 1 t) (iblk m c 4 t) (iblk m c 2 t) (iblk m c 3 t) (ix2 r j)) = dm (V0 m c) (rF t r) := by
  funext j
  rw [pay10]
  simp only [blk_0, blk_1, blk_2, blk_3, blk_4]
  rfl

/-- Result 0. -/
def res5 : Vec Ideal S4096x1024 .f32 := fun i => dout (dm (V0 m c) (i 0)) (i 1)

theorem out_5 (t : Fin cfg0.N) (r : Fin 512) (j : Fin 1024) : (outsAt0 m c t.val t.isLt).1 (ix2 r j) = dout (dm (V0 m c) (rF t r)) j := by
  rw [b5, pay2, dblk]

theorem flush_5 (t : Fin cfg0.N) : (dats m 0 c).flushed 5 t = ((cfg0.win 5).blk t).view.read (Elt Ideal) (res5 m c) := by
  show (cfg0.win 5).cut (grid0.coords t) ((dats m 0 c).after 5 t) = _
  rw [after0_5]
  funext y
  rw [View.read_apply]
  show (outsAt0 m c t.val t.isLt).1 y = res5 m c _
  obtain ⟨r, j, rfl⟩ : ∃ (r : Fin 512) (j : Fin 1024), y = ix2 r j := ⟨y 0, y 1, eq_ix2 y⟩
  rw [out_5]
  show _ = res5 m c (ix2 _ _)
  have e0 : (⟨win0_5.index t 0 * 512 + 1 * r.val, by have := (rF t r).isLt; rw [(ix_5 t).1]; unfold rF at this; dsimp only at this; omega⟩ : Fin 4096) = rF t r := Fin.ext (by show win0_5.index t 0 * 512 + 1 * r.val = 512 * t.val + r.val; rw [(ix_5 t).1]; omega)
  have e1 : (⟨win0_5.index t 1 * 1024 + 1 * j.val, by have := j.isLt; rw [(ix_5 t).2]; omega⟩ : Fin 1024) = j := Fin.ext (by show win0_5.index t 1 * 1024 + 1 * j.val = j.val; rw [(ix_5 t).2]; omega)
  exact (congrArg₂ (fun a b => res5 m c (ix2 a b)) e0 e1).symm

theorem final_5 : (dats m 0 c).arrAt 5 cfg0.N = res5 m c :=
  (dats m 0 c).arrAt_eq_of_cover 5 (res5 m c) (fun t _ => flush_5 m c t) fun i => by
    have hN : cfg0.N = 8 := N_0
    have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_5 t, ?_⟩
    show i ∈ ((View.whole main_v0_0).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [(ix_5 t).1]; omega
    | ⟨1, _⟩ =>
      show win0_5.index t 1 * 1024 ≤ (i 1 : Nat) ∧ (i 1 : Nat) < win0_5.index t 1 * 1024 + 1024
      rw [(ix_5 t).2]; omega

/-- Result 1. -/
def res6 : Vec Ideal S4096x1024 .bf16 := fun i => dff (fm (V0 m c) (i 0)) (dm (V0 m c) (i 0)) (G (V0 m c) 0) (i 1)

theorem out_6 (t : Fin cfg0.N) (r : Fin 512) (j : Fin 1024) : (outsAt0 m c t.val t.isLt).2.1 (ix2 r j) = dff (fm (V0 m c) (rF t r)) (dm (V0 m c) (rF t r)) (G (V0 m c) 0) j := by
  rw [b6, pay4, dblk]
  simp only [blk_0, blk_1, blk_4]
  rfl

theorem flush_6 (t : Fin cfg0.N) : (dats m 0 c).flushed 6 t = ((cfg0.win 6).blk t).view.read (Elt Ideal) (res6 m c) := by
  show (cfg0.win 6).cut (grid0.coords t) ((dats m 0 c).after 6 t) = _
  rw [after0_6]
  funext y
  rw [View.read_apply]
  show (outsAt0 m c t.val t.isLt).2.1 y = res6 m c _
  obtain ⟨r, j, rfl⟩ : ∃ (r : Fin 512) (j : Fin 1024), y = ix2 r j := ⟨y 0, y 1, eq_ix2 y⟩
  rw [out_6]
  show _ = res6 m c (ix2 _ _)
  have e0 : (⟨win0_6.index t 0 * 512 + 1 * r.val, by have := (rF t r).isLt; rw [(ix_6 t).1]; unfold rF at this; dsimp only at this; omega⟩ : Fin 4096) = rF t r := Fin.ext (by show win0_6.index t 0 * 512 + 1 * r.val = 512 * t.val + r.val; rw [(ix_6 t).1]; omega)
  have e1 : (⟨win0_6.index t 1 * 1024 + 1 * j.val, by have := j.isLt; rw [(ix_6 t).2]; omega⟩ : Fin 1024) = j := Fin.ext (by show win0_6.index t 1 * 1024 + 1 * j.val = j.val; rw [(ix_6 t).2]; omega)
  exact (congrArg₂ (fun a b => res6 m c (ix2 a b)) e0 e1).symm

theorem final_6 : (dats m 0 c).arrAt 6 cfg0.N = res6 m c :=
  (dats m 0 c).arrAt_eq_of_cover 6 (res6 m c) (fun t _ => flush_6 m c t) fun i => by
    have hN : cfg0.N = 8 := N_0
    have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_6 t, ?_⟩
    show i ∈ ((View.whole main_v0_1).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [(ix_6 t).1]; omega
    | ⟨1, _⟩ =>
      show win0_6.index t 1 * 1024 ≤ (i 1 : Nat) ∧ (i 1 : Nat) < win0_6.index t 1 * 1024 + 1024
      rw [(ix_6 t).2]; omega

/-- A block's rows' share of the loss. -/
theorem lblk (t : Fin cfg0.N) (z : Fin 1) (j : Fin 128) : k0_pay12 (iblk m c 0 t) (iblk m c 1 t) (iblk m c 4 t) (iblk m c 2 t) (iblk m c 3 t) (ix2 z j) = ∑ r : Fin 512, share (dm (V0 m c) (rF t r)) := by
  rw [pay12]
  simp only [blk_0, blk_1, blk_2, blk_3, blk_4]
  rfl

/-- A block's rows' share of the scale's gradient. -/
theorem gblk (t : Fin cfg0.N) (u : Vec Ideal S1x1024 .f32) (z : Fin 1) (j : Fin 1024) : k0_pay5 (k0_pay8 (iblk m c 0 t) (iblk m c 1 t)) (k0_pay9 (iblk m c 0 t) (iblk m c 1 t)) (k0_pay10 (iblk m c 0 t) (iblk m c 1 t) (iblk m c 4 t) (iblk m c 2 t) (iblk m c 3 t)) u (ix2 z j)
    = u (ix2 z j) + ∑ r : Fin 512, dout (dm (V0 m c) (rF t r)) j * xn (fm (V0 m c) (rF t r)) j := by
  rw [pay5]
  simp only [dblk, blk_0, blk_1]
  rfl

/-- What the accumulated sum holds after point `n`: the rows so far. -/
theorem out_7 (z : Fin 1) (j : Fin 128) : ∀ (n : ℕ) (hn : n < cfg0.N),
    (outsAt0 m c n hn).2.2.1 (ix2 z j) = part (fun i => share (dm (V0 m c) i)) (512 * (n + 1))
  | 0, hn => by
    have h0 : (⟨0, hn⟩ : Fin cfg0.N).val % 8 = 0 := rfl
    have e := congrFun (b7A m c ⟨0, hn⟩ h0) (ix2 z j)
    rw [pay1, pay11, pay6, lblk, zero_add] at e
    rw [show 512 * (0 + 1) = 0 + 512 from rfl, part_add _ 0 512 (by omega), part_zero, zero_add]
    exact e
  | n + 1, hn => by
    have hN : cfg0.N = 8 := N_0
    have hB : ¬(⟨n + 1, hn⟩ : Fin cfg0.N).val % 8 = 0 := by dsimp only; omega
    have e := congrFun (b7B m c ⟨n + 1, hn⟩ hB) (ix2 z j)
    rw [pay1, pay11, lblk, show (outsAt0 m c ((⟨n + 1, hn⟩ : Fin cfg0.N).val - 1) _).2.2.1 (ix2 z j) = _ from out_7 z j n (Nat.lt_of_succ_lt hn)] at e
    rw [show 512 * (n + 1 + 1) = 512 * (n + 1) + 512 from rfl, part_add _ (512 * (n + 1)) 512 (by omega)]
    exact e

/-- Result 2. -/
def res7 : Vec Ideal S1x128 .f32 := fun i => ∑ i, share (dm (V0 m c) i)

theorem flush_7 (t : Fin cfg0.N) (hf : (cfg0.win 7).flush t = true) : (dats m 0 c).flushed 7 t = ((cfg0.win 7).blk t).view.read (Elt Ideal) (res7 m c) := by
  have hN : cfg0.N = 8 := N_0
  have h7 : t.val = 7 := by have := (flush0_7 t).mp hf; have := t.isLt; omega
  obtain rfl : t = t0_7 := Fin.ext h7
  show (cfg0.win 7).cut (grid0.coords t0_7) ((dats m 0 c).after 7 t0_7) = _
  rw [after0_7]
  have e : (outsAt0 m c t0_7.val t0_7.isLt).2.2.1 = res7 m c := by
    funext y
    obtain ⟨r, j, rfl⟩ : ∃ (r : Fin 1) (j : Fin 128), y = ix2 r j := ⟨y 0, y 1, eq_ix2 y⟩
    rw [out_7 m c r j t0_7.val t0_7.isLt]
    exact part_all _
  rw [e]
  have hz' : (fun a => win0_7.index t0_7 a * main_v0_2.ty.shape.size a) = fun _ => 0 := funext fun a => by fin_cases a <;> decide
  exact (Memref.read_access_unit_zero (Elt Ideal) main_v0_2 hz' (fun a => by rw [congrFun hz' a]; simp) (res7 m c)).symm

theorem final_7 : (dats m 0 c).arrAt 7 cfg0.N = res7 m c :=
  (dats m 0 c).arrAt_eq_of_cover 7 (res7 m c) (flush_7 m c) fun i => by
    have h0 : (i 0 : Nat) < 1 := (i 0).isLt
    have h1 : (i 1 : Nat) < 128 := (i 1).isLt
    refine ⟨t0_7, (flush0_7 t0_7).mpr rfl, ?_⟩
    show i ∈ ((View.whole main_v0_2).slice (win0_7.rect t0_7)).set
    rw [View.set_slice_whole, Rect.mem_set_unit]
    intro a
    match a with
    | ⟨0, _⟩ =>
      show win0_7.index t0_7 0 * 1 ≤ (i 0 : Nat) ∧ (i 0 : Nat) < win0_7.index t0_7 0 * 1 + 1
      rw [show win0_7.index t0_7 0 = 0 from by decide +kernel]; omega
    | ⟨1, _⟩ =>
      show win0_7.index t0_7 1 * 128 ≤ (i 1 : Nat) ∧ (i 1 : Nat) < win0_7.index t0_7 1 * 128 + 128
      rw [show win0_7.index t0_7 1 = 0 from by decide +kernel]; omega

/-- What the accumulated sum holds after point `n`: the rows so far. -/
theorem out_8 (z : Fin 1) (j : Fin 1024) : ∀ (n : ℕ) (hn : n < cfg0.N),
    (outsAt0 m c n hn).2.2.2 (ix2 z j) = part (fun k => dout (dm (V0 m c) k) j * xn (fm (V0 m c) k) j) (512 * (n + 1))
  | 0, hn => by
    have h0 : (⟨0, hn⟩ : Fin cfg0.N).val % 8 = 0 := rfl
    have e := congrFun (b8A m c ⟨0, hn⟩ h0) (ix2 z j)
    rw [gblk, pay7, zero_add] at e
    rw [show 512 * (0 + 1) = 0 + 512 from rfl, part_add _ 0 512 (by omega), part_zero, zero_add]
    exact e
  | n + 1, hn => by
    have hN : cfg0.N = 8 := N_0
    have hB : ¬(⟨n + 1, hn⟩ : Fin cfg0.N).val % 8 = 0 := by dsimp only; omega
    have e := congrFun (b8B m c ⟨n + 1, hn⟩ hB) (ix2 z j)
    rw [gblk, show (outsAt0 m c ((⟨n + 1, hn⟩ : Fin cfg0.N).val - 1) _).2.2.2 (ix2 z j) = _ from out_8 z j n (Nat.lt_of_succ_lt hn)] at e
    rw [show 512 * (n + 1 + 1) = 512 * (n + 1) + 512 from rfl, part_add _ (512 * (n + 1)) 512 (by omega)]
    exact e

/-- Result 3. -/
def res8 : Vec Ideal S1x1024 .f32 := fun i => ∑ k, dout (dm (V0 m c) k) (i 1) * xn (fm (V0 m c) k) (i 1)

theorem flush_8 (t : Fin cfg0.N) (hf : (cfg0.win 8).flush t = true) : (dats m 0 c).flushed 8 t = ((cfg0.win 8).blk t).view.read (Elt Ideal) (res8 m c) := by
  have hN : cfg0.N = 8 := N_0
  have h7 : t.val = 7 := by have := (flush0_8 t).mp hf; have := t.isLt; omega
  obtain rfl : t = t0_7 := Fin.ext h7
  show (cfg0.win 8).cut (grid0.coords t0_7) ((dats m 0 c).after 8 t0_7) = _
  rw [after0_8]
  have e : (outsAt0 m c t0_7.val t0_7.isLt).2.2.2 = res8 m c := by
    funext y
    obtain ⟨r, j, rfl⟩ : ∃ (r : Fin 1) (j : Fin 1024), y = ix2 r j := ⟨y 0, y 1, eq_ix2 y⟩
    rw [out_8 m c r j t0_7.val t0_7.isLt]
    exact part_all _
  rw [e]
  have hz' : (fun a => win0_8.index t0_7 a * main_v0_3.ty.shape.size a) = fun _ => 0 := funext fun a => by fin_cases a <;> decide
  exact (Memref.read_access_unit_zero (Elt Ideal) main_v0_3 hz' (fun a => by rw [congrFun hz' a]; simp) (res8 m c)).symm

theorem final_8 : (dats m 0 c).arrAt 8 cfg0.N = res8 m c :=
  (dats m 0 c).arrAt_eq_of_cover 8 (res8 m c) (flush_8 m c) fun i => by
    have h0 : (i 0 : Nat) < 1 := (i 0).isLt
    have h1 : (i 1 : Nat) < 1024 := (i 1).isLt
    refine ⟨t0_7, (flush0_8 t0_7).mpr rfl, ?_⟩
    show i ∈ ((View.whole main_v0_3).slice (win0_8.rect t0_7)).set
    rw [View.set_slice_whole, Rect.mem_set_unit]
    intro a
    match a with
    | ⟨0, _⟩ =>
      show win0_8.index t0_7 0 * 1 ≤ (i 0 : Nat) ∧ (i 0 : Nat) < win0_8.index t0_7 0 * 1 + 1
      rw [show win0_8.index t0_7 0 = 0 from by decide +kernel]; omega
    | ⟨1, _⟩ =>
      show win0_8.index t0_7 1 * 1024 ≤ (i 1 : Nat) ∧ (i 1 : Nat) < win0_8.index t0_7 1 * 1024 + 1024
      rw [show win0_8.index t0_7 1 = 0 from by decide +kernel]; omega

end Cert.LossKIdeal.Val

end
-- ==== Proof.LossRef.lean ====
/- The down projection and the loss, reference: its operations in order, its run, and what it leaves in its arguments. -/
module

public import proofs.«01_k».proof.Proof.Lines
public import proofs.«01_k».proof.Proof.Gen.LossRIdeal
public import Idealize.ShloMosaic.Lib.StableHlo.Run

@[expose] public section

set_option maxRecDepth 8000

noncomputable section

namespace Cert.LossRIdeal.Line

open Cert.LossRIdeal Cert.LossRIdeal.Gen Idealize.SL.Sem
open Idealize.ShloMosaic Idealize.ShloMosaic.TcCoe Idealize.ShloMosaic.StableHlo
open Cert.Lines

variable {F : FTy → Type} [FloatOps F]

/-- The operations, in order. -/
abbrev line : List (HloOp τ sig (Elt F)) :=
  [ nullary main_cst (constant S_ .f32 0x00000000#32),
    unary main_cst main_v0 (broadcastInDim S4096x1024 ![] bcast_S_S4096x1024),
    unary main_arg0 main_v1 (extf .f32 · bitsLt_bf16_f32),
    unary main_arg1 main_v2 (extf .f32 · bitsLt_bf16_f32),
    TRef.nullary (TRef.of (T := ⟨S_, .f32⟩) main_call0_cst) (constant S_ .f32 0x00000000#32),
    TRef.unary (TRef.of (T := ⟨S_, .f32⟩) main_call0_cst) (TRef.of (T := ⟨S4096x4096, .f32⟩) main_call0_v0) (broadcastInDim S4096x4096 ![] bcast_S_S4096x4096),
    TRef.binary (TRef.of (T := ⟨S4096x4096, .f32⟩) main_v1) (TRef.of (T := ⟨S4096x4096, .f32⟩) main_call0_v0) (TRef.of (T := ⟨S4096x4096, .f32⟩) main_v3) maximumf,
    binary main_v3 main_v3 main_v4 mulf,
    binary main_v4 main_v2 main_v5 (fun l r => Host.dotGeneral dot_S4096x4096_S4096x1024_S4096x1024_1_0_0_1_n_n none l r),
    binary main_v5 main_v0 main_v6 addf,
    binary main_v6 main_v6 main_v7 mulf,
    nullary main_cst_0 (constant S_ .f32 0x00000000#32),
    binary main_v7 main_cst_0 main_v8 (fun x v => Host.reduceAdd x v reducesTo_S4096x1024_S4096_d1 h_S_),
    unary main_v8 main_v9 (broadcastInDim S4096x1 ![0] bcast_S4096_S4096x1_0),
    nullary main_cst_1 (constant S_ .f32 0x44800000#32),
    unary main_cst_1 main_v10 (broadcastInDim S4096x1 ![] bcast_S_S4096x1),
    binary main_v9 main_v10 main_v11 Host.divf,
    nullary main_cst_2 (constant S_ .f32 0x358637BD#32),
    unary main_cst_2 main_v12 (broadcastInDim S4096x1 ![] bcast_S_S4096x1),
    binary main_v11 main_v12 main_v13 addf,
    unary main_v13 main_v14 Host.rsqrt,
    binary main_v14 main_v13 main_v15 Host.divf,
    nullary main_cst_3 (constant S_ .f32 0xBF000000#32),
    unary main_cst_3 main_v16 (broadcastInDim S4096x1 ![] bcast_S_S4096x1),
    binary main_v16 main_v15 main_v17 mulf,
    unary main_v14 main_v18 (broadcastInDim S4096x1024 ![0, 1] bcast_S4096x1_S4096x1024_0_1),
    binary main_v6 main_v18 main_v19 mulf,
    unary main_arg4 main_v20 (broadcastInDim S4096x1024 ![0, 1] bcast_S1x1024_S4096x1024_0_1),
    binary main_v19 main_v20 main_v21 mulf,
    binary main_arg2 main_v21 main_v22 addf,
    binary main_v22 main_arg3 main_v23 subf,
    binary main_v23 main_v23 main_v24 mulf,
    nullary main_cst_4 (constant S_ .f32 0x40000000#32),
    unary main_cst_4 main_v25 (broadcastInDim S4096x1024 ![] bcast_S_S4096x1024),
    binary main_v25 main_v23 main_v26 mulf,
    nullary main_cst_5 (constant S_ .f32 0x00000000#32),
    binary main_v24 main_cst_5 main_v27 (fun x v => Host.reduceAdd x v reducesTo_S4096x1024_S4096_d1 h_S_),
    nullary main_cst_6 (constant S_ .f32 0x44800000#32),
    unary main_cst_6 main_v28 (broadcastInDim S4096 ![] bcast_S_S4096),
    binary main_v27 main_v28 main_v29 Host.divf,
    nullary main_cst_7 (constant S_ .f32 0x00000000#32),
    binary main_v29 main_cst_7 main_v30 (fun x v => Host.reduceAdd x v reducesTo_S4096_S_d0 h_S_),
    nullary main_cst_8 (constant S_ .f32 0x3F000000#32),
    binary main_cst_8 main_v30 main_v31 mulf,
    nullary main_cst_9 (constant S_ .f32 0x3F000000#32),
    nullary main_cst_10 (constant S_ .f32 0x3F800000#32),
    binary main_cst_9 main_cst_10 main_v32 mulf,
    unary main_v32 main_v33 (broadcastInDim S4096 ![] bcast_S_S4096),
    nullary main_cst_11 (constant S_ .f32 0x44800000#32),
    unary main_cst_11 main_v34 (broadcastInDim S4096 ![] bcast_S_S4096),
    binary main_v33 main_v34 main_v35 Host.divf,
    unary main_v35 main_v36 (broadcastInDim S4096x1024 ![0] bcast_S4096_S4096x1024_0),
    binary main_v36 main_v26 main_v37 mulf,
    binary main_v19 main_v37 main_v38 mulf,
    nullary main_cst_12 (constant S_ .f32 0x00000000#32),
    binary main_v38 main_cst_12 main_v39 (fun x v => Host.reduceAdd x v reducesTo_S4096x1024_S1024_d0 h_S_),
    reshape main_v39 main_v40 (rfl : (.f32 : EltTy) = .f32) shapeCasts_S1024_S1x1024,
    unary main_arg4 main_v41 (broadcastInDim S4096x1024 ![0, 1] bcast_S1x1024_S4096x1024_0_1),
    binary main_v37 main_v41 main_v42 mulf,
    binary main_v6 main_v42 main_v43 mulf,
    nullary main_cst_13 (constant S_ .f32 0x00000000#32),
    binary main_v43 main_cst_13 main_v44 (fun x v => Host.reduceAdd x v reducesTo_S4096x1024_S4096_d1 h_S_),
    reshape main_v44 main_v45 (rfl : (.f32 : EltTy) = .f32) shapeCasts_S4096_S4096x1,
    unary main_v14 main_v46 (broadcastInDim S4096x1024 ![0, 1] bcast_S4096x1_S4096x1024_0_1),
    binary main_v42 main_v46 main_v47 mulf,
    binary main_v45 main_v17 main_v48 mulf,
    nullary main_cst_14 (constant S_ .f32 0x44800000#32),
    unary main_cst_14 main_v49 (broadcastInDim S4096x1 ![] bcast_S_S4096x1),
    binary main_v48 main_v49 main_v50 Host.divf,
    nullary main_cst_15 (constant S_ .f32 0x00000000#32),
    binary main_v50 main_cst_15 main_v51 (fun x v => Host.reduceAdd x v reducesTo_S4096x1_S4096_d1 h_S_),
    unary main_v51 main_v52 (broadcastInDim S4096x1024 ![0] bcast_S4096_S4096x1024_0),
    binary main_v6 main_v52 main_v53 mulf,
    binary main_v47 main_v53 main_v54 addf,
    binary main_v52 main_v6 main_v55 mulf,
    binary main_v54 main_v55 main_v56 addf,
    unary main_v56 main_v57 (truncf .bf16 · bitsLt_bf16_f32),
    unary main_v31 main_v58 (broadcastInDim S1x128 ![] bcast_S_S1x128) ]
/-- What they write. -/
abbrev W : List (Ref sig .tc) :=
  [main_cst, main_v0, main_v1, main_v2, main_call0_cst, main_call0_v0, main_v3, main_v4, main_v5, main_v6, main_v7, main_cst_0, main_v8, main_v9, main_cst_1, main_v10, main_v11, main_cst_2, main_v12, main_v13, main_v14, main_v15, main_cst_3, main_v16, main_v17, main_v18, main_v19, main_v20, main_v21, main_v22, main_v23, main_v24, main_cst_4, main_v25, main_v26, main_cst_5, main_v27, main_cst_6, main_v28, main_v29, main_cst_7, main_v30, main_cst_8, main_v31, main_cst_9, main_cst_10, main_v32, main_v33, main_cst_11, main_v34, main_v35, main_v36, main_v37, main_v38, main_cst_12, main_v39, main_v40, main_v41, main_v42, main_v43, main_cst_13, main_v44, main_v45, main_v46, main_v47, main_v48, main_cst_14, main_v49, main_v50, main_cst_15, main_v51, main_v52, main_v53, main_v54, main_v55, main_v56, main_v57, main_v58]
theorem writes : Writes (line (F := F)) W := rfl

set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W := by decide +kernel) : at_ V r = V (Proc.devRef .tc r) := keep writes hr V

theorem e_main_cst : at_ V main_cst = (constant S_ .f32 0x00000000#32) := eq0 writes 0 rfl V
theorem e_main_v0 : at_ V main_v0 = (broadcastInDim S4096x1024 ![] bcast_S_S4096x1024) (at_ V main_cst) := eq1 writes 1 rfl V
theorem e_main_v1 : at_ V main_v1 = extf .f32 (at_ V main_arg0) bitsLt_bf16_f32 := eq1 writes 2 rfl V
theorem e_main_v2 : at_ V main_v2 = extf .f32 (at_ V main_arg1) bitsLt_bf16_f32 := eq1 writes 3 rfl V
theorem e_main_call0_cst : at_ V main_call0_cst = (constant S_ .f32 0x00000000#32) := eq0 writes 4 rfl V
theorem e_main_call0_v0 : at_ V main_call0_v0 = (broadcastInDim S4096x4096 ![] bcast_S_S4096x4096) (at_ V main_call0_cst) := eq1 writes 5 rfl V
theorem e_main_v3 : at_ V main_v3 = maximumf (at_ V main_v1) (at_ V main_call0_v0) := eq2 writes 6 rfl V
theorem e_main_v4 : at_ V main_v4 = mulf (at_ V main_v3) (at_ V main_v3) := eq2 writes 7 rfl V
theorem e_main_v5 : at_ V main_v5 = (fun l r => Host.dotGeneral dot_S4096x4096_S4096x1024_S4096x1024_1_0_0_1_n_n none l r) (at_ V main_v4) (at_ V main_v2) := eq2 writes 8 rfl V
theorem e_main_v6 : at_ V main_v6 = addf (at_ V main_v5) (at_ V main_v0) := eq2 writes 9 rfl V
theorem e_main_v7 : at_ V main_v7 = mulf (at_ V main_v6) (at_ V main_v6) := eq2 writes 10 rfl V
theorem e_main_cst_0 : at_ V main_cst_0 = (constant S_ .f32 0x00000000#32) := eq0 writes 11 rfl V
theorem e_main_v8 : at_ V main_v8 = (fun x v => Host.reduceAdd x v reducesTo_S4096x1024_S4096_d1 h_S_) (at_ V main_v7) (at_ V main_cst_0) := eq2 writes 12 rfl V
theorem e_main_v9 : at_ V main_v9 = (broadcastInDim S4096x1 ![0] bcast_S4096_S4096x1_0) (at_ V main_v8) := eq1 writes 13 rfl V
theorem e_main_cst_1 : at_ V main_cst_1 = (constant S_ .f32 0x44800000#32) := eq0 writes 14 rfl V
theorem e_main_v10 : at_ V main_v10 = (broadcastInDim S4096x1 ![] bcast_S_S4096x1) (at_ V main_cst_1) := eq1 writes 15 rfl V
theorem e_main_v11 : at_ V main_v11 = Host.divf (at_ V main_v9) (at_ V main_v10) := eq2 writes 16 rfl V
theorem e_main_cst_2 : at_ V main_cst_2 = (constant S_ .f32 0x358637BD#32) := eq0 writes 17 rfl V
theorem e_main_v12 : at_ V main_v12 = (broadcastInDim S4096x1 ![] bcast_S_S4096x1) (at_ V main_cst_2) := eq1 writes 18 rfl V
theorem e_main_v13 : at_ V main_v13 = addf (at_ V main_v11) (at_ V main_v12) := eq2 writes 19 rfl V
theorem e_main_v14 : at_ V main_v14 = (Host.rsqrt) (at_ V main_v13) := eq1 writes 20 rfl V
theorem e_main_v15 : at_ V main_v15 = Host.divf (at_ V main_v14) (at_ V main_v13) := eq2 writes 21 rfl V
theorem e_main_cst_3 : at_ V main_cst_3 = (constant S_ .f32 0xBF000000#32) := eq0 writes 22 rfl V
theorem e_main_v16 : at_ V main_v16 = (broadcastInDim S4096x1 ![] bcast_S_S4096x1) (at_ V main_cst_3) := eq1 writes 23 rfl V
theorem e_main_v17 : at_ V main_v17 = mulf (at_ V main_v16) (at_ V main_v15) := eq2 writes 24 rfl V
theorem e_main_v18 : at_ V main_v18 = (broadcastInDim S4096x1024 ![0, 1] bcast_S4096x1_S4096x1024_0_1) (at_ V main_v14) := eq1 writes 25 rfl V
theorem e_main_v19 : at_ V main_v19 = mulf (at_ V main_v6) (at_ V main_v18) := eq2 writes 26 rfl V
theorem e_main_v20 : at_ V main_v20 = (broadcastInDim S4096x1024 ![0, 1] bcast_S1x1024_S4096x1024_0_1) (at_ V main_arg4) := eq1 writes 27 rfl V
theorem e_main_v21 : at_ V main_v21 = mulf (at_ V main_v19) (at_ V main_v20) := eq2 writes 28 rfl V
theorem e_main_v22 : at_ V main_v22 = addf (at_ V main_arg2) (at_ V main_v21) := eq2 writes 29 rfl V
theorem e_main_v23 : at_ V main_v23 = subf (at_ V main_v22) (at_ V main_arg3) := eq2 writes 30 rfl V
theorem e_main_v24 : at_ V main_v24 = mulf (at_ V main_v23) (at_ V main_v23) := eq2 writes 31 rfl V
theorem e_main_cst_4 : at_ V main_cst_4 = (constant S_ .f32 0x40000000#32) := eq0 writes 32 rfl V
theorem e_main_v25 : at_ V main_v25 = (broadcastInDim S4096x1024 ![] bcast_S_S4096x1024) (at_ V main_cst_4) := eq1 writes 33 rfl V
theorem e_main_v26 : at_ V main_v26 = mulf (at_ V main_v25) (at_ V main_v23) := eq2 writes 34 rfl V
theorem e_main_cst_5 : at_ V main_cst_5 = (constant S_ .f32 0x00000000#32) := eq0 writes 35 rfl V
theorem e_main_v27 : at_ V main_v27 = (fun x v => Host.reduceAdd x v reducesTo_S4096x1024_S4096_d1 h_S_) (at_ V main_v24) (at_ V main_cst_5) := eq2 writes 36 rfl V
theorem e_main_cst_6 : at_ V main_cst_6 = (constant S_ .f32 0x44800000#32) := eq0 writes 37 rfl V
theorem e_main_v28 : at_ V main_v28 = (broadcastInDim S4096 ![] bcast_S_S4096) (at_ V main_cst_6) := eq1 writes 38 rfl V
theorem e_main_v29 : at_ V main_v29 = Host.divf (at_ V main_v27) (at_ V main_v28) := eq2 writes 39 rfl V
theorem e_main_cst_7 : at_ V main_cst_7 = (constant S_ .f32 0x00000000#32) := eq0 writes 40 rfl V
theorem e_main_v30 : at_ V main_v30 = (fun x v => Host.reduceAdd x v reducesTo_S4096_S_d0 h_S_) (at_ V main_v29) (at_ V main_cst_7) := eq2 writes 41 rfl V
theorem e_main_cst_8 : at_ V main_cst_8 = (constant S_ .f32 0x3F000000#32) := eq0 writes 42 rfl V
theorem e_main_v31 : at_ V main_v31 = mulf (at_ V main_cst_8) (at_ V main_v30) := eq2 writes 43 rfl V
theorem e_main_cst_9 : at_ V main_cst_9 = (constant S_ .f32 0x3F000000#32) := eq0 writes 44 rfl V
theorem e_main_cst_10 : at_ V main_cst_10 = (constant S_ .f32 0x3F800000#32) := eq0 writes 45 rfl V
theorem e_main_v32 : at_ V main_v32 = mulf (at_ V main_cst_9) (at_ V main_cst_10) := eq2 writes 46 rfl V
theorem e_main_v33 : at_ V main_v33 = (broadcastInDim S4096 ![] bcast_S_S4096) (at_ V main_v32) := eq1 writes 47 rfl V
theorem e_main_cst_11 : at_ V main_cst_11 = (constant S_ .f32 0x44800000#32) := eq0 writes 48 rfl V
theorem e_main_v34 : at_ V main_v34 = (broadcastInDim S4096 ![] bcast_S_S4096) (at_ V main_cst_11) := eq1 writes 49 rfl V
theorem e_main_v35 : at_ V main_v35 = Host.divf (at_ V main_v33) (at_ V main_v34) := eq2 writes 50 rfl V
theorem e_main_v36 : at_ V main_v36 = (broadcastInDim S4096x1024 ![0] bcast_S4096_S4096x1024_0) (at_ V main_v35) := eq1 writes 51 rfl V
theorem e_main_v37 : at_ V main_v37 = mulf (at_ V main_v36) (at_ V main_v26) := eq2 writes 52 rfl V
theorem e_main_v38 : at_ V main_v38 = mulf (at_ V main_v19) (at_ V main_v37) := eq2 writes 53 rfl V
theorem e_main_cst_12 : at_ V main_cst_12 = (constant S_ .f32 0x00000000#32) := eq0 writes 54 rfl V
theorem e_main_v39 : at_ V main_v39 = (fun x v => Host.reduceAdd x v reducesTo_S4096x1024_S1024_d0 h_S_) (at_ V main_v38) (at_ V main_cst_12) := eq2 writes 55 rfl V
theorem e_main_v40 : at_ V main_v40 = fun j => shapeCast (main_v40).ty.shape (at_ V main_v39) shapeCasts_S1024_S1x1024 j := eqR writes 56 rfl V
theorem e_main_v41 : at_ V main_v41 = (broadcastInDim S4096x1024 ![0, 1] bcast_S1x1024_S4096x1024_0_1) (at_ V main_arg4) := eq1 writes 57 rfl V
theorem e_main_v42 : at_ V main_v42 = mulf (at_ V main_v37) (at_ V main_v41) := eq2 writes 58 rfl V
theorem e_main_v43 : at_ V main_v43 = mulf (at_ V main_v6) (at_ V main_v42) := eq2 writes 59 rfl V
theorem e_main_cst_13 : at_ V main_cst_13 = (constant S_ .f32 0x00000000#32) := eq0 writes 60 rfl V
theorem e_main_v44 : at_ V main_v44 = (fun x v => Host.reduceAdd x v reducesTo_S4096x1024_S4096_d1 h_S_) (at_ V main_v43) (at_ V main_cst_13) := eq2 writes 61 rfl V
theorem e_main_v45 : at_ V main_v45 = fun j => shapeCast (main_v45).ty.shape (at_ V main_v44) shapeCasts_S4096_S4096x1 j := eqR writes 62 rfl V
theorem e_main_v46 : at_ V main_v46 = (broadcastInDim S4096x1024 ![0, 1] bcast_S4096x1_S4096x1024_0_1) (at_ V main_v14) := eq1 writes 63 rfl V
theorem e_main_v47 : at_ V main_v47 = mulf (at_ V main_v42) (at_ V main_v46) := eq2 writes 64 rfl V
theorem e_main_v48 : at_ V main_v48 = mulf (at_ V main_v45) (at_ V main_v17) := eq2 writes 65 rfl V
theorem e_main_cst_14 : at_ V main_cst_14 = (constant S_ .f32 0x44800000#32) := eq0 writes 66 rfl V
theorem e_main_v49 : at_ V main_v49 = (broadcastInDim S4096x1 ![] bcast_S_S4096x1) (at_ V main_cst_14) := eq1 writes 67 rfl V
theorem e_main_v50 : at_ V main_v50 = Host.divf (at_ V main_v48) (at_ V main_v49) := eq2 writes 68 rfl V
theorem e_main_cst_15 : at_ V main_cst_15 = (constant S_ .f32 0x00000000#32) := eq0 writes 69 rfl V
theorem e_main_v51 : at_ V main_v51 = (fun x v => Host.reduceAdd x v reducesTo_S4096x1_S4096_d1 h_S_) (at_ V main_v50) (at_ V main_cst_15) := eq2 writes 70 rfl V
theorem e_main_v52 : at_ V main_v52 = (broadcastInDim S4096x1024 ![0] bcast_S4096_S4096x1024_0) (at_ V main_v51) := eq1 writes 71 rfl V
theorem e_main_v53 : at_ V main_v53 = mulf (at_ V main_v6) (at_ V main_v52) := eq2 writes 72 rfl V
theorem e_main_v54 : at_ V main_v54 = addf (at_ V main_v47) (at_ V main_v53) := eq2 writes 73 rfl V
theorem e_main_v55 : at_ V main_v55 = mulf (at_ V main_v52) (at_ V main_v6) := eq2 writes 74 rfl V
theorem e_main_v56 : at_ V main_v56 = addf (at_ V main_v54) (at_ V main_v55) := eq2 writes 75 rfl V
theorem e_main_v57 : at_ V main_v57 = truncf .bf16 (at_ V main_v56) bitsLt_bf16_f32 := eq1 writes 76 rfl V
theorem e_main_v58 : at_ V main_v58 = (broadcastInDim S1x128 ![] bcast_S_S1x128) (at_ V main_v31) := eq1 writes 77 rfl V

theorem ops_sub : (line : List (HloOp τ sig (Elt F))).Forall fun op => op.bufs ⊆ tcRefs τ sig := by
  repeat' first | (with_reducible first | exact unary_bufs_sub .. | exact binary_bufs_sub .. | exact nullary_bufs_sub .. | exact reshape_bufs_sub ..) | refine ⟨?_, ?_⟩ | exact unary_bufs_sub .. | exact binary_bufs_sub .. | exact nullary_bufs_sub .. | exact reshape_bufs_sub ..

/-- Every execution ends with every buffer at its contents after the line. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = at_ (launchContents m d) b :=
  run_seq scopedRefs_eq scopedSems_eq defs main (fun _ => line) main_eq (fun _ => ops_sub) m ρ

/-- An argument keeps what it held. -/
theorem arg (m : (ℓ : Loc nD τ sig) → Buf (Elt F) ℓ) (d : Dev nD) {b : Ref sig .tc} (hb : b ∉ W := by decide +kernel) :
    at_ (launchContents m d) b = m ((d.tc : Thread nD τ).loc b) := kept _ hb

end Cert.LossRIdeal.Line

end
-- ==== Proof.LossRefVal.lean ====
/- The down projection and the loss, reference: its results element by element. -/
module

public import proofs.«01_k».proof.Proof.LossRef
public import proofs.«01_k».proof.Proof.LossSpec

@[expose] public section

set_option maxRecDepth 8000

noncomputable section

namespace Cert.LossRIdeal.Val

open Cert.LossRIdeal Cert.LossRIdeal.Gen Cert.LossRIdeal.Line Idealize.ShloMosaic Idealize.ShloMosaic.TcCoe Idealize.ShloMosaic.StableHlo Cert.NormRow Cert.NormsSpec Cert.MlpSpec Cert.LossSpec

variable (V : Valuation τ sig (Elt Ideal))

/-- Argument 0. -/
def PR : Mat 4096 4096 := fun i j => (at_ V main_arg0 : Vec Ideal S4096x4096 .bf16) (ix2 i j)
theorem t_arg0 (i : Fin 4096) (j : Fin 4096) : (at_ V main_arg0 : Vec Ideal S4096x4096 .bf16) (ix2 i j) = PR V i j := rfl
/-- Argument 1. -/
def WD : Mat 4096 1024 := fun i j => (at_ V main_arg1 : Vec Ideal S4096x1024 .bf16) (ix2 i j)
theorem t_arg1 (i : Fin 4096) (j : Fin 1024) : (at_ V main_arg1 : Vec Ideal S4096x1024 .bf16) (ix2 i j) = WD V i j := rfl
/-- Argument 2. -/
def H : Mat 4096 1024 := fun i j => (at_ V main_arg2 : Vec Ideal S4096x1024 .f32) (ix2 i j)
theorem t_arg2 (i : Fin 4096) (j : Fin 1024) : (at_ V main_arg2 : Vec Ideal S4096x1024 .f32) (ix2 i j) = H V i j := rfl
/-- Argument 3. -/
def T : Mat 4096 1024 := fun i j => (at_ V main_arg3 : Vec Ideal S4096x1024 .f32) (ix2 i j)
theorem t_arg3 (i : Fin 4096) (j : Fin 1024) : (at_ V main_arg3 : Vec Ideal S4096x1024 .f32) (ix2 i j) = T V i j := rfl
/-- Argument 4. -/
def G : Mat 1 1024 := fun i j => (at_ V main_arg4 : Vec Ideal S1x1024 .f32) (ix2 i j)
theorem t_arg4 (i : Fin 1) (j : Fin 1024) : (at_ V main_arg4 : Vec Ideal S1x1024 .f32) (ix2 i j) = G V i j := rfl
/-- The rows after the second feed-forward weight. -/
def fm : Mat 4096 1024 := fun i => ff (PR V i) (WD V)
/-- The predictions minus the targets. -/
def dm : Mat 4096 1024 := fun i => diff (PR V i) (WD V) (G V 0) (H V i) (T V i)

theorem t_v6 (i : Fin 4096) (j : Fin 1024) : (at_ V main_v6 : Vec Ideal S4096x1024 .f32) (ix2 i j) = fm V i j := by
  rw [e_main_v6, e_main_v5, e_main_v4, e_main_v3, e_main_call0_v0, e_main_call0_cst, e_main_v1, e_main_v2, e_main_v0, e_main_cst]
  have h_arg0 := t_arg0 V
  generalize at_ V main_arg0 = x_arg0 at h_arg0 ⊢
  have h_arg1 := t_arg1 V
  generalize at_ V main_arg1 = x_arg1 at h_arg1 ⊢
  pointwise
  try simp only [h_arg0, h_arg1, add_zero]
  rfl

theorem t_v13 (i : Fin 4096) (j : Fin 1) : (at_ V main_v13 : Vec Ideal S4096x1 .f32) (ix2 i j) = ms (fm V i) := by
  rw [e_main_v13, e_main_v11, e_main_v9, e_main_v8, e_main_v7, e_main_cst_0, e_main_v10, e_main_cst_1, e_main_v12, e_main_cst_2]
  have h_v6 := t_v6 V
  generalize at_ V main_v6 = x_v6 at h_v6 ⊢
  pointwise
  try simp only [h_v6]
  try rfl

theorem t_v14 (i : Fin 4096) (j : Fin 1) : (at_ V main_v14 : Vec Ideal S4096x1 .f32) (ix2 i j) = rs (fm V i) := by
  rw [e_main_v14]
  have h_v13 := t_v13 V
  generalize at_ V main_v13 = x_v13 at h_v13 ⊢
  pointwise
  try simp only [h_v13]
  try rfl

theorem t_v17 (i : Fin 4096) (j : Fin 1) : (at_ V main_v17 : Vec Ideal S4096x1 .f32) (ix2 i j) = mhalf * Ideal.div (rs (fm V i)) (ms (fm V i)) := by
  rw [e_main_v17, e_main_v16, e_main_cst_3, e_main_v15]
  have h_v14 := t_v14 V
  generalize at_ V main_v14 = x_v14 at h_v14 ⊢
  have h_v13 := t_v13 V
  generalize at_ V main_v13 = x_v13 at h_v13 ⊢
  pointwise
  try simp only [h_v14, h_v13]
  try rfl

theorem t_v19 (i : Fin 4096) (j : Fin 1024) : (at_ V main_v19 : Vec Ideal S4096x1024 .f32) (ix2 i j) = xn (fm V i) j := by
  rw [e_main_v19, e_main_v18]
  have h_v6 := t_v6 V
  generalize at_ V main_v6 = x_v6 at h_v6 ⊢
  have h_v14 := t_v14 V
  generalize at_ V main_v14 = x_v14 at h_v14 ⊢
  pointwise
  try simp only [h_v6, h_v14]
  try rfl

theorem t_v23 (i : Fin 4096) (j : Fin 1024) : (at_ V main_v23 : Vec Ideal S4096x1024 .f32) (ix2 i j) = dm V i j := by
  rw [e_main_v23, e_main_v22, e_main_v21, e_main_v20]
  have h_v19 := t_v19 V
  generalize at_ V main_v19 = x_v19 at h_v19 ⊢
  have h_arg2 := t_arg2 V
  generalize at_ V main_arg2 = x_arg2 at h_arg2 ⊢
  have h_arg3 := t_arg3 V
  generalize at_ V main_arg3 = x_arg3 at h_arg3 ⊢
  have h_arg4 := t_arg4 V
  generalize at_ V main_arg4 = x_arg4 at h_arg4 ⊢
  pointwise
  try simp only [h_v19, h_arg2, h_arg3, h_arg4]
  try rfl

theorem t_v37 (i : Fin 4096) (j : Fin 1024) : (at_ V main_v37 : Vec Ideal S4096x1024 .f32) (ix2 i j) = dout (dm V i) j := by
  rw [e_main_v37, e_main_v36, e_main_v35, e_main_v33, e_main_v32, e_main_cst_9, e_main_cst_10, e_main_v34, e_main_cst_11, e_main_v26, e_main_v25, e_main_cst_4]
  have h_v23 := t_v23 V
  generalize at_ V main_v23 = x_v23 at h_v23 ⊢
  pointwise
  try simp only [h_v23]
  exact dout_eq (dm V i) j

theorem t_v40 (i : Fin 1) (j : Fin 1024) : (at_ V main_v40 : Vec Ideal S1x1024 .f32) (ix2 i j) = (∑ k, dout (dm V k) j * xn (fm V k) j : EReal) := by
  rw [e_main_v40, e_main_v39, e_main_v38, e_main_cst_12]
  have h_v19 := t_v19 V
  generalize at_ V main_v19 = x_v19 at h_v19 ⊢
  have h_v37 := t_v37 V
  generalize at_ V main_v37 = x_v37 at h_v37 ⊢
  pointwise
  try simp only [h_v19, h_v37, zero_add]
  have e : ∀ k, xn (fm V k) j * dout (dm V k) j = dout (dm V k) j * xn (fm V k) j := fun k => mul_comm _ _
  simp only [e]

theorem t_v42 (i : Fin 4096) (j : Fin 1024) : (at_ V main_v42 : Vec Ideal S4096x1024 .f32) (ix2 i j) = dout (dm V i) j * G V 0 j := by
  rw [e_main_v42, e_main_v41]
  have h_v37 := t_v37 V
  generalize at_ V main_v37 = x_v37 at h_v37 ⊢
  have h_arg4 := t_arg4 V
  generalize at_ V main_arg4 = x_arg4 at h_arg4 ⊢
  pointwise
  try simp only [h_v37, h_arg4]
  try rfl

theorem t_v50 (i : Fin 4096) (j : Fin 1) : (at_ V main_v50 : Vec Ideal S4096x1 .f32) (ix2 i j) = coef (fm V i) (fun k => dout (dm V i) k * G V 0 k) := by
  rw [e_main_v50, e_main_v48, e_main_v45, e_main_v44, e_main_v43, e_main_cst_13, e_main_v49, e_main_cst_14]
  have h_v17 := t_v17 V
  generalize at_ V main_v17 = x_v17 at h_v17 ⊢
  have h_v6 := t_v6 V
  generalize at_ V main_v6 = x_v6 at h_v6 ⊢
  have h_v42 := t_v42 V
  generalize at_ V main_v42 = x_v42 at h_v42 ⊢
  pointwise
  try simp only [h_v17, h_v6, h_v42]
  try rfl

theorem t_v52 (i : Fin 4096) (j : Fin 1024) : (at_ V main_v52 : Vec Ideal S4096x1024 .f32) (ix2 i j) = coef (fm V i) (fun k => dout (dm V i) k * G V 0 k) := by
  rw [e_main_v52, e_main_v51, e_main_cst_15]
  have h_v50 := t_v50 V
  generalize at_ V main_v50 = x_v50 at h_v50 ⊢
  pointwise
  try simp only [h_v50, Fin.sum_univ_one, zero_add]

theorem t_v57 (i : Fin 4096) (j : Fin 1024) : (at_ V main_v57 : Vec Ideal S4096x1024 .bf16) (ix2 i j) = dff (fm V i) (dm V i) (G V 0) j := by
  rw [e_main_v57, e_main_v56, e_main_v54, e_main_v47, e_main_v46, e_main_v53, e_main_v55]
  have h_v42 := t_v42 V
  generalize at_ V main_v42 = x_v42 at h_v42 ⊢
  have h_v14 := t_v14 V
  generalize at_ V main_v14 = x_v14 at h_v14 ⊢
  have h_v6 := t_v6 V
  generalize at_ V main_v6 = x_v6 at h_v6 ⊢
  have h_v52 := t_v52 V
  generalize at_ V main_v52 = x_v52 at h_v52 ⊢
  pointwise
  try simp only [h_v42, h_v14, h_v6, h_v52, add_assoc]
  unfold dff
  rw [bwd_eq]

theorem t_v58 (i : Fin 1) (j : Fin 128) : (at_ V main_v58 : Vec Ideal S1x128 .f32) (ix2 i j) = ∑ k, share (dm V k) := by
  rw [e_main_v58, e_main_v31, e_main_cst_8, e_main_v30, e_main_cst_7, e_main_v29, e_main_v28, e_main_cst_6, e_main_v27, e_main_cst_5, e_main_v24]
  have h_v23 := t_v23 V
  generalize at_ V main_v23 = x_v23 at h_v23 ⊢
  pointwise
  try simp only [h_v23, zero_add]
  exact loss_eq (dm V)

end Cert.LossRIdeal.Val

end
-- ==== Proof.LossClaims.lean ====
/- The down projection and the loss: its claims. -/
module

public import proofs.«01_k».proof.Defs
public import proofs.«01_k».proof.Proof.Gen.LossK.Frame
public import proofs.«01_k».proof.Proof.LossVal
public import proofs.«01_k».proof.Proof.LossRefVal
public import proofs.«01_k».proof.Proof.LossRef
public import Idealize.ShloMosaic.Lib.Quiescent

@[expose] public section

set_option maxRecDepth 8000

noncomputable section

namespace Cert.LossClaims

open Idealize.ShloMosaic Idealize.ShloMosaic.TcCoe Idealize.ShloMosaic.StableHlo Idealize.SL.Sem

/-- The kernel's frame. -/
theorem frame_p : quiescent_LossK := fun m ρ _ => LossK.Gen.frame m ρ

/-- The ideal kernel's frame. -/
theorem frame_pi : quiescent_LossKIdeal := fun m ρ _ => LossKIdeal.Gen.frame m ρ

/-- The reference's frame. -/
theorem frame_ri : quiescent_LossRIdeal := fun m ρ _ =>
  (θ_run LossRIdeal.defs _ _).mono (fun r h => ⟨fun c => ⟨(h c LossRIdeal.main_arg0).trans (LossRIdeal.Line.arg m c), (h c LossRIdeal.main_arg1).trans (LossRIdeal.Line.arg m c), (h c LossRIdeal.main_arg2).trans (LossRIdeal.Line.arg m c), (h c LossRIdeal.main_arg3).trans (LossRIdeal.Line.arg m c), (h c LossRIdeal.main_arg4).trans (LossRIdeal.Line.arg m c)⟩,
    sem_eq_zero_of_no_sems (by decide) r.2⟩) (LossRIdeal.Line.run m ρ)

/-- Kernel and reference compute the same function over the extended reals. -/
theorem algebraic : algebraic_LossKIdeal_LossRIdeal := by
  intro m ρ m' ρ' _ hagree
  refine ⟨fun c => LossKIdeal.Val.res5 m c, fun c => LossKIdeal.Val.res6 m c, fun c => LossKIdeal.Val.res7 m c, fun c => LossKIdeal.Val.res8 m c,
    (θ_run LossKIdeal.defs _ _).mono (fun r h c => ?_) (LossKIdeal.Value.run_blocks (F := Ideal) m ρ), ?_⟩
  · have e := h c
    simp only [LossKIdeal.Val.final_5, LossKIdeal.Val.final_6, LossKIdeal.Val.final_7, LossKIdeal.Val.final_8] at e
    exact e
  · refine (θ_run LossRIdeal.defs _ _).mono (fun r h c => ?_) (LossRIdeal.Line.run (F := Ideal) m' ρ')
    obtain ⟨h0, h1, h2, h3, h4⟩ := hagree c
    have same_PR : LossRIdeal.Val.PR (launchContents m' c) = LossKIdeal.Val.PR (LossKIdeal.Val.V0 m c) := funext fun i => funext fun j => congrFun ((LossRIdeal.Line.arg m' c (b := LossRIdeal.main_arg0)).trans h0) (ix2 i j)
    have same_WD : LossRIdeal.Val.WD (launchContents m' c) = LossKIdeal.Val.WD (LossKIdeal.Val.V0 m c) := funext fun i => funext fun j => congrFun ((LossRIdeal.Line.arg m' c (b := LossRIdeal.main_arg1)).trans h1) (ix2 i j)
    have same_H : LossRIdeal.Val.H (launchContents m' c) = LossKIdeal.Val.H (LossKIdeal.Val.V0 m c) := funext fun i => funext fun j => congrFun ((LossRIdeal.Line.arg m' c (b := LossRIdeal.main_arg2)).trans h2) (ix2 i j)
    have same_T : LossRIdeal.Val.T (launchContents m' c) = LossKIdeal.Val.T (LossKIdeal.Val.V0 m c) := funext fun i => funext fun j => congrFun ((LossRIdeal.Line.arg m' c (b := LossRIdeal.main_arg3)).trans h3) (ix2 i j)
    have same_G : LossRIdeal.Val.G (launchContents m' c) = LossKIdeal.Val.G (LossKIdeal.Val.V0 m c) := funext fun i => funext fun j => congrFun ((LossRIdeal.Line.arg m' c (b := LossRIdeal.main_arg4)).trans h4) (ix2 i j)
    have ef : LossRIdeal.Val.fm (launchContents m' c) = LossKIdeal.Val.fm (LossKIdeal.Val.V0 m c) := by
      unfold LossRIdeal.Val.fm LossKIdeal.Val.fm
      rw [same_PR, same_WD]
    have ed : LossRIdeal.Val.dm (launchContents m' c) = LossKIdeal.Val.dm (LossKIdeal.Val.V0 m c) := by
      unfold LossRIdeal.Val.dm LossKIdeal.Val.dm
      rw [same_PR, same_WD, same_H, same_T, same_G]
    refine ⟨(h c _).trans ?_, (h c _).trans ?_, (h c _).trans ?_, (h c _).trans ?_, (h c LossRIdeal.main_arg0).trans (LossRIdeal.Line.arg m' c), (h c LossRIdeal.main_arg1).trans (LossRIdeal.Line.arg m' c), (h c LossRIdeal.main_arg2).trans (LossRIdeal.Line.arg m' c), (h c LossRIdeal.main_arg3).trans (LossRIdeal.Line.arg m' c), (h c LossRIdeal.main_arg4).trans (LossRIdeal.Line.arg m' c)⟩
    · funext y
      obtain ⟨i, j, rfl⟩ : ∃ (i : Fin 4096) (j : Fin 1024), y = ix2 i j := ⟨y 0, y 1, eq_ix2 y⟩
      refine (LossRIdeal.Val.t_v37 (launchContents m' c) i j).trans ?_
      rw [ed]
      rfl
    · funext y
      obtain ⟨i, j, rfl⟩ : ∃ (i : Fin 4096) (j : Fin 1024), y = ix2 i j := ⟨y 0, y 1, eq_ix2 y⟩
      refine (LossRIdeal.Val.t_v57 (launchContents m' c) i j).trans ?_
      rw [ef, ed, same_G]
      rfl
    · funext y
      obtain ⟨i, j, rfl⟩ : ∃ (i : Fin 1) (j : Fin 128), y = ix2 i j := ⟨y 0, y 1, eq_ix2 y⟩
      refine (LossRIdeal.Val.t_v58 (launchContents m' c) i j).trans ?_
      rw [ed]
      rfl
    · funext y
      obtain ⟨i, j, rfl⟩ : ∃ (i : Fin 1) (j : Fin 1024), y = ix2 i j := ⟨y 0, y 1, eq_ix2 y⟩
      refine (LossRIdeal.Val.t_v40 (launchContents m' c) i j).trans ?_
      rw [ef, ed]
      rfl

end Cert.LossClaims

end
-- ==== Proof.DwLruVal.lean ====
/- The gradient of the gate weights, kernel: its result element by element. -/
module

public import proofs.«01_k».proof.Proof.Gen.DwLruKIdeal.Value
public import proofs.«01_k».proof.Proof.MlpSpec
public import Idealize.ShloMosaic.Lib.Tactic

@[expose] public section

set_option maxRecDepth 8000

noncomputable section

namespace Cert.DwLruKIdeal.Val

open Cert.DwLruKIdeal Cert.DwLruKIdeal.Gen Idealize.ShloMosaic Idealize.ShloMosaic.TcCoe Idealize.SL.Sem Cert.NormRow Cert.NormsSpec Cert.MlpSpec Cert.Tiles
open Cert.DwLruKIdeal.Gen (V)

variable (m : (ℓ : Loc nD τ sig) → Buf (Elt Ideal) ℓ) (c : Dev nD)

/-- What the device's memory holds at launch. -/
abbrev V0 : Valuation τ sig (Elt Ideal) := fun b => m (c, b)

/-- An argument, as a matrix. -/
def LA (V : Valuation τ sig (Elt Ideal)) : Mat 4096 1024 := fun i j => (V (Proc.devRef .tc main_arg0) : Vec Ideal S4096x1024 .f32) (ix2 i j)
/-- An argument, as a matrix. -/
def RB (V : Valuation τ sig (Elt Ideal)) : Mat 4096 2048 := fun i j => (V (Proc.devRef .tc main_arg1) : Vec Ideal S4096x2048 .bf16) (ix2 i j)

theorem hz : (![0, 0] : Fin 2 → Nat) = fun _ => 0 := funext fun a => by fin_cases a <;> rfl

theorem pay1 (x0 : Vec Ideal S2048x1024 .f32) (x1 : Vec Ideal S2048x1024 .bf16) (r j : Fin 1024) : k0_pay1 (F := Ideal) x0 x1 (ix2 r j) = ∑ k : Fin 2048, x0 (ix2 k r) * x1 (ix2 k j) := by
  pointwise [k0_pay1]

theorem pay2 (x0 : Vec Ideal S2048x1024 .f32) (x1 : Vec Ideal S2048x1024 .bf16) (r j : Fin 1024) : k0_pay2 (F := Ideal) x0 x1 (ix2 r j) = ∑ k : Fin 2048, x0 (ix2 k r) * x1 (ix2 k j) := by
  pointwise [k0_pay2]
  exact pay1 x0 x1 r j

theorem pay4 (x0 : Vec Ideal S2048x1024 .f32) (x1 : Vec Ideal S2048x1024 .bf16) (xs : Vec Ideal S1024x1024 .f32) (r j : Fin 1024) : k0_pay4 (F := Ideal) x0 x1 xs (ix2 r j) = xs (ix2 r j) + ∑ k : Fin 2048, x0 (ix2 k r) * x1 (ix2 k j) := by
  pointwise [k0_pay4]
  rw [pay1]

/-- After a point of the first half of the rows, the accumulator holds that half's product. -/
theorem scratch (t : Fin cfg0.N) (h0 : t.val % 2 = 0) (h2 : ¬t.val % 2 = 1) : (outsAt0 m c t.val t.isLt).2 = k0_pay2 (iblk m c 0 t) (iblk m c 1 t) := by
  rw [outsAt0_A m c t h0 h2]
  dsimp only
  unfold sout0_A_0
  rw [View.read_writes_eq_canon _ _ _ (scover0_A_0 _ _ _ _ _ _ _ _ _ _ _ _ _ _ _)]
  unfold kernelRun0_A
  dsimp only
  rw [View.canon_unit_zero hz]
  try sl_unfold_words
  simp only [View.readAt_eq_ld, Memref.IsWhole.read_unread, View.ld_unit_zero (S := S2048x1024) hz]

/-- After a point of the second half, the block holds both halves' products. -/
theorem block (t : Fin cfg0.N) (h0 : ¬t.val % 2 = 0) (h2 : t.val % 2 = 1) : (outsAt0 m c t.val t.isLt).1 = k0_pay4 (iblk m c 0 t) (iblk m c 1 t) (outsAt0 m c (t.val - 1) (Nat.lt_of_le_of_lt (Nat.sub_le _ _) t.isLt)).2 := by
  rw [outsAt0_B m c t h0 h2]
  dsimp only
  unfold out0_B_2
  rw [View.read_writes_eq_canon _ _ _ (cover0_B_2 _ _ _ _ _ _ _ _ _ _ _ _ _ _ _ _)]
  unfold kernelRun0_B
  dsimp only
  rw [View.canon_unit_zero hz]
  try sl_unfold_words
  simp only [View.readAt_eq_ld, Memref.IsWhole.read_unread, (Memref.isWhole_whole (sig := sig) _).read_unread, View.ld_unit_zero (S := S2048x1024) hz, View.ld_unit_zero (S := S1024x1024) hz]

/-- The place in the whole of row (or column) `r` of the block of point `t`. -/
def rK (t : Fin cfg0.N) (r : Fin 2048) : Fin 4096 := ⟨2048 * (t.val % 2) + r.val, by have := t.isLt; have : cfg0.N = 4 := N_0; have := r.isLt; omega⟩

/-- The place in the whole of row (or column) `r` of the block of point `t`. -/
def rF (t : Fin cfg0.N) (r : Fin 1024) : Fin 2048 := ⟨1024 * (t.val / 2) + r.val, by have := t.isLt; have : cfg0.N = 4 := N_0; have := r.isLt; omega⟩

theorem ix_0 (t : Fin cfg0.N) : win0_0.index t 0 = t.val % 2 ∧ win0_0.index t 1 = 0 := by decide +revert

theorem ix_1 (t : Fin cfg0.N) : win0_1.index t 0 = t.val % 2 ∧ win0_1.index t 1 = t.val / 2 := by decide +revert

theorem ix_2 (t : Fin cfg0.N) : win0_2.index t 0 = 0 ∧ win0_2.index t 1 = t.val / 2 := by decide +revert

theorem blk_0 (t : Fin cfg0.N) (r : Fin 2048) (k : Fin 1024) : (iblk m c 0 t : Vec Ideal S2048x1024 .f32) (ix2 r k) = LA (V0 m c) (rK t r) k := by
  unfold iblk
  rw [View.read_apply]
  show V m c main_arg0 _ = V m c main_arg0 _
  congr 1
  funext a
  apply Fin.ext
  match a with
  | ⟨0, _⟩ => show win0_0.index t 0 * 2048 + 1 * r.val = 2048 * (t.val % 2) + r.val; rw [(ix_0 t).1]; omega
  | ⟨1, _⟩ => show win0_0.index t 1 * 1024 + 1 * k.val = k.val; rw [(ix_0 t).2]; omega

theorem blk_1 (t : Fin cfg0.N) (r : Fin 2048) (k : Fin 1024) : (iblk m c 1 t : Vec Ideal S2048x1024 .bf16) (ix2 r k) = RB (V0 m c) (rK t r) (rF t k) := by
  unfold iblk
  rw [View.read_apply]
  show V m c main_arg1 _ = V m c main_arg1 _
  congr 1
  funext a
  apply Fin.ext
  match a with
  | ⟨0, _⟩ => show win0_1.index t 0 * 2048 + 1 * r.val = 2048 * (t.val % 2) + r.val; rw [(ix_1 t).1]; omega
  | ⟨1, _⟩ => show win0_1.index t 1 * 1024 + 1 * k.val = 1024 * (t.val / 2) + k.val; rw [(ix_1 t).2]; omega

/-- Result 0. -/
def res2 : Vec Ideal S1024x2048 .f32 := fun i => gram (LA (V0 m c)) (RB (V0 m c)) (i 0) (i 1)

theorem out_2 (t : Fin cfg0.N) (h2 : t.val % 2 = 1) (r j : Fin 1024) : (outsAt0 m c t.val t.isLt).1 (ix2 r j) = gram (LA (V0 m c)) (RB (V0 m c)) r (rF t j) := by
  have h0 : ¬t.val % 2 = 0 := by omega
  obtain ⟨u, hu⟩ : ∃ u : Fin cfg0.N, u.val = t.val - 1 := ⟨⟨t.val - 1, by have := t.isLt; omega⟩, rfl⟩
  have e : (outsAt0 m c (t.val - 1) (Nat.lt_of_le_of_lt (Nat.sub_le _ _) t.isLt)).2 = k0_pay2 (iblk m c 0 u) (iblk m c 1 u) := by
    rw [← scratch m c u (by omega) (by omega)]
    simp only [hu]
  rw [block m c t h0 h2, pay4, e, pay2]
  have hF : rF u j = rF t j := Fin.ext (by show 1024 * (u.val / 2) + j.val = 1024 * (t.val / 2) + j.val; omega)
  simp only [blk_0, blk_1, hF]
  exact sum_halves (fun k => LA (V0 m c) k r * RB (V0 m c) k (rF t j)) (rK u) (rK t)
    (fun k => by show 2048 * (u.val % 2) + k.val = k.val; omega) (fun k => by show 2048 * (t.val % 2) + k.val = 2048 + k.val; omega)

theorem flush_2 (t : Fin cfg0.N) (hf : (cfg0.win 2).flush t = true) : (dats m 0 c).flushed 2 t = ((cfg0.win 2).blk t).view.read (Elt Ideal) (res2 m c) := by
  show (cfg0.win 2).cut (grid0.coords t) ((dats m 0 c).after 2 t) = _
  rw [after0_2]
  funext y
  rw [View.read_apply]
  show ((outsAt0 m c t.val t.isLt).1) y = res2 m c _
  obtain ⟨r, j, rfl⟩ : ∃ (r : Fin 1024) (j : Fin 1024), y = ix2 r j := ⟨y 0, y 1, eq_ix2 y⟩
  rw [out_2 m c t ((flush0_2 t).mp hf)]
  unfold res2
  congr 1
  · apply Fin.ext
    show r.val = win0_2.index t 0 * 1024 + 1 * r.val
    rw [(ix_2 t).1]; omega
  · apply Fin.ext
    show 1024 * (t.val / 2) + j.val = win0_2.index t 1 * 1024 + 1 * j.val
    rw [(ix_2 t).2]; omega

theorem final_2 : (dats m 0 c).arrAt 2 cfg0.N = res2 m c :=
  (dats m 0 c).arrAt_eq_of_cover 2 (res2 m c) (flush_2 m c) fun i => by
    have hN : cfg0.N = 4 := N_0
    have h0 : (i 0 : Nat) < 1024 := (i 0).isLt
    have h1 : (i 1 : Nat) < 2048 := (i 1).isLt
    obtain ⟨t, ht⟩ : ∃ t : Fin cfg0.N, t.val = (i 1 : Nat) / 1024 * 2 + 1 := ⟨⟨(i 1 : Nat) / 1024 * 2 + 1, by omega⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [(ix_2 t).1]; omega
    | ⟨1, _⟩ =>
      show win0_2.index t 1 * 1024 ≤ (i 1 : Nat) ∧ (i 1 : Nat) < win0_2.index t 1 * 1024 + 1024
      rw [(ix_2 t).2]; omega

end Cert.DwLruKIdeal.Val

end
-- ==== Proof.DwLruRef.lean ====
/- The gradient of the gate weights, reference: its operations in order, its run, and what it leaves in its arguments. -/
module

public import proofs.«01_k».proof.Proof.Lines
public import proofs.«01_k».proof.Proof.Gen.DwLruRIdeal
public import Idealize.ShloMosaic.Lib.StableHlo.Run

@[expose] public section

set_option maxRecDepth 8000

noncomputable section

namespace Cert.DwLruRIdeal.Line

open Cert.DwLruRIdeal Cert.DwLruRIdeal.Gen Idealize.SL.Sem
open Idealize.ShloMosaic Idealize.ShloMosaic.TcCoe Idealize.ShloMosaic.StableHlo
open Cert.Lines

variable {F : FTy → Type} [FloatOps F]

/-- The operations, in order. -/
abbrev line : List (HloOp τ sig (Elt F)) :=
  [ nullary main_cst (constant S_ .f32 0x00000000#32),
    unary main_cst main_v0 (broadcastInDim S1024x2048 ![] bcast_S_S1024x2048),
    binary main_arg0 main_v0 main_v1 (fun l r => Host.dotGeneral dot_S4096x1024_S1024x2048_S4096x2048_1_0_0_1_n_n none l r),
    unary main_arg1 main_v2 (extf .f32 · bitsLt_bf16_f32),
    binary main_v2 main_arg0 main_v3 (fun l r => Host.dotGeneral dot_S4096x2048_S4096x1024_S2048x1024_0_0_1_1_n_n none l r),
    unary main_v3 main_v4 (transpose S1024x2048 [1, 0] · transposes_S2048x1024_S1024x2048_1_0) ]
/-- What they write. -/
abbrev W : List (Ref sig .tc) :=
  [main_cst, main_v0, main_v1, main_v2, main_v3, main_v4]
theorem writes : Writes (line (F := F)) W := rfl

set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W := by decide +kernel) : at_ V r = V (Proc.devRef .tc r) := keep writes hr V

theorem e_main_v2 : at_ V main_v2 = extf .f32 (at_ V main_arg1) bitsLt_bf16_f32 := eq1 writes 3 rfl V
theorem e_main_v3 : at_ V main_v3 = (fun l r => Host.dotGeneral dot_S4096x2048_S4096x1024_S2048x1024_0_0_1_1_n_n none l r) (at_ V main_v2) (at_ V main_arg0) := eq2 writes 4 rfl V
theorem e_main_v4 : at_ V main_v4 = transpose S1024x2048 [1, 0] (at_ V main_v3) transposes_S2048x1024_S1024x2048_1_0 := eq1 writes 5 rfl V

theorem ops_sub : (line : List (HloOp τ sig (Elt F))).Forall fun op => op.bufs ⊆ tcRefs τ sig := by
  repeat' first | exact unary_bufs_sub .. | exact binary_bufs_sub .. | exact nullary_bufs_sub .. | refine ⟨?_, ?_⟩

/-- Every execution ends with every buffer at its contents after the line. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = at_ (launchContents m d) b :=
  run_seq scopedRefs_eq scopedSems_eq defs main (fun _ => line) main_eq (fun _ => ops_sub) m ρ

/-- An argument keeps what it held. -/
theorem arg (m : (ℓ : Loc nD τ sig) → Buf (Elt F) ℓ) (d : Dev nD) {b : Ref sig .tc} (hb : b ∉ W := by decide +kernel) :
    at_ (launchContents m d) b = m ((d.tc : Thread nD τ).loc b) := kept _ hb

end Cert.DwLruRIdeal.Line

end
-- ==== Proof.DwLruRefVal.lean ====
/- The gradient of the gate weights, reference: its result element by element. -/
module

public import proofs.«01_k».proof.Proof.DwLruRef
public import proofs.«01_k».proof.Proof.MlpSpec

@[expose] public section

set_option maxRecDepth 8000

noncomputable section

namespace Cert.DwLruRIdeal.Val

open Cert.DwLruRIdeal Cert.DwLruRIdeal.Gen Cert.DwLruRIdeal.Line Idealize.ShloMosaic Idealize.ShloMosaic.TcCoe Idealize.ShloMosaic.StableHlo Cert.NormRow Cert.NormsSpec Cert.MlpSpec

variable (V : Valuation τ sig (Elt Ideal))

/-- Argument 0. -/
def LA : Mat 4096 1024 := fun i j => (at_ V main_arg0 : Vec Ideal S4096x1024 .f32) (ix2 i j)
theorem t_arg0 (i : Fin 4096) (j : Fin 1024) : (at_ V main_arg0 : Vec Ideal S4096x1024 .f32) (ix2 i j) = LA V i j := rfl
/-- Argument 1. -/
def RB : Mat 4096 2048 := fun i j => (at_ V main_arg1 : Vec Ideal S4096x2048 .bf16) (ix2 i j)
theorem t_arg1 (i : Fin 4096) (j : Fin 2048) : (at_ V main_arg1 : Vec Ideal S4096x2048 .bf16) (ix2 i j) = RB V i j := rfl
theorem t_v4 (i : Fin 1024) (j : Fin 2048) : (at_ V main_v4 : Vec Ideal S1024x2048 .f32) (ix2 i j) = gram (LA V) (RB V) i j := by
  rw [e_main_v4, e_main_v3, e_main_v2]
  have h_arg1 := t_arg1 V
  generalize at_ V main_arg1 = x_arg1 at h_arg1 ⊢
  have h_arg0 := t_arg0 V
  generalize at_ V main_arg0 = x_arg0 at h_arg0 ⊢
  pointwise
  try simp only [h_arg1, h_arg0]
  have e : ∀ k, RB V k j * LA V k i = LA V k i * RB V k j := fun k => mul_comm _ _
  simp only [e]
  rfl

end Cert.DwLruRIdeal.Val

end
-- ==== Proof.DwLruClaims.lean ====
/- The gradient of the gate weights: its claims. -/
module

public import proofs.«01_k».proof.Defs
public import proofs.«01_k».proof.Proof.Gen.DwLruK.Frame
public import proofs.«01_k».proof.Proof.DwLruVal
public import proofs.«01_k».proof.Proof.DwLruRefVal
public import proofs.«01_k».proof.Proof.DwLruRef
public import Idealize.ShloMosaic.Lib.Quiescent

@[expose] public section

set_option maxRecDepth 8000

noncomputable section

namespace Cert.DwLruClaims

open Idealize.ShloMosaic Idealize.ShloMosaic.TcCoe Idealize.ShloMosaic.StableHlo Idealize.SL.Sem

theorem frame_p : quiescent_DwLruK := fun m ρ _ => DwLruK.Gen.frame m ρ

theorem frame_pi : quiescent_DwLruKIdeal := fun m ρ _ => DwLruKIdeal.Gen.frame m ρ

theorem frame_ri : quiescent_DwLruRIdeal := fun m ρ _ =>
  (θ_run DwLruRIdeal.defs _ _).mono (fun r h => ⟨fun c => ⟨(h c DwLruRIdeal.main_arg0).trans (DwLruRIdeal.Line.arg m c), (h c DwLruRIdeal.main_arg1).trans (DwLruRIdeal.Line.arg m c)⟩,
    sem_eq_zero_of_no_sems (by decide) r.2⟩) (DwLruRIdeal.Line.run m ρ)

theorem algebraic : algebraic_DwLruKIdeal_DwLruRIdeal := by
  intro m ρ m' ρ' _ hagree
  refine ⟨fun c => DwLruKIdeal.Val.res2 m c,
    (θ_run DwLruKIdeal.defs _ _).mono (fun r h c => ?_) (DwLruKIdeal.Value.run_blocks (F := Ideal) m ρ), ?_⟩
  · have e := h c
    simp only [DwLruKIdeal.Val.final_2] at e
    exact e
  · refine (θ_run DwLruRIdeal.defs _ _).mono (fun r h c => ?_) (DwLruRIdeal.Line.run (F := Ideal) m' ρ')
    obtain ⟨h0, h1⟩ := hagree c
    have same_LA : DwLruRIdeal.Val.LA (launchContents m' c) = DwLruKIdeal.Val.LA (DwLruKIdeal.Val.V0 m c) := funext fun i => funext fun j => congrFun ((DwLruRIdeal.Line.arg m' c (b := DwLruRIdeal.main_arg0)).trans h0) (ix2 i j)
    have same_RB : DwLruRIdeal.Val.RB (launchContents m' c) = DwLruKIdeal.Val.RB (DwLruKIdeal.Val.V0 m c) := funext fun i => funext fun j => congrFun ((DwLruRIdeal.Line.arg m' c (b := DwLruRIdeal.main_arg1)).trans h1) (ix2 i j)
    refine ⟨(h c _).trans ?_, (h c DwLruRIdeal.main_arg0).trans (DwLruRIdeal.Line.arg m' c), (h c DwLruRIdeal.main_arg1).trans (DwLruRIdeal.Line.arg m' c)⟩
    · funext y
      obtain ⟨i, j, rfl⟩ : ∃ (i : Fin 1024) (j : Fin 2048), y = ix2 i j := ⟨y 0, y 1, eq_ix2 y⟩
      refine (DwLruRIdeal.Val.t_v4 (launchContents m' c) i j).trans ?_
      simp only [same_LA, same_RB]
      rfl

end Cert.DwLruClaims

end
-- ==== Proof.ConvSpec.lean ====
/- The forward causal convolutions: the values the programs compute, as functions of the matrices. -/
module

public import proofs.«01_k».proof.Proof.LossSpec

@[expose] public section

set_option maxRecDepth 8000

noncomputable section

namespace Cert.ConvSpec

open Idealize.ShloMosaic Cert.NormsSpec Cert.LossSpec

/-- Row `q` of the matrix with three zero rows put before it. -/
def ext {n : Nat} (x : Mat 4096 n) (q : Nat) (j : Fin n) : EReal := if h : 3 ≤ q ∧ q < 4099 then x ⟨q - 3, by omega⟩ j else 0
/-- The causal convolution along the rows: each column by its own four weights, and its bias. -/
def conv {n : Nat} (x : Mat 4096 n) (w : Mat 4 n) (b : Mat 1 n) : Mat 4096 n := fun i j => w 0 j * ext x i.val j + w 1 j * ext x (i.val + 1) j + w 2 j * ext x (i.val + 2) j + w 3 j * ext x (i.val + 3) j + b 0 j
/-- The activation. -/
def silu (x : EReal) : EReal := x * Ideal.logistic x

theorem ext_zero {n : Nat} (x : Mat 4096 n) (q : Nat) (j : Fin n) (h : q < 3) : ext x q j = 0 := dif_neg (by omega)
theorem ext_row {n : Nat} (x : Mat 4096 n) (q : Nat) (j : Fin n) (i : Fin 4096) (h : q = i.val + 3) : ext x q j = x i j := by
  subst h
  rw [ext, dif_pos (by have := i.isLt; omega)]
  rfl

/-- The convolution's terms in the order the kernel adds them. -/
theorem conv_eq (a0 a1 a2 a3 b : EReal) : b + a3 + a2 + a1 + a0 = a0 + a1 + a2 + a3 + b := by ac_rfl

/-- The logistic function, written by the hyperbolic tangent. -/
theorem logistic_tanh (x : EReal) : half * Ideal.tanh (half * x) + half = Ideal.logistic x := by
  rw [half_eq]
  induction x with
  | bot =>
    rw [EReal.coe_mul_bot_of_pos (by norm_num), Ideal.tanh_bot, Ideal.logistic_bot]
    have e : (-1 : EReal) = ((-1 : ℝ) : EReal) := by norm_num
    rw [e, ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    have p := Real.exp_pos (1 / 2 * r)
    have q := Real.exp_pos (-(1 / 2 * r))
    rw [h1]
    generalize Real.exp (1 / 2 * r) = a at *
    generalize Real.exp (-(1 / 2 * r)) = b at *
    field_simp
    nlinarith

end Cert.ConvSpec

end
-- ==== Proof.ConvVal.lean ====
/- The forward causal convolutions, kernel: two of its results element by element. -/
module

public import proofs.«01_k».proof.Proof.Gen.ConvKIdeal.Value
public import proofs.«01_k».proof.Proof.ConvSpec
public import Idealize.ShloMosaic.Lib.Tactic
public import Idealize.ShloMosaic.Lib.WritesUnit
public import Idealize.ShloMosaic.Lib.Pipeline.ValueKit.Tiles

@[expose] public section

set_option maxRecDepth 8000

noncomputable section

namespace Cert.ConvKIdeal.Val

open Cert.ConvKIdeal Cert.ConvKIdeal.Gen Idealize.ShloMosaic Idealize.ShloMosaic.TcCoe Idealize.SL.Sem Cert.NormsSpec Cert.ConvSpec
open Cert.ConvKIdeal.Gen (V)

theorem hz : (![0, 0] : Fin 2 → Nat) = fun _ => 0 := funext fun a => by fin_cases a <;> rfl

/-- A load of rows from a buffer whose rows from 8 hold a block of the matrix and whose rows before it the block's predecessors. -/
theorem load_row {sg : RefSig} {κ : Kind} {sp : Space} {n K o T k : Nat} (X : Mat 4096 n) (v : View sg κ sp (⟨2, ![520, n]⟩ : Shape) .f32) (f : v.ty.Contents (Elt Ideal))
    (inb) (w : (Rect.unit (s := ⟨2, ![520, n]⟩) ![8, 0] ![512, n] inb).shape.Idx → Elt Ideal .f32) (L : List (View.Piece (Elt Ideal) (⟨2, ![520, n]⟩ : Shape) .f32)) (inb') (r : Fin K) (j : Fin n)
    (hw : ∀ p : Fin 512, w (ix2 p j) = ext X (T + p.val + 3) j)
    (hl : ∀ q : Fin 520, 5 ≤ q.val → q.val < 8 → o ≤ q.val → v.read (Elt Ideal) (v.writes (Elt Ideal) f L) (ix2 q j) = ext X (T + q.val - 5) j)
    (ho : 5 ≤ o ∧ o + K ≤ 520) (hk : k + 5 = T + o + r.val) :
    View.ld (v.read (Elt Ideal) (v.writes (Elt Ideal) f (⟨Rect.unit (s := ⟨2, ![520, n]⟩) ![8, 0] ![512, n] inb, w⟩ :: L))) (Rect.unit (s := ⟨2, ![520, n]⟩) ![o, 0] ![K, n] inb') (ix2 r j) = ext X k j := by
  have hr := r.isLt
  refine (View.ld_unit_apply_of _ _ _ _ _ (ix2 (⟨o + r.val, by omega⟩ : Fin 520) j) (Fin.forall_fin_two.mpr ⟨rfl, (Nat.zero_add _).symm⟩)).trans ?_
  by_cases h : o + r.val < 8
  · refine (View.read_writes_cons_rows_of_not_mem (o := 8) (W := 512) v f inb w L _ rfl rfl (Or.inl h)).trans ((hl _ (by show 5 ≤ o + r.val; omega) h (Nat.le_add_right _ _)).trans (congrArg (ext X · j) ?_))
    show T + (o + r.val) - 5 = k
    omega
  · refine (View.read_writes_cons_rows_of_mem (o := 8) v f inb w L _ (ix2 (⟨o + r.val - 8, by omega⟩ : Fin 512) j) rfl (by show o + r.val = 8 + (o + r.val - 8); omega) rfl).trans ((hw _).trans (congrArg (ext X · j) ?_))
    show T + (o + r.val - 8) + 3 = k
    omega

/-- One of the first eight rows, after they are written. -/
theorem low_row {sg : RefSig} {κ : Kind} {sp : Space} {n : Nat} (v : View sg κ sp (⟨2, ![520, n]⟩ : Shape) .f32) (f : v.ty.Contents (Elt Ideal)) (inb) (w : (Rect.unit (s := ⟨2, ![520, n]⟩) ![0, 0] ![8, n] inb).shape.Idx → Elt Ideal .f32)
    (L : List (View.Piece (Elt Ideal) (⟨2, ![520, n]⟩ : Shape) .f32)) (q : Fin 520) (hq : q.val < 8) (j : Fin n) (e : EReal) (h : w (ix2 (⟨q.val, hq⟩ : Fin 8) j) = e) :
    v.read (Elt Ideal) (v.writes (Elt Ideal) f (⟨Rect.unit (s := ⟨2, ![520, n]⟩) ![0, 0] ![8, n] inb, w⟩ :: L)) (ix2 q j) = e :=
  (View.read_writes_cons_rows_of_mem (o := 0) v f inb w L _ (ix2 (⟨q.val, hq⟩ : Fin 8) j) rfl (Nat.zero_add _).symm rfl).trans h

/-- The kernel's sum is the convolution's. -/
theorem conv_of {n : Nat} {X : Mat 4096 n} {W : Mat 4 n} {B : Mat 1 n} {i : Fin 4096} {j : Fin n} {b w0 w1 w2 w3 x0 x1 x2 x3 : EReal} (hb : b = B 0 j) (h3 : w3 = W 3 j) (h2 : w2 = W 2 j) (h1 : w1 = W 1 j) (h0 : w0 = W 0 j)
    (e3 : x3 = ext X (i.val + 3) j) (e2 : x2 = ext X (i.val + 2) j) (e1 : x1 = ext X (i.val + 1) j) (e0 : x0 = ext X i.val j) : b + w3 * x3 + w2 * x2 + w1 * x1 + w0 * x0 = conv X W B i j := by
  subst hb h3 h2 h1 h0 e3 e2 e1 e0
  exact conv_eq _ _ _ _ _

variable (m : (ℓ : Loc nD τ sig) → Buf (Elt Ideal) ℓ) (c : Dev nD)

/-- What the device's memory holds at launch. -/
abbrev V0 : Valuation τ sig (Elt Ideal) := fun b => m (c, b)

/-- An argument. -/
def XB (V : Valuation τ sig (Elt Ideal)) : Mat 4096 1536 := fun i j => (V (Proc.devRef .tc main_arg0) : Vec Ideal S4096x1536 .f32) (ix2 i j)
/-- An argument. -/
def WB (V : Valuation τ sig (Elt Ideal)) : Mat 4 1536 := fun i j => (V (Proc.devRef .tc main_arg3) : Vec Ideal S4x1536 .f32) (ix2 i j)
/-- An argument. -/
def BB (V : Valuation τ sig (Elt Ideal)) : Mat 1 1536 := fun i j => (V (Proc.devRef .tc main_arg4) : Vec Ideal S1x1536 .f32) (ix2 i j)
/-- An argument. -/
def WL (V : Valuation τ sig (Elt Ideal)) : Mat 4 1024 := fun i j => (V (Proc.devRef .tc main_arg5) : Vec Ideal S4x1024 .f32) (ix2 i j)
/-- An argument. -/
def BL (V : Valuation τ sig (Elt Ideal)) : Mat 1 1024 := fun i j => (V (Proc.devRef .tc main_arg6) : Vec Ideal S1x1024 .f32) (ix2 i j)
/-- The last 1024 of an argument's columns. -/
def XL (V : Valuation τ sig (Elt Ideal)) : Mat 4096 1024 := fun i j => (V (Proc.devRef .tc main_arg1) : Vec Ideal S4096x5120 .bf16) (ix2 i ⟨4096 + j.val, by have := j.isLt; omega⟩)

/-- The place in the whole of row `r` of the block of point `t`. -/
def rK (t : Fin cfg0.N) (r : Fin 512) : Fin 4096 := ⟨512 * t.val + r.val, by have := t.isLt; have : cfg0.N = 8 := N_0; have := r.isLt; omega⟩

theorem ix_0 (t : Fin cfg0.N) : win0_0.index t 0 = t.val ∧ win0_0.index t 1 = 0 := by decide +revert
theorem ix_1 (t : Fin cfg0.N) : win0_1.index t 0 = t.val ∧ win0_1.index t 1 = 4 := by decide +revert

theorem ix_3 (t : Fin cfg0.N) : win0_3.index t 0 = 0 ∧ win0_3.index t 1 = 0 := by decide +revert
theorem ix_4 (t : Fin cfg0.N) : win0_4.index t 0 = 0 ∧ win0_4.index t 1 = 0 := by decide +revert
theorem ix_5 (t : Fin cfg0.N) : win0_5.index t 0 = 0 ∧ win0_5.index t 1 = 0 := by decide +revert
theorem ix_6 (t : Fin cfg0.N) : win0_6.index t 0 = 0 ∧ win0_6.index t 1 = 0 := by decide +revert
theorem ix_8 (t : Fin cfg0.N) : win0_8.index t 0 = t.val ∧ win0_8.index t 1 = 0 := by decide +revert
theorem ix_10 (t : Fin cfg0.N) : win0_10.index t 0 = t.val ∧ win0_10.index t 1 = 0 := by decide +revert

theorem blk_0 (t : Fin cfg0.N) (r : Fin 512) (j : Fin 1536) : (iblk m c 0 t : Vec Ideal S512x1536 .f32) (ix2 r j) = ext (XB (V0 m c)) (512 * t.val + r.val + 3) j := by
  refine Eq.trans ?_ (ext_row _ _ _ (rK t r) rfl).symm
  unfold iblk
  rw [View.read_apply]
  show V m c main_arg0 _ = V m c main_arg0 _
  congr 1
  funext a
  apply Fin.ext
  match a with
  | ⟨0, _⟩ => show win0_0.index t 0 * 512 + 1 * r.val = 512 * t.val + r.val; rw [(ix_0 t).1]; omega
  | ⟨1, _⟩ => show win0_0.index t 1 * 1536 + 1 * j.val = j.val; rw [(ix_0 t).2]; omega

theorem blk_1 (t : Fin cfg0.N) (r : Fin 512) (j : Fin 1024) : (iblk m c 1 t : Vec Ideal S512x1024 .bf16) (ix2 r j) = ext (XL (V0 m c)) (512 * t.val + r.val + 3) j := by
  refine Eq.trans ?_ (ext_row _ _ _ (rK t r) rfl).symm
  unfold iblk
  rw [View.read_apply]
  show V m c main_arg1 _ = V m c main_arg1 _
  congr 1
  funext a
  apply Fin.ext
  match a with
  | ⟨0, _⟩ => show win0_1.index t 0 * 512 + 1 * r.val = 512 * t.val + r.val; rw [(ix_1 t).1]; omega
  | ⟨1, _⟩ => show win0_1.index t 1 * 1024 + 1 * j.val = 4096 + j.val; rw [(ix_1 t).2]; omega

theorem blk_3 (t : Fin cfg0.N) (r : Fin 4) (j : Fin 1536) : (iblk m c 3 t : Vec Ideal S4x1536 .f32) (ix2 r j) = WB (V0 m c) r j := by
  unfold iblk
  rw [View.read_apply]
  show V m c main_arg3 _ = V m c main_arg3 _
  congr 1
  funext a
  apply Fin.ext
  match a with
  | ⟨0, _⟩ => show win0_3.index t 0 * 4 + 1 * r.val = r.val; rw [(ix_3 t).1]; omega
  | ⟨1, _⟩ => show win0_3.index t 1 * 1536 + 1 * j.val = j.val; rw [(ix_3 t).2]; omega

theorem blk_4 (t : Fin cfg0.N) (r : Fin 1) (j : Fin 1536) : (iblk m c 4 t : Vec Ideal S1x1536 .f32) (ix2 r j) = BB (V0 m c) r j := by
  unfold iblk
  rw [View.read_apply]
  show V m c main_arg4 _ = V m c main_arg4 _
  congr 1
  funext a
  apply Fin.ext
  match a with
  | ⟨0, _⟩ => show win0_4.index t 0 * 1 + 1 * r.val = r.val; rw [(ix_4 t).1]; omega
  | ⟨1, _⟩ => show win0_4.index t 1 * 1536 + 1 * j.val = j.val; rw [(ix_4 t).2]; omega

theorem blk_5 (t : Fin cfg0.N) (r : Fin 4) (j : Fin 1024) : (iblk m c 5 t : Vec Ideal S4x1024 .f32) (ix2 r j) = WL (V0 m c) r j := by
  unfold iblk
  rw [View.read_apply]
  show V m c main_arg5 _ = V m c main_arg5 _
  congr 1
  funext a
  apply Fin.ext
  match a with
  | ⟨0, _⟩ => show win0_5.index t 0 * 4 + 1 * r.val = r.val; rw [(ix_5 t).1]; omega
  | ⟨1, _⟩ => show win0_5.index t 1 * 1024 + 1 * j.val = j.val; rw [(ix_5 t).2]; omega

theorem blk_6 (t : Fin cfg0.N) (r : Fin 1) (j : Fin 1024) : (iblk m c 6 t : Vec Ideal S1x1024 .f32) (ix2 r j) = BL (V0 m c) r j := by
  unfold iblk
  rw [View.read_apply]
  show V m c main_arg6 _ = V m c main_arg6 _
  congr 1
  funext a
  apply Fin.ext
  match a with
  | ⟨0, _⟩ => show win0_6.index t 0 * 1 + 1 * r.val = r.val; rw [(ix_6 t).1]; omega
  | ⟨1, _⟩ => show win0_6.index t 1 * 1024 + 1 * j.val = j.val; rw [(ix_6 t).2]; omega

/-- A load of one row of the weights. -/
theorem ld_w {n o : Nat} (x : (⟨2, ![4, n]⟩ : Shape).Idx → EReal) (h : o < 4) (inb) (j : Fin n) : View.ld (Val := Elt Ideal) (e' := .f32) x (Rect.unit (s := ⟨2, ![4, n]⟩) ![o, 0] ![1, n] inb) (ix2 (0 : Fin 1) j) = x (ix2 ⟨o, h⟩ j) :=
  View.ld_unit_apply_of _ _ _ _ _ _ (Fin.forall_fin_two.mpr ⟨rfl, (Nat.zero_add _).symm⟩)

theorem pay1 (x : Vec Ideal S8x1536 .f32) (r : Fin 8) (j : Fin 1536) : k0_pay1 x (ix2 r j) = x (ix2 r j) := by pointwise [k0_pay1]
theorem pay2 (x : Vec Ideal S8x1024 .f32) (r : Fin 8) (j : Fin 1024) : k0_pay2 x (ix2 r j) = x (ix2 r j) := by pointwise [k0_pay2]
theorem pay3 (r : Fin 8) (j : Fin 1536) : k0_pay3 (F := Ideal) (ix2 r j) = 0 := by pointwise [k0_pay3]
theorem pay4 (r : Fin 8) (j : Fin 1024) : k0_pay4 (F := Ideal) (ix2 r j) = 0 := by pointwise [k0_pay4]
theorem pay5 (t : Fin cfg0.N) (j : Fin 1536) (r : Fin 512) : k0_pay5 (iblk m c 0 t : Vec Ideal S512x1536 .f32) (ix2 r j) = ext (XB (V0 m c)) (512 * t.val + r.val + 3) j := by
  rw [← blk_0]
  pointwise [k0_pay5]
theorem pay6 (t : Fin cfg0.N) (j : Fin 1024) (r : Fin 512) : k0_pay6 (iblk m c 1 t : Vec Ideal S512x1024 .bf16) (ix2 r j) = ext (XL (V0 m c)) (512 * t.val + r.val + 3) j := by
  rw [← blk_1]
  pointwise [k0_pay6]
theorem pay10 (b w3 w2 w1 w0 : Vec Ideal S1x1536 .f32) (x3 x2 x1 x0 : Vec Ideal S512x1536 .f32) (r : Fin 512) (j : Fin 1536) : k0_pay10 (k0_pay7 b w3 x3 w2 x2 w1 x1) w0 x0 (ix2 r j) = silu (b (ix2 0 j) + w3 (ix2 0 j) * x3 (ix2 r j) + w2 (ix2 0 j) * x2 (ix2 r j) + w1 (ix2 0 j) * x1 (ix2 r j) + w0 (ix2 0 j) * x0 (ix2 r j)) := by
  rw [silu, ← logistic_tanh]
  pointwise [k0_pay10, k0_pay9, k0_pay8, k0_pay7]
theorem pay13 (b w3 w2 w1 w0 : Vec Ideal S1x1024 .f32) (x3 x2 x1 x0 : Vec Ideal S512x1024 .f32) (r : Fin 512) (j : Fin 1024) : k0_pay13 (k0_pay12 b w3 x3 w2 x2) w1 x1 w0 x0 (ix2 r j) = b (ix2 0 j) + w3 (ix2 0 j) * x3 (ix2 r j) + w2 (ix2 0 j) * x2 (ix2 r j) + w1 (ix2 0 j) * x1 (ix2 r j) + w0 (ix2 0 j) * x0 (ix2 r j) := by
  pointwise [k0_pay12, k0_pay13]

/-- After a point the first eight rows of the buffer hold the last eight of the point's block. -/
theorem scr_0 (t : Fin cfg0.N) (q : Fin 520) (hq : q.val < 8) (j : Fin 1536) : (outsAt0 m c t.val t.isLt).2.2.2.2.1 (ix2 q j) = ext (XB (V0 m c)) (512 * t.val + 507 + q.val) j := by
  by_cases h0 : t.val % 8 = 0
  · rw [outsAt0_A m c t h0]
    unfold sout0_A_0 kernelRun0_A
    dsimp only
    try sl_unfold_words
    simp only [View.readCov, View.readAt_eq_ld, Memref.IsWhole.read_unread, View.ld_unit_zero (S := S512x1536) hz]
    refine low_row _ _ _ _ _ q hq j _ ((pay1 _ _ _).trans ?_)
    refine load_row (XB (V0 m c)) _ _ _ _ _ _ _ j (pay5 m c t j) (fun _ _ _ _ => by omega) (by omega) ?_
    show _ = 512 * t.val + 512 + q.val
    omega
  · rw [outsAt0_B m c t h0]
    unfold sout0_B_0 kernelRun0_B
    dsimp only
    try sl_unfold_words
    simp only [View.readCov, View.readAt_eq_ld, Memref.IsWhole.read_unread, View.ld_unit_zero (S := S512x1536) hz]
    refine low_row _ _ _ _ _ q hq j _ ((pay1 _ _ _).trans ?_)
    refine load_row (XB (V0 m c)) _ _ _ _ _ _ _ j (pay5 m c t j) (fun _ _ _ _ => by omega) (by omega) ?_
    show _ = 512 * t.val + 512 + q.val
    omega

/-- Before a later point those rows hold the rows before the point's block. -/
theorem prev_0 (t : Fin cfg0.N) (h0 : ¬t.val % 8 = 0) (hlt) (j : Fin 1536) (q : Fin 520) (h5 : 5 ≤ q.val) (h8 : q.val < 8) : (outsAt0 m c (t.val - 1) hlt).2.2.2.2.1 (ix2 q j) = ext (XB (V0 m c)) (512 * t.val + q.val - 5) j :=
  (scr_0 m c ⟨t.val - 1, hlt⟩ q h8 j).trans (congrArg (ext _ · j) (by show 512 * (t.val - 1) + 507 + q.val = _; omega))

/-- Before the first point they are zeros. -/
theorem first_0 (t : Fin cfg0.N) (h0 : t.val % 8 = 0) (j : Fin 1536) (v : View sig .tc .vmem S520x1536 .f32) (f : v.ty.Contents (Elt Ideal)) (q : Fin 520) (h5 : 5 ≤ q.val) (h8 : q.val < 8) :
    v.read (Elt Ideal) (v.writes (Elt Ideal) f [⟨Rect.unit ![0, 0] ![8, 1536] inb_S520x1536_S8x1536_0_0, k0_pay3 (F := Ideal)⟩]) (ix2 q j) = ext (XB (V0 m c)) (512 * t.val + q.val - 5) j := by
  refine low_row _ _ _ _ _ q h8 j _ ((pay3 _ _).trans (ext_zero _ _ _ ?_).symm)
  have := t.isLt
  have : cfg0.N = 8 := N_0
  omega

/-- After a point the first eight rows of the buffer hold the last eight of the point's block. -/
theorem scr_1 (t : Fin cfg0.N) (q : Fin 520) (hq : q.val < 8) (j : Fin 1024) : (outsAt0 m c t.val t.isLt).2.2.2.2.2 (ix2 q j) = ext (XL (V0 m c)) (512 * t.val + 507 + q.val) j := by
  by_cases h0 : t.val % 8 = 0
  · rw [outsAt0_A m c t h0]
    unfold sout0_A_1 kernelRun0_A
    dsimp only
    try sl_unfold_words
    simp only [View.readCov, View.readAt_eq_ld, Memref.IsWhole.read_unread, View.ld_unit_zero (S := S512x1024) hz]
    refine low_row _ _ _ _ _ q hq j _ ((pay2 _ _ _).trans ?_)
    refine load_row (XL (V0 m c)) _ _ _ _ _ _ _ j (pay6 m c t j) (fun _ _ _ _ => by omega) (by omega) ?_
    show _ = 512 * t.val + 512 + q.val
    omega
  · rw [outsAt0_B m c t h0]
    unfold sout0_B_1 kernelRun0_B
    dsimp only
    try sl_unfold_words
    simp only [View.readCov, View.readAt_eq_ld, Memref.IsWhole.read_unread, View.ld_unit_zero (S := S512x1024) hz]
    refine low_row _ _ _ _ _ q hq j _ ((pay2 _ _ _).trans ?_)
    refine load_row (XL (V0 m c)) _ _ _ _ _ _ _ j (pay6 m c t j) (fun _ _ _ _ => by omega) (by omega) ?_
    show _ = 512 * t.val + 512 + q.val
    omega

/-- Before a later point those rows hold the rows before the point's block. -/
theorem prev_1 (t : Fin cfg0.N) (h0 : ¬t.val % 8 = 0) (hlt) (j : Fin 1024) (q : Fin 520) (h5 : 5 ≤ q.val) (h8 : q.val < 8) : (outsAt0 m c (t.val - 1) hlt).2.2.2.2.2 (ix2 q j) = ext (XL (V0 m c)) (512 * t.val + q.val - 5) j :=
  (scr_1 m c ⟨t.val - 1, hlt⟩ q h8 j).trans (congrArg (ext _ · j) (by show 512 * (t.val - 1) + 507 + q.val = _; omega))

/-- Before the first point they are zeros. -/
theorem first_1 (t : Fin cfg0.N) (h0 : t.val % 8 = 0) (j : Fin 1024) (v : View sig .tc .vmem S520x1024 .f32) (f : v.ty.Contents (Elt Ideal)) (q : Fin 520) (h5 : 5 ≤ q.val) (h8 : q.val < 8) :
    v.read (Elt Ideal) (v.writes (Elt Ideal) f [⟨Rect.unit ![0, 0] ![8, 1024] inb_S520x1024_S8x1024_0_0, k0_pay4 (F := Ideal)⟩]) (ix2 q j) = ext (XL (V0 m c)) (512 * t.val + q.val - 5) j := by
  refine low_row _ _ _ _ _ q h8 j _ ((pay4 _ _).trans (ext_zero _ _ _ ?_).symm)
  have := t.isLt
  have : cfg0.N = 8 := N_0
  omega

theorem out_8 (t : Fin cfg0.N) (r : Fin 512) (j : Fin 1536) : (outsAt0 m c t.val t.isLt).1 (ix2 r j) = silu (conv (XB (V0 m c)) (WB (V0 m c)) (BB (V0 m c)) (rK t r) j) := by
  by_cases h0 : t.val % 8 = 0
  · rw [outsAt0_A m c t h0]
    dsimp only
    unfold out0_A_8
    rw [View.read_writes_eq_canon _ _ _ (cover0_A_8 _ _ _ _ _ _ _ _ _ _ _ _ _ _ _ _ _ _ _ _ _ _ _ _ _ _ _ _ _ _ _ _ _ _ _ _ _ _ _)]
    unfold kernelRun0_A
    dsimp only
    rw [View.canon_unit_zero hz]
    try sl_unfold_words
    simp only [View.readCov, View.readAt_eq_ld, Memref.IsWhole.read_unread, View.ld_unit_zero (S := S1x1536) hz, View.ld_unit_zero (S := S512x1536) hz]
    refine (pay10 _ _ _ _ _ _ _ _ _ _ _).trans (congrArg silu ?_)
    refine conv_of (blk_4 m c t 0 j) ((ld_w _ _ _ j).trans (blk_3 m c t _ j)) ((ld_w _ _ _ j).trans (blk_3 m c t _ j)) ((ld_w _ _ _ j).trans (blk_3 m c t _ j)) ((ld_w _ _ _ j).trans (blk_3 m c t _ j)) ?_ ?_ ?_ ?_ <;>
    refine load_row _ _ _ _ _ _ _ r j (pay5 m c t j) (fun q a b h => by first | omega | exact first_0 m c t h0 j _ _ q a b) (by omega) (by simp only [rK]; omega)
  · rw [outsAt0_B m c t h0]
    dsimp only
    unfold out0_B_8
    rw [View.read_writes_eq_canon _ _ _ (cover0_B_8 _ _ _ _ _ _ _ _ _ _ _ _ _ _ _ _ _ _ _ _ _ _ _ _ _ _ _ _ _ _ _ _ _ _ _ _ _ _ _ _ _)]
    unfold kernelRun0_B
    dsimp only
    rw [View.canon_unit_zero hz]
    try sl_unfold_words
    simp only [View.readCov, View.readAt_eq_ld, Memref.IsWhole.read_unread, View.ld_unit_zero (S := S1x1536) hz, View.ld_unit_zero (S := S512x1536) hz]
    refine (pay10 _ _ _ _ _ _ _ _ _ _ _).trans (congrArg silu ?_)
    refine conv_of (blk_4 m c t 0 j) ((ld_w _ _ _ j).trans (blk_3 m c t _ j)) ((ld_w _ _ _ j).trans (blk_3 m c t _ j)) ((ld_w _ _ _ j).trans (blk_3 m c t _ j)) ((ld_w _ _ _ j).trans (blk_3 m c t _ j)) ?_ ?_ ?_ ?_ <;>
    refine load_row _ _ _ _ _ _ _ r j (pay5 m c t j) (fun q a b h => by first | omega | exact (congrFun ((Memref.isWhole_whole (sig := sig) cc0_scratch0).read_unread _) _).trans (prev_0 m c t h0 _ j q a b)) (by omega) (by simp only [rK]; omega)

theorem out_10 (t : Fin cfg0.N) (r : Fin 512) (j : Fin 1024) : (outsAt0 m c t.val t.isLt).2.2.1 (ix2 r j) = conv (XL (V0 m c)) (WL (V0 m c)) (BL (V0 m c)) (rK t r) j := by
  by_cases h0 : t.val % 8 = 0
  · rw [outsAt0_A m c t h0]
    dsimp only
    unfold out0_A_10
    rw [View.read_writes_eq_canon _ _ _ (cover0_A_10 _ _ _ _ _ _ _ _ _ _ _ _ _ _ _ _ _ _ _ _ _ _ _ _ _ _ _ _ _ _ _ _ _ _ _ _ _ _ _)]
    unfold kernelRun0_A
    dsimp only
    rw [View.canon_unit_zero hz]
    try sl_unfold_words
    simp only [View.readCov, View.readAt_eq_ld, Memref.IsWhole.read_unread, View.ld_unit_zero (S := S1x1024) hz, View.ld_unit_zero (S := S512x1024) hz]
    refine (pay13 _ _ _ _ _ _ _ _ _ _ _).trans ?_
    refine conv_of (blk_6 m c t 0 j) ((ld_w _ _ _ j).trans (blk_5 m c t _ j)) ((ld_w _ _ _ j).trans (blk_5 m c t _ j)) ((ld_w _ _ _ j).trans (blk_5 m c t _ j)) ((ld_w _ _ _ j).trans (blk_5 m c t _ j)) ?_ ?_ ?_ ?_ <;>
    refine load_row _ _ _ _ _ _ _ r j (pay6 m c t j) (fun q a b h => by first | omega | exact first_1 m c t h0 j _ _ q a b) (by omega) (by simp only [rK]; omega)
  · rw [outsAt0_B m c t h0]
    dsimp only
    unfold out0_B_10
    rw [View.read_writes_eq_canon _ _ _ (cover0_B_10 _ _ _ _ _ _ _ _ _ _ _ _ _ _ _ _ _ _ _ _ _ _ _ _ _ _ _ _ _ _ _ _ _ _ _ _ _ _ _ _ _)]
    unfold kernelRun0_B
    dsimp only
    rw [View.canon_unit_zero hz]
    try sl_unfold_words
    simp only [View.readCov, View.readAt_eq_ld, Memref.IsWhole.read_unread, View.ld_unit_zero (S := S1x1024) hz, View.ld_unit_zero (S := S512x1024) hz]
    refine (pay13 _ _ _ _ _ _ _ _ _ _ _).trans ?_
    refine conv_of (blk_6 m c t 0 j) ((ld_w _ _ _ j).trans (blk_5 m c t _ j)) ((ld_w _ _ _ j).trans (blk_5 m c t _ j)) ((ld_w _ _ _ j).trans (blk_5 m c t _ j)) ((ld_w _ _ _ j).trans (blk_5 m c t _ j)) ?_ ?_ ?_ ?_ <;>
    refine load_row _ _ _ _ _ _ _ r j (pay6 m c t j) (fun q a b h => by first | omega | exact (congrFun ((Memref.isWhole_whole (sig := sig) cc0_scratch1).read_unread _) _).trans (prev_1 m c t h0 _ j q a b)) (by omega) (by simp only [rK]; omega)
/-- Result 0. -/
def res8 : Vec Ideal S4096x1536 .f32 := fun i => silu (conv (XB (V0 m c)) (WB (V0 m c)) (BB (V0 m c)) (i 0) (i 1))

theorem flush_8 (t : Fin cfg0.N) (_ : (cfg0.win 8).flush t = true) : (dats m 0 c).flushed 8 t = ((cfg0.win 8).blk t).view.read (Elt Ideal) (res8 m c) := by
  show (cfg0.win 8).cut (grid0.coords t) ((dats m 0 c).after 8 t) = _
  rw [after0_8]
  funext y
  rw [View.read_apply]
  show ((outsAt0 m c t.val t.isLt).1) y = res8 m c _
  obtain ⟨r, j, rfl⟩ : ∃ (r : Fin 512) (j : Fin 1536), y = ix2 r j := ⟨y 0, y 1, eq_ix2 y⟩
  have e0 : rK t r = ((win0_8.rect t).emb (ix2 r j) : S4096x1536.Idx) 0 := Fin.ext (by show 512 * t.val + r.val = win0_8.index t 0 * 512 + 1 * r.val; rw [(ix_8 t).1]; omega)
  have e1 : j = ((win0_8.rect t).emb (ix2 r j) : S4096x1536.Idx) 1 := Fin.ext (by show j.val = win0_8.index t 1 * 1536 + 1 * j.val; rw [(ix_8 t).2]; omega)
  rw [out_8, e0]
  conv_lhs => rw [e1]
  rfl

theorem final_8 : (dats m 0 c).arrAt 8 cfg0.N = res8 m c :=
  (dats m 0 c).arrAt_eq_of_cover 8 (res8 m c) (flush_8 m c) fun i => by
    have hN : cfg0.N = 8 := N_0
    have h0 : (i 0 : Nat) < 4096 := (i 0).isLt
    have h1 : (i 1 : Nat) < 1536 := (i 1).isLt
    obtain ⟨t, ht⟩ : ∃ t : Fin cfg0.N, t.val = (i 0 : Nat) / 512 := ⟨⟨(i 0 : Nat) / 512, by omega⟩, rfl⟩
    refine ⟨t, flush0_8 t, ?_⟩
    show i ∈ ((View.whole main_v0_0).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512; rw [(ix_8 t).1]; omega
    | ⟨1, _⟩ => show win0_8.index t 1 * 1536 ≤ (i 1 : Nat) ∧ (i 1 : Nat) < win0_8.index t 1 * 1536 + 1536; rw [(ix_8 t).2]; omega

/-- Result 2. -/
def res10 : Vec Ideal S4096x1024 .f32 := fun i => conv (XL (V0 m c)) (WL (V0 m c)) (BL (V0 m c)) (i 0) (i 1)

theorem flush_10 (t : Fin cfg0.N) (_ : (cfg0.win 10).flush t = true) : (dats m 0 c).flushed 10 t = ((cfg0.win 10).blk t).view.read (Elt Ideal) (res10 m c) := by
  show (cfg0.win 10).cut (grid0.coords t) ((dats m 0 c).after 10 t) = _
  rw [after0_10]
  funext y
  rw [View.read_apply]
  show ((outsAt0 m c t.val t.isLt).2.2.1) y = res10 m c _
  obtain ⟨r, j, rfl⟩ : ∃ (r : Fin 512) (j : Fin 1024), y = ix2 r j := ⟨y 0, y 1, eq_ix2 y⟩
  have e0 : rK t r = ((win0_10.rect t).emb (ix2 r j) : S4096x1024.Idx) 0 := Fin.ext (by show 512 * t.val + r.val = win0_10.index t 0 * 512 + 1 * r.val; rw [(ix_10 t).1]; omega)
  have e1 : j = ((win0_10.rect t).emb (ix2 r j) : S4096x1024.Idx) 1 := Fin.ext (by show j.val = win0_10.index t 1 * 1024 + 1 * j.val; rw [(ix_10 t).2]; omega)
  rw [out_10, e0]
  conv_lhs => rw [e1]
  rfl

theorem final_10 : (dats m 0 c).arrAt 10 cfg0.N = res10 m c :=
  (dats m 0 c).arrAt_eq_of_cover 10 (res10 m c) (flush_10 m c) fun i => by
    have hN : cfg0.N = 8 := N_0
    have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_10 t, ?_⟩
    show i ∈ ((View.whole main_v0_2).slice (win0_10.rect t)).set
    rw [View.set_slice_whole, Rect.mem_set_unit]
    intro a
    match a with
    | ⟨0, _⟩ => show win0_10.index t 0 * 512 ≤ (i 0 : Nat) ∧ (i 0 : Nat) < win0_10.index t 0 * 512 + 512; rw [(ix_10 t).1]; omega
    | ⟨1, _⟩ => show win0_10.index t 1 * 1024 ≤ (i 1 : Nat) ∧ (i 1 : Nat) < win0_10.index t 1 * 1024 + 1024; rw [(ix_10 t).2]; omega

end Cert.ConvKIdeal.Val

end
-- ==== Proof.ConvRef.lean ====
/- The forward causal convolutions, reference: its operations in order, its run, and what it leaves in its arguments. -/
module

public import proofs.«01_k».proof.Proof.Lines
public import proofs.«01_k».proof.Proof.Gen.ConvRIdeal
public import Idealize.ShloMosaic.Lib.StableHlo.Run

@[expose] public section

set_option maxRecDepth 8000

noncomputable section

namespace Cert.ConvRIdeal.Line

open Cert.ConvRIdeal Cert.ConvRIdeal.Gen Idealize.SL.Sem
open Idealize.ShloMosaic Idealize.ShloMosaic.TcCoe Idealize.ShloMosaic.StableHlo
open Cert.Lines

variable {F : FTy → Type} [FloatOps F]

/-- The operations, in order. -/
abbrev line : List (HloOp τ sig (Elt F)) :=
  [ unary main_arg1 main_v0 (extractStridedSlice S4096x1024 ![0, 4096] · slices_S4096x5120_S4096x1024_0_4096),
    unary main_v0 main_v1 (extf .f32 · bitsLt_bf16_f32),
    nullary main_cst (constant S_ .f32 0x00000000#32),
    unary main_cst main_v2 (broadcastInDim S3x1536 ![] bcast_S_S3x1536),
    binary main_v2 main_arg0 main_v3 (fun a b => concatenate S4099x1536 0 [⟨S3x1536, a⟩, ⟨S4096x1536, b⟩] concatenates_S3x1536_S4096x1536_S4099x1536_d0),
    unary main_arg3 main_v4 (extractStridedSlice S1x1536 ![0, 0] · slices_S4x1536_S1x1536_0_0),
    unary main_v3 main_v5 (extractStridedSlice S4096x1536 ![0, 0] · slices_S4099x1536_S4096x1536_0_0),
    unary main_v4 main_v6 (broadcastInDim S4096x1536 ![0, 1] bcast_S1x1536_S4096x1536_0_1),
    binary main_v6 main_v5 main_v7 mulf,
    unary main_arg3 main_v8 (extractStridedSlice S1x1536 ![1, 0] · slices_S4x1536_S1x1536_1_0),
    unary main_v3 main_v9 (extractStridedSlice S4096x1536 ![1, 0] · slices_S4099x1536_S4096x1536_1_0),
    unary main_v8 main_v10 (broadcastInDim S4096x1536 ![0, 1] bcast_S1x1536_S4096x1536_0_1),
    binary main_v10 main_v9 main_v11 mulf,
    binary main_v7 main_v11 main_v12 addf,
    unary main_arg3 main_v13 (extractStridedSlice S1x1536 ![2, 0] · slices_S4x1536_S1x1536_2_0),
    unary main_v3 main_v14 (extractStridedSlice S4096x1536 ![2, 0] · slices_S4099x1536_S4096x1536_2_0),
    unary main_v13 main_v15 (broadcastInDim S4096x1536 ![0, 1] bcast_S1x1536_S4096x1536_0_1),
    binary main_v15 main_v14 main_v16 mulf,
    binary main_v12 main_v16 main_v17 addf,
    unary main_arg3 main_v18 (extractStridedSlice S1x1536 ![3, 0] · slices_S4x1536_S1x1536_3_0),
    unary main_v18 main_v19 (broadcastInDim S4096x1536 ![0, 1] bcast_S1x1536_S4096x1536_0_1),
    binary main_v19 main_arg0 main_v20 mulf,
    binary main_v17 main_v20 main_v21 addf,
    unary main_arg4 main_v22 (broadcastInDim S4096x1536 ![0, 1] bcast_S1x1536_S4096x1536_0_1),
    binary main_v21 main_v22 main_v23 addf,
    TRef.unary (TRef.of (T := ⟨S4096x1536, .f32⟩) main_v23) (TRef.of (T := ⟨S4096x1536, .f32⟩) main_call0_v0) Host.negf,
    TRef.unary (TRef.of (T := ⟨S4096x1536, .f32⟩) main_call0_v0) (TRef.of (T := ⟨S4096x1536, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S4096x1536, .f32⟩) main_call0_v2) (broadcastInDim S4096x1536 ![] bcast_S_S4096x1536),
    TRef.binary (TRef.of (T := ⟨S4096x1536, .f32⟩) main_call0_v2) (TRef.of (T := ⟨S4096x1536, .f32⟩) main_call0_v1) (TRef.of (T := ⟨S4096x1536, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S4096x1536, .f32⟩) main_call0_v4) (broadcastInDim S4096x1536 ![] bcast_S_S4096x1536),
    TRef.binary (TRef.of (T := ⟨S4096x1536, .f32⟩) main_call0_v4) (TRef.of (T := ⟨S4096x1536, .f32⟩) main_call0_v3) (TRef.of (T := ⟨S4096x1536, .f32⟩) main_call0_v5) Host.divf,
    TRef.binary (TRef.of (T := ⟨S4096x1536, .f32⟩) main_v23) (TRef.of (T := ⟨S4096x1536, .f32⟩) main_call0_v5) (TRef.of (T := ⟨S4096x1536, .f32⟩) main_v24) mulf,
    nullary main_cst_0 (constant S_ .f32 0x00000000#32),
    unary main_cst_0 main_v25 (broadcastInDim S3x1024 ![] bcast_S_S3x1024),
    binary main_v25 main_v1 main_v26 (fun a b => concatenate S4099x1024 0 [⟨S3x1024, a⟩, ⟨S4096x1024, b⟩] concatenates_S3x1024_S4096x1024_S4099x1024_d0),
    unary main_arg5 main_v27 (extractStridedSlice S1x1024 ![0, 0] · slices_S4x1024_S1x1024_0_0),
    unary main_v26 main_v28 (extractStridedSlice S4096x1024 ![0, 0] · slices_S4099x1024_S4096x1024_0_0),
    unary main_v27 main_v29 (broadcastInDim S4096x1024 ![0, 1] bcast_S1x1024_S4096x1024_0_1),
    binary main_v29 main_v28 main_v30 mulf,
    unary main_arg5 main_v31 (extractStridedSlice S1x1024 ![1, 0] · slices_S4x1024_S1x1024_1_0),
    unary main_v26 main_v32 (extractStridedSlice S4096x1024 ![1, 0] · slices_S4099x1024_S4096x1024_1_0),
    unary main_v31 main_v33 (broadcastInDim S4096x1024 ![0, 1] bcast_S1x1024_S4096x1024_0_1),
    binary main_v33 main_v32 main_v34 mulf,
    binary main_v30 main_v34 main_v35 addf,
    unary main_arg5 main_v36 (extractStridedSlice S1x1024 ![2, 0] · slices_S4x1024_S1x1024_2_0),
    unary main_v26 main_v37 (extractStridedSlice S4096x1024 ![2, 0] · slices_S4099x1024_S4096x1024_2_0),
    unary main_v36 main_v38 (broadcastInDim S4096x1024 ![0, 1] bcast_S1x1024_S4096x1024_0_1),
    binary main_v38 main_v37 main_v39 mulf,
    binary main_v35 main_v39 main_v40 addf,
    unary main_arg5 main_v41 (extractStridedSlice S1x1024 ![3, 0] · slices_S4x1024_S1x1024_3_0),
    unary main_v41 main_v42 (broadcastInDim S4096x1024 ![0, 1] bcast_S1x1024_S4096x1024_0_1),
    binary main_v42 main_v1 main_v43 mulf,
    binary main_v40 main_v43 main_v44 addf,
    unary main_arg6 main_v45 (broadcastInDim S4096x1024 ![0, 1] bcast_S1x1024_S4096x1024_0_1),
    binary main_v44 main_v45 main_v46 addf ]
/-- What they write. -/
abbrev W : List (Ref sig .tc) :=
  [main_v0, main_v1, main_cst, main_v2, main_v3, main_v4, main_v5, main_v6, main_v7, main_v8, main_v9, main_v10, main_v11, main_v12, main_v13, main_v14, main_v15, main_v16, main_v17, main_v18, main_v19, main_v20, main_v21, main_v22, main_v23, main_call0_v0, main_call0_v1, main_call0_cst, main_call0_v2, main_call0_v3, main_call0_cst_0, main_call0_v4, main_call0_v5, main_v24, main_cst_0, main_v25, main_v26, main_v27, main_v28, main_v29, main_v30, main_v31, main_v32, main_v33, main_v34, main_v35, main_v36, main_v37, main_v38, main_v39, main_v40, main_v41, main_v42, main_v43, main_v44, main_v45, main_v46]
theorem writes : Writes (line (F := F)) W := rfl

set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide

variable (V : Valuation τ sig (Elt F))

/-- A buffer's contents after the line. -/
abbrev at_ (r : Ref sig .tc) : (Proc.devRef .tc r : DevRef τ sig).ty.Contents (Elt F) := after line V (Proc.devRef .tc r)

theorem kept {r : Ref sig .tc} (hr : r ∉ W := by decide +kernel) : at_ V r = V (Proc.devRef .tc r) := keep writes hr V

theorem e_main_v0 : at_ V main_v0 = extractStridedSlice S4096x1024 ![0, 4096] (at_ V main_arg1) slices_S4096x5120_S4096x1024_0_4096 := eq1 writes 0 rfl V
theorem e_main_v1 : at_ V main_v1 = extf .f32 (at_ V main_v0) bitsLt_bf16_f32 := eq1 writes 1 rfl V
theorem e_main_cst : at_ V main_cst = (constant S_ .f32 0x00000000#32) := eq0 writes 2 rfl V
theorem e_main_v2 : at_ V main_v2 = (broadcastInDim S3x1536 ![] bcast_S_S3x1536) (at_ V main_cst) := eq1 writes 3 rfl V
theorem e_main_v3 : at_ V main_v3 = (fun a b => concatenate S4099x1536 0 [⟨S3x1536, a⟩, ⟨S4096x1536, b⟩] concatenates_S3x1536_S4096x1536_S4099x1536_d0) (at_ V main_v2) (at_ V main_arg0) := eq2 writes 4 rfl V
theorem e_main_v4 : at_ V main_v4 = extractStridedSlice S1x1536 ![0, 0] (at_ V main_arg3) slices_S4x1536_S1x1536_0_0 := eq1 writes 5 rfl V
theorem e_main_v5 : at_ V main_v5 = extractStridedSlice S4096x1536 ![0, 0] (at_ V main_v3) slices_S4099x1536_S4096x1536_0_0 := eq1 writes 6 rfl V
theorem e_main_v6 : at_ V main_v6 = (broadcastInDim S4096x1536 ![0, 1] bcast_S1x1536_S4096x1536_0_1) (at_ V main_v4) := eq1 writes 7 rfl V
theorem e_main_v7 : at_ V main_v7 = mulf (at_ V main_v6) (at_ V main_v5) := eq2 writes 8 rfl V
theorem e_main_v8 : at_ V main_v8 = extractStridedSlice S1x1536 ![1, 0] (at_ V main_arg3) slices_S4x1536_S1x1536_1_0 := eq1 writes 9 rfl V
theorem e_main_v9 : at_ V main_v9 = extractStridedSlice S4096x1536 ![1, 0] (at_ V main_v3) slices_S4099x1536_S4096x1536_1_0 := eq1 writes 10 rfl V
theorem e_main_v10 : at_ V main_v10 = (broadcastInDim S4096x1536 ![0, 1] bcast_S1x1536_S4096x1536_0_1) (at_ V main_v8) := eq1 writes 11 rfl V
theorem e_main_v11 : at_ V main_v11 = mulf (at_ V main_v10) (at_ V main_v9) := eq2 writes 12 rfl V
theorem e_main_v12 : at_ V main_v12 = addf (at_ V main_v7) (at_ V main_v11) := eq2 writes 13 rfl V
theorem e_main_v13 : at_ V main_v13 = extractStridedSlice S1x1536 ![2, 0] (at_ V main_arg3) slices_S4x1536_S1x1536_2_0 := eq1 writes 14 rfl V
theorem e_main_v14 : at_ V main_v14 = extractStridedSlice S4096x1536 ![2, 0] (at_ V main_v3) slices_S4099x1536_S4096x1536_2_0 := eq1 writes 15 rfl V
theorem e_main_v15 : at_ V main_v15 = (broadcastInDim S4096x1536 ![0, 1] bcast_S1x1536_S4096x1536_0_1) (at_ V main_v13) := eq1 writes 16 rfl V
theorem e_main_v16 : at_ V main_v16 = mulf (at_ V main_v15) (at_ V main_v14) := eq2 writes 17 rfl V
theorem e_main_v17 : at_ V main_v17 = addf (at_ V main_v12) (at_ V main_v16) := eq2 writes 18 rfl V
theorem e_main_v18 : at_ V main_v18 = extractStridedSlice S1x1536 ![3, 0] (at_ V main_arg3) slices_S4x1536_S1x1536_3_0 := eq1 writes 19 rfl V
theorem e_main_v19 : at_ V main_v19 = (broadcastInDim S4096x1536 ![0, 1] bcast_S1x1536_S4096x1536_0_1) (at_ V main_v18) := eq1 writes 20 rfl V
theorem e_main_v20 : at_ V main_v20 = mulf (at_ V main_v19) (at_ V main_arg0) := eq2 writes 21 rfl V
theorem e_main_v21 : at_ V main_v21 = addf (at_ V main_v17) (at_ V main_v20) := eq2 writes 22 rfl V
theorem e_main_v22 : at_ V main_v22 = (broadcastInDim S4096x1536 ![0, 1] bcast_S1x1536_S4096x1536_0_1) (at_ V main_arg4) := eq1 writes 23 rfl V
theorem e_main_v23 : at_ V main_v23 = addf (at_ V main_v21) (at_ V main_v22) := eq2 writes 24 rfl V
theorem e_main_call0_v0 : at_ V main_call0_v0 = Host.negf (at_ V main_v23) := eq1 writes 25 rfl V
theorem e_main_call0_v1 : at_ V main_call0_v1 = Host.exp (at_ V main_call0_v0) := eq1 writes 26 rfl V
theorem e_main_call0_cst : at_ V main_call0_cst = (constant S_ .f32 0x3F800000#32) := eq0 writes 27 rfl V
theorem e_main_call0_v2 : at_ V main_call0_v2 = (broadcastInDim S4096x1536 ![] bcast_S_S4096x1536) (at_ V main_call0_cst) := eq1 writes 28 rfl V
theorem e_main_call0_v3 : at_ V main_call0_v3 = addf (at_ V main_call0_v2) (at_ V main_call0_v1) := eq2 writes 29 rfl V
theorem e_main_call0_cst_0 : at_ V main_call0_cst_0 = (constant S_ .f32 0x3F800000#32) := eq0 writes 30 rfl V
theorem e_main_call0_v4 : at_ V main_call0_v4 = (broadcastInDim S4096x1536 ![] bcast_S_S4096x1536) (at_ V main_call0_cst_0) := eq1 writes 31 rfl V
theorem e_main_call0_v5 : at_ V main_call0_v5 = Host.divf (at_ V main_call0_v4) (at_ V main_call0_v3) := eq2 writes 32 rfl V
theorem e_main_v24 : at_ V main_v24 = mulf (at_ V main_v23) (at_ V main_call0_v5) := eq2 writes 33 rfl V
theorem e_main_cst_0 : at_ V main_cst_0 = (constant S_ .f32 0x00000000#32) := eq0 writes 34 rfl V
theorem e_main_v25 : at_ V main_v25 = (broadcastInDim S3x1024 ![] bcast_S_S3x1024) (at_ V main_cst_0) := eq1 writes 35 rfl V
theorem e_main_v26 : at_ V main_v26 = (fun a b => concatenate S4099x1024 0 [⟨S3x1024, a⟩, ⟨S4096x1024, b⟩] concatenates_S3x1024_S4096x1024_S4099x1024_d0) (at_ V main_v25) (at_ V main_v1) := eq2 writes 36 rfl V
theorem e_main_v27 : at_ V main_v27 = extractStridedSlice S1x1024 ![0, 0] (at_ V main_arg5) slices_S4x1024_S1x1024_0_0 := eq1 writes 37 rfl V
theorem e_main_v28 : at_ V main_v28 = extractStridedSlice S4096x1024 ![0, 0] (at_ V main_v26) slices_S4099x1024_S4096x1024_0_0 := eq1 writes 38 rfl V
theorem e_main_v29 : at_ V main_v29 = (broadcastInDim S4096x1024 ![0, 1] bcast_S1x1024_S4096x1024_0_1) (at_ V main_v27) := eq1 writes 39 rfl V
theorem e_main_v30 : at_ V main_v30 = mulf (at_ V main_v29) (at_ V main_v28) := eq2 writes 40 rfl V
theorem e_main_v31 : at_ V main_v31 = extractStridedSlice S1x1024 ![1, 0] (at_ V main_arg5) slices_S4x1024_S1x1024_1_0 := eq1 writes 41 rfl V
theorem e_main_v32 : at_ V main_v32 = extractStridedSlice S4096x1024 ![1, 0] (at_ V main_v26) slices_S4099x1024_S4096x1024_1_0 := eq1 writes 42 rfl V
theorem e_main_v33 : at_ V main_v33 = (broadcastInDim S4096x1024 ![0, 1] bcast_S1x1024_S4096x1024_0_1) (at_ V main_v31) := eq1 writes 43 rfl V
theorem e_main_v34 : at_ V main_v34 = mulf (at_ V main_v33) (at_ V main_v32) := eq2 writes 44 rfl V
theorem e_main_v35 : at_ V main_v35 = addf (at_ V main_v30) (at_ V main_v34) := eq2 writes 45 rfl V
theorem e_main_v36 : at_ V main_v36 = extractStridedSlice S1x1024 ![2, 0] (at_ V main_arg5) slices_S4x1024_S1x1024_2_0 := eq1 writes 46 rfl V
theorem e_main_v37 : at_ V main_v37 = extractStridedSlice S4096x1024 ![2, 0] (at_ V main_v26) slices_S4099x1024_S4096x1024_2_0 := eq1 writes 47 rfl V
theorem e_main_v38 : at_ V main_v38 = (broadcastInDim S4096x1024 ![0, 1] bcast_S1x1024_S4096x1024_0_1) (at_ V main_v36) := eq1 writes 48 rfl V
theorem e_main_v39 : at_ V main_v39 = mulf (at_ V main_v38) (at_ V main_v37) := eq2 writes 49 rfl V
theorem e_main_v40 : at_ V main_v40 = addf (at_ V main_v35) (at_ V main_v39) := eq2 writes 50 rfl V
theorem e_main_v41 : at_ V main_v41 = extractStridedSlice S1x1024 ![3, 0] (at_ V main_arg5) slices_S4x1024_S1x1024_3_0 := eq1 writes 51 rfl V
theorem e_main_v42 : at_ V main_v42 = (broadcastInDim S4096x1024 ![0, 1] bcast_S1x1024_S4096x1024_0_1) (at_ V main_v41) := eq1 writes 52 rfl V
theorem e_main_v43 : at_ V main_v43 = mulf (at_ V main_v42) (at_ V main_v1) := eq2 writes 53 rfl V
theorem e_main_v44 : at_ V main_v44 = addf (at_ V main_v40) (at_ V main_v43) := eq2 writes 54 rfl V
theorem e_main_v45 : at_ V main_v45 = (broadcastInDim S4096x1024 ![0, 1] bcast_S1x1024_S4096x1024_0_1) (at_ V main_arg6) := eq1 writes 55 rfl V
theorem e_main_v46 : at_ V main_v46 = addf (at_ V main_v44) (at_ V main_v45) := eq2 writes 56 rfl V

theorem ops_sub : (line : List (HloOp τ sig (Elt F))).Forall fun op => op.bufs ⊆ tcRefs τ sig := by
  repeat' first | (with_reducible first | exact unary_bufs_sub .. | exact binary_bufs_sub .. | exact nullary_bufs_sub ..) | refine ⟨?_, ?_⟩ | exact unary_bufs_sub .. | exact binary_bufs_sub .. | exact nullary_bufs_sub ..

/-- Every execution ends with every buffer at its contents after the line. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = at_ (launchContents m d) b :=
  run_seq scopedRefs_eq scopedSems_eq defs main (fun _ => line) main_eq (fun _ => ops_sub) m ρ

/-- An argument keeps what it held. -/
theorem arg (m : (ℓ : Loc nD τ sig) → Buf (Elt F) ℓ) (d : Dev nD) {b : Ref sig .tc} (hb : b ∉ W := by decide +kernel) :
    at_ (launchContents m d) b = m ((d.tc : Thread nD τ).loc b) := kept _ hb

end Cert.ConvRIdeal.Line

end
-- ==== Proof.ConvRefVal.lean ====
/- The forward causal convolutions, reference: its results element by element. -/
module

public import proofs.«01_k».proof.Proof.ConvRef
public import proofs.«01_k».proof.Proof.ConvSpec

@[expose] public section

set_option maxRecDepth 8000

noncomputable section

namespace Cert.ConvRIdeal.Val

open Cert.ConvRIdeal Cert.ConvRIdeal.Gen Cert.ConvRIdeal.Line Idealize.ShloMosaic Idealize.ShloMosaic.TcCoe Idealize.ShloMosaic.StableHlo Cert.NormRow Cert.NormsSpec Cert.ConvSpec

variable (V : Valuation τ sig (Elt Ideal))

/-- An argument. -/
def XB : Mat 4096 1536 := fun i j => (at_ V main_arg0 : Vec Ideal S4096x1536 .f32) (ix2 i j)
/-- The last 1024 of an argument's columns. -/
def XL : Mat 4096 1024 := fun i j => (at_ V main_arg1 : Vec Ideal S4096x5120 .bf16) (ix2 i ⟨4096 + j.val, by have := j.isLt; omega⟩)
/-- An argument. -/
def WB : Mat 4 1536 := fun i j => (at_ V main_arg3 : Vec Ideal S4x1536 .f32) (ix2 i j)
/-- An argument. -/
def BB : Mat 1 1536 := fun i j => (at_ V main_arg4 : Vec Ideal S1x1536 .f32) (ix2 i j)
/-- An argument. -/
def WL : Mat 4 1024 := fun i j => (at_ V main_arg5 : Vec Ideal S4x1024 .f32) (ix2 i j)
/-- An argument. -/
def BL : Mat 1 1024 := fun i j => (at_ V main_arg6 : Vec Ideal S1x1024 .f32) (ix2 i j)

theorem t_arg0 (i : Fin 4096) (j : Fin 1536) : (at_ V main_arg0 : Vec Ideal S4096x1536 .f32) (ix2 i j) = XB V i j := rfl
theorem t_arg3 (i : Fin 4) (j : Fin 1536) : (at_ V main_arg3 : Vec Ideal S4x1536 .f32) (ix2 i j) = WB V i j := rfl
theorem t_arg4 (i : Fin 1) (j : Fin 1536) : (at_ V main_arg4 : Vec Ideal S1x1536 .f32) (ix2 i j) = BB V i j := rfl
theorem t_arg5 (i : Fin 4) (j : Fin 1024) : (at_ V main_arg5 : Vec Ideal S4x1024 .f32) (ix2 i j) = WL V i j := rfl
theorem t_arg6 (i : Fin 1) (j : Fin 1024) : (at_ V main_arg6 : Vec Ideal S1x1024 .f32) (ix2 i j) = BL V i j := rfl

theorem t_v1 (i : Fin 4096) (j : Fin 1024) : (at_ V main_v1 : Vec Ideal S4096x1024 .f32) (ix2 i j) = XL V i j := by
  rw [e_main_v1, e_main_v0, XL]
  generalize at_ V main_arg1 = x
  pointwise
  try rfl

theorem t_v3 (i : Fin 4099) (j : Fin 1536) : (at_ V main_v3 : Vec Ideal S4099x1536 .f32) (ix2 i j) = ext (XB V) i.val j := by
  rw [e_main_v3, e_main_v2, e_main_cst]
  have h_0 := t_arg0 V
  generalize at_ V main_arg0 = x at h_0 ⊢
  pointwise
  simp only [h_0]
  split_ifs with h h'
  · rw [ext_zero _ _ _ h]
  · exact (ext_row _ _ _ _ (by show _ = _ - 3 + 3; omega)).symm
  · exact absurd rfl h'

theorem t_v26 (i : Fin 4099) (j : Fin 1024) : (at_ V main_v26 : Vec Ideal S4099x1024 .f32) (ix2 i j) = ext (XL V) i.val j := by
  rw [e_main_v26, e_main_v25, e_main_cst_0]
  have h_0 := t_v1 V
  generalize at_ V main_v1 = x at h_0 ⊢
  pointwise
  simp only [h_0]
  split_ifs with h h'
  · rw [ext_zero _ _ _ h]
  · exact (ext_row _ _ _ _ (by show _ = _ - 3 + 3; omega)).symm
  · exact absurd rfl h'

theorem t_v23 (i : Fin 4096) (j : Fin 1536) : (at_ V main_v23 : Vec Ideal S4096x1536 .f32) (ix2 i j) = conv (XB V) (WB V) (BB V) i j := by
  rw [e_main_v23, e_main_v22, e_main_v21, e_main_v20, e_main_v19, e_main_v18, e_main_v17, e_main_v16, e_main_v15, e_main_v14, e_main_v13, e_main_v12, e_main_v11, e_main_v10, e_main_v9, e_main_v8, e_main_v7, e_main_v6, e_main_v5, e_main_v4]
  have h_x := t_v3 V
  generalize at_ V main_v3 = x at h_x ⊢
  have h_0 := t_arg0 V
  generalize at_ V main_arg0 = x0 at h_0 ⊢
  have h_w := t_arg3 V
  generalize at_ V main_arg3 = w at h_w ⊢
  have h_b := t_arg4 V
  generalize at_ V main_arg4 = b at h_b ⊢
  pointwise
  simp only [h_x, h_0, h_w, h_b, conv, ext_row _ (i.val + 3) j i rfl, Nat.add_comm 1, Nat.add_comm 2]

theorem t_v46 (i : Fin 4096) (j : Fin 1024) : (at_ V main_v46 : Vec Ideal S4096x1024 .f32) (ix2 i j) = conv (XL V) (WL V) (BL V) i j := by
  rw [e_main_v46, e_main_v45, e_main_v44, e_main_v43, e_main_v42, e_main_v41, e_main_v40, e_main_v39, e_main_v38, e_main_v37, e_main_v36, e_main_v35, e_main_v34, e_main_v33, e_main_v32, e_main_v31, e_main_v30, e_main_v29, e_main_v28, e_main_v27]
  have h_x := t_v26 V
  generalize at_ V main_v26 = x at h_x ⊢
  have h_0 := t_v1 V
  generalize at_ V main_v1 = x0 at h_0 ⊢
  have h_w := t_arg5 V
  generalize at_ V main_arg5 = w at h_w ⊢
  have h_b := t_arg6 V
  generalize at_ V main_arg6 = b at h_b ⊢
  pointwise
  simp only [h_x, h_0, h_w, h_b, conv, ext_row _ (i.val + 3) j i rfl, Nat.add_comm 1, Nat.add_comm 2]

theorem t_v24 (i : Fin 4096) (j : Fin 1536) : (at_ V main_v24 : Vec Ideal S4096x1536 .f32) (ix2 i j) = silu (conv (XB V) (WB V) (BB V) i j) := by
  rw [e_main_v24, e_main_call0_v5, e_main_call0_v4, e_main_call0_v3, e_main_call0_v2, e_main_call0_v1, e_main_call0_v0, e_main_call0_cst, e_main_call0_cst_0]
  have h_x := t_v23 V
  generalize at_ V main_v23 = x at h_x ⊢
  pointwise
  simp only [h_x]
  rfl

end Cert.ConvRIdeal.Val

end
-- ==== Proof.ConvClaims.lean ====
/- The forward causal convolutions: their claims. -/
module

public import proofs.«01_k».proof.Defs
public import proofs.«01_k».proof.Proof.Gen.ConvK.Frame
public import proofs.«01_k».proof.Proof.ConvVal
public import proofs.«01_k».proof.Proof.ConvRefVal
public import Idealize.ShloMosaic.Lib.Quiescent

@[expose] public section

set_option maxRecDepth 8000

noncomputable section

namespace Cert.ConvClaims

open Idealize.ShloMosaic Idealize.ShloMosaic.TcCoe Idealize.ShloMosaic.StableHlo Idealize.SL.Sem

theorem frame_p : quiescent_ConvK := fun m ρ _ => ConvK.Gen.frame m ρ

theorem frame_pi : quiescent_ConvKIdeal := fun m ρ _ => ConvKIdeal.Gen.frame m ρ

theorem frame_ri : quiescent_ConvRIdeal := fun m ρ _ =>
  (θ_run ConvRIdeal.defs _ _).mono (fun r h => ⟨fun c => ⟨(h c ConvRIdeal.main_arg0).trans (ConvRIdeal.Line.arg m c), (h c ConvRIdeal.main_arg1).trans (ConvRIdeal.Line.arg m c), (h c ConvRIdeal.main_arg2).trans (ConvRIdeal.Line.arg m c), (h c ConvRIdeal.main_arg3).trans (ConvRIdeal.Line.arg m c), (h c ConvRIdeal.main_arg4).trans (ConvRIdeal.Line.arg m c), (h c ConvRIdeal.main_arg5).trans (ConvRIdeal.Line.arg m c), (h c ConvRIdeal.main_arg6).trans (ConvRIdeal.Line.arg m c), (h c ConvRIdeal.main_arg7).trans (ConvRIdeal.Line.arg m c)⟩,
    sem_eq_zero_of_no_sems (by decide) r.2⟩) (ConvRIdeal.Line.run m ρ)

theorem algebraic : algebraic_ConvKIdeal_ConvRIdeal := by
  intro m ρ m' ρ' _ hagree
  refine ⟨fun c => ConvKIdeal.Val.res8 m c, fun c => ConvKIdeal.Val.res10 m c,
    (θ_run ConvKIdeal.defs _ _).mono (fun r h c => ?_) (ConvKIdeal.Value.run_blocks (F := Ideal) m ρ), ?_⟩
  · have e := h c
    simp only [ConvKIdeal.Val.final_8, ConvKIdeal.Val.final_10] at e
    exact ⟨e.1, e.2.2.1, e.2.2.2.2⟩
  · refine (θ_run ConvRIdeal.defs _ _).mono (fun r h c => ?_) (ConvRIdeal.Line.run (F := Ideal) m' ρ')
    obtain ⟨h0, h1, h2, h3, h4, h5, h6, h7⟩ := hagree c
    have same_XB : ConvRIdeal.Val.XB (launchContents m' c) = ConvKIdeal.Val.XB (ConvKIdeal.Val.V0 m c) := funext fun i => funext fun j => congrFun ((ConvRIdeal.Line.arg m' c (b := ConvRIdeal.main_arg0)).trans h0) _
    have same_XL : ConvRIdeal.Val.XL (launchContents m' c) = ConvKIdeal.Val.XL (ConvKIdeal.Val.V0 m c) := funext fun i => funext fun j => congrFun ((ConvRIdeal.Line.arg m' c (b := ConvRIdeal.main_arg1)).trans h1) _
    have same_WB : ConvRIdeal.Val.WB (launchContents m' c) = ConvKIdeal.Val.WB (ConvKIdeal.Val.V0 m c) := funext fun i => funext fun j => congrFun ((ConvRIdeal.Line.arg m' c (b := ConvRIdeal.main_arg3)).trans h3) _
    have same_BB : ConvRIdeal.Val.BB (launchContents m' c) = ConvKIdeal.Val.BB (ConvKIdeal.Val.V0 m c) := funext fun i => funext fun j => congrFun ((ConvRIdeal.Line.arg m' c (b := ConvRIdeal.main_arg4)).trans h4) _
    have same_WL : ConvRIdeal.Val.WL (launchContents m' c) = ConvKIdeal.Val.WL (ConvKIdeal.Val.V0 m c) := funext fun i => funext fun j => congrFun ((ConvRIdeal.Line.arg m' c (b := ConvRIdeal.main_arg5)).trans h5) _
    have same_BL : ConvRIdeal.Val.BL (launchContents m' c) = ConvKIdeal.Val.BL (ConvKIdeal.Val.V0 m c) := funext fun i => funext fun j => congrFun ((ConvRIdeal.Line.arg m' c (b := ConvRIdeal.main_arg6)).trans h6) _
    refine ⟨(h c _).trans ?_, (h c _).trans ?_, (h c ConvRIdeal.main_arg0).trans (ConvRIdeal.Line.arg m' c), (h c ConvRIdeal.main_arg1).trans (ConvRIdeal.Line.arg m' c), (h c ConvRIdeal.main_arg2).trans (ConvRIdeal.Line.arg m' c), (h c ConvRIdeal.main_arg3).trans (ConvRIdeal.Line.arg m' c), (h c ConvRIdeal.main_arg4).trans (ConvRIdeal.Line.arg m' c), (h c ConvRIdeal.main_arg5).trans (ConvRIdeal.Line.arg m' c), (h c ConvRIdeal.main_arg6).trans (ConvRIdeal.Line.arg m' c), (h c ConvRIdeal.main_arg7).trans (ConvRIdeal.Line.arg m' c)⟩
    · funext y
      rw [eq_ix2 y]
      refine (ConvRIdeal.Val.t_v24 (launchContents m' c) _ _).trans ?_
      simp only [same_XB, same_WB, same_BB]
      rfl
    · funext y
      rw [eq_ix2 y]
      refine (ConvRIdeal.Val.t_v46 (launchContents m' c) _ _).trans ?_
      simp only [same_XL, same_WL, same_BL]
      rfl

end Cert.ConvClaims

end
-- ==== Proof.lean ====
module

public import proofs.«01_k».proof.Defs
public import proofs.«01_k».proof.Proof.NormsClaims
public import proofs.«01_k».proof.Proof.DPreClaims
public import proofs.«01_k».proof.Proof.DwDownClaims
public import proofs.«01_k».proof.Proof.DwUpClaims
public import proofs.«01_k».proof.Proof.OutUpClaims
public import proofs.«01_k».proof.Proof.DuClaims
public import proofs.«01_k».proof.Proof.DwInClaims
public import proofs.«01_k».proof.Proof.DwOutClaims
public import proofs.«01_k».proof.Proof.DwZClaims
public import proofs.«01_k».proof.Proof.DwXlClaims
public import proofs.«01_k».proof.Proof.DwXbcClaims
public import proofs.«01_k».proof.Proof.DwDtClaims
public import proofs.«01_k».proof.Proof.PXbcClaims
public import proofs.«01_k».proof.Proof.PDtClaims
public import proofs.«01_k».proof.Proof.PFiveClaims
public import proofs.«01_k».proof.Proof.NormUClaims
public import proofs.«01_k».proof.Proof.AdSClaims
public import proofs.«01_k».proof.Proof.AdCsClaims
public import proofs.«01_k».proof.Proof.AdClClaims
public import proofs.«01_k».proof.Proof.LossClaims
public import proofs.«01_k».proof.Proof.DwLruClaims
public import proofs.«01_k».proof.Proof.ConvClaims
public import Idealize.ShloMosaic.Adequacy
public import Idealize.ShloMosaic.Init

@[expose] public section

noncomputable section

namespace Cert.Proof

open Idealize.ShloMosaic Idealize.SL.Sem

theorem claim : Cert.Claim := ⟨Cert.NormsK.Gen.facts, Cert.NormsKIdeal.Gen.facts, Cert.NormsRIdeal.Gen.facts,
  Cert.DPreK.Gen.facts, Cert.DPreKIdeal.Gen.facts, Cert.DPreRIdeal.Gen.facts,
  Cert.DwDownK.Gen.facts, Cert.DwDownKIdeal.Gen.facts, Cert.DwDownRIdeal.Gen.facts,
  Cert.DwUpK.Gen.facts, Cert.DwUpKIdeal.Gen.facts, Cert.DwUpRIdeal.Gen.facts,
  Cert.OutUpK.Gen.facts, Cert.OutUpKIdeal.Gen.facts, Cert.OutUpRIdeal.Gen.facts,
  Cert.DuK.Gen.facts, Cert.DuKIdeal.Gen.facts, Cert.DuRIdeal.Gen.facts,
  Cert.DwInK.Gen.facts, Cert.DwInKIdeal.Gen.facts, Cert.DwInRIdeal.Gen.facts,
  Cert.DwOutK.Gen.facts, Cert.DwOutKIdeal.Gen.facts, Cert.DwOutRIdeal.Gen.facts,
  Cert.DwZK.Gen.facts, Cert.DwZKIdeal.Gen.facts, Cert.DwZRIdeal.Gen.facts,
  Cert.DwXlK.Gen.facts, Cert.DwXlKIdeal.Gen.facts, Cert.DwXlRIdeal.Gen.facts,
  Cert.DwXbcK.Gen.facts, Cert.DwXbcKIdeal.Gen.facts, Cert.DwXbcRIdeal.Gen.facts,
  Cert.DwDtK.Gen.facts, Cert.DwDtKIdeal.Gen.facts, Cert.DwDtRIdeal.Gen.facts,
  Cert.PXbcK.Gen.facts, Cert.PXbcKIdeal.Gen.facts, Cert.PXbcRIdeal.Gen.facts,
  Cert.PDtK.Gen.facts, Cert.PDtKIdeal.Gen.facts, Cert.PDtRIdeal.Gen.facts,
  Cert.PFiveK.Gen.facts, Cert.PFiveKIdeal.Gen.facts, Cert.PFiveRIdeal.Gen.facts,
  Cert.NormUK.Gen.facts, Cert.NormUKIdeal.Gen.facts, Cert.NormURIdeal.Gen.facts,
  Cert.AdSK.Gen.facts, Cert.AdSKIdeal.Gen.facts, Cert.AdSRIdeal.Gen.facts,
  Cert.AdCsK.Gen.facts, Cert.AdCsKIdeal.Gen.facts, Cert.AdCsRIdeal.Gen.facts,
  Cert.AdClK.Gen.facts, Cert.AdClKIdeal.Gen.facts, Cert.AdClRIdeal.Gen.facts,
  Cert.LossK.Gen.facts, Cert.LossKIdeal.Gen.facts, Cert.LossRIdeal.Gen.facts,
  Cert.DwLruK.Gen.facts, Cert.DwLruKIdeal.Gen.facts, Cert.DwLruRIdeal.Gen.facts,
  Cert.ConvK.Gen.facts, Cert.ConvKIdeal.Gen.facts, Cert.ConvRIdeal.Gen.facts,
  NormsClaims.frame_p, NormsClaims.frame_pi, NormsClaims.frame_ri,
  DPreClaims.frame_p, DPreClaims.frame_pi, DPreClaims.frame_ri,
  DwDownClaims.frame_p, DwDownClaims.frame_pi, DwDownClaims.frame_ri,
  DwUpClaims.frame_p, DwUpClaims.frame_pi, DwUpClaims.frame_ri,
  OutUpClaims.frame_p, OutUpClaims.frame_pi, OutUpClaims.frame_ri,
  DuClaims.frame_p, DuClaims.frame_pi, DuClaims.frame_ri,
  DwInClaims.frame_p, DwInClaims.frame_pi, DwInClaims.frame_ri,
  DwOutClaims.frame_p, DwOutClaims.frame_pi, DwOutClaims.frame_ri,
  DwZClaims.frame_p, DwZClaims.frame_pi, DwZClaims.frame_ri,
  DwXlClaims.frame_p, DwXlClaims.frame_pi, DwXlClaims.frame_ri,
  DwXbcClaims.frame_p, DwXbcClaims.frame_pi, DwXbcClaims.frame_ri,
  DwDtClaims.frame_p, DwDtClaims.frame_pi, DwDtClaims.frame_ri,
  PXbcClaims.frame_p, PXbcClaims.frame_pi, PXbcClaims.frame_ri,
  PDtClaims.frame_p, PDtClaims.frame_pi, PDtClaims.frame_ri,
  PFiveClaims.frame_p, PFiveClaims.frame_pi, PFiveClaims.frame_ri,
  NormUClaims.frame_p, NormUClaims.frame_pi, NormUClaims.frame_ri,
  AdSClaims.frame_p, AdSClaims.frame_pi, AdSClaims.frame_ri,
  AdCsClaims.frame_p, AdCsClaims.frame_pi, AdCsClaims.frame_ri,
  AdClClaims.frame_p, AdClClaims.frame_pi, AdClClaims.frame_ri,
  LossClaims.frame_p, LossClaims.frame_pi, LossClaims.frame_ri,
  DwLruClaims.frame_p, DwLruClaims.frame_pi, DwLruClaims.frame_ri,
  ConvClaims.frame_p, ConvClaims.frame_pi, ConvClaims.frame_ri,
  trivial, NormsClaims.algebraic, trivial, DPreClaims.algebraic, trivial, DwDownClaims.algebraic,
  trivial, DwUpClaims.algebraic, trivial, OutUpClaims.algebraic, trivial, DuClaims.algebraic,
  trivial, DwInClaims.algebraic,
  trivial, DwOutClaims.algebraic,
  trivial, DwZClaims.algebraic,
  trivial, DwXlClaims.algebraic,
  trivial, DwXbcClaims.algebraic,
  trivial, DwDtClaims.algebraic,
  trivial, PXbcClaims.algebraic,
  trivial, PDtClaims.algebraic,
  trivial, PFiveClaims.algebraic,
  trivial, NormUClaims.algebraic,
  trivial, AdSClaims.algebraic,
  trivial, AdCsClaims.algebraic,
  trivial, AdClClaims.algebraic,
  trivial, LossClaims.algebraic,
  trivial, DwLruClaims.algebraic,
  trivial, ConvClaims.algebraic⟩

end Cert.Proof

end
